-- ==== Defs.lean ====
def Pre_Kernel [hPre_ids_in_vocab : Cert.Pre_ids_in_vocab.Facts] (m : (ℓ : Loc Cert.Kernel.nD Cert.Kernel.τ Cert.Kernel.sig) → Buf (Elt Bits) ℓ) : Prop :=
  ∀ c : Dev Cert.Kernel.nD,
    (Cert.Pre_ids_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_ids_in_vocab : Cert.Pre_ids_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_vocab [hPre_ids_in_vocab : Cert.Pre_ids_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] [hPre_ids_in_vocab : Cert.Pre_ids_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_ids_in_vocab [hReferenceIdeal : Cert.ReferenceIdeal.Facts] [hPre_ids_in_vocab : Cert.Pre_ids_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v549) = v0 c
          ∧ r.2.mem ((c.tc : Thread Cert.ReferenceIdeal.nD Cert.ReferenceIdeal.τ).loc Cert.ReferenceIdeal.main_v554) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_ids_in_vocab : Cert.Pre_ids_in_vocab.Facts),
    quiescent_Kernel (hKernel := hKernel) (hPre_ids_in_vocab := hPre_ids_in_vocab)
    ∧ quiescent_KernelIdeal (hKernelIdeal := hKernelIdeal) (hPre_ids_in_vocab := hPre_ids_in_vocab)
    ∧ quiescent_ReferenceIdeal (hReferenceIdeal := hReferenceIdeal)
    ∧ quiescent_ReferenceIdeal_pre_ids_in_vocab (hReferenceIdeal := hReferenceIdeal) (hPre_ids_in_vocab := hPre_ids_in_vocab)
    ∧ preserves_Kernel_KernelIdeal
    ∧ algebraic_KernelIdeal_ReferenceIdeal (hKernelIdeal := hKernelIdeal) (hReferenceIdeal := hReferenceIdeal) (hPre_ids_in_vocab := hPre_ids_in_vocab)
-- ==== Pre_ids_in_vocab.lean ====
abbrev S8x512 : Shape := ⟨2, ![8, 512]⟩
abbrev S8192x128 : Shape := ⟨2, ![8192, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x8192 : Shape := ⟨2, ![128, 8192]⟩
abbrev S8192 : Shape := ⟨1, ![8192]⟩
abbrev S128x2 : Shape := ⟨2, ![128, 2]⟩
abbrev S2 : Shape := ⟨1, ![2]⟩
abbrev S1000000x128 : Shape := ⟨2, ![1000000, 128]⟩
abbrev S256x128 : Shape := ⟨2, ![256, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S8x512 : S_.BroadcastsInDim S8x512 (![] : Fin 0 → Fin S8x512.rank)
  reducesTo_S8x512_S_d0_1 : S8x512.ReducesTo [0, 1] S_
  h_S_ : 0 < S_.numel

variable [Facts]

def fn {F : FTy → Type} [FloatOps F] (main_arg0 : IVec S8x512 32) (main_arg1 : FVec F S8192x128 .f32) (main_arg2 : FVec F S128x512 .f32) (main_arg3 : FVec F S512 .f32) (main_arg4 : FVec F S512x128 .f32) (main_arg5 : FVec F S128 .f32) (main_arg6 : FVec F S128 .f32) (main_arg7 : FVec F S128 .f32) (main_arg8 : FVec F S128x8192 .f32) (main_arg9 : FVec F S8192 .f32) (main_arg10 : FVec F S128x2 .f32) (main_arg11 : FVec F S2 .f32) (main_arg12 : FVec F S1000000x128 .f32) (main_arg13 : FVec F S256x128 .f32) (main_arg14 : FVec F S128 .f32) (main_arg15 : FVec F S128x128 .f32) (main_arg16 : FVec F S128 .f32) (main_arg17 : FVec F S128 .f32) (main_arg18 : FVec F S128 .f32) (main_arg19 : FVec F S128x1 .f32) (main_arg20 : FVec F S1 .f32) : IVec S_ 1 :=
  let main_c : IVec S_ 32 := constantI S_ 32 0#32
  let main_v0 : IVec S8x512 32 := broadcastInDim S8x512 ![] bcast_S_S8x512 main_c
  let main_v1 : IVec S8x512 1 := cmpi .sge main_arg0 main_v0
  let main_c_0 : IVec S_ 32 := constantI S_ 32 8192#32
  let main_v2 : IVec S8x512 32 := broadcastInDim S8x512 ![] bcast_S_S8x512 main_c_0
  let main_v3 : IVec S8x512 1 := cmpi .slt main_arg0 main_v2
  let main_v4 : IVec S8x512 1 := andi main_v1 main_v3
  let main_c_1 : IVec S_ 1 := constantI S_ 1 1#1
  let main_v5 : IVec S_ 1 := (fun x v => Host.reduce IntOp.andi x v reducesTo_S8x512_S_d0_1 h_S_) main_v4 main_c_1
  main_v5
-- ==== Kernel.lean ====
abbrev S8x512 : Shape := ⟨2, ![8, 512]⟩
abbrev S8192x128 : Shape := ⟨2, ![8192, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x8192 : Shape := ⟨2, ![128, 8192]⟩
abbrev S8192 : Shape := ⟨1, ![8192]⟩
abbrev S128x2 : Shape := ⟨2, ![128, 2]⟩
abbrev S2 : Shape := ⟨1, ![2]⟩
abbrev S1000000x128 : Shape := ⟨2, ![1000000, 128]⟩
abbrev S256x128 : Shape := ⟨2, ![256, 128]⟩
abbrev S128x128 : Shape := ⟨2, ![128, 128]⟩
abbrev S128x1 : Shape := ⟨2, ![128, 1]⟩
abbrev S1 : Shape := ⟨1, ![1]⟩
abbrev S4096 : Shape := ⟨1, ![4096]⟩
abbrev S4096x128 : Shape := ⟨2, ![4096, 128]⟩
abbrev S_ : Shape := ⟨0, ![]⟩
abbrev S1x512 : Shape := ⟨2, ![1, 512]⟩
abbrev S1x128 : Shape := ⟨2, ![1, 128]⟩
abbrev S1x2 : Shape := ⟨2, ![1, 2]⟩
abbrev S1x1 : Shape := ⟨2, ![1, 1]⟩
abbrev S8x4x128 : Shape := ⟨3, ![8, 4, 128]⟩
abbrev S8x128 : Shape := ⟨2, ![8, 128]⟩
abbrev S8 : Shape := ⟨1, ![8]⟩
abbrev S8x1 : Shape := ⟨2, ![8, 1]⟩
abbrev S8x64 : Shape := ⟨2, ![8, 64]⟩
abbrev S8x2 : Shape := ⟨2, ![8, 2]⟩
abbrev S64x128 : Shape := ⟨2, ![64, 128]⟩
abbrev S8x1x128 : Shape := ⟨3, ![8, 1, 128]⟩
abbrev S8x256 : Shape := ⟨2, ![8, 256]⟩
abbrev S8x512x128 : Shape := ⟨3, ![8, 512, 128]⟩
abbrev S1x8192 : Shape := ⟨2, ![1, 8192]⟩
abbrev S8x512x8192 : Shape := ⟨3, ![8, 512, 8192]⟩
abbrev S1x512x128 : Shape := ⟨3, ![1, 512, 128]⟩
abbrev S1x4x128 : Shape := ⟨3, ![1, 4, 128]⟩
abbrev S1x512x8192 : Shape := ⟨3, ![1, 512, 8192]⟩
abbrev S512x512 : Shape := ⟨2, ![512, 512]⟩
abbrev S512x1 : Shape := ⟨2, ![512, 1]⟩
abbrev S4x128 : Shape := ⟨2, ![4, 128]⟩
abbrev S512x256 : Shape := ⟨2, ![512, 256]⟩
abbrev S512x8192 : Shape := ⟨2, ![512, 8192]⟩
abbrev S8x4 : Shape := ⟨2, ![8, 4]⟩

abbrev nBuf : Table → Nat
  | .hbm => 48
  | .local .tc .vmem => 45
  | .local .scVector .vmem => 2
  | _ => 0

abbrev bufTy : (tb : Table) → Fin (nBuf tb) → BufTy
  | .hbm, ⟨0, _⟩ => ⟨S8x512, .i32⟩
  | .hbm, ⟨1, _⟩ => ⟨S8192x128, .f32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x8192, .f32⟩
  | .hbm, ⟨9, _⟩ => ⟨S8192, .f32⟩
  | .hbm, ⟨10, _⟩ => ⟨S128x2, .f32⟩
  | .hbm, ⟨11, _⟩ => ⟨S2, .f32⟩
  | .hbm, ⟨12, _⟩ => ⟨S1000000x128, .f32⟩
  | .hbm, ⟨13, _⟩ => ⟨S256x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128x1, .f32⟩
  | .hbm, ⟨20, _⟩ => ⟨S1, .f32⟩
  | .hbm, ⟨21, _⟩ => ⟨S4096, .i32⟩
  | .hbm, ⟨22, _⟩ => ⟨S4096x128, .f32⟩
  | .hbm, ⟨23, _⟩ => ⟨S1x512, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x2, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x1, .f32⟩
  | .hbm, ⟨33, _⟩ => ⟨S8x4x128, .f32⟩
  | .hbm, ⟨34, _⟩ => ⟨S8x128, .i32⟩
  | .hbm, ⟨35, _⟩ => ⟨S8x512x128, .f32⟩
  | .hbm, ⟨36, _⟩ => ⟨S1x512, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x1, .f32⟩
  | .hbm, ⟨45, _⟩ => ⟨S1x8192, .f32⟩
  | .hbm, ⟨46, _⟩ => ⟨S8x512x8192, .f32⟩
  | .hbm, ⟨47, _⟩ => ⟨S8x4, .i32⟩
  | .local .tc .vmem, ⟨0, _⟩ => ⟨S8x512, .i32⟩
  | .local .tc .vmem, ⟨1, _⟩ => ⟨S128x512, .f32⟩
  | .local .tc .vmem, ⟨2, _⟩ => ⟨S1x512, .f32⟩
  | .local .tc .vmem, ⟨3, _⟩ => ⟨S512x128, .f32⟩
  | .local .tc .vmem, ⟨4, _⟩ => ⟨S1x128, .f32⟩
  | .local .tc .vmem, ⟨5, _⟩ => ⟨S1x128, .f32⟩
  | .local .tc .vmem, ⟨6, _⟩ => ⟨S1x128, .f32⟩
  | .local .tc .vmem, ⟨7, _⟩ => ⟨S128x2, .f32⟩
  | .local .tc .vmem, ⟨8, _⟩ => ⟨S1x2, .f32⟩
  | .local .tc .vmem, ⟨9, _⟩ => ⟨S256x128, .f32⟩
  | .local .tc .vmem, ⟨10, _⟩ => ⟨S1x128, .f32⟩
  | .local .tc .vmem, ⟨11, _⟩ => ⟨S128x128, .f32⟩
  | .local .tc .vmem, ⟨12, _⟩ => ⟨S1x128, .f32⟩
  | .local .tc .vmem, ⟨13, _⟩ => ⟨S1x128, .f32⟩
  | .local .tc .vmem, ⟨14, _⟩ => ⟨S1x128, .f32⟩
  | .local .tc .vmem, ⟨15, _⟩ => ⟨S128x1, .f32⟩
  | .local .tc .vmem, ⟨16, _⟩ => ⟨S1x1, .f32⟩
  | .local .tc .vmem, ⟨17, _⟩ => ⟨S8x4x128, .f32⟩
  | .local .tc .vmem, ⟨18, _⟩ => ⟨S8x128, .i32⟩
  | .local .tc .vmem, ⟨19, _⟩ => ⟨S512x128, .f32⟩
  | .local .tc .vmem, ⟨20, _⟩ => ⟨S8x128, .i32⟩
  | .local .tc .vmem, ⟨21, _⟩ => ⟨S8x128, .f32⟩
  | .local .tc .vmem, ⟨22, _⟩ => ⟨S1x512x128, .f32⟩
  | .local .tc .vmem, ⟨23, _⟩ => ⟨S1x512x128, .f32⟩
  | .local .tc .vmem, ⟨24, _⟩ => ⟨S128x512, .f32⟩
  | .local .tc .vmem, ⟨25, _⟩ => ⟨S1x512, .f32⟩
  | .local .tc .vmem, ⟨26, _⟩ => ⟨S512x128, .f32⟩
  | .local .tc .vmem, ⟨27, _⟩ => ⟨S1x128, .f32⟩
  | .local .tc .vmem, ⟨28, _⟩ => ⟨S1x128, .f32⟩
  | .local .tc .vmem, ⟨29, _⟩ => ⟨S1x128, .f32⟩
  | .local .tc .vmem, ⟨30, _⟩ => ⟨S1x4x128, .f32⟩
  | .local .tc .vmem, ⟨31, _⟩ => ⟨S1x4x128, .f32⟩
  | .local .tc .vmem, ⟨32, _⟩ => ⟨S256x128, .f32⟩
  | .local .tc .vmem, ⟨33, _⟩ => ⟨S1x128, .f32⟩
  | .local .tc .vmem, ⟨34, _⟩ => ⟨S128x128, .f32⟩
  | .local .tc .vmem, ⟨35, _⟩ => ⟨S1x128, .f32⟩
  | .local .tc .vmem, ⟨36, _⟩ => ⟨S1x128, .f32⟩
  | .local .tc .vmem, ⟨37, _⟩ => ⟨S1x128, .f32⟩
  | .local .tc .vmem, ⟨38, _⟩ => ⟨S128x1, .f32⟩
  | .local .tc .vmem, ⟨39, _⟩ => ⟨S1x1, .f32⟩
  | .local .tc .vmem, ⟨40, _⟩ => ⟨S128x8192, .f32⟩
  | .local .tc .vmem, ⟨41, _⟩ => ⟨S1x8192, .f32⟩
  | .local .tc .vmem, ⟨42, _⟩ => ⟨S1x512x8192, .f32⟩
  | .local .tc .vmem, ⟨43, _⟩ => ⟨S1x512x8192, .f32⟩
  | .local .tc .vmem, ⟨44, _⟩ => ⟨S128x8192, .bf16⟩
  | .local .scVector .vmem, ⟨0, _⟩ => ⟨S128, .i32⟩
  | .local .scVector .vmem, ⟨1, _⟩ => ⟨S128x128, .f32⟩
  | _, _ => ⟨S8x512, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 45 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTables nBuf rfl bufTy 4 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12_0 : Ref sig .tc := ⟨.hbm, 33, rfl⟩
abbrev main_v12_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v0_scv : Ref sig .scVector := ⟨.hbm, 21, rfl⟩
abbrev main_arg1_scv : Ref sig .scVector := ⟨.hbm, 1, rfl⟩
abbrev main_v1_scv : Ref sig .scVector := ⟨.hbm, 22, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc1_stg11_0 : Ref sig .tc := ⟨.vmem, 11, rfl⟩
abbrev cc1_stg12_0 : Ref sig .tc := ⟨.vmem, 12, rfl⟩
abbrev cc1_stg13_0 : Ref sig .tc := ⟨.vmem, 13, rfl⟩
abbrev cc1_stg14_0 : Ref sig .tc := ⟨.vmem, 14, rfl⟩
abbrev cc1_stg15_0 : Ref sig .tc := ⟨.vmem, 15, rfl⟩
abbrev cc1_stg16_0 : Ref sig .tc := ⟨.vmem, 16, rfl⟩
abbrev cc1_stg17_0 : Ref sig .tc := ⟨.vmem, 17, rfl⟩
abbrev cc1_stg18_0 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg11_0 : Ref sig .tc := ⟨.vmem, 35, rfl⟩
abbrev cc2_stg12_0 : Ref sig .tc := ⟨.vmem, 36, rfl⟩
abbrev cc2_stg13_0 : Ref sig .tc := ⟨.vmem, 37, rfl⟩
abbrev cc2_stg14_0 : Ref sig .tc := ⟨.vmem, 38, rfl⟩
abbrev cc2_stg15_0 : Ref sig .tc := ⟨.vmem, 39, rfl⟩
abbrev cc2_stg16_0 : Ref sig .tc := ⟨.vmem, 40, rfl⟩
abbrev cc2_stg17_0 : Ref sig .tc := ⟨.vmem, 41, rfl⟩
abbrev cc2_stg18_0 : Ref sig .tc := ⟨.vmem, 42, rfl⟩
abbrev cc2_stg18_1 : Ref sig .tc := ⟨.vmem, 43, rfl⟩
abbrev cc2_scratch0 : Ref sig .tc := ⟨.vmem, 44, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem8_0 : DmaSem sig := 11
abbrev cc1_sem9_0 : DmaSem sig := 12
abbrev cc1_sem10_0 : DmaSem sig := 13
abbrev cc1_sem11_0 : DmaSem sig := 14
abbrev cc1_sem12_0 : DmaSem sig := 15
abbrev cc1_sem13_0 : DmaSem sig := 16
abbrev cc1_sem14_0 : DmaSem sig := 17
abbrev cc1_sem15_0 : DmaSem sig := 18
abbrev cc1_sem16_0 : DmaSem sig := 19
abbrev cc1_sem17_0 : DmaSem sig := 20
abbrev cc1_sem18_0 : DmaSem sig := 21
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc2_sem8_0 : DmaSem sig := 33
abbrev cc2_sem9_0 : DmaSem sig := 34
abbrev cc2_sem10_0 : DmaSem sig := 35
abbrev cc2_sem11_0 : DmaSem sig := 36
abbrev cc2_sem12_0 : DmaSem sig := 37
abbrev cc2_sem13_0 : DmaSem sig := 38
abbrev cc2_sem14_0 : DmaSem sig := 39
abbrev cc2_sem15_0 : DmaSem sig := 40
abbrev cc2_sem16_0 : DmaSem sig := 41
abbrev cc2_sem17_0 : DmaSem sig := 42
abbrev cc2_sem18_0 : DmaSem sig := 43
abbrev cc2_sem18_1 : DmaSem sig := 44
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r1 : BitVec 32 := 0#32
  ![v2.toNat, 0]
abbrev grid1 : Pipeline.Grid := .none

def k1_off1 (v1 : BitVec 32) : Fin 2 → Nat :=
  let c0_i32_1 : BitVec 32 := 0#32
  ![v1.toNat, 0]

def k1_chk1 (v1 : BitVec 32) : Prop :=
  (∀ a, (k1_off1 v1) a + S1x128.size a ≤ S8192x128.size a)
theorem k1_off1_inb : ∀ (v1 : BitVec 32) (k1_hw1 : k1_chk1 v1), ∀ a, (k1_off1 v1) a + S1x128.size a ≤ S8192x128.size a := fun v1 k1_hw1 => k1_hw1

def k1_off2 (v5 : BitVec 32) : Fin 2 → Nat :=
  let c0_i32_4 : BitVec 32 := 0#32
  ![v5.toNat, 0]

def k1_chk2 (v5 : BitVec 32) : Prop :=
  (∀ a, (k1_off2 v5) a + S1x128.size a ≤ S8192x128.size a)
theorem k1_off2_inb : ∀ (v5 : BitVec 32) (k1_hw2 : k1_chk2 v5), ∀ a, (k1_off2 v5) a + S1x128.size a ≤ S8192x128.size a := fun v5 k1_hw2 => k1_hw2

def k1_off3 (v9 : BitVec 32) : Fin 2 → Nat :=
  let c0_i32_7 : BitVec 32 := 0#32
  ![v9.toNat, 0]

def k1_chk3 (v9 : BitVec 32) : Prop :=
  (∀ a, (k1_off3 v9) a + S1x128.size a ≤ S8192x128.size a)
theorem k1_off3_inb : ∀ (v9 : BitVec 32) (k1_hw3 : k1_chk3 v9), ∀ a, (k1_off3 v9) a + S1x128.size a ≤ S8192x128.size a := fun v9 k1_hw3 => k1_hw3

def k1_off4 (v13 : BitVec 32) : Fin 2 → Nat :=
  let c0_i32_10 : BitVec 32 := 0#32
  ![v13.toNat, 0]

def k1_chk4 (v13 : BitVec 32) : Prop :=
  (∀ a, (k1_off4 v13) a + S1x128.size a ≤ S8192x128.size a)
theorem k1_off4_inb : ∀ (v13 : BitVec 32) (k1_hw4 : k1_chk4 v13), ∀ a, (k1_off4 v13) a + S1x128.size a ≤ S8192x128.size a := fun v13 k1_hw4 => k1_hw4

def k1_off5 (v17 : BitVec 32) : Fin 2 → Nat :=
  let c0_i32_13 : BitVec 32 := 0#32
  ![v17.toNat, 0]

def k1_chk5 (v17 : BitVec 32) : Prop :=
  (∀ a, (k1_off5 v17) a + S1x128.size a ≤ S8192x128.size a)
theorem k1_off5_inb : ∀ (v17 : BitVec 32) (k1_hw5 : k1_chk5 v17), ∀ a, (k1_off5 v17) a + S1x128.size a ≤ S8192x128.size a := fun v17 k1_hw5 => k1_hw5

def k1_off6 (v21 : BitVec 32) : Fin 2 → Nat :=
  let c0_i32_16 : BitVec 32 := 0#32
  ![v21.toNat, 0]

def k1_chk6 (v21 : BitVec 32) : Prop :=
  (∀ a, (k1_off6 v21) a + S1x128.size a ≤ S8192x128.size a)
theorem k1_off6_inb : ∀ (v21 : BitVec 32) (k1_hw6 : k1_chk6 v21), ∀ a, (k1_off6 v21) a + S1x128.size a ≤ S8192x128.size a := fun v21 k1_hw6 => k1_hw6

def k1_off7 (v25 : BitVec 32) : Fin 2 → Nat :=
  let c0_i32_19 : BitVec 32 := 0#32
  ![v25.toNat, 0]

def k1_chk7 (v25 : BitVec 32) : Prop :=
  (∀ a, (k1_off7 v25) a + S1x128.size a ≤ S8192x128.size a)
theorem k1_off7_inb : ∀ (v25 : BitVec 32) (k1_hw7 : k1_chk7 v25), ∀ a, (k1_off7 v25) a + S1x128.size a ≤ S8192x128.size a := fun v25 k1_hw7 => k1_hw7

def k1_off8 (v29 : BitVec 32) : Fin 2 → Nat :=
  let c0_i32_22 : BitVec 32 := 0#32
  ![v29.toNat, 0]

def k1_chk8 (v29 : BitVec 32) : Prop :=
  (∀ a, (k1_off8 v29) a + S1x128.size a ≤ S8192x128.size a)
theorem k1_off8_inb : ∀ (v29 : BitVec 32) (k1_hw8 : k1_chk8 v29), ∀ a, (k1_off8 v29) a + S1x128.size a ≤ S8192x128.size a := fun v29 k1_hw8 => k1_hw8

def k1_off9 (v178 : BitVec 32) : Fin 2 → Nat :=
  let c0_i32_105 : BitVec 32 := 0#32
  ![v178.toNat, 0]

def k1_chk9 (v178 : BitVec 32) : Prop :=
  (∀ a, (k1_off9 v178) a + S64x128.size a ≤ S1000000x128.size a)
theorem k1_off9_inb : ∀ (v178 : BitVec 32) (k1_hw9 : k1_chk9 v178), ∀ a, (k1_off9 v178) a + S64x128.size a ≤ S1000000x128.size a := fun v178 k1_hw9 => k1_hw9

def k1_off10 (v182 : BitVec 32) : Fin 2 → Nat :=
  let c0_i32_110 : BitVec 32 := 0#32
  ![v182.toNat, 0]

def k1_chk10 (v182 : BitVec 32) : Prop :=
  (∀ a, (k1_off10 v182) a + S64x128.size a ≤ S1000000x128.size a)
theorem k1_off10_inb : ∀ (v182 : BitVec 32) (k1_hw10 : k1_chk10 v182), ∀ a, (k1_off10 v182) a + S64x128.size a ≤ S1000000x128.size a := fun v182 k1_hw10 => k1_hw10

def k1_off11 (v186 : BitVec 32) : Fin 2 → Nat :=
  let c0_i32_114 : BitVec 32 := 0#32
  ![v186.toNat, 0]

def k1_chk11 (v186 : BitVec 32) : Prop :=
  (∀ a, (k1_off11 v186) a + S64x128.size a ≤ S1000000x128.size a)
theorem k1_off11_inb : ∀ (v186 : BitVec 32) (k1_hw11 : k1_chk11 v186), ∀ a, (k1_off11 v186) a + S64x128.size a ≤ S1000000x128.size a := fun v186 k1_hw11 => k1_hw11

def k1_off12 (v190 : BitVec 32) : Fin 2 → Nat :=
  let c0_i32_118 : BitVec 32 := 0#32
  ![v190.toNat, 0]

def k1_chk12 (v190 : BitVec 32) : Prop :=
  (∀ a, (k1_off12 v190) a + S64x128.size a ≤ S1000000x128.size a)
theorem k1_off12_inb : ∀ (v190 : BitVec 32) (k1_hw12 : k1_chk12 v190), ∀ a, (k1_off12 v190) a + S64x128.size a ≤ S1000000x128.size a := fun v190 k1_hw12 => k1_hw12

def k1_off13 (v194 : BitVec 32) : Fin 2 → Nat :=
  let c0_i32_122 : BitVec 32 := 0#32
  ![v194.toNat, 0]

def k1_chk13 (v194 : BitVec 32) : Prop :=
  (∀ a, (k1_off13 v194) a + S64x128.size a ≤ S1000000x128.size a)
theorem k1_off13_inb : ∀ (v194 : BitVec 32) (k1_hw13 : k1_chk13 v194), ∀ a, (k1_off13 v194) a + S64x128.size a ≤ S1000000x128.size a := fun v194 k1_hw13 => k1_hw13

def k1_off14 (v198 : BitVec 32) : Fin 2 → Nat :=
  let c0_i32_126 : BitVec 32 := 0#32
  ![v198.toNat, 0]

def k1_chk14 (v198 : BitVec 32) : Prop :=
  (∀ a, (k1_off14 v198) a + S64x128.size a ≤ S1000000x128.size a)
theorem k1_off14_inb : ∀ (v198 : BitVec 32) (k1_hw14 : k1_chk14 v198), ∀ a, (k1_off14 v198) a + S64x128.size a ≤ S1000000x128.size a := fun v198 k1_hw14 => k1_hw14

def k1_off15 (v202 : BitVec 32) : Fin 2 → Nat :=
  let c0_i32_130 : BitVec 32 := 0#32
  ![v202.toNat, 0]

def k1_chk15 (v202 : BitVec 32) : Prop :=
  (∀ a, (k1_off15 v202) a + S64x128.size a ≤ S1000000x128.size a)
theorem k1_off15_inb : ∀ (v202 : BitVec 32) (k1_hw15 : k1_chk15 v202), ∀ a, (k1_off15 v202) a + S64x128.size a ≤ S1000000x128.size a := fun v202 k1_hw15 => k1_hw15

def k1_off16 (v206 : BitVec 32) : Fin 2 → Nat :=
  let c0_i32_134 : BitVec 32 := 0#32
  ![v206.toNat, 0]

def k1_chk16 (v206 : BitVec 32) : Prop :=
  (∀ a, (k1_off16 v206) a + S64x128.size a ≤ S1000000x128.size a)
theorem k1_off16_inb : ∀ (v206 : BitVec 32) (k1_hw16 : k1_chk16 v206), ∀ a, (k1_off16 v206) a + S64x128.size a ≤ S1000000x128.size a := fun v206 k1_hw16 => k1_hw16

def k1_off17 (v378 : BitVec 32) : Fin 2 → Nat :=
  let c0_i32_230 : BitVec 32 := 0#32
  ![v378.toNat, 0]

def k1_chk17 (v378 : BitVec 32) : Prop :=
  (∀ a, (k1_off17 v378) a + S64x128.size a ≤ S1000000x128.size a)
theorem k1_off17_inb : ∀ (v378 : BitVec 32) (k1_hw17 : k1_chk17 v378), ∀ a, (k1_off17 v378) a + S64x128.size a ≤ S1000000x128.size a := fun v378 k1_hw17 => k1_hw17

def k1_off18 (v382 : BitVec 32) : Fin 2 → Nat :=
  let c0_i32_235 : BitVec 32 := 0#32
  ![v382.toNat, 0]

def k1_chk18 (v382 : BitVec 32) : Prop :=
  (∀ a, (k1_off18 v382) a + S64x128.size a ≤ S1000000x128.size a)
theorem k1_off18_inb : ∀ (v382 : BitVec 32) (k1_hw18 : k1_chk18 v382), ∀ a, (k1_off18 v382) a + S64x128.size a ≤ S1000000x128.size a := fun v382 k1_hw18 => k1_hw18

def k1_off19 (v386 : BitVec 32) : Fin 2 → Nat :=
  let c0_i32_240 : BitVec 32 := 0#32
  ![v386.toNat, 0]

def k1_chk19 (v386 : BitVec 32) : Prop :=
  (∀ a, (k1_off19 v386) a + S64x128.size a ≤ S1000000x128.size a)
theorem k1_off19_inb : ∀ (v386 : BitVec 32) (k1_hw19 : k1_chk19 v386), ∀ a, (k1_off19 v386) a + S64x128.size a ≤ S1000000x128.size a := fun v386 k1_hw19 => k1_hw19

def k1_off20 (v390 : BitVec 32) : Fin 2 → Nat :=
  let c0_i32_245 : BitVec 32 := 0#32
  ![v390.toNat, 0]

def k1_chk20 (v390 : BitVec 32) : Prop :=
  (∀ a, (k1_off20 v390) a + S64x128.size a ≤ S1000000x128.size a)
theorem k1_off20_inb : ∀ (v390 : BitVec 32) (k1_hw20 : k1_chk20 v390), ∀ a, (k1_off20 v390) a + S64x128.size a ≤ S1000000x128.size a := fun v390 k1_hw20 => k1_hw20

def k1_off21 (v394 : BitVec 32) : Fin 2 → Nat :=
  let c0_i32_250 : BitVec 32 := 0#32
  ![v394.toNat, 0]

def k1_chk21 (v394 : BitVec 32) : Prop :=
  (∀ a, (k1_off21 v394) a + S64x128.size a ≤ S1000000x128.size a)
theorem k1_off21_inb : ∀ (v394 : BitVec 32) (k1_hw21 : k1_chk21 v394), ∀ a, (k1_off21 v394) a + S64x128.size a ≤ S1000000x128.size a := fun v394 k1_hw21 => k1_hw21

def k1_off22 (v398 : BitVec 32) : Fin 2 → Nat :=
  let c0_i32_255 : BitVec 32 := 0#32
  ![v398.toNat, 0]

def k1_chk22 (v398 : BitVec 32) : Prop :=
  (∀ a, (k1_off22 v398) a + S64x128.size a ≤ S1000000x128.size a)
theorem k1_off22_inb : ∀ (v398 : BitVec 32) (k1_hw22 : k1_chk22 v398), ∀ a, (k1_off22 v398) a + S64x128.size a ≤ S1000000x128.size a := fun v398 k1_hw22 => k1_hw22

def k1_off23 (v402 : BitVec 32) : Fin 2 → Nat :=
  let c0_i32_260 : BitVec 32 := 0#32
  ![v402.toNat, 0]

def k1_chk23 (v402 : BitVec 32) : Prop :=
  (∀ a, (k1_off23 v402) a + S64x128.size a ≤ S1000000x128.size a)
theorem k1_off23_inb : ∀ (v402 : BitVec 32) (k1_hw23 : k1_chk23 v402), ∀ a, (k1_off23 v402) a + S64x128.size a ≤ S1000000x128.size a := fun v402 k1_hw23 => k1_hw23

def k1_off24 (v406 : BitVec 32) : Fin 2 → Nat :=
  let c0_i32_265 : BitVec 32 := 0#32
  ![v406.toNat, 0]

def k1_chk24 (v406 : BitVec 32) : Prop :=
  (∀ a, (k1_off24 v406) a + S64x128.size a ≤ S1000000x128.size a)
theorem k1_off24_inb : ∀ (v406 : BitVec 32) (k1_hw24 : k1_chk24 v406), ∀ a, (k1_off24 v406) a + S64x128.size a ≤ S1000000x128.size a := fun v406 k1_hw24 => k1_hw24

def k1_off25 (v578 : BitVec 32) : Fin 2 → Nat :=
  let c0_i32_361 : BitVec 32 := 0#32
  ![v578.toNat, 0]

def k1_chk25 (v578 : BitVec 32) : Prop :=
  (∀ a, (k1_off25 v578) a + S64x128.size a ≤ S1000000x128.size a)
theorem k1_off25_inb : ∀ (v578 : BitVec 32) (k1_hw25 : k1_chk25 v578), ∀ a, (k1_off25 v578) a + S64x128.size a ≤ S1000000x128.size a := fun v578 k1_hw25 => k1_hw25

def k1_off26 (v582 : BitVec 32) : Fin 2 → Nat :=
  let c0_i32_366 : BitVec 32 := 0#32
  ![v582.toNat, 0]

def k1_chk26 (v582 : BitVec 32) : Prop :=
  (∀ a, (k1_off26 v582) a + S64x128.size a ≤ S1000000x128.size a)
theorem k1_off26_inb : ∀ (v582 : BitVec 32) (k1_hw26 : k1_chk26 v582), ∀ a, (k1_off26 v582) a + S64x128.size a ≤ S1000000x128.size a := fun v582 k1_hw26 => k1_hw26

def k1_off27 (v586 : BitVec 32) : Fin 2 → Nat :=
  let c0_i32_371 : BitVec 32 := 0#32
  ![v586.toNat, 0]

def k1_chk27 (v586 : BitVec 32) : Prop :=
  (∀ a, (k1_off27 v586) a + S64x128.size a ≤ S1000000x128.size a)
theorem k1_off27_inb : ∀ (v586 : BitVec 32) (k1_hw27 : k1_chk27 v586), ∀ a, (k1_off27 v586) a + S64x128.size a ≤ S1000000x128.size a := fun v586 k1_hw27 => k1_hw27

def k1_off28 (v590 : BitVec 32) : Fin 2 → Nat :=
  let c0_i32_376 : BitVec 32 := 0#32
  ![v590.toNat, 0]

def k1_chk28 (v590 : BitVec 32) : Prop :=
  (∀ a, (k1_off28 v590) a + S64x128.size a ≤ S1000000x128.size a)
theorem k1_off28_inb : ∀ (v590 : BitVec 32) (k1_hw28 : k1_chk28 v590), ∀ a, (k1_off28 v590) a + S64x128.size a ≤ S1000000x128.size a := fun v590 k1_hw28 => k1_hw28

def k1_off29 (v594 : BitVec 32) : Fin 2 → Nat :=
  let c0_i32_381 : BitVec 32 := 0#32
  ![v594.toNat, 0]

def k1_chk29 (v594 : BitVec 32) : Prop :=
  (∀ a, (k1_off29 v594) a + S64x128.size a ≤ S1000000x128.size a)
theorem k1_off29_inb : ∀ (v594 : BitVec 32) (k1_hw29 : k1_chk29 v594), ∀ a, (k1_off29 v594) a + S64x128.size a ≤ S1000000x128.size a := fun v594 k1_hw29 => k1_hw29

def k1_off30 (v598 : BitVec 32) : Fin 2 → Nat :=
  let c0_i32_386 : BitVec 32 := 0#32
  ![v598.toNat, 0]

def k1_chk30 (v598 : BitVec 32) : Prop :=
  (∀ a, (k1_off30 v598) a + S64x128.size a ≤ S1000000x128.size a)
theorem k1_off30_inb : ∀ (v598 : BitVec 32) (k1_hw30 : k1_chk30 v598), ∀ a, (k1_off30 v598) a + S64x128.size a ≤ S1000000x128.size a := fun v598 k1_hw30 => k1_hw30

def k1_off31 (v602 : BitVec 32) : Fin 2 → Nat :=
  let c0_i32_391 : BitVec 32 := 0#32
  ![v602.toNat, 0]

def k1_chk31 (v602 : BitVec 32) : Prop :=
  (∀ a, (k1_off31 v602) a + S64x128.size a ≤ S1000000x128.size a)
theorem k1_off31_inb : ∀ (v602 : BitVec 32) (k1_hw31 : k1_chk31 v602), ∀ a, (k1_off31 v602) a + S64x128.size a ≤ S1000000x128.size a := fun v602 k1_hw31 => k1_hw31

def k1_off32 (v606 : BitVec 32) : Fin 2 → Nat :=
  let c0_i32_396 : BitVec 32 := 0#32
  ![v606.toNat, 0]

def k1_chk32 (v606 : BitVec 32) : Prop :=
  (∀ a, (k1_off32 v606) a + S64x128.size a ≤ S1000000x128.size a)
theorem k1_off32_inb : ∀ (v606 : BitVec 32) (k1_hw32 : k1_chk32 v606), ∀ a, (k1_off32 v606) a + S64x128.size a ≤ S1000000x128.size a := fun v606 k1_hw32 => k1_hw32

def k1_off33 (v763 : BitVec 32) : Fin 2 → Nat :=
  let c0_i32_484 : BitVec 32 := 0#32
  ![v763.toNat, 0]

def k1_chk33 (v763 : BitVec 32) : Prop :=
  (∀ a, (k1_off33 v763) a + S64x128.size a ≤ S1000000x128.size a)
theorem k1_off33_inb : ∀ (v763 : BitVec 32) (k1_hw33 : k1_chk33 v763), ∀ a, (k1_off33 v763) a + S64x128.size a ≤ S1000000x128.size a := fun v763 k1_hw33 => k1_hw33

def k1_off34 (v767 : BitVec 32) : Fin 2 → Nat :=
  let c0_i32_489 : BitVec 32 := 0#32
  ![v767.toNat, 0]

def k1_chk34 (v767 : BitVec 32) : Prop :=
  (∀ a, (k1_off34 v767) a + S64x128.size a ≤ S1000000x128.size a)
theorem k1_off34_inb : ∀ (v767 : BitVec 32) (k1_hw34 : k1_chk34 v767), ∀ a, (k1_off34 v767) a + S64x128.size a ≤ S1000000x128.size a := fun v767 k1_hw34 => k1_hw34

def k1_off35 (v771 : BitVec 32) : Fin 2 → Nat :=
  let c0_i32_494 : BitVec 32 := 0#32
  ![v771.toNat, 0]

def k1_chk35 (v771 : BitVec 32) : Prop :=
  (∀ a, (k1_off35 v771) a + S64x128.size a ≤ S1000000x128.size a)
theorem k1_off35_inb : ∀ (v771 : BitVec 32) (k1_hw35 : k1_chk35 v771), ∀ a, (k1_off35 v771) a + S64x128.size a ≤ S1000000x128.size a := fun v771 k1_hw35 => k1_hw35

def k1_off36 (v775 : BitVec 32) : Fin 2 → Nat :=
  let c0_i32_499 : BitVec 32 := 0#32
  ![v775.toNat, 0]

def k1_chk36 (v775 : BitVec 32) : Prop :=
  (∀ a, (k1_off36 v775) a + S64x128.size a ≤ S1000000x128.size a)
theorem k1_off36_inb : ∀ (v775 : BitVec 32) (k1_hw36 : k1_chk36 v775), ∀ a, (k1_off36 v775) a + S64x128.size a ≤ S1000000x128.size a := fun v775 k1_hw36 => k1_hw36

def k1_off37 (v779 : BitVec 32) : Fin 2 → Nat :=
  let c0_i32_504 : BitVec 32 := 0#32
  ![v779.toNat, 0]

def k1_chk37 (v779 : BitVec 32) : Prop :=
  (∀ a, (k1_off37 v779) a + S64x128.size a ≤ S1000000x128.size a)
theorem k1_off37_inb : ∀ (v779 : BitVec 32) (k1_hw37 : k1_chk37 v779), ∀ a, (k1_off37 v779) a + S64x128.size a ≤ S1000000x128.size a := fun v779 k1_hw37 => k1_hw37

def k1_off38 (v783 : BitVec 32) : Fin 2 → Nat :=
  let c0_i32_509 : BitVec 32 := 0#32
  ![v783.toNat, 0]

def k1_chk38 (v783 : BitVec 32) : Prop :=
  (∀ a, (k1_off38 v783) a + S64x128.size a ≤ S1000000x128.size a)
theorem k1_off38_inb : ∀ (v783 : BitVec 32) (k1_hw38 : k1_chk38 v783), ∀ a, (k1_off38 v783) a + S64x128.size a ≤ S1000000x128.size a := fun v783 k1_hw38 => k1_hw38

def k1_off39 (v787 : BitVec 32) : Fin 2 → Nat :=
  let c0_i32_514 : BitVec 32 := 0#32
  ![v787.toNat, 0]

def k1_chk39 (v787 : BitVec 32) : Prop :=
  (∀ a, (k1_off39 v787) a + S64x128.size a ≤ S1000000x128.size a)
theorem k1_off39_inb : ∀ (v787 : BitVec 32) (k1_hw39 : k1_chk39 v787), ∀ a, (k1_off39 v787) a + S64x128.size a ≤ S1000000x128.size a := fun v787 k1_hw39 => k1_hw39

def k1_off40 (v791 : BitVec 32) : Fin 2 → Nat :=
  let c0_i32_519 : BitVec 32 := 0#32
  ![v791.toNat, 0]

def k1_chk40 (v791 : BitVec 32) : Prop :=
  (∀ a, (k1_off40 v791) a + S64x128.size a ≤ S1000000x128.size a)
theorem k1_off40_inb : ∀ (v791 : BitVec 32) (k1_hw40 : k1_chk40 v791), ∀ a, (k1_off40 v791) a + S64x128.size a ≤ S1000000x128.size a := fun v791 k1_hw40 => k1_hw40

abbrev stage1_0 : Fin 1 → Memref sig .tc .vmem S8x512 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S128x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S256x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S128x1 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S1x1 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))

abbrev stage1_17 : Fin 1 → Memref sig .tc .vmem S8x4x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))

abbrev stage1_18 : Fin 1 → Memref sig .tc .vmem S8x128 .i32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x4x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S256x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x1 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S128x8192 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S1x8192 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 2 → Memref sig .tc .vmem S1x512x8192 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x512 : Shape := ⟨2, ![8, 512]⟩
abbrev S8192x128 : Shape := ⟨2, ![8192, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x8192 : Shape := ⟨2, ![128, 8192]⟩
abbrev S8192 : Shape := ⟨1, ![8192]⟩
abbrev S128x2 : Shape := ⟨2, ![128, 2]⟩
abbrev S2 : Shape := ⟨1, ![2]⟩
abbrev S1000000x128 : Shape := ⟨2, ![1000000, 128]⟩
abbrev S256x128 : Shape := ⟨2, ![256, 128]⟩
abbrev S128x128 : Shape := ⟨2, ![128, 128]⟩
abbrev S128x1 : Shape := ⟨2, ![128, 1]⟩
abbrev S1 : Shape := ⟨1, ![1]⟩
abbrev S_ : Shape := ⟨0, ![]⟩
abbrev S8x512x1 : Shape := ⟨3, ![8, 512, 1]⟩
abbrev S8x512x128 : Shape := ⟨3, ![8, 512, 128]⟩
abbrev S8x512x512 : Shape := ⟨3, ![8, 512, 512]⟩
abbrev S1x1x512 : Shape := ⟨3, ![1, 1, 512]⟩
abbrev S1x1x128 : Shape := ⟨3, ![1, 1, 128]⟩
abbrev S64 : Shape := ⟨1, ![64]⟩
abbrev S8x1x128 : Shape := ⟨3, ![8, 1, 128]⟩
abbrev S8x128 : Shape := ⟨2, ![8, 128]⟩
abbrev S8x2 : Shape := ⟨2, ![8, 2]⟩
abbrev S1x2 : Shape := ⟨2, ![1, 2]⟩
abbrev S8x1 : Shape := ⟨2, ![8, 1]⟩
abbrev S8 : Shape := ⟨1, ![8]⟩
abbrev S1x64 : Shape := ⟨2, ![1, 64]⟩
abbrev S8x64 : Shape := ⟨2, ![8, 64]⟩
abbrev S8x64x1 : Shape := ⟨3, ![8, 64, 1]⟩
abbrev S1x1x1 : Shape := ⟨3, ![1, 1, 1]⟩
abbrev S8x64x128 : Shape := ⟨3, ![8, 64, 128]⟩
abbrev S8x1x512x128 : Shape := ⟨4, ![8, 1, 512, 128]⟩
abbrev S8x512x256 : Shape := ⟨3, ![8, 512, 256]⟩
abbrev S8x512x8192 : Shape := ⟨3, ![8, 512, 8192]⟩
abbrev S1x1x8192 : Shape := ⟨3, ![1, 1, 8192]⟩
abbrev S8x4 : Shape := ⟨2, ![8, 4]⟩

abbrev nBuf : Space → Nat
  | .hbm => 966
  | .vmem => 0
  | .smem => 0
  | _ => 0

abbrev hbmTy0_0 (i : Nat) : BufTy := match i % 128 with
  | 0 => ⟨S8x512, .i32⟩
  | 1 => ⟨S8192x128, .f32⟩
  | 2 => ⟨S128x512, .f32⟩
  | 3 => ⟨S512, .f32⟩
  | 4 => ⟨S512x128, .f32⟩
  | 5 => ⟨S128, .f32⟩
  | 6 => ⟨S128, .f32⟩
  | 7 => ⟨S128, .f32⟩
  | 8 => ⟨S128x8192, .f32⟩
  | 9 => ⟨S8192, .f32⟩
  | 10 => ⟨S128x2, .f32⟩
  | 11 => ⟨S2, .f32⟩
  | 12 => ⟨S1000000x128, .f32⟩
  | 13 => ⟨S256x128, .f32⟩
  | 14 => ⟨S128, .f32⟩
  | 15 => ⟨S128x128, .f32⟩
  | 16 => ⟨S128, .f32⟩
  | 17 => ⟨S128, .f32⟩
  | 18 => ⟨S128, .f32⟩
  | 19 => ⟨S128x1, .f32⟩
  | 20 => ⟨S1, .f32⟩
  | 21 => ⟨S_, .i32⟩
  | 22 => ⟨S8x512, .i32⟩
  | 23 => ⟨S8x512, .i1⟩
  | 24 => ⟨S_, .i32⟩
  | 25 => ⟨S8x512, .i32⟩
  | 26 => ⟨S8x512, .i32⟩
  | 27 => ⟨S8x512, .i32⟩
  | 28 => ⟨S8x512x1, .i32⟩
  | 29 => ⟨S8x512x128, .f32⟩
  | 30 => ⟨S8x512x512, .f32⟩
  | 31 => ⟨S1x1x512, .f32⟩
  | 32 => ⟨S8x512x512, .f32⟩
  | 33 => ⟨S8x512x512, .f32⟩
  | 34 => ⟨S8x512x512, .f32⟩
  | 35 => ⟨S8x512x512, .f32⟩
  | 36 => ⟨S_, .f32⟩
  | 37 => ⟨S8x512x512, .f32⟩
  | 38 => ⟨S8x512x512, .f32⟩
  | 39 => ⟨S8x512x512, .f32⟩
  | 40 => ⟨S_, .f32⟩
  | 41 => ⟨S8x512x512, .f32⟩
  | 42 => ⟨S8x512x512, .f32⟩
  | 43 => ⟨S8x512x512, .f32⟩
  | 44 => ⟨S_, .f32⟩
  | 45 => ⟨S8x512x512, .f32⟩
  | 46 => ⟨S8x512x512, .f32⟩
  | 47 => ⟨S_, .f32⟩
  | 48 => ⟨S8x512x512, .f32⟩
  | 49 => ⟨S8x512x512, .f32⟩
  | 50 => ⟨S8x512x512, .f32⟩
  | 51 => ⟨S8x512x128, .f32⟩
  | 52 => ⟨S1x1x128, .f32⟩
  | 53 => ⟨S8x512x128, .f32⟩
  | 54 => ⟨S8x512x128, .f32⟩
  | 55 => ⟨S8x512x128, .f32⟩
  | 56 => ⟨S_, .f32⟩
  | 57 => ⟨S8x512, .f32⟩
  | 58 => ⟨S8x512x1, .f32⟩
  | 59 => ⟨S_, .f32⟩
  | 60 => ⟨S8x512x1, .f32⟩
  | 61 => ⟨S8x512x1, .f32⟩
  | 62 => ⟨S_, .i32⟩
  | 63 => ⟨S_, .f32⟩
  | 64 => ⟨S8x512, .f32⟩
  | 65 => ⟨S8x512x1, .f32⟩
  | 66 => ⟨S_, .f32⟩
  | 67 => ⟨S8x512x1, .f32⟩
  | 68 => ⟨S8x512x1, .f32⟩
  | 69 => ⟨S8x512x128, .f32⟩
  | 70 => ⟨S8x512x128, .f32⟩
  | 71 => ⟨S8x512x128, .f32⟩
  | 72 => ⟨S_, .f32⟩
  | 73 => ⟨S_, .f32⟩
  | 74 => ⟨S_, .f32⟩
  | 75 => ⟨S_, .f32⟩
  | 76 => ⟨S8x512, .f32⟩
  | 77 => ⟨S8x512x1, .f32⟩
  | 78 => ⟨S8x512x1, .f32⟩
  | 79 => ⟨S8x512x1, .f32⟩
  | 80 => ⟨S_, .f32⟩
  | 81 => ⟨S_, .i1⟩
  | 82 => ⟨S_, .f32⟩
  | 83 => ⟨S_, .f32⟩
  | 84 => ⟨S8x512x1, .f32⟩
  | 85 => ⟨S8x512x1, .f32⟩
  | 86 => ⟨S8x512x128, .f32⟩
  | 87 => ⟨S8x512x128, .f32⟩
  | 88 => ⟨S_, .f32⟩
  | 89 => ⟨S8x512x1, .f32⟩
  | 90 => ⟨S8x512x1, .f32⟩
  | 91 => ⟨S8x512x1, .f32⟩
  | 92 => ⟨S8x512x128, .f32⟩
  | 93 => ⟨S8x512x128, .f32⟩
  | 94 => ⟨S1x1x128, .f32⟩
  | 95 => ⟨S8x512x128, .f32⟩
  | 96 => ⟨S8x512x128, .f32⟩
  | 97 => ⟨S1x1x128, .f32⟩
  | 98 => ⟨S8x512x128, .f32⟩
  | 99 => ⟨S8x512x128, .f32⟩
  | 100 => ⟨S_, .f32⟩
  | 101 => ⟨S8x512x1, .f32⟩
  | 102 => ⟨S_, .f32⟩
  | 103 => ⟨S8x512x1, .f32⟩
  | 104 => ⟨S64, .i32⟩
  | 105 => ⟨S8x1x128, .f32⟩
  | 106 => ⟨S8x128, .f32⟩
  | 107 => ⟨S8x2, .f32⟩
  | 108 => ⟨S1x2, .f32⟩
  | 109 => ⟨S8x2, .f32⟩
  | 110 => ⟨S8x2, .f32⟩
  | 111 => ⟨S8x1, .f32⟩
  | 112 => ⟨S8, .f32⟩
  | 113 => ⟨S8, .f32⟩
  | 114 => ⟨S8, .f32⟩
  | 115 => ⟨S_, .f32⟩
  | 116 => ⟨S8, .f32⟩
  | 117 => ⟨S8, .f32⟩
  | 118 => ⟨S_, .f32⟩
  | 119 => ⟨S8, .f32⟩
  | 120 => ⟨S8, .f32⟩
  | 121 => ⟨S8x1, .f32⟩
  | 122 => ⟨S8, .f32⟩
  | 123 => ⟨S_, .f32⟩
  | 124 => ⟨S8, .f32⟩
  | 125 => ⟨S8, .f32⟩
  | 126 => ⟨S8, .f32⟩
  | 127 => ⟨S8, .f32⟩
  | _ => ⟨S8x512, .i32⟩

abbrev hbmTy0_1 (i : Nat) : BufTy := match i % 128 with
  | 0 => ⟨S8, .i1⟩
  | 1 => ⟨S8, .f32⟩
  | 2 => ⟨S8, .f32⟩
  | 3 => ⟨S8, .f32⟩
  | 4 => ⟨S8, .f32⟩
  | 5 => ⟨S8, .f32⟩
  | 6 => ⟨S8, .f32⟩
  | 7 => ⟨S8, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S8, .i32⟩
  | 17 => ⟨S_, .i32⟩
  | 18 => ⟨S_, .i32⟩
  | 19 => ⟨S_, .i32⟩
  | 20 => ⟨S8, .i32⟩
  | 21 => ⟨S8, .i32⟩
  | 22 => ⟨S_, .i32⟩
  | 23 => ⟨S8, .i32⟩
  | 24 => ⟨S8, .i32⟩
  | 25 => ⟨S8x1, .i32⟩
  | 26 => ⟨S1x64, .i32⟩
  | 27 => ⟨S8x64, .i32⟩
  | 28 => ⟨S8x64, .i32⟩
  | 29 => ⟨S8x64, .i32⟩
  | 30 => ⟨S_, .i32⟩
  | 31 => ⟨S8x64, .i32⟩
  | 32 => ⟨S8x64, .i1⟩
  | 33 => ⟨S_, .i32⟩
  | 34 => ⟨S8x64, .i32⟩
  | 35 => ⟨S8x64, .i32⟩
  | 36 => ⟨S8x64, .i32⟩
  | 37 => ⟨S8x64x1, .i32⟩
  | 38 => ⟨S1, .i32⟩
  | 39 => ⟨S_, .i32⟩
  | 40 => ⟨S8x64x1, .i32⟩
  | 41 => ⟨S8x64x1, .i1⟩
  | 42 => ⟨S1x1x1, .i32⟩
  | 43 => ⟨S8x64x1, .i32⟩
  | 44 => ⟨S8x64x1, .i1⟩
  | 45 => ⟨S8x64x1, .i1⟩
  | 46 => ⟨S_, .i1⟩
  | 47 => ⟨S8x64, .i1⟩
  | 48 => ⟨S8x64x128, .f32⟩
  | 49 => ⟨S8x64x128, .i1⟩
  | 50 => ⟨S_, .f32⟩
  | 51 => ⟨S8x64x128, .f32⟩
  | 52 => ⟨S8x64x128, .f32⟩
  | 53 => ⟨S8x64, .f32⟩
  | 54 => ⟨S_, .f32⟩
  | 55 => ⟨S8x64, .f32⟩
  | 56 => ⟨S8x64, .f32⟩
  | 57 => ⟨S8x1, .f32⟩
  | 58 => ⟨S8x64, .f32⟩
  | 59 => ⟨S8x64, .f32⟩
  | 60 => ⟨S8x64, .f32⟩
  | 61 => ⟨S8x64, .f32⟩
  | 62 => ⟨S8x1, .f32⟩
  | 63 => ⟨S8x1, .f32⟩
  | 64 => ⟨S_, .f32⟩
  | 65 => ⟨S8x1, .f32⟩
  | 66 => ⟨S8x1, .f32⟩
  | 67 => ⟨S8x64, .f32⟩
  | 68 => ⟨S8x64, .f32⟩
  | 69 => ⟨S_, .f32⟩
  | 70 => ⟨S8, .f32⟩
  | 71 => ⟨S_, .f32⟩
  | 72 => ⟨S8, .f32⟩
  | 73 => ⟨S8, .f32⟩
  | 74 => ⟨S8x1, .f32⟩
  | 75 => ⟨S8x64, .f32⟩
  | 76 => ⟨S8x64, .f32⟩
  | 77 => ⟨S8x64, .f32⟩
  | 78 => ⟨S_, .f32⟩
  | 79 => ⟨S8, .f32⟩
  | 80 => ⟨S8x1, .f32⟩
  | 81 => ⟨S8x64, .f32⟩
  | 82 => ⟨S8x64, .f32⟩
  | 83 => ⟨S8x128, .f32⟩
  | 84 => ⟨S8x1x128, .f32⟩
  | 85 => ⟨S8x1x512x128, .f32⟩
  | 86 => ⟨S8x512x128, .f32⟩
  | 87 => ⟨S8x512x256, .f32⟩
  | 88 => ⟨S8x512x128, .f32⟩
  | 89 => ⟨S1x1x128, .f32⟩
  | 90 => ⟨S8x512x128, .f32⟩
  | 91 => ⟨S8x512x128, .f32⟩
  | 92 => ⟨S8x512x128, .f32⟩
  | 93 => ⟨S8x512x128, .f32⟩
  | 94 => ⟨S_, .f32⟩
  | 95 => ⟨S8x512x128, .f32⟩
  | 96 => ⟨S8x512x128, .f32⟩
  | 97 => ⟨S8x512x128, .f32⟩
  | 98 => ⟨S_, .f32⟩
  | 99 => ⟨S8x512x128, .f32⟩
  | 100 => ⟨S8x512x128, .f32⟩
  | 101 => ⟨S8x512x128, .f32⟩
  | 102 => ⟨S_, .f32⟩
  | 103 => ⟨S8x512x128, .f32⟩
  | 104 => ⟨S8x512x128, .f32⟩
  | 105 => ⟨S_, .f32⟩
  | 106 => ⟨S8x512x128, .f32⟩
  | 107 => ⟨S8x512x128, .f32⟩
  | 108 => ⟨S8x512x128, .f32⟩
  | 109 => ⟨S8x512x128, .f32⟩
  | 110 => ⟨S1x1x128, .f32⟩
  | 111 => ⟨S8x512x128, .f32⟩
  | 112 => ⟨S8x512x128, .f32⟩
  | 113 => ⟨S_, .f32⟩
  | 114 => ⟨S8x512, .f32⟩
  | 115 => ⟨S8x512x1, .f32⟩
  | 116 => ⟨S_, .f32⟩
  | 117 => ⟨S8x512x1, .f32⟩
  | 118 => ⟨S8x512x1, .f32⟩
  | 119 => ⟨S_, .i32⟩
  | 120 => ⟨S_, .f32⟩
  | 121 => ⟨S8x512, .f32⟩
  | 122 => ⟨S8x512x1, .f32⟩
  | 123 => ⟨S_, .f32⟩
  | 124 => ⟨S8x512x1, .f32⟩
  | 125 => ⟨S8x512x1, .f32⟩
  | 126 => ⟨S8x512x128, .f32⟩
  | 127 => ⟨S8x512x128, .f32⟩
  | _ => ⟨S8x512, .i32⟩

abbrev hbmTy0_2 (i : Nat) : BufTy := match i % 128 with
  | 0 => ⟨S8x512x128, .f32⟩
  | 1 => ⟨S_, .f32⟩
  | 2 => ⟨S_, .f32⟩
  | 3 => ⟨S_, .f32⟩
  | 4 => ⟨S_, .f32⟩
  | 5 => ⟨S8x512, .f32⟩
  | 6 => ⟨S8x512x1, .f32⟩
  | 7 => ⟨S8x512x1, .f32⟩
  | 8 => ⟨S8x512x1, .f32⟩
  | 9 => ⟨S_, .f32⟩
  | 10 => ⟨S_, .i1⟩
  | 11 => ⟨S_, .f32⟩
  | 12 => ⟨S_, .f32⟩
  | 13 => ⟨S8x512x1, .f32⟩
  | 14 => ⟨S8x512x1, .f32⟩
  | 15 => ⟨S8x512x128, .f32⟩
  | 16 => ⟨S8x512x128, .f32⟩
  | 17 => ⟨S_, .f32⟩
  | 18 => ⟨S8x512x1, .f32⟩
  | 19 => ⟨S8x512x1, .f32⟩
  | 20 => ⟨S8x512x1, .f32⟩
  | 21 => ⟨S8x512x128, .f32⟩
  | 22 => ⟨S8x512x128, .f32⟩
  | 23 => ⟨S1x1x128, .f32⟩
  | 24 => ⟨S8x512x128, .f32⟩
  | 25 => ⟨S8x512x128, .f32⟩
  | 26 => ⟨S1x1x128, .f32⟩
  | 27 => ⟨S8x512x128, .f32⟩
  | 28 => ⟨S8x512x128, .f32⟩
  | 29 => ⟨S8x512x128, .f32⟩
  | 30 => ⟨S8x512x1, .f32⟩
  | 31 => ⟨S1x1x1, .f32⟩
  | 32 => ⟨S8x512x1, .f32⟩
  | 33 => ⟨S8x512x1, .f32⟩
  | 34 => ⟨S8x512x1, .f32⟩
  | 35 => ⟨S8x512x1, .f32⟩
  | 36 => ⟨S_, .f32⟩
  | 37 => ⟨S8x512x1, .f32⟩
  | 38 => ⟨S8x512x1, .f32⟩
  | 39 => ⟨S_, .f32⟩
  | 40 => ⟨S8x512x1, .f32⟩
  | 41 => ⟨S8x512x1, .f32⟩
  | 42 => ⟨S_, .f32⟩
  | 43 => ⟨S8x512x1, .f32⟩
  | 44 => ⟨S8x512x1, .f32⟩
  | 45 => ⟨S8x512x1, .f32⟩
  | 46 => ⟨S8x512x1, .f32⟩
  | 47 => ⟨S_, .f32⟩
  | 48 => ⟨S8x512x1, .f32⟩
  | 49 => ⟨S8x512x1, .i1⟩
  | 50 => ⟨S_, .f32⟩
  | 51 => ⟨S_, .f32⟩
  | 52 => ⟨S8x512x1, .f32⟩
  | 53 => ⟨S8x512x1, .f32⟩
  | 54 => ⟨S_, .f32⟩
  | 55 => ⟨S8x512x1, .f32⟩
  | 56 => ⟨S8x512x1, .f32⟩
  | 57 => ⟨S8x512x128, .f32⟩
  | 58 => ⟨S8x512x128, .f32⟩
  | 59 => ⟨S8x512x128, .f32⟩
  | 60 => ⟨S8x512x128, .f32⟩
  | 61 => ⟨S8x512x128, .f32⟩
  | 62 => ⟨S8x1x128, .f32⟩
  | 63 => ⟨S8x128, .f32⟩
  | 64 => ⟨S8x2, .f32⟩
  | 65 => ⟨S1x2, .f32⟩
  | 66 => ⟨S8x2, .f32⟩
  | 67 => ⟨S8x2, .f32⟩
  | 68 => ⟨S8x1, .f32⟩
  | 69 => ⟨S8, .f32⟩
  | 70 => ⟨S8, .f32⟩
  | 71 => ⟨S8, .f32⟩
  | 72 => ⟨S_, .f32⟩
  | 73 => ⟨S8, .f32⟩
  | 74 => ⟨S8, .f32⟩
  | 75 => ⟨S_, .f32⟩
  | 76 => ⟨S8, .f32⟩
  | 77 => ⟨S8, .f32⟩
  | 78 => ⟨S8x1, .f32⟩
  | 79 => ⟨S8, .f32⟩
  | 80 => ⟨S_, .f32⟩
  | 81 => ⟨S8, .f32⟩
  | 82 => ⟨S8, .f32⟩
  | 83 => ⟨S8, .f32⟩
  | 84 => ⟨S8, .f32⟩
  | 85 => ⟨S8, .i1⟩
  | 86 => ⟨S8, .f32⟩
  | 87 => ⟨S8, .f32⟩
  | 88 => ⟨S8, .f32⟩
  | 89 => ⟨S8, .f32⟩
  | 90 => ⟨S8, .f32⟩
  | 91 => ⟨S8, .f32⟩
  | 92 => ⟨S8, .f32⟩
  | 93 => ⟨S8, .f32⟩
  | 94 => ⟨S_, .f32⟩
  | 95 => ⟨S8, .f32⟩
  | 96 => ⟨S8, .f32⟩
  | 97 => ⟨S_, .f32⟩
  | 98 => ⟨S8, .f32⟩
  | 99 => ⟨S8, .f32⟩
  | 100 => ⟨S8, .f32⟩
  | 101 => ⟨S8, .i32⟩
  | 102 => ⟨S_, .i32⟩
  | 103 => ⟨S_, .i32⟩
  | 104 => ⟨S_, .i32⟩
  | 105 => ⟨S8, .i32⟩
  | 106 => ⟨S8, .i32⟩
  | 107 => ⟨S_, .i32⟩
  | 108 => ⟨S8, .i32⟩
  | 109 => ⟨S8, .i32⟩
  | 110 => ⟨S8x1, .i32⟩
  | 111 => ⟨S1x64, .i32⟩
  | 112 => ⟨S8x64, .i32⟩
  | 113 => ⟨S8x64, .i32⟩
  | 114 => ⟨S8x64, .i32⟩
  | 115 => ⟨S_, .i32⟩
  | 116 => ⟨S8x64, .i32⟩
  | 117 => ⟨S8x64, .i1⟩
  | 118 => ⟨S_, .i32⟩
  | 119 => ⟨S8x64, .i32⟩
  | 120 => ⟨S8x64, .i32⟩
  | 121 => ⟨S8x64, .i32⟩
  | 122 => ⟨S8x64x1, .i32⟩
  | 123 => ⟨S1, .i32⟩
  | 124 => ⟨S_, .i32⟩
  | 125 => ⟨S8x64x1, .i32⟩
  | 126 => ⟨S8x64x1, .i1⟩
  | 127 => ⟨S1x1x1, .i32⟩
  | _ => ⟨S8x512, .i32⟩

abbrev hbmTy0_3 (i : Nat) : BufTy := match i % 128 with
  | 0 => ⟨S8x64x1, .i32⟩
  | 1 => ⟨S8x64x1, .i1⟩
  | 2 => ⟨S8x64x1, .i1⟩
  | 3 => ⟨S_, .i1⟩
  | 4 => ⟨S8x64, .i1⟩
  | 5 => ⟨S8x64x128, .f32⟩
  | 6 => ⟨S8x64x128, .i1⟩
  | 7 => ⟨S_, .f32⟩
  | 8 => ⟨S8x64x128, .f32⟩
  | 9 => ⟨S8x64x128, .f32⟩
  | 10 => ⟨S8x64, .f32⟩
  | 11 => ⟨S_, .f32⟩
  | 12 => ⟨S8x64, .f32⟩
  | 13 => ⟨S8x64, .f32⟩
  | 14 => ⟨S8x1, .f32⟩
  | 15 => ⟨S8x64, .f32⟩
  | 16 => ⟨S8x64, .f32⟩
  | 17 => ⟨S8x64, .f32⟩
  | 18 => ⟨S8x64, .f32⟩
  | 19 => ⟨S8x1, .f32⟩
  | 20 => ⟨S8x1, .f32⟩
  | 21 => ⟨S_, .f32⟩
  | 22 => ⟨S8x1, .f32⟩
  | 23 => ⟨S8x1, .f32⟩
  | 24 => ⟨S8x64, .f32⟩
  | 25 => ⟨S8x64, .f32⟩
  | 26 => ⟨S_, .f32⟩
  | 27 => ⟨S8, .f32⟩
  | 28 => ⟨S_, .f32⟩
  | 29 => ⟨S8, .f32⟩
  | 30 => ⟨S8, .f32⟩
  | 31 => ⟨S8x1, .f32⟩
  | 32 => ⟨S8x64, .f32⟩
  | 33 => ⟨S8x64, .f32⟩
  | 34 => ⟨S8x64, .f32⟩
  | 35 => ⟨S_, .f32⟩
  | 36 => ⟨S8, .f32⟩
  | 37 => ⟨S8x1, .f32⟩
  | 38 => ⟨S8x64, .f32⟩
  | 39 => ⟨S8x64, .f32⟩
  | 40 => ⟨S8x128, .f32⟩
  | 41 => ⟨S8x1x128, .f32⟩
  | 42 => ⟨S8x1x512x128, .f32⟩
  | 43 => ⟨S8x512x128, .f32⟩
  | 44 => ⟨S8x512x256, .f32⟩
  | 45 => ⟨S8x512x128, .f32⟩
  | 46 => ⟨S1x1x128, .f32⟩
  | 47 => ⟨S8x512x128, .f32⟩
  | 48 => ⟨S8x512x128, .f32⟩
  | 49 => ⟨S8x512x128, .f32⟩
  | 50 => ⟨S8x512x128, .f32⟩
  | 51 => ⟨S_, .f32⟩
  | 52 => ⟨S8x512x128, .f32⟩
  | 53 => ⟨S8x512x128, .f32⟩
  | 54 => ⟨S8x512x128, .f32⟩
  | 55 => ⟨S_, .f32⟩
  | 56 => ⟨S8x512x128, .f32⟩
  | 57 => ⟨S8x512x128, .f32⟩
  | 58 => ⟨S8x512x128, .f32⟩
  | 59 => ⟨S_, .f32⟩
  | 60 => ⟨S8x512x128, .f32⟩
  | 61 => ⟨S8x512x128, .f32⟩
  | 62 => ⟨S_, .f32⟩
  | 63 => ⟨S8x512x128, .f32⟩
  | 64 => ⟨S8x512x128, .f32⟩
  | 65 => ⟨S8x512x128, .f32⟩
  | 66 => ⟨S8x512x128, .f32⟩
  | 67 => ⟨S1x1x128, .f32⟩
  | 68 => ⟨S8x512x128, .f32⟩
  | 69 => ⟨S8x512x128, .f32⟩
  | 70 => ⟨S_, .f32⟩
  | 71 => ⟨S8x512, .f32⟩
  | 72 => ⟨S8x512x1, .f32⟩
  | 73 => ⟨S_, .f32⟩
  | 74 => ⟨S8x512x1, .f32⟩
  | 75 => ⟨S8x512x1, .f32⟩
  | 76 => ⟨S_, .i32⟩
  | 77 => ⟨S_, .f32⟩
  | 78 => ⟨S8x512, .f32⟩
  | 79 => ⟨S8x512x1, .f32⟩
  | 80 => ⟨S_, .f32⟩
  | 81 => ⟨S8x512x1, .f32⟩
  | 82 => ⟨S8x512x1, .f32⟩
  | 83 => ⟨S8x512x128, .f32⟩
  | 84 => ⟨S8x512x128, .f32⟩
  | 85 => ⟨S8x512x128, .f32⟩
  | 86 => ⟨S_, .f32⟩
  | 87 => ⟨S_, .f32⟩
  | 88 => ⟨S_, .f32⟩
  | 89 => ⟨S_, .f32⟩
  | 90 => ⟨S8x512, .f32⟩
  | 91 => ⟨S8x512x1, .f32⟩
  | 92 => ⟨S8x512x1, .f32⟩
  | 93 => ⟨S8x512x1, .f32⟩
  | 94 => ⟨S_, .f32⟩
  | 95 => ⟨S_, .i1⟩
  | 96 => ⟨S_, .f32⟩
  | 97 => ⟨S_, .f32⟩
  | 98 => ⟨S8x512x1, .f32⟩
  | 99 => ⟨S8x512x1, .f32⟩
  | 100 => ⟨S8x512x128, .f32⟩
  | 101 => ⟨S8x512x128, .f32⟩
  | 102 => ⟨S_, .f32⟩
  | 103 => ⟨S8x512x1, .f32⟩
  | 104 => ⟨S8x512x1, .f32⟩
  | 105 => ⟨S8x512x1, .f32⟩
  | 106 => ⟨S8x512x128, .f32⟩
  | 107 => ⟨S8x512x128, .f32⟩
  | 108 => ⟨S1x1x128, .f32⟩
  | 109 => ⟨S8x512x128, .f32⟩
  | 110 => ⟨S8x512x128, .f32⟩
  | 111 => ⟨S1x1x128, .f32⟩
  | 112 => ⟨S8x512x128, .f32⟩
  | 113 => ⟨S8x512x128, .f32⟩
  | 114 => ⟨S8x512x128, .f32⟩
  | 115 => ⟨S8x512x1, .f32⟩
  | 116 => ⟨S1x1x1, .f32⟩
  | 117 => ⟨S8x512x1, .f32⟩
  | 118 => ⟨S8x512x1, .f32⟩
  | 119 => ⟨S8x512x1, .f32⟩
  | 120 => ⟨S8x512x1, .f32⟩
  | 121 => ⟨S_, .f32⟩
  | 122 => ⟨S8x512x1, .f32⟩
  | 123 => ⟨S8x512x1, .f32⟩
  | 124 => ⟨S_, .f32⟩
  | 125 => ⟨S8x512x1, .f32⟩
  | 126 => ⟨S8x512x1, .f32⟩
  | 127 => ⟨S_, .f32⟩
  | _ => ⟨S8x512, .i32⟩

abbrev hbmTy0_4 (i : Nat) : BufTy := match i % 128 with
  | 0 => ⟨S8x512x1, .f32⟩
  | 1 => ⟨S8x512x1, .f32⟩
  | 2 => ⟨S8x512x1, .f32⟩
  | 3 => ⟨S8x512x1, .f32⟩
  | 4 => ⟨S_, .f32⟩
  | 5 => ⟨S8x512x1, .f32⟩
  | 6 => ⟨S8x512x1, .i1⟩
  | 7 => ⟨S_, .f32⟩
  | 8 => ⟨S_, .f32⟩
  | 9 => ⟨S8x512x1, .f32⟩
  | 10 => ⟨S8x512x1, .f32⟩
  | 11 => ⟨S_, .f32⟩
  | 12 => ⟨S8x512x1, .f32⟩
  | 13 => ⟨S8x512x1, .f32⟩
  | 14 => ⟨S8x512x128, .f32⟩
  | 15 => ⟨S8x512x128, .f32⟩
  | 16 => ⟨S8x512x128, .f32⟩
  | 17 => ⟨S8x512x128, .f32⟩
  | 18 => ⟨S8x512x128, .f32⟩
  | 19 => ⟨S8x1x128, .f32⟩
  | 20 => ⟨S8x128, .f32⟩
  | 21 => ⟨S8x2, .f32⟩
  | 22 => ⟨S1x2, .f32⟩
  | 23 => ⟨S8x2, .f32⟩
  | 24 => ⟨S8x2, .f32⟩
  | 25 => ⟨S8x1, .f32⟩
  | 26 => ⟨S8, .f32⟩
  | 27 => ⟨S8, .f32⟩
  | 28 => ⟨S8, .f32⟩
  | 29 => ⟨S_, .f32⟩
  | 30 => ⟨S8, .f32⟩
  | 31 => ⟨S8, .f32⟩
  | 32 => ⟨S_, .f32⟩
  | 33 => ⟨S8, .f32⟩
  | 34 => ⟨S8, .f32⟩
  | 35 => ⟨S8x1, .f32⟩
  | 36 => ⟨S8, .f32⟩
  | 37 => ⟨S_, .f32⟩
  | 38 => ⟨S8, .f32⟩
  | 39 => ⟨S8, .f32⟩
  | 40 => ⟨S8, .f32⟩
  | 41 => ⟨S8, .f32⟩
  | 42 => ⟨S8, .i1⟩
  | 43 => ⟨S8, .f32⟩
  | 44 => ⟨S8, .f32⟩
  | 45 => ⟨S8, .f32⟩
  | 46 => ⟨S8, .f32⟩
  | 47 => ⟨S8, .f32⟩
  | 48 => ⟨S8, .f32⟩
  | 49 => ⟨S8, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S8, .f32⟩
  | 58 => ⟨S8, .i32⟩
  | 59 => ⟨S_, .i32⟩
  | 60 => ⟨S_, .i32⟩
  | 61 => ⟨S_, .i32⟩
  | 62 => ⟨S8, .i32⟩
  | 63 => ⟨S8, .i32⟩
  | 64 => ⟨S_, .i32⟩
  | 65 => ⟨S8, .i32⟩
  | 66 => ⟨S8, .i32⟩
  | 67 => ⟨S8x1, .i32⟩
  | 68 => ⟨S1x64, .i32⟩
  | 69 => ⟨S8x64, .i32⟩
  | 70 => ⟨S8x64, .i32⟩
  | 71 => ⟨S8x64, .i32⟩
  | 72 => ⟨S_, .i32⟩
  | 73 => ⟨S8x64, .i32⟩
  | 74 => ⟨S8x64, .i1⟩
  | 75 => ⟨S_, .i32⟩
  | 76 => ⟨S8x64, .i32⟩
  | 77 => ⟨S8x64, .i32⟩
  | 78 => ⟨S8x64, .i32⟩
  | 79 => ⟨S8x64x1, .i32⟩
  | 80 => ⟨S1, .i32⟩
  | 81 => ⟨S_, .i32⟩
  | 82 => ⟨S8x64x1, .i32⟩
  | 83 => ⟨S8x64x1, .i1⟩
  | 84 => ⟨S1x1x1, .i32⟩
  | 85 => ⟨S8x64x1, .i32⟩
  | 86 => ⟨S8x64x1, .i1⟩
  | 87 => ⟨S8x64x1, .i1⟩
  | 88 => ⟨S_, .i1⟩
  | 89 => ⟨S8x64, .i1⟩
  | 90 => ⟨S8x64x128, .f32⟩
  | 91 => ⟨S8x64x128, .i1⟩
  | 92 => ⟨S_, .f32⟩
  | 93 => ⟨S8x64x128, .f32⟩
  | 94 => ⟨S8x64x128, .f32⟩
  | 95 => ⟨S8x64, .f32⟩
  | 96 => ⟨S_, .f32⟩
  | 97 => ⟨S8x64, .f32⟩
  | 98 => ⟨S8x64, .f32⟩
  | 99 => ⟨S8x1, .f32⟩
  | 100 => ⟨S8x64, .f32⟩
  | 101 => ⟨S8x64, .f32⟩
  | 102 => ⟨S8x64, .f32⟩
  | 103 => ⟨S8x64, .f32⟩
  | 104 => ⟨S8x1, .f32⟩
  | 105 => ⟨S8x1, .f32⟩
  | 106 => ⟨S_, .f32⟩
  | 107 => ⟨S8x1, .f32⟩
  | 108 => ⟨S8x1, .f32⟩
  | 109 => ⟨S8x64, .f32⟩
  | 110 => ⟨S8x64, .f32⟩
  | 111 => ⟨S_, .f32⟩
  | 112 => ⟨S8, .f32⟩
  | 113 => ⟨S_, .f32⟩
  | 114 => ⟨S8, .f32⟩
  | 115 => ⟨S8, .f32⟩
  | 116 => ⟨S8x1, .f32⟩
  | 117 => ⟨S8x64, .f32⟩
  | 118 => ⟨S8x64, .f32⟩
  | 119 => ⟨S8x64, .f32⟩
  | 120 => ⟨S_, .f32⟩
  | 121 => ⟨S8, .f32⟩
  | 122 => ⟨S8x1, .f32⟩
  | 123 => ⟨S8x64, .f32⟩
  | 124 => ⟨S8x64, .f32⟩
  | 125 => ⟨S8x128, .f32⟩
  | 126 => ⟨S8x1x128, .f32⟩
  | 127 => ⟨S8x1x512x128, .f32⟩
  | _ => ⟨S8x512, .i32⟩

abbrev hbmTy0_5 (i : Nat) : BufTy := match i % 128 with
  | 0 => ⟨S8x512x128, .f32⟩
  | 1 => ⟨S8x512x256, .f32⟩
  | 2 => ⟨S8x512x128, .f32⟩
  | 3 => ⟨S1x1x128, .f32⟩
  | 4 => ⟨S8x512x128, .f32⟩
  | 5 => ⟨S8x512x128, .f32⟩
  | 6 => ⟨S8x512x128, .f32⟩
  | 7 => ⟨S8x512x128, .f32⟩
  | 8 => ⟨S_, .f32⟩
  | 9 => ⟨S8x512x128, .f32⟩
  | 10 => ⟨S8x512x128, .f32⟩
  | 11 => ⟨S8x512x128, .f32⟩
  | 12 => ⟨S_, .f32⟩
  | 13 => ⟨S8x512x128, .f32⟩
  | 14 => ⟨S8x512x128, .f32⟩
  | 15 => ⟨S8x512x128, .f32⟩
  | 16 => ⟨S_, .f32⟩
  | 17 => ⟨S8x512x128, .f32⟩
  | 18 => ⟨S8x512x128, .f32⟩
  | 19 => ⟨S_, .f32⟩
  | 20 => ⟨S8x512x128, .f32⟩
  | 21 => ⟨S8x512x128, .f32⟩
  | 22 => ⟨S8x512x128, .f32⟩
  | 23 => ⟨S8x512x128, .f32⟩
  | 24 => ⟨S1x1x128, .f32⟩
  | 25 => ⟨S8x512x128, .f32⟩
  | 26 => ⟨S8x512x128, .f32⟩
  | 27 => ⟨S_, .f32⟩
  | 28 => ⟨S8x512, .f32⟩
  | 29 => ⟨S8x512x1, .f32⟩
  | 30 => ⟨S_, .f32⟩
  | 31 => ⟨S8x512x1, .f32⟩
  | 32 => ⟨S8x512x1, .f32⟩
  | 33 => ⟨S_, .i32⟩
  | 34 => ⟨S_, .f32⟩
  | 35 => ⟨S8x512, .f32⟩
  | 36 => ⟨S8x512x1, .f32⟩
  | 37 => ⟨S_, .f32⟩
  | 38 => ⟨S8x512x1, .f32⟩
  | 39 => ⟨S8x512x1, .f32⟩
  | 40 => ⟨S8x512x128, .f32⟩
  | 41 => ⟨S8x512x128, .f32⟩
  | 42 => ⟨S8x512x128, .f32⟩
  | 43 => ⟨S_, .f32⟩
  | 44 => ⟨S_, .f32⟩
  | 45 => ⟨S_, .f32⟩
  | 46 => ⟨S_, .f32⟩
  | 47 => ⟨S8x512, .f32⟩
  | 48 => ⟨S8x512x1, .f32⟩
  | 49 => ⟨S8x512x1, .f32⟩
  | 50 => ⟨S8x512x1, .f32⟩
  | 51 => ⟨S_, .f32⟩
  | 52 => ⟨S_, .i1⟩
  | 53 => ⟨S_, .f32⟩
  | 54 => ⟨S_, .f32⟩
  | 55 => ⟨S8x512x1, .f32⟩
  | 56 => ⟨S8x512x1, .f32⟩
  | 57 => ⟨S8x512x128, .f32⟩
  | 58 => ⟨S8x512x128, .f32⟩
  | 59 => ⟨S_, .f32⟩
  | 60 => ⟨S8x512x1, .f32⟩
  | 61 => ⟨S8x512x1, .f32⟩
  | 62 => ⟨S8x512x1, .f32⟩
  | 63 => ⟨S8x512x128, .f32⟩
  | 64 => ⟨S8x512x128, .f32⟩
  | 65 => ⟨S1x1x128, .f32⟩
  | 66 => ⟨S8x512x128, .f32⟩
  | 67 => ⟨S8x512x128, .f32⟩
  | 68 => ⟨S1x1x128, .f32⟩
  | 69 => ⟨S8x512x128, .f32⟩
  | 70 => ⟨S8x512x128, .f32⟩
  | 71 => ⟨S8x512x128, .f32⟩
  | 72 => ⟨S8x512x1, .f32⟩
  | 73 => ⟨S1x1x1, .f32⟩
  | 74 => ⟨S8x512x1, .f32⟩
  | 75 => ⟨S8x512x1, .f32⟩
  | 76 => ⟨S8x512x1, .f32⟩
  | 77 => ⟨S8x512x1, .f32⟩
  | 78 => ⟨S_, .f32⟩
  | 79 => ⟨S8x512x1, .f32⟩
  | 80 => ⟨S8x512x1, .f32⟩
  | 81 => ⟨S_, .f32⟩
  | 82 => ⟨S8x512x1, .f32⟩
  | 83 => ⟨S8x512x1, .f32⟩
  | 84 => ⟨S_, .f32⟩
  | 85 => ⟨S8x512x1, .f32⟩
  | 86 => ⟨S8x512x1, .f32⟩
  | 87 => ⟨S8x512x1, .f32⟩
  | 88 => ⟨S8x512x1, .f32⟩
  | 89 => ⟨S_, .f32⟩
  | 90 => ⟨S8x512x1, .f32⟩
  | 91 => ⟨S8x512x1, .i1⟩
  | 92 => ⟨S_, .f32⟩
  | 93 => ⟨S_, .f32⟩
  | 94 => ⟨S8x512x1, .f32⟩
  | 95 => ⟨S8x512x1, .f32⟩
  | 96 => ⟨S_, .f32⟩
  | 97 => ⟨S8x512x1, .f32⟩
  | 98 => ⟨S8x512x1, .f32⟩
  | 99 => ⟨S8x512x128, .f32⟩
  | 100 => ⟨S8x512x128, .f32⟩
  | 101 => ⟨S8x512x128, .f32⟩
  | 102 => ⟨S8x512x128, .f32⟩
  | 103 => ⟨S8x512x128, .f32⟩
  | 104 => ⟨S8x1x128, .f32⟩
  | 105 => ⟨S8x128, .f32⟩
  | 106 => ⟨S8x2, .f32⟩
  | 107 => ⟨S1x2, .f32⟩
  | 108 => ⟨S8x2, .f32⟩
  | 109 => ⟨S8x2, .f32⟩
  | 110 => ⟨S8x1, .f32⟩
  | 111 => ⟨S8, .f32⟩
  | 112 => ⟨S8, .f32⟩
  | 113 => ⟨S8, .f32⟩
  | 114 => ⟨S_, .f32⟩
  | 115 => ⟨S8, .f32⟩
  | 116 => ⟨S8, .f32⟩
  | 117 => ⟨S_, .f32⟩
  | 118 => ⟨S8, .f32⟩
  | 119 => ⟨S8, .f32⟩
  | 120 => ⟨S8x1, .f32⟩
  | 121 => ⟨S8, .f32⟩
  | 122 => ⟨S_, .f32⟩
  | 123 => ⟨S8, .f32⟩
  | 124 => ⟨S8, .f32⟩
  | 125 => ⟨S8, .f32⟩
  | 126 => ⟨S8, .f32⟩
  | 127 => ⟨S8, .i1⟩
  | _ => ⟨S8x512, .i32⟩

abbrev hbmTy0_6 (i : Nat) : BufTy := match i % 128 with
  | 0 => ⟨S8, .f32⟩
  | 1 => ⟨S8, .f32⟩
  | 2 => ⟨S8, .f32⟩
  | 3 => ⟨S8, .f32⟩
  | 4 => ⟨S8, .f32⟩
  | 5 => ⟨S8, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S8, .f32⟩
  | 15 => ⟨S8, .i32⟩
  | 16 => ⟨S_, .i32⟩
  | 17 => ⟨S_, .i32⟩
  | 18 => ⟨S_, .i32⟩
  | 19 => ⟨S8, .i32⟩
  | 20 => ⟨S8, .i32⟩
  | 21 => ⟨S_, .i32⟩
  | 22 => ⟨S8, .i32⟩
  | 23 => ⟨S8, .i32⟩
  | 24 => ⟨S8x1, .i32⟩
  | 25 => ⟨S1x64, .i32⟩
  | 26 => ⟨S8x64, .i32⟩
  | 27 => ⟨S8x64, .i32⟩
  | 28 => ⟨S8x64, .i32⟩
  | 29 => ⟨S_, .i32⟩
  | 30 => ⟨S8x64, .i32⟩
  | 31 => ⟨S8x64, .i1⟩
  | 32 => ⟨S_, .i32⟩
  | 33 => ⟨S8x64, .i32⟩
  | 34 => ⟨S8x64, .i32⟩
  | 35 => ⟨S8x64, .i32⟩
  | 36 => ⟨S8x64x1, .i32⟩
  | 37 => ⟨S1, .i32⟩
  | 38 => ⟨S_, .i32⟩
  | 39 => ⟨S8x64x1, .i32⟩
  | 40 => ⟨S8x64x1, .i1⟩
  | 41 => ⟨S1x1x1, .i32⟩
  | 42 => ⟨S8x64x1, .i32⟩
  | 43 => ⟨S8x64x1, .i1⟩
  | 44 => ⟨S8x64x1, .i1⟩
  | 45 => ⟨S_, .i1⟩
  | 46 => ⟨S8x64, .i1⟩
  | 47 => ⟨S8x64x128, .f32⟩
  | 48 => ⟨S8x64x128, .i1⟩
  | 49 => ⟨S_, .f32⟩
  | 50 => ⟨S8x64x128, .f32⟩
  | 51 => ⟨S8x64x128, .f32⟩
  | 52 => ⟨S8x64, .f32⟩
  | 53 => ⟨S_, .f32⟩
  | 54 => ⟨S8x64, .f32⟩
  | 55 => ⟨S8x64, .f32⟩
  | 56 => ⟨S8x1, .f32⟩
  | 57 => ⟨S8x64, .f32⟩
  | 58 => ⟨S8x64, .f32⟩
  | 59 => ⟨S8x64, .f32⟩
  | 60 => ⟨S8x64, .f32⟩
  | 61 => ⟨S8x1, .f32⟩
  | 62 => ⟨S8x1, .f32⟩
  | 63 => ⟨S_, .f32⟩
  | 64 => ⟨S8x1, .f32⟩
  | 65 => ⟨S8x1, .f32⟩
  | 66 => ⟨S8x64, .f32⟩
  | 67 => ⟨S8x64, .f32⟩
  | 68 => ⟨S_, .f32⟩
  | 69 => ⟨S8, .f32⟩
  | 70 => ⟨S_, .f32⟩
  | 71 => ⟨S8, .f32⟩
  | 72 => ⟨S8, .f32⟩
  | 73 => ⟨S8x1, .f32⟩
  | 74 => ⟨S8x64, .f32⟩
  | 75 => ⟨S8x64, .f32⟩
  | 76 => ⟨S8x64, .f32⟩
  | 77 => ⟨S_, .f32⟩
  | 78 => ⟨S8, .f32⟩
  | 79 => ⟨S8x1, .f32⟩
  | 80 => ⟨S8x64, .f32⟩
  | 81 => ⟨S8x64, .f32⟩
  | 82 => ⟨S8x128, .f32⟩
  | 83 => ⟨S8x1x128, .f32⟩
  | 84 => ⟨S8x1x512x128, .f32⟩
  | 85 => ⟨S8x512x128, .f32⟩
  | 86 => ⟨S8x512x256, .f32⟩
  | 87 => ⟨S8x512x128, .f32⟩
  | 88 => ⟨S1x1x128, .f32⟩
  | 89 => ⟨S8x512x128, .f32⟩
  | 90 => ⟨S8x512x128, .f32⟩
  | 91 => ⟨S8x512x128, .f32⟩
  | 92 => ⟨S8x512x128, .f32⟩
  | 93 => ⟨S_, .f32⟩
  | 94 => ⟨S8x512x128, .f32⟩
  | 95 => ⟨S8x512x128, .f32⟩
  | 96 => ⟨S8x512x128, .f32⟩
  | 97 => ⟨S_, .f32⟩
  | 98 => ⟨S8x512x128, .f32⟩
  | 99 => ⟨S8x512x128, .f32⟩
  | 100 => ⟨S8x512x128, .f32⟩
  | 101 => ⟨S_, .f32⟩
  | 102 => ⟨S8x512x128, .f32⟩
  | 103 => ⟨S8x512x128, .f32⟩
  | 104 => ⟨S_, .f32⟩
  | 105 => ⟨S8x512x128, .f32⟩
  | 106 => ⟨S8x512x128, .f32⟩
  | 107 => ⟨S8x512x128, .f32⟩
  | 108 => ⟨S8x512x128, .f32⟩
  | 109 => ⟨S1x1x128, .f32⟩
  | 110 => ⟨S8x512x128, .f32⟩
  | 111 => ⟨S8x512x128, .f32⟩
  | 112 => ⟨S_, .f32⟩
  | 113 => ⟨S8x512, .f32⟩
  | 114 => ⟨S8x512x1, .f32⟩
  | 115 => ⟨S_, .f32⟩
  | 116 => ⟨S8x512x1, .f32⟩
  | 117 => ⟨S8x512x1, .f32⟩
  | 118 => ⟨S_, .i32⟩
  | 119 => ⟨S_, .f32⟩
  | 120 => ⟨S8x512, .f32⟩
  | 121 => ⟨S8x512x1, .f32⟩
  | 122 => ⟨S_, .f32⟩
  | 123 => ⟨S8x512x1, .f32⟩
  | 124 => ⟨S8x512x1, .f32⟩
  | 125 => ⟨S8x512x128, .f32⟩
  | 126 => ⟨S8x512x128, .f32⟩
  | 127 => ⟨S8x512x128, .f32⟩
  | _ => ⟨S8x512, .i32⟩

abbrev hbmTy0_7 (i : Nat) : BufTy := match i % 128 with
  | 0 => ⟨S_, .f32⟩
  | 1 => ⟨S_, .f32⟩
  | 2 => ⟨S_, .f32⟩
  | 3 => ⟨S_, .f32⟩
  | 4 => ⟨S8x512, .f32⟩
  | 5 => ⟨S8x512x1, .f32⟩
  | 6 => ⟨S8x512x1, .f32⟩
  | 7 => ⟨S8x512x1, .f32⟩
  | 8 => ⟨S_, .f32⟩
  | 9 => ⟨S_, .i1⟩
  | 10 => ⟨S_, .f32⟩
  | 11 => ⟨S_, .f32⟩
  | 12 => ⟨S8x512x1, .f32⟩
  | 13 => ⟨S8x512x1, .f32⟩
  | 14 => ⟨S8x512x128, .f32⟩
  | 15 => ⟨S8x512x128, .f32⟩
  | 16 => ⟨S_, .f32⟩
  | 17 => ⟨S8x512x1, .f32⟩
  | 18 => ⟨S8x512x1, .f32⟩
  | 19 => ⟨S8x512x1, .f32⟩
  | 20 => ⟨S8x512x128, .f32⟩
  | 21 => ⟨S8x512x128, .f32⟩
  | 22 => ⟨S1x1x128, .f32⟩
  | 23 => ⟨S8x512x128, .f32⟩
  | 24 => ⟨S8x512x128, .f32⟩
  | 25 => ⟨S1x1x128, .f32⟩
  | 26 => ⟨S8x512x128, .f32⟩
  | 27 => ⟨S8x512x128, .f32⟩
  | 28 => ⟨S8x512x128, .f32⟩
  | 29 => ⟨S8x512x1, .f32⟩
  | 30 => ⟨S1x1x1, .f32⟩
  | 31 => ⟨S8x512x1, .f32⟩
  | 32 => ⟨S8x512x1, .f32⟩
  | 33 => ⟨S8x512x1, .f32⟩
  | 34 => ⟨S8x512x1, .f32⟩
  | 35 => ⟨S_, .f32⟩
  | 36 => ⟨S8x512x1, .f32⟩
  | 37 => ⟨S8x512x1, .f32⟩
  | 38 => ⟨S_, .f32⟩
  | 39 => ⟨S8x512x1, .f32⟩
  | 40 => ⟨S8x512x1, .f32⟩
  | 41 => ⟨S_, .f32⟩
  | 42 => ⟨S8x512x1, .f32⟩
  | 43 => ⟨S8x512x1, .f32⟩
  | 44 => ⟨S8x512x1, .f32⟩
  | 45 => ⟨S8x512x1, .f32⟩
  | 46 => ⟨S_, .f32⟩
  | 47 => ⟨S8x512x1, .f32⟩
  | 48 => ⟨S8x512x1, .i1⟩
  | 49 => ⟨S_, .f32⟩
  | 50 => ⟨S_, .f32⟩
  | 51 => ⟨S8x512x1, .f32⟩
  | 52 => ⟨S8x512x1, .f32⟩
  | 53 => ⟨S_, .f32⟩
  | 54 => ⟨S8x512x1, .f32⟩
  | 55 => ⟨S8x512x1, .f32⟩
  | 56 => ⟨S8x512x128, .f32⟩
  | 57 => ⟨S8x512x128, .f32⟩
  | 58 => ⟨S8x512x128, .f32⟩
  | 59 => ⟨S8x512x128, .f32⟩
  | 60 => ⟨S8x512x128, .f32⟩
  | 61 => ⟨S8x512x8192, .f32⟩
  | 62 => ⟨S1x1x8192, .f32⟩
  | 63 => ⟨S8x512x8192, .f32⟩
  | 64 => ⟨S8x512x8192, .f32⟩
  | 65 => ⟨S8x1, .i32⟩
  | 66 => ⟨S8x1, .i32⟩
  | 67 => ⟨S8x1, .i32⟩
  | 68 => ⟨S8x1, .i32⟩
  | 69 => ⟨S8x4, .i32⟩
  | _ => ⟨S8x512, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8x512, .i32⟩

abbrev bufTy : (tb : Table) → Fin (tcTables nBuf tb) → BufTy
  | .hbm, ⟨i, _⟩ => hbmTy i
  | _, _ => ⟨S8x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_2 : Ref sig .tc := ⟨.hbm, 44, rfl⟩
abbrev main_v19 : Ref sig .tc := ⟨.hbm, 45, rfl⟩
abbrev main_v20 : Ref sig .tc := ⟨.hbm, 46, rfl⟩
abbrev main_cst_3 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_4 : Ref sig .tc := ⟨.hbm, 56, rfl⟩
abbrev main_v29 : Ref sig .tc := ⟨.hbm, 57, rfl⟩
abbrev main_v30 : Ref sig .tc := ⟨.hbm, 58, rfl⟩
abbrev main_cst_5 : Ref sig .tc := ⟨.hbm, 59, rfl⟩
abbrev main_v31 : Ref sig .tc := ⟨.hbm, 60, rfl⟩
abbrev main_v32 : Ref sig .tc := ⟨.hbm, 61, rfl⟩
abbrev main_c_6 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_cst_0 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_v6 : Ref sig .tc := ⟨.hbm, 71, rfl⟩
abbrev main_call0_v7 : Ref sig .tc := ⟨.hbm, 72, rfl⟩
abbrev main_call0_cst_1 : Ref sig .tc := ⟨.hbm, 73, rfl⟩
abbrev main_call0_v8 : Ref sig .tc := ⟨.hbm, 74, rfl⟩
abbrev main_call0_cst_2 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_v12 : Ref sig .tc := ⟨.hbm, 79, rfl⟩
abbrev main_call0_cst_3 : Ref sig .tc := ⟨.hbm, 80, rfl⟩
abbrev main_call0_v13 : Ref sig .tc := ⟨.hbm, 81, rfl⟩
abbrev main_call0_cst_4 : Ref sig .tc := ⟨.hbm, 82, rfl⟩
abbrev main_call0_call0_v0 : Ref sig .tc := ⟨.hbm, 83, rfl⟩
abbrev main_call0_call0_v1 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_cst_7 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_cst_8 : Ref sig .tc := ⟨.hbm, 100, rfl⟩
abbrev main_v47 : Ref sig .tc := ⟨.hbm, 101, rfl⟩
abbrev main_cst_9 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_cst_10 : Ref sig .tc := ⟨.hbm, 115, rfl⟩
abbrev main_v60 : Ref sig .tc := ⟨.hbm, 116, rfl⟩
abbrev main_v61 : Ref sig .tc := ⟨.hbm, 117, rfl⟩
abbrev main_cst_11 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_call1_cst : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_call1_v5 : Ref sig .tc := ⟨.hbm, 129, rfl⟩
abbrev main_call1_v6 : Ref sig .tc := ⟨.hbm, 130, rfl⟩
abbrev main_call1_v7 : Ref sig .tc := ⟨.hbm, 131, rfl⟩
abbrev main_call1_v8 : Ref sig .tc := ⟨.hbm, 132, rfl⟩
abbrev main_call1_v9 : Ref sig .tc := ⟨.hbm, 133, rfl⟩
abbrev main_call1_v10 : Ref sig .tc := ⟨.hbm, 134, rfl⟩
abbrev main_call1_v11 : Ref sig .tc := ⟨.hbm, 135, rfl⟩
abbrev main_v66 : Ref sig .tc := ⟨.hbm, 136, rfl⟩
abbrev main_cst_12 : Ref sig .tc := ⟨.hbm, 137, rfl⟩
abbrev main_v67 : Ref sig .tc := ⟨.hbm, 138, rfl⟩
abbrev main_v68 : Ref sig .tc := ⟨.hbm, 139, rfl⟩
abbrev main_cst_13 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_c_14 : Ref sig .tc := ⟨.hbm, 145, rfl⟩
abbrev main_c_15 : Ref sig .tc := ⟨.hbm, 146, rfl⟩
abbrev main_call2_v0 : Ref sig .tc := ⟨.hbm, 147, rfl⟩
abbrev main_call2_v1 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_call3_c : Ref sig .tc := ⟨.hbm, 158, rfl⟩
abbrev main_call3_v0 : Ref sig .tc := ⟨.hbm, 159, rfl⟩
abbrev main_call3_v1 : Ref sig .tc := ⟨.hbm, 160, rfl⟩
abbrev main_call3_c_0 : Ref sig .tc := ⟨.hbm, 161, rfl⟩
abbrev main_call3_v2 : Ref sig .tc := ⟨.hbm, 162, rfl⟩
abbrev main_call3_v3 : Ref sig .tc := ⟨.hbm, 163, rfl⟩
abbrev main_call3_v4 : Ref sig .tc := ⟨.hbm, 164, rfl⟩
abbrev main_call3_v5 : Ref sig .tc := ⟨.hbm, 165, rfl⟩
abbrev main_call3_c_1 : Ref sig .tc := ⟨.hbm, 166, rfl⟩
abbrev main_call3_c_2 : Ref sig .tc := ⟨.hbm, 167, rfl⟩
abbrev main_call3_v6 : Ref sig .tc := ⟨.hbm, 168, rfl⟩
abbrev main_call3_v7 : Ref sig .tc := ⟨.hbm, 169, rfl⟩
abbrev main_call3_v8 : Ref sig .tc := ⟨.hbm, 170, rfl⟩
abbrev main_call3_v9 : Ref sig .tc := ⟨.hbm, 171, rfl⟩
abbrev main_call3_v10 : Ref sig .tc := ⟨.hbm, 172, rfl⟩
abbrev main_call3_v11 : Ref sig .tc := ⟨.hbm, 173, rfl⟩
abbrev main_call3_c_3 : Ref sig .tc := ⟨.hbm, 174, rfl⟩
abbrev main_call3_v12 : Ref sig .tc := ⟨.hbm, 175, rfl⟩
abbrev main_call3_v13 : Ref sig .tc := ⟨.hbm, 176, rfl⟩
abbrev main_call3_v14 : Ref sig .tc := ⟨.hbm, 177, rfl⟩
abbrev main_call3_cst : Ref sig .tc := ⟨.hbm, 178, rfl⟩
abbrev main_call3_v15 : Ref sig .tc := ⟨.hbm, 179, rfl⟩
abbrev main_v79 : Ref sig .tc := ⟨.hbm, 180, rfl⟩
abbrev main_v80 : Ref sig .tc := ⟨.hbm, 181, rfl⟩
abbrev main_cst_16 : Ref sig .tc := ⟨.hbm, 182, rfl⟩
abbrev main_v81 : Ref sig .tc := ⟨.hbm, 183, rfl⟩
abbrev main_v82 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_v86 : Ref sig .tc := ⟨.hbm, 188, rfl⟩
abbrev main_v87 : Ref sig .tc := ⟨.hbm, 189, rfl⟩
abbrev main_v88 : Ref sig .tc := ⟨.hbm, 190, rfl⟩
abbrev main_v89 : Ref sig .tc := ⟨.hbm, 191, rfl⟩
abbrev main_cst_17 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_cst_18 : Ref sig .tc := ⟨.hbm, 197, rfl⟩
abbrev main_v94 : Ref sig .tc := ⟨.hbm, 198, rfl⟩
abbrev main_cst_19 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_cst_20 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_v106 : Ref sig .tc := ⟨.hbm, 212, rfl⟩
abbrev main_v107 : Ref sig .tc := ⟨.hbm, 213, rfl⟩
abbrev main_v108 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_v112 : Ref sig .tc := ⟨.hbm, 218, rfl⟩
abbrev main_v113 : Ref sig .tc := ⟨.hbm, 219, rfl⟩
abbrev main_v114 : Ref sig .tc := ⟨.hbm, 220, rfl⟩
abbrev main_v115 : Ref sig .tc := ⟨.hbm, 221, rfl⟩
abbrev main_cst_21 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_cst_22 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_cst_23 : Ref sig .tc := ⟨.hbm, 230, rfl⟩
abbrev main_v122 : Ref sig .tc := ⟨.hbm, 231, rfl⟩
abbrev main_v123 : Ref sig .tc := ⟨.hbm, 232, rfl⟩
abbrev main_cst_24 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_v129 : Ref sig .tc := ⟨.hbm, 239, rfl⟩
abbrev main_v130 : Ref sig .tc := ⟨.hbm, 240, rfl⟩
abbrev main_cst_25 : Ref sig .tc := ⟨.hbm, 241, rfl⟩
abbrev main_v131 : Ref sig .tc := ⟨.hbm, 242, rfl⟩
abbrev main_v132 : Ref sig .tc := ⟨.hbm, 243, rfl⟩
abbrev main_cst_26 : Ref sig .tc := ⟨.hbm, 244, rfl⟩
abbrev main_v133 : Ref sig .tc := ⟨.hbm, 245, rfl⟩
abbrev main_v134 : Ref sig .tc := ⟨.hbm, 246, rfl⟩
abbrev main_c_27 : Ref sig .tc := ⟨.hbm, 247, rfl⟩
abbrev main_call4_cst : Ref sig .tc := ⟨.hbm, 248, rfl⟩
abbrev main_call4_v0 : Ref sig .tc := ⟨.hbm, 249, rfl⟩
abbrev main_call4_v1 : Ref sig .tc := ⟨.hbm, 250, rfl⟩
abbrev main_call4_cst_0 : Ref sig .tc := ⟨.hbm, 251, rfl⟩
abbrev main_call4_v2 : Ref sig .tc := ⟨.hbm, 252, rfl⟩
abbrev main_call4_v3 : Ref sig .tc := ⟨.hbm, 253, rfl⟩
abbrev main_call4_v4 : Ref sig .tc := ⟨.hbm, 254, rfl⟩
abbrev main_call4_v5 : Ref sig .tc := ⟨.hbm, 255, rfl⟩
abbrev main_call4_v6 : Ref sig .tc := ⟨.hbm, 256, rfl⟩
abbrev main_call4_v7 : Ref sig .tc := ⟨.hbm, 257, rfl⟩
abbrev main_call4_cst_1 : Ref sig .tc := ⟨.hbm, 258, rfl⟩
abbrev main_call4_v8 : Ref sig .tc := ⟨.hbm, 259, rfl⟩
abbrev main_call4_cst_2 : Ref sig .tc := ⟨.hbm, 260, rfl⟩
abbrev main_call4_v9 : Ref sig .tc := ⟨.hbm, 261, rfl⟩
abbrev main_call4_v10 : Ref sig .tc := ⟨.hbm, 262, rfl⟩
abbrev main_call4_v11 : Ref sig .tc := ⟨.hbm, 263, rfl⟩
abbrev main_call4_v12 : Ref sig .tc := ⟨.hbm, 264, rfl⟩
abbrev main_call4_cst_3 : Ref sig .tc := ⟨.hbm, 265, rfl⟩
abbrev main_call4_v13 : Ref sig .tc := ⟨.hbm, 266, rfl⟩
abbrev main_call4_cst_4 : Ref sig .tc := ⟨.hbm, 267, rfl⟩
abbrev main_call4_call0_v0 : Ref sig .tc := ⟨.hbm, 268, rfl⟩
abbrev main_call4_call0_v1 : Ref sig .tc := ⟨.hbm, 269, rfl⟩
abbrev main_v135 : Ref sig .tc := ⟨.hbm, 270, rfl⟩
abbrev main_v136 : Ref sig .tc := ⟨.hbm, 271, rfl⟩
abbrev main_v137 : Ref sig .tc := ⟨.hbm, 272, rfl⟩
abbrev main_cst_28 : Ref sig .tc := ⟨.hbm, 273, rfl⟩
abbrev main_v138 : Ref sig .tc := ⟨.hbm, 274, rfl⟩
abbrev main_v139 : Ref sig .tc := ⟨.hbm, 275, rfl⟩
abbrev main_v140 : Ref sig .tc := ⟨.hbm, 276, rfl⟩
abbrev main_v141 : Ref sig .tc := ⟨.hbm, 277, rfl⟩
abbrev main_v142 : Ref sig .tc := ⟨.hbm, 278, rfl⟩
abbrev main_v143 : Ref sig .tc := ⟨.hbm, 279, rfl⟩
abbrev main_v144 : Ref sig .tc := ⟨.hbm, 280, rfl⟩
abbrev main_v145 : Ref sig .tc := ⟨.hbm, 281, rfl⟩
abbrev main_v146 : Ref sig .tc := ⟨.hbm, 282, rfl⟩
abbrev main_v147 : Ref sig .tc := ⟨.hbm, 283, rfl⟩
abbrev main_v148 : Ref sig .tc := ⟨.hbm, 284, rfl⟩
abbrev main_v149 : Ref sig .tc := ⟨.hbm, 285, rfl⟩
abbrev main_v150 : Ref sig .tc := ⟨.hbm, 286, rfl⟩
abbrev main_v151 : Ref sig .tc := ⟨.hbm, 287, rfl⟩
abbrev main_v152 : Ref sig .tc := ⟨.hbm, 288, rfl⟩
abbrev main_v153 : Ref sig .tc := ⟨.hbm, 289, rfl⟩
abbrev main_v154 : Ref sig .tc := ⟨.hbm, 290, rfl⟩
abbrev main_v155 : Ref sig .tc := ⟨.hbm, 291, rfl⟩
abbrev main_cst_29 : Ref sig .tc := ⟨.hbm, 292, rfl⟩
abbrev main_v156 : Ref sig .tc := ⟨.hbm, 293, rfl⟩
abbrev main_v157 : Ref sig .tc := ⟨.hbm, 294, rfl⟩
abbrev main_cst_30 : Ref sig .tc := ⟨.hbm, 295, rfl⟩
abbrev main_v158 : Ref sig .tc := ⟨.hbm, 296, rfl⟩
abbrev main_v159 : Ref sig .tc := ⟨.hbm, 297, rfl⟩
abbrev main_cst_31 : Ref sig .tc := ⟨.hbm, 298, rfl⟩
abbrev main_v160 : Ref sig .tc := ⟨.hbm, 299, rfl⟩
abbrev main_v161 : Ref sig .tc := ⟨.hbm, 300, rfl⟩
abbrev main_v162 : Ref sig .tc := ⟨.hbm, 301, rfl⟩
abbrev main_v163 : Ref sig .tc := ⟨.hbm, 302, rfl⟩
abbrev main_cst_32 : Ref sig .tc := ⟨.hbm, 303, rfl⟩
abbrev main_v164 : Ref sig .tc := ⟨.hbm, 304, rfl⟩
abbrev main_v165 : Ref sig .tc := ⟨.hbm, 305, rfl⟩
abbrev main_cst_33 : Ref sig .tc := ⟨.hbm, 306, rfl⟩
abbrev main_call5_v0 : Ref sig .tc := ⟨.hbm, 307, rfl⟩
abbrev main_call5_v1 : Ref sig .tc := ⟨.hbm, 308, rfl⟩
abbrev main_v166 : Ref sig .tc := ⟨.hbm, 309, rfl⟩
abbrev main_cst_34 : Ref sig .tc := ⟨.hbm, 310, rfl⟩
abbrev main_v167 : Ref sig .tc := ⟨.hbm, 311, rfl⟩
abbrev main_v168 : Ref sig .tc := ⟨.hbm, 312, rfl⟩
abbrev main_v169 : Ref sig .tc := ⟨.hbm, 313, rfl⟩
abbrev main_v170 : Ref sig .tc := ⟨.hbm, 314, rfl⟩
abbrev main_v171 : Ref sig .tc := ⟨.hbm, 315, rfl⟩
abbrev main_v172 : Ref sig .tc := ⟨.hbm, 316, rfl⟩
abbrev main_v173 : Ref sig .tc := ⟨.hbm, 317, rfl⟩
abbrev main_v174 : Ref sig .tc := ⟨.hbm, 318, rfl⟩
abbrev main_v175 : Ref sig .tc := ⟨.hbm, 319, rfl⟩
abbrev main_v176 : Ref sig .tc := ⟨.hbm, 320, rfl⟩
abbrev main_v177 : Ref sig .tc := ⟨.hbm, 321, rfl⟩
abbrev main_v178 : Ref sig .tc := ⟨.hbm, 322, rfl⟩
abbrev main_v179 : Ref sig .tc := ⟨.hbm, 323, rfl⟩
abbrev main_v180 : Ref sig .tc := ⟨.hbm, 324, rfl⟩
abbrev main_v181 : Ref sig .tc := ⟨.hbm, 325, rfl⟩
abbrev main_v182 : Ref sig .tc := ⟨.hbm, 326, rfl⟩
abbrev main_v183 : Ref sig .tc := ⟨.hbm, 327, rfl⟩
abbrev main_cst_35 : Ref sig .tc := ⟨.hbm, 328, rfl⟩
abbrev main_v184 : Ref sig .tc := ⟨.hbm, 329, rfl⟩
abbrev main_v185 : Ref sig .tc := ⟨.hbm, 330, rfl⟩
abbrev main_cst_36 : Ref sig .tc := ⟨.hbm, 331, rfl⟩
abbrev main_v186 : Ref sig .tc := ⟨.hbm, 332, rfl⟩
abbrev main_v187 : Ref sig .tc := ⟨.hbm, 333, rfl⟩
abbrev main_v188 : Ref sig .tc := ⟨.hbm, 334, rfl⟩
abbrev main_v189 : Ref sig .tc := ⟨.hbm, 335, rfl⟩
abbrev main_call6_cst : Ref sig .tc := ⟨.hbm, 336, rfl⟩
abbrev main_call6_v0 : Ref sig .tc := ⟨.hbm, 337, rfl⟩
abbrev main_call6_v1 : Ref sig .tc := ⟨.hbm, 338, rfl⟩
abbrev main_call6_v2 : Ref sig .tc := ⟨.hbm, 339, rfl⟩
abbrev main_call6_v3 : Ref sig .tc := ⟨.hbm, 340, rfl⟩
abbrev main_call6_v4 : Ref sig .tc := ⟨.hbm, 341, rfl⟩
abbrev main_call6_v5 : Ref sig .tc := ⟨.hbm, 342, rfl⟩
abbrev main_call6_v6 : Ref sig .tc := ⟨.hbm, 343, rfl⟩
abbrev main_call6_v7 : Ref sig .tc := ⟨.hbm, 344, rfl⟩
abbrev main_call6_v8 : Ref sig .tc := ⟨.hbm, 345, rfl⟩
abbrev main_call6_v9 : Ref sig .tc := ⟨.hbm, 346, rfl⟩
abbrev main_call6_v10 : Ref sig .tc := ⟨.hbm, 347, rfl⟩
abbrev main_call6_v11 : Ref sig .tc := ⟨.hbm, 348, rfl⟩
abbrev main_v190 : Ref sig .tc := ⟨.hbm, 349, rfl⟩
abbrev main_cst_37 : Ref sig .tc := ⟨.hbm, 350, rfl⟩
abbrev main_v191 : Ref sig .tc := ⟨.hbm, 351, rfl⟩
abbrev main_v192 : Ref sig .tc := ⟨.hbm, 352, rfl⟩
abbrev main_cst_38 : Ref sig .tc := ⟨.hbm, 353, rfl⟩
abbrev main_v193 : Ref sig .tc := ⟨.hbm, 354, rfl⟩
abbrev main_v194 : Ref sig .tc := ⟨.hbm, 355, rfl⟩
abbrev main_v195 : Ref sig .tc := ⟨.hbm, 356, rfl⟩
abbrev main_v196 : Ref sig .tc := ⟨.hbm, 357, rfl⟩
abbrev main_c_39 : Ref sig .tc := ⟨.hbm, 358, rfl⟩
abbrev main_c_40 : Ref sig .tc := ⟨.hbm, 359, rfl⟩
abbrev main_call7_v0 : Ref sig .tc := ⟨.hbm, 360, rfl⟩
abbrev main_call7_v1 : Ref sig .tc := ⟨.hbm, 361, rfl⟩
abbrev main_call7_v2 : Ref sig .tc := ⟨.hbm, 362, rfl⟩
abbrev main_call7_v3 : Ref sig .tc := ⟨.hbm, 363, rfl⟩
abbrev main_call7_v4 : Ref sig .tc := ⟨.hbm, 364, rfl⟩
abbrev main_v197 : Ref sig .tc := ⟨.hbm, 365, rfl⟩
abbrev main_v198 : Ref sig .tc := ⟨.hbm, 366, rfl⟩
abbrev main_v199 : Ref sig .tc := ⟨.hbm, 367, rfl⟩
abbrev main_v200 : Ref sig .tc := ⟨.hbm, 368, rfl⟩
abbrev main_v201 : Ref sig .tc := ⟨.hbm, 369, rfl⟩
abbrev main_v202 : Ref sig .tc := ⟨.hbm, 370, rfl⟩
abbrev main_call8_c : Ref sig .tc := ⟨.hbm, 371, rfl⟩
abbrev main_call8_v0 : Ref sig .tc := ⟨.hbm, 372, rfl⟩
abbrev main_call8_v1 : Ref sig .tc := ⟨.hbm, 373, rfl⟩
abbrev main_call8_c_0 : Ref sig .tc := ⟨.hbm, 374, rfl⟩
abbrev main_call8_v2 : Ref sig .tc := ⟨.hbm, 375, rfl⟩
abbrev main_call8_v3 : Ref sig .tc := ⟨.hbm, 376, rfl⟩
abbrev main_call8_v4 : Ref sig .tc := ⟨.hbm, 377, rfl⟩
abbrev main_call8_v5 : Ref sig .tc := ⟨.hbm, 378, rfl⟩
abbrev main_call8_c_1 : Ref sig .tc := ⟨.hbm, 379, rfl⟩
abbrev main_call8_c_2 : Ref sig .tc := ⟨.hbm, 380, rfl⟩
abbrev main_call8_v6 : Ref sig .tc := ⟨.hbm, 381, rfl⟩
abbrev main_call8_v7 : Ref sig .tc := ⟨.hbm, 382, rfl⟩
abbrev main_call8_v8 : Ref sig .tc := ⟨.hbm, 383, rfl⟩
abbrev main_call8_v9 : Ref sig .tc := ⟨.hbm, 384, rfl⟩
abbrev main_call8_v10 : Ref sig .tc := ⟨.hbm, 385, rfl⟩
abbrev main_call8_v11 : Ref sig .tc := ⟨.hbm, 386, rfl⟩
abbrev main_call8_c_3 : Ref sig .tc := ⟨.hbm, 387, rfl⟩
abbrev main_call8_v12 : Ref sig .tc := ⟨.hbm, 388, rfl⟩
abbrev main_call8_v13 : Ref sig .tc := ⟨.hbm, 389, rfl⟩
abbrev main_call8_v14 : Ref sig .tc := ⟨.hbm, 390, rfl⟩
abbrev main_call8_cst : Ref sig .tc := ⟨.hbm, 391, rfl⟩
abbrev main_call8_v15 : Ref sig .tc := ⟨.hbm, 392, rfl⟩
abbrev main_v203 : Ref sig .tc := ⟨.hbm, 393, rfl⟩
abbrev main_v204 : Ref sig .tc := ⟨.hbm, 394, rfl⟩
abbrev main_cst_41 : Ref sig .tc := ⟨.hbm, 395, rfl⟩
abbrev main_v205 : Ref sig .tc := ⟨.hbm, 396, rfl⟩
abbrev main_v206 : Ref sig .tc := ⟨.hbm, 397, rfl⟩
abbrev main_v207 : Ref sig .tc := ⟨.hbm, 398, rfl⟩
abbrev main_v208 : Ref sig .tc := ⟨.hbm, 399, rfl⟩
abbrev main_v209 : Ref sig .tc := ⟨.hbm, 400, rfl⟩
abbrev main_v210 : Ref sig .tc := ⟨.hbm, 401, rfl⟩
abbrev main_v211 : Ref sig .tc := ⟨.hbm, 402, rfl⟩
abbrev main_v212 : Ref sig .tc := ⟨.hbm, 403, rfl⟩
abbrev main_v213 : Ref sig .tc := ⟨.hbm, 404, rfl⟩
abbrev main_cst_42 : Ref sig .tc := ⟨.hbm, 405, rfl⟩
abbrev main_v214 : Ref sig .tc := ⟨.hbm, 406, rfl⟩
abbrev main_v215 : Ref sig .tc := ⟨.hbm, 407, rfl⟩
abbrev main_v216 : Ref sig .tc := ⟨.hbm, 408, rfl⟩
abbrev main_v217 : Ref sig .tc := ⟨.hbm, 409, rfl⟩
abbrev main_cst_43 : Ref sig .tc := ⟨.hbm, 410, rfl⟩
abbrev main_v218 : Ref sig .tc := ⟨.hbm, 411, rfl⟩
abbrev main_cst_44 : Ref sig .tc := ⟨.hbm, 412, rfl⟩
abbrev main_v219 : Ref sig .tc := ⟨.hbm, 413, rfl⟩
abbrev main_v220 : Ref sig .tc := ⟨.hbm, 414, rfl⟩
abbrev main_v221 : Ref sig .tc := ⟨.hbm, 415, rfl⟩
abbrev main_v222 : Ref sig .tc := ⟨.hbm, 416, rfl⟩
abbrev main_v223 : Ref sig .tc := ⟨.hbm, 417, rfl⟩
abbrev main_v224 : Ref sig .tc := ⟨.hbm, 418, rfl⟩
abbrev main_cst_45 : Ref sig .tc := ⟨.hbm, 419, rfl⟩
abbrev main_v225 : Ref sig .tc := ⟨.hbm, 420, rfl⟩
abbrev main_v226 : Ref sig .tc := ⟨.hbm, 421, rfl⟩
abbrev main_v227 : Ref sig .tc := ⟨.hbm, 422, rfl⟩
abbrev main_v228 : Ref sig .tc := ⟨.hbm, 423, rfl⟩
abbrev main_v229 : Ref sig .tc := ⟨.hbm, 424, rfl⟩
abbrev main_v230 : Ref sig .tc := ⟨.hbm, 425, rfl⟩
abbrev main_v231 : Ref sig .tc := ⟨.hbm, 426, rfl⟩
abbrev main_v232 : Ref sig .tc := ⟨.hbm, 427, rfl⟩
abbrev main_v233 : Ref sig .tc := ⟨.hbm, 428, rfl⟩
abbrev main_v234 : Ref sig .tc := ⟨.hbm, 429, rfl⟩
abbrev main_v235 : Ref sig .tc := ⟨.hbm, 430, rfl⟩
abbrev main_v236 : Ref sig .tc := ⟨.hbm, 431, rfl⟩
abbrev main_v237 : Ref sig .tc := ⟨.hbm, 432, rfl⟩
abbrev main_v238 : Ref sig .tc := ⟨.hbm, 433, rfl⟩
abbrev main_v239 : Ref sig .tc := ⟨.hbm, 434, rfl⟩
abbrev main_cst_46 : Ref sig .tc := ⟨.hbm, 435, rfl⟩
abbrev main_v240 : Ref sig .tc := ⟨.hbm, 436, rfl⟩
abbrev main_v241 : Ref sig .tc := ⟨.hbm, 437, rfl⟩
abbrev main_v242 : Ref sig .tc := ⟨.hbm, 438, rfl⟩
abbrev main_cst_47 : Ref sig .tc := ⟨.hbm, 439, rfl⟩
abbrev main_v243 : Ref sig .tc := ⟨.hbm, 440, rfl⟩
abbrev main_v244 : Ref sig .tc := ⟨.hbm, 441, rfl⟩
abbrev main_v245 : Ref sig .tc := ⟨.hbm, 442, rfl⟩
abbrev main_cst_48 : Ref sig .tc := ⟨.hbm, 443, rfl⟩
abbrev main_v246 : Ref sig .tc := ⟨.hbm, 444, rfl⟩
abbrev main_v247 : Ref sig .tc := ⟨.hbm, 445, rfl⟩
abbrev main_cst_49 : Ref sig .tc := ⟨.hbm, 446, rfl⟩
abbrev main_v248 : Ref sig .tc := ⟨.hbm, 447, rfl⟩
abbrev main_v249 : Ref sig .tc := ⟨.hbm, 448, rfl⟩
abbrev main_v250 : Ref sig .tc := ⟨.hbm, 449, rfl⟩
abbrev main_v251 : Ref sig .tc := ⟨.hbm, 450, rfl⟩
abbrev main_v252 : Ref sig .tc := ⟨.hbm, 451, rfl⟩
abbrev main_v253 : Ref sig .tc := ⟨.hbm, 452, rfl⟩
abbrev main_v254 : Ref sig .tc := ⟨.hbm, 453, rfl⟩
abbrev main_cst_50 : Ref sig .tc := ⟨.hbm, 454, rfl⟩
abbrev main_v255 : Ref sig .tc := ⟨.hbm, 455, rfl⟩
abbrev main_v256 : Ref sig .tc := ⟨.hbm, 456, rfl⟩
abbrev main_cst_51 : Ref sig .tc := ⟨.hbm, 457, rfl⟩
abbrev main_v257 : Ref sig .tc := ⟨.hbm, 458, rfl⟩
abbrev main_v258 : Ref sig .tc := ⟨.hbm, 459, rfl⟩
abbrev main_c_52 : Ref sig .tc := ⟨.hbm, 460, rfl⟩
abbrev main_call9_cst : Ref sig .tc := ⟨.hbm, 461, rfl⟩
abbrev main_call9_v0 : Ref sig .tc := ⟨.hbm, 462, rfl⟩
abbrev main_call9_v1 : Ref sig .tc := ⟨.hbm, 463, rfl⟩
abbrev main_call9_cst_0 : Ref sig .tc := ⟨.hbm, 464, rfl⟩
abbrev main_call9_v2 : Ref sig .tc := ⟨.hbm, 465, rfl⟩
abbrev main_call9_v3 : Ref sig .tc := ⟨.hbm, 466, rfl⟩
abbrev main_call9_v4 : Ref sig .tc := ⟨.hbm, 467, rfl⟩
abbrev main_call9_v5 : Ref sig .tc := ⟨.hbm, 468, rfl⟩
abbrev main_call9_v6 : Ref sig .tc := ⟨.hbm, 469, rfl⟩
abbrev main_call9_v7 : Ref sig .tc := ⟨.hbm, 470, rfl⟩
abbrev main_call9_cst_1 : Ref sig .tc := ⟨.hbm, 471, rfl⟩
abbrev main_call9_v8 : Ref sig .tc := ⟨.hbm, 472, rfl⟩
abbrev main_call9_cst_2 : Ref sig .tc := ⟨.hbm, 473, rfl⟩
abbrev main_call9_v9 : Ref sig .tc := ⟨.hbm, 474, rfl⟩
abbrev main_call9_v10 : Ref sig .tc := ⟨.hbm, 475, rfl⟩
abbrev main_call9_v11 : Ref sig .tc := ⟨.hbm, 476, rfl⟩
abbrev main_call9_v12 : Ref sig .tc := ⟨.hbm, 477, rfl⟩
abbrev main_call9_cst_3 : Ref sig .tc := ⟨.hbm, 478, rfl⟩
abbrev main_call9_v13 : Ref sig .tc := ⟨.hbm, 479, rfl⟩
abbrev main_call9_cst_4 : Ref sig .tc := ⟨.hbm, 480, rfl⟩
abbrev main_call9_call0_v0 : Ref sig .tc := ⟨.hbm, 481, rfl⟩
abbrev main_call9_call0_v1 : Ref sig .tc := ⟨.hbm, 482, rfl⟩
abbrev main_v259 : Ref sig .tc := ⟨.hbm, 483, rfl⟩
abbrev main_v260 : Ref sig .tc := ⟨.hbm, 484, rfl⟩
abbrev main_v261 : Ref sig .tc := ⟨.hbm, 485, rfl⟩
abbrev main_cst_53 : Ref sig .tc := ⟨.hbm, 486, rfl⟩
abbrev main_v262 : Ref sig .tc := ⟨.hbm, 487, rfl⟩
abbrev main_v263 : Ref sig .tc := ⟨.hbm, 488, rfl⟩
abbrev main_v264 : Ref sig .tc := ⟨.hbm, 489, rfl⟩
abbrev main_v265 : Ref sig .tc := ⟨.hbm, 490, rfl⟩
abbrev main_v266 : Ref sig .tc := ⟨.hbm, 491, rfl⟩
abbrev main_v267 : Ref sig .tc := ⟨.hbm, 492, rfl⟩
abbrev main_v268 : Ref sig .tc := ⟨.hbm, 493, rfl⟩
abbrev main_v269 : Ref sig .tc := ⟨.hbm, 494, rfl⟩
abbrev main_v270 : Ref sig .tc := ⟨.hbm, 495, rfl⟩
abbrev main_v271 : Ref sig .tc := ⟨.hbm, 496, rfl⟩
abbrev main_v272 : Ref sig .tc := ⟨.hbm, 497, rfl⟩
abbrev main_v273 : Ref sig .tc := ⟨.hbm, 498, rfl⟩
abbrev main_v274 : Ref sig .tc := ⟨.hbm, 499, rfl⟩
abbrev main_v275 : Ref sig .tc := ⟨.hbm, 500, rfl⟩
abbrev main_v276 : Ref sig .tc := ⟨.hbm, 501, rfl⟩
abbrev main_v277 : Ref sig .tc := ⟨.hbm, 502, rfl⟩
abbrev main_v278 : Ref sig .tc := ⟨.hbm, 503, rfl⟩
abbrev main_v279 : Ref sig .tc := ⟨.hbm, 504, rfl⟩
abbrev main_cst_54 : Ref sig .tc := ⟨.hbm, 505, rfl⟩
abbrev main_v280 : Ref sig .tc := ⟨.hbm, 506, rfl⟩
abbrev main_v281 : Ref sig .tc := ⟨.hbm, 507, rfl⟩
abbrev main_cst_55 : Ref sig .tc := ⟨.hbm, 508, rfl⟩
abbrev main_v282 : Ref sig .tc := ⟨.hbm, 509, rfl⟩
abbrev main_v283 : Ref sig .tc := ⟨.hbm, 510, rfl⟩
abbrev main_cst_56 : Ref sig .tc := ⟨.hbm, 511, rfl⟩
abbrev main_v284 : Ref sig .tc := ⟨.hbm, 512, rfl⟩
abbrev main_v285 : Ref sig .tc := ⟨.hbm, 513, rfl⟩
abbrev main_v286 : Ref sig .tc := ⟨.hbm, 514, rfl⟩
abbrev main_v287 : Ref sig .tc := ⟨.hbm, 515, rfl⟩
abbrev main_cst_57 : Ref sig .tc := ⟨.hbm, 516, rfl⟩
abbrev main_v288 : Ref sig .tc := ⟨.hbm, 517, rfl⟩
abbrev main_v289 : Ref sig .tc := ⟨.hbm, 518, rfl⟩
abbrev main_cst_58 : Ref sig .tc := ⟨.hbm, 519, rfl⟩
abbrev main_call10_v0 : Ref sig .tc := ⟨.hbm, 520, rfl⟩
abbrev main_call10_v1 : Ref sig .tc := ⟨.hbm, 521, rfl⟩
abbrev main_v290 : Ref sig .tc := ⟨.hbm, 522, rfl⟩
abbrev main_cst_59 : Ref sig .tc := ⟨.hbm, 523, rfl⟩
abbrev main_v291 : Ref sig .tc := ⟨.hbm, 524, rfl⟩
abbrev main_v292 : Ref sig .tc := ⟨.hbm, 525, rfl⟩
abbrev main_v293 : Ref sig .tc := ⟨.hbm, 526, rfl⟩
abbrev main_v294 : Ref sig .tc := ⟨.hbm, 527, rfl⟩
abbrev main_v295 : Ref sig .tc := ⟨.hbm, 528, rfl⟩
abbrev main_v296 : Ref sig .tc := ⟨.hbm, 529, rfl⟩
abbrev main_v297 : Ref sig .tc := ⟨.hbm, 530, rfl⟩
abbrev main_v298 : Ref sig .tc := ⟨.hbm, 531, rfl⟩
abbrev main_v299 : Ref sig .tc := ⟨.hbm, 532, rfl⟩
abbrev main_v300 : Ref sig .tc := ⟨.hbm, 533, rfl⟩
abbrev main_v301 : Ref sig .tc := ⟨.hbm, 534, rfl⟩
abbrev main_v302 : Ref sig .tc := ⟨.hbm, 535, rfl⟩
abbrev main_v303 : Ref sig .tc := ⟨.hbm, 536, rfl⟩
abbrev main_v304 : Ref sig .tc := ⟨.hbm, 537, rfl⟩
abbrev main_v305 : Ref sig .tc := ⟨.hbm, 538, rfl⟩
abbrev main_v306 : Ref sig .tc := ⟨.hbm, 539, rfl⟩
abbrev main_v307 : Ref sig .tc := ⟨.hbm, 540, rfl⟩
abbrev main_cst_60 : Ref sig .tc := ⟨.hbm, 541, rfl⟩
abbrev main_v308 : Ref sig .tc := ⟨.hbm, 542, rfl⟩
abbrev main_v309 : Ref sig .tc := ⟨.hbm, 543, rfl⟩
abbrev main_cst_61 : Ref sig .tc := ⟨.hbm, 544, rfl⟩
abbrev main_v310 : Ref sig .tc := ⟨.hbm, 545, rfl⟩
abbrev main_v311 : Ref sig .tc := ⟨.hbm, 546, rfl⟩
abbrev main_v312 : Ref sig .tc := ⟨.hbm, 547, rfl⟩
abbrev main_v313 : Ref sig .tc := ⟨.hbm, 548, rfl⟩
abbrev main_call11_cst : Ref sig .tc := ⟨.hbm, 549, rfl⟩
abbrev main_call11_v0 : Ref sig .tc := ⟨.hbm, 550, rfl⟩
abbrev main_call11_v1 : Ref sig .tc := ⟨.hbm, 551, rfl⟩
abbrev main_call11_v2 : Ref sig .tc := ⟨.hbm, 552, rfl⟩
abbrev main_call11_v3 : Ref sig .tc := ⟨.hbm, 553, rfl⟩
abbrev main_call11_v4 : Ref sig .tc := ⟨.hbm, 554, rfl⟩
abbrev main_call11_v5 : Ref sig .tc := ⟨.hbm, 555, rfl⟩
abbrev main_call11_v6 : Ref sig .tc := ⟨.hbm, 556, rfl⟩
abbrev main_call11_v7 : Ref sig .tc := ⟨.hbm, 557, rfl⟩
abbrev main_call11_v8 : Ref sig .tc := ⟨.hbm, 558, rfl⟩
abbrev main_call11_v9 : Ref sig .tc := ⟨.hbm, 559, rfl⟩
abbrev main_call11_v10 : Ref sig .tc := ⟨.hbm, 560, rfl⟩
abbrev main_call11_v11 : Ref sig .tc := ⟨.hbm, 561, rfl⟩
abbrev main_v314 : Ref sig .tc := ⟨.hbm, 562, rfl⟩
abbrev main_cst_62 : Ref sig .tc := ⟨.hbm, 563, rfl⟩
abbrev main_v315 : Ref sig .tc := ⟨.hbm, 564, rfl⟩
abbrev main_v316 : Ref sig .tc := ⟨.hbm, 565, rfl⟩
abbrev main_cst_63 : Ref sig .tc := ⟨.hbm, 566, rfl⟩
abbrev main_v317 : Ref sig .tc := ⟨.hbm, 567, rfl⟩
abbrev main_v318 : Ref sig .tc := ⟨.hbm, 568, rfl⟩
abbrev main_v319 : Ref sig .tc := ⟨.hbm, 569, rfl⟩
abbrev main_v320 : Ref sig .tc := ⟨.hbm, 570, rfl⟩
abbrev main_c_64 : Ref sig .tc := ⟨.hbm, 571, rfl⟩
abbrev main_c_65 : Ref sig .tc := ⟨.hbm, 572, rfl⟩
abbrev main_call12_v0 : Ref sig .tc := ⟨.hbm, 573, rfl⟩
abbrev main_call12_v1 : Ref sig .tc := ⟨.hbm, 574, rfl⟩
abbrev main_call12_v2 : Ref sig .tc := ⟨.hbm, 575, rfl⟩
abbrev main_call12_v3 : Ref sig .tc := ⟨.hbm, 576, rfl⟩
abbrev main_call12_v4 : Ref sig .tc := ⟨.hbm, 577, rfl⟩
abbrev main_v321 : Ref sig .tc := ⟨.hbm, 578, rfl⟩
abbrev main_v322 : Ref sig .tc := ⟨.hbm, 579, rfl⟩
abbrev main_v323 : Ref sig .tc := ⟨.hbm, 580, rfl⟩
abbrev main_v324 : Ref sig .tc := ⟨.hbm, 581, rfl⟩
abbrev main_v325 : Ref sig .tc := ⟨.hbm, 582, rfl⟩
abbrev main_v326 : Ref sig .tc := ⟨.hbm, 583, rfl⟩
abbrev main_call13_c : Ref sig .tc := ⟨.hbm, 584, rfl⟩
abbrev main_call13_v0 : Ref sig .tc := ⟨.hbm, 585, rfl⟩
abbrev main_call13_v1 : Ref sig .tc := ⟨.hbm, 586, rfl⟩
abbrev main_call13_c_0 : Ref sig .tc := ⟨.hbm, 587, rfl⟩
abbrev main_call13_v2 : Ref sig .tc := ⟨.hbm, 588, rfl⟩
abbrev main_call13_v3 : Ref sig .tc := ⟨.hbm, 589, rfl⟩
abbrev main_call13_v4 : Ref sig .tc := ⟨.hbm, 590, rfl⟩
abbrev main_call13_v5 : Ref sig .tc := ⟨.hbm, 591, rfl⟩
abbrev main_call13_c_1 : Ref sig .tc := ⟨.hbm, 592, rfl⟩
abbrev main_call13_c_2 : Ref sig .tc := ⟨.hbm, 593, rfl⟩
abbrev main_call13_v6 : Ref sig .tc := ⟨.hbm, 594, rfl⟩
abbrev main_call13_v7 : Ref sig .tc := ⟨.hbm, 595, rfl⟩
abbrev main_call13_v8 : Ref sig .tc := ⟨.hbm, 596, rfl⟩
abbrev main_call13_v9 : Ref sig .tc := ⟨.hbm, 597, rfl⟩
abbrev main_call13_v10 : Ref sig .tc := ⟨.hbm, 598, rfl⟩
abbrev main_call13_v11 : Ref sig .tc := ⟨.hbm, 599, rfl⟩
abbrev main_call13_c_3 : Ref sig .tc := ⟨.hbm, 600, rfl⟩
abbrev main_call13_v12 : Ref sig .tc := ⟨.hbm, 601, rfl⟩
abbrev main_call13_v13 : Ref sig .tc := ⟨.hbm, 602, rfl⟩
abbrev main_call13_v14 : Ref sig .tc := ⟨.hbm, 603, rfl⟩
abbrev main_call13_cst : Ref sig .tc := ⟨.hbm, 604, rfl⟩
abbrev main_call13_v15 : Ref sig .tc := ⟨.hbm, 605, rfl⟩
abbrev main_v327 : Ref sig .tc := ⟨.hbm, 606, rfl⟩
abbrev main_v328 : Ref sig .tc := ⟨.hbm, 607, rfl⟩
abbrev main_cst_66 : Ref sig .tc := ⟨.hbm, 608, rfl⟩
abbrev main_v329 : Ref sig .tc := ⟨.hbm, 609, rfl⟩
abbrev main_v330 : Ref sig .tc := ⟨.hbm, 610, rfl⟩
abbrev main_v331 : Ref sig .tc := ⟨.hbm, 611, rfl⟩
abbrev main_v332 : Ref sig .tc := ⟨.hbm, 612, rfl⟩
abbrev main_v333 : Ref sig .tc := ⟨.hbm, 613, rfl⟩
abbrev main_v334 : Ref sig .tc := ⟨.hbm, 614, rfl⟩
abbrev main_v335 : Ref sig .tc := ⟨.hbm, 615, rfl⟩
abbrev main_v336 : Ref sig .tc := ⟨.hbm, 616, rfl⟩
abbrev main_v337 : Ref sig .tc := ⟨.hbm, 617, rfl⟩
abbrev main_cst_67 : Ref sig .tc := ⟨.hbm, 618, rfl⟩
abbrev main_v338 : Ref sig .tc := ⟨.hbm, 619, rfl⟩
abbrev main_v339 : Ref sig .tc := ⟨.hbm, 620, rfl⟩
abbrev main_v340 : Ref sig .tc := ⟨.hbm, 621, rfl⟩
abbrev main_v341 : Ref sig .tc := ⟨.hbm, 622, rfl⟩
abbrev main_cst_68 : Ref sig .tc := ⟨.hbm, 623, rfl⟩
abbrev main_v342 : Ref sig .tc := ⟨.hbm, 624, rfl⟩
abbrev main_cst_69 : Ref sig .tc := ⟨.hbm, 625, rfl⟩
abbrev main_v343 : Ref sig .tc := ⟨.hbm, 626, rfl⟩
abbrev main_v344 : Ref sig .tc := ⟨.hbm, 627, rfl⟩
abbrev main_v345 : Ref sig .tc := ⟨.hbm, 628, rfl⟩
abbrev main_v346 : Ref sig .tc := ⟨.hbm, 629, rfl⟩
abbrev main_v347 : Ref sig .tc := ⟨.hbm, 630, rfl⟩
abbrev main_v348 : Ref sig .tc := ⟨.hbm, 631, rfl⟩
abbrev main_cst_70 : Ref sig .tc := ⟨.hbm, 632, rfl⟩
abbrev main_v349 : Ref sig .tc := ⟨.hbm, 633, rfl⟩
abbrev main_v350 : Ref sig .tc := ⟨.hbm, 634, rfl⟩
abbrev main_v351 : Ref sig .tc := ⟨.hbm, 635, rfl⟩
abbrev main_v352 : Ref sig .tc := ⟨.hbm, 636, rfl⟩
abbrev main_v353 : Ref sig .tc := ⟨.hbm, 637, rfl⟩
abbrev main_v354 : Ref sig .tc := ⟨.hbm, 638, rfl⟩
abbrev main_v355 : Ref sig .tc := ⟨.hbm, 639, rfl⟩
abbrev main_v356 : Ref sig .tc := ⟨.hbm, 640, rfl⟩
abbrev main_v357 : Ref sig .tc := ⟨.hbm, 641, rfl⟩
abbrev main_v358 : Ref sig .tc := ⟨.hbm, 642, rfl⟩
abbrev main_v359 : Ref sig .tc := ⟨.hbm, 643, rfl⟩
abbrev main_v360 : Ref sig .tc := ⟨.hbm, 644, rfl⟩
abbrev main_v361 : Ref sig .tc := ⟨.hbm, 645, rfl⟩
abbrev main_v362 : Ref sig .tc := ⟨.hbm, 646, rfl⟩
abbrev main_v363 : Ref sig .tc := ⟨.hbm, 647, rfl⟩
abbrev main_cst_71 : Ref sig .tc := ⟨.hbm, 648, rfl⟩
abbrev main_v364 : Ref sig .tc := ⟨.hbm, 649, rfl⟩
abbrev main_v365 : Ref sig .tc := ⟨.hbm, 650, rfl⟩
abbrev main_v366 : Ref sig .tc := ⟨.hbm, 651, rfl⟩
abbrev main_cst_72 : Ref sig .tc := ⟨.hbm, 652, rfl⟩
abbrev main_v367 : Ref sig .tc := ⟨.hbm, 653, rfl⟩
abbrev main_v368 : Ref sig .tc := ⟨.hbm, 654, rfl⟩
abbrev main_v369 : Ref sig .tc := ⟨.hbm, 655, rfl⟩
abbrev main_cst_73 : Ref sig .tc := ⟨.hbm, 656, rfl⟩
abbrev main_v370 : Ref sig .tc := ⟨.hbm, 657, rfl⟩
abbrev main_v371 : Ref sig .tc := ⟨.hbm, 658, rfl⟩
abbrev main_cst_74 : Ref sig .tc := ⟨.hbm, 659, rfl⟩
abbrev main_v372 : Ref sig .tc := ⟨.hbm, 660, rfl⟩
abbrev main_v373 : Ref sig .tc := ⟨.hbm, 661, rfl⟩
abbrev main_v374 : Ref sig .tc := ⟨.hbm, 662, rfl⟩
abbrev main_v375 : Ref sig .tc := ⟨.hbm, 663, rfl⟩
abbrev main_v376 : Ref sig .tc := ⟨.hbm, 664, rfl⟩
abbrev main_v377 : Ref sig .tc := ⟨.hbm, 665, rfl⟩
abbrev main_v378 : Ref sig .tc := ⟨.hbm, 666, rfl⟩
abbrev main_cst_75 : Ref sig .tc := ⟨.hbm, 667, rfl⟩
abbrev main_v379 : Ref sig .tc := ⟨.hbm, 668, rfl⟩
abbrev main_v380 : Ref sig .tc := ⟨.hbm, 669, rfl⟩
abbrev main_cst_76 : Ref sig .tc := ⟨.hbm, 670, rfl⟩
abbrev main_v381 : Ref sig .tc := ⟨.hbm, 671, rfl⟩
abbrev main_v382 : Ref sig .tc := ⟨.hbm, 672, rfl⟩
abbrev main_c_77 : Ref sig .tc := ⟨.hbm, 673, rfl⟩
abbrev main_call14_cst : Ref sig .tc := ⟨.hbm, 674, rfl⟩
abbrev main_call14_v0 : Ref sig .tc := ⟨.hbm, 675, rfl⟩
abbrev main_call14_v1 : Ref sig .tc := ⟨.hbm, 676, rfl⟩
abbrev main_call14_cst_0 : Ref sig .tc := ⟨.hbm, 677, rfl⟩
abbrev main_call14_v2 : Ref sig .tc := ⟨.hbm, 678, rfl⟩
abbrev main_call14_v3 : Ref sig .tc := ⟨.hbm, 679, rfl⟩
abbrev main_call14_v4 : Ref sig .tc := ⟨.hbm, 680, rfl⟩
abbrev main_call14_v5 : Ref sig .tc := ⟨.hbm, 681, rfl⟩
abbrev main_call14_v6 : Ref sig .tc := ⟨.hbm, 682, rfl⟩
abbrev main_call14_v7 : Ref sig .tc := ⟨.hbm, 683, rfl⟩
abbrev main_call14_cst_1 : Ref sig .tc := ⟨.hbm, 684, rfl⟩
abbrev main_call14_v8 : Ref sig .tc := ⟨.hbm, 685, rfl⟩
abbrev main_call14_cst_2 : Ref sig .tc := ⟨.hbm, 686, rfl⟩
abbrev main_call14_v9 : Ref sig .tc := ⟨.hbm, 687, rfl⟩
abbrev main_call14_v10 : Ref sig .tc := ⟨.hbm, 688, rfl⟩
abbrev main_call14_v11 : Ref sig .tc := ⟨.hbm, 689, rfl⟩
abbrev main_call14_v12 : Ref sig .tc := ⟨.hbm, 690, rfl⟩
abbrev main_call14_cst_3 : Ref sig .tc := ⟨.hbm, 691, rfl⟩
abbrev main_call14_v13 : Ref sig .tc := ⟨.hbm, 692, rfl⟩
abbrev main_call14_cst_4 : Ref sig .tc := ⟨.hbm, 693, rfl⟩
abbrev main_call14_call0_v0 : Ref sig .tc := ⟨.hbm, 694, rfl⟩
abbrev main_call14_call0_v1 : Ref sig .tc := ⟨.hbm, 695, rfl⟩
abbrev main_v383 : Ref sig .tc := ⟨.hbm, 696, rfl⟩
abbrev main_v384 : Ref sig .tc := ⟨.hbm, 697, rfl⟩
abbrev main_v385 : Ref sig .tc := ⟨.hbm, 698, rfl⟩
abbrev main_cst_78 : Ref sig .tc := ⟨.hbm, 699, rfl⟩
abbrev main_v386 : Ref sig .tc := ⟨.hbm, 700, rfl⟩
abbrev main_v387 : Ref sig .tc := ⟨.hbm, 701, rfl⟩
abbrev main_v388 : Ref sig .tc := ⟨.hbm, 702, rfl⟩
abbrev main_v389 : Ref sig .tc := ⟨.hbm, 703, rfl⟩
abbrev main_v390 : Ref sig .tc := ⟨.hbm, 704, rfl⟩
abbrev main_v391 : Ref sig .tc := ⟨.hbm, 705, rfl⟩
abbrev main_v392 : Ref sig .tc := ⟨.hbm, 706, rfl⟩
abbrev main_v393 : Ref sig .tc := ⟨.hbm, 707, rfl⟩
abbrev main_v394 : Ref sig .tc := ⟨.hbm, 708, rfl⟩
abbrev main_v395 : Ref sig .tc := ⟨.hbm, 709, rfl⟩
abbrev main_v396 : Ref sig .tc := ⟨.hbm, 710, rfl⟩
abbrev main_v397 : Ref sig .tc := ⟨.hbm, 711, rfl⟩
abbrev main_v398 : Ref sig .tc := ⟨.hbm, 712, rfl⟩
abbrev main_v399 : Ref sig .tc := ⟨.hbm, 713, rfl⟩
abbrev main_v400 : Ref sig .tc := ⟨.hbm, 714, rfl⟩
abbrev main_v401 : Ref sig .tc := ⟨.hbm, 715, rfl⟩
abbrev main_v402 : Ref sig .tc := ⟨.hbm, 716, rfl⟩
abbrev main_v403 : Ref sig .tc := ⟨.hbm, 717, rfl⟩
abbrev main_cst_79 : Ref sig .tc := ⟨.hbm, 718, rfl⟩
abbrev main_v404 : Ref sig .tc := ⟨.hbm, 719, rfl⟩
abbrev main_v405 : Ref sig .tc := ⟨.hbm, 720, rfl⟩
abbrev main_cst_80 : Ref sig .tc := ⟨.hbm, 721, rfl⟩
abbrev main_v406 : Ref sig .tc := ⟨.hbm, 722, rfl⟩
abbrev main_v407 : Ref sig .tc := ⟨.hbm, 723, rfl⟩
abbrev main_cst_81 : Ref sig .tc := ⟨.hbm, 724, rfl⟩
abbrev main_v408 : Ref sig .tc := ⟨.hbm, 725, rfl⟩
abbrev main_v409 : Ref sig .tc := ⟨.hbm, 726, rfl⟩
abbrev main_v410 : Ref sig .tc := ⟨.hbm, 727, rfl⟩
abbrev main_v411 : Ref sig .tc := ⟨.hbm, 728, rfl⟩
abbrev main_cst_82 : Ref sig .tc := ⟨.hbm, 729, rfl⟩
abbrev main_v412 : Ref sig .tc := ⟨.hbm, 730, rfl⟩
abbrev main_v413 : Ref sig .tc := ⟨.hbm, 731, rfl⟩
abbrev main_cst_83 : Ref sig .tc := ⟨.hbm, 732, rfl⟩
abbrev main_call15_v0 : Ref sig .tc := ⟨.hbm, 733, rfl⟩
abbrev main_call15_v1 : Ref sig .tc := ⟨.hbm, 734, rfl⟩
abbrev main_v414 : Ref sig .tc := ⟨.hbm, 735, rfl⟩
abbrev main_cst_84 : Ref sig .tc := ⟨.hbm, 736, rfl⟩
abbrev main_v415 : Ref sig .tc := ⟨.hbm, 737, rfl⟩
abbrev main_v416 : Ref sig .tc := ⟨.hbm, 738, rfl⟩
abbrev main_v417 : Ref sig .tc := ⟨.hbm, 739, rfl⟩
abbrev main_v418 : Ref sig .tc := ⟨.hbm, 740, rfl⟩
abbrev main_v419 : Ref sig .tc := ⟨.hbm, 741, rfl⟩
abbrev main_v420 : Ref sig .tc := ⟨.hbm, 742, rfl⟩
abbrev main_v421 : Ref sig .tc := ⟨.hbm, 743, rfl⟩
abbrev main_v422 : Ref sig .tc := ⟨.hbm, 744, rfl⟩
abbrev main_v423 : Ref sig .tc := ⟨.hbm, 745, rfl⟩
abbrev main_v424 : Ref sig .tc := ⟨.hbm, 746, rfl⟩
abbrev main_v425 : Ref sig .tc := ⟨.hbm, 747, rfl⟩
abbrev main_v426 : Ref sig .tc := ⟨.hbm, 748, rfl⟩
abbrev main_v427 : Ref sig .tc := ⟨.hbm, 749, rfl⟩
abbrev main_v428 : Ref sig .tc := ⟨.hbm, 750, rfl⟩
abbrev main_v429 : Ref sig .tc := ⟨.hbm, 751, rfl⟩
abbrev main_v430 : Ref sig .tc := ⟨.hbm, 752, rfl⟩
abbrev main_v431 : Ref sig .tc := ⟨.hbm, 753, rfl⟩
abbrev main_cst_85 : Ref sig .tc := ⟨.hbm, 754, rfl⟩
abbrev main_v432 : Ref sig .tc := ⟨.hbm, 755, rfl⟩
abbrev main_v433 : Ref sig .tc := ⟨.hbm, 756, rfl⟩
abbrev main_cst_86 : Ref sig .tc := ⟨.hbm, 757, rfl⟩
abbrev main_v434 : Ref sig .tc := ⟨.hbm, 758, rfl⟩
abbrev main_v435 : Ref sig .tc := ⟨.hbm, 759, rfl⟩
abbrev main_v436 : Ref sig .tc := ⟨.hbm, 760, rfl⟩
abbrev main_v437 : Ref sig .tc := ⟨.hbm, 761, rfl⟩
abbrev main_call16_cst : Ref sig .tc := ⟨.hbm, 762, rfl⟩
abbrev main_call16_v0 : Ref sig .tc := ⟨.hbm, 763, rfl⟩
abbrev main_call16_v1 : Ref sig .tc := ⟨.hbm, 764, rfl⟩
abbrev main_call16_v2 : Ref sig .tc := ⟨.hbm, 765, rfl⟩
abbrev main_call16_v3 : Ref sig .tc := ⟨.hbm, 766, rfl⟩
abbrev main_call16_v4 : Ref sig .tc := ⟨.hbm, 767, rfl⟩
abbrev main_call16_v5 : Ref sig .tc := ⟨.hbm, 768, rfl⟩
abbrev main_call16_v6 : Ref sig .tc := ⟨.hbm, 769, rfl⟩
abbrev main_call16_v7 : Ref sig .tc := ⟨.hbm, 770, rfl⟩
abbrev main_call16_v8 : Ref sig .tc := ⟨.hbm, 771, rfl⟩
abbrev main_call16_v9 : Ref sig .tc := ⟨.hbm, 772, rfl⟩
abbrev main_call16_v10 : Ref sig .tc := ⟨.hbm, 773, rfl⟩
abbrev main_call16_v11 : Ref sig .tc := ⟨.hbm, 774, rfl⟩
abbrev main_v438 : Ref sig .tc := ⟨.hbm, 775, rfl⟩
abbrev main_cst_87 : Ref sig .tc := ⟨.hbm, 776, rfl⟩
abbrev main_v439 : Ref sig .tc := ⟨.hbm, 777, rfl⟩
abbrev main_v440 : Ref sig .tc := ⟨.hbm, 778, rfl⟩
abbrev main_cst_88 : Ref sig .tc := ⟨.hbm, 779, rfl⟩
abbrev main_v441 : Ref sig .tc := ⟨.hbm, 780, rfl⟩
abbrev main_v442 : Ref sig .tc := ⟨.hbm, 781, rfl⟩
abbrev main_v443 : Ref sig .tc := ⟨.hbm, 782, rfl⟩
abbrev main_v444 : Ref sig .tc := ⟨.hbm, 783, rfl⟩
abbrev main_c_89 : Ref sig .tc := ⟨.hbm, 784, rfl⟩
abbrev main_c_90 : Ref sig .tc := ⟨.hbm, 785, rfl⟩
abbrev main_call17_v0 : Ref sig .tc := ⟨.hbm, 786, rfl⟩
abbrev main_call17_v1 : Ref sig .tc := ⟨.hbm, 787, rfl⟩
abbrev main_call17_v2 : Ref sig .tc := ⟨.hbm, 788, rfl⟩
abbrev main_call17_v3 : Ref sig .tc := ⟨.hbm, 789, rfl⟩
abbrev main_call17_v4 : Ref sig .tc := ⟨.hbm, 790, rfl⟩
abbrev main_v445 : Ref sig .tc := ⟨.hbm, 791, rfl⟩
abbrev main_v446 : Ref sig .tc := ⟨.hbm, 792, rfl⟩
abbrev main_v447 : Ref sig .tc := ⟨.hbm, 793, rfl⟩
abbrev main_v448 : Ref sig .tc := ⟨.hbm, 794, rfl⟩
abbrev main_v449 : Ref sig .tc := ⟨.hbm, 795, rfl⟩
abbrev main_v450 : Ref sig .tc := ⟨.hbm, 796, rfl⟩
abbrev main_call18_c : Ref sig .tc := ⟨.hbm, 797, rfl⟩
abbrev main_call18_v0 : Ref sig .tc := ⟨.hbm, 798, rfl⟩
abbrev main_call18_v1 : Ref sig .tc := ⟨.hbm, 799, rfl⟩
abbrev main_call18_c_0 : Ref sig .tc := ⟨.hbm, 800, rfl⟩
abbrev main_call18_v2 : Ref sig .tc := ⟨.hbm, 801, rfl⟩
abbrev main_call18_v3 : Ref sig .tc := ⟨.hbm, 802, rfl⟩
abbrev main_call18_v4 : Ref sig .tc := ⟨.hbm, 803, rfl⟩
abbrev main_call18_v5 : Ref sig .tc := ⟨.hbm, 804, rfl⟩
abbrev main_call18_c_1 : Ref sig .tc := ⟨.hbm, 805, rfl⟩
abbrev main_call18_c_2 : Ref sig .tc := ⟨.hbm, 806, rfl⟩
abbrev main_call18_v6 : Ref sig .tc := ⟨.hbm, 807, rfl⟩
abbrev main_call18_v7 : Ref sig .tc := ⟨.hbm, 808, rfl⟩
abbrev main_call18_v8 : Ref sig .tc := ⟨.hbm, 809, rfl⟩
abbrev main_call18_v9 : Ref sig .tc := ⟨.hbm, 810, rfl⟩
abbrev main_call18_v10 : Ref sig .tc := ⟨.hbm, 811, rfl⟩
abbrev main_call18_v11 : Ref sig .tc := ⟨.hbm, 812, rfl⟩
abbrev main_call18_c_3 : Ref sig .tc := ⟨.hbm, 813, rfl⟩
abbrev main_call18_v12 : Ref sig .tc := ⟨.hbm, 814, rfl⟩
abbrev main_call18_v13 : Ref sig .tc := ⟨.hbm, 815, rfl⟩
abbrev main_call18_v14 : Ref sig .tc := ⟨.hbm, 816, rfl⟩
abbrev main_call18_cst : Ref sig .tc := ⟨.hbm, 817, rfl⟩
abbrev main_call18_v15 : Ref sig .tc := ⟨.hbm, 818, rfl⟩
abbrev main_v451 : Ref sig .tc := ⟨.hbm, 819, rfl⟩
abbrev main_v452 : Ref sig .tc := ⟨.hbm, 820, rfl⟩
abbrev main_cst_91 : Ref sig .tc := ⟨.hbm, 821, rfl⟩
abbrev main_v453 : Ref sig .tc := ⟨.hbm, 822, rfl⟩
abbrev main_v454 : Ref sig .tc := ⟨.hbm, 823, rfl⟩
abbrev main_v455 : Ref sig .tc := ⟨.hbm, 824, rfl⟩
abbrev main_v456 : Ref sig .tc := ⟨.hbm, 825, rfl⟩
abbrev main_v457 : Ref sig .tc := ⟨.hbm, 826, rfl⟩
abbrev main_v458 : Ref sig .tc := ⟨.hbm, 827, rfl⟩
abbrev main_v459 : Ref sig .tc := ⟨.hbm, 828, rfl⟩
abbrev main_v460 : Ref sig .tc := ⟨.hbm, 829, rfl⟩
abbrev main_v461 : Ref sig .tc := ⟨.hbm, 830, rfl⟩
abbrev main_cst_92 : Ref sig .tc := ⟨.hbm, 831, rfl⟩
abbrev main_v462 : Ref sig .tc := ⟨.hbm, 832, rfl⟩
abbrev main_v463 : Ref sig .tc := ⟨.hbm, 833, rfl⟩
abbrev main_v464 : Ref sig .tc := ⟨.hbm, 834, rfl⟩
abbrev main_v465 : Ref sig .tc := ⟨.hbm, 835, rfl⟩
abbrev main_cst_93 : Ref sig .tc := ⟨.hbm, 836, rfl⟩
abbrev main_v466 : Ref sig .tc := ⟨.hbm, 837, rfl⟩
abbrev main_cst_94 : Ref sig .tc := ⟨.hbm, 838, rfl⟩
abbrev main_v467 : Ref sig .tc := ⟨.hbm, 839, rfl⟩
abbrev main_v468 : Ref sig .tc := ⟨.hbm, 840, rfl⟩
abbrev main_v469 : Ref sig .tc := ⟨.hbm, 841, rfl⟩
abbrev main_v470 : Ref sig .tc := ⟨.hbm, 842, rfl⟩
abbrev main_v471 : Ref sig .tc := ⟨.hbm, 843, rfl⟩
abbrev main_v472 : Ref sig .tc := ⟨.hbm, 844, rfl⟩
abbrev main_cst_95 : Ref sig .tc := ⟨.hbm, 845, rfl⟩
abbrev main_v473 : Ref sig .tc := ⟨.hbm, 846, rfl⟩
abbrev main_v474 : Ref sig .tc := ⟨.hbm, 847, rfl⟩
abbrev main_v475 : Ref sig .tc := ⟨.hbm, 848, rfl⟩
abbrev main_v476 : Ref sig .tc := ⟨.hbm, 849, rfl⟩
abbrev main_v477 : Ref sig .tc := ⟨.hbm, 850, rfl⟩
abbrev main_v478 : Ref sig .tc := ⟨.hbm, 851, rfl⟩
abbrev main_v479 : Ref sig .tc := ⟨.hbm, 852, rfl⟩
abbrev main_v480 : Ref sig .tc := ⟨.hbm, 853, rfl⟩
abbrev main_v481 : Ref sig .tc := ⟨.hbm, 854, rfl⟩
abbrev main_v482 : Ref sig .tc := ⟨.hbm, 855, rfl⟩
abbrev main_v483 : Ref sig .tc := ⟨.hbm, 856, rfl⟩
abbrev main_v484 : Ref sig .tc := ⟨.hbm, 857, rfl⟩
abbrev main_v485 : Ref sig .tc := ⟨.hbm, 858, rfl⟩
abbrev main_v486 : Ref sig .tc := ⟨.hbm, 859, rfl⟩
abbrev main_v487 : Ref sig .tc := ⟨.hbm, 860, rfl⟩
abbrev main_cst_96 : Ref sig .tc := ⟨.hbm, 861, rfl⟩
abbrev main_v488 : Ref sig .tc := ⟨.hbm, 862, rfl⟩
abbrev main_v489 : Ref sig .tc := ⟨.hbm, 863, rfl⟩
abbrev main_v490 : Ref sig .tc := ⟨.hbm, 864, rfl⟩
abbrev main_cst_97 : Ref sig .tc := ⟨.hbm, 865, rfl⟩
abbrev main_v491 : Ref sig .tc := ⟨.hbm, 866, rfl⟩
abbrev main_v492 : Ref sig .tc := ⟨.hbm, 867, rfl⟩
abbrev main_v493 : Ref sig .tc := ⟨.hbm, 868, rfl⟩
abbrev main_cst_98 : Ref sig .tc := ⟨.hbm, 869, rfl⟩
abbrev main_v494 : Ref sig .tc := ⟨.hbm, 870, rfl⟩
abbrev main_v495 : Ref sig .tc := ⟨.hbm, 871, rfl⟩
abbrev main_cst_99 : Ref sig .tc := ⟨.hbm, 872, rfl⟩
abbrev main_v496 : Ref sig .tc := ⟨.hbm, 873, rfl⟩
abbrev main_v497 : Ref sig .tc := ⟨.hbm, 874, rfl⟩
abbrev main_v498 : Ref sig .tc := ⟨.hbm, 875, rfl⟩
abbrev main_v499 : Ref sig .tc := ⟨.hbm, 876, rfl⟩
abbrev main_v500 : Ref sig .tc := ⟨.hbm, 877, rfl⟩
abbrev main_v501 : Ref sig .tc := ⟨.hbm, 878, rfl⟩
abbrev main_v502 : Ref sig .tc := ⟨.hbm, 879, rfl⟩
abbrev main_cst_100 : Ref sig .tc := ⟨.hbm, 880, rfl⟩
abbrev main_v503 : Ref sig .tc := ⟨.hbm, 881, rfl⟩
abbrev main_v504 : Ref sig .tc := ⟨.hbm, 882, rfl⟩
abbrev main_cst_101 : Ref sig .tc := ⟨.hbm, 883, rfl⟩
abbrev main_v505 : Ref sig .tc := ⟨.hbm, 884, rfl⟩
abbrev main_v506 : Ref sig .tc := ⟨.hbm, 885, rfl⟩
abbrev main_c_102 : Ref sig .tc := ⟨.hbm, 886, rfl⟩
abbrev main_call19_cst : Ref sig .tc := ⟨.hbm, 887, rfl⟩
abbrev main_call19_v0 : Ref sig .tc := ⟨.hbm, 888, rfl⟩
abbrev main_call19_v1 : Ref sig .tc := ⟨.hbm, 889, rfl⟩
abbrev main_call19_cst_0 : Ref sig .tc := ⟨.hbm, 890, rfl⟩
abbrev main_call19_v2 : Ref sig .tc := ⟨.hbm, 891, rfl⟩
abbrev main_call19_v3 : Ref sig .tc := ⟨.hbm, 892, rfl⟩
abbrev main_call19_v4 : Ref sig .tc := ⟨.hbm, 893, rfl⟩
abbrev main_call19_v5 : Ref sig .tc := ⟨.hbm, 894, rfl⟩
abbrev main_call19_v6 : Ref sig .tc := ⟨.hbm, 895, rfl⟩
abbrev main_call19_v7 : Ref sig .tc := ⟨.hbm, 896, rfl⟩
abbrev main_call19_cst_1 : Ref sig .tc := ⟨.hbm, 897, rfl⟩
abbrev main_call19_v8 : Ref sig .tc := ⟨.hbm, 898, rfl⟩
abbrev main_call19_cst_2 : Ref sig .tc := ⟨.hbm, 899, rfl⟩
abbrev main_call19_v9 : Ref sig .tc := ⟨.hbm, 900, rfl⟩
abbrev main_call19_v10 : Ref sig .tc := ⟨.hbm, 901, rfl⟩
abbrev main_call19_v11 : Ref sig .tc := ⟨.hbm, 902, rfl⟩
abbrev main_call19_v12 : Ref sig .tc := ⟨.hbm, 903, rfl⟩
abbrev main_call19_cst_3 : Ref sig .tc := ⟨.hbm, 904, rfl⟩
abbrev main_call19_v13 : Ref sig .tc := ⟨.hbm, 905, rfl⟩
abbrev main_call19_cst_4 : Ref sig .tc := ⟨.hbm, 906, rfl⟩
abbrev main_call19_call0_v0 : Ref sig .tc := ⟨.hbm, 907, rfl⟩
abbrev main_call19_call0_v1 : Ref sig .tc := ⟨.hbm, 908, rfl⟩
abbrev main_v507 : Ref sig .tc := ⟨.hbm, 909, rfl⟩
abbrev main_v508 : Ref sig .tc := ⟨.hbm, 910, rfl⟩
abbrev main_v509 : Ref sig .tc := ⟨.hbm, 911, rfl⟩
abbrev main_cst_103 : Ref sig .tc := ⟨.hbm, 912, rfl⟩
abbrev main_v510 : Ref sig .tc := ⟨.hbm, 913, rfl⟩
abbrev main_v511 : Ref sig .tc := ⟨.hbm, 914, rfl⟩
abbrev main_v512 : Ref sig .tc := ⟨.hbm, 915, rfl⟩
abbrev main_v513 : Ref sig .tc := ⟨.hbm, 916, rfl⟩
abbrev main_v514 : Ref sig .tc := ⟨.hbm, 917, rfl⟩
abbrev main_v515 : Ref sig .tc := ⟨.hbm, 918, rfl⟩
abbrev main_v516 : Ref sig .tc := ⟨.hbm, 919, rfl⟩
abbrev main_v517 : Ref sig .tc := ⟨.hbm, 920, rfl⟩
abbrev main_v518 : Ref sig .tc := ⟨.hbm, 921, rfl⟩
abbrev main_v519 : Ref sig .tc := ⟨.hbm, 922, rfl⟩
abbrev main_v520 : Ref sig .tc := ⟨.hbm, 923, rfl⟩
abbrev main_v521 : Ref sig .tc := ⟨.hbm, 924, rfl⟩
abbrev main_v522 : Ref sig .tc := ⟨.hbm, 925, rfl⟩
abbrev main_v523 : Ref sig .tc := ⟨.hbm, 926, rfl⟩
abbrev main_v524 : Ref sig .tc := ⟨.hbm, 927, rfl⟩
abbrev main_v525 : Ref sig .tc := ⟨.hbm, 928, rfl⟩
abbrev main_v526 : Ref sig .tc := ⟨.hbm, 929, rfl⟩
abbrev main_v527 : Ref sig .tc := ⟨.hbm, 930, rfl⟩
abbrev main_cst_104 : Ref sig .tc := ⟨.hbm, 931, rfl⟩
abbrev main_v528 : Ref sig .tc := ⟨.hbm, 932, rfl⟩
abbrev main_v529 : Ref sig .tc := ⟨.hbm, 933, rfl⟩
abbrev main_cst_105 : Ref sig .tc := ⟨.hbm, 934, rfl⟩
abbrev main_v530 : Ref sig .tc := ⟨.hbm, 935, rfl⟩
abbrev main_v531 : Ref sig .tc := ⟨.hbm, 936, rfl⟩
abbrev main_cst_106 : Ref sig .tc := ⟨.hbm, 937, rfl⟩
abbrev main_v532 : Ref sig .tc := ⟨.hbm, 938, rfl⟩
abbrev main_v533 : Ref sig .tc := ⟨.hbm, 939, rfl⟩
abbrev main_v534 : Ref sig .tc := ⟨.hbm, 940, rfl⟩
abbrev main_v535 : Ref sig .tc := ⟨.hbm, 941, rfl⟩
abbrev main_cst_107 : Ref sig .tc := ⟨.hbm, 942, rfl⟩
abbrev main_v536 : Ref sig .tc := ⟨.hbm, 943, rfl⟩
abbrev main_v537 : Ref sig .tc := ⟨.hbm, 944, rfl⟩
abbrev main_cst_108 : Ref sig .tc := ⟨.hbm, 945, rfl⟩
abbrev main_call20_v0 : Ref sig .tc := ⟨.hbm, 946, rfl⟩
abbrev main_call20_v1 : Ref sig .tc := ⟨.hbm, 947, rfl⟩
abbrev main_v538 : Ref sig .tc := ⟨.hbm, 948, rfl⟩
abbrev main_cst_109 : Ref sig .tc := ⟨.hbm, 949, rfl⟩
abbrev main_v539 : Ref sig .tc := ⟨.hbm, 950, rfl⟩
abbrev main_v540 : Ref sig .tc := ⟨.hbm, 951, rfl⟩
abbrev main_v541 : Ref sig .tc := ⟨.hbm, 952, rfl⟩
abbrev main_v542 : Ref sig .tc := ⟨.hbm, 953, rfl⟩
abbrev main_v543 : Ref sig .tc := ⟨.hbm, 954, rfl⟩
abbrev main_v544 : Ref sig .tc := ⟨.hbm, 955, rfl⟩
abbrev main_v545 : Ref sig .tc := ⟨.hbm, 956, rfl⟩
abbrev main_v546 : Ref sig .tc := ⟨.hbm, 957, rfl⟩
abbrev main_v547 : Ref sig .tc := ⟨.hbm, 958, rfl⟩
abbrev main_v548 : Ref sig .tc := ⟨.hbm, 959, rfl⟩
abbrev main_v549 : Ref sig .tc := ⟨.hbm, 960, rfl⟩
abbrev main_v550 : Ref sig .tc := ⟨.hbm, 961, rfl⟩
abbrev main_v551 : Ref sig .tc := ⟨.hbm, 962, rfl⟩
abbrev main_v552 : Ref sig .tc := ⟨.hbm, 963, rfl⟩
abbrev main_v553 : Ref sig .tc := ⟨.hbm, 964, rfl⟩
abbrev main_v554 : Ref sig .tc := ⟨.hbm, 965, rfl⟩

abbrev nD : Nat := 1
abbrev τ : Topo := Topo.v7x

variable {F : FTy → Type} [FloatOps F]
-- ==== Proof.Gather.lean ====
/-
  The SparseCore call: 32 tasks (2 SparseCores × 16 vector subcores), task `(c, s)` fetching the 128 token ids at
  `128·(2s + c)` of the flattened id list, gathering the rows of the embedding table they name by ONE indirect stream, and
  writing them out to rows `[128·(2s + c), 128·(2s + c) + 128)` of the result. This module states what the call's
  handshakes carry and proves one task at a symbolic `(c, s)`, WITH ITS VALUE: the rows a task hands back are those of
  `gathered`, the whole result as one function of the ids and the table. Every task reads all of the table at once: each is
  dealt a read token of it.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the two pipelines', the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipelines' rounds library: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-- Neither pipeline prefetches a table. -/
abbrev adm : (p : Fin 2) → (pcfgs (F := F) p).Adm := fun p => (cfgs p).toPCfg_adm

/-- The ghost state of both pipelines' staging cells on one core. -/
abbrev pipeGhost (d : Dev nD) : sProp 𝕄 :=
  iprop((bigSep Finset.univ fun p : Fin 2 => Pipeline.cellsGhost cfgs (EP (F := F)) p d) ∗ bigSep Finset.univ fun p : Fin 2 => Pipeline.toksInit cfgs (EP (F := F)) p d)

/-! ## The three buffers, and the call's value -/

abbrev iLoc (d : Dev nD) : Loc nD τ sig := (SparseCore.T d).loc main_v0
abbrev xLoc (d : Dev nD) : Loc nD τ sig := (SparseCore.T d).loc main_arg1
abbrev oLoc (d : Dev nD) : Loc nD τ sig := (SparseCore.T d).loc main_v1

/-- The call's result: row `r` of it is the table's row the id list names at `r` (ids below 8192: `Below`). -/
def gathered (ids : S4096.Idx → BitVec 32) (tab : S8192x128.Idx → Elt F .f32) : S4096x128.Idx → Elt F .f32 :=
  fun j => tab (ix2 ⟨(ids (ix1 (j 0))).toNat % 8192, Nat.mod_lt _ (by decide)⟩ (j 1))

/-- Every id names a row of the table. -/
def Below (ids : S4096.Idx → BitVec 32) : Prop := ∀ j, (ids j).toNat < 8192

local notation "iV" => (Memref.whole Cert.KernelIdeal.main_v0_scv : Memref Cert.KernelIdeal.sig Kind.scVector Space.hbm Cert.KernelIdeal.S4096 EltTy.i32)
local notation "xV" => (Memref.whole Cert.KernelIdeal.main_arg1_scv : Memref Cert.KernelIdeal.sig Kind.scVector Space.hbm Cert.KernelIdeal.S8192x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

theorem idiv : 32 ∣ S4096.size 0 := ⟨128, rfl⟩
theorem odiv : 32 ∣ S4096x128.size 0 := ⟨128, rfl⟩
/-- Task `t`'s stretch of the ids and its block of rows of the result. -/
abbrev iPart (t : Fin 32) : Rect S4096 := Rect.part (s := S4096) (a₀ := 0) idiv t
abbrev oPart (t : Fin 32) : Rect S4096x128 := Rect.part (s := S4096x128) (a₀ := 0) odiv t
abbrev iSet (t : Fin 32) : Finset S4096.Idx := ((iV).view.slice (iPart t)).set
abbrev oSet (t : Fin 32) : Finset S4096x128.Idx := ((oV).view.slice (oPart t)).set

/-- Task `(c, s)` counts as task `2s + c`. -/
def task (c : Fin 2) (s : Fin 16) : Fin 32 := ⟨2 * s.val + c.val, by omega⟩

/-! ## What the handshakes carry -/

variable (fi : (d : Dev nD) → Buf (Elt F) (iLoc d)) (fx : (d : Dev nD) → Buf (Elt F) (xLoc d)) (fo : (d : Dev nD) → Buf (Elt F) (oLoc d))

abbrev G (d : Dev nD) : Buf (Elt F) (oLoc d) := gathered (F := F) (fi d) (fx d)

/-- A task's operands: its ids, its read token of the table, its rows of the result at contents `f`. -/
abbrev taskPts (f : (d : Dev nD) → Buf (Elt F) (oLoc d)) (d : Dev nD) (t : Fin 32) : sProp 𝕄 :=
  iprop((iLoc d ↦[iSet t]{fullShare} fi d) ∗ (xLoc d ↦{Transfers.shareTok fullShare 32 t} fx d) ∗ oLoc d ↦[oSet t]{fullShare} f d)

/-- The call takes, for each SparseCore, its sixteen tasks' operands, the result's rows as they were; and brings them
    back, the result's rows those of `gathered`. -/
def P : (K (F := F)).Pay (nD := nD) (Val := Elt F) (Name := ℕ) (U := UU) where
  st := fun q d c => match q with | 0 => bigSep Finset.univ fun s : Fin 16 => taskPts fi fx fo d (task (Fin.cast nCore_zero c) s)
  dn := fun q d c => match q with | 0 => bigSep Finset.univ fun s : Fin 16 => taskPts fi fx (G fi fx) d (task (Fin.cast nCore_zero c) s)
  go := fun q d c i => match q with | 0 => taskPts fi fx fo d (task (Fin.cast nCore_zero c) (Fin.cast nSub_zero i))
  td := fun q d c i => match q with | 0 => taskPts fi fx (G fi fx) d (task (Fin.cast nCore_zero c) (Fin.cast nSub_zero i))
  x := fun _ _ => iprop(emp)

instance P_storable : (P (F := F) fi fx fo).IsStorable where
  st q d c := match q with
    | 0 => (inferInstance : BI.Storable (upEmb : UEmb _ 𝕄) (bigSep Finset.univ fun s : Fin 16 => taskPts fi fx fo d (task (Fin.cast nCore_zero c) s)))
  dn q d c := match q with
    | 0 => (inferInstance : BI.Storable (upEmb : UEmb _ 𝕄) (bigSep Finset.univ fun s : Fin 16 => taskPts fi fx (G fi fx) d (task (Fin.cast nCore_zero c) s)))
  go q d c i := match q with
    | 0 => (inferInstance : BI.Storable (upEmb : UEmb _ 𝕄) (taskPts fi fx fo d (task (Fin.cast nCore_zero c) (Fin.cast nSub_zero i))))
  td q d c i := match q with
    | 0 => (inferInstance : BI.Storable (upEmb : UEmb _ 𝕄) (taskPts fi fx (G fi fx) d (task (Fin.cast nCore_zero c) (Fin.cast nSub_zero i))))

/-! ## The task -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The task's number. -/
abbrev tL (L : grid0.Coords) : Fin 32 := task (Fin.cast bound_zero (L 0)) (Fin.cast bound_one (L 1))

abbrev iRectK (L : grid0.Coords) : Rect S4096 := Rect.unit (s := S4096) (k0_off1 L) S128.size (k0_off1_inb L)
abbrev oRectK (L : grid0.Coords) : Rect S4096x128 := Rect.unit (s := S4096x128) (k0_off2 L) S128x128.size (k0_off2_inb L)
abbrev iMemK (L : grid0.Coords) : Memref sig .scVector .hbm S128 .i32 := (iV).slice (iRectK L) (fun _ => rfl)
abbrev oMemK (L : grid0.Coords) : Memref sig .scVector .hbm S128x128 .f32 := (oV).slice (oRectK L) (fun _ => rfl)
abbrev xMemK : Memref sig .scVector .hbm S8192x128 .f32 := (xV).slice (Rect.unit (s := S8192x128) ![0, 0] S8192x128.size inb_S8192x128_S8192x128_0_0) (fun _ => rfl)

theorem tL_val : (tL L).val = 2 * (L 1).val + (L 0).val := rfl

theorem iRectK_eq : iRectK L = iPart (tL L) := by
  have ht := tL_val L
  generalize tL L = t at ht ⊢
  unfold iRectK iPart Rect.part Rect.block
  congr 1 <;> funext a
  · rw [k0_off1_eq]
    match a with
    | 0 => simp [Shape.partIx, Shape.partSize, ht]; omega
  · match a with
    | 0 => simp [Shape.partSize]
theorem oRectK_eq : oRectK L = oPart (tL L) := by
  have ht := tL_val L
  generalize tL L = t at ht ⊢
  unfold oRectK oPart Rect.part Rect.block
  congr 1 <;> funext a
  · rw [k0_off2_eq]
    match a with
    | 0 => simp [Shape.partIx, Shape.partSize, ht]; omega
    | 1 => simp [Shape.partIx, Shape.partSize]
  · match a with
    | 0 => simp [Shape.partSize]
    | 1 => simp [Shape.partSize]

theorem set_iMemK : (iMemK L).view.set = iSet (tL L) := by
  show ((iV).view.slice (iRectK L)).set = ((iV).view.slice (iPart (tL L))).set
  exact iRectK_eq L ▸ rfl
theorem set_oMemK : (oMemK L).view.set = oSet (tL L) := by
  show ((oV).view.slice (oRectK L)).set = ((oV).view.slice (oPart (tL L))).set
  exact oRectK_eq L ▸ rfl

theorem pts_iMemK (f : Buf (Elt F) (iLoc d)) :
    ((iMemK L).view.loc (V d (cV L) (jV L)) ↦[(iMemK L).view.set]{fullShare} f : sProp 𝕄) = iLoc d ↦[iSet (tL L)]{fullShare} f := by
  rw [set_iMemK]
theorem pts_oMemK (f : Buf (Elt F) (oLoc d)) :
    ((oMemK L).view.loc (V d (cV L) (jV L)) ↦[(oMemK L).view.set]{fullShare} f : sProp 𝕄) = oLoc d ↦[oSet (tL L)]{fullShare} f := by
  rw [set_oMemK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What the fetch landed in the id scratch: the task's stretch of the ids. -/
theorem fetched (fs : Buf (Elt F) ((V d (cV L) (jV L)).loc cc0_scratch0)) (pay : S128.Idx → Elt F .i32)
    (hpay : pay = (iMemK L).view.read (Elt F) (fi d)) (x : S128.Idx) :
    (sV).view.read (Elt F) (View.write (Elt F) (sV).view fs pay Finset.univ) x = fi d ((iRectK L).emb x) := by
  subst hpay
  rw [View.read_write_univ]
  exact (View.read_apply _ _).trans (cast_eq _ _)

/-- The offsets the stream reads name rows of the table. -/
theorem fetched_lt (hb : Below (fi d)) (fs : Buf (Elt F) ((V d (cV L) (jV L)).loc cc0_scratch0)) (pay : S128.Idx → Elt F .i32)
    (hpay : pay = (iMemK L).view.read (Elt F) (fi d)) :
    ∀ x, ((sV).view.read (Elt F) (View.write (Elt F) (sV).view fs pay Finset.univ) x).toNat < S8192x128.size gathers_S8192x128_S128x128.axis := by
  intro x; rw [fetched (F := F) fi d L fs pay hpay]; exact hb _

/-- A list of 128 words in row-major order is itself. -/
theorem rowMajor_symm_128 (k : Fin S128.numel) : S128.rowMajor.symm k = ix1 (k.cast (by decide)) := by
  rw [Equiv.symm_apply_eq]
  exact Fin.ext (Shape.rowMajor_val_one (d := ![128]) (ix1 (k.cast (by decide)))).symm

/-- The gathered rows the task writes out, element by element: those of `gathered` at the task's rows. -/
theorem payload_eq (hb : Below (fi d)) (w : S128.Idx → Elt F .i32) (hw : ∀ x, w x = fi d ((iRectK L).emb x))
    (hin : ∀ x, (w x).toNat < S8192x128.size gathers_S8192x128_S128x128.axis) (hn : S128.numel = S128x128.size gathers_S8192x128_S128x128.axis') (x : S128x128.Idx) :
    SparseCore.gatherPayload gathers_S8192x128_S128x128 ((xMemK).view.read (Elt F) (fx d)) (SparseCore.rows w hn hin) x
      = G fi fx d ((oRectK L).emb x) := by
  have e0 : (((oRectK L).emb x) 0).val = ((iRectK L).emb (ix1 (x 0)) 0).val := by
    rw [Rect.emb_apply, Rect.emb_apply]
    show k0_off2 L 0 + 1 * (x 0).val = k0_off1 L 0 + 1 * (x 0).val
    rw [k0_off1_eq, k0_off2_eq]; rfl
  have e1 : (((oRectK L).emb x) 1).val = (x 1).val := by
    rw [Rect.emb_apply]
    show k0_off2 L 1 + 1 * (x 1).val = (x 1).val
    rw [k0_off2_eq]; simp
  have ei : ix1 (((oRectK L).emb x) 0) = (iRectK L).emb (ix1 (x 0)) := by
    funext a; match a with | ⟨0, _⟩ => exact Fin.ext e0
  show (xMemK).view.read (Elt F) (fx d) (gathers_S8192x128_S128x128.idx (SparseCore.rows w hn hin) x) = gathered (F := F) (fi d) (fx d) ((oRectK L).emb x)
  rw [show (xMemK).view.read (Elt F) (fx d) (gathers_S8192x128_S128x128.idx (SparseCore.rows w hn hin) x)
      = fx d ((xMemK).view.emb (gathers_S8192x128_S128x128.idx (SparseCore.rows w hn hin) x)) from (View.read_apply _ _).trans (cast_eq _ _)]
  unfold gathered
  refine congrArg (fx d) ?_
  funext a
  apply Fin.ext
  match a with
  | ⟨0, _⟩ =>
    show (![0, 0] : Fin 2 → ℕ) 0 + 1 * ((gathers_S8192x128_S128x128.idx (SparseCore.rows w hn hin) x) gathers_S8192x128_S128x128.axis).val
      = (fi d (ix1 (((oRectK L).emb x) 0))).toNat % 8192
    rw [Shape.Gathers.idx_axis]
    refine Eq.trans ?_ (congrArg (fun j => (fi d j).toNat % 8192) ei.symm)
    refine Eq.trans ?_ (Nat.mod_eq_of_lt (hb _)).symm
    show 0 + 1 * (w (S128.rowMajor.symm ((x 0).cast hn.symm))).toNat = _
    rw [rowMajor_symm_128, hw]
    simp only [Nat.zero_add, Nat.one_mul]; rfl
  | ⟨1, _⟩ =>
    show (![0, 0] : Fin 2 → ℕ) 1 + 1 * ((gathers_S8192x128_S128x128.idx (SparseCore.rows w hn hin) x) 1).val = (((oRectK L).emb x) 1).val
    rw [Shape.Gathers.idx_of_ne _ _ _ _ (by decide), e1]
    simp

/-- The task's rows of the result after its write-out are those of `gathered`. -/
theorem out_rows (f : Buf (Elt F) (oLoc d)) (pay : S128x128.Idx → Elt F .f32) (hp : ∀ x, pay x = G fi fx d ((oRectK L).emb x)) :
    ((oMemK L).view.loc (V d (cV L) (jV L)) ↦[(oMemK L).view.set]{fullShare} (oMemK L).view.writes (Elt F) f [⟨Rect.whole S128x128, pay⟩] : sProp 𝕄)
      = oLoc d ↦[oSet (tL L)]{fullShare} G fi fx d := by
  rw [← pts_oMemK, ← View.write_univ_eq_writes_whole, View.writes_nil]
  refine pointsTo_congr fun i hi => ?_
  obtain ⟨x, -, rfl⟩ := Finset.mem_map.mp hi
  rw [View.write_emb_of_mem _ _ (Finset.mem_univ x), hp]
  exact cast_eq _ _

variable [FloatOps F]

set_option maxHeartbeats 4000000 in
/-- The task on vector subcore `(L 0, L 1)` of device `d`: the fetch of its ids and its wait, the indirect gather and its
    wait, the write-out and its wait. -/
theorem tile_body (hF : (K (F := F)).Facts) (hb : ∀ d, Below (fi d)) (O : CellTallies nD τ sig (HIx 1)) (W : Waits sig (HIx 1)) (hO : ∀ g, O g none = 0) :
    iprop(levAts (K (F := F)).L (K (F := F)).lev ∗ emp
        ∗ taskPts fi fx fo d (tL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L iV (Memref.isWhole_whole _) xV (Memref.isWhole_whole _) oV (Memref.isWhole_whole _)
            sV (Memref.isWhole_whole _) rV (Memref.isWhole_whole _) cc0_scratch2 cc0_scoped0 cc0_scoped1)
          fun _ => iprop(taskPts fi fx (G fi fx) d (tL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iMemK (F := F) d L _).symm) $$ Hi
  ihave Ho' := (Entails.of_eq (pts_oMemK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- the indirect gather over the fetched list: the elements of the table it reads, the row buffer, the list whole
  ihave Hxs := (pointsTo_split_subset (q := Transfers.shareTok fullShare 32 (tL L)) (f := fx d) (S := Finset.univ) (Finset.subset_univ (xMemK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 fi d L) Finset.univ : sProp 𝕄)
      = (sV).view.loc (V d (cV L) (jV L)) ↦[(sV).view.set]{fullShare} View.write (Elt F) (sV).view fs (tile_body.sl.dma0 fi d L) Finset.univ
      by rw [hss])) $$ Hs'
  have hN : ∀ h : S8192x128.Gathers 0 S128x128, ∑ j, ((rV).slice (S128x128.rowRect h.axis' j) (S128x128.stride_rowRect h.axis' j)).view.dmaCredit
      = (rV).view.dmaCredit := by decide
  have hin := fetched_lt fi d L (hb d) fs (tile_body.sl.dma0 fi d L) rfl
  iapply (SparseCore.wp_indirectGatherLocal countersEmb 𝒱₀ (V d (cV L) (jV L)) none (hg := gathers_S8192x128_S128x128) (default : HIx 1)
      (rV).view.dmaCredit (hN _) (by decide) hin) $$ [Hxs Hr'' Hs'' HsemB]
  · isplitl [Hxs]; · iexact Hxs
    isplitl [Hr'']; · iexact Hr''
    isplitl [Hs'']; · iexact Hs''
    iexact HsemB
  iintro Hfl
  sl_exec
  -- its wait: the row buffer at the gathered rows, the table's elements and the list back
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := Transfers.shareTok fullShare 32 (tL L)) (f := fx d) (S := Finset.univ) (Finset.subset_univ (xMemK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iapply (Entails.of_eq (pts_iMemK (F := F) d L _)); iexact Hi'
    isplitl [Hx']; · iexact Hx'
    iapply (Entails.of_eq (out_rows (F := F) fi fx d L (fo d) _ ?_)) $$ Ho'
    intro x
    unfold tile_body.sl.dma0_1
    refine (congrFun (View.read_write_univ (v := (rV).view) fr _) x).trans ?_
    exact payload_eq (F := F) fi fx d L (hb d) _ (fetched (F := F) fi d L fs _ rfl) hin rfl x
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          iV (Memref.isWhole_whole _) xV (Memref.isWhole_whole _) oV (Memref.isWhole_whole _)
          sV (Memref.isWhole_whole _) rV (Memref.isWhole_whole _) cc0_scratch2 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hb : ∀ d, Below (fi d)) : (K (F := F)).TileObl (D (F := F)) 𝒱 (P fi fx fo) v₀ 0 := by
  intro d c i O W hO _ _
  simp only [show (P (F := F) fi fx fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fi fx fo d (coordsV ⟨_, hci.1⟩ ⟨_, hci.2⟩) hF hb O W hO).trans (wp_mono frame _ _ fun _ => obl_post)

end Tile

variable [FloatOps F]

/-- A SparseCore's operands are its tasks', as the handshake carries them. -/
theorem vecSplit : (K (F := F)).VecSplit' (P fi fx fo) 0 := by
  intro d c
  show (bigSep Finset.univ fun s : Fin 16 => taskPts fi fx fo d (task (Fin.cast nCore_zero c) s)) ⊢ |={Set.univ}=> iprop(
      (bigSep Finset.univ fun s : Fin 16 => taskPts fi fx fo d (task (Fin.cast nCore_zero c) s))
      ∗ ((bigSep Finset.univ fun s : Fin 16 => taskPts fi fx (G fi fx) d (task (Fin.cast nCore_zero c) s))
          -∗ bigSep Finset.univ fun s : Fin 16 => taskPts fi fx (G fi fx) d (task (Fin.cast nCore_zero c) s)))
  iintro H; imodintro
  isplitl [H]; · iexact H
  iintro H; iexact H

/-! ## The three buffers dealt to the tasks and joined again -/

theorem iSet_eq (t : Fin 32) : iSet t = (iPart t).set := by
  show ((View.whole (main_v0_scv : Ref sig .scVector)).slice (iPart t)).set = _
  rw [View.set_slice]; exact Finset.map_refl
theorem oSet_eq (t : Fin 32) : oSet t = (oPart t).set := by
  show ((View.whole (main_v1_scv : Ref sig .scVector)).slice (oPart t)).set = _
  rw [View.set_slice]; exact Finset.map_refl
theorem iSets_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint idiv h
theorem oSets_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
theorem iSets_cover : (Finset.univ : Finset (Fin 32)).biUnion iSet = Finset.univ :=
  (Finset.biUnion_congr rfl fun i _ => iSet_eq i).trans (Rect.biUnion_part idiv)
theorem oSets_cover : (Finset.univ : Finset (Fin 32)).biUnion oSet = Finset.univ :=
  (Finset.biUnion_congr rfl fun i _ => oSet_eq i).trans (Rect.biUnion_part odiv)

theorem iPts_tasks (d : Dev nD) (f : Buf (Elt F) (iLoc d)) :
    (iLoc d ↦{fullShare} f : sProp 𝕄) = bigSep Finset.univ fun t : Fin 32 => iLoc d ↦[iSet t]{fullShare} f := by
  rw [← pointsTo_biUnion Finset.univ (ℓ := iLoc d) iSet iSets_disjoint, iSets_cover]
theorem oPts_tasks (d : Dev nD) (f : Buf (Elt F) (oLoc d)) :
    (oLoc d ↦{fullShare} f : sProp 𝕄) = bigSep Finset.univ fun t : Fin 32 => oLoc d ↦[oSet t]{fullShare} f := by
  rw [← pointsTo_biUnion Finset.univ (ℓ := oLoc d) oSet oSets_disjoint, oSets_cover]

/-- The tasks, SparseCore by SparseCore. -/
def taskEquiv : Fin 2 × Fin 16 ≃ Fin 32 where
  toFun p := task p.1 p.2
  invFun t := (⟨t.val % 2, Nat.mod_lt _ (by decide)⟩, ⟨t.val / 2, by omega⟩)
  left_inv p := by
    rcases p with ⟨c, s⟩
    refine Prod.ext (Fin.ext ?_) (Fin.ext ?_)
    · show (2 * s.val + c.val) % 2 = c.val; omega
    · show (2 * s.val + c.val) / 2 = s.val; omega
  right_inv t := Fin.ext (by show 2 * (t.val / 2) + t.val % 2 = t.val; omega)

theorem bigSep_tasks (Φ : Fin 32 → sProp 𝕄) :
    (bigSep Finset.univ fun c : Fin 2 => bigSep Finset.univ fun s : Fin 16 => Φ (task c s)) = bigSep Finset.univ Φ := by
  rw [bigSep_univ_equiv taskEquiv Φ, bigSep_univ_prod]; rfl

theorem tasks_eq (f : (d : Dev nD) → Buf (Elt F) (oLoc d)) (d : Dev nD) :
    (bigSep Finset.univ fun c : Fin ((K (F := F)).nCore 0) => bigSep Finset.univ fun s : Fin 16 => taskPts fi fx f d (task (Fin.cast nCore_zero c) s))
      = iprop((iLoc d ↦{fullShare} fi d) ∗ (bigSep Finset.univ fun t : Fin 32 => xLoc d ↦{Transfers.shareTok fullShare 32 t} fx d) ∗ oLoc d ↦{fullShare} f d) := by
  rw [iPts_tasks, oPts_tasks, ← bigSep_sep', ← bigSep_sep', ← bigSep_tasks]; rfl

/-- @main at the call: from the ids, the table and the result whole, to the same with the result `gathered`. -/
theorem wp_call (κ : GSem nD τ sig → ℕ) (d : Dev nD) {Φ : PUnit → sProp 𝕄} :
    iprop((K (F := F)).ctx EH (P fi fx fo) κ ∗ (K (F := F)).tcSt EH d 0
        ∗ ((iLoc d ↦{fullShare} fi d) ∗ (xLoc d ↦{fullShare} fx d) ∗ oLoc d ↦{fullShare} fo d)
        ∗ (((K (F := F)).tcSt EH d 1 ∗ (iLoc d ↦{fullShare} fi d) ∗ (xLoc d ↦{fullShare} fx d) ∗ oLoc d ↦{fullShare} G fi fx d) -∗ Φ ⟨⟩))
      ⊢ wp frame (wpE ((K (F := F)).defs (D (F := F))) 𝒱 (SparseCore.T d) none) Set.univ ((K (F := F)).run d 0) Φ := by
  iintro ⟨#Hctx, Hst, ⟨Hi, Hx, Ho⟩, Hk⟩
  ihave Hx' := (Transfers.pointsTo_toks_split fullShare 32) $$ Hx
  icases Hx' with ⟨Hxd, Hxt⟩
  iapply ((K (F := F)).wp_run (D (F := F)) 𝒱 (EH := EH) (P := P fi fx fo) κ d 0)
  isplitr; · iexact Hctx
  isplitl [Hst]; · iexact Hst
  isplitl [Hi Hxt Ho]
  · iapply (Entails.of_eq (tasks_eq (F := F) fi fx fo d).symm)
    isplitl [Hi]; · iexact Hi
    isplitl [Hxt]; · iexact Hxt
    iexact Ho
  iintro ⟨Hst, Hdn⟩
  ihave Hdn' := (show (bigSep Finset.univ fun c : Fin ((K (F := F)).nCore 0) => (P fi fx fo).dn 0 d c) ⊢ _ from
    Entails.of_eq (tasks_eq (F := F) fi fx (G fi fx) d)) $$ Hdn
  icases Hdn' with ⟨Hi, Hxt, Ho⟩
  ihave Hx := (Transfers.pointsTo_toks_join fullShare 32) $$ [Hxd Hxt]
  · isplitl [Hxd] <;> iassumption
  iapply Hk
  isplitl [Hst]; · iexact Hst
  isplitl [Hi]; · iexact Hi
  isplitl [Hx]; · iexact Hx
  iexact Ho

/-! ## The launch element of the certificate's ghost state -/

def u₀ : UU :=
  (initOf (K (F := F)).hsCells (K (F := F)).hsToks, (initOf (Pipeline.cells (nD := nD) (τ := τ) cfgs cellOf_inj) (Pipeline.launchToks (nD := nD) (τ := τ) cfgs cellOf_inj), 1))

theorem bigSep_emp' {I : Type} (s : Finset I) : (bigSep s fun _ => iprop(emp)) = (iprop(emp) : sProp 𝕄) := bigSep_emp_const s

/-- The launch element deals the handshakes' part and the pipelines'. -/
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem hu₀ : (ownU (u₀ (F := F)) : sProp 𝕄)
    ⊢ |={Set.univ}=> iprop(BI.own (EH (initOf (K (F := F)).hsCells (K (F := F)).hsToks)) ∗ (bigSep Finset.univ fun d : Dev nD => pipeGhost (F := F) d)
        ∗ bigSep Finset.univ fun thr : Thread nD τ => bigSep Finset.univ fun q : Fin 1 => (P fi fx fo).x q thr) := by
  unfold u₀
  iintro Hu
  ihave H := (ownU_split _ _) $$ Hu
  icases H with ⟨HH, HP⟩
  imod (Pipeline.fund_ghost cfgs (EP (F := F)) cellOf_inj) $$ HP with ⟨HG, HT⟩
  imodintro
  isplitl [HH]; · iexact HH
  isplitl [HG HT]
  · rw [bigSep_sep']
    isplitl [HG] <;> iassumption
  rw [show (bigSep Finset.univ fun thr : Thread nD τ => bigSep Finset.univ fun q : Fin 1 => (P (F := F) fi fx fo).x q thr) = bigSep Finset.univ fun _ => iprop(emp) from
    bigSep_congr fun _ _ => bigSep_univ_of_subsingleton (0 : Fin 1), bigSep_emp']
  iempintro

end Cert.Proof.Gather

end
-- ==== Proof.Decode.lean ====
module

public import proofs.«01_k».proof.Proof.Gather
public import proofs.«01_k».proof.Proof.Gen.KernelIdeal.Points
public import Idealize.ShloMosaic.Lib.Pipeline.RegionArraysS
public import Idealize.ShloMosaic.Lib.Pipeline.FrameBody
public import Idealize.ShloMosaic.Lib.VecWindow

@[expose] public section

set_option maxRecDepth 16384

noncomputable section

namespace Cert.Proof.Decode

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Gather (UU)

variable {F : FTy → Type} [FloatOps F]

local notation "𝕄" => MT nD τ sig (HIx 1) (Elt F) ℕ UU ℕ

/-- Memref `M`'s buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The block of logits one grid point stores, from its operands' blocks and the decoder's weights as the scratch buffer holds them. -/
def decOut (x : Vec F S1x512x128 .f32) (w1 : Vec F S128x512 .f32) (b1 : Vec F S1x512 .f32) (w2 : Vec F S512x128 .f32) (b2 : Vec F S1x128 .f32) (g1 : Vec F S1x128 .f32) (be1 : Vec F S1x128 .f32) (re : Vec F S1x4x128 .f32) (wi1 : Vec F S256x128 .f32) (bi1 : Vec F S1x128 .f32) (wi2 : Vec F S128x128 .f32) (bi2 : Vec F S1x128 .f32) (g2 : Vec F S1x128 .f32) (be2 : Vec F S1x128 .f32) (wh : Vec F S128x1 .f32) (bh : Vec F S1x1 .f32) (scr : Vec F S128x8192 .bf16) (bd : Vec F S1x8192 .f32) : FVec F S1x512x8192 .f32 :=
  let v30 := k2_pay2 x w1 b1 w2 b2
  let v32 := k2_pay3 g1
  let v34 := k2_pay4 be1
  let v56 := k2_pay5 v30 v32 v34
  let v58 := k2_pay6 re
  let v59 := k2_pay7 (F := F)
  let v60 := k2_pay8 (F := F)
  let v70 := k2_pay9 v30 v32 v34 re wi1 bi1
  let v77 := k2_pay10 v30 v32 v34 re wi1 bi1
  let v116 := k2_pay11 v56 v70 v77 wi2 bi2 g2 be2
  let v118 := k2_pay12 v56 v70 v77 wi2 bi2 g2 be2 wh
  let v127 := k2_pay13 v59 v60 v118 bh
  let v131 := k2_pay14 v59 v60 v118 bh
  let v138 := k2_pay15 v56 v60 v116
  let v161 := k2_pay16 v56 v58 v60 v116 wi1 bi1
  let v194 := k2_pay17 v138 v161 wi2 bi2 g2 be2
  let v201 := k2_pay18 v138 v161 wi2 bi2 g2 be2 wh bh
  let v203 := k2_pay19 v131
  let v205 := k2_pay20 v127 v201 v203
  let v209 := k2_pay21 v127 v131 v201 v203
  let v216 := k2_pay22 v131 v138 v194
  let v245 := k2_pay23 v58 v131 v138 v194 wi1 bi1 wi2 bi2
  let v272 := k2_pay24 v216 v245 g2 be2
  let v287 := k2_pay25 v205 v209 v216 v245 g2 be2 wh bh
  let v288 := k2_pay26 (F := F)
  let v294 := k2_pay27 v209 v216 v272 v288
  let v323 := k2_pay28 v58 v209 v216 v272 v288 wi1 bi1 wi2 bi2
  let v325 := k2_pay29 g2
  let v327 := k2_pay30 be2
  let v329 := k2_pay31 v58 v209 v216 v272 v288 wi1 bi1 wi2 bi2
  k2_pay32 v287 v294 v323 v325 v327 v329 scr bd

/-- Whether the point is the grid's first, as the body computes it. -/
def firstPoint (i : grid2.Coords) : BitVec 1 :=
  Scalar.cmpi .ne (Scalar.extui (Scalar.cmpi .eq (BitVec.ofNat 32 (i 0).val) 0#32) : BitVec 32) 0#32

/-- What the scratch buffer holds once the point's first branch is over: the decoder's weights in `bf16`, written at the
    first point and kept from then on. -/
def scrAt (i : grid2.Coords) (wd : Vec F S128x8192 .f32) (scr : Vec F S128x8192 .bf16) : Vec F S128x8192 .bf16 :=
  if firstPoint i = 1#1 then k2_pay1 wd else scr

section Body
variable (c : Dev nD) (i : grid2.Coords)
variable (M1 : Memref sig .tc .vmem S1x512x128 .f32) (h1 : M1.IsWhole) (M2 : Memref sig .tc .vmem S128x512 .f32) (h2 : M2.IsWhole) (M3 : Memref sig .tc .vmem S1x512 .f32) (h3 : M3.IsWhole) (M4 : Memref sig .tc .vmem S512x128 .f32) (h4 : M4.IsWhole) (M5 : Memref sig .tc .vmem S1x128 .f32) (h5 : M5.IsWhole) (M6 : Memref sig .tc .vmem S1x128 .f32) (h6 : M6.IsWhole) (M7 : Memref sig .tc .vmem S1x128 .f32) (h7 : M7.IsWhole) (M8 : Memref sig .tc .vmem S1x4x128 .f32) (h8 : M8.IsWhole) (M9 : Memref sig .tc .vmem S256x128 .f32) (h9 : M9.IsWhole) (M10 : Memref sig .tc .vmem S1x128 .f32) (h10 : M10.IsWhole) (M11 : Memref sig .tc .vmem S128x128 .f32) (h11 : M11.IsWhole) (M12 : Memref sig .tc .vmem S1x128 .f32) (h12 : M12.IsWhole) (M13 : Memref sig .tc .vmem S1x128 .f32) (h13 : M13.IsWhole) (M14 : Memref sig .tc .vmem S1x128 .f32) (h14 : M14.IsWhole) (M15 : Memref sig .tc .vmem S128x1 .f32) (h15 : M15.IsWhole) (M16 : Memref sig .tc .vmem S1x1 .f32) (h16 : M16.IsWhole) (M17 : Memref sig .tc .vmem S128x8192 .f32) (h17 : M17.IsWhole) (M18 : Memref sig .tc .vmem S1x8192 .f32) (h18 : M18.IsWhole) (M19 : Memref sig .tc .vmem S1x512x8192 .f32) (h19 : M19.IsWhole) (M20 : Memref sig .tc .vmem S128x8192 .bf16) (h20 : M20.IsWhole)

theorem part1 (x : Vec F S1x512x128 .f32) (w1 : Vec F S128x512 .f32) (b1 : Vec F S1x512 .f32) (w2 : Vec F S512x128 .f32) (b2 : Vec F S1x128 .f32) (g1 : Vec F S1x128 .f32) (be1 : Vec F S1x128 .f32) (wd : Vec F S128x8192 .f32) (scr : Vec F S128x8192 .bf16) (f1) (f2) (f3) (f4) (f5) (f6) (f7) (f17) (f20) (e1 : M1.view.read (Elt F) f1 = x) (e2 : M2.view.read (Elt F) f2 = w1) (e3 : M3.view.read (Elt F) f3 = b1) (e4 : M4.view.read (Elt F) f4 = w2) (e5 : M5.view.read (Elt F) f5 = b2) (e6 : M6.view.read (Elt F) f6 = g1) (e7 : M7.view.read (Elt F) f7 = be1) (e17 : M17.view.read (Elt F) f17 = wd) (e20 : M20.view.read (Elt F) f20 = scr)
     (v30 : FVec F S512x128 .f32) (qv30 : k2_pay2 x w1 b1 w2 b2 = v30) (v32 : FVec F S1x128 .f32) (qv32 : k2_pay3 g1 = v32) (v34 : FVec F S1x128 .f32) (qv34 : k2_pay4 be1 = v34) (E : Set ℕ) (Q : _ → sProp 𝕄) :
    iprop(pt c M1 f1 ∗ pt c M2 f2 ∗ pt c M3 f3 ∗ pt c M4 f4 ∗ pt c M5 f5 ∗ pt c M6 f6 ∗ pt c M7 f7 ∗ pt c M17 f17 ∗ pt c M20 f20 ∗ (iprop(∃ g20, ⌜M20.view.read (Elt F) g20 = scrAt i wd scr⌝ ∗ pt c M1 f1 ∗ pt c M2 f2 ∗ pt c M3 f3 ∗ pt c M4 f4 ∗ pt c M5 f5 ∗ pt c M6 f6 ∗ pt c M7 f7 ∗ pt c M17 f17 ∗ pt c M20 g20) -∗ Q ⟨v30, v32, v34⟩))
      ⊢ wp frame (wpE (defs₀ (F := F)) Variants.none c none) E (k2_part1 i M1 h1 M2 h2 M3 h3 M4 h4 M5 h5 M6 h6 M7 h7 M8 h8 M9 h9 M10 h10 M11 h11 M12 h12 M13 h13 M14 h14 M15 h15 M16 h16 M17 h17 M18 h18 M19 h19 M20 h20 ) Q := by
  subst e1 e2 e3 e4 e5 e6 e7 e17 e20 qv30 qv32 qv34
  iintro ⟨H1, H2, H3, H4, H5, H6, H7, H17, H20, Hk⟩
  rw [k2_part1_eq_skeleton]; unfold k2_part1_skel
  sl_exec!
  sl_step
  repeat rw [View.readAt_full]
  iapply Hk
  iexists _
  isplitr; swap
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H17]; · iexact H17
    iexact H20
  ipureintro
  unfold scrAt
  by_cases h : firstPoint i = 1#1
  · have h' : part1.sl.v2 i = 1#1 := h
    rw [dif_pos h', if_pos h]; exact View.read_writes_full ..
  · have h' : ¬ part1.sl.v2 i = 1#1 := h
    rw [dif_neg h', if_neg h]

theorem part2 (re : Vec F S1x4x128 .f32) (wi1 : Vec F S256x128 .f32) (bi1 : Vec F S1x128 .f32) (f8) (f9) (f10) (e8 : M8.view.read (Elt F) f8 = re) (e9 : M9.view.read (Elt F) f9 = wi1) (e10 : M10.view.read (Elt F) f10 = bi1)
    (v30 : FVec F S512x128 .f32) (v32 : FVec F S1x128 .f32) (v34 : FVec F S1x128 .f32) (v56 : FVec F S512x128 .f32) (qv56 : k2_pay5 v30 v32 v34 = v56) (v58 : FVec F S4x128 .f32) (qv58 : k2_pay6 re = v58) (v59 : FVec F S512x1 .f32) (qv59 : k2_pay7 (F := F) = v59) (v60 : FVec F S512x1 .f32) (qv60 : k2_pay8 (F := F) = v60) (v70 : FVec F S512x128 .f32) (qv70 : k2_pay9 v30 v32 v34 re wi1 bi1 = v70) (v77 : FVec F S512x128 .f32) (qv77 : k2_pay10 v30 v32 v34 re wi1 bi1 = v77) (E : Set ℕ) (Q : _ → sProp 𝕄) :
    iprop(pt c M8 f8 ∗ pt c M9 f9 ∗ pt c M10 f10 ∗ (iprop(pt c M8 f8 ∗ pt c M9 f9 ∗ pt c M10 f10) -∗ Q ⟨v56, v58, v59, v60, v70, v77⟩))
      ⊢ wp frame (wpE (defs₀ (F := F)) Variants.none c none) E (k2_part2 i M1 h1 M2 h2 M3 h3 M4 h4 M5 h5 M6 h6 M7 h7 M8 h8 M9 h9 M10 h10 M11 h11 M12 h12 M13 h13 M14 h14 M15 h15 M16 h16 M17 h17 M18 h18 M19 h19 M20 h20 v30 v32 v34) Q := by
  subst e8 e9 e10 qv56 qv58 qv59 qv60 qv70 qv77
  iintro ⟨H8, H9, H10, Hk⟩
  rw [k2_part2_eq_skeleton]; unfold k2_part2_skel
  sl_exec!
  sl_step
  repeat rw [View.readAt_full]
  iapply Hk
  isplitl [H8]; · iexact H8
  isplitl [H9]; · iexact H9
  iexact H10

theorem part3 (wi2 : Vec F S128x128 .f32) (bi2 : Vec F S1x128 .f32) (g2 : Vec F S1x128 .f32) (be2 : Vec F S1x128 .f32) (wh : Vec F S128x1 .f32) (f11) (f12) (f13) (f14) (f15) (e11 : M11.view.read (Elt F) f11 = wi2) (e12 : M12.view.read (Elt F) f12 = bi2) (e13 : M13.view.read (Elt F) f13 = g2) (e14 : M14.view.read (Elt F) f14 = be2) (e15 : M15.view.read (Elt F) f15 = wh)
    (v56 : FVec F S512x128 .f32) (v70 : FVec F S512x128 .f32) (v77 : FVec F S512x128 .f32) (v116 : FVec F S512x128 .f32) (qv116 : k2_pay11 v56 v70 v77 wi2 bi2 g2 be2 = v116) (v118 : FVec F S512x1 .f32) (qv118 : k2_pay12 v56 v70 v77 wi2 bi2 g2 be2 wh = v118) (E : Set ℕ) (Q : _ → sProp 𝕄) :
    iprop(pt c M11 f11 ∗ pt c M12 f12 ∗ pt c M13 f13 ∗ pt c M14 f14 ∗ pt c M15 f15 ∗ (iprop(pt c M11 f11 ∗ pt c M12 f12 ∗ pt c M13 f13 ∗ pt c M14 f14 ∗ pt c M15 f15) -∗ Q ⟨v116, v118⟩))
      ⊢ wp frame (wpE (defs₀ (F := F)) Variants.none c none) E (k2_part3 i M1 h1 M2 h2 M3 h3 M4 h4 M5 h5 M6 h6 M7 h7 M8 h8 M9 h9 M10 h10 M11 h11 M12 h12 M13 h13 M14 h14 M15 h15 M16 h16 M17 h17 M18 h18 M19 h19 M20 h20 v56 v70 v77) Q := by
  subst e11 e12 e13 e14 e15 qv116 qv118
  iintro ⟨H11, H12, H13, H14, H15, Hk⟩
  rw [k2_part3_eq_skeleton]; unfold k2_part3_skel
  sl_exec!
  sl_step
  repeat rw [View.readAt_full]
  iapply Hk
  isplitl [H11]; · iexact H11
  isplitl [H12]; · iexact H12
  isplitl [H13]; · iexact H13
  isplitl [H14]; · iexact H14
  iexact H15

theorem part4 (wi1 : Vec F S256x128 .f32) (bi1 : Vec F S1x128 .f32) (bh : Vec F S1x1 .f32) (f9) (f10) (f16) (e9 : M9.view.read (Elt F) f9 = wi1) (e10 : M10.view.read (Elt F) f10 = bi1) (e16 : M16.view.read (Elt F) f16 = bh)
    (v56 : FVec F S512x128 .f32) (v58 : FVec F S4x128 .f32) (v59 : FVec F S512x1 .f32) (v60 : FVec F S512x1 .f32) (v116 : FVec F S512x128 .f32) (v118 : FVec F S512x1 .f32) (v127 : FVec F S512x1 .f32) (qv127 : k2_pay13 v59 v60 v118 bh = v127) (v131 : FVec F S512x1 .f32) (qv131 : k2_pay14 v59 v60 v118 bh = v131) (v138 : FVec F S512x128 .f32) (qv138 : k2_pay15 v56 v60 v116 = v138) (v161 : FVec F S512x128 .f32) (qv161 : k2_pay16 v56 v58 v60 v116 wi1 bi1 = v161) (E : Set ℕ) (Q : _ → sProp 𝕄) :
    iprop(pt c M9 f9 ∗ pt c M10 f10 ∗ pt c M16 f16 ∗ (iprop(pt c M9 f9 ∗ pt c M10 f10 ∗ pt c M16 f16) -∗ Q ⟨v127, v131, v138, v161⟩))
      ⊢ wp frame (wpE (defs₀ (F := F)) Variants.none c none) E (k2_part4 i M1 h1 M2 h2 M3 h3 M4 h4 M5 h5 M6 h6 M7 h7 M8 h8 M9 h9 M10 h10 M11 h11 M12 h12 M13 h13 M14 h14 M15 h15 M16 h16 M17 h17 M18 h18 M19 h19 M20 h20 v56 v58 v59 v60 v116 v118) Q := by
  subst e9 e10 e16 qv127 qv131 qv138 qv161
  iintro ⟨H9, H10, H16, Hk⟩
  rw [k2_part4_eq_skeleton]; unfold k2_part4_skel
  sl_exec!
  sl_step
  repeat rw [View.readAt_full]
  iapply Hk
  isplitl [H9]; · iexact H9
  isplitl [H10]; · iexact H10
  iexact H16

theorem part5 (wi2 : Vec F S128x128 .f32) (bi2 : Vec F S1x128 .f32) (g2 : Vec F S1x128 .f32) (be2 : Vec F S1x128 .f32) (wh : Vec F S128x1 .f32) (bh : Vec F S1x1 .f32) (f11) (f12) (f13) (f14) (f15) (f16) (e11 : M11.view.read (Elt F) f11 = wi2) (e12 : M12.view.read (Elt F) f12 = bi2) (e13 : M13.view.read (Elt F) f13 = g2) (e14 : M14.view.read (Elt F) f14 = be2) (e15 : M15.view.read (Elt F) f15 = wh) (e16 : M16.view.read (Elt F) f16 = bh)
    (v131 : FVec F S512x1 .f32) (v138 : FVec F S512x128 .f32) (v161 : FVec F S512x128 .f32) (v194 : FVec F S512x128 .f32) (qv194 : k2_pay17 v138 v161 wi2 bi2 g2 be2 = v194) (v201 : FVec F S512x1 .f32) (qv201 : k2_pay18 v138 v161 wi2 bi2 g2 be2 wh bh = v201) (v203 : FVec F S512x1 .f32) (qv203 : k2_pay19 v131 = v203) (E : Set ℕ) (Q : _ → sProp 𝕄) :
    iprop(pt c M11 f11 ∗ pt c M12 f12 ∗ pt c M13 f13 ∗ pt c M14 f14 ∗ pt c M15 f15 ∗ pt c M16 f16 ∗ (iprop(pt c M11 f11 ∗ pt c M12 f12 ∗ pt c M13 f13 ∗ pt c M14 f14 ∗ pt c M15 f15 ∗ pt c M16 f16) -∗ Q ⟨v194, v201, v203⟩))
      ⊢ wp frame (wpE (defs₀ (F := F)) Variants.none c none) E (k2_part5 i M1 h1 M2 h2 M3 h3 M4 h4 M5 h5 M6 h6 M7 h7 M8 h8 M9 h9 M10 h10 M11 h11 M12 h12 M13 h13 M14 h14 M15 h15 M16 h16 M17 h17 M18 h18 M19 h19 M20 h20 v131 v138 v161) Q := by
  subst e11 e12 e13 e14 e15 e16 qv194 qv201 qv203
  iintro ⟨H11, H12, H13, H14, H15, H16, Hk⟩
  rw [k2_part5_eq_skeleton]; unfold k2_part5_skel
  sl_exec!
  sl_step
  repeat rw [View.readAt_full]
  iapply Hk
  isplitl [H11]; · iexact H11
  isplitl [H12]; · iexact H12
  isplitl [H13]; · iexact H13
  isplitl [H14]; · iexact H14
  isplitl [H15]; · iexact H15
  iexact H16

theorem part6 (wi1 : Vec F S256x128 .f32) (bi1 : Vec F S1x128 .f32) (wi2 : Vec F S128x128 .f32) (bi2 : Vec F S1x128 .f32) (f9) (f10) (f11) (f12) (e9 : M9.view.read (Elt F) f9 = wi1) (e10 : M10.view.read (Elt F) f10 = bi1) (e11 : M11.view.read (Elt F) f11 = wi2) (e12 : M12.view.read (Elt F) f12 = bi2)
    (v58 : FVec F S4x128 .f32) (v127 : FVec F S512x1 .f32) (v131 : FVec F S512x1 .f32) (v138 : FVec F S512x128 .f32) (v194 : FVec F S512x128 .f32) (v201 : FVec F S512x1 .f32) (v203 : FVec F S512x1 .f32) (v205 : FVec F S512x1 .f32) (qv205 : k2_pay20 v127 v201 v203 = v205) (v209 : FVec F S512x1 .f32) (qv209 : k2_pay21 v127 v131 v201 v203 = v209) (v216 : FVec F S512x128 .f32) (qv216 : k2_pay22 v131 v138 v194 = v216) (v245 : FVec F S512x128 .f32) (qv245 : k2_pay23 v58 v131 v138 v194 wi1 bi1 wi2 bi2 = v245) (E : Set ℕ) (Q : _ → sProp 𝕄) :
    iprop(pt c M9 f9 ∗ pt c M10 f10 ∗ pt c M11 f11 ∗ pt c M12 f12 ∗ (iprop(pt c M9 f9 ∗ pt c M10 f10 ∗ pt c M11 f11 ∗ pt c M12 f12) -∗ Q ⟨v205, v209, v216, v245⟩))
      ⊢ wp frame (wpE (defs₀ (F := F)) Variants.none c none) E (k2_part6 i M1 h1 M2 h2 M3 h3 M4 h4 M5 h5 M6 h6 M7 h7 M8 h8 M9 h9 M10 h10 M11 h11 M12 h12 M13 h13 M14 h14 M15 h15 M16 h16 M17 h17 M18 h18 M19 h19 M20 h20 v58 v127 v131 v138 v194 v201 v203) Q := by
  subst e9 e10 e11 e12 qv205 qv209 qv216 qv245
  iintro ⟨H9, H10, H11, H12, Hk⟩
  rw [k2_part6_eq_skeleton]; unfold k2_part6_skel
  sl_exec!
  sl_step
  repeat rw [View.readAt_full]
  iapply Hk
  isplitl [H9]; · iexact H9
  isplitl [H10]; · iexact H10
  isplitl [H11]; · iexact H11
  iexact H12

theorem part7 (g2 : Vec F S1x128 .f32) (be2 : Vec F S1x128 .f32) (wh : Vec F S128x1 .f32) (bh : Vec F S1x1 .f32) (f13) (f14) (f15) (f16) (e13 : M13.view.read (Elt F) f13 = g2) (e14 : M14.view.read (Elt F) f14 = be2) (e15 : M15.view.read (Elt F) f15 = wh) (e16 : M16.view.read (Elt F) f16 = bh)
    (v205 : FVec F S512x1 .f32) (v209 : FVec F S512x1 .f32) (v216 : FVec F S512x128 .f32) (v245 : FVec F S512x128 .f32) (v272 : FVec F S512x128 .f32) (qv272 : k2_pay24 v216 v245 g2 be2 = v272) (v287 : FVec F S512x1 .f32) (qv287 : k2_pay25 v205 v209 v216 v245 g2 be2 wh bh = v287) (v288 : FVec F S512x1 .f32) (qv288 : k2_pay26 (F := F) = v288) (E : Set ℕ) (Q : _ → sProp 𝕄) :
    iprop(pt c M13 f13 ∗ pt c M14 f14 ∗ pt c M15 f15 ∗ pt c M16 f16 ∗ (iprop(pt c M13 f13 ∗ pt c M14 f14 ∗ pt c M15 f15 ∗ pt c M16 f16) -∗ Q ⟨v272, v287, v288⟩))
      ⊢ wp frame (wpE (defs₀ (F := F)) Variants.none c none) E (k2_part7 i M1 h1 M2 h2 M3 h3 M4 h4 M5 h5 M6 h6 M7 h7 M8 h8 M9 h9 M10 h10 M11 h11 M12 h12 M13 h13 M14 h14 M15 h15 M16 h16 M17 h17 M18 h18 M19 h19 M20 h20 v205 v209 v216 v245) Q := by
  subst e13 e14 e15 e16 qv272 qv287 qv288
  iintro ⟨H13, H14, H15, H16, Hk⟩
  rw [k2_part7_eq_skeleton]; unfold k2_part7_skel
  sl_exec!
  sl_step
  repeat rw [View.readAt_full]
  iapply Hk
  isplitl [H13]; · iexact H13
  isplitl [H14]; · iexact H14
  isplitl [H15]; · iexact H15
  iexact H16

theorem part8 (wi1 : Vec F S256x128 .f32) (bi1 : Vec F S1x128 .f32) (wi2 : Vec F S128x128 .f32) (bi2 : Vec F S1x128 .f32) (g2 : Vec F S1x128 .f32) (be2 : Vec F S1x128 .f32) (f9) (f10) (f11) (f12) (f13) (f14) (e9 : M9.view.read (Elt F) f9 = wi1) (e10 : M10.view.read (Elt F) f10 = bi1) (e11 : M11.view.read (Elt F) f11 = wi2) (e12 : M12.view.read (Elt F) f12 = bi2) (e13 : M13.view.read (Elt F) f13 = g2) (e14 : M14.view.read (Elt F) f14 = be2)
    (v58 : FVec F S4x128 .f32) (v209 : FVec F S512x1 .f32) (v216 : FVec F S512x128 .f32) (v272 : FVec F S512x128 .f32) (v288 : FVec F S512x1 .f32) (v294 : FVec F S512x128 .f32) (qv294 : k2_pay27 v209 v216 v272 v288 = v294) (v323 : FVec F S512x128 .f32) (qv323 : k2_pay28 v58 v209 v216 v272 v288 wi1 bi1 wi2 bi2 = v323) (v325 : FVec F S1x128 .f32) (qv325 : k2_pay29 g2 = v325) (v327 : FVec F S1x128 .f32) (qv327 : k2_pay30 be2 = v327) (v329 : FVec F S512x1 .f32) (qv329 : k2_pay31 v58 v209 v216 v272 v288 wi1 bi1 wi2 bi2 = v329) (E : Set ℕ) (Q : _ → sProp 𝕄) :
    iprop(pt c M9 f9 ∗ pt c M10 f10 ∗ pt c M11 f11 ∗ pt c M12 f12 ∗ pt c M13 f13 ∗ pt c M14 f14 ∗ (iprop(pt c M9 f9 ∗ pt c M10 f10 ∗ pt c M11 f11 ∗ pt c M12 f12 ∗ pt c M13 f13 ∗ pt c M14 f14) -∗ Q ⟨v294, v323, v325, v327, v329⟩))
      ⊢ wp frame (wpE (defs₀ (F := F)) Variants.none c none) E (k2_part8 i M1 h1 M2 h2 M3 h3 M4 h4 M5 h5 M6 h6 M7 h7 M8 h8 M9 h9 M10 h10 M11 h11 M12 h12 M13 h13 M14 h14 M15 h15 M16 h16 M17 h17 M18 h18 M19 h19 M20 h20 v58 v209 v216 v272 v288) Q := by
  subst e9 e10 e11 e12 e13 e14 qv294 qv323 qv325 qv327 qv329
  iintro ⟨H9, H10, H11, H12, H13, H14, Hk⟩
  rw [k2_part8_eq_skeleton]; unfold k2_part8_skel
  sl_exec!
  sl_step
  repeat rw [View.readAt_full]
  iapply Hk
  isplitl [H9]; · iexact H9
  isplitl [H10]; · iexact H10
  isplitl [H11]; · iexact H11
  isplitl [H12]; · iexact H12
  isplitl [H13]; · iexact H13
  iexact H14

set_option maxHeartbeats 1000000 in
/-- The body, from every buffer held whole at contents read as named, hands them back, the result's buffer at `decOut` and the scratch at `scrAt`. -/
theorem run (x : Vec F S1x512x128 .f32) (w1 : Vec F S128x512 .f32) (b1 : Vec F S1x512 .f32) (w2 : Vec F S512x128 .f32) (b2 : Vec F S1x128 .f32) (g1 : Vec F S1x128 .f32) (be1 : Vec F S1x128 .f32) (re : Vec F S1x4x128 .f32) (wi1 : Vec F S256x128 .f32) (bi1 : Vec F S1x128 .f32) (wi2 : Vec F S128x128 .f32) (bi2 : Vec F S1x128 .f32) (g2 : Vec F S1x128 .f32) (be2 : Vec F S1x128 .f32) (wh : Vec F S128x1 .f32) (bh : Vec F S1x1 .f32) (wd : Vec F S128x8192 .f32) (bd : Vec F S1x8192 .f32) (scr : Vec F S128x8192 .bf16) (f1) (f2) (f3) (f4) (f5) (f6) (f7) (f8) (f9) (f10) (f11) (f12) (f13) (f14) (f15) (f16) (f17) (f18) (f19) (f20)
    (e1 : M1.view.read (Elt F) f1 = x) (e2 : M2.view.read (Elt F) f2 = w1) (e3 : M3.view.read (Elt F) f3 = b1) (e4 : M4.view.read (Elt F) f4 = w2) (e5 : M5.view.read (Elt F) f5 = b2) (e6 : M6.view.read (Elt F) f6 = g1) (e7 : M7.view.read (Elt F) f7 = be1) (e8 : M8.view.read (Elt F) f8 = re) (e9 : M9.view.read (Elt F) f9 = wi1) (e10 : M10.view.read (Elt F) f10 = bi1) (e11 : M11.view.read (Elt F) f11 = wi2) (e12 : M12.view.read (Elt F) f12 = bi2) (e13 : M13.view.read (Elt F) f13 = g2) (e14 : M14.view.read (Elt F) f14 = be2) (e15 : M15.view.read (Elt F) f15 = wh) (e16 : M16.view.read (Elt F) f16 = bh) (e17 : M17.view.read (Elt F) f17 = wd) (e18 : M18.view.read (Elt F) f18 = bd) (e20 : M20.view.read (Elt F) f20 = scr) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗
        (iprop(∃ g19 g20, ⌜M19.view.read (Elt F) g19 = decOut x w1 b1 w2 b2 g1 be1 re wi1 bi1 wi2 bi2 g2 be2 wh bh (scrAt i wd scr) bd ∧ M20.view.read (Elt F) g20 = scrAt i wd scr⌝ ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 g19 ∗ pt c M20 g20) -∗ Q ⟨⟩))
      ⊢ wp frame (wpE (defs₀ (F := F)) Variants.none c none) E (cc2__integ_dec_kernel i M1 h1 M2 h2 M3 h3 M4 h4 M5 h5 M6 h6 M7 h7 M8 h8 M9 h9 M10 h10 M11 h11 M12 h12 M13 h13 M14 h14 M15 h15 M16 h16 M17 h17 M18 h18 M19 h19 M20 h20) Q := by
  iintro ⟨H1, H2, H3, H4, H5, H6, H7, H8, H9, H10, H11, H12, H13, H14, H15, H16, H17, H18, H19, H20, Hk⟩
  rw [cc2__integ_dec_kernel_eq_skeleton]; unfold cc2__integ_dec_kernel_skel
  rw [k2_part9_eq_skeleton]; unfold k2_part9_skel
  simp only [wp_bind]
  obtain ⟨v30, qv30⟩ : ∃ v, k2_pay2 x w1 b1 w2 b2 = v := ⟨_, rfl⟩
  obtain ⟨v32, qv32⟩ : ∃ v, k2_pay3 g1 = v := ⟨_, rfl⟩
  obtain ⟨v34, qv34⟩ : ∃ v, k2_pay4 be1 = v := ⟨_, rfl⟩
  iapply (part1 c i M1 h1 M2 h2 M3 h3 M4 h4 M5 h5 M6 h6 M7 h7 M8 h8 M9 h9 M10 h10 M11 h11 M12 h12 M13 h13 M14 h14 M15 h15 M16 h16 M17 h17 M18 h18 M19 h19 M20 h20 x w1 b1 w2 b2 g1 be1 wd scr f1 f2 f3 f4 f5 f6 f7 f17 f20 e1 e2 e3 e4 e5 e6 e7 e17 e20  v30 qv30 v32 qv32 v34 qv34 E _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H17]; · iexact H17
  isplitl [H20]; · iexact H20
  iintro ⟨%g20, %e20', H1, H2, H3, H4, H5, H6, H7, H17, H20⟩
  obtain ⟨v56, qv56⟩ : ∃ v, k2_pay5 v30 v32 v34 = v := ⟨_, rfl⟩
  obtain ⟨v58, qv58⟩ : ∃ v, k2_pay6 re = v := ⟨_, rfl⟩
  obtain ⟨v59, qv59⟩ : ∃ v, k2_pay7 (F := F) = v := ⟨_, rfl⟩
  obtain ⟨v60, qv60⟩ : ∃ v, k2_pay8 (F := F) = v := ⟨_, rfl⟩
  obtain ⟨v70, qv70⟩ : ∃ v, k2_pay9 v30 v32 v34 re wi1 bi1 = v := ⟨_, rfl⟩
  obtain ⟨v77, qv77⟩ : ∃ v, k2_pay10 v30 v32 v34 re wi1 bi1 = v := ⟨_, rfl⟩
  iapply (part2 c i M1 h1 M2 h2 M3 h3 M4 h4 M5 h5 M6 h6 M7 h7 M8 h8 M9 h9 M10 h10 M11 h11 M12 h12 M13 h13 M14 h14 M15 h15 M16 h16 M17 h17 M18 h18 M19 h19 M20 h20 re wi1 bi1 f8 f9 f10 e8 e9 e10 v30 v32 v34 v56 qv56 v58 qv58 v59 qv59 v60 qv60 v70 qv70 v77 qv77 E _)
  isplitl [H8]; · iexact H8
  isplitl [H9]; · iexact H9
  isplitl [H10]; · iexact H10
  iintro ⟨H8, H9, H10⟩
  obtain ⟨v116, qv116⟩ : ∃ v, k2_pay11 v56 v70 v77 wi2 bi2 g2 be2 = v := ⟨_, rfl⟩
  obtain ⟨v118, qv118⟩ : ∃ v, k2_pay12 v56 v70 v77 wi2 bi2 g2 be2 wh = v := ⟨_, rfl⟩
  iapply (part3 c i M1 h1 M2 h2 M3 h3 M4 h4 M5 h5 M6 h6 M7 h7 M8 h8 M9 h9 M10 h10 M11 h11 M12 h12 M13 h13 M14 h14 M15 h15 M16 h16 M17 h17 M18 h18 M19 h19 M20 h20 wi2 bi2 g2 be2 wh f11 f12 f13 f14 f15 e11 e12 e13 e14 e15 v56 v70 v77 v116 qv116 v118 qv118 E _)
  isplitl [H11]; · iexact H11
  isplitl [H12]; · iexact H12
  isplitl [H13]; · iexact H13
  isplitl [H14]; · iexact H14
  isplitl [H15]; · iexact H15
  iintro ⟨H11, H12, H13, H14, H15⟩
  obtain ⟨v127, qv127⟩ : ∃ v, k2_pay13 v59 v60 v118 bh = v := ⟨_, rfl⟩
  obtain ⟨v131, qv131⟩ : ∃ v, k2_pay14 v59 v60 v118 bh = v := ⟨_, rfl⟩
  obtain ⟨v138, qv138⟩ : ∃ v, k2_pay15 v56 v60 v116 = v := ⟨_, rfl⟩
  obtain ⟨v161, qv161⟩ : ∃ v, k2_pay16 v56 v58 v60 v116 wi1 bi1 = v := ⟨_, rfl⟩
  iapply (part4 c i M1 h1 M2 h2 M3 h3 M4 h4 M5 h5 M6 h6 M7 h7 M8 h8 M9 h9 M10 h10 M11 h11 M12 h12 M13 h13 M14 h14 M15 h15 M16 h16 M17 h17 M18 h18 M19 h19 M20 h20 wi1 bi1 bh f9 f10 f16 e9 e10 e16 v56 v58 v59 v60 v116 v118 v127 qv127 v131 qv131 v138 qv138 v161 qv161 E _)
  isplitl [H9]; · iexact H9
  isplitl [H10]; · iexact H10
  isplitl [H16]; · iexact H16
  iintro ⟨H9, H10, H16⟩
  obtain ⟨v194, qv194⟩ : ∃ v, k2_pay17 v138 v161 wi2 bi2 g2 be2 = v := ⟨_, rfl⟩
  obtain ⟨v201, qv201⟩ : ∃ v, k2_pay18 v138 v161 wi2 bi2 g2 be2 wh bh = v := ⟨_, rfl⟩
  obtain ⟨v203, qv203⟩ : ∃ v, k2_pay19 v131 = v := ⟨_, rfl⟩
  iapply (part5 c i M1 h1 M2 h2 M3 h3 M4 h4 M5 h5 M6 h6 M7 h7 M8 h8 M9 h9 M10 h10 M11 h11 M12 h12 M13 h13 M14 h14 M15 h15 M16 h16 M17 h17 M18 h18 M19 h19 M20 h20 wi2 bi2 g2 be2 wh bh f11 f12 f13 f14 f15 f16 e11 e12 e13 e14 e15 e16 v131 v138 v161 v194 qv194 v201 qv201 v203 qv203 E _)
  isplitl [H11]; · iexact H11
  isplitl [H12]; · iexact H12
  isplitl [H13]; · iexact H13
  isplitl [H14]; · iexact H14
  isplitl [H15]; · iexact H15
  isplitl [H16]; · iexact H16
  iintro ⟨H11, H12, H13, H14, H15, H16⟩
  obtain ⟨v205, qv205⟩ : ∃ v, k2_pay20 v127 v201 v203 = v := ⟨_, rfl⟩
  obtain ⟨v209, qv209⟩ : ∃ v, k2_pay21 v127 v131 v201 v203 = v := ⟨_, rfl⟩
  obtain ⟨v216, qv216⟩ : ∃ v, k2_pay22 v131 v138 v194 = v := ⟨_, rfl⟩
  obtain ⟨v245, qv245⟩ : ∃ v, k2_pay23 v58 v131 v138 v194 wi1 bi1 wi2 bi2 = v := ⟨_, rfl⟩
  iapply (part6 c i M1 h1 M2 h2 M3 h3 M4 h4 M5 h5 M6 h6 M7 h7 M8 h8 M9 h9 M10 h10 M11 h11 M12 h12 M13 h13 M14 h14 M15 h15 M16 h16 M17 h17 M18 h18 M19 h19 M20 h20 wi1 bi1 wi2 bi2 f9 f10 f11 f12 e9 e10 e11 e12 v58 v127 v131 v138 v194 v201 v203 v205 qv205 v209 qv209 v216 qv216 v245 qv245 E _)
  isplitl [H9]; · iexact H9
  isplitl [H10]; · iexact H10
  isplitl [H11]; · iexact H11
  isplitl [H12]; · iexact H12
  iintro ⟨H9, H10, H11, H12⟩
  obtain ⟨v272, qv272⟩ : ∃ v, k2_pay24 v216 v245 g2 be2 = v := ⟨_, rfl⟩
  obtain ⟨v287, qv287⟩ : ∃ v, k2_pay25 v205 v209 v216 v245 g2 be2 wh bh = v := ⟨_, rfl⟩
  obtain ⟨v288, qv288⟩ : ∃ v, k2_pay26 (F := F) = v := ⟨_, rfl⟩
  iapply (part7 c i M1 h1 M2 h2 M3 h3 M4 h4 M5 h5 M6 h6 M7 h7 M8 h8 M9 h9 M10 h10 M11 h11 M12 h12 M13 h13 M14 h14 M15 h15 M16 h16 M17 h17 M18 h18 M19 h19 M20 h20 g2 be2 wh bh f13 f14 f15 f16 e13 e14 e15 e16 v205 v209 v216 v245 v272 qv272 v287 qv287 v288 qv288 E _)
  isplitl [H13]; · iexact H13
  isplitl [H14]; · iexact H14
  isplitl [H15]; · iexact H15
  isplitl [H16]; · iexact H16
  iintro ⟨H13, H14, H15, H16⟩
  obtain ⟨v294, qv294⟩ : ∃ v, k2_pay27 v209 v216 v272 v288 = v := ⟨_, rfl⟩
  obtain ⟨v323, qv323⟩ : ∃ v, k2_pay28 v58 v209 v216 v272 v288 wi1 bi1 wi2 bi2 = v := ⟨_, rfl⟩
  obtain ⟨v325, qv325⟩ : ∃ v, k2_pay29 g2 = v := ⟨_, rfl⟩
  obtain ⟨v327, qv327⟩ : ∃ v, k2_pay30 be2 = v := ⟨_, rfl⟩
  obtain ⟨v329, qv329⟩ : ∃ v, k2_pay31 v58 v209 v216 v272 v288 wi1 bi1 wi2 bi2 = v := ⟨_, rfl⟩
  iapply (part8 c i M1 h1 M2 h2 M3 h3 M4 h4 M5 h5 M6 h6 M7 h7 M8 h8 M9 h9 M10 h10 M11 h11 M12 h12 M13 h13 M14 h14 M15 h15 M16 h16 M17 h17 M18 h18 M19 h19 M20 h20 wi1 bi1 wi2 bi2 g2 be2 f9 f10 f11 f12 f13 f14 e9 e10 e11 e12 e13 e14 v58 v209 v216 v272 v288 v294 qv294 v323 qv323 v325 qv325 v327 qv327 v329 qv329 E _)
  isplitl [H9]; · iexact H9
  isplitl [H10]; · iexact H10
  isplitl [H11]; · iexact H11
  isplitl [H12]; · iexact H12
  isplitl [H13]; · iexact H13
  isplitl [H14]; · iexact H14
  iintro ⟨H9, H10, H11, H12, H13, H14⟩
  sl_exec!
  sl_step
  iapply Hk
  iexists _, _
  isplitr
  swap
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  ipureintro
  refine ⟨?_, e20'⟩
  refine (View.read_writes_full ..).trans ?_
  refine (congrArg₂ (k2_pay32 v287 v294 v323 v325 v327 v329) ((View.readAt_full ..).trans e20') ((View.readAt_full ..).trans e18)).trans ?_
  subst qv30 qv32 qv34 qv56 qv58 qv59 qv60 qv70 qv77 qv116 qv118 qv127 qv131 qv138 qv161 qv194 qv201 qv203 qv205 qv209 qv216 qv245 qv272 qv287 qv288 qv294 qv323 qv325 qv327 qv329
  rfl

end Body

end Cert.Proof.Decode
-- ==== Proof.DecodeRegion.lean ====
module

public import proofs.«01_k».proof.Proof.Decode
public import proofs.«01_k».proof.Proof.Gen.KernelIdeal.Points
public import Idealize.ShloMosaic.Lib.Pipeline.RegionArraysS
public import Idealize.ShloMosaic.Lib.Pipeline.FrameBody
public import Idealize.ShloMosaic.Lib.VecWindow

@[expose] public section

set_option maxRecDepth 16384

noncomputable section

namespace Cert.Proof.Decode

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Gather (UU)

variable {F : FTy → Type} [FloatOps F]

local notation "𝕄" => MT nD τ sig (HIx 1) (Elt F) ℕ UU ℕ

/-! ## A whole memref's contents -/

/-- A whole memref owned at what it reads is its buffer held whole at contents that read so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns pt
  rw [h.set_eq_univ]

/-! ## The proof data, at an entry valuation -/

section Data
variable (W : Dev nD → Valuation τ sig (Elt F))

-- Each operand's block at a point, as the fetch stages it: the operand's array at the entry valuation, read through the block.
noncomputable def stg0 (c : Dev nD) (t : Fin cfg2.N) : Vec F S1x512x128 .f32 := ((cfg2.win 0).blk t).view.read (Elt F) (W c (Proc.devRef .tc (Pipeline.arrRef spec2 0)))
noncomputable def stg1 (c : Dev nD) (t : Fin cfg2.N) : Vec F S128x512 .f32 := ((cfg2.win 1).blk t).view.read (Elt F) (W c (Proc.devRef .tc (Pipeline.arrRef spec2 1)))
noncomputable def stg2 (c : Dev nD) (t : Fin cfg2.N) : Vec F S1x512 .f32 := ((cfg2.win 2).blk t).view.read (Elt F) (W c (Proc.devRef .tc (Pipeline.arrRef spec2 2)))
noncomputable def stg3 (c : Dev nD) (t : Fin cfg2.N) : Vec F S512x128 .f32 := ((cfg2.win 3).blk t).view.read (Elt F) (W c (Proc.devRef .tc (Pipeline.arrRef spec2 3)))
noncomputable def stg4 (c : Dev nD) (t : Fin cfg2.N) : Vec F S1x128 .f32 := ((cfg2.win 4).blk t).view.read (Elt F) (W c (Proc.devRef .tc (Pipeline.arrRef spec2 4)))
noncomputable def stg5 (c : Dev nD) (t : Fin cfg2.N) : Vec F S1x128 .f32 := ((cfg2.win 5).blk t).view.read (Elt F) (W c (Proc.devRef .tc (Pipeline.arrRef spec2 5)))
noncomputable def stg6 (c : Dev nD) (t : Fin cfg2.N) : Vec F S1x128 .f32 := ((cfg2.win 6).blk t).view.read (Elt F) (W c (Proc.devRef .tc (Pipeline.arrRef spec2 6)))
noncomputable def stg7 (c : Dev nD) (t : Fin cfg2.N) : Vec F S1x4x128 .f32 := ((cfg2.win 7).blk t).view.read (Elt F) (W c (Proc.devRef .tc (Pipeline.arrRef spec2 7)))
noncomputable def stg8 (c : Dev nD) (t : Fin cfg2.N) : Vec F S256x128 .f32 := ((cfg2.win 8).blk t).view.read (Elt F) (W c (Proc.devRef .tc (Pipeline.arrRef spec2 8)))
noncomputable def stg9 (c : Dev nD) (t : Fin cfg2.N) : Vec F S1x128 .f32 := ((cfg2.win 9).blk t).view.read (Elt F) (W c (Proc.devRef .tc (Pipeline.arrRef spec2 9)))
noncomputable def stg10 (c : Dev nD) (t : Fin cfg2.N) : Vec F S128x128 .f32 := ((cfg2.win 10).blk t).view.read (Elt F) (W c (Proc.devRef .tc (Pipeline.arrRef spec2 10)))
noncomputable def stg11 (c : Dev nD) (t : Fin cfg2.N) : Vec F S1x128 .f32 := ((cfg2.win 11).blk t).view.read (Elt F) (W c (Proc.devRef .tc (Pipeline.arrRef spec2 11)))
noncomputable def stg12 (c : Dev nD) (t : Fin cfg2.N) : Vec F S1x128 .f32 := ((cfg2.win 12).blk t).view.read (Elt F) (W c (Proc.devRef .tc (Pipeline.arrRef spec2 12)))
noncomputable def stg13 (c : Dev nD) (t : Fin cfg2.N) : Vec F S1x128 .f32 := ((cfg2.win 13).blk t).view.read (Elt F) (W c (Proc.devRef .tc (Pipeline.arrRef spec2 13)))
noncomputable def stg14 (c : Dev nD) (t : Fin cfg2.N) : Vec F S128x1 .f32 := ((cfg2.win 14).blk t).view.read (Elt F) (W c (Proc.devRef .tc (Pipeline.arrRef spec2 14)))
noncomputable def stg15 (c : Dev nD) (t : Fin cfg2.N) : Vec F S1x1 .f32 := ((cfg2.win 15).blk t).view.read (Elt F) (W c (Proc.devRef .tc (Pipeline.arrRef spec2 15)))
noncomputable def stg16 (c : Dev nD) (t : Fin cfg2.N) : Vec F S128x8192 .f32 := ((cfg2.win 16).blk t).view.read (Elt F) (W c (Proc.devRef .tc (Pipeline.arrRef spec2 16)))
noncomputable def stg17 (c : Dev nD) (t : Fin cfg2.N) : Vec F S1x8192 .f32 := ((cfg2.win 17).blk t).view.read (Elt F) (W c (Proc.devRef .tc (Pipeline.arrRef spec2 17)))

/-- The decoder's weights in `bf16`: what the scratch buffer holds from the first point on. -/
noncomputable abbrev wdec (c : Dev nD) : Vec F S128x8192 .bf16 := k2_pay1 (stg16 W c t2_0)

/-- The block of logits stored at point `t`. -/
noncomputable abbrev logitsAt (c : Dev nD) (t : Fin cfg2.N) : Vec F S1x512x8192 .f32 :=
  decOut (stg0 W c t) (stg1 W c t) (stg2 W c t) (stg3 W c t) (stg4 W c t) (stg5 W c t) (stg6 W c t) (stg7 W c t)
    (stg8 W c t) (stg9 W c t) (stg10 W c t) (stg11 W c t) (stg12 W c t) (stg13 W c t) (stg14 W c t) (stg15 W c t)
    (wdec W c) (stg17 W c t)

abbrev scrLoc (c : Dev nD) : Loc nD τ sig := (c : Thread nD τ).loc cc2_scratch0

/-- Between points: the scratch buffer, holding the decoder's weights once the first point is over, and the other scoped buffers no
    window stages. -/
noncomputable def Φ (c : Dev nD) (t : Fin (cfg2.N + 1)) : sProp 𝕄 :=
  iprop((∃ s : Buf (Elt F) (scrLoc c), ⌜0 < t.val → s = wdec W c⌝ ∗ scrLoc c ↦{fullShare} s)
    ∗ Pipeline.scopedRestBut (Ix := HIx 1) (Name := ℕ) (U := UU) (Lvl := ℕ) (Val := Elt F) spec2 c [cc2_scratch0])

/-- After the body: the operands' buffers as fetched, the result's at the point's logits. -/
noncomputable def after (c : Dev nD) : (w : Fin 19) → Fin cfg2.N → (cfg2.win w).block.Idx → Elt F (cfg2.win w).elt :=
  Function.update (β := fun w : Fin 19 => Fin cfg2.N → (cfg2.win w).block.Idx → Elt F (cfg2.win w).elt)
    (fun w t => (cfg2.win w).fill (cfg2.grid.coords t) (fun _ => Classical.arbitrary _)
      (((cfg2.win w).blk t).view.read (Elt F) (W c (Proc.devRef .tc (Pipeline.arrRef spec2 w)))))
    18 (logitsAt W c)

theorem after_out (c : Dev nD) (t : Fin cfg2.N) : after W c 18 t = logitsAt W c t := by
  unfold after; rw [Function.update_self]

theorem after_in (c : Dev nD) (w : Fin 19) (h : w ≠ 18) (t : Fin cfg2.N) : after W c w t =
    (cfg2.win w).fill (cfg2.grid.coords t) (fun _ => Classical.arbitrary _)
      (((cfg2.win w).blk t).view.read (Elt F) (W c (Proc.devRef .tc (Pipeline.arrRef spec2 w)))) := by
  unfold after; rw [Function.update_of_ne h]

/-- The proof data of the region: the arrays at the entry valuation; after each point the operands' buffers as fetched and the
    result's at the point's logits; nothing owed. -/
noncomputable def dat (c : Dev nD) : Dat τ (Elt F) (HIx 1) ℕ UU ℕ cfg2 c where
  A w := W c (Proc.devRef .tc (Pipeline.arrRef spec2 w))
  after := after W c
  Φ := Φ W c
  q _ := fullShare
  owed _ := 0

-- An operand's buffer holds its block whenever the body runs: the body leaves it as fetched.
theorem before_in0 (c : Dev nD) (t : Fin cfg2.N) (d : (cfg2.win 0).block.Idx → Elt F (cfg2.win 0).elt) : (dat W c).before 0 t d = stg0 W c t :=
  (dat W c).before_in_eq_fetched 0 rfl (fun _ => rfl) (fun _ _ _ => rfl) (fun _ => rfl) t d
theorem before_in1 (c : Dev nD) (t : Fin cfg2.N) (d : (cfg2.win 1).block.Idx → Elt F (cfg2.win 1).elt) : (dat W c).before 1 t d = stg1 W c t :=
  (dat W c).before_in_eq_fetched 1 rfl (fun _ => rfl) (fun _ _ _ => rfl) (fun _ => rfl) t d
theorem before_in2 (c : Dev nD) (t : Fin cfg2.N) (d : (cfg2.win 2).block.Idx → Elt F (cfg2.win 2).elt) : (dat W c).before 2 t d = stg2 W c t :=
  (dat W c).before_in_eq_fetched 2 rfl (fun _ => rfl) (fun _ _ _ => rfl) (fun _ => rfl) t d
theorem before_in3 (c : Dev nD) (t : Fin cfg2.N) (d : (cfg2.win 3).block.Idx → Elt F (cfg2.win 3).elt) : (dat W c).before 3 t d = stg3 W c t :=
  (dat W c).before_in_eq_fetched 3 rfl (fun _ => rfl) (fun _ _ _ => rfl) (fun _ => rfl) t d
theorem before_in4 (c : Dev nD) (t : Fin cfg2.N) (d : (cfg2.win 4).block.Idx → Elt F (cfg2.win 4).elt) : (dat W c).before 4 t d = stg4 W c t :=
  (dat W c).before_in_eq_fetched 4 rfl (fun _ => rfl) (fun _ _ _ => rfl) (fun _ => rfl) t d
theorem before_in5 (c : Dev nD) (t : Fin cfg2.N) (d : (cfg2.win 5).block.Idx → Elt F (cfg2.win 5).elt) : (dat W c).before 5 t d = stg5 W c t :=
  (dat W c).before_in_eq_fetched 5 rfl (fun _ => rfl) (fun _ _ _ => rfl) (fun _ => rfl) t d
theorem before_in6 (c : Dev nD) (t : Fin cfg2.N) (d : (cfg2.win 6).block.Idx → Elt F (cfg2.win 6).elt) : (dat W c).before 6 t d = stg6 W c t :=
  (dat W c).before_in_eq_fetched 6 rfl (fun _ => rfl) (fun _ _ _ => rfl) (fun _ => rfl) t d
theorem before_in7 (c : Dev nD) (t : Fin cfg2.N) (d : (cfg2.win 7).block.Idx → Elt F (cfg2.win 7).elt) : (dat W c).before 7 t d = stg7 W c t :=
  (dat W c).before_in_eq_fetched 7 rfl (fun _ => rfl) (fun _ _ _ => rfl) (fun _ => rfl) t d
theorem before_in8 (c : Dev nD) (t : Fin cfg2.N) (d : (cfg2.win 8).block.Idx → Elt F (cfg2.win 8).elt) : (dat W c).before 8 t d = stg8 W c t :=
  (dat W c).before_in_eq_fetched 8 rfl (fun _ => rfl) (fun _ _ _ => rfl) (fun _ => rfl) t d
theorem before_in9 (c : Dev nD) (t : Fin cfg2.N) (d : (cfg2.win 9).block.Idx → Elt F (cfg2.win 9).elt) : (dat W c).before 9 t d = stg9 W c t :=
  (dat W c).before_in_eq_fetched 9 rfl (fun _ => rfl) (fun _ _ _ => rfl) (fun _ => rfl) t d
theorem before_in10 (c : Dev nD) (t : Fin cfg2.N) (d : (cfg2.win 10).block.Idx → Elt F (cfg2.win 10).elt) : (dat W c).before 10 t d = stg10 W c t :=
  (dat W c).before_in_eq_fetched 10 rfl (fun _ => rfl) (fun _ _ _ => rfl) (fun _ => rfl) t d
theorem before_in11 (c : Dev nD) (t : Fin cfg2.N) (d : (cfg2.win 11).block.Idx → Elt F (cfg2.win 11).elt) : (dat W c).before 11 t d = stg11 W c t :=
  (dat W c).before_in_eq_fetched 11 rfl (fun _ => rfl) (fun _ _ _ => rfl) (fun _ => rfl) t d
theorem before_in12 (c : Dev nD) (t : Fin cfg2.N) (d : (cfg2.win 12).block.Idx → Elt F (cfg2.win 12).elt) : (dat W c).before 12 t d = stg12 W c t :=
  (dat W c).before_in_eq_fetched 12 rfl (fun _ => rfl) (fun _ _ _ => rfl) (fun _ => rfl) t d
theorem before_in13 (c : Dev nD) (t : Fin cfg2.N) (d : (cfg2.win 13).block.Idx → Elt F (cfg2.win 13).elt) : (dat W c).before 13 t d = stg13 W c t :=
  (dat W c).before_in_eq_fetched 13 rfl (fun _ => rfl) (fun _ _ _ => rfl) (fun _ => rfl) t d
theorem before_in14 (c : Dev nD) (t : Fin cfg2.N) (d : (cfg2.win 14).block.Idx → Elt F (cfg2.win 14).elt) : (dat W c).before 14 t d = stg14 W c t :=
  (dat W c).before_in_eq_fetched 14 rfl (fun _ => rfl) (fun _ _ _ => rfl) (fun _ => rfl) t d
theorem before_in15 (c : Dev nD) (t : Fin cfg2.N) (d : (cfg2.win 15).block.Idx → Elt F (cfg2.win 15).elt) : (dat W c).before 15 t d = stg15 W c t :=
  (dat W c).before_in_eq_fetched 15 rfl (fun _ => rfl) (fun _ _ _ => rfl) (fun _ => rfl) t d
theorem before_in16 (c : Dev nD) (t : Fin cfg2.N) (d : (cfg2.win 16).block.Idx → Elt F (cfg2.win 16).elt) : (dat W c).before 16 t d = stg16 W c t :=
  (dat W c).before_in_eq_fetched 16 rfl (fun _ => rfl) (fun _ _ _ => rfl) (fun _ => rfl) t d
theorem before_in17 (c : Dev nD) (t : Fin cfg2.N) (d : (cfg2.win 17).block.Idx → Elt F (cfg2.win 17).elt) : (dat W c).before 17 t d = stg17 W c t :=
  (dat W c).before_in_eq_fetched 17 rfl (fun _ => rfl) (fun _ _ _ => rfl) (fun _ => rfl) t d

theorem first_zero : firstPoint (grid2.coords t2_0) = 1#1 := by decide
theorem not_first : ∀ t : Fin grid2.N, firstPoint (grid2.coords t) = 1#1 → t.val = 0 := by decide

theorem stg16_const (c : Dev nD) (t : Fin cfg2.N) : stg16 W c t = stg16 W c t2_0 := rfl

theorem scr_step (c : Dev nD) (t : Fin cfg2.N) (s : Vec F S128x8192 .bf16) (hs : 0 < t.val → s = wdec W c) :
    scrAt (grid2.coords t) (stg16 W c t) s = wdec W c := by
  unfold scrAt
  split
  · rfl
  · rename_i h
    refine hs (Nat.pos_of_ne_zero fun h0 => h ?_)
    have : t = t2_0 := Fin.ext h0
    rw [this]; exact first_zero

set_option maxHeartbeats 1000000 in
theorem body_obligation (c : Dev nD) : BodyObligation (dat W c) (defs₀ (F := F)) Variants.none (none : HIx 1) Set.univ := fun t => by
  rw [bigSep_W2, bigSep_W2]
  rw [show (dat W c).Φ t.castSucc = Φ W c t.castSucc from rfl, show (dat W c).Φ t.succ = Φ W c t.succ from rfl,
    show (dat W c).owesAt none t.succ = (dat W c).owesAt none t.castSucc from rfl]
  show iprop(_ ∗ _ ∗ (∃ d, owns (c : Thread nD τ) (st2_0 t) fullShare ((dat W c).before 0 t d)) ∗ (∃ d, owns (c : Thread nD τ) (st2_1 t) fullShare ((dat W c).before 1 t d)) ∗ (∃ d, owns (c : Thread nD τ) (st2_2 t) fullShare ((dat W c).before 2 t d)) ∗ (∃ d, owns (c : Thread nD τ) (st2_3 t) fullShare ((dat W c).before 3 t d)) ∗ (∃ d, owns (c : Thread nD τ) (st2_4 t) fullShare ((dat W c).before 4 t d)) ∗ (∃ d, owns (c : Thread nD τ) (st2_5 t) fullShare ((dat W c).before 5 t d)) ∗ (∃ d, owns (c : Thread nD τ) (st2_6 t) fullShare ((dat W c).before 6 t d)) ∗ (∃ d, owns (c : Thread nD τ) (st2_7 t) fullShare ((dat W c).before 7 t d)) ∗ (∃ d, owns (c : Thread nD τ) (st2_8 t) fullShare ((dat W c).before 8 t d)) ∗ (∃ d, owns (c : Thread nD τ) (st2_9 t) fullShare ((dat W c).before 9 t d)) ∗ (∃ d, owns (c : Thread nD τ) (st2_10 t) fullShare ((dat W c).before 10 t d)) ∗ (∃ d, owns (c : Thread nD τ) (st2_11 t) fullShare ((dat W c).before 11 t d)) ∗ (∃ d, owns (c : Thread nD τ) (st2_12 t) fullShare ((dat W c).before 12 t d)) ∗ (∃ d, owns (c : Thread nD τ) (st2_13 t) fullShare ((dat W c).before 13 t d)) ∗ (∃ d, owns (c : Thread nD τ) (st2_14 t) fullShare ((dat W c).before 14 t d)) ∗ (∃ d, owns (c : Thread nD τ) (st2_15 t) fullShare ((dat W c).before 15 t d)) ∗ (∃ d, owns (c : Thread nD τ) (st2_16 t) fullShare ((dat W c).before 16 t d)) ∗ (∃ d, owns (c : Thread nD τ) (st2_17 t) fullShare ((dat W c).before 17 t d)) ∗ (∃ d, owns (c : Thread nD τ) (st2_18 t) fullShare ((dat W c).before 18 t d))) ⊢ wp frame (wpE (defs₀ (F := F)) Variants.none c none) Set.univ (bodyAt2 t) fun _ => iprop(_ ∗ _ ∗ owns (c : Thread nD τ) (st2_0 t) fullShare (stg0 W c t) ∗ owns (c : Thread nD τ) (st2_1 t) fullShare (stg1 W c t) ∗ owns (c : Thread nD τ) (st2_2 t) fullShare (stg2 W c t) ∗ owns (c : Thread nD τ) (st2_3 t) fullShare (stg3 W c t) ∗ owns (c : Thread nD τ) (st2_4 t) fullShare (stg4 W c t) ∗ owns (c : Thread nD τ) (st2_5 t) fullShare (stg5 W c t) ∗ owns (c : Thread nD τ) (st2_6 t) fullShare (stg6 W c t) ∗ owns (c : Thread nD τ) (st2_7 t) fullShare (stg7 W c t) ∗ owns (c : Thread nD τ) (st2_8 t) fullShare (stg8 W c t) ∗ owns (c : Thread nD τ) (st2_9 t) fullShare (stg9 W c t) ∗ owns (c : Thread nD τ) (st2_10 t) fullShare (stg10 W c t) ∗ owns (c : Thread nD τ) (st2_11 t) fullShare (stg11 W c t) ∗ owns (c : Thread nD τ) (st2_12 t) fullShare (stg12 W c t) ∗ owns (c : Thread nD τ) (st2_13 t) fullShare (stg13 W c t) ∗ owns (c : Thread nD τ) (st2_14 t) fullShare (stg14 W c t) ∗ owns (c : Thread nD τ) (st2_15 t) fullShare (stg15 W c t) ∗ owns (c : Thread nD τ) (st2_16 t) fullShare (stg16 W c t) ∗ owns (c : Thread nD τ) (st2_17 t) fullShare (stg17 W c t) ∗ owns (c : Thread nD τ) (st2_18 t) fullShare (logitsAt W c t))
  simp only [owns_pt c (st2_0 t) (hstage2_0 ((cfg2.slots t 0).cast nbuf2_0)), before_in0 W c]
  simp only [owns_pt c (st2_1 t) (hstage2_1 ((cfg2.slots t 1).cast nbuf2_1)), before_in1 W c]
  simp only [owns_pt c (st2_2 t) (hstage2_2 ((cfg2.slots t 2).cast nbuf2_2)), before_in2 W c]
  simp only [owns_pt c (st2_3 t) (hstage2_3 ((cfg2.slots t 3).cast nbuf2_3)), before_in3 W c]
  simp only [owns_pt c (st2_4 t) (hstage2_4 ((cfg2.slots t 4).cast nbuf2_4)), before_in4 W c]
  simp only [owns_pt c (st2_5 t) (hstage2_5 ((cfg2.slots t 5).cast nbuf2_5)), before_in5 W c]
  simp only [owns_pt c (st2_6 t) (hstage2_6 ((cfg2.slots t 6).cast nbuf2_6)), before_in6 W c]
  simp only [owns_pt c (st2_7 t) (hstage2_7 ((cfg2.slots t 7).cast nbuf2_7)), before_in7 W c]
  simp only [owns_pt c (st2_8 t) (hstage2_8 ((cfg2.slots t 8).cast nbuf2_8)), before_in8 W c]
  simp only [owns_pt c (st2_9 t) (hstage2_9 ((cfg2.slots t 9).cast nbuf2_9)), before_in9 W c]
  simp only [owns_pt c (st2_10 t) (hstage2_10 ((cfg2.slots t 10).cast nbuf2_10)), before_in10 W c]
  simp only [owns_pt c (st2_11 t) (hstage2_11 ((cfg2.slots t 11).cast nbuf2_11)), before_in11 W c]
  simp only [owns_pt c (st2_12 t) (hstage2_12 ((cfg2.slots t 12).cast nbuf2_12)), before_in12 W c]
  simp only [owns_pt c (st2_13 t) (hstage2_13 ((cfg2.slots t 13).cast nbuf2_13)), before_in13 W c]
  simp only [owns_pt c (st2_14 t) (hstage2_14 ((cfg2.slots t 14).cast nbuf2_14)), before_in14 W c]
  simp only [owns_pt c (st2_15 t) (hstage2_15 ((cfg2.slots t 15).cast nbuf2_15)), before_in15 W c]
  simp only [owns_pt c (st2_16 t) (hstage2_16 ((cfg2.slots t 16).cast nbuf2_16)), before_in16 W c]
  simp only [owns_pt c (st2_17 t) (hstage2_17 ((cfg2.slots t 17).cast nbuf2_17)), before_in17 W c]
  simp only [owns_pt c (st2_18 t) (hstage2_18 ((cfg2.slots t 18).cast nbuf2_18))]
  unfold Φ
  iintro ⟨⟨⟨%s, %hs, Hs⟩, Hrest⟩, Howes, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩⟩
  iapply (run c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) (st2_9 t) (hstage2_9 ((cfg2.slots t 9).cast nbuf2_9)) (st2_10 t) (hstage2_10 ((cfg2.slots t 10).cast nbuf2_10)) (st2_11 t) (hstage2_11 ((cfg2.slots t 11).cast nbuf2_11)) (st2_12 t) (hstage2_12 ((cfg2.slots t 12).cast nbuf2_12)) (st2_13 t) (hstage2_13 ((cfg2.slots t 13).cast nbuf2_13)) (st2_14 t) (hstage2_14 ((cfg2.slots t 14).cast nbuf2_14)) (st2_15 t) (hstage2_15 ((cfg2.slots t 15).cast nbuf2_15)) (st2_16 t) (hstage2_16 ((cfg2.slots t 16).cast nbuf2_16)) (st2_17 t) (hstage2_17 ((cfg2.slots t 17).cast nbuf2_17)) (st2_18 t) (hstage2_18 ((cfg2.slots t 18).cast nbuf2_18)) (Memref.whole cc2_scratch0) (Memref.isWhole_whole _) (stg0 W c t) (stg1 W c t) (stg2 W c t) (stg3 W c t) (stg4 W c t) (stg5 W c t) (stg6 W c t) (stg7 W c t) (stg8 W c t) (stg9 W c t) (stg10 W c t) (stg11 W c t) (stg12 W c t) (stg13 W c t) (stg14 W c t) (stg15 W c t) (stg16 W c t) (stg17 W c t) s f0 f1 f2 f3 f4 f5 f6 f7 f8 f9 f10 f11 f12 f13 f14 f15 f16 f17 f18 s
    e0 e1 e2 e3 e4 e5 e6 e7 e8 e9 e10 e11 e12 e13 e14 e15 e16 e17 (View.read_whole ..) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [Hs]; · iexact Hs
  iintro ⟨%g19, %g20, %hg, H0, H1, H2, H3, H4, H5, H6, H7, H8, H9, H10, H11, H12, H13, H14, H15, H16, H17, H18, Hs⟩
  isplitl [Hs Hrest]
  · isplitl [Hs]
    · iexists g20
      isplitr; swap; · iexact Hs
      ipureintro; intro _
      exact hg.2.trans (scr_step W c t s hs)
    iexact Hrest
  isplitl [Howes]; · iexact Howes
  isplitl [H0]; · iexists f0; isplitr; swap; (· iexact H0); ipureintro; exact e0
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists f5; isplitr; swap; (· iexact H5); ipureintro; exact e5
  isplitl [H6]; · iexists f6; isplitr; swap; (· iexact H6); ipureintro; exact e6
  isplitl [H7]; · iexists f7; isplitr; swap; (· iexact H7); ipureintro; exact e7
  isplitl [H8]; · iexists f8; isplitr; swap; (· iexact H8); ipureintro; exact e8
  isplitl [H9]; · iexists f9; isplitr; swap; (· iexact H9); ipureintro; exact e9
  isplitl [H10]; · iexists f10; isplitr; swap; (· iexact H10); ipureintro; exact e10
  isplitl [H11]; · iexists f11; isplitr; swap; (· iexact H11); ipureintro; exact e11
  isplitl [H12]; · iexists f12; isplitr; swap; (· iexact H12); ipureintro; exact e12
  isplitl [H13]; · iexists f13; isplitr; swap; (· iexact H13); ipureintro; exact e13
  isplitl [H14]; · iexists f14; isplitr; swap; (· iexact H14); ipureintro; exact e14
  isplitl [H15]; · iexists f15; isplitr; swap; (· iexact H15); ipureintro; exact e15
  isplitl [H16]; · iexists f16; isplitr; swap; (· iexact H16); ipureintro; exact e16
  isplitl [H17]; · iexists f17; isplitr; swap; (· iexact H17); ipureintro; exact e17
  iexists g19; isplitr; swap; (· iexact H18); ipureintro; exact hg.1.trans (by rw [scr_step W c t s hs])

end Data

open Cert.Proof.Gather (K adm)

/-! ## The region -/

variable (W : Dev nD → Valuation τ sig (Elt F))

/-- Proof data for the pipeline this region does not run: anything. -/
noncomputable def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

noncomputable def pdats : (p : Fin 2) → (c : Dev nD) → Dat τ (Elt F) (HIx 1) ℕ UU ℕ (Pipeline.pin (pcfgs (F := F)) adm p) c
  | ⟨0, _⟩ => fun c => junkDat c
  | ⟨1, _⟩ => fun c => dat W c

theorem scopedRest_split (c : Dev nD) : (Pipeline.scopedRest spec2 c : sProp 𝕄)
    = iprop((∃ f, scrLoc c ↦{fullShare} f) ∗ Pipeline.scopedRestBut spec2 c [cc2_scratch0]) :=
  Pipeline.scopedRest_split_of_list spec2 c [cc2_scratch0] (by decide) (by decide)

theorem levelCut : Pipeline.LevelCut (pcfgs (F := F)) adm (none : HIx 1) (K (F := F)).L (K (F := F)).lev 1 (fun _ : Dev nD => (0 : CellTallies nD τ sig (HIx 1))) (fun _ => 0) where
  hι _ _ _ := Finset.mem_univ _
  hιb _ _ _ := le_rfl
  hD _ _ _ h := absurd h (lt_irrefl _)

noncomputable def reg (S : Finset (DevRef τ sig)) (R : Dev nD → sProp 𝕄) :
    Pipeline.RegionSeg (pcfgs (F := F)) adm (pdats W) (none : HIx 1) defs₀ Variants.none (K (F := F)).L (K (F := F)).lev 1 :=
  Pipeline.RegionSeg.ofHeldIn (pcfgs (F := F)) adm (pdats W) (none : HIx 1) defs₀ Variants.none (K (F := F)).L (K (F := F)).lev 1 (fun _ => 0) S
    (fun _ => BI.emp) (fun _ => BI.emp) launch2.toP rfl (fun c => (body_obligation W c).loose) (fun _ _ => rfl) (fun _ => rfl)
    (fun c w => ((dat W c).share_full (fun _ => rfl)) w)
    (fun c => by
      show iprop(Pipeline.scopedRest spec2 c ∗ emp) ⊢ Φ W c 0
      unfold Φ
      rw [scopedRest_split]
      iintro ⟨⟨⟨%f, Hs⟩, Hr⟩, -⟩
      isplitl [Hs]
      · iexists f; isplitr; swap; · iexact Hs
        ipureintro; exact fun h => absurd h (lt_irrefl 0)
      iexact Hr)
    (fun c => by
      show Φ W c (Fin.last _) ⊢ iprop(Pipeline.scopedRest spec2 c ∗ emp)
      unfold Φ
      rw [scopedRest_split]
      iintro ⟨⟨%f, -, Hs⟩, Hr⟩
      isplitl [Hs Hr]
      · isplitl [Hs]
        · iexists f; iexact Hs
        iexact Hr
      iempintro)
    (fun _ => 0) levelCut R W (fun c w => rfl)

end Cert.Proof.Decode

end
-- ==== Proof.Copies.lean ====
module

public import proofs.«01_k».proof.Proof.Gather
public import proofs.«01_k».proof.Proof.Gen.KernelIdeal.Points
public import Idealize.ShloMosaic.Lib.Pipeline.RegionArraysS
public import Idealize.ShloMosaic.Lib.Pipeline.FrameBody
public import Idealize.ShloMosaic.Lib.VecWindow
public import Idealize.ShloMosaic.Lib.Batch

@[expose] public section

set_option maxRecDepth 16384

noncomputable section

namespace Cert.Proof.Copies

open Cert.KernelIdeal Cert.KernelIdeal.Gen

open Idealize.ShloMosaic
open Idealize.ShloMosaic.TcCoe Idealize.ShloMosaic.Tactic
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Gather (UU)
open Idealize.ShloMosaic.ValueIdx (ix1 ix2)

variable {F : FTy → Type} [FloatOps F]

local notation "𝕄" => MT nD τ sig (HIx 1) (Elt F) ℕ UU ℕ

theorem big_sep (Φ Ψ : Fin 8 → sProp 𝕄) : bigSep Finset.univ (fun b => iprop(Φ b ∗ Ψ b)) = iprop(bigSep Finset.univ Φ ∗ bigSep Finset.univ Ψ) :=
  BI.bigSep_sep _ _ _

/-- The DMA semaphore every copy of the call completes on. -/
abbrev sm : SemLoc sig := .dma cc1_scratch3.sem

namespace Pool

abbrev tab : Memref sig .tc .hbm S1000000x128 .f32 := Memref.whole main_arg12
abbrev scr : Memref sig .tc .vmem S512x128 .f32 := Memref.whole cc1_scratch0

abbrev src (o : Fin 2 → ℕ) (h : ∀ a, o a + S64x128.size a ≤ S1000000x128.size a) : Memref sig .tc .hbm S64x128 .f32 :=
  tab.slice (Rect.unit (s := S1000000x128) o S64x128.size h) (fun _ => rfl)
abbrev dst (o : Fin 2 → ℕ) (h : ∀ a, o a + S64x128.size a ≤ S512x128.size a) : Memref sig .tc .vmem S64x128 .f32 :=
  scr.slice (Rect.unit (s := S512x128) o S64x128.size h) (fun _ => rfl)

abbrev tLoc (c : Dev nD) : Loc nD τ sig := tab.view.loc (c : Thread nD τ)
abbrev sLoc (c : Dev nD) : Loc nD τ sig := scr.view.loc (c : Thread nD τ)

/-- Where copy `b` starts in the table, whose word is `w`. -/
def so (w : BitVec 32) : Fin 2 → ℕ := ![w.toNat, 0]
/-- Where copy `b` lands. -/
def dto (b : Fin 8) : Fin 2 → ℕ := ![64 * b.val, 0]

theorem so_inb {w : BitVec 32} (h : w.toNat + 64 ≤ 1000000) : ∀ a, so w a + S64x128.size a ≤ S1000000x128.size a := by
  intro a; fin_cases a
  · exact h
  · exact le_refl 128
theorem dto_inb (b : Fin 8) : ∀ a, dto b a + S64x128.size a ≤ S512x128.size a := by
  intro a; fin_cases a
  · show 64 * b.val + 64 ≤ 512
    have := b.isLt; omega
  · exact le_refl 128

variable (c : Dev nD) (s : Fin 8 → BitVec 32) (fit : ∀ b, (s b).toNat + 64 ≤ 1000000) (f : Buf (Elt F) (tLoc c)) (g : Buf (Elt F) (sLoc c))

def sset (b : Fin 8) : Finset (Idx (tLoc c)) := (src (so (s b)) (so_inb (fit b))).view.set
def dset (b : Fin 8) : Finset (Idx (sLoc c)) := (dst (dto b) (dto_inb b)).view.set

/-- What the scratch buffer holds once every copy has landed, from the copies' words and the table. -/
noncomputable def rows (s : Fin 8 → BitVec 32) (f : Vec F S1000000x128 .f32) : Vec F S512x128 .f32 := fun i =>
  f (ix2 ⟨((s ⟨(i 0).val / 64, by have := (i 0).isLt; change (i 0).val < 512 at this; omega⟩).toNat + (i 0).val % 64) % 1000000, Nat.mod_lt _ (by decide)⟩ (i 1) : S1000000x128.Idx)

noncomputable def landed : Buf (Elt F) (sLoc c) := rows s f

/-- What copy `b` returns: its block of the scratch buffer as landed, and its read token of the table's block. -/
noncomputable def D (b : Fin 8) : sProp 𝕄 :=
  iprop((sLoc c ↦[dset c b]{fullShare} landed c s f) ∗ (tLoc c ↦[sset c s fit b]{shareTok fullShare 8 b} f))

instance (b : Fin 8) : Storable (upEmb : UEmb _ 𝕄) (D c s fit f b) := by unfold D; infer_instance

/-- What copy `b` takes. -/
noncomputable def Pc (b : Fin 8) : sProp 𝕄 :=
  iprop((sLoc c ↦[dset c b]{fullShare} g) ∗ (tLoc c ↦[sset c s fit b]{shareTok fullShare 8 b} f))

/-- What no copy takes of the table. -/
noncomputable def Rest : sProp 𝕄 :=
  iprop((tLoc c ↦{shareDrop fullShare 8} f) ∗ bigSep Finset.univ fun b : Fin 8 => tLoc c ↦[Finset.univ \ sset c s fit b]{shareTok fullShare 8 b} f)

theorem landed_eq (b : Fin 8) (x : S64x128.Idx) :
    landed c s f ((dst (dto b) (dto_inb b)).view.emb x) = f ((src (so (s b)) (so_inb (fit b))).view.emb x) := by
  have hx : (x 0).val < 64 := (x 0).isLt
  have hb := b.isLt
  have h0 : (((dst (dto b) (dto_inb b)).view.emb x : S512x128.Idx) 0).val = 64 * b.val + (x 0).val := by
    show dto b 0 + 1 * (x 0).val = _
    rw [Nat.one_mul]; rfl
  have h1 : (((dst (dto b) (dto_inb b)).view.emb x : S512x128.Idx) 1).val = (x 1).val := by
    show dto b 1 + 1 * (x 1).val = _
    rw [Nat.one_mul]; exact Nat.zero_add _
  have k0 : (((src (so (s b)) (so_inb (fit b))).view.emb x : S1000000x128.Idx) 0).val = (s b).toNat + (x 0).val := by
    show so (s b) 0 + 1 * (x 0).val = _
    rw [Nat.one_mul]; rfl
  have k1 : (((src (so (s b)) (so_inb (fit b))).view.emb x : S1000000x128.Idx) 1).val = (x 1).val := by
    show so (s b) 1 + 1 * (x 1).val = _
    rw [Nat.one_mul]; exact Nat.zero_add _
  generalize ((dst (dto b) (dto_inb b)).view.emb x : S512x128.Idx) = i at h0 h1 ⊢
  generalize ((src (so (s b)) (so_inb (fit b))).view.emb x : S1000000x128.Idx) = k at k0 k1 ⊢
  have hq : (i 0).val / 64 = b.val := by omega
  have hr : (i 0).val % 64 = (x 0).val := by omega
  show f _ = f _
  congr 1
  funext a; fin_cases a
  · apply Fin.ext
    show ((s ⟨(i 0).val / 64, _⟩).toNat + (i 0).val % 64) % 1000000 = (k 0).val
    have : (⟨(i 0).val / 64, by omega⟩ : Fin 8) = b := Fin.ext hq
    rw [k0, hr, this]
    have := fit b
    exact Nat.mod_eq_of_lt (by omega)
  · apply Fin.ext
    show (i 1).val = (k 1).val
    rw [h1, k1]

/-- The words one copy brings. -/
def N : ℕ := (dst ![0, 0] (dto_inb 0)).view.dmaCredit

theorem N_pos : 0 < N := by decide

/-- The state while the copies are issued, `j` of them out. -/
noncomputable def Ph (j : ℕ) : sProp 𝕄 :=
  iprop(bigSep (pending j) (Pc c s fit f g) ∗ Batch countersEmb (c : Thread nD τ) sm (none : HIx 1) N (D c s fit f) j 0 ∗ Rest c s fit f ∗ ∃ W, owes (c : Thread nD τ) (0 : CellTallies nD τ sig (HIx 1)) W)

/-- The state while they are awaited, `u` waits over. -/
noncomputable def Wt (u : ℕ) : sProp 𝕄 :=
  iprop(Batch countersEmb (c : Thread nD τ) sm (none : HIx 1) N (D c s fit f) 8 (u * N) ∗ Rest c s fit f ∗ ∃ W, owes (c : Thread nD τ) (0 : CellTallies nD τ sig (HIx 1)) W)

theorem Ph_all : Ph c s fit f g 8 ⊢ Wt c s fit f 0 := by
  unfold Ph Wt
  rw [Nat.zero_mul]
  iintro ⟨-, HB, HR, HO⟩
  isplitl [HB]; · iexact HB
  isplitl [HR]; · iexact HR
  iexact HO

theorem start (j : Fin 8) {o : Fin 2 → ℕ} {h} (ho : o = so (s j)) {o' : Fin 2 → ℕ} {h'} (ho' : o' = dto j)
    {hsrc hdst hsem} {α : Type} {k : PUnit → Prog (TpuEff nD τ sig (Elt F) Λ₀ .tc) α} {Q : α → sProp 𝕄} :
    Ph c s fit f g j.val ⊢ iprop((Ph c s fit f g (j.val + 1) -∗ wp frame (wpE (defs₀ (F := F)) Variants.none (c : Thread nD τ) none) Set.univ (k ⟨⟩) Q)
      -∗ wp frame (wpE (defs₀ (F := F)) Variants.none (c : Thread nD τ) none) Set.univ
          (.op (.enqueueDma (src o h) (.here (dst o' h')) sm hsrc hdst hsem) k) Q) := by
  subst ho ho'
  unfold Ph
  iintro ⟨HPL, HB, HR, HO⟩ Hk
  ihave HPL' := (show bigSep (pending j.val) (Pc c s fit f g) ⊢ iprop(Pc c s fit f g j ∗ bigSep (pending (j.val + 1)) (Pc c s fit f g))
    from Entails.of_eq (by rw [pending_succ j.isLt, bigSep_insert (not_mem_pending_succ j.isLt)]; rfl)) $$ HPL
  icases HPL' with ⟨HP, HL⟩
  ihave HP' := (Entails.of_eq (show Pc c s fit f g j = iprop((sLoc c ↦[dset c j]{fullShare} g) ∗ (tLoc c ↦[sset c s fit j]{shareTok fullShare 8 j} f)) from rfl)) $$ HP
  icases HP' with ⟨Hd, Hs⟩
  iapply (wp_dmaBatch (countersEmb) Variants.none (c : Thread nD τ) none (src := src (so (s j)) h) (dst := dst (dto j) h') (fs := f) (fd := g) (q := shareTok fullShare 8 j)
    (Sd := dset c j) (none : HIx 1) N (by rfl) (Finset.Subset.refl _) j.isLt (Nat.zero_le _) (D := D c s fit f) ?hD) $$ [Hs Hd HB]
  case hD =>
    unfold D
    refine sep_mono (Entails.of_eq (pointsTo_congr fun i hi => ?_)) (Entails.of_eq rfl)
    obtain ⟨x, -, rfl⟩ := Finset.mem_map.mp hi
    rw [View.write_emb_of_mem _ _ (Finset.mem_univ x)]
    refine (cast_eq _ _).trans ?_
    exact (landed_eq c s fit f j x).symm
  · isplitl [Hs]; · iexact Hs
    isplitl [Hd]; · iexact Hd
    iexact HB
  iintro HB
  iapply Hk
  isplitl [HL]; · iexact HL
  isplitl [HB]; · iexact HB
  isplitl [HR]; · iexact HR
  iexact HO

theorem issue (j : ℕ) (hj : j < 8) {o : Fin 2 → ℕ} {h} (ho : o = so (s ⟨j, hj⟩)) {o' : Fin 2 → ℕ} {h'} (ho' : o' = dto ⟨j, hj⟩)
    {hsrc hdst hsem} {α : Type} {k : PUnit → Prog (TpuEff nD τ sig (Elt F) Λ₀ .tc) α} {Q : α → sProp 𝕄} :
    Ph c s fit f g j ⊢ iprop((Ph c s fit f g (j + 1) -∗ wp frame (wpE (defs₀ (F := F)) Variants.none (c : Thread nD τ) none) Set.univ (k ⟨⟩) Q)
      -∗ wp frame (wpE (defs₀ (F := F)) Variants.none (c : Thread nD τ) none) Set.univ
          (.op (.enqueueDma (src o h) (.here (dst o' h')) sm hsrc hdst hsem) k) Q) :=
  start c s fit f g ⟨j, hj⟩ ho ho'

theorem wait (u : ℕ) (hu : u < 7) {o : Fin 2 → ℕ} {h} {o' : Fin 2 → ℕ} {h'} {hsrc hdst}
    {α : Type} {k : PUnit → Prog (TpuEff nD τ sig (Elt F) Λ₀ .tc) α} {Q : α → sProp 𝕄} :
    Wt c s fit f u ⊢ iprop((Wt c s fit f (u + 1) -∗ wp frame (wpE (defs₀ (F := F)) Variants.none (c : Thread nD τ) none) Set.univ (k ⟨⟩) Q)
      -∗ wp frame (wpE (defs₀ (F := F)) Variants.none (c : Thread nD τ) none) Set.univ
          (.op (.waitDma2 cc1_scratch3.sem (src o h) (dst o' h') hsrc hdst) k) Q) := by
  unfold Wt
  iintro ⟨HB, HR, ⟨%W, HO⟩⟩ Hk
  iapply (wp_waitBatch (countersEmb) Variants.none (c : Thread nD τ) none (none : HIx 1) (N := N) (by rfl) (D := D c s fit f) (u := u * N) (by have := N_pos; nlinarith) (W := W)) $$ [HB HO]
  · isplitl [HB]; · iexact HB
    iexact HO
  iintro ⟨HB, HO⟩
  iapply Hk
  rw [Nat.succ_mul]
  isplitl [HB]; · iexact HB
  isplitl [HR]; · iexact HR
  iexists _; iexact HO

theorem dset_disjoint : ∀ b ∈ (Finset.univ : Finset (Fin 8)), ∀ b' ∈ (Finset.univ : Finset (Fin 8)), b ≠ b' → Disjoint (dset c b) (dset c b') := by
  intro b _ b' _ hne
  rw [Finset.disjoint_left]
  intro i hi hi'
  obtain ⟨x, -, rfl⟩ := Finset.mem_map.mp hi
  obtain ⟨y, -, hy⟩ := Finset.mem_map.mp hi'
  have hx : (x 0).val < 64 := (x 0).isLt
  have hy0 : (y 0).val < 64 := (y 0).isLt
  have h0 : 64 * b'.val + (y 0).val = 64 * b.val + (x 0).val := by
    have := congrArg (fun i : S512x128.Idx => (i 0).val) hy
    change dto b' 0 + 1 * (y 0).val = dto b 0 + 1 * (x 0).val at this
    rw [Nat.one_mul, Nat.one_mul] at this
    exact this
  exact hne (Fin.ext (by omega))

theorem dset_cover : (Finset.univ : Finset (Fin 8)).biUnion (dset c) = Finset.univ := by
  refine Finset.eq_univ_iff_forall.mpr fun i : S512x128.Idx => ?_
  have hi : (i 0).val < 512 := (i 0).isLt
  have hi1 : (i 1).val < 128 := (i 1).isLt
  refine Finset.mem_biUnion.mpr ⟨⟨(i 0).val / 64, by omega⟩, Finset.mem_univ _, ?_⟩
  refine Finset.mem_map.mpr ⟨(ix2 ⟨(i 0).val % 64, by omega⟩ ⟨(i 1).val, hi1⟩ : S64x128.Idx), Finset.mem_univ _, ?_⟩
  funext a; fin_cases a
  · apply Fin.ext
    show 64 * ((i 0).val / 64) + 1 * ((i 0).val % 64) = (i 0).val
    omega
  · apply Fin.ext
    show 0 + 1 * (i 1).val = (i 1).val
    omega

theorem scr_split (q : PosShare TreeShare) (g' : Buf (Elt F) (sLoc c)) :
    (sLoc c ↦{q} g' : sProp 𝕄) = bigSep Finset.univ fun b => (sLoc c ↦[dset c b]{q} g' : sProp 𝕄) := by
  rw [← pointsTo_biUnion (ℓ := sLoc c) Finset.univ (dset c) (dset_disjoint c), dset_cover]

theorem tab_split (b : Fin 8) : (tLoc c ↦{shareTok fullShare 8 b} f : sProp 𝕄)
    = iprop((tLoc c ↦[sset c s fit b]{shareTok fullShare 8 b} f) ∗ (tLoc c ↦[Finset.univ \ sset c s fit b]{shareTok fullShare 8 b} f)) := by
  have h : (tLoc c ↦[sset c s fit b ∪ (Finset.univ \ sset c s fit b)]{shareTok fullShare 8 b} f : sProp 𝕄)
      ⊣⊢ iprop((tLoc c ↦[sset c s fit b]{shareTok fullShare 8 b} f) ∗ (tLoc c ↦[Finset.univ \ sset c s fit b]{shareTok fullShare 8 b} f)) :=
    pointsTo_union (Finset.disjoint_sdiff)
  rw [Finset.union_sdiff_of_subset (Finset.subset_univ _)] at h
  exact BI.equiv_iff.mp ⟨h.1, h.2⟩

theorem begin (E : Set ℕ) : iprop((tLoc c ↦{fullShare} f) ∗ (sLoc c ↦{fullShare} g) ∗ semVal ((c : Thread nD τ), sm) 0 ∗ ∃ W, owes (c : Thread nD τ) (0 : CellTallies nD τ sig (HIx 1)) W)
    ⊢ (|={E}=> Ph c s fit f g 0 : sProp 𝕄) := by
  unfold Ph Rest
  iintro ⟨HT, HS, Hv, HO⟩
  imod (batch_alloc' countersEmb (c : Thread nD τ) (none : HIx 1) N (D c s fit f) (sm := sm) (E := E)) $$ Hv with HB
  ihave HT' := (pointsTo_toks_split fullShare 8) $$ HT
  icases HT' with ⟨HT0, HTs⟩
  ihave HTs' := (Entails.of_eq ((congrArg (bigSep Finset.univ) (funext fun b => tab_split c s fit f b)).trans (big_sep _ _))) $$ HTs
  icases HTs' with ⟨HT1, HT2⟩
  ihave HS' := (Entails.of_eq (scr_split c fullShare g)) $$ HS
  imodintro
  isplitl [HS' HT1]
  · rw [pending_zero]
    iapply (Entails.of_eq (big_sep (fun b => (sLoc c ↦[dset c b]{fullShare} g : sProp 𝕄)) (fun b => (tLoc c ↦[sset c s fit b]{shareTok fullShare 8 b} f : sProp 𝕄))).symm)
    isplitl [HS']; · iexact HS'
    iexact HT1
  isplitl [HB]; · iexact HB
  isplitl [HT0 HT2]
  · isplitl [HT0]; · iexact HT0
    iexact HT2
  iexact HO

theorem finish {o : Fin 2 → ℕ} {h} {o' : Fin 2 → ℕ} {h'} {hsrc hdst}
    {α : Type} {k : PUnit → Prog (TpuEff nD τ sig (Elt F) Λ₀ .tc) α} {Q : α → sProp 𝕄} :
    Wt c s fit f 7 ⊢ iprop((iprop((tLoc c ↦{fullShare} f) ∗ (sLoc c ↦{fullShare} landed c s f) ∗ semVal ((c : Thread nD τ), sm) 0 ∗ ∃ W, owes (c : Thread nD τ) (0 : CellTallies nD τ sig (HIx 1)) W) -∗ wp frame (wpE (defs₀ (F := F)) Variants.none (c : Thread nD τ) none) Set.univ (k ⟨⟩) Q)
      -∗ wp frame (wpE (defs₀ (F := F)) Variants.none (c : Thread nD τ) none) Set.univ
          (.op (.waitDma2 cc1_scratch3.sem (src o h) (dst o' h') hsrc hdst) k) Q) := by
  unfold Wt Rest
  iintro ⟨HB, ⟨HT0, HT2⟩, ⟨%W, HO⟩⟩ Hk
  iapply (wp_waitBatchLast (countersEmb) Variants.none (c : Thread nD τ) none (none : HIx 1) (N := N) (by rfl) N_pos (D := D c s fit f) (u := 7 * N) (by omega) (W := W)) $$ [HB HO]
  · isplitl [HB]; · iexact HB
    iexact HO
  iintro ⟨HD, Hv, HO⟩
  ihave HD0 := (show bigSep Finset.univ (D c s fit f) ⊢ bigSep Finset.univ (fun b => iprop((sLoc c ↦[dset c b]{fullShare} landed c s f) ∗ (tLoc c ↦[sset c s fit b]{shareTok fullShare 8 b} f)))
    from Entails.of_eq rfl) $$ HD
  ihave HD' := (Entails.of_eq (big_sep (fun b => (sLoc c ↦[dset c b]{fullShare} landed c s f : sProp 𝕄)) (fun b => (tLoc c ↦[sset c s fit b]{shareTok fullShare 8 b} f : sProp 𝕄)))) $$ HD0
  icases HD' with ⟨HS, HT1⟩
  iapply Hk
  isplitl [HT0 HT1 HT2]
  · iapply (pointsTo_toks_join fullShare 8)
    isplitl [HT0]; · iexact HT0
    iapply (Entails.of_eq ((congrArg (bigSep Finset.univ) (funext fun b => tab_split c s fit f b)).trans (big_sep _ _)).symm)
    isplitl [HT1]; · iexact HT1
    iexact HT2
  isplitl [HS]
  · iapply (Entails.of_eq (scr_split c fullShare (landed c s f)).symm); iexact HS
  isplitl [Hv]; · iexact Hv
  iexists _; iexact HO

end Pool

namespace Emb

abbrev tab : Memref sig .tc .hbm S8192x128 .f32 := Memref.whole main_arg1
abbrev scr : Memref sig .tc .vmem S8x128 .f32 := Memref.whole cc1_scratch2

abbrev src (o : Fin 2 → ℕ) (h : ∀ a, o a + S1x128.size a ≤ S8192x128.size a) : Memref sig .tc .hbm S1x128 .f32 :=
  tab.slice (Rect.unit (s := S8192x128) o S1x128.size h) (fun _ => rfl)
abbrev dst (o : Fin 2 → ℕ) (h : ∀ a, o a + S1x128.size a ≤ S8x128.size a) : Memref sig .tc .vmem S1x128 .f32 :=
  scr.slice (Rect.unit (s := S8x128) o S1x128.size h) (fun _ => rfl)

abbrev tLoc (c : Dev nD) : Loc nD τ sig := tab.view.loc (c : Thread nD τ)
abbrev sLoc (c : Dev nD) : Loc nD τ sig := scr.view.loc (c : Thread nD τ)

/-- Where copy `b` starts in the table, whose word is `w`. -/
def so (w : BitVec 32) : Fin 2 → ℕ := ![w.toNat, 0]
/-- Where copy `b` lands. -/
def dto (b : Fin 8) : Fin 2 → ℕ := ![1 * b.val, 0]

theorem so_inb {w : BitVec 32} (h : w.toNat + 1 ≤ 8192) : ∀ a, so w a + S1x128.size a ≤ S8192x128.size a := by
  intro a; fin_cases a
  · exact h
  · exact le_refl 128
theorem dto_inb (b : Fin 8) : ∀ a, dto b a + S1x128.size a ≤ S8x128.size a := by
  intro a; fin_cases a
  · show 1 * b.val + 1 ≤ 8
    have := b.isLt; omega
  · exact le_refl 128

variable (c : Dev nD) (s : Fin 8 → BitVec 32) (fit : ∀ b, (s b).toNat + 1 ≤ 8192) (f : Buf (Elt F) (tLoc c)) (g : Buf (Elt F) (sLoc c))

def sset (b : Fin 8) : Finset (Idx (tLoc c)) := (src (so (s b)) (so_inb (fit b))).view.set
def dset (b : Fin 8) : Finset (Idx (sLoc c)) := (dst (dto b) (dto_inb b)).view.set

/-- What the scratch buffer holds once every copy has landed, from the copies' words and the table. -/
noncomputable def rows (s : Fin 8 → BitVec 32) (f : Vec F S8192x128 .f32) : Vec F S8x128 .f32 := fun i =>
  f (ix2 ⟨((s ⟨(i 0).val / 1, by have := (i 0).isLt; change (i 0).val < 8 at this; omega⟩).toNat + (i 0).val % 1) % 8192, Nat.mod_lt _ (by decide)⟩ (i 1) : S8192x128.Idx)

noncomputable def landed : Buf (Elt F) (sLoc c) := rows s f

/-- What copy `b` returns: its block of the scratch buffer as landed, and its read token of the table's block. -/
noncomputable def D (b : Fin 8) : sProp 𝕄 :=
  iprop((sLoc c ↦[dset c b]{fullShare} landed c s f) ∗ (tLoc c ↦[sset c s fit b]{shareTok fullShare 8 b} f))

instance (b : Fin 8) : Storable (upEmb : UEmb _ 𝕄) (D c s fit f b) := by unfold D; infer_instance

/-- What copy `b` takes. -/
noncomputable def Pc (b : Fin 8) : sProp 𝕄 :=
  iprop((sLoc c ↦[dset c b]{fullShare} g) ∗ (tLoc c ↦[sset c s fit b]{shareTok fullShare 8 b} f))

/-- What no copy takes of the table. -/
noncomputable def Rest : sProp 𝕄 :=
  iprop((tLoc c ↦{shareDrop fullShare 8} f) ∗ bigSep Finset.univ fun b : Fin 8 => tLoc c ↦[Finset.univ \ sset c s fit b]{shareTok fullShare 8 b} f)

theorem landed_eq (b : Fin 8) (x : S1x128.Idx) :
    landed c s f ((dst (dto b) (dto_inb b)).view.emb x) = f ((src (so (s b)) (so_inb (fit b))).view.emb x) := by
  have hx : (x 0).val < 1 := (x 0).isLt
  have hb := b.isLt
  have h0 : (((dst (dto b) (dto_inb b)).view.emb x : S8x128.Idx) 0).val = 1 * b.val + (x 0).val := by
    show dto b 0 + 1 * (x 0).val = _
    rw [Nat.one_mul]; rfl
  have h1 : (((dst (dto b) (dto_inb b)).view.emb x : S8x128.Idx) 1).val = (x 1).val := by
    show dto b 1 + 1 * (x 1).val = _
    rw [Nat.one_mul]; exact Nat.zero_add _
  have k0 : (((src (so (s b)) (so_inb (fit b))).view.emb x : S8192x128.Idx) 0).val = (s b).toNat + (x 0).val := by
    show so (s b) 0 + 1 * (x 0).val = _
    rw [Nat.one_mul]; rfl
  have k1 : (((src (so (s b)) (so_inb (fit b))).view.emb x : S8192x128.Idx) 1).val = (x 1).val := by
    show so (s b) 1 + 1 * (x 1).val = _
    rw [Nat.one_mul]; exact Nat.zero_add _
  generalize ((dst (dto b) (dto_inb b)).view.emb x : S8x128.Idx) = i at h0 h1 ⊢
  generalize ((src (so (s b)) (so_inb (fit b))).view.emb x : S8192x128.Idx) = k at k0 k1 ⊢
  have hq : (i 0).val / 1 = b.val := by omega
  have hr : (i 0).val % 1 = (x 0).val := by omega
  show f _ = f _
  congr 1
  funext a; fin_cases a
  · apply Fin.ext
    show ((s ⟨(i 0).val / 1, _⟩).toNat + (i 0).val % 1) % 8192 = (k 0).val
    have : (⟨(i 0).val / 1, by omega⟩ : Fin 8) = b := Fin.ext hq
    rw [k0, hr, this]
    have := fit b
    exact Nat.mod_eq_of_lt (by omega)
  · apply Fin.ext
    show (i 1).val = (k 1).val
    rw [h1, k1]

/-- The words one copy brings. -/
def N : ℕ := (dst ![0, 0] (dto_inb 0)).view.dmaCredit

theorem N_pos : 0 < N := by decide

/-- The state while the copies are issued, `j` of them out. -/
noncomputable def Ph (j : ℕ) : sProp 𝕄 :=
  iprop(bigSep (pending j) (Pc c s fit f g) ∗ Batch countersEmb (c : Thread nD τ) sm (none : HIx 1) N (D c s fit f) j 0 ∗ Rest c s fit f ∗ ∃ W, owes (c : Thread nD τ) (0 : CellTallies nD τ sig (HIx 1)) W)

/-- The state while they are awaited, `u` waits over. -/
noncomputable def Wt (u : ℕ) : sProp 𝕄 :=
  iprop(Batch countersEmb (c : Thread nD τ) sm (none : HIx 1) N (D c s fit f) 8 (u * N) ∗ Rest c s fit f ∗ ∃ W, owes (c : Thread nD τ) (0 : CellTallies nD τ sig (HIx 1)) W)

theorem Ph_all : Ph c s fit f g 8 ⊢ Wt c s fit f 0 := by
  unfold Ph Wt
  rw [Nat.zero_mul]
  iintro ⟨-, HB, HR, HO⟩
  isplitl [HB]; · iexact HB
  isplitl [HR]; · iexact HR
  iexact HO

theorem start (j : Fin 8) {o : Fin 2 → ℕ} {h} (ho : o = so (s j)) {o' : Fin 2 → ℕ} {h'} (ho' : o' = dto j)
    {hsrc hdst hsem} {α : Type} {k : PUnit → Prog (TpuEff nD τ sig (Elt F) Λ₀ .tc) α} {Q : α → sProp 𝕄} :
    Ph c s fit f g j.val ⊢ iprop((Ph c s fit f g (j.val + 1) -∗ wp frame (wpE (defs₀ (F := F)) Variants.none (c : Thread nD τ) none) Set.univ (k ⟨⟩) Q)
      -∗ wp frame (wpE (defs₀ (F := F)) Variants.none (c : Thread nD τ) none) Set.univ
          (.op (.enqueueDma (src o h) (.here (dst o' h')) sm hsrc hdst hsem) k) Q) := by
  subst ho ho'
  unfold Ph
  iintro ⟨HPL, HB, HR, HO⟩ Hk
  ihave HPL' := (show bigSep (pending j.val) (Pc c s fit f g) ⊢ iprop(Pc c s fit f g j ∗ bigSep (pending (j.val + 1)) (Pc c s fit f g))
    from Entails.of_eq (by rw [pending_succ j.isLt, bigSep_insert (not_mem_pending_succ j.isLt)]; rfl)) $$ HPL
  icases HPL' with ⟨HP, HL⟩
  ihave HP' := (Entails.of_eq (show Pc c s fit f g j = iprop((sLoc c ↦[dset c j]{fullShare} g) ∗ (tLoc c ↦[sset c s fit j]{shareTok fullShare 8 j} f)) from rfl)) $$ HP
  icases HP' with ⟨Hd, Hs⟩
  iapply (wp_dmaBatch (countersEmb) Variants.none (c : Thread nD τ) none (src := src (so (s j)) h) (dst := dst (dto j) h') (fs := f) (fd := g) (q := shareTok fullShare 8 j)
    (Sd := dset c j) (none : HIx 1) N (by rfl) (Finset.Subset.refl _) j.isLt (Nat.zero_le _) (D := D c s fit f) ?hD) $$ [Hs Hd HB]
  case hD =>
    unfold D
    refine sep_mono (Entails.of_eq (pointsTo_congr fun i hi => ?_)) (Entails.of_eq rfl)
    obtain ⟨x, -, rfl⟩ := Finset.mem_map.mp hi
    rw [View.write_emb_of_mem _ _ (Finset.mem_univ x)]
    refine (cast_eq _ _).trans ?_
    exact (landed_eq c s fit f j x).symm
  · isplitl [Hs]; · iexact Hs
    isplitl [Hd]; · iexact Hd
    iexact HB
  iintro HB
  iapply Hk
  isplitl [HL]; · iexact HL
  isplitl [HB]; · iexact HB
  isplitl [HR]; · iexact HR
  iexact HO

theorem issue (j : ℕ) (hj : j < 8) {o : Fin 2 → ℕ} {h} (ho : o = so (s ⟨j, hj⟩)) {o' : Fin 2 → ℕ} {h'} (ho' : o' = dto ⟨j, hj⟩)
    {hsrc hdst hsem} {α : Type} {k : PUnit → Prog (TpuEff nD τ sig (Elt F) Λ₀ .tc) α} {Q : α → sProp 𝕄} :
    Ph c s fit f g j ⊢ iprop((Ph c s fit f g (j + 1) -∗ wp frame (wpE (defs₀ (F := F)) Variants.none (c : Thread nD τ) none) Set.univ (k ⟨⟩) Q)
      -∗ wp frame (wpE (defs₀ (F := F)) Variants.none (c : Thread nD τ) none) Set.univ
          (.op (.enqueueDma (src o h) (.here (dst o' h')) sm hsrc hdst hsem) k) Q) :=
  start c s fit f g ⟨j, hj⟩ ho ho'

theorem wait (u : ℕ) (hu : u < 7) {o : Fin 2 → ℕ} {h} {o' : Fin 2 → ℕ} {h'} {hsrc hdst}
    {α : Type} {k : PUnit → Prog (TpuEff nD τ sig (Elt F) Λ₀ .tc) α} {Q : α → sProp 𝕄} :
    Wt c s fit f u ⊢ iprop((Wt c s fit f (u + 1) -∗ wp frame (wpE (defs₀ (F := F)) Variants.none (c : Thread nD τ) none) Set.univ (k ⟨⟩) Q)
      -∗ wp frame (wpE (defs₀ (F := F)) Variants.none (c : Thread nD τ) none) Set.univ
          (.op (.waitDma2 cc1_scratch3.sem (src o h) (dst o' h') hsrc hdst) k) Q) := by
  unfold Wt
  iintro ⟨HB, HR, ⟨%W, HO⟩⟩ Hk
  iapply (wp_waitBatch (countersEmb) Variants.none (c : Thread nD τ) none (none : HIx 1) (N := N) (by rfl) (D := D c s fit f) (u := u * N) (by have := N_pos; nlinarith) (W := W)) $$ [HB HO]
  · isplitl [HB]; · iexact HB
    iexact HO
  iintro ⟨HB, HO⟩
  iapply Hk
  rw [Nat.succ_mul]
  isplitl [HB]; · iexact HB
  isplitl [HR]; · iexact HR
  iexists _; iexact HO

theorem dset_disjoint : ∀ b ∈ (Finset.univ : Finset (Fin 8)), ∀ b' ∈ (Finset.univ : Finset (Fin 8)), b ≠ b' → Disjoint (dset c b) (dset c b') := by
  intro b _ b' _ hne
  rw [Finset.disjoint_left]
  intro i hi hi'
  obtain ⟨x, -, rfl⟩ := Finset.mem_map.mp hi
  obtain ⟨y, -, hy⟩ := Finset.mem_map.mp hi'
  have hx : (x 0).val < 1 := (x 0).isLt
  have hy0 : (y 0).val < 1 := (y 0).isLt
  have h0 : 1 * b'.val + (y 0).val = 1 * b.val + (x 0).val := by
    have := congrArg (fun i : S8x128.Idx => (i 0).val) hy
    change dto b' 0 + 1 * (y 0).val = dto b 0 + 1 * (x 0).val at this
    rw [Nat.one_mul, Nat.one_mul] at this
    exact this
  exact hne (Fin.ext (by omega))

theorem dset_cover : (Finset.univ : Finset (Fin 8)).biUnion (dset c) = Finset.univ := by
  refine Finset.eq_univ_iff_forall.mpr fun i : S8x128.Idx => ?_
  have hi : (i 0).val < 8 := (i 0).isLt
  have hi1 : (i 1).val < 128 := (i 1).isLt
  refine Finset.mem_biUnion.mpr ⟨⟨(i 0).val / 1, by omega⟩, Finset.mem_univ _, ?_⟩
  refine Finset.mem_map.mpr ⟨(ix2 ⟨(i 0).val % 1, by omega⟩ ⟨(i 1).val, hi1⟩ : S1x128.Idx), Finset.mem_univ _, ?_⟩
  funext a; fin_cases a
  · apply Fin.ext
    show 1 * ((i 0).val / 1) + 1 * ((i 0).val % 1) = (i 0).val
    omega
  · apply Fin.ext
    show 0 + 1 * (i 1).val = (i 1).val
    omega

theorem scr_split (q : PosShare TreeShare) (g' : Buf (Elt F) (sLoc c)) :
    (sLoc c ↦{q} g' : sProp 𝕄) = bigSep Finset.univ fun b => (sLoc c ↦[dset c b]{q} g' : sProp 𝕄) := by
  rw [← pointsTo_biUnion (ℓ := sLoc c) Finset.univ (dset c) (dset_disjoint c), dset_cover]

theorem tab_split (b : Fin 8) : (tLoc c ↦{shareTok fullShare 8 b} f : sProp 𝕄)
    = iprop((tLoc c ↦[sset c s fit b]{shareTok fullShare 8 b} f) ∗ (tLoc c ↦[Finset.univ \ sset c s fit b]{shareTok fullShare 8 b} f)) := by
  have h : (tLoc c ↦[sset c s fit b ∪ (Finset.univ \ sset c s fit b)]{shareTok fullShare 8 b} f : sProp 𝕄)
      ⊣⊢ iprop((tLoc c ↦[sset c s fit b]{shareTok fullShare 8 b} f) ∗ (tLoc c ↦[Finset.univ \ sset c s fit b]{shareTok fullShare 8 b} f)) :=
    pointsTo_union (Finset.disjoint_sdiff)
  rw [Finset.union_sdiff_of_subset (Finset.subset_univ _)] at h
  exact BI.equiv_iff.mp ⟨h.1, h.2⟩

theorem begin (E : Set ℕ) : iprop((tLoc c ↦{fullShare} f) ∗ (sLoc c ↦{fullShare} g) ∗ semVal ((c : Thread nD τ), sm) 0 ∗ ∃ W, owes (c : Thread nD τ) (0 : CellTallies nD τ sig (HIx 1)) W)
    ⊢ (|={E}=> Ph c s fit f g 0 : sProp 𝕄) := by
  unfold Ph Rest
  iintro ⟨HT, HS, Hv, HO⟩
  imod (batch_alloc' countersEmb (c : Thread nD τ) (none : HIx 1) N (D c s fit f) (sm := sm) (E := E)) $$ Hv with HB
  ihave HT' := (pointsTo_toks_split fullShare 8) $$ HT
  icases HT' with ⟨HT0, HTs⟩
  ihave HTs' := (Entails.of_eq ((congrArg (bigSep Finset.univ) (funext fun b => tab_split c s fit f b)).trans (big_sep _ _))) $$ HTs
  icases HTs' with ⟨HT1, HT2⟩
  ihave HS' := (Entails.of_eq (scr_split c fullShare g)) $$ HS
  imodintro
  isplitl [HS' HT1]
  · rw [pending_zero]
    iapply (Entails.of_eq (big_sep (fun b => (sLoc c ↦[dset c b]{fullShare} g : sProp 𝕄)) (fun b => (tLoc c ↦[sset c s fit b]{shareTok fullShare 8 b} f : sProp 𝕄))).symm)
    isplitl [HS']; · iexact HS'
    iexact HT1
  isplitl [HB]; · iexact HB
  isplitl [HT0 HT2]
  · isplitl [HT0]; · iexact HT0
    iexact HT2
  iexact HO

theorem finish {o : Fin 2 → ℕ} {h} {o' : Fin 2 → ℕ} {h'} {hsrc hdst}
    {α : Type} {k : PUnit → Prog (TpuEff nD τ sig (Elt F) Λ₀ .tc) α} {Q : α → sProp 𝕄} :
    Wt c s fit f 7 ⊢ iprop((iprop((tLoc c ↦{fullShare} f) ∗ (sLoc c ↦{fullShare} landed c s f) ∗ semVal ((c : Thread nD τ), sm) 0 ∗ ∃ W, owes (c : Thread nD τ) (0 : CellTallies nD τ sig (HIx 1)) W) -∗ wp frame (wpE (defs₀ (F := F)) Variants.none (c : Thread nD τ) none) Set.univ (k ⟨⟩) Q)
      -∗ wp frame (wpE (defs₀ (F := F)) Variants.none (c : Thread nD τ) none) Set.univ
          (.op (.waitDma2 cc1_scratch3.sem (src o h) (dst o' h') hsrc hdst) k) Q) := by
  unfold Wt Rest
  iintro ⟨HB, ⟨HT0, HT2⟩, ⟨%W, HO⟩⟩ Hk
  iapply (wp_waitBatchLast (countersEmb) Variants.none (c : Thread nD τ) none (none : HIx 1) (N := N) (by rfl) N_pos (D := D c s fit f) (u := 7 * N) (by omega) (W := W)) $$ [HB HO]
  · isplitl [HB]; · iexact HB
    iexact HO
  iintro ⟨HD, Hv, HO⟩
  ihave HD0 := (show bigSep Finset.univ (D c s fit f) ⊢ bigSep Finset.univ (fun b => iprop((sLoc c ↦[dset c b]{fullShare} landed c s f) ∗ (tLoc c ↦[sset c s fit b]{shareTok fullShare 8 b} f)))
    from Entails.of_eq rfl) $$ HD
  ihave HD' := (Entails.of_eq (big_sep (fun b => (sLoc c ↦[dset c b]{fullShare} landed c s f : sProp 𝕄)) (fun b => (tLoc c ↦[sset c s fit b]{shareTok fullShare 8 b} f : sProp 𝕄)))) $$ HD0
  icases HD' with ⟨HS, HT1⟩
  iapply Hk
  isplitl [HT0 HT1 HT2]
  · iapply (pointsTo_toks_join fullShare 8)
    isplitl [HT0]; · iexact HT0
    iapply (Entails.of_eq ((congrArg (bigSep Finset.univ) (funext fun b => tab_split c s fit f b)).trans (big_sep _ _)).symm)
    isplitl [HT1]; · iexact HT1
    iexact HT2
  isplitl [HS]
  · iapply (Entails.of_eq (scr_split c fullShare (landed c s f)).symm); iexact HS
  isplitl [Hv]; · iexact Hv
  iexists _; iexact HO

end Emb

end Cert.Proof.Copies

end
-- ==== Proof.Recur.lean ====
module

public import proofs.«01_k».proof.Proof.Copies
public import proofs.«01_k».proof.Proof.Gen.KernelIdeal.Points
public import Idealize.ShloMosaic.Lib.Pipeline.RegionArraysS
public import Idealize.ShloMosaic.Lib.Pipeline.FrameBody
public import Idealize.ShloMosaic.Lib.VecWindow

@[expose] public section

set_option maxRecDepth 16384

noncomputable section

namespace Cert.Proof.Recur

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Gather (UU)
open Cert.Proof Cert.Proof.Copies
open Idealize.ShloMosaic.ValueIdx (ix1 ix2 ix3)

variable {F : FTy → Type} [FloatOps F]

local notation "𝕄" => MT nD τ sig (HIx 1) (Elt F) ℕ UU ℕ

/-- Memref `M`'s buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The word a one-element load reads. -/
theorem word_eq (c : Dev nD) {n0 n1 : ℕ} (M : Memref sig .tc .vmem (Shape.mk 2 ![n0, n1]) .i32) (o : Fin 2 → ℕ) (inb : ∀ a, o a + S1x1.size a ≤ (Shape.mk 2 ![n0, n1]).size a)
    (f : Buf (Elt F) (M.view.loc (c : Thread nD τ))) (h0 : o 0 < n0) (h1 : o 1 < n1) :
    extractAt ![0, 0] (M.view.readAt (Elt F) (Rect.unit (s := Shape.mk 2 ![n0, n1]) o S1x1.size inb).toLoadRect f) inpos_S1x1_p0_0
      = M.view.read (Elt F) f (ix2 ⟨o 0, h0⟩ ⟨o 1, h1⟩) := by
  show M.view.read (Elt F) f _ = _
  congr 1
  funext a; fin_cases a
  · exact Fin.ext (show o 0 + 1 * 0 = o 0 by omega)
  · exact Fin.ext (show o 1 + 1 * 0 = o 1 by omega)

theorem clip_le (v : IVec S8x1 32) (i : S8x1.Idx) : (minsi (broadcast S8x1 999936#32) (maxsi (broadcast S8x1 0#32) v) i).toNat ≤ 999936 := by
  show (IntOp.minsi 999936#32 (IntOp.maxsi 0#32 (v i))).toNat ≤ 999936
  generalize v i = x
  unfold IntOp.minsi IntOp.maxsi
  have h0 : (0#32).toInt = 0 := by decide
  have h1 : (999936#32).toInt = 999936 := by decide
  have h2 : (999936#32).toNat = 999936 := by decide
  have hx := BitVec.toInt_eq_toNat_cond x
  have hl := x.isLt
  simp only [BitVec.slt_eq_decide, decide_eq_true_eq]
  split_ifs <;> simp_all <;> omega

theorem spread_le (w : IVec S8x1 32) (h : ∀ i, (w i).toNat ≤ 999936) (i : S8x128.Idx) :
    (shapeCast S8x128 (broadcastTo S8x128 (shapeCast S8x1 w shapeCasts_S8x1_S8x1) broadcasts_S8x1_S8x128) shapeCasts_S8x128_S8x128 i).toNat + 64 ≤ 1000000 := by
  have : (shapeCast S8x128 (broadcastTo S8x128 (shapeCast S8x1 w shapeCasts_S8x1_S8x1) broadcasts_S8x1_S8x128) shapeCasts_S8x128_S8x128 i).toNat ≤ 999936 := h _
  omega

theorem fit17 (v141 v159 : FVec F S8x1 .f32) (i : S8x128.Idx) : (k1_pay17 v141 v159 i).toNat + 64 ≤ 1000000 := spread_le _ (clip_le _) i
theorem fit35 (v : IVec S8x1 32) (i : S8x128.Idx) : (k1_pay35 v i).toNat + 64 ≤ 1000000 := spread_le _ (clip_le _) i
theorem fit53 (v : IVec S8x1 32) (i : S8x128.Idx) : (k1_pay53 v 999936#32 k1_pay51 i).toNat + 64 ≤ 1000000 := spread_le _ (clip_le _) i
theorem fit64 (v720 : FVec F S8x2 .f32) (v721 : Vec F S1x2 .f32) (i : S8x128.Idx) : (k1_pay64 v720 v721 i).toNat + 64 ≤ 1000000 := spread_le _ (clip_le _) i

/-- The result buffer with column `k` replaced. -/
noncomputable def put (k : Fin 4) (v : Vec F S8x1x128 .f32) (r : Vec F S8x4x128 .f32) : Vec F S8x4x128 .f32 :=
  fun i => if (i 1).val = k.val then v (ix3 (i 0) 0 (i 2)) else r i

theorem put_eq (c : Dev nD) (M : Memref sig .tc .vmem S8x4x128 .f32) (f : Buf (Elt F) (M.view.loc (c : Thread nD τ))) (k : Fin 4) (o : Fin 3 → ℕ) (ho : o = ![0, k.val, 0])
    (inb : ∀ a, o a + S8x1x128.size a ≤ S8x4x128.size a) (v : Vec F S8x1x128 .f32) :
    M.view.read (Elt F) ((M.view.slice (Rect.unit (s := S8x4x128) o S8x1x128.size inb)).write (Elt F) f v Finset.univ) = put k v (M.view.read (Elt F) f) := by
  subst ho
  funext i
  unfold put
  by_cases h : (i 1).val = k.val
  · rw [if_pos h]
    have hi : (Rect.unit (s := S8x4x128) ![0, k.val, 0] S8x1x128.size inb).emb (ix3 (i 0) 0 (i 2) : S8x1x128.Idx) = i := by
      funext a; fin_cases a
      · exact Fin.ext (show 0 + 1 * (i 0).val = (i 0).val by omega)
      · exact Fin.ext (show k.val + 1 * 0 = (i 1).val by omega)
      · exact Fin.ext (show 0 + 1 * (i 2).val = (i 2).val by omega)
    have h2 := View.read_slice_write_emb (v := M.view) (Rect.unit (s := S8x4x128) ![0, k.val, 0] S8x1x128.size inb) f v (Finset.mem_univ (ix3 (i 0) 0 (i 2) : S8x1x128.Idx))
    rw [hi] at h2
    exact h2
  · rw [if_neg h]
    refine View.read_slice_write_of_not_mem (v := M.view) (Rect.unit (s := S8x4x128) ![0, k.val, 0] S8x1x128.size inb) f v _ fun hm => h ?_
    obtain ⟨x, -, hx⟩ := Finset.mem_map.mp hm
    have h1 : k.val + 1 * (x 1).val = (i 1).val := congrArg (fun i : S8x4x128.Idx => (i 1).val) hx
    have h3 : (x 1).val < 1 := (x 1).isLt
    omega

theorem psig_eq {α : Type} {P : α → Prop} {a b : α} (h : a = b) (p : P a) (q : P b) : (⟨a, p⟩ : Σ' x, P x) = ⟨b, q⟩ := by
  subst h; rfl

theorem ret_bind {E : Type → Type} {α β : Type} (a : α) (k : α → Prog E β) : (Prog.ret a).bind k = k a := rfl

/-- The words the embedding copies read, of the ids. -/
def wE (ids : IVec S8x512 32) : Fin 8 → BitVec 32 := fun b => ids (ix2 b 511)
/-- The words the pool copies read, of the start vector. -/
def wP (p : IVec S8x128 32) : Fin 8 → BitVec 32 := fun b => p (ix2 b 0)

theorem le_of_word {w w' : BitVec 32} {r n : ℕ} (h : w = w') (hf : w'.toNat + r ≤ n) : w.toNat + r ≤ n := h ▸ hf

theorem stored (c : Dev nD) (M : Memref sig .tc .vmem S8x128 .i32) (f : Buf (Elt F) (M.view.loc (c : Thread nD τ)))
    (inb : ∀ a, (![0, 0] : Fin 2 → ℕ) a + S8x128.size a ≤ S8x128.size a) (v : Vec F S8x128 .i32) :
    pt c M ((M.access (Rect.unit (s := S8x128) ![0, 0] S8x128.size inb)).write (Elt F) f v Finset.univ) ⊢ iprop(∃ g, ⌜M.view.read (Elt F) g = v⌝ ∗ pt c M g) := by
  iintro H
  iexists _
  isplitr; swap; · iexact H
  ipureintro
  exact View.read_writes_full M.view f inb v []

theorem putted (c : Dev nD) (M : Memref sig .tc .vmem S8x4x128 .f32) (f : Buf (Elt F) (M.view.loc (c : Thread nD τ))) (k : Fin 4) (o : Fin 3 → ℕ) (ho : o = ![0, k.val, 0])
    (inb : ∀ a, o a + S8x1x128.size a ≤ S8x4x128.size a) (v : Vec F S8x1x128 .f32) :
    pt c M ((M.access (Rect.unit (s := S8x4x128) o S8x1x128.size inb)).write (Elt F) f v Finset.univ)
      ⊢ iprop(∃ g, ⌜M.view.read (Elt F) g = put k v (M.view.read (Elt F) f)⌝ ∗ pt c M g) := by
  iintro H
  iexists _
  isplitr; swap; · iexact H
  ipureintro
  exact put_eq c M f k o ho inb v

section Body
variable (c : Dev nD) (M0 : Memref sig .tc .vmem S8x512 .i32) (h0 : M0.IsWhole) (M2 : Memref sig .tc .vmem S128x512 .f32) (h2 : M2.IsWhole) (M3 : Memref sig .tc .vmem S1x512 .f32) (h3 : M3.IsWhole) (M4 : Memref sig .tc .vmem S512x128 .f32) (h4 : M4.IsWhole) (M5 : Memref sig .tc .vmem S1x128 .f32) (h5 : M5.IsWhole) (M6 : Memref sig .tc .vmem S1x128 .f32) (h6 : M6.IsWhole) (M7 : Memref sig .tc .vmem S1x128 .f32) (h7 : M7.IsWhole) (M8 : Memref sig .tc .vmem S128x2 .f32) (h8 : M8.IsWhole) (M9 : Memref sig .tc .vmem S1x2 .f32) (h9 : M9.IsWhole) (M11 : Memref sig .tc .vmem S256x128 .f32) (h11 : M11.IsWhole) (M12 : Memref sig .tc .vmem S1x128 .f32) (h12 : M12.IsWhole) (M13 : Memref sig .tc .vmem S128x128 .f32) (h13 : M13.IsWhole) (M14 : Memref sig .tc .vmem S1x128 .f32) (h14 : M14.IsWhole) (M15 : Memref sig .tc .vmem S1x128 .f32) (h15 : M15.IsWhole) (M16 : Memref sig .tc .vmem S1x128 .f32) (h16 : M16.IsWhole) (M17 : Memref sig .tc .vmem S128x1 .f32) (h17 : M17.IsWhole) (M18 : Memref sig .tc .vmem S1x1 .f32) (h18 : M18.IsWhole) (M19 : Memref sig .tc .vmem S8x4x128 .f32) (h19 : M19.IsWhole) (M20 : Memref sig .tc .vmem S8x128 .i32) (h20 : M20.IsWhole)

set_option maxHeartbeats 2000000 in
theorem part1 (ids : Vec F S8x512 .i32)
    (f0) (e0 : M0.view.read (Elt F) f0 = ids) (fit : ∀ b, (wE ids b).toNat + 1 ≤ 8192) (fe) (g23 : Buf (Elt F) (Emb.sLoc c)) (v21 : BitVec 32) (ev21 : v21 = wE ids 5) (k1_hw6 : k1_chk6 v21) (Q : _ → sProp 𝕄) :
    iprop(pt c M0 f0 ∗ Emb.Ph c (wE ids) fit fe g23 0 ∗ (iprop(pt c M0 f0 ∗ Emb.Ph c (wE ids) fit fe g23 5) -∗ Q ⟨v21, k1_hw6⟩))
      ⊢ wp frame (wpE (defs₀ (F := F)) Variants.none (c : Thread nD τ) none) Set.univ (k1_part1 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 ) Q := by
  iintro ⟨H0, HP, Hk⟩
  rw [k1_part1_eq_skeleton]; unfold k1_part1_skel
  iapply (wp_load Variants.none (c : Thread nD τ) none Set.univ (Finset.subset_univ _)) $$ [H0]
  · iexact H0
  iintro H0
  iapply (wp_assume Variants.none (c : Thread nD τ) none Set.univ ?hA0a)
  case hA0a => exact Emb.so_inb (le_of_word ((word_eq c M0 ![0, 511] _ f0 (by decide) (by decide)).trans (congrFun e0 _) : _ = wE ids 0) (fit 0))
  iapply (Emb.issue c (wE ids) fit fe g23 0 (by decide) ?ho0 ?hd0) $$ [HP]
  case ho0 => exact congrArg Emb.so ((word_eq c M0 ![0, 511] _ f0 (by decide) (by decide)).trans (congrFun e0 _) : _ = wE ids 0)
  case hd0 => rfl
  · iexact HP
  iintro HP
  iapply (wp_load Variants.none (c : Thread nD τ) none Set.univ (Finset.subset_univ _)) $$ [H0]
  · iexact H0
  iintro H0
  iapply (wp_assume Variants.none (c : Thread nD τ) none Set.univ ?hA1a)
  case hA1a => exact Emb.so_inb (le_of_word ((word_eq c M0 ![1, 511] _ f0 (by decide) (by decide)).trans (congrFun e0 _) : _ = wE ids 1) (fit 1))
  iapply (Emb.issue c (wE ids) fit fe g23 1 (by decide) ?ho1 ?hd1) $$ [HP]
  case ho1 => exact congrArg Emb.so ((word_eq c M0 ![1, 511] _ f0 (by decide) (by decide)).trans (congrFun e0 _) : _ = wE ids 1)
  case hd1 => rfl
  · iexact HP
  iintro HP
  iapply (wp_load Variants.none (c : Thread nD τ) none Set.univ (Finset.subset_univ _)) $$ [H0]
  · iexact H0
  iintro H0
  iapply (wp_assume Variants.none (c : Thread nD τ) none Set.univ ?hA2a)
  case hA2a => exact Emb.so_inb (le_of_word ((word_eq c M0 ![2, 511] _ f0 (by decide) (by decide)).trans (congrFun e0 _) : _ = wE ids 2) (fit 2))
  iapply (Emb.issue c (wE ids) fit fe g23 2 (by decide) ?ho2 ?hd2) $$ [HP]
  case ho2 => exact congrArg Emb.so ((word_eq c M0 ![2, 511] _ f0 (by decide) (by decide)).trans (congrFun e0 _) : _ = wE ids 2)
  case hd2 => rfl
  · iexact HP
  iintro HP
  iapply (wp_load Variants.none (c : Thread nD τ) none Set.univ (Finset.subset_univ _)) $$ [H0]
  · iexact H0
  iintro H0
  iapply (wp_assume Variants.none (c : Thread nD τ) none Set.univ ?hA3a)
  case hA3a => exact Emb.so_inb (le_of_word ((word_eq c M0 ![3, 511] _ f0 (by decide) (by decide)).trans (congrFun e0 _) : _ = wE ids 3) (fit 3))
  iapply (Emb.issue c (wE ids) fit fe g23 3 (by decide) ?ho3 ?hd3) $$ [HP]
  case ho3 => exact congrArg Emb.so ((word_eq c M0 ![3, 511] _ f0 (by decide) (by decide)).trans (congrFun e0 _) : _ = wE ids 3)
  case hd3 => rfl
  · iexact HP
  iintro HP
  iapply (wp_load Variants.none (c : Thread nD τ) none Set.univ (Finset.subset_univ _)) $$ [H0]
  · iexact H0
  iintro H0
  iapply (wp_assume Variants.none (c : Thread nD τ) none Set.univ ?hA4a)
  case hA4a => exact Emb.so_inb (le_of_word ((word_eq c M0 ![4, 511] _ f0 (by decide) (by decide)).trans (congrFun e0 _) : _ = wE ids 4) (fit 4))
  iapply (Emb.issue c (wE ids) fit fe g23 4 (by decide) ?ho4 ?hd4) $$ [HP]
  case ho4 => exact congrArg Emb.so ((word_eq c M0 ![4, 511] _ f0 (by decide) (by decide)).trans (congrFun e0 _) : _ = wE ids 4)
  case hd4 => rfl
  · iexact HP
  iintro HP
  iapply (wp_load Variants.none (c : Thread nD τ) none Set.univ (Finset.subset_univ _)) $$ [H0]
  · iexact H0
  iintro H0
  iapply (wp_assume Variants.none (c : Thread nD τ) none Set.univ ?hA5a)
  case hA5a => exact Emb.so_inb (le_of_word ((word_eq c M0 ![5, 511] _ f0 (by decide) (by decide)).trans (congrFun e0 _) : _ = wE ids 5) (fit 5))
  simp only [ret_bind]
  sl_step
  rw [psig_eq (((word_eq c M0 ![5, 511] _ f0 (by decide) (by decide)).trans (congrFun e0 _) : _ = wE ids 5).trans ev21.symm) _ k1_hw6]
  iapply Hk
  isplitl [H0]; · iexact H0
  iexact HP

set_option maxHeartbeats 2000000 in
theorem part2 (ids : Vec F S8x512 .i32) (v21 : BitVec 32) (k1_hw6 : k1_chk6 v21)
    (f0) (e0 : M0.view.read (Elt F) f0 = ids) (fit : ∀ b, (wE ids b).toNat + 1 ≤ 8192) (fe) (g23 : Buf (Elt F) (Emb.sLoc c)) (ev21 : v21 = wE ids 5)  (Q : _ → sProp 𝕄) :
    iprop(pt c M0 f0 ∗ Emb.Ph c (wE ids) fit fe g23 5 ∗ (iprop(pt c M0 f0 ∗ Emb.Wt c (wE ids) fit fe 4) -∗ Q ⟨⟩))
      ⊢ wp frame (wpE (defs₀ (F := F)) Variants.none (c : Thread nD τ) none) Set.univ (k1_part2 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v21 k1_hw6) Q := by
  iintro ⟨H0, HP, Hk⟩
  rw [k1_part2_eq_skeleton]; unfold k1_part2_skel
  iapply (Emb.issue c (wE ids) fit fe g23 5 (by decide) ?ho5 ?hd5) $$ [HP]
  case ho5 => exact congrArg Emb.so ev21
  case hd5 => rfl
  · iexact HP
  iintro HP
  iapply (wp_load Variants.none (c : Thread nD τ) none Set.univ (Finset.subset_univ _)) $$ [H0]
  · iexact H0
  iintro H0
  iapply (wp_assume Variants.none (c : Thread nD τ) none Set.univ ?hA6a)
  case hA6a => exact Emb.so_inb (le_of_word ((word_eq c M0 ![6, 511] _ f0 (by decide) (by decide)).trans (congrFun e0 _) : _ = wE ids 6) (fit 6))
  iapply (Emb.issue c (wE ids) fit fe g23 6 (by decide) ?ho6 ?hd6) $$ [HP]
  case ho6 => exact congrArg Emb.so ((word_eq c M0 ![6, 511] _ f0 (by decide) (by decide)).trans (congrFun e0 _) : _ = wE ids 6)
  case hd6 => rfl
  · iexact HP
  iintro HP
  iapply (wp_load Variants.none (c : Thread nD τ) none Set.univ (Finset.subset_univ _)) $$ [H0]
  · iexact H0
  iintro H0
  iapply (wp_assume Variants.none (c : Thread nD τ) none Set.univ ?hA7a)
  case hA7a => exact Emb.so_inb (le_of_word ((word_eq c M0 ![7, 511] _ f0 (by decide) (by decide)).trans (congrFun e0 _) : _ = wE ids 7) (fit 7))
  iapply (Emb.issue c (wE ids) fit fe g23 7 (by decide) ?ho7 ?hd7) $$ [HP]
  case ho7 => exact congrArg Emb.so ((word_eq c M0 ![7, 511] _ f0 (by decide) (by decide)).trans (congrFun e0 _) : _ = wE ids 7)
  case hd7 => rfl
  · iexact HP
  iintro HP
  ihave HP := (Emb.Ph_all c (wE ids) fit fe g23) $$ HP
  iapply (Emb.wait c (wE ids) fit fe 0 (by decide)) $$ [HP]
  · iexact HP
  iintro HP
  iapply (Emb.wait c (wE ids) fit fe 1 (by decide)) $$ [HP]
  · iexact HP
  iintro HP
  iapply (Emb.wait c (wE ids) fit fe 2 (by decide)) $$ [HP]
  · iexact HP
  iintro HP
  iapply (Emb.wait c (wE ids) fit fe 3 (by decide)) $$ [HP]
  · iexact HP
  iintro HP
  simp only [ret_bind]
  sl_step
  iapply Hk
  isplitl [H0]; · iexact H0
  iexact HP

set_option maxHeartbeats 2000000 in
theorem part3 (w1 : Vec F S128x512 .f32) (b1 : Vec F S1x512 .f32) (w2 : Vec F S512x128 .f32) (ids : Vec F S8x512 .i32)
    (f2) (e2 : M2.view.read (Elt F) f2 = w1) (f3) (e3 : M3.view.read (Elt F) f3 = b1) (f4) (e4 : M4.view.read (Elt F) f4 = w2) (fit : ∀ b, (wE ids b).toNat + 1 ≤ 8192) (fe) (g23 : Buf (Elt F) (Emb.sLoc c)) (v48 : Vec F S8x128 .f32) (qv48 : ((Memref.whole cc1_scratch2).view.read (Elt F) (Emb.landed c (wE ids) fe)) = v48) (v69 : FVec F S8x128 .f32) (qv69 : k1_pay2 ((Memref.whole cc1_scratch2).view.read (Elt F) (Emb.landed c (wE ids) fe)) w1 b1 w2 = v69) (Q : _ → sProp 𝕄) :
    iprop(pt c M2 f2 ∗ pt c M3 f3 ∗ pt c M4 f4 ∗ Emb.Wt c (wE ids) fit fe 4 ∗ (iprop(pt c M2 f2 ∗ pt c M3 f3 ∗ pt c M4 f4 ∗ (Emb.tLoc c ↦{fullShare} fe) ∗ (Emb.sLoc c ↦{fullShare} Emb.landed c (wE ids) fe) ∗ semVal ((c : Thread nD τ), sm) 0 ∗ (∃ W, owes (c : Thread nD τ) (0 : CellTallies nD τ sig (HIx 1)) W)) -∗ Q ⟨v48, v69⟩))
      ⊢ wp frame (wpE (defs₀ (F := F)) Variants.none (c : Thread nD τ) none) Set.univ (k1_part3 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 ) Q := by
  subst e2 e3 e4 qv48 qv69
  iintro ⟨H2, H3, H4, HP, Hk⟩
  rw [k1_part3_eq_skeleton]; unfold k1_part3_skel
  iapply (Emb.wait c (wE ids) fit fe 4 (by decide)) $$ [HP]
  · iexact HP
  iintro HP
  iapply (Emb.wait c (wE ids) fit fe 5 (by decide)) $$ [HP]
  · iexact HP
  iintro HP
  iapply (Emb.wait c (wE ids) fit fe 6 (by decide)) $$ [HP]
  · iexact HP
  iintro HP
  iapply (Emb.finish c (wE ids) fit fe) $$ [HP]
  · iexact HP
  iintro ⟨HT, HS, HV, HO⟩
  iapply (wp_load Variants.none (c : Thread nD τ) none Set.univ (Finset.subset_univ _)) $$ [HS]
  · iexact HS
  iintro HS
  iapply (wp_load Variants.none (c : Thread nD τ) none Set.univ (Finset.subset_univ _)) $$ [H2]
  · iexact H2
  iintro H2
  iapply (wp_load Variants.none (c : Thread nD τ) none Set.univ (Finset.subset_univ _)) $$ [H3]
  · iexact H3
  iintro H3
  iapply (wp_load Variants.none (c : Thread nD τ) none Set.univ (Finset.subset_univ _)) $$ [H4]
  · iexact H4
  iintro H4
  simp only [ret_bind]
  sl_step
  repeat rw [View.readAt_full]
  iapply Hk
  isplitl [H2]; · iexact H2
  isplitl [H3]; · iexact H3
  isplitl [H4]; · iexact H4
  isplitl [HT]; · iexact HT
  isplitl [HS]; · iexact HS
  isplitl [HV]; · iexact HV
  iexact HO

set_option maxHeartbeats 2000000 in
theorem part4 (b2 : Vec F S1x128 .f32) (g1 : Vec F S1x128 .f32) (be1 : Vec F S1x128 .f32) (v48 : Vec F S8x128 .f32) (v69 : FVec F S8x128 .f32)
    (f5) (e5 : M5.view.read (Elt F) f5 = b2) (f6) (e6 : M6.view.read (Elt F) f6 = g1) (f7) (e7 : M7.view.read (Elt F) f7 = be1) (v100 : FVec F S8x128 .f32) (qv100 : k1_pay3 v48 v69 b2 g1 be1 = v100) (v101 : FVec F S8x1 .f32) (qv101 : k1_pay4 (F := F) = v101) (v102 : FVec F S8x1 .f32) (qv102 : k1_pay5 (F := F) = v102) (v104 : FVec F S8x64 .f32) (qv104 : k1_pay6 (F := F) = v104) (v105 : IVec S8x512 32) (qv105 : (iota .tc S8x512 32 [1] iota_S8x512_d1_w32) = v105) (c64_i32 : BitVec 32) (qc64_i32 : 64#32 = c64_i32) (v107 : IVec S8x512 32) (qv107 : k1_pay7 = v107) (v110 : IVec S8x512 32) (qv110 : k1_pay8 = v110) (v113 : IVec S8x512 32) (qv113 : k1_pay9 = v113) (Q : _ → sProp 𝕄) :
    iprop(pt c M5 f5 ∗ pt c M6 f6 ∗ pt c M7 f7 ∗ (iprop(pt c M5 f5 ∗ pt c M6 f6 ∗ pt c M7 f7) -∗ Q ⟨v100, v101, v102, v104, v105, c64_i32, v107, v110, v113⟩))
      ⊢ wp frame (wpE (defs₀ (F := F)) Variants.none (c : Thread nD τ) none) Set.univ (k1_part4 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v48 v69) Q := by
  subst e5 e6 e7 qv100 qv101 qv102 qv104 qv105 qc64_i32 qv107 qv110 qv113
  iintro ⟨H5, H6, H7, Hk⟩
  rw [k1_part4_eq_skeleton]; unfold k1_part4_skel
  iapply (wp_load Variants.none (c : Thread nD τ) none Set.univ (Finset.subset_univ _)) $$ [H5]
  · iexact H5
  iintro H5
  iapply (wp_load Variants.none (c : Thread nD τ) none Set.univ (Finset.subset_univ _)) $$ [H6]
  · iexact H6
  iintro H6
  iapply (wp_load Variants.none (c : Thread nD τ) none Set.univ (Finset.subset_univ _)) $$ [H7]
  · iexact H7
  iintro H7
  simp only [ret_bind]
  sl_step
  repeat rw [View.readAt_full]
  iapply Hk
  isplitl [H5]; · iexact H5
  isplitl [H6]; · iexact H6
  iexact H7

set_option maxHeartbeats 2000000 in
theorem part5 (widx : Vec F S128x2 .f32) (bidx : Vec F S1x2 .f32) (v100 : FVec F S8x128 .f32) (v105 : IVec S8x512 32) (c64_i32 : BitVec 32) (v107 : IVec S8x512 32) (v110 : IVec S8x512 32) (v113 : IVec S8x512 32)
    (f8) (e8 : M8.view.read (Elt F) f8 = widx) (f9) (e9 : M9.view.read (Elt F) f9 = bidx) (v131 : IVec S8x512 1) (qv131 : k1_pay10 v105 c64_i32 v107 v110 v113 = v131) (v132 : IVec S8x128 32) (qv132 : k1_pay11 = v132) (v133 : IVec S8x128 32) (qv133 : (iota .tc S8x128 32 [1] iota_S8x128_d1_w32) = v133) (v141 : FVec F S8x1 .f32) (qv141 : k1_pay13 v100 widx bidx = v141) (v158 : FVec F S8x1 .f32) (qv158 : k1_pay14 v100 widx bidx = v158) (v159 : FVec F S8x1 .f32) (qv159 : k1_pay15 (F := F) = v159) (Q : _ → sProp 𝕄) :
    iprop(pt c M8 f8 ∗ pt c M9 f9 ∗ (iprop(pt c M8 f8 ∗ pt c M9 f9) -∗ Q ⟨v131, v132, v133, v141, v158, v159⟩))
      ⊢ wp frame (wpE (defs₀ (F := F)) Variants.none (c : Thread nD τ) none) Set.univ (k1_part5 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v100 v105 c64_i32 v107 v110 v113) Q := by
  subst e8 e9 qv131 qv132 qv133 qv141 qv158 qv159
  iintro ⟨H8, H9, Hk⟩
  rw [k1_part5_eq_skeleton]; unfold k1_part5_skel
  iapply (wp_load Variants.none (c : Thread nD τ) none Set.univ (Finset.subset_univ _)) $$ [H8]
  · iexact H8
  iintro H8
  iapply (wp_load Variants.none (c : Thread nD τ) none Set.univ (Finset.subset_univ _)) $$ [H9]
  · iexact H9
  iintro H9
  simp only [ret_bind]
  sl_step
  repeat rw [View.readAt_full]
  iapply Hk
  isplitl [H8]; · iexact H8
  iexact H9

set_option maxHeartbeats 2000000 in
theorem part6  (v132 : IVec S8x128 32) (v133 : IVec S8x128 32) (v141 : FVec F S8x1 .f32) (v159 : FVec F S8x1 .f32)
    (p : IVec S8x128 32) (fit : ∀ b, (wP p b).toNat + 64 ≤ 1000000) (fp) (g21 : Buf (Elt F) (Pool.sLoc c)) (qp : (k1_pay17 v141 v159) = p) (f22) (v166 : IVec S8x1 32) (qv166 : k1_pay16 v141 v159 = v166) (v176 : IVec S8x128 32) (qv176 : k1_pay18 v132 v133 v141 v159 = v176) (v190 : BitVec 32) (ev190 : v190 = wP p 3) (Q : _ → sProp 𝕄) :
    iprop(pt c (Memref.whole cc1_scratch1) f22 ∗ (Pool.tLoc c ↦{fullShare} fp) ∗ (Pool.sLoc c ↦{fullShare} g21) ∗ semVal ((c : Thread nD τ), sm) 0 ∗ (∃ W, owes (c : Thread nD τ) (0 : CellTallies nD τ sig (HIx 1)) W) ∗ (iprop(∃ g22, ⌜(Memref.whole cc1_scratch1).view.read (Elt F) g22 = p⌝ ∗ Pool.Ph c (wP p) fit fp g21 3 ∗ pt c (Memref.whole cc1_scratch1) g22) -∗ Q ⟨v166, v176, v190⟩))
      ⊢ wp frame (wpE (defs₀ (F := F)) Variants.none (c : Thread nD τ) none) Set.univ (k1_part6 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v132 v133 v141 v159) Q := by
  subst qv166 qv176
  iintro ⟨H22, HT, H21, HV, HO, Hk⟩
  rw [k1_part6_eq_skeleton]; unfold k1_part6_skel
  iapply (wp_load Variants.none (c : Thread nD τ) none Set.univ (Finset.subset_univ _)) $$ [H22]
  · iexact H22
  iintro H22
  iapply (wp_store Variants.none (c : Thread nD τ) none Set.univ (Finset.subset_univ _)) $$ [H22]
  · iexact H22
  iintro H22
  ihave H22' := (stored c (Memref.whole cc1_scratch1) _ _ _) $$ H22
  icases H22' with ⟨%g22, %e22, H22⟩
  have e22 := e22.trans qp
  imod (Pool.begin c (wP p) fit fp g21 Set.univ) $$ [HT H21 HV HO] with HP
  · isplitl [HT]; · iexact HT
    isplitl [H21]; · iexact H21
    isplitl [HV]; · iexact HV
    iexact HO
  iapply (wp_load Variants.none (c : Thread nD τ) none Set.univ (Finset.subset_univ _)) $$ [H22]
  · iexact H22
  iintro H22
  iapply (wp_assume Variants.none (c : Thread nD τ) none Set.univ ?hA0a)
  case hA0a => exact Pool.so_inb (le_of_word ((word_eq c (Memref.whole cc1_scratch1) ![0, 0] _ g22 (by decide) (by decide)).trans (congrFun e22 _) : _ = wP p 0) (fit 0))
  iapply (Pool.issue c (wP p) fit fp g21 0 (by decide) ?ho0 ?hd0) $$ [HP]
  case ho0 => exact congrArg Pool.so ((word_eq c (Memref.whole cc1_scratch1) ![0, 0] _ g22 (by decide) (by decide)).trans (congrFun e22 _) : _ = wP p 0)
  case hd0 => rfl
  · iexact HP
  iintro HP
  iapply (wp_load Variants.none (c : Thread nD τ) none Set.univ (Finset.subset_univ _)) $$ [H22]
  · iexact H22
  iintro H22
  iapply (wp_assume Variants.none (c : Thread nD τ) none Set.univ ?hA1a)
  case hA1a => exact Pool.so_inb (le_of_word ((word_eq c (Memref.whole cc1_scratch1) ![1, 0] _ g22 (by decide) (by decide)).trans (congrFun e22 _) : _ = wP p 1) (fit 1))
  iapply (Pool.issue c (wP p) fit fp g21 1 (by decide) ?ho1 ?hd1) $$ [HP]
  case ho1 => exact congrArg Pool.so ((word_eq c (Memref.whole cc1_scratch1) ![1, 0] _ g22 (by decide) (by decide)).trans (congrFun e22 _) : _ = wP p 1)
  case hd1 => rfl
  · iexact HP
  iintro HP
  iapply (wp_load Variants.none (c : Thread nD τ) none Set.univ (Finset.subset_univ _)) $$ [H22]
  · iexact H22
  iintro H22
  iapply (wp_assume Variants.none (c : Thread nD τ) none Set.univ ?hA2a)
  case hA2a => exact Pool.so_inb (le_of_word ((word_eq c (Memref.whole cc1_scratch1) ![2, 0] _ g22 (by decide) (by decide)).trans (congrFun e22 _) : _ = wP p 2) (fit 2))
  iapply (Pool.issue c (wP p) fit fp g21 2 (by decide) ?ho2 ?hd2) $$ [HP]
  case ho2 => exact congrArg Pool.so ((word_eq c (Memref.whole cc1_scratch1) ![2, 0] _ g22 (by decide) (by decide)).trans (congrFun e22 _) : _ = wP p 2)
  case hd2 => rfl
  · iexact HP
  iintro HP
  iapply (wp_load Variants.none (c : Thread nD τ) none Set.univ (Finset.subset_univ _)) $$ [H22]
  · iexact H22
  iintro H22
  simp only [ret_bind]
  sl_step
  rw [((word_eq c (Memref.whole cc1_scratch1) ![3, 0] _ g22 (by decide) (by decide)).trans (congrFun e22 _) : _ = wP p 3).trans ev190.symm]
  iapply Hk
  iexists g22
  isplitr
  · ipureintro; exact e22
  isplitl [HP]; · iexact HP
  iexact H22

set_option maxHeartbeats 2000000 in
theorem part7  (v190 : BitVec 32)
    (p : IVec S8x128 32) (fit : ∀ b, (wP p b).toNat + 64 ≤ 1000000) (fp) (g21 : Buf (Elt F) (Pool.sLoc c)) (f22) (e22 : (Memref.whole cc1_scratch1).view.read (Elt F) f22 = p) (ev190 : v190 = wP p 3)  (Q : _ → sProp 𝕄) :
    iprop(pt c (Memref.whole cc1_scratch1) f22 ∗ Pool.Ph c (wP p) fit fp g21 3 ∗ (iprop(pt c (Memref.whole cc1_scratch1) f22 ∗ Pool.Wt c (wP p) fit fp 1) -∗ Q ⟨⟩))
      ⊢ wp frame (wpE (defs₀ (F := F)) Variants.none (c : Thread nD τ) none) Set.univ (k1_part7 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v190) Q := by
  iintro ⟨H22, HP, Hk⟩
  rw [k1_part7_eq_skeleton]; unfold k1_part7_skel
  iapply (wp_assume Variants.none (c : Thread nD τ) none Set.univ ?hA3a)
  case hA3a => exact Pool.so_inb (le_of_word ev190 (fit 3))
  iapply (Pool.issue c (wP p) fit fp g21 3 (by decide) ?ho3 ?hd3) $$ [HP]
  case ho3 => exact congrArg Pool.so ev190
  case hd3 => rfl
  · iexact HP
  iintro HP
  iapply (wp_load Variants.none (c : Thread nD τ) none Set.univ (Finset.subset_univ _)) $$ [H22]
  · iexact H22
  iintro H22
  iapply (wp_assume Variants.none (c : Thread nD τ) none Set.univ ?hA4a)
  case hA4a => exact Pool.so_inb (le_of_word ((word_eq c (Memref.whole cc1_scratch1) ![4, 0] _ f22 (by decide) (by decide)).trans (congrFun e22 _) : _ = wP p 4) (fit 4))
  iapply (Pool.issue c (wP p) fit fp g21 4 (by decide) ?ho4 ?hd4) $$ [HP]
  case ho4 => exact congrArg Pool.so ((word_eq c (Memref.whole cc1_scratch1) ![4, 0] _ f22 (by decide) (by decide)).trans (congrFun e22 _) : _ = wP p 4)
  case hd4 => rfl
  · iexact HP
  iintro HP
  iapply (wp_load Variants.none (c : Thread nD τ) none Set.univ (Finset.subset_univ _)) $$ [H22]
  · iexact H22
  iintro H22
  iapply (wp_assume Variants.none (c : Thread nD τ) none Set.univ ?hA5a)
  case hA5a => exact Pool.so_inb (le_of_word ((word_eq c (Memref.whole cc1_scratch1) ![5, 0] _ f22 (by decide) (by decide)).trans (congrFun e22 _) : _ = wP p 5) (fit 5))
  iapply (Pool.issue c (wP p) fit fp g21 5 (by decide) ?ho5 ?hd5) $$ [HP]
  case ho5 => exact congrArg Pool.so ((word_eq c (Memref.whole cc1_scratch1) ![5, 0] _ f22 (by decide) (by decide)).trans (congrFun e22 _) : _ = wP p 5)
  case hd5 => rfl
  · iexact HP
  iintro HP
  iapply (wp_load Variants.none (c : Thread nD τ) none Set.univ (Finset.subset_univ _)) $$ [H22]
  · iexact H22
  iintro H22
  iapply (wp_assume Variants.none (c : Thread nD τ) none Set.univ ?hA6a)
  case hA6a => exact Pool.so_inb (le_of_word ((word_eq c (Memref.whole cc1_scratch1) ![6, 0] _ f22 (by decide) (by decide)).trans (congrFun e22 _) : _ = wP p 6) (fit 6))
  iapply (Pool.issue c (wP p) fit fp g21 6 (by decide) ?ho6 ?hd6) $$ [HP]
  case ho6 => exact congrArg Pool.so ((word_eq c (Memref.whole cc1_scratch1) ![6, 0] _ f22 (by decide) (by decide)).trans (congrFun e22 _) : _ = wP p 6)
  case hd6 => rfl
  · iexact HP
  iintro HP
  iapply (wp_load Variants.none (c : Thread nD τ) none Set.univ (Finset.subset_univ _)) $$ [H22]
  · iexact H22
  iintro H22
  iapply (wp_assume Variants.none (c : Thread nD τ) none Set.univ ?hA7a)
  case hA7a => exact Pool.so_inb (le_of_word ((word_eq c (Memref.whole cc1_scratch1) ![7, 0] _ f22 (by decide) (by decide)).trans (congrFun e22 _) : _ = wP p 7) (fit 7))
  iapply (Pool.issue c (wP p) fit fp g21 7 (by decide) ?ho7 ?hd7) $$ [HP]
  case ho7 => exact congrArg Pool.so ((word_eq c (Memref.whole cc1_scratch1) ![7, 0] _ f22 (by decide) (by decide)).trans (congrFun e22 _) : _ = wP p 7)
  case hd7 => rfl
  · iexact HP
  iintro HP
  ihave HP := (Pool.Ph_all c (wP p) fit fp g21) $$ HP
  iapply (Pool.wait c (wP p) fit fp 0 (by decide)) $$ [HP]
  · iexact HP
  iintro HP
  simp only [ret_bind]
  sl_step
  iapply Hk
  isplitl [H22]; · iexact H22
  iexact HP

set_option maxHeartbeats 2000000 in
theorem part8  (v104 : FVec F S8x64 .f32) (v141 : FVec F S8x1 .f32) (v166 : IVec S8x1 32)
    (p : IVec S8x128 32) (fit : ∀ b, (wP p b).toNat + 64 ≤ 1000000) (fp) (g21 : Buf (Elt F) (Pool.sLoc c)) (v234 : FVec F S8x64 .f32) (qv234 : k1_pay19 v104 v141 v166 = v234) (cst_169 : F .f32) (qcst_169 : (Scalar.ofBits .f32 0x40000000#32) = cst_169) (Q : _ → sProp 𝕄) :
    iprop(Pool.Wt c (wP p) fit fp 1 ∗ (iprop((Pool.tLoc c ↦{fullShare} fp) ∗ (Pool.sLoc c ↦{fullShare} Pool.landed c (wP p) fp) ∗ semVal ((c : Thread nD τ), sm) 0 ∗ (∃ W, owes (c : Thread nD τ) (0 : CellTallies nD τ sig (HIx 1)) W)) -∗ Q ⟨v234, cst_169⟩))
      ⊢ wp frame (wpE (defs₀ (F := F)) Variants.none (c : Thread nD τ) none) Set.univ (k1_part8 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v104 v141 v166) Q := by
  subst qv234 qcst_169
  iintro ⟨HP, Hk⟩
  rw [k1_part8_eq_skeleton]; unfold k1_part8_skel
  iapply (Pool.wait c (wP p) fit fp 1 (by decide)) $$ [HP]
  · iexact HP
  iintro HP
  iapply (Pool.wait c (wP p) fit fp 2 (by decide)) $$ [HP]
  · iexact HP
  iintro HP
  iapply (Pool.wait c (wP p) fit fp 3 (by decide)) $$ [HP]
  · iexact HP
  iintro HP
  iapply (Pool.wait c (wP p) fit fp 4 (by decide)) $$ [HP]
  · iexact HP
  iintro HP
  iapply (Pool.wait c (wP p) fit fp 5 (by decide)) $$ [HP]
  · iexact HP
  iintro HP
  iapply (Pool.wait c (wP p) fit fp 6 (by decide)) $$ [HP]
  · iexact HP
  iintro HP
  iapply (Pool.finish c (wP p) fit fp) $$ [HP]
  · iexact HP
  iintro ⟨HT, HS, HV, HO⟩
  simp only [ret_bind]
  sl_step
  iapply Hk
  isplitl [HT]; · iexact HT
  isplitl [HS]; · iexact HS
  isplitl [HV]; · iexact HV
  iexact HO

set_option maxHeartbeats 2000000 in
theorem part9 (wi1 : Vec F S256x128 .f32) (bi1 : Vec F S1x128 .f32) (v100 : FVec F S8x128 .f32) (v131 : IVec S8x512 1) (v158 : FVec F S8x1 .f32) (v234 : FVec F S8x64 .f32) (cst_169 : F .f32)
    (f11) (e11 : M11.view.read (Elt F) f11 = wi1) (f12) (e12 : M12.view.read (Elt F) f12 = bi1) (f19) (g21) (vecs : Vec F S512x128 .f32) (e21 : (Memref.whole cc1_scratch0).view.read (Elt F) g21 = vecs) (v265 : FVec F S8x128 .f32) (qv265 : k1_pay22 v100 v131 v158 v234 cst_169 vecs wi1 bi1 = v265) (v275 : FVec F S8x128 .f32) (qv275 : k1_pay23 v100 v131 v158 v234 cst_169 vecs wi1 bi1 = v275) (Q : _ → sProp 𝕄) :
    iprop(pt c M11 f11 ∗ pt c M12 f12 ∗ pt c M19 f19 ∗ pt c (Memref.whole cc1_scratch0) g21 ∗ (iprop(∃ g19, ⌜M19.view.read (Elt F) g19 = put 0 (k1_pay21 v131 v158 v234 cst_169 vecs) (M19.view.read (Elt F) f19)⌝ ∗ pt c M11 f11 ∗ pt c M12 f12 ∗ pt c (Memref.whole cc1_scratch0) g21 ∗ pt c M19 g19) -∗ Q ⟨v265, v275⟩))
      ⊢ wp frame (wpE (defs₀ (F := F)) Variants.none (c : Thread nD τ) none) Set.univ (k1_part9 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v100 v131 v158 v234 cst_169) Q := by
  subst e11 e12 e21 qv265 qv275
  iintro ⟨H11, H12, H19, H21, Hk⟩
  rw [k1_part9_eq_skeleton]; unfold k1_part9_skel
  iapply (wp_load Variants.none (c : Thread nD τ) none Set.univ (Finset.subset_univ _)) $$ [H21]
  · iexact H21
  iintro H21
  iapply (wp_load Variants.none (c : Thread nD τ) none Set.univ (Finset.subset_univ _)) $$ [H19]
  · iexact H19
  iintro H19
  iapply (wp_store Variants.none (c : Thread nD τ) none Set.univ (Finset.subset_univ _)) $$ [H19]
  · iexact H19
  iintro H19
  ihave H19' := (putted c M19 _ 0 ![0, 0, 0] (by rfl) _ _) $$ H19
  icases H19' with ⟨%g19, %e19, H19⟩
  repeat rw [View.readAt_full] at e19
  iapply (wp_load Variants.none (c : Thread nD τ) none Set.univ (Finset.subset_univ _)) $$ [H11]
  · iexact H11
  iintro H11
  iapply (wp_load Variants.none (c : Thread nD τ) none Set.univ (Finset.subset_univ _)) $$ [H12]
  · iexact H12
  iintro H12
  simp only [ret_bind]
  sl_step
  repeat rw [View.readAt_full]
  iapply Hk
  iexists g19
  isplitr
  · ipureintro; exact e19
  isplitl [H11]; · iexact H11
  isplitl [H12]; · iexact H12
  isplitl [H21]; · iexact H21
  iexact H19

set_option maxHeartbeats 2000000 in
theorem part10 (wi2 : Vec F S128x128 .f32) (bi2 : Vec F S1x128 .f32) (g2 : Vec F S1x128 .f32) (be2 : Vec F S1x128 .f32) (wh : Vec F S128x1 .f32) (bh : Vec F S1x1 .f32) (v100 : FVec F S8x128 .f32) (v265 : FVec F S8x128 .f32) (v275 : FVec F S8x128 .f32)
    (f13) (e13 : M13.view.read (Elt F) f13 = wi2) (f14) (e14 : M14.view.read (Elt F) f14 = bi2) (f15) (e15 : M15.view.read (Elt F) f15 = g2) (f16) (e16 : M16.view.read (Elt F) f16 = be2) (f17) (e17 : M17.view.read (Elt F) f17 = wh) (f18) (e18 : M18.view.read (Elt F) f18 = bh) (v311 : FVec F S8x128 .f32) (qv311 : k1_pay24 v100 v265 v275 wi2 bi2 g2 be2 = v311) (v313 : FVec F S8x1 .f32) (qv313 : k1_pay25 v100 v265 v275 wi2 bi2 g2 be2 wh = v313) (v315 : FVec F S1x1 .f32) (qv315 : k1_pay26 bh = v315) (Q : _ → sProp 𝕄) :
    iprop(pt c M13 f13 ∗ pt c M14 f14 ∗ pt c M15 f15 ∗ pt c M16 f16 ∗ pt c M17 f17 ∗ pt c M18 f18 ∗ (iprop(pt c M13 f13 ∗ pt c M14 f14 ∗ pt c M15 f15 ∗ pt c M16 f16 ∗ pt c M17 f17 ∗ pt c M18 f18) -∗ Q ⟨v311, v313, v315⟩))
      ⊢ wp frame (wpE (defs₀ (F := F)) Variants.none (c : Thread nD τ) none) Set.univ (k1_part10 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v100 v265 v275) Q := by
  subst e13 e14 e15 e16 e17 e18 qv311 qv313 qv315
  iintro ⟨H13, H14, H15, H16, H17, H18, Hk⟩
  rw [k1_part10_eq_skeleton]; unfold k1_part10_skel
  iapply (wp_load Variants.none (c : Thread nD τ) none Set.univ (Finset.subset_univ _)) $$ [H13]
  · iexact H13
  iintro H13
  iapply (wp_load Variants.none (c : Thread nD τ) none Set.univ (Finset.subset_univ _)) $$ [H14]
  · iexact H14
  iintro H14
  iapply (wp_load Variants.none (c : Thread nD τ) none Set.univ (Finset.subset_univ _)) $$ [H15]
  · iexact H15
  iintro H15
  iapply (wp_load Variants.none (c : Thread nD τ) none Set.univ (Finset.subset_univ _)) $$ [H16]
  · iexact H16
  iintro H16
  iapply (wp_load Variants.none (c : Thread nD τ) none Set.univ (Finset.subset_univ _)) $$ [H17]
  · iexact H17
  iintro H17
  iapply (wp_load Variants.none (c : Thread nD τ) none Set.univ (Finset.subset_univ _)) $$ [H18]
  · iexact H18
  iintro H18
  simp only [ret_bind]
  sl_step
  repeat rw [View.readAt_full]
  iapply Hk
  isplitl [H13]; · iexact H13
  isplitl [H14]; · iexact H14
  isplitl [H15]; · iexact H15
  isplitl [H16]; · iexact H16
  isplitl [H17]; · iexact H17
  iexact H18

set_option maxHeartbeats 2000000 in
theorem part11 (widx : Vec F S128x2 .f32) (bidx : Vec F S1x2 .f32) (v100 : FVec F S8x128 .f32) (v101 : FVec F S8x1 .f32) (v102 : FVec F S8x1 .f32) (v311 : FVec F S8x128 .f32) (v313 : FVec F S8x1 .f32) (v315 : FVec F S1x1 .f32)
    (f8) (e8 : M8.view.read (Elt F) f8 = widx) (f9) (e9 : M9.view.read (Elt F) f9 = bidx) (v322 : FVec F S8x1 .f32) (qv322 : k1_pay27 v101 v102 v313 v315 = v322) (v326 : FVec F S8x1 .f32) (qv326 : k1_pay28 v101 v102 v313 v315 = v326) (v333 : FVec F S8x128 .f32) (qv333 : k1_pay29 v100 v102 v311 = v333) (v341 : FVec F S8x1 .f32) (qv341 : k1_pay31 v100 v102 v311 widx bidx = v341) (v358 : FVec F S8x1 .f32) (qv358 : k1_pay32 v100 v102 v311 widx bidx = v358) (v362 : IVec S8x1 32) (qv362 : k1_pay33 v100 v102 v311 widx bidx = v362) (Q : _ → sProp 𝕄) :
    iprop(pt c M8 f8 ∗ pt c M9 f9 ∗ (iprop(pt c M8 f8 ∗ pt c M9 f9) -∗ Q ⟨v322, v326, v333, v341, v358, v362⟩))
      ⊢ wp frame (wpE (defs₀ (F := F)) Variants.none (c : Thread nD τ) none) Set.univ (k1_part11 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v100 v101 v102 v311 v313 v315) Q := by
  subst e8 e9 qv322 qv326 qv333 qv341 qv358 qv362
  iintro ⟨H8, H9, Hk⟩
  rw [k1_part11_eq_skeleton]; unfold k1_part11_skel
  iapply (wp_load Variants.none (c : Thread nD τ) none Set.univ (Finset.subset_univ _)) $$ [H8]
  · iexact H8
  iintro H8
  iapply (wp_load Variants.none (c : Thread nD τ) none Set.univ (Finset.subset_univ _)) $$ [H9]
  · iexact H9
  iintro H9
  simp only [ret_bind]
  sl_step
  repeat rw [View.readAt_full]
  iapply Hk
  isplitl [H8]; · iexact H8
  iexact H9

set_option maxHeartbeats 2000000 in
theorem part12  (v133 : IVec S8x128 32) (v176 : IVec S8x128 32) (v362 : IVec S8x1 32)
    (p : IVec S8x128 32) (fit : ∀ b, (wP p b).toNat + 64 ≤ 1000000) (fp) (g21 : Buf (Elt F) (Pool.sLoc c)) (qp : (k1_pay35 v362) = p) (f22) (v366 : IVec S8x1 32) (qv366 : k1_pay34 v362 = v366) (v376 : IVec S8x128 32) (qv376 : k1_pay36 v133 v176 v362 = v376) (v390 : BitVec 32) (ev390 : v390 = wP p 3) (k1_hw20 : k1_chk20 v390) (Q : _ → sProp 𝕄) :
    iprop(pt c (Memref.whole cc1_scratch1) f22 ∗ (Pool.tLoc c ↦{fullShare} fp) ∗ (Pool.sLoc c ↦{fullShare} g21) ∗ semVal ((c : Thread nD τ), sm) 0 ∗ (∃ W, owes (c : Thread nD τ) (0 : CellTallies nD τ sig (HIx 1)) W) ∗ (iprop(∃ g22, ⌜(Memref.whole cc1_scratch1).view.read (Elt F) g22 = p⌝ ∗ Pool.Ph c (wP p) fit fp g21 3 ∗ pt c (Memref.whole cc1_scratch1) g22) -∗ Q ⟨v366, v376, v390, k1_hw20⟩))
      ⊢ wp frame (wpE (defs₀ (F := F)) Variants.none (c : Thread nD τ) none) Set.univ (k1_part12 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v133 v176 v362) Q := by
  subst qv366 qv376
  iintro ⟨H22, HT, H21, HV, HO, Hk⟩
  rw [k1_part12_eq_skeleton]; unfold k1_part12_skel
  iapply (wp_load Variants.none (c : Thread nD τ) none Set.univ (Finset.subset_univ _)) $$ [H22]
  · iexact H22
  iintro H22
  iapply (wp_store Variants.none (c : Thread nD τ) none Set.univ (Finset.subset_univ _)) $$ [H22]
  · iexact H22
  iintro H22
  ihave H22' := (stored c (Memref.whole cc1_scratch1) _ _ _) $$ H22
  icases H22' with ⟨%g22, %e22, H22⟩
  have e22 := e22.trans qp
  imod (Pool.begin c (wP p) fit fp g21 Set.univ) $$ [HT H21 HV HO] with HP
  · isplitl [HT]; · iexact HT
    isplitl [H21]; · iexact H21
    isplitl [HV]; · iexact HV
    iexact HO
  iapply (wp_load Variants.none (c : Thread nD τ) none Set.univ (Finset.subset_univ _)) $$ [H22]
  · iexact H22
  iintro H22
  iapply (wp_assume Variants.none (c : Thread nD τ) none Set.univ ?hA0a)
  case hA0a => exact Pool.so_inb (le_of_word ((word_eq c (Memref.whole cc1_scratch1) ![0, 0] _ g22 (by decide) (by decide)).trans (congrFun e22 _) : _ = wP p 0) (fit 0))
  iapply (Pool.issue c (wP p) fit fp g21 0 (by decide) ?ho0 ?hd0) $$ [HP]
  case ho0 => exact congrArg Pool.so ((word_eq c (Memref.whole cc1_scratch1) ![0, 0] _ g22 (by decide) (by decide)).trans (congrFun e22 _) : _ = wP p 0)
  case hd0 => rfl
  · iexact HP
  iintro HP
  iapply (wp_load Variants.none (c : Thread nD τ) none Set.univ (Finset.subset_univ _)) $$ [H22]
  · iexact H22
  iintro H22
  iapply (wp_assume Variants.none (c : Thread nD τ) none Set.univ ?hA1a)
  case hA1a => exact Pool.so_inb (le_of_word ((word_eq c (Memref.whole cc1_scratch1) ![1, 0] _ g22 (by decide) (by decide)).trans (congrFun e22 _) : _ = wP p 1) (fit 1))
  iapply (Pool.issue c (wP p) fit fp g21 1 (by decide) ?ho1 ?hd1) $$ [HP]
  case ho1 => exact congrArg Pool.so ((word_eq c (Memref.whole cc1_scratch1) ![1, 0] _ g22 (by decide) (by decide)).trans (congrFun e22 _) : _ = wP p 1)
  case hd1 => rfl
  · iexact HP
  iintro HP
  iapply (wp_load Variants.none (c : Thread nD τ) none Set.univ (Finset.subset_univ _)) $$ [H22]
  · iexact H22
  iintro H22
  iapply (wp_assume Variants.none (c : Thread nD τ) none Set.univ ?hA2a)
  case hA2a => exact Pool.so_inb (le_of_word ((word_eq c (Memref.whole cc1_scratch1) ![2, 0] _ g22 (by decide) (by decide)).trans (congrFun e22 _) : _ = wP p 2) (fit 2))
  iapply (Pool.issue c (wP p) fit fp g21 2 (by decide) ?ho2 ?hd2) $$ [HP]
  case ho2 => exact congrArg Pool.so ((word_eq c (Memref.whole cc1_scratch1) ![2, 0] _ g22 (by decide) (by decide)).trans (congrFun e22 _) : _ = wP p 2)
  case hd2 => rfl
  · iexact HP
  iintro HP
  iapply (wp_load Variants.none (c : Thread nD τ) none Set.univ (Finset.subset_univ _)) $$ [H22]
  · iexact H22
  iintro H22
  iapply (wp_assume Variants.none (c : Thread nD τ) none Set.univ ?hA3a)
  case hA3a => exact Pool.so_inb (le_of_word ((word_eq c (Memref.whole cc1_scratch1) ![3, 0] _ g22 (by decide) (by decide)).trans (congrFun e22 _) : _ = wP p 3) (fit 3))
  simp only [ret_bind]
  sl_step
  rw [psig_eq (((word_eq c (Memref.whole cc1_scratch1) ![3, 0] _ g22 (by decide) (by decide)).trans (congrFun e22 _) : _ = wP p 3).trans ev390.symm) _ k1_hw20]
  iapply Hk
  iexists g22
  isplitr
  · ipureintro; exact e22
  isplitl [HP]; · iexact HP
  iexact H22

set_option maxHeartbeats 2000000 in
theorem part13  (v390 : BitVec 32) (k1_hw20 : k1_chk20 v390)
    (p : IVec S8x128 32) (fit : ∀ b, (wP p b).toNat + 64 ≤ 1000000) (fp) (g21 : Buf (Elt F) (Pool.sLoc c)) (f22) (e22 : (Memref.whole cc1_scratch1).view.read (Elt F) f22 = p) (ev390 : v390 = wP p 3)  (Q : _ → sProp 𝕄) :
    iprop(pt c (Memref.whole cc1_scratch1) f22 ∗ Pool.Ph c (wP p) fit fp g21 3 ∗ (iprop(pt c (Memref.whole cc1_scratch1) f22 ∗ Pool.Wt c (wP p) fit fp 1) -∗ Q ⟨⟩))
      ⊢ wp frame (wpE (defs₀ (F := F)) Variants.none (c : Thread nD τ) none) Set.univ (k1_part13 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v390 k1_hw20) Q := by
  iintro ⟨H22, HP, Hk⟩
  rw [k1_part13_eq_skeleton]; unfold k1_part13_skel
  iapply (Pool.issue c (wP p) fit fp g21 3 (by decide) ?ho3 ?hd3) $$ [HP]
  case ho3 => exact congrArg Pool.so ev390
  case hd3 => rfl
  · iexact HP
  iintro HP
  iapply (wp_load Variants.none (c : Thread nD τ) none Set.univ (Finset.subset_univ _)) $$ [H22]
  · iexact H22
  iintro H22
  iapply (wp_assume Variants.none (c : Thread nD τ) none Set.univ ?hA4a)
  case hA4a => exact Pool.so_inb (le_of_word ((word_eq c (Memref.whole cc1_scratch1) ![4, 0] _ f22 (by decide) (by decide)).trans (congrFun e22 _) : _ = wP p 4) (fit 4))
  iapply (Pool.issue c (wP p) fit fp g21 4 (by decide) ?ho4 ?hd4) $$ [HP]
  case ho4 => exact congrArg Pool.so ((word_eq c (Memref.whole cc1_scratch1) ![4, 0] _ f22 (by decide) (by decide)).trans (congrFun e22 _) : _ = wP p 4)
  case hd4 => rfl
  · iexact HP
  iintro HP
  iapply (wp_load Variants.none (c : Thread nD τ) none Set.univ (Finset.subset_univ _)) $$ [H22]
  · iexact H22
  iintro H22
  iapply (wp_assume Variants.none (c : Thread nD τ) none Set.univ ?hA5a)
  case hA5a => exact Pool.so_inb (le_of_word ((word_eq c (Memref.whole cc1_scratch1) ![5, 0] _ f22 (by decide) (by decide)).trans (congrFun e22 _) : _ = wP p 5) (fit 5))
  iapply (Pool.issue c (wP p) fit fp g21 5 (by decide) ?ho5 ?hd5) $$ [HP]
  case ho5 => exact congrArg Pool.so ((word_eq c (Memref.whole cc1_scratch1) ![5, 0] _ f22 (by decide) (by decide)).trans (congrFun e22 _) : _ = wP p 5)
  case hd5 => rfl
  · iexact HP
  iintro HP
  iapply (wp_load Variants.none (c : Thread nD τ) none Set.univ (Finset.subset_univ _)) $$ [H22]
  · iexact H22
  iintro H22
  iapply (wp_assume Variants.none (c : Thread nD τ) none Set.univ ?hA6a)
  case hA6a => exact Pool.so_inb (le_of_word ((word_eq c (Memref.whole cc1_scratch1) ![6, 0] _ f22 (by decide) (by decide)).trans (congrFun e22 _) : _ = wP p 6) (fit 6))
  iapply (Pool.issue c (wP p) fit fp g21 6 (by decide) ?ho6 ?hd6) $$ [HP]
  case ho6 => exact congrArg Pool.so ((word_eq c (Memref.whole cc1_scratch1) ![6, 0] _ f22 (by decide) (by decide)).trans (congrFun e22 _) : _ = wP p 6)
  case hd6 => rfl
  · iexact HP
  iintro HP
  iapply (wp_load Variants.none (c : Thread nD τ) none Set.univ (Finset.subset_univ _)) $$ [H22]
  · iexact H22
  iintro H22
  iapply (wp_assume Variants.none (c : Thread nD τ) none Set.univ ?hA7a)
  case hA7a => exact Pool.so_inb (le_of_word ((word_eq c (Memref.whole cc1_scratch1) ![7, 0] _ f22 (by decide) (by decide)).trans (congrFun e22 _) : _ = wP p 7) (fit 7))
  iapply (Pool.issue c (wP p) fit fp g21 7 (by decide) ?ho7 ?hd7) $$ [HP]
  case ho7 => exact congrArg Pool.so ((word_eq c (Memref.whole cc1_scratch1) ![7, 0] _ f22 (by decide) (by decide)).trans (congrFun e22 _) : _ = wP p 7)
  case hd7 => rfl
  · iexact HP
  iintro HP
  ihave HP := (Pool.Ph_all c (wP p) fit fp g21) $$ HP
  iapply (Pool.wait c (wP p) fit fp 0 (by decide)) $$ [HP]
  · iexact HP
  iintro HP
  simp only [ret_bind]
  sl_step
  iapply Hk
  isplitl [H22]; · iexact H22
  iexact HP

set_option maxHeartbeats 2000000 in
theorem part14  (v104 : FVec F S8x64 .f32) (v341 : FVec F S8x1 .f32) (v358 : FVec F S8x1 .f32) (v366 : IVec S8x1 32)
    (p : IVec S8x128 32) (fit : ∀ b, (wP p b).toNat + 64 ≤ 1000000) (fp) (g21 : Buf (Elt F) (Pool.sLoc c)) (v434 : FVec F S8x64 .f32) (qv434 : k1_pay37 v104 v341 v366 = v434) (v437 : FVec F S8x1 .f32) (qv437 : k1_pay38 v358 = v437) (Q : _ → sProp 𝕄) :
    iprop(Pool.Wt c (wP p) fit fp 1 ∗ (iprop((Pool.tLoc c ↦{fullShare} fp) ∗ (Pool.sLoc c ↦{fullShare} Pool.landed c (wP p) fp) ∗ semVal ((c : Thread nD τ), sm) 0 ∗ (∃ W, owes (c : Thread nD τ) (0 : CellTallies nD τ sig (HIx 1)) W)) -∗ Q ⟨v434, v437⟩))
      ⊢ wp frame (wpE (defs₀ (F := F)) Variants.none (c : Thread nD τ) none) Set.univ (k1_part14 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v104 v341 v358 v366) Q := by
  subst qv434 qv437
  iintro ⟨HP, Hk⟩
  rw [k1_part14_eq_skeleton]; unfold k1_part14_skel
  iapply (Pool.wait c (wP p) fit fp 1 (by decide)) $$ [HP]
  · iexact HP
  iintro HP
  iapply (Pool.wait c (wP p) fit fp 2 (by decide)) $$ [HP]
  · iexact HP
  iintro HP
  iapply (Pool.wait c (wP p) fit fp 3 (by decide)) $$ [HP]
  · iexact HP
  iintro HP
  iapply (Pool.wait c (wP p) fit fp 4 (by decide)) $$ [HP]
  · iexact HP
  iintro HP
  iapply (Pool.wait c (wP p) fit fp 5 (by decide)) $$ [HP]
  · iexact HP
  iintro HP
  iapply (Pool.wait c (wP p) fit fp 6 (by decide)) $$ [HP]
  · iexact HP
  iintro HP
  iapply (Pool.finish c (wP p) fit fp) $$ [HP]
  · iexact HP
  iintro ⟨HT, HS, HV, HO⟩
  simp only [ret_bind]
  sl_step
  iapply Hk
  isplitl [HT]; · iexact HT
  isplitl [HS]; · iexact HS
  isplitl [HV]; · iexact HV
  iexact HO

set_option maxHeartbeats 2000000 in
theorem part15 (wi1 : Vec F S256x128 .f32) (bi1 : Vec F S1x128 .f32) (v131 : IVec S8x512 1) (v333 : FVec F S8x128 .f32) (v434 : FVec F S8x64 .f32) (v437 : FVec F S8x1 .f32)
    (f11) (e11 : M11.view.read (Elt F) f11 = wi1) (f12) (e12 : M12.view.read (Elt F) f12 = bi1) (f19) (g21) (vecs : Vec F S512x128 .f32) (e21 : (Memref.whole cc1_scratch0).view.read (Elt F) g21 = vecs) (v465 : FVec F S8x128 .f32) (qv465 : k1_pay41 v131 v333 v434 v437 vecs wi1 bi1 = v465) (v477 : FVec F S8x128 .f32) (qv477 : k1_pay42 v131 v333 v434 v437 vecs wi1 bi1 = v477) (Q : _ → sProp 𝕄) :
    iprop(pt c M11 f11 ∗ pt c M12 f12 ∗ pt c M19 f19 ∗ pt c (Memref.whole cc1_scratch0) g21 ∗ (iprop(∃ g19, ⌜M19.view.read (Elt F) g19 = put 1 (k1_pay40 v131 v434 v437 vecs) (M19.view.read (Elt F) f19)⌝ ∗ pt c M11 f11 ∗ pt c M12 f12 ∗ pt c (Memref.whole cc1_scratch0) g21 ∗ pt c M19 g19) -∗ Q ⟨v465, v477⟩))
      ⊢ wp frame (wpE (defs₀ (F := F)) Variants.none (c : Thread nD τ) none) Set.univ (k1_part15 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v131 v333 v434 v437) Q := by
  subst e11 e12 e21 qv465 qv477
  iintro ⟨H11, H12, H19, H21, Hk⟩
  rw [k1_part15_eq_skeleton]; unfold k1_part15_skel
  iapply (wp_load Variants.none (c : Thread nD τ) none Set.univ (Finset.subset_univ _)) $$ [H21]
  · iexact H21
  iintro H21
  iapply (wp_load Variants.none (c : Thread nD τ) none Set.univ (Finset.subset_univ _)) $$ [H19]
  · iexact H19
  iintro H19
  iapply (wp_store Variants.none (c : Thread nD τ) none Set.univ (Finset.subset_univ _)) $$ [H19]
  · iexact H19
  iintro H19
  ihave H19' := (putted c M19 _ 1 ![0, 1, 0] (by rfl) _ _) $$ H19
  icases H19' with ⟨%g19, %e19, H19⟩
  repeat rw [View.readAt_full] at e19
  iapply (wp_load Variants.none (c : Thread nD τ) none Set.univ (Finset.subset_univ _)) $$ [H11]
  · iexact H11
  iintro H11
  iapply (wp_load Variants.none (c : Thread nD τ) none Set.univ (Finset.subset_univ _)) $$ [H12]
  · iexact H12
  iintro H12
  simp only [ret_bind]
  sl_step
  repeat rw [View.readAt_full]
  iapply Hk
  iexists g19
  isplitr
  · ipureintro; exact e19
  isplitl [H11]; · iexact H11
  isplitl [H12]; · iexact H12
  isplitl [H21]; · iexact H21
  iexact H19

set_option maxHeartbeats 2000000 in
theorem part16 (wi2 : Vec F S128x128 .f32) (bi2 : Vec F S1x128 .f32) (g2 : Vec F S1x128 .f32) (be2 : Vec F S1x128 .f32) (wh : Vec F S128x1 .f32) (bh : Vec F S1x1 .f32) (v333 : FVec F S8x128 .f32) (v465 : FVec F S8x128 .f32) (v477 : FVec F S8x128 .f32)
    (f13) (e13 : M13.view.read (Elt F) f13 = wi2) (f14) (e14 : M14.view.read (Elt F) f14 = bi2) (f15) (e15 : M15.view.read (Elt F) f15 = g2) (f16) (e16 : M16.view.read (Elt F) f16 = be2) (f17) (e17 : M17.view.read (Elt F) f17 = wh) (f18) (e18 : M18.view.read (Elt F) f18 = bh) (v511 : FVec F S8x128 .f32) (qv511 : k1_pay43 v333 v465 v477 wi2 bi2 g2 be2 = v511) (v518 : FVec F S8x1 .f32) (qv518 : k1_pay44 v333 v465 v477 wi2 bi2 g2 be2 wh bh = v518) (Q : _ → sProp 𝕄) :
    iprop(pt c M13 f13 ∗ pt c M14 f14 ∗ pt c M15 f15 ∗ pt c M16 f16 ∗ pt c M17 f17 ∗ pt c M18 f18 ∗ (iprop(pt c M13 f13 ∗ pt c M14 f14 ∗ pt c M15 f15 ∗ pt c M16 f16 ∗ pt c M17 f17 ∗ pt c M18 f18) -∗ Q ⟨v511, v518⟩))
      ⊢ wp frame (wpE (defs₀ (F := F)) Variants.none (c : Thread nD τ) none) Set.univ (k1_part16 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v333 v465 v477) Q := by
  subst e13 e14 e15 e16 e17 e18 qv511 qv518
  iintro ⟨H13, H14, H15, H16, H17, H18, Hk⟩
  rw [k1_part16_eq_skeleton]; unfold k1_part16_skel
  iapply (wp_load Variants.none (c : Thread nD τ) none Set.univ (Finset.subset_univ _)) $$ [H13]
  · iexact H13
  iintro H13
  iapply (wp_load Variants.none (c : Thread nD τ) none Set.univ (Finset.subset_univ _)) $$ [H14]
  · iexact H14
  iintro H14
  iapply (wp_load Variants.none (c : Thread nD τ) none Set.univ (Finset.subset_univ _)) $$ [H15]
  · iexact H15
  iintro H15
  iapply (wp_load Variants.none (c : Thread nD τ) none Set.univ (Finset.subset_univ _)) $$ [H16]
  · iexact H16
  iintro H16
  iapply (wp_load Variants.none (c : Thread nD τ) none Set.univ (Finset.subset_univ _)) $$ [H17]
  · iexact H17
  iintro H17
  iapply (wp_load Variants.none (c : Thread nD τ) none Set.univ (Finset.subset_univ _)) $$ [H18]
  · iexact H18
  iintro H18
  simp only [ret_bind]
  sl_step
  repeat rw [View.readAt_full]
  iapply Hk
  isplitl [H13]; · iexact H13
  isplitl [H14]; · iexact H14
  isplitl [H15]; · iexact H15
  isplitl [H16]; · iexact H16
  isplitl [H17]; · iexact H17
  iexact H18

set_option maxHeartbeats 2000000 in
theorem part17 (widx : Vec F S128x2 .f32) (bidx : Vec F S1x2 .f32) (v322 : FVec F S8x1 .f32) (v326 : FVec F S8x1 .f32) (v333 : FVec F S8x128 .f32) (v511 : FVec F S8x128 .f32) (v518 : FVec F S8x1 .f32)
    (f8) (e8 : M8.view.read (Elt F) f8 = widx) (f9) (e9 : M9.view.read (Elt F) f9 = bidx) (v526 : FVec F S8x1 .f32) (qv526 : k1_pay45 v322 v326 v518 = v526) (v533 : FVec F S8x128 .f32) (qv533 : k1_pay46 v326 v333 v511 = v533) (v541 : FVec F S8x1 .f32) (qv541 : k1_pay48 v326 v333 v511 widx bidx = v541) (v558 : FVec F S8x1 .f32) (qv558 : k1_pay49 v326 v333 v511 widx bidx = v558) (v562 : IVec S8x1 32) (qv562 : k1_pay50 v326 v333 v511 widx bidx = v562) (c999936_i32_353 : BitVec 32) (qc999936_i32_353 : 999936#32 = c999936_i32_353) (v563 : IVec S8x1 32) (qv563 : k1_pay51 = v563) (Q : _ → sProp 𝕄) :
    iprop(pt c M8 f8 ∗ pt c M9 f9 ∗ (iprop(pt c M8 f8 ∗ pt c M9 f9) -∗ Q ⟨v526, v533, v541, v558, v562, c999936_i32_353, v563⟩))
      ⊢ wp frame (wpE (defs₀ (F := F)) Variants.none (c : Thread nD τ) none) Set.univ (k1_part17 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v322 v326 v333 v511 v518) Q := by
  subst e8 e9 qv526 qv533 qv541 qv558 qv562 qc999936_i32_353 qv563
  iintro ⟨H8, H9, Hk⟩
  rw [k1_part17_eq_skeleton]; unfold k1_part17_skel
  iapply (wp_load Variants.none (c : Thread nD τ) none Set.univ (Finset.subset_univ _)) $$ [H8]
  · iexact H8
  iintro H8
  iapply (wp_load Variants.none (c : Thread nD τ) none Set.univ (Finset.subset_univ _)) $$ [H9]
  · iexact H9
  iintro H9
  simp only [ret_bind]
  sl_step
  repeat rw [View.readAt_full]
  iapply Hk
  isplitl [H8]; · iexact H8
  iexact H9

set_option maxHeartbeats 2000000 in
theorem part18  (v133 : IVec S8x128 32) (v376 : IVec S8x128 32) (v562 : IVec S8x1 32) (c999936_i32_353 : BitVec 32) (v563 : IVec S8x1 32)
    (p : IVec S8x128 32) (fit : ∀ b, (wP p b).toNat + 64 ≤ 1000000) (fp) (g21 : Buf (Elt F) (Pool.sLoc c)) (qp : (k1_pay53 v562 c999936_i32_353 v563) = p) (f22) (v566 : IVec S8x1 32) (qv566 : k1_pay52 v562 c999936_i32_353 v563 = v566) (v576 : IVec S8x128 32) (qv576 : k1_pay54 v133 v376 v562 c999936_i32_353 v563 = v576) (v590 : BitVec 32) (ev590 : v590 = wP p 3) (k1_hw28 : k1_chk28 v590) (Q : _ → sProp 𝕄) :
    iprop(pt c (Memref.whole cc1_scratch1) f22 ∗ (Pool.tLoc c ↦{fullShare} fp) ∗ (Pool.sLoc c ↦{fullShare} g21) ∗ semVal ((c : Thread nD τ), sm) 0 ∗ (∃ W, owes (c : Thread nD τ) (0 : CellTallies nD τ sig (HIx 1)) W) ∗ (iprop(∃ g22, ⌜(Memref.whole cc1_scratch1).view.read (Elt F) g22 = p⌝ ∗ Pool.Ph c (wP p) fit fp g21 3 ∗ pt c (Memref.whole cc1_scratch1) g22) -∗ Q ⟨v566, v576, v590, k1_hw28⟩))
      ⊢ wp frame (wpE (defs₀ (F := F)) Variants.none (c : Thread nD τ) none) Set.univ (k1_part18 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v133 v376 v562 c999936_i32_353 v563) Q := by
  subst qv566 qv576
  iintro ⟨H22, HT, H21, HV, HO, Hk⟩
  rw [k1_part18_eq_skeleton]; unfold k1_part18_skel
  iapply (wp_load Variants.none (c : Thread nD τ) none Set.univ (Finset.subset_univ _)) $$ [H22]
  · iexact H22
  iintro H22
  iapply (wp_store Variants.none (c : Thread nD τ) none Set.univ (Finset.subset_univ _)) $$ [H22]
  · iexact H22
  iintro H22
  ihave H22' := (stored c (Memref.whole cc1_scratch1) _ _ _) $$ H22
  icases H22' with ⟨%g22, %e22, H22⟩
  have e22 := e22.trans qp
  imod (Pool.begin c (wP p) fit fp g21 Set.univ) $$ [HT H21 HV HO] with HP
  · isplitl [HT]; · iexact HT
    isplitl [H21]; · iexact H21
    isplitl [HV]; · iexact HV
    iexact HO
  iapply (wp_load Variants.none (c : Thread nD τ) none Set.univ (Finset.subset_univ _)) $$ [H22]
  · iexact H22
  iintro H22
  iapply (wp_assume Variants.none (c : Thread nD τ) none Set.univ ?hA0a)
  case hA0a => exact Pool.so_inb (le_of_word ((word_eq c (Memref.whole cc1_scratch1) ![0, 0] _ g22 (by decide) (by decide)).trans (congrFun e22 _) : _ = wP p 0) (fit 0))
  iapply (Pool.issue c (wP p) fit fp g21 0 (by decide) ?ho0 ?hd0) $$ [HP]
  case ho0 => exact congrArg Pool.so ((word_eq c (Memref.whole cc1_scratch1) ![0, 0] _ g22 (by decide) (by decide)).trans (congrFun e22 _) : _ = wP p 0)
  case hd0 => rfl
  · iexact HP
  iintro HP
  iapply (wp_load Variants.none (c : Thread nD τ) none Set.univ (Finset.subset_univ _)) $$ [H22]
  · iexact H22
  iintro H22
  iapply (wp_assume Variants.none (c : Thread nD τ) none Set.univ ?hA1a)
  case hA1a => exact Pool.so_inb (le_of_word ((word_eq c (Memref.whole cc1_scratch1) ![1, 0] _ g22 (by decide) (by decide)).trans (congrFun e22 _) : _ = wP p 1) (fit 1))
  iapply (Pool.issue c (wP p) fit fp g21 1 (by decide) ?ho1 ?hd1) $$ [HP]
  case ho1 => exact congrArg Pool.so ((word_eq c (Memref.whole cc1_scratch1) ![1, 0] _ g22 (by decide) (by decide)).trans (congrFun e22 _) : _ = wP p 1)
  case hd1 => rfl
  · iexact HP
  iintro HP
  iapply (wp_load Variants.none (c : Thread nD τ) none Set.univ (Finset.subset_univ _)) $$ [H22]
  · iexact H22
  iintro H22
  iapply (wp_assume Variants.none (c : Thread nD τ) none Set.univ ?hA2a)
  case hA2a => exact Pool.so_inb (le_of_word ((word_eq c (Memref.whole cc1_scratch1) ![2, 0] _ g22 (by decide) (by decide)).trans (congrFun e22 _) : _ = wP p 2) (fit 2))
  iapply (Pool.issue c (wP p) fit fp g21 2 (by decide) ?ho2 ?hd2) $$ [HP]
  case ho2 => exact congrArg Pool.so ((word_eq c (Memref.whole cc1_scratch1) ![2, 0] _ g22 (by decide) (by decide)).trans (congrFun e22 _) : _ = wP p 2)
  case hd2 => rfl
  · iexact HP
  iintro HP
  iapply (wp_load Variants.none (c : Thread nD τ) none Set.univ (Finset.subset_univ _)) $$ [H22]
  · iexact H22
  iintro H22
  iapply (wp_assume Variants.none (c : Thread nD τ) none Set.univ ?hA3a)
  case hA3a => exact Pool.so_inb (le_of_word ((word_eq c (Memref.whole cc1_scratch1) ![3, 0] _ g22 (by decide) (by decide)).trans (congrFun e22 _) : _ = wP p 3) (fit 3))
  simp only [ret_bind]
  sl_step
  rw [psig_eq (((word_eq c (Memref.whole cc1_scratch1) ![3, 0] _ g22 (by decide) (by decide)).trans (congrFun e22 _) : _ = wP p 3).trans ev590.symm) _ k1_hw28]
  iapply Hk
  iexists g22
  isplitr
  · ipureintro; exact e22
  isplitl [HP]; · iexact HP
  iexact H22

set_option maxHeartbeats 2000000 in
theorem part19  (v590 : BitVec 32) (k1_hw28 : k1_chk28 v590)
    (p : IVec S8x128 32) (fit : ∀ b, (wP p b).toNat + 64 ≤ 1000000) (fp) (g21 : Buf (Elt F) (Pool.sLoc c)) (f22) (e22 : (Memref.whole cc1_scratch1).view.read (Elt F) f22 = p) (ev590 : v590 = wP p 3)  (Q : _ → sProp 𝕄) :
    iprop(pt c (Memref.whole cc1_scratch1) f22 ∗ Pool.Ph c (wP p) fit fp g21 3 ∗ (iprop(pt c (Memref.whole cc1_scratch1) f22 ∗ Pool.Wt c (wP p) fit fp 2) -∗ Q ⟨⟩))
      ⊢ wp frame (wpE (defs₀ (F := F)) Variants.none (c : Thread nD τ) none) Set.univ (k1_part19 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v590 k1_hw28) Q := by
  iintro ⟨H22, HP, Hk⟩
  rw [k1_part19_eq_skeleton]; unfold k1_part19_skel
  iapply (Pool.issue c (wP p) fit fp g21 3 (by decide) ?ho3 ?hd3) $$ [HP]
  case ho3 => exact congrArg Pool.so ev590
  case hd3 => rfl
  · iexact HP
  iintro HP
  iapply (wp_load Variants.none (c : Thread nD τ) none Set.univ (Finset.subset_univ _)) $$ [H22]
  · iexact H22
  iintro H22
  iapply (wp_assume Variants.none (c : Thread nD τ) none Set.univ ?hA4a)
  case hA4a => exact Pool.so_inb (le_of_word ((word_eq c (Memref.whole cc1_scratch1) ![4, 0] _ f22 (by decide) (by decide)).trans (congrFun e22 _) : _ = wP p 4) (fit 4))
  iapply (Pool.issue c (wP p) fit fp g21 4 (by decide) ?ho4 ?hd4) $$ [HP]
  case ho4 => exact congrArg Pool.so ((word_eq c (Memref.whole cc1_scratch1) ![4, 0] _ f22 (by decide) (by decide)).trans (congrFun e22 _) : _ = wP p 4)
  case hd4 => rfl
  · iexact HP
  iintro HP
  iapply (wp_load Variants.none (c : Thread nD τ) none Set.univ (Finset.subset_univ _)) $$ [H22]
  · iexact H22
  iintro H22
  iapply (wp_assume Variants.none (c : Thread nD τ) none Set.univ ?hA5a)
  case hA5a => exact Pool.so_inb (le_of_word ((word_eq c (Memref.whole cc1_scratch1) ![5, 0] _ f22 (by decide) (by decide)).trans (congrFun e22 _) : _ = wP p 5) (fit 5))
  iapply (Pool.issue c (wP p) fit fp g21 5 (by decide) ?ho5 ?hd5) $$ [HP]
  case ho5 => exact congrArg Pool.so ((word_eq c (Memref.whole cc1_scratch1) ![5, 0] _ f22 (by decide) (by decide)).trans (congrFun e22 _) : _ = wP p 5)
  case hd5 => rfl
  · iexact HP
  iintro HP
  iapply (wp_load Variants.none (c : Thread nD τ) none Set.univ (Finset.subset_univ _)) $$ [H22]
  · iexact H22
  iintro H22
  iapply (wp_assume Variants.none (c : Thread nD τ) none Set.univ ?hA6a)
  case hA6a => exact Pool.so_inb (le_of_word ((word_eq c (Memref.whole cc1_scratch1) ![6, 0] _ f22 (by decide) (by decide)).trans (congrFun e22 _) : _ = wP p 6) (fit 6))
  iapply (Pool.issue c (wP p) fit fp g21 6 (by decide) ?ho6 ?hd6) $$ [HP]
  case ho6 => exact congrArg Pool.so ((word_eq c (Memref.whole cc1_scratch1) ![6, 0] _ f22 (by decide) (by decide)).trans (congrFun e22 _) : _ = wP p 6)
  case hd6 => rfl
  · iexact HP
  iintro HP
  iapply (wp_load Variants.none (c : Thread nD τ) none Set.univ (Finset.subset_univ _)) $$ [H22]
  · iexact H22
  iintro H22
  iapply (wp_assume Variants.none (c : Thread nD τ) none Set.univ ?hA7a)
  case hA7a => exact Pool.so_inb (le_of_word ((word_eq c (Memref.whole cc1_scratch1) ![7, 0] _ f22 (by decide) (by decide)).trans (congrFun e22 _) : _ = wP p 7) (fit 7))
  iapply (Pool.issue c (wP p) fit fp g21 7 (by decide) ?ho7 ?hd7) $$ [HP]
  case ho7 => exact congrArg Pool.so ((word_eq c (Memref.whole cc1_scratch1) ![7, 0] _ f22 (by decide) (by decide)).trans (congrFun e22 _) : _ = wP p 7)
  case hd7 => rfl
  · iexact HP
  iintro HP
  ihave HP := (Pool.Ph_all c (wP p) fit fp g21) $$ HP
  iapply (Pool.wait c (wP p) fit fp 0 (by decide)) $$ [HP]
  · iexact HP
  iintro HP
  iapply (Pool.wait c (wP p) fit fp 1 (by decide)) $$ [HP]
  · iexact HP
  iintro HP
  simp only [ret_bind]
  sl_step
  iapply Hk
  isplitl [H22]; · iexact H22
  iexact HP

set_option maxHeartbeats 2000000 in
theorem part20  (v104 : FVec F S8x64 .f32) (v541 : FVec F S8x1 .f32) (v558 : FVec F S8x1 .f32) (v566 : IVec S8x1 32)
    (p : IVec S8x128 32) (fit : ∀ b, (wP p b).toNat + 64 ≤ 1000000) (fp) (g21 : Buf (Elt F) (Pool.sLoc c)) (v639 : FVec F S8x64 .f32) (qv639 : k1_pay55 v104 v541 v558 v566 = v639) (Q : _ → sProp 𝕄) :
    iprop(Pool.Wt c (wP p) fit fp 2 ∗ (iprop((Pool.tLoc c ↦{fullShare} fp) ∗ (Pool.sLoc c ↦{fullShare} Pool.landed c (wP p) fp) ∗ semVal ((c : Thread nD τ), sm) 0 ∗ (∃ W, owes (c : Thread nD τ) (0 : CellTallies nD τ sig (HIx 1)) W)) -∗ Q v639))
      ⊢ wp frame (wpE (defs₀ (F := F)) Variants.none (c : Thread nD τ) none) Set.univ (k1_part20 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v104 v541 v558 v566) Q := by
  subst qv639
  iintro ⟨HP, Hk⟩
  rw [k1_part20_eq_skeleton]; unfold k1_part20_skel
  iapply (Pool.wait c (wP p) fit fp 2 (by decide)) $$ [HP]
  · iexact HP
  iintro HP
  iapply (Pool.wait c (wP p) fit fp 3 (by decide)) $$ [HP]
  · iexact HP
  iintro HP
  iapply (Pool.wait c (wP p) fit fp 4 (by decide)) $$ [HP]
  · iexact HP
  iintro HP
  iapply (Pool.wait c (wP p) fit fp 5 (by decide)) $$ [HP]
  · iexact HP
  iintro HP
  iapply (Pool.wait c (wP p) fit fp 6 (by decide)) $$ [HP]
  · iexact HP
  iintro HP
  iapply (Pool.finish c (wP p) fit fp) $$ [HP]
  · iexact HP
  iintro ⟨HT, HS, HV, HO⟩
  simp only [ret_bind]
  sl_step
  iapply Hk
  isplitl [HT]; · iexact HT
  isplitl [HS]; · iexact HS
  isplitl [HV]; · iexact HV
  iexact HO

set_option maxHeartbeats 2000000 in
theorem part21 (wi1 : Vec F S256x128 .f32) (bi1 : Vec F S1x128 .f32) (v131 : IVec S8x512 1) (v533 : FVec F S8x128 .f32) (v639 : FVec F S8x64 .f32)
    (f11) (e11 : M11.view.read (Elt F) f11 = wi1) (f12) (e12 : M12.view.read (Elt F) f12 = bi1) (f19) (g21) (vecs : Vec F S512x128 .f32) (e21 : (Memref.whole cc1_scratch0).view.read (Elt F) g21 = vecs) (v678 : FVec F S8x128 .f32) (qv678 : k1_pay58 v131 v533 v639 vecs wi1 bi1 = v678) (Q : _ → sProp 𝕄) :
    iprop(pt c M11 f11 ∗ pt c M12 f12 ∗ pt c M19 f19 ∗ pt c (Memref.whole cc1_scratch0) g21 ∗ (iprop(∃ g19, ⌜M19.view.read (Elt F) g19 = put 2 (k1_pay57 v131 v639 vecs) (M19.view.read (Elt F) f19)⌝ ∗ pt c M11 f11 ∗ pt c M12 f12 ∗ pt c (Memref.whole cc1_scratch0) g21 ∗ pt c M19 g19) -∗ Q v678))
      ⊢ wp frame (wpE (defs₀ (F := F)) Variants.none (c : Thread nD τ) none) Set.univ (k1_part21 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v131 v533 v639) Q := by
  subst e11 e12 e21 qv678
  iintro ⟨H11, H12, H19, H21, Hk⟩
  rw [k1_part21_eq_skeleton]; unfold k1_part21_skel
  iapply (wp_load Variants.none (c : Thread nD τ) none Set.univ (Finset.subset_univ _)) $$ [H21]
  · iexact H21
  iintro H21
  iapply (wp_load Variants.none (c : Thread nD τ) none Set.univ (Finset.subset_univ _)) $$ [H19]
  · iexact H19
  iintro H19
  iapply (wp_store Variants.none (c : Thread nD τ) none Set.univ (Finset.subset_univ _)) $$ [H19]
  · iexact H19
  iintro H19
  ihave H19' := (putted c M19 _ 2 ![0, 2, 0] (by rfl) _ _) $$ H19
  icases H19' with ⟨%g19, %e19, H19⟩
  repeat rw [View.readAt_full] at e19
  iapply (wp_load Variants.none (c : Thread nD τ) none Set.univ (Finset.subset_univ _)) $$ [H11]
  · iexact H11
  iintro H11
  iapply (wp_load Variants.none (c : Thread nD τ) none Set.univ (Finset.subset_univ _)) $$ [H12]
  · iexact H12
  iintro H12
  simp only [ret_bind]
  sl_step
  repeat rw [View.readAt_full]
  iapply Hk
  iexists g19
  isplitr
  · ipureintro; exact e19
  isplitl [H11]; · iexact H11
  isplitl [H12]; · iexact H12
  isplitl [H21]; · iexact H21
  iexact H19

set_option maxHeartbeats 2000000 in
theorem part22 (widx : Vec F S128x2 .f32) (wi2 : Vec F S128x128 .f32) (bi2 : Vec F S1x128 .f32) (g2 : Vec F S1x128 .f32) (be2 : Vec F S1x128 .f32) (v526 : FVec F S8x1 .f32) (v533 : FVec F S8x128 .f32) (v678 : FVec F S8x128 .f32)
    (f8) (e8 : M8.view.read (Elt F) f8 = widx) (f13) (e13 : M13.view.read (Elt F) f13 = wi2) (f14) (e14 : M14.view.read (Elt F) f14 = bi2) (f15) (e15 : M15.view.read (Elt F) f15 = g2) (f16) (e16 : M16.view.read (Elt F) f16 = be2) (v720 : FVec F S8x2 .f32) (qv720 : k1_pay59 v526 v533 v678 wi2 bi2 g2 be2 widx = v720) (Q : _ → sProp 𝕄) :
    iprop(pt c M8 f8 ∗ pt c M13 f13 ∗ pt c M14 f14 ∗ pt c M15 f15 ∗ pt c M16 f16 ∗ (iprop(pt c M8 f8 ∗ pt c M13 f13 ∗ pt c M14 f14 ∗ pt c M15 f15 ∗ pt c M16 f16) -∗ Q v720))
      ⊢ wp frame (wpE (defs₀ (F := F)) Variants.none (c : Thread nD τ) none) Set.univ (k1_part22 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v526 v533 v678) Q := by
  subst e8 e13 e14 e15 e16 qv720
  iintro ⟨H8, H13, H14, H15, H16, Hk⟩
  rw [k1_part22_eq_skeleton]; unfold k1_part22_skel
  iapply (wp_load Variants.none (c : Thread nD τ) none Set.univ (Finset.subset_univ _)) $$ [H13]
  · iexact H13
  iintro H13
  iapply (wp_load Variants.none (c : Thread nD τ) none Set.univ (Finset.subset_univ _)) $$ [H14]
  · iexact H14
  iintro H14
  iapply (wp_load Variants.none (c : Thread nD τ) none Set.univ (Finset.subset_univ _)) $$ [H15]
  · iexact H15
  iintro H15
  iapply (wp_load Variants.none (c : Thread nD τ) none Set.univ (Finset.subset_univ _)) $$ [H16]
  · iexact H16
  iintro H16
  iapply (wp_load Variants.none (c : Thread nD τ) none Set.univ (Finset.subset_univ _)) $$ [H8]
  · iexact H8
  iintro H8
  simp only [ret_bind]
  sl_step
  repeat rw [View.readAt_full]
  iapply Hk
  isplitl [H8]; · iexact H8
  isplitl [H13]; · iexact H13
  isplitl [H14]; · iexact H14
  isplitl [H15]; · iexact H15
  iexact H16

set_option maxHeartbeats 2000000 in
theorem part23 (bidx : Vec F S1x2 .f32) (v133 : IVec S8x128 32) (v576 : IVec S8x128 32) (v720 : FVec F S8x2 .f32)
    (f9) (e9 : M9.view.read (Elt F) f9 = bidx) (p : IVec S8x128 32) (fit : ∀ b, (wP p b).toNat + 64 ≤ 1000000) (fp) (g21 : Buf (Elt F) (Pool.sLoc c)) (qp : (k1_pay64 v720 bidx) = p) (f22) (v726 : FVec F S8x1 .f32) (qv726 : k1_pay61 v720 bidx = v726) (v743 : FVec F S8x1 .f32) (qv743 : k1_pay62 v720 bidx = v743) (v751 : IVec S8x1 32) (qv751 : k1_pay63 v720 bidx = v751) (v761 : IVec S8x128 32) (qv761 : k1_pay65 v133 v576 v720 bidx = v761) (v763 : BitVec 32) (ev763 : v763 = wP p 0) (k1_hw33 : k1_chk33 v763) (Q : _ → sProp 𝕄) :
    iprop(pt c M9 f9 ∗ pt c (Memref.whole cc1_scratch1) f22 ∗ (Pool.tLoc c ↦{fullShare} fp) ∗ (Pool.sLoc c ↦{fullShare} g21) ∗ semVal ((c : Thread nD τ), sm) 0 ∗ (∃ W, owes (c : Thread nD τ) (0 : CellTallies nD τ sig (HIx 1)) W) ∗ (iprop(∃ g22, ⌜(Memref.whole cc1_scratch1).view.read (Elt F) g22 = p⌝ ∗ pt c M9 f9 ∗ Pool.Ph c (wP p) fit fp g21 0 ∗ pt c (Memref.whole cc1_scratch1) g22) -∗ Q ⟨v726, v743, v751, v761, v763, k1_hw33⟩))
      ⊢ wp frame (wpE (defs₀ (F := F)) Variants.none (c : Thread nD τ) none) Set.univ (k1_part23 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v133 v576 v720) Q := by
  subst e9 qv726 qv743 qv751 qv761
  iintro ⟨H9, H22, HT, H21, HV, HO, Hk⟩
  rw [k1_part23_eq_skeleton]; unfold k1_part23_skel
  iapply (wp_load Variants.none (c : Thread nD τ) none Set.univ (Finset.subset_univ _)) $$ [H9]
  · iexact H9
  iintro H9
  iapply (wp_load Variants.none (c : Thread nD τ) none Set.univ (Finset.subset_univ _)) $$ [H22]
  · iexact H22
  iintro H22
  iapply (wp_store Variants.none (c : Thread nD τ) none Set.univ (Finset.subset_univ _)) $$ [H22]
  · iexact H22
  iintro H22
  ihave H22' := (stored c (Memref.whole cc1_scratch1) _ _ _) $$ H22
  icases H22' with ⟨%g22, %e22, H22⟩
  repeat rw [View.readAt_full] at e22
  have e22 := e22.trans qp
  imod (Pool.begin c (wP p) fit fp g21 Set.univ) $$ [HT H21 HV HO] with HP
  · isplitl [HT]; · iexact HT
    isplitl [H21]; · iexact H21
    isplitl [HV]; · iexact HV
    iexact HO
  iapply (wp_load Variants.none (c : Thread nD τ) none Set.univ (Finset.subset_univ _)) $$ [H22]
  · iexact H22
  iintro H22
  iapply (wp_assume Variants.none (c : Thread nD τ) none Set.univ ?hA0a)
  case hA0a => exact Pool.so_inb (le_of_word ((word_eq c (Memref.whole cc1_scratch1) ![0, 0] _ g22 (by decide) (by decide)).trans (congrFun e22 _) : _ = wP p 0) (fit 0))
  simp only [ret_bind]
  sl_step
  repeat rw [View.readAt_full]
  rw [psig_eq (((word_eq c (Memref.whole cc1_scratch1) ![0, 0] _ g22 (by decide) (by decide)).trans (congrFun e22 _) : _ = wP p 0).trans ev763.symm) _ k1_hw33]
  iapply Hk
  iexists g22
  isplitr
  · ipureintro; exact e22
  isplitl [H9]; · iexact H9
  isplitl [HP]; · iexact HP
  iexact H22

set_option maxHeartbeats 2000000 in
theorem part24  (v763 : BitVec 32) (k1_hw33 : k1_chk33 v763)
    (p : IVec S8x128 32) (fit : ∀ b, (wP p b).toNat + 64 ≤ 1000000) (fp) (g21 : Buf (Elt F) (Pool.sLoc c)) (f22) (e22 : (Memref.whole cc1_scratch1).view.read (Elt F) f22 = p) (ev763 : v763 = wP p 0)  (Q : _ → sProp 𝕄) :
    iprop(pt c (Memref.whole cc1_scratch1) f22 ∗ Pool.Ph c (wP p) fit fp g21 0 ∗ (∀ v786, iprop(⌜extractAt ![0, 0] v786 inpos_S1x1_p0_0 = wP p 6⌝ ∗ pt c (Memref.whole cc1_scratch1) f22 ∗ Pool.Ph c (wP p) fit fp g21 6) -∗ Q v786))
      ⊢ wp frame (wpE (defs₀ (F := F)) Variants.none (c : Thread nD τ) none) Set.univ (k1_part24 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v763 k1_hw33) Q := by
  iintro ⟨H22, HP, Hk⟩
  rw [k1_part24_eq_skeleton]; unfold k1_part24_skel
  iapply (Pool.issue c (wP p) fit fp g21 0 (by decide) ?ho0 ?hd0) $$ [HP]
  case ho0 => exact congrArg Pool.so ev763
  case hd0 => rfl
  · iexact HP
  iintro HP
  iapply (wp_load Variants.none (c : Thread nD τ) none Set.univ (Finset.subset_univ _)) $$ [H22]
  · iexact H22
  iintro H22
  iapply (wp_assume Variants.none (c : Thread nD τ) none Set.univ ?hA1a)
  case hA1a => exact Pool.so_inb (le_of_word ((word_eq c (Memref.whole cc1_scratch1) ![1, 0] _ f22 (by decide) (by decide)).trans (congrFun e22 _) : _ = wP p 1) (fit 1))
  iapply (Pool.issue c (wP p) fit fp g21 1 (by decide) ?ho1 ?hd1) $$ [HP]
  case ho1 => exact congrArg Pool.so ((word_eq c (Memref.whole cc1_scratch1) ![1, 0] _ f22 (by decide) (by decide)).trans (congrFun e22 _) : _ = wP p 1)
  case hd1 => rfl
  · iexact HP
  iintro HP
  iapply (wp_load Variants.none (c : Thread nD τ) none Set.univ (Finset.subset_univ _)) $$ [H22]
  · iexact H22
  iintro H22
  iapply (wp_assume Variants.none (c : Thread nD τ) none Set.univ ?hA2a)
  case hA2a => exact Pool.so_inb (le_of_word ((word_eq c (Memref.whole cc1_scratch1) ![2, 0] _ f22 (by decide) (by decide)).trans (congrFun e22 _) : _ = wP p 2) (fit 2))
  iapply (Pool.issue c (wP p) fit fp g21 2 (by decide) ?ho2 ?hd2) $$ [HP]
  case ho2 => exact congrArg Pool.so ((word_eq c (Memref.whole cc1_scratch1) ![2, 0] _ f22 (by decide) (by decide)).trans (congrFun e22 _) : _ = wP p 2)
  case hd2 => rfl
  · iexact HP
  iintro HP
  iapply (wp_load Variants.none (c : Thread nD τ) none Set.univ (Finset.subset_univ _)) $$ [H22]
  · iexact H22
  iintro H22
  iapply (wp_assume Variants.none (c : Thread nD τ) none Set.univ ?hA3a)
  case hA3a => exact Pool.so_inb (le_of_word ((word_eq c (Memref.whole cc1_scratch1) ![3, 0] _ f22 (by decide) (by decide)).trans (congrFun e22 _) : _ = wP p 3) (fit 3))
  iapply (Pool.issue c (wP p) fit fp g21 3 (by decide) ?ho3 ?hd3) $$ [HP]
  case ho3 => exact congrArg Pool.so ((word_eq c (Memref.whole cc1_scratch1) ![3, 0] _ f22 (by decide) (by decide)).trans (congrFun e22 _) : _ = wP p 3)
  case hd3 => rfl
  · iexact HP
  iintro HP
  iapply (wp_load Variants.none (c : Thread nD τ) none Set.univ (Finset.subset_univ _)) $$ [H22]
  · iexact H22
  iintro H22
  iapply (wp_assume Variants.none (c : Thread nD τ) none Set.univ ?hA4a)
  case hA4a => exact Pool.so_inb (le_of_word ((word_eq c (Memref.whole cc1_scratch1) ![4, 0] _ f22 (by decide) (by decide)).trans (congrFun e22 _) : _ = wP p 4) (fit 4))
  iapply (Pool.issue c (wP p) fit fp g21 4 (by decide) ?ho4 ?hd4) $$ [HP]
  case ho4 => exact congrArg Pool.so ((word_eq c (Memref.whole cc1_scratch1) ![4, 0] _ f22 (by decide) (by decide)).trans (congrFun e22 _) : _ = wP p 4)
  case hd4 => rfl
  · iexact HP
  iintro HP
  iapply (wp_load Variants.none (c : Thread nD τ) none Set.univ (Finset.subset_univ _)) $$ [H22]
  · iexact H22
  iintro H22
  iapply (wp_assume Variants.none (c : Thread nD τ) none Set.univ ?hA5a)
  case hA5a => exact Pool.so_inb (le_of_word ((word_eq c (Memref.whole cc1_scratch1) ![5, 0] _ f22 (by decide) (by decide)).trans (congrFun e22 _) : _ = wP p 5) (fit 5))
  iapply (Pool.issue c (wP p) fit fp g21 5 (by decide) ?ho5 ?hd5) $$ [HP]
  case ho5 => exact congrArg Pool.so ((word_eq c (Memref.whole cc1_scratch1) ![5, 0] _ f22 (by decide) (by decide)).trans (congrFun e22 _) : _ = wP p 5)
  case hd5 => rfl
  · iexact HP
  iintro HP
  iapply (wp_load Variants.none (c : Thread nD τ) none Set.univ (Finset.subset_univ _)) $$ [H22]
  · iexact H22
  iintro H22
  simp only [ret_bind]
  sl_step
  iapply Hk
  isplitr; · ipureintro; exact ((word_eq c (Memref.whole cc1_scratch1) ![6, 0] _ f22 (by decide) (by decide)).trans (congrFun e22 _) : _ = wP p 6)
  isplitl [H22]; · iexact H22
  iexact HP

set_option maxHeartbeats 2000000 in
theorem part25  (v786 : Vec F S1x1 .i32)
    (p : IVec S8x128 32) (fit : ∀ b, (wP p b).toNat + 64 ≤ 1000000) (fp) (g21 : Buf (Elt F) (Pool.sLoc c)) (f22) (e22 : (Memref.whole cc1_scratch1).view.read (Elt F) f22 = p) (ev786 : extractAt ![0, 0] v786 inpos_S1x1_p0_0 = wP p 6)  (Q : _ → sProp 𝕄) :
    iprop(pt c (Memref.whole cc1_scratch1) f22 ∗ Pool.Ph c (wP p) fit fp g21 6 ∗ (iprop(pt c (Memref.whole cc1_scratch1) f22 ∗ Pool.Wt c (wP p) fit fp 5) -∗ Q ⟨⟩))
      ⊢ wp frame (wpE (defs₀ (F := F)) Variants.none (c : Thread nD τ) none) Set.univ (k1_part25 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v786) Q := by
  iintro ⟨H22, HP, Hk⟩
  rw [k1_part25_eq_skeleton]; unfold k1_part25_skel
  iapply (wp_assume Variants.none (c : Thread nD τ) none Set.univ ?hA6a)
  case hA6a => exact Pool.so_inb (le_of_word ev786 (fit 6))
  iapply (Pool.issue c (wP p) fit fp g21 6 (by decide) ?ho6 ?hd6) $$ [HP]
  case ho6 => exact congrArg Pool.so ev786
  case hd6 => rfl
  · iexact HP
  iintro HP
  iapply (wp_load Variants.none (c : Thread nD τ) none Set.univ (Finset.subset_univ _)) $$ [H22]
  · iexact H22
  iintro H22
  iapply (wp_assume Variants.none (c : Thread nD τ) none Set.univ ?hA7a)
  case hA7a => exact Pool.so_inb (le_of_word ((word_eq c (Memref.whole cc1_scratch1) ![7, 0] _ f22 (by decide) (by decide)).trans (congrFun e22 _) : _ = wP p 7) (fit 7))
  iapply (Pool.issue c (wP p) fit fp g21 7 (by decide) ?ho7 ?hd7) $$ [HP]
  case ho7 => exact congrArg Pool.so ((word_eq c (Memref.whole cc1_scratch1) ![7, 0] _ f22 (by decide) (by decide)).trans (congrFun e22 _) : _ = wP p 7)
  case hd7 => rfl
  · iexact HP
  iintro HP
  ihave HP := (Pool.Ph_all c (wP p) fit fp g21) $$ HP
  iapply (Pool.wait c (wP p) fit fp 0 (by decide)) $$ [HP]
  · iexact HP
  iintro HP
  iapply (Pool.wait c (wP p) fit fp 1 (by decide)) $$ [HP]
  · iexact HP
  iintro HP
  iapply (Pool.wait c (wP p) fit fp 2 (by decide)) $$ [HP]
  · iexact HP
  iintro HP
  iapply (Pool.wait c (wP p) fit fp 3 (by decide)) $$ [HP]
  · iexact HP
  iintro HP
  iapply (Pool.wait c (wP p) fit fp 4 (by decide)) $$ [HP]
  · iexact HP
  iintro HP
  simp only [ret_bind]
  sl_step
  iapply Hk
  isplitl [H22]; · iexact H22
  iexact HP

set_option maxHeartbeats 2000000 in
theorem part26  (v104 : FVec F S8x64 .f32) (v131 : IVec S8x512 1) (v726 : FVec F S8x1 .f32) (v743 : FVec F S8x1 .f32) (v751 : IVec S8x1 32)
    (p : IVec S8x128 32) (fit : ∀ b, (wP p b).toNat + 64 ≤ 1000000) (fp) (g21 : Buf (Elt F) (Pool.sLoc c)) (f19) (v840 : FVec F S8x128 .f32) (qv840 : k1_pay66 v104 v131 v726 v743 v751 ((Memref.whole cc1_scratch0).view.read (Elt F) (Pool.landed c (wP p) fp)) = v840) (v841 : Vec F S8x1x128 .f32) (qv841 : M19.view.readAt (Elt F) (Rect.unit (s := S8x4x128) ![0, 3, 0] S8x1x128.size inb_S8x4x128_S8x1x128_0_3_0).toLoadRect f19 = v841) (Q : _ → sProp 𝕄) :
    iprop(pt c M19 f19 ∗ Pool.Wt c (wP p) fit fp 5 ∗ (iprop(pt c M19 f19 ∗ (Pool.tLoc c ↦{fullShare} fp) ∗ (Pool.sLoc c ↦{fullShare} Pool.landed c (wP p) fp) ∗ semVal ((c : Thread nD τ), sm) 0 ∗ (∃ W, owes (c : Thread nD τ) (0 : CellTallies nD τ sig (HIx 1)) W)) -∗ Q ⟨v840, v841⟩))
      ⊢ wp frame (wpE (defs₀ (F := F)) Variants.none (c : Thread nD τ) none) Set.univ (k1_part26 M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3 v104 v131 v726 v743 v751) Q := by
  subst qv840 qv841
  iintro ⟨H19, HP, Hk⟩
  rw [k1_part26_eq_skeleton]; unfold k1_part26_skel
  iapply (Pool.wait c (wP p) fit fp 5 (by decide)) $$ [HP]
  · iexact HP
  iintro HP
  iapply (Pool.wait c (wP p) fit fp 6 (by decide)) $$ [HP]
  · iexact HP
  iintro HP
  iapply (Pool.finish c (wP p) fit fp) $$ [HP]
  · iexact HP
  iintro ⟨HT, HS, HV, HO⟩
  iapply (wp_load Variants.none (c : Thread nD τ) none Set.univ (Finset.subset_univ _)) $$ [HS]
  · iexact HS
  iintro HS
  iapply (wp_load Variants.none (c : Thread nD τ) none Set.univ (Finset.subset_univ _)) $$ [H19]
  · iexact H19
  iintro H19
  simp only [ret_bind]
  sl_step
  repeat rw [View.readAt_full]
  iapply Hk
  isplitl [H19]; · iexact H19
  isplitl [HT]; · iexact HT
  isplitl [HS]; · iexact HS
  isplitl [HV]; · iexact HV
  iexact HO

end Body
end Cert.Proof.Recur
end
-- ==== Proof.RecurRun.lean ====
module

public import proofs.«01_k».proof.Proof.Recur
public import proofs.«01_k».proof.Proof.Gen.KernelIdeal.Points
public import Idealize.ShloMosaic.Lib.Pipeline.RegionArraysS
public import Idealize.ShloMosaic.Lib.Pipeline.FrameBody
public import Idealize.ShloMosaic.Lib.VecWindow

@[expose] public section

set_option maxRecDepth 16384

noncomputable section

namespace Cert.Proof.Recur

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Gather (UU)
open Cert.Proof Cert.Proof.Copies
open Idealize.ShloMosaic.ValueIdx (ix1 ix2 ix3)

variable {F : FTy → Type} [FloatOps F]

local notation "𝕄" => MT nD τ sig (HIx 1) (Elt F) ℕ UU ℕ

/-- The result buffer's four columns. -/
noncomputable def puts (a b c d : Vec F S8x1x128 .f32) : Vec F S8x4x128 .f32 := fun i =>
  if (i 1).val = 3 then d (ix3 (i 0) 0 (i 2)) else if (i 1).val = 2 then c (ix3 (i 0) 0 (i 2)) else if (i 1).val = 1 then b (ix3 (i 0) 0 (i 2)) else a (ix3 (i 0) 0 (i 2))

theorem puts_eq (a b c d : Vec F S8x1x128 .f32) (r : Vec F S8x4x128 .f32) : put 3 d (put 2 c (put 1 b (put 0 a r))) = puts a b c d := by
  funext i
  have h := (i 1).isLt
  have h4 : (i 1).val < 4 := h
  unfold put puts
  show (if (i 1).val = 3 then _ else if (i 1).val = 2 then _ else if (i 1).val = 1 then _ else if (i 1).val = 0 then _ else _) = _
  by_cases h3 : (i 1).val = 3
  · rw [if_pos h3, if_pos h3]
  rw [if_neg h3, if_neg h3]
  by_cases h2 : (i 1).val = 2
  · rw [if_pos h2, if_pos h2]
  rw [if_neg h2, if_neg h2]
  by_cases h1 : (i 1).val = 1
  · rw [if_pos h1, if_pos h1]
  rw [if_neg h1, if_neg h1, if_pos (by omega)]

/-- What the body leaves in its two results, from the blocks of its operands and the two tables: the retrieved vectors of
    the four steps, and the start words. -/
noncomputable def recOut (ids : Vec F S8x512 .i32) (w1 : Vec F S128x512 .f32) (b1 : Vec F S1x512 .f32) (w2 : Vec F S512x128 .f32) (b2 : Vec F S1x128 .f32) (g1 : Vec F S1x128 .f32) (be1 : Vec F S1x128 .f32) (widx : Vec F S128x2 .f32) (bidx : Vec F S1x2 .f32) (wi1 : Vec F S256x128 .f32) (bi1 : Vec F S1x128 .f32) (wi2 : Vec F S128x128 .f32) (bi2 : Vec F S1x128 .f32) (g2 : Vec F S1x128 .f32) (be2 : Vec F S1x128 .f32) (wh : Vec F S128x1 .f32) (bh : Vec F S1x1 .f32) (fe : Vec F S8192x128 .f32) (fp : Vec F S1000000x128 .f32) : Vec F S8x4x128 .f32 × Vec F S8x128 .i32 :=
  let v48 := (Emb.rows (wE ids) fe)
  let v69 := k1_pay2 (Emb.rows (wE ids) fe) w1 b1 w2
  let v100 := k1_pay3 v48 v69 b2 g1 be1
  let v101 := k1_pay4 (F := F)
  let v102 := k1_pay5 (F := F)
  let v104 := k1_pay6 (F := F)
  let v105 := (iota .tc S8x512 32 [1] iota_S8x512_d1_w32)
  let c64_i32 := 64#32
  let v107 := k1_pay7
  let v110 := k1_pay8
  let v113 := k1_pay9
  let v131 := k1_pay10 v105 c64_i32 v107 v110 v113
  let v132 := k1_pay11
  let v133 := (iota .tc S8x128 32 [1] iota_S8x128_d1_w32)
  let v141 := k1_pay13 v100 widx bidx
  let v158 := k1_pay14 v100 widx bidx
  let v159 := k1_pay15 (F := F)
  let p6 := (k1_pay17 v141 v159)
  let v166 := k1_pay16 v141 v159
  let v176 := k1_pay18 v132 v133 v141 v159
  let v234 := k1_pay19 v104 v141 v166
  let cst_169 := (Scalar.ofBits .f32 0x40000000#32 : F .f32)
  let v265 := k1_pay22 v100 v131 v158 v234 cst_169 (Pool.rows (wP p6) fp) wi1 bi1
  let v275 := k1_pay23 v100 v131 v158 v234 cst_169 (Pool.rows (wP p6) fp) wi1 bi1
  let v311 := k1_pay24 v100 v265 v275 wi2 bi2 g2 be2
  let v313 := k1_pay25 v100 v265 v275 wi2 bi2 g2 be2 wh
  let v315 := k1_pay26 bh
  let v322 := k1_pay27 v101 v102 v313 v315
  let v326 := k1_pay28 v101 v102 v313 v315
  let v333 := k1_pay29 v100 v102 v311
  let v341 := k1_pay31 v100 v102 v311 widx bidx
  let v358 := k1_pay32 v100 v102 v311 widx bidx
  let v362 := k1_pay33 v100 v102 v311 widx bidx
  let p12 := (k1_pay35 v362)
  let v366 := k1_pay34 v362
  let v376 := k1_pay36 v133 v176 v362
  let v434 := k1_pay37 v104 v341 v366
  let v437 := k1_pay38 v358
  let v465 := k1_pay41 v131 v333 v434 v437 (Pool.rows (wP p12) fp) wi1 bi1
  let v477 := k1_pay42 v131 v333 v434 v437 (Pool.rows (wP p12) fp) wi1 bi1
  let v511 := k1_pay43 v333 v465 v477 wi2 bi2 g2 be2
  let v518 := k1_pay44 v333 v465 v477 wi2 bi2 g2 be2 wh bh
  let v526 := k1_pay45 v322 v326 v518
  let v533 := k1_pay46 v326 v333 v511
  let v541 := k1_pay48 v326 v333 v511 widx bidx
  let v558 := k1_pay49 v326 v333 v511 widx bidx
  let v562 := k1_pay50 v326 v333 v511 widx bidx
  let c999936_i32_353 := 999936#32
  let v563 := k1_pay51
  let p18 := (k1_pay53 v562 c999936_i32_353 v563)
  let v566 := k1_pay52 v562 c999936_i32_353 v563
  let v576 := k1_pay54 v133 v376 v562 c999936_i32_353 v563
  let v639 := k1_pay55 v104 v541 v558 v566
  let v678 := k1_pay58 v131 v533 v639 (Pool.rows (wP p18) fp) wi1 bi1
  let v720 := k1_pay59 v526 v533 v678 wi2 bi2 g2 be2 widx
  let p23 := (k1_pay64 v720 bidx)
  let v726 := k1_pay61 v720 bidx
  let v743 := k1_pay62 v720 bidx
  let v751 := k1_pay63 v720 bidx
  let v761 := k1_pay65 v133 v576 v720 bidx
  let v840 := k1_pay66 v104 v131 v726 v743 v751 (Pool.rows (wP p23) fp)
  (puts (k1_pay21 v131 v158 v234 cst_169 (Pool.rows (wP p6) fp)) (k1_pay40 v131 v434 v437 (Pool.rows (wP p12) fp)) (k1_pay57 v131 v639 (Pool.rows (wP p18) fp)) (k1_pay1 v840), v761)

set_option maxHeartbeats 1000000 in
/-- The body's results, each value in between named. -/
theorem recOut_of (ids : Vec F S8x512 .i32) (w1 : Vec F S128x512 .f32) (b1 : Vec F S1x512 .f32) (w2 : Vec F S512x128 .f32) (b2 : Vec F S1x128 .f32) (g1 : Vec F S1x128 .f32) (be1 : Vec F S1x128 .f32) (widx : Vec F S128x2 .f32) (bidx : Vec F S1x2 .f32) (wi1 : Vec F S256x128 .f32) (bi1 : Vec F S1x128 .f32) (wi2 : Vec F S128x128 .f32) (bi2 : Vec F S1x128 .f32) (g2 : Vec F S1x128 .f32) (be2 : Vec F S1x128 .f32) (wh : Vec F S128x1 .f32) (bh : Vec F S1x1 .f32) (fe : Vec F S8192x128 .f32) (fp : Vec F S1000000x128 .f32)
    (v48) (qv48 : (Emb.rows (wE ids) fe) = v48) (v69) (qv69 : k1_pay2 (Emb.rows (wE ids) fe) w1 b1 w2 = v69) (v100) (qv100 : k1_pay3 v48 v69 b2 g1 be1 = v100) (v101) (qv101 : k1_pay4 (F := F) = v101) (v102) (qv102 : k1_pay5 (F := F) = v102) (v104) (qv104 : k1_pay6 (F := F) = v104) (v105) (qv105 : (iota .tc S8x512 32 [1] iota_S8x512_d1_w32) = v105) (c64_i32) (qc64_i32 : 64#32 = c64_i32) (v107) (qv107 : k1_pay7 = v107) (v110) (qv110 : k1_pay8 = v110) (v113) (qv113 : k1_pay9 = v113) (v131) (qv131 : k1_pay10 v105 c64_i32 v107 v110 v113 = v131) (v132) (qv132 : k1_pay11 = v132) (v133) (qv133 : (iota .tc S8x128 32 [1] iota_S8x128_d1_w32) = v133) (v141) (qv141 : k1_pay13 v100 widx bidx = v141) (v158) (qv158 : k1_pay14 v100 widx bidx = v158) (v159) (qv159 : k1_pay15 (F := F) = v159) (p6) (qp6 : (k1_pay17 v141 v159) = p6) (v166) (qv166 : k1_pay16 v141 v159 = v166) (v176) (qv176 : k1_pay18 v132 v133 v141 v159 = v176) (v234) (qv234 : k1_pay19 v104 v141 v166 = v234) (cst_169) (qcst_169 : (Scalar.ofBits .f32 0x40000000#32 : F .f32) = cst_169) (v265) (qv265 : k1_pay22 v100 v131 v158 v234 cst_169 (Pool.rows (wP p6) fp) wi1 bi1 = v265) (v275) (qv275 : k1_pay23 v100 v131 v158 v234 cst_169 (Pool.rows (wP p6) fp) wi1 bi1 = v275) (v311) (qv311 : k1_pay24 v100 v265 v275 wi2 bi2 g2 be2 = v311) (v313) (qv313 : k1_pay25 v100 v265 v275 wi2 bi2 g2 be2 wh = v313) (v315) (qv315 : k1_pay26 bh = v315) (v322) (qv322 : k1_pay27 v101 v102 v313 v315 = v322) (v326) (qv326 : k1_pay28 v101 v102 v313 v315 = v326) (v333) (qv333 : k1_pay29 v100 v102 v311 = v333) (v341) (qv341 : k1_pay31 v100 v102 v311 widx bidx = v341) (v358) (qv358 : k1_pay32 v100 v102 v311 widx bidx = v358) (v362) (qv362 : k1_pay33 v100 v102 v311 widx bidx = v362) (p12) (qp12 : (k1_pay35 v362) = p12) (v366) (qv366 : k1_pay34 v362 = v366) (v376) (qv376 : k1_pay36 v133 v176 v362 = v376) (v434) (qv434 : k1_pay37 v104 v341 v366 = v434) (v437) (qv437 : k1_pay38 v358 = v437) (v465) (qv465 : k1_pay41 v131 v333 v434 v437 (Pool.rows (wP p12) fp) wi1 bi1 = v465) (v477) (qv477 : k1_pay42 v131 v333 v434 v437 (Pool.rows (wP p12) fp) wi1 bi1 = v477) (v511) (qv511 : k1_pay43 v333 v465 v477 wi2 bi2 g2 be2 = v511) (v518) (qv518 : k1_pay44 v333 v465 v477 wi2 bi2 g2 be2 wh bh = v518) (v526) (qv526 : k1_pay45 v322 v326 v518 = v526) (v533) (qv533 : k1_pay46 v326 v333 v511 = v533) (v541) (qv541 : k1_pay48 v326 v333 v511 widx bidx = v541) (v558) (qv558 : k1_pay49 v326 v333 v511 widx bidx = v558) (v562) (qv562 : k1_pay50 v326 v333 v511 widx bidx = v562) (c999936_i32_353) (qc999936_i32_353 : 999936#32 = c999936_i32_353) (v563) (qv563 : k1_pay51 = v563) (p18) (qp18 : (k1_pay53 v562 c999936_i32_353 v563) = p18) (v566) (qv566 : k1_pay52 v562 c999936_i32_353 v563 = v566) (v576) (qv576 : k1_pay54 v133 v376 v562 c999936_i32_353 v563 = v576) (v639) (qv639 : k1_pay55 v104 v541 v558 v566 = v639) (v678) (qv678 : k1_pay58 v131 v533 v639 (Pool.rows (wP p18) fp) wi1 bi1 = v678) (v720) (qv720 : k1_pay59 v526 v533 v678 wi2 bi2 g2 be2 widx = v720) (p23) (qp23 : (k1_pay64 v720 bidx) = p23) (v726) (qv726 : k1_pay61 v720 bidx = v726) (v743) (qv743 : k1_pay62 v720 bidx = v743) (v751) (qv751 : k1_pay63 v720 bidx = v751) (v761) (qv761 : k1_pay65 v133 v576 v720 bidx = v761) (v840) (qv840 : k1_pay66 v104 v131 v726 v743 v751 (Pool.rows (wP p23) fp) = v840) :
    recOut ids w1 b1 w2 b2 g1 be1 widx bidx wi1 bi1 wi2 bi2 g2 be2 wh bh fe fp = (puts (k1_pay21 v131 v158 v234 cst_169 (Pool.rows (wP p6) fp)) (k1_pay40 v131 v434 v437 (Pool.rows (wP p12) fp)) (k1_pay57 v131 v639 (Pool.rows (wP p18) fp)) (k1_pay1 v840), v761) := by
  subst qv48 qv69 qv100 qv101 qv102 qv104 qv105 qc64_i32 qv107 qv110 qv113 qv131 qv132 qv133 qv141 qv158 qv159 qp6 qv166 qv176 qv234 qcst_169 qv265 qv275 qv311 qv313 qv315 qv322 qv326 qv333 qv341 qv358 qv362 qp12 qv366 qv376 qv434 qv437 qv465 qv477 qv511 qv518 qv526 qv533 qv541 qv558 qv562 qc999936_i32_353 qv563 qp18 qv566 qv576 qv639 qv678 qv720 qp23 qv726 qv743 qv751 qv761 qv840
  rfl

section Body
variable (c : Dev nD) (M0 : Memref sig .tc .vmem S8x512 .i32) (h0 : M0.IsWhole) (M2 : Memref sig .tc .vmem S128x512 .f32) (h2 : M2.IsWhole) (M3 : Memref sig .tc .vmem S1x512 .f32) (h3 : M3.IsWhole) (M4 : Memref sig .tc .vmem S512x128 .f32) (h4 : M4.IsWhole) (M5 : Memref sig .tc .vmem S1x128 .f32) (h5 : M5.IsWhole) (M6 : Memref sig .tc .vmem S1x128 .f32) (h6 : M6.IsWhole) (M7 : Memref sig .tc .vmem S1x128 .f32) (h7 : M7.IsWhole) (M8 : Memref sig .tc .vmem S128x2 .f32) (h8 : M8.IsWhole) (M9 : Memref sig .tc .vmem S1x2 .f32) (h9 : M9.IsWhole) (M11 : Memref sig .tc .vmem S256x128 .f32) (h11 : M11.IsWhole) (M12 : Memref sig .tc .vmem S1x128 .f32) (h12 : M12.IsWhole) (M13 : Memref sig .tc .vmem S128x128 .f32) (h13 : M13.IsWhole) (M14 : Memref sig .tc .vmem S1x128 .f32) (h14 : M14.IsWhole) (M15 : Memref sig .tc .vmem S1x128 .f32) (h15 : M15.IsWhole) (M16 : Memref sig .tc .vmem S1x128 .f32) (h16 : M16.IsWhole) (M17 : Memref sig .tc .vmem S128x1 .f32) (h17 : M17.IsWhole) (M18 : Memref sig .tc .vmem S1x1 .f32) (h18 : M18.IsWhole) (M19 : Memref sig .tc .vmem S8x4x128 .f32) (h19 : M19.IsWhole) (M20 : Memref sig .tc .vmem S8x128 .i32) (h20 : M20.IsWhole)

set_option maxHeartbeats 4000000 in
/-- The body, from every buffer it reads held whole at contents read as named and its copies' semaphore at zero, hands all of
    it back, the two results at `recOut`. -/
theorem run (ids : Vec F S8x512 .i32) (w1 : Vec F S128x512 .f32) (b1 : Vec F S1x512 .f32) (w2 : Vec F S512x128 .f32) (b2 : Vec F S1x128 .f32) (g1 : Vec F S1x128 .f32) (be1 : Vec F S1x128 .f32) (widx : Vec F S128x2 .f32) (bidx : Vec F S1x2 .f32) (wi1 : Vec F S256x128 .f32) (bi1 : Vec F S1x128 .f32) (wi2 : Vec F S128x128 .f32) (bi2 : Vec F S1x128 .f32) (g2 : Vec F S1x128 .f32) (be2 : Vec F S1x128 .f32) (wh : Vec F S128x1 .f32) (bh : Vec F S1x1 .f32) (f0) (f2) (f3) (f4) (f5) (f6) (f7) (f8) (f9) (f11) (f12) (f13) (f14) (f15) (f16) (f17) (f18) (e0 : M0.view.read (Elt F) f0 = ids) (e2 : M2.view.read (Elt F) f2 = w1) (e3 : M3.view.read (Elt F) f3 = b1) (e4 : M4.view.read (Elt F) f4 = w2) (e5 : M5.view.read (Elt F) f5 = b2) (e6 : M6.view.read (Elt F) f6 = g1) (e7 : M7.view.read (Elt F) f7 = be1) (e8 : M8.view.read (Elt F) f8 = widx) (e9 : M9.view.read (Elt F) f9 = bidx) (e11 : M11.view.read (Elt F) f11 = wi1) (e12 : M12.view.read (Elt F) f12 = bi1) (e13 : M13.view.read (Elt F) f13 = wi2) (e14 : M14.view.read (Elt F) f14 = bi2) (e15 : M15.view.read (Elt F) f15 = g2) (e16 : M16.view.read (Elt F) f16 = be2) (e17 : M17.view.read (Elt F) f17 = wh) (e18 : M18.view.read (Elt F) f18 = bh)
    (fit : ∀ b, (wE ids b).toNat + 1 ≤ 8192) (fe : Buf (Elt F) (Emb.tLoc c)) (fp : Buf (Elt F) (Pool.tLoc c)) (f19) (f20) (f21 : Buf (Elt F) (Pool.sLoc c)) (f22) (f23 : Buf (Elt F) (Emb.sLoc c)) (Q : PUnit → sProp 𝕄) :
    iprop(pt c M0 f0 ∗ pt c M2 f2 ∗ pt c M3 f3 ∗ pt c M4 f4 ∗ pt c M5 f5 ∗ pt c M6 f6 ∗ pt c M7 f7 ∗ pt c M8 f8 ∗ pt c M9 f9 ∗ pt c M11 f11 ∗ pt c M12 f12 ∗ pt c M13 f13 ∗ pt c M14 f14 ∗ pt c M15 f15 ∗ pt c M16 f16 ∗ pt c M17 f17 ∗ pt c M18 f18 ∗ (Emb.tLoc c ↦{fullShare} fe) ∗ (Pool.tLoc c ↦{fullShare} fp) ∗ pt c M19 f19 ∗ pt c M20 f20 ∗ (Pool.sLoc c ↦{fullShare} f21) ∗ pt c (Memref.whole cc1_scratch1) f22 ∗ (Emb.sLoc c ↦{fullShare} f23) ∗ semVal ((c : Thread nD τ), sm) 0 ∗ (∃ W, owes (c : Thread nD τ) (0 : CellTallies nD τ sig (HIx 1)) W) ∗
        (iprop(∃ g19 g20 g21 g22 g23, ⌜M19.view.read (Elt F) g19 = (recOut ids w1 b1 w2 b2 g1 be1 widx bidx wi1 bi1 wi2 bi2 g2 be2 wh bh fe fp).1 ∧ M20.view.read (Elt F) g20 = (recOut ids w1 b1 w2 b2 g1 be1 widx bidx wi1 bi1 wi2 bi2 g2 be2 wh bh fe fp).2⌝ ∗
          pt c M0 f0 ∗ pt c M2 f2 ∗ pt c M3 f3 ∗ pt c M4 f4 ∗ pt c M5 f5 ∗ pt c M6 f6 ∗ pt c M7 f7 ∗ pt c M8 f8 ∗ pt c M9 f9 ∗ pt c M11 f11 ∗ pt c M12 f12 ∗ pt c M13 f13 ∗ pt c M14 f14 ∗ pt c M15 f15 ∗ pt c M16 f16 ∗ pt c M17 f17 ∗ pt c M18 f18 ∗ (Emb.tLoc c ↦{fullShare} fe) ∗ (Pool.tLoc c ↦{fullShare} fp) ∗ pt c M19 g19 ∗ pt c M20 g20 ∗ (Pool.sLoc c ↦{fullShare} g21) ∗ pt c (Memref.whole cc1_scratch1) g22 ∗ (Emb.sLoc c ↦{fullShare} g23) ∗ semVal ((c : Thread nD τ), sm) 0 ∗ (∃ W, owes (c : Thread nD τ) (0 : CellTallies nD τ sig (HIx 1)) W)) -∗ Q ⟨⟩))
      ⊢ wp frame (wpE (defs₀ (F := F)) Variants.none (c : Thread nD τ) none) Set.univ (cc1__recur_kernel M0 h0 (Memref.whole main_arg1) (Memref.isWhole_whole _) M2 h2 M3 h3 M4 h4 M5 h5 M6 h6 M7 h7 M8 h8 M9 h9 (Memref.whole main_arg12) (Memref.isWhole_whole _) M11 h11 M12 h12 M13 h13 M14 h14 M15 h15 M16 h16 M17 h17 M18 h18 M19 h19 M20 h20 (Memref.whole cc1_scratch0) (Memref.isWhole_whole _) (Memref.whole cc1_scratch1) (Memref.isWhole_whole _) (Memref.whole cc1_scratch2) (Memref.isWhole_whole _) cc1_scratch3) Q := by
  iintro ⟨H0, H2, H3, H4, H5, H6, H7, H8, H9, H11, H12, H13, H14, H15, H16, H17, H18, HT1, HT10, H19, H20, H21, H22, H23, HV, HO, Hk⟩
  rw [cc1__recur_kernel_eq_skeleton]; unfold cc1__recur_kernel_skel
  simp only [wp_bind]
  imod (Emb.begin c (wE ids) fit fe f23 Set.univ) $$ [HT1 H23 HV HO] with HP
  · isplitl [HT1]; · iexact HT1
    isplitl [H23]; · iexact H23
    isplitl [HV]; · iexact HV
    iexact HO
  obtain ⟨v21, ev21⟩ : ∃ v, v = wE ids 5 := ⟨_, rfl⟩
  have k1_hw6 : k1_chk6 v21 := Emb.so_inb (le_of_word ev21 (fit 5))
  iapply (part1 c M0 h0 M2 h2 M3 h3 M4 h4 M5 h5 M6 h6 M7 h7 M8 h8 M9 h9 M11 h11 M12 h12 M13 h13 M14 h14 M15 h15 M16 h16 M17 h17 M18 h18 M19 h19 M20 h20 ids f0 e0 fit fe f23 v21 ev21 k1_hw6 _)
  isplitl [H0]; · iexact H0
  isplitl [HP]; · iexact HP
  iintro ⟨H0, HP⟩
  iapply (part2 c M0 h0 M2 h2 M3 h3 M4 h4 M5 h5 M6 h6 M7 h7 M8 h8 M9 h9 M11 h11 M12 h12 M13 h13 M14 h14 M15 h15 M16 h16 M17 h17 M18 h18 M19 h19 M20 h20 ids v21 k1_hw6 f0 e0 fit fe f23 ev21 _)
  isplitl [H0]; · iexact H0
  isplitl [HP]; · iexact HP
  iintro ⟨H0, HP⟩
  obtain ⟨v48, qv48⟩ : ∃ v : Vec F S8x128 .f32, (Emb.rows (wE ids) fe) = v := ⟨_, rfl⟩
  obtain ⟨v69, qv69⟩ : ∃ v : FVec F S8x128 .f32, k1_pay2 (Emb.rows (wE ids) fe) w1 b1 w2 = v := ⟨_, rfl⟩
  iapply (part3 c M0 h0 M2 h2 M3 h3 M4 h4 M5 h5 M6 h6 M7 h7 M8 h8 M9 h9 M11 h11 M12 h12 M13 h13 M14 h14 M15 h15 M16 h16 M17 h17 M18 h18 M19 h19 M20 h20 w1 b1 w2 ids f2 e2 f3 e3 f4 e4 fit fe f23 v48 qv48 v69 qv69 _)
  isplitl [H2]; · iexact H2
  isplitl [H3]; · iexact H3
  isplitl [H4]; · iexact H4
  isplitl [HP]; · iexact HP
  iintro ⟨H2, H3, H4, HT1, H23, HV, HO⟩
  obtain ⟨v100, qv100⟩ : ∃ v : FVec F S8x128 .f32, k1_pay3 v48 v69 b2 g1 be1 = v := ⟨_, rfl⟩
  obtain ⟨v101, qv101⟩ : ∃ v : FVec F S8x1 .f32, k1_pay4 (F := F) = v := ⟨_, rfl⟩
  obtain ⟨v102, qv102⟩ : ∃ v : FVec F S8x1 .f32, k1_pay5 (F := F) = v := ⟨_, rfl⟩
  obtain ⟨v104, qv104⟩ : ∃ v : FVec F S8x64 .f32, k1_pay6 (F := F) = v := ⟨_, rfl⟩
  obtain ⟨v105, qv105⟩ : ∃ v : IVec S8x512 32, (iota .tc S8x512 32 [1] iota_S8x512_d1_w32) = v := ⟨_, rfl⟩
  obtain ⟨c64_i32, qc64_i32⟩ : ∃ v : BitVec 32, 64#32 = v := ⟨_, rfl⟩
  obtain ⟨v107, qv107⟩ : ∃ v : IVec S8x512 32, k1_pay7 = v := ⟨_, rfl⟩
  obtain ⟨v110, qv110⟩ : ∃ v : IVec S8x512 32, k1_pay8 = v := ⟨_, rfl⟩
  obtain ⟨v113, qv113⟩ : ∃ v : IVec S8x512 32, k1_pay9 = v := ⟨_, rfl⟩
  iapply (part4 c M0 h0 M2 h2 M3 h3 M4 h4 M5 h5 M6 h6 M7 h7 M8 h8 M9 h9 M11 h11 M12 h12 M13 h13 M14 h14 M15 h15 M16 h16 M17 h17 M18 h18 M19 h19 M20 h20 b2 g1 be1 v48 v69 f5 e5 f6 e6 f7 e7 v100 qv100 v101 qv101 v102 qv102 v104 qv104 v105 qv105 c64_i32 qc64_i32 v107 qv107 v110 qv110 v113 qv113 _)
  isplitl [H5]; · iexact H5
  isplitl [H6]; · iexact H6
  isplitl [H7]; · iexact H7
  iintro ⟨H5, H6, H7⟩
  obtain ⟨v131, qv131⟩ : ∃ v : IVec S8x512 1, k1_pay10 v105 c64_i32 v107 v110 v113 = v := ⟨_, rfl⟩
  obtain ⟨v132, qv132⟩ : ∃ v : IVec S8x128 32, k1_pay11 = v := ⟨_, rfl⟩
  obtain ⟨v133, qv133⟩ : ∃ v : IVec S8x128 32, (iota .tc S8x128 32 [1] iota_S8x128_d1_w32) = v := ⟨_, rfl⟩
  obtain ⟨v141, qv141⟩ : ∃ v : FVec F S8x1 .f32, k1_pay13 v100 widx bidx = v := ⟨_, rfl⟩
  obtain ⟨v158, qv158⟩ : ∃ v : FVec F S8x1 .f32, k1_pay14 v100 widx bidx = v := ⟨_, rfl⟩
  obtain ⟨v159, qv159⟩ : ∃ v : FVec F S8x1 .f32, k1_pay15 (F := F) = v := ⟨_, rfl⟩
  iapply (part5 c M0 h0 M2 h2 M3 h3 M4 h4 M5 h5 M6 h6 M7 h7 M8 h8 M9 h9 M11 h11 M12 h12 M13 h13 M14 h14 M15 h15 M16 h16 M17 h17 M18 h18 M19 h19 M20 h20 widx bidx v100 v105 c64_i32 v107 v110 v113 f8 e8 f9 e9 v131 qv131 v132 qv132 v133 qv133 v141 qv141 v158 qv158 v159 qv159 _)
  isplitl [H8]; · iexact H8
  isplitl [H9]; · iexact H9
  iintro ⟨H8, H9⟩
  obtain ⟨p6, qp6⟩ : ∃ v, (k1_pay17 v141 v159) = v := ⟨_, rfl⟩
  have fitp6 : ∀ b, (wP p6 b).toNat + 64 ≤ 1000000 := fun b => by
    rw [← qp6]; exact fit17 _ _ _
  obtain ⟨v166, qv166⟩ : ∃ v : IVec S8x1 32, k1_pay16 v141 v159 = v := ⟨_, rfl⟩
  obtain ⟨v176, qv176⟩ : ∃ v : IVec S8x128 32, k1_pay18 v132 v133 v141 v159 = v := ⟨_, rfl⟩
  obtain ⟨v190, ev190⟩ : ∃ v, v = wP p6 3 := ⟨_, rfl⟩
  iapply (part6 c M0 h0 M2 h2 M3 h3 M4 h4 M5 h5 M6 h6 M7 h7 M8 h8 M9 h9 M11 h11 M12 h12 M13 h13 M14 h14 M15 h15 M16 h16 M17 h17 M18 h18 M19 h19 M20 h20 v132 v133 v141 v159 p6 fitp6 fp f21 qp6 f22 v166 qv166 v176 qv176 v190 ev190 _)
  isplitl [H22]; · iexact H22
  isplitl [HT10]; · iexact HT10
  isplitl [H21]; · iexact H21
  isplitl [HV]; · iexact HV
  isplitl [HO]; · iexact HO
  iintro ⟨%g22_6, %ee6, HP, H22⟩
  have e22_p6 := ee6
  iapply (part7 c M0 h0 M2 h2 M3 h3 M4 h4 M5 h5 M6 h6 M7 h7 M8 h8 M9 h9 M11 h11 M12 h12 M13 h13 M14 h14 M15 h15 M16 h16 M17 h17 M18 h18 M19 h19 M20 h20 v190 p6 fitp6 fp f21 g22_6 e22_p6 ev190 _)
  isplitl [H22]; · iexact H22
  isplitl [HP]; · iexact HP
  iintro ⟨H22, HP⟩
  obtain ⟨v234, qv234⟩ : ∃ v : FVec F S8x64 .f32, k1_pay19 v104 v141 v166 = v := ⟨_, rfl⟩
  obtain ⟨cst_169, qcst_169⟩ : ∃ v : F .f32, (Scalar.ofBits .f32 0x40000000#32) = v := ⟨_, rfl⟩
  iapply (part8 c M0 h0 M2 h2 M3 h3 M4 h4 M5 h5 M6 h6 M7 h7 M8 h8 M9 h9 M11 h11 M12 h12 M13 h13 M14 h14 M15 h15 M16 h16 M17 h17 M18 h18 M19 h19 M20 h20 v104 v141 v166 p6 fitp6 fp f21 v234 qv234 cst_169 qcst_169 _)
  isplitl [HP]; · iexact HP
  iintro ⟨HT10, H21, HV, HO⟩
  obtain ⟨v265, qv265⟩ : ∃ v : FVec F S8x128 .f32, k1_pay22 v100 v131 v158 v234 cst_169 (Pool.rows (wP p6) fp) wi1 bi1 = v := ⟨_, rfl⟩
  obtain ⟨v275, qv275⟩ : ∃ v : FVec F S8x128 .f32, k1_pay23 v100 v131 v158 v234 cst_169 (Pool.rows (wP p6) fp) wi1 bi1 = v := ⟨_, rfl⟩
  iapply (part9 c M0 h0 M2 h2 M3 h3 M4 h4 M5 h5 M6 h6 M7 h7 M8 h8 M9 h9 M11 h11 M12 h12 M13 h13 M14 h14 M15 h15 M16 h16 M17 h17 M18 h18 M19 h19 M20 h20 wi1 bi1 v100 v131 v158 v234 cst_169 f11 e11 f12 e12 f19 (Pool.landed c (wP p6) fp) (Pool.rows (wP p6) fp) rfl v265 qv265 v275 qv275 _)
  isplitl [H11]; · iexact H11
  isplitl [H12]; · iexact H12
  isplitl [H19]; · iexact H19
  isplitl [H21]; · iexact H21
  iintro ⟨%g19_9, %ee9, H11, H12, H21, H19⟩
  obtain ⟨v311, qv311⟩ : ∃ v : FVec F S8x128 .f32, k1_pay24 v100 v265 v275 wi2 bi2 g2 be2 = v := ⟨_, rfl⟩
  obtain ⟨v313, qv313⟩ : ∃ v : FVec F S8x1 .f32, k1_pay25 v100 v265 v275 wi2 bi2 g2 be2 wh = v := ⟨_, rfl⟩
  obtain ⟨v315, qv315⟩ : ∃ v : FVec F S1x1 .f32, k1_pay26 bh = v := ⟨_, rfl⟩
  iapply (part10 c M0 h0 M2 h2 M3 h3 M4 h4 M5 h5 M6 h6 M7 h7 M8 h8 M9 h9 M11 h11 M12 h12 M13 h13 M14 h14 M15 h15 M16 h16 M17 h17 M18 h18 M19 h19 M20 h20 wi2 bi2 g2 be2 wh bh v100 v265 v275 f13 e13 f14 e14 f15 e15 f16 e16 f17 e17 f18 e18 v311 qv311 v313 qv313 v315 qv315 _)
  isplitl [H13]; · iexact H13
  isplitl [H14]; · iexact H14
  isplitl [H15]; · iexact H15
  isplitl [H16]; · iexact H16
  isplitl [H17]; · iexact H17
  isplitl [H18]; · iexact H18
  iintro ⟨H13, H14, H15, H16, H17, H18⟩
  obtain ⟨v322, qv322⟩ : ∃ v : FVec F S8x1 .f32, k1_pay27 v101 v102 v313 v315 = v := ⟨_, rfl⟩
  obtain ⟨v326, qv326⟩ : ∃ v : FVec F S8x1 .f32, k1_pay28 v101 v102 v313 v315 = v := ⟨_, rfl⟩
  obtain ⟨v333, qv333⟩ : ∃ v : FVec F S8x128 .f32, k1_pay29 v100 v102 v311 = v := ⟨_, rfl⟩
  obtain ⟨v341, qv341⟩ : ∃ v : FVec F S8x1 .f32, k1_pay31 v100 v102 v311 widx bidx = v := ⟨_, rfl⟩
  obtain ⟨v358, qv358⟩ : ∃ v : FVec F S8x1 .f32, k1_pay32 v100 v102 v311 widx bidx = v := ⟨_, rfl⟩
  obtain ⟨v362, qv362⟩ : ∃ v : IVec S8x1 32, k1_pay33 v100 v102 v311 widx bidx = v := ⟨_, rfl⟩
  iapply (part11 c M0 h0 M2 h2 M3 h3 M4 h4 M5 h5 M6 h6 M7 h7 M8 h8 M9 h9 M11 h11 M12 h12 M13 h13 M14 h14 M15 h15 M16 h16 M17 h17 M18 h18 M19 h19 M20 h20 widx bidx v100 v101 v102 v311 v313 v315 f8 e8 f9 e9 v322 qv322 v326 qv326 v333 qv333 v341 qv341 v358 qv358 v362 qv362 _)
  isplitl [H8]; · iexact H8
  isplitl [H9]; · iexact H9
  iintro ⟨H8, H9⟩
  obtain ⟨p12, qp12⟩ : ∃ v, (k1_pay35 v362) = v := ⟨_, rfl⟩
  have fitp12 : ∀ b, (wP p12 b).toNat + 64 ≤ 1000000 := fun b => by
    rw [← qp12]; exact fit35 _ _
  obtain ⟨v366, qv366⟩ : ∃ v : IVec S8x1 32, k1_pay34 v362 = v := ⟨_, rfl⟩
  obtain ⟨v376, qv376⟩ : ∃ v : IVec S8x128 32, k1_pay36 v133 v176 v362 = v := ⟨_, rfl⟩
  obtain ⟨v390, ev390⟩ : ∃ v, v = wP p12 3 := ⟨_, rfl⟩
  have k1_hw20 : k1_chk20 v390 := Pool.so_inb (le_of_word ev390 (fitp12 3))
  iapply (part12 c M0 h0 M2 h2 M3 h3 M4 h4 M5 h5 M6 h6 M7 h7 M8 h8 M9 h9 M11 h11 M12 h12 M13 h13 M14 h14 M15 h15 M16 h16 M17 h17 M18 h18 M19 h19 M20 h20 v133 v176 v362 p12 fitp12 fp (Pool.landed c (wP p6) fp) qp12 g22_6 v366 qv366 v376 qv376 v390 ev390 k1_hw20 _)
  isplitl [H22]; · iexact H22
  isplitl [HT10]; · iexact HT10
  isplitl [H21]; · iexact H21
  isplitl [HV]; · iexact HV
  isplitl [HO]; · iexact HO
  iintro ⟨%g22_12, %ee12, HP, H22⟩
  have e22_p12 := ee12
  iapply (part13 c M0 h0 M2 h2 M3 h3 M4 h4 M5 h5 M6 h6 M7 h7 M8 h8 M9 h9 M11 h11 M12 h12 M13 h13 M14 h14 M15 h15 M16 h16 M17 h17 M18 h18 M19 h19 M20 h20 v390 k1_hw20 p12 fitp12 fp (Pool.landed c (wP p6) fp) g22_12 e22_p12 ev390 _)
  isplitl [H22]; · iexact H22
  isplitl [HP]; · iexact HP
  iintro ⟨H22, HP⟩
  obtain ⟨v434, qv434⟩ : ∃ v : FVec F S8x64 .f32, k1_pay37 v104 v341 v366 = v := ⟨_, rfl⟩
  obtain ⟨v437, qv437⟩ : ∃ v : FVec F S8x1 .f32, k1_pay38 v358 = v := ⟨_, rfl⟩
  iapply (part14 c M0 h0 M2 h2 M3 h3 M4 h4 M5 h5 M6 h6 M7 h7 M8 h8 M9 h9 M11 h11 M12 h12 M13 h13 M14 h14 M15 h15 M16 h16 M17 h17 M18 h18 M19 h19 M20 h20 v104 v341 v358 v366 p12 fitp12 fp (Pool.landed c (wP p6) fp) v434 qv434 v437 qv437 _)
  isplitl [HP]; · iexact HP
  iintro ⟨HT10, H21, HV, HO⟩
  obtain ⟨v465, qv465⟩ : ∃ v : FVec F S8x128 .f32, k1_pay41 v131 v333 v434 v437 (Pool.rows (wP p12) fp) wi1 bi1 = v := ⟨_, rfl⟩
  obtain ⟨v477, qv477⟩ : ∃ v : FVec F S8x128 .f32, k1_pay42 v131 v333 v434 v437 (Pool.rows (wP p12) fp) wi1 bi1 = v := ⟨_, rfl⟩
  iapply (part15 c M0 h0 M2 h2 M3 h3 M4 h4 M5 h5 M6 h6 M7 h7 M8 h8 M9 h9 M11 h11 M12 h12 M13 h13 M14 h14 M15 h15 M16 h16 M17 h17 M18 h18 M19 h19 M20 h20 wi1 bi1 v131 v333 v434 v437 f11 e11 f12 e12 g19_9 (Pool.landed c (wP p12) fp) (Pool.rows (wP p12) fp) rfl v465 qv465 v477 qv477 _)
  isplitl [H11]; · iexact H11
  isplitl [H12]; · iexact H12
  isplitl [H19]; · iexact H19
  isplitl [H21]; · iexact H21
  iintro ⟨%g19_15, %ee15, H11, H12, H21, H19⟩
  obtain ⟨v511, qv511⟩ : ∃ v : FVec F S8x128 .f32, k1_pay43 v333 v465 v477 wi2 bi2 g2 be2 = v := ⟨_, rfl⟩
  obtain ⟨v518, qv518⟩ : ∃ v : FVec F S8x1 .f32, k1_pay44 v333 v465 v477 wi2 bi2 g2 be2 wh bh = v := ⟨_, rfl⟩
  iapply (part16 c M0 h0 M2 h2 M3 h3 M4 h4 M5 h5 M6 h6 M7 h7 M8 h8 M9 h9 M11 h11 M12 h12 M13 h13 M14 h14 M15 h15 M16 h16 M17 h17 M18 h18 M19 h19 M20 h20 wi2 bi2 g2 be2 wh bh v333 v465 v477 f13 e13 f14 e14 f15 e15 f16 e16 f17 e17 f18 e18 v511 qv511 v518 qv518 _)
  isplitl [H13]; · iexact H13
  isplitl [H14]; · iexact H14
  isplitl [H15]; · iexact H15
  isplitl [H16]; · iexact H16
  isplitl [H17]; · iexact H17
  isplitl [H18]; · iexact H18
  iintro ⟨H13, H14, H15, H16, H17, H18⟩
  obtain ⟨v526, qv526⟩ : ∃ v : FVec F S8x1 .f32, k1_pay45 v322 v326 v518 = v := ⟨_, rfl⟩
  obtain ⟨v533, qv533⟩ : ∃ v : FVec F S8x128 .f32, k1_pay46 v326 v333 v511 = v := ⟨_, rfl⟩
  obtain ⟨v541, qv541⟩ : ∃ v : FVec F S8x1 .f32, k1_pay48 v326 v333 v511 widx bidx = v := ⟨_, rfl⟩
  obtain ⟨v558, qv558⟩ : ∃ v : FVec F S8x1 .f32, k1_pay49 v326 v333 v511 widx bidx = v := ⟨_, rfl⟩
  obtain ⟨v562, qv562⟩ : ∃ v : IVec S8x1 32, k1_pay50 v326 v333 v511 widx bidx = v := ⟨_, rfl⟩
  obtain ⟨c999936_i32_353, qc999936_i32_353⟩ : ∃ v : BitVec 32, 999936#32 = v := ⟨_, rfl⟩
  obtain ⟨v563, qv563⟩ : ∃ v : IVec S8x1 32, k1_pay51 = v := ⟨_, rfl⟩
  iapply (part17 c M0 h0 M2 h2 M3 h3 M4 h4 M5 h5 M6 h6 M7 h7 M8 h8 M9 h9 M11 h11 M12 h12 M13 h13 M14 h14 M15 h15 M16 h16 M17 h17 M18 h18 M19 h19 M20 h20 widx bidx v322 v326 v333 v511 v518 f8 e8 f9 e9 v526 qv526 v533 qv533 v541 qv541 v558 qv558 v562 qv562 c999936_i32_353 qc999936_i32_353 v563 qv563 _)
  isplitl [H8]; · iexact H8
  isplitl [H9]; · iexact H9
  iintro ⟨H8, H9⟩
  obtain ⟨p18, qp18⟩ : ∃ v, (k1_pay53 v562 c999936_i32_353 v563) = v := ⟨_, rfl⟩
  have fitp18 : ∀ b, (wP p18 b).toNat + 64 ≤ 1000000 := fun b => by
    subst qc999936_i32_353 qv563
    rw [← qp18]; exact fit53 _ _
  obtain ⟨v566, qv566⟩ : ∃ v : IVec S8x1 32, k1_pay52 v562 c999936_i32_353 v563 = v := ⟨_, rfl⟩
  obtain ⟨v576, qv576⟩ : ∃ v : IVec S8x128 32, k1_pay54 v133 v376 v562 c999936_i32_353 v563 = v := ⟨_, rfl⟩
  obtain ⟨v590, ev590⟩ : ∃ v, v = wP p18 3 := ⟨_, rfl⟩
  have k1_hw28 : k1_chk28 v590 := Pool.so_inb (le_of_word ev590 (fitp18 3))
  iapply (part18 c M0 h0 M2 h2 M3 h3 M4 h4 M5 h5 M6 h6 M7 h7 M8 h8 M9 h9 M11 h11 M12 h12 M13 h13 M14 h14 M15 h15 M16 h16 M17 h17 M18 h18 M19 h19 M20 h20 v133 v376 v562 c999936_i32_353 v563 p18 fitp18 fp (Pool.landed c (wP p12) fp) qp18 g22_12 v566 qv566 v576 qv576 v590 ev590 k1_hw28 _)
  isplitl [H22]; · iexact H22
  isplitl [HT10]; · iexact HT10
  isplitl [H21]; · iexact H21
  isplitl [HV]; · iexact HV
  isplitl [HO]; · iexact HO
  iintro ⟨%g22_18, %ee18, HP, H22⟩
  have e22_p18 := ee18
  iapply (part19 c M0 h0 M2 h2 M3 h3 M4 h4 M5 h5 M6 h6 M7 h7 M8 h8 M9 h9 M11 h11 M12 h12 M13 h13 M14 h14 M15 h15 M16 h16 M17 h17 M18 h18 M19 h19 M20 h20 v590 k1_hw28 p18 fitp18 fp (Pool.landed c (wP p12) fp) g22_18 e22_p18 ev590 _)
  isplitl [H22]; · iexact H22
  isplitl [HP]; · iexact HP
  iintro ⟨H22, HP⟩
  obtain ⟨v639, qv639⟩ : ∃ v : FVec F S8x64 .f32, k1_pay55 v104 v541 v558 v566 = v := ⟨_, rfl⟩
  iapply (part20 c M0 h0 M2 h2 M3 h3 M4 h4 M5 h5 M6 h6 M7 h7 M8 h8 M9 h9 M11 h11 M12 h12 M13 h13 M14 h14 M15 h15 M16 h16 M17 h17 M18 h18 M19 h19 M20 h20 v104 v541 v558 v566 p18 fitp18 fp (Pool.landed c (wP p12) fp) v639 qv639 _)
  isplitl [HP]; · iexact HP
  iintro ⟨HT10, H21, HV, HO⟩
  obtain ⟨v678, qv678⟩ : ∃ v : FVec F S8x128 .f32, k1_pay58 v131 v533 v639 (Pool.rows (wP p18) fp) wi1 bi1 = v := ⟨_, rfl⟩
  iapply (part21 c M0 h0 M2 h2 M3 h3 M4 h4 M5 h5 M6 h6 M7 h7 M8 h8 M9 h9 M11 h11 M12 h12 M13 h13 M14 h14 M15 h15 M16 h16 M17 h17 M18 h18 M19 h19 M20 h20 wi1 bi1 v131 v533 v639 f11 e11 f12 e12 g19_15 (Pool.landed c (wP p18) fp) (Pool.rows (wP p18) fp) rfl v678 qv678 _)
  isplitl [H11]; · iexact H11
  isplitl [H12]; · iexact H12
  isplitl [H19]; · iexact H19
  isplitl [H21]; · iexact H21
  iintro ⟨%g19_21, %ee21, H11, H12, H21, H19⟩
  obtain ⟨v720, qv720⟩ : ∃ v : FVec F S8x2 .f32, k1_pay59 v526 v533 v678 wi2 bi2 g2 be2 widx = v := ⟨_, rfl⟩
  iapply (part22 c M0 h0 M2 h2 M3 h3 M4 h4 M5 h5 M6 h6 M7 h7 M8 h8 M9 h9 M11 h11 M12 h12 M13 h13 M14 h14 M15 h15 M16 h16 M17 h17 M18 h18 M19 h19 M20 h20 widx wi2 bi2 g2 be2 v526 v533 v678 f8 e8 f13 e13 f14 e14 f15 e15 f16 e16 v720 qv720 _)
  isplitl [H8]; · iexact H8
  isplitl [H13]; · iexact H13
  isplitl [H14]; · iexact H14
  isplitl [H15]; · iexact H15
  isplitl [H16]; · iexact H16
  iintro ⟨H8, H13, H14, H15, H16⟩
  obtain ⟨p23, qp23⟩ : ∃ v, (k1_pay64 v720 bidx) = v := ⟨_, rfl⟩
  have fitp23 : ∀ b, (wP p23 b).toNat + 64 ≤ 1000000 := fun b => by
    rw [← qp23]; exact fit64 _ _ _
  obtain ⟨v726, qv726⟩ : ∃ v : FVec F S8x1 .f32, k1_pay61 v720 bidx = v := ⟨_, rfl⟩
  obtain ⟨v743, qv743⟩ : ∃ v : FVec F S8x1 .f32, k1_pay62 v720 bidx = v := ⟨_, rfl⟩
  obtain ⟨v751, qv751⟩ : ∃ v : IVec S8x1 32, k1_pay63 v720 bidx = v := ⟨_, rfl⟩
  obtain ⟨v761, qv761⟩ : ∃ v : IVec S8x128 32, k1_pay65 v133 v576 v720 bidx = v := ⟨_, rfl⟩
  obtain ⟨v763, ev763⟩ : ∃ v, v = wP p23 0 := ⟨_, rfl⟩
  have k1_hw33 : k1_chk33 v763 := Pool.so_inb (le_of_word ev763 (fitp23 0))
  iapply (part23 c M0 h0 M2 h2 M3 h3 M4 h4 M5 h5 M6 h6 M7 h7 M8 h8 M9 h9 M11 h11 M12 h12 M13 h13 M14 h14 M15 h15 M16 h16 M17 h17 M18 h18 M19 h19 M20 h20 bidx v133 v576 v720 f9 e9 p23 fitp23 fp (Pool.landed c (wP p18) fp) qp23 g22_18 v726 qv726 v743 qv743 v751 qv751 v761 qv761 v763 ev763 k1_hw33 _)
  isplitl [H9]; · iexact H9
  isplitl [H22]; · iexact H22
  isplitl [HT10]; · iexact HT10
  isplitl [H21]; · iexact H21
  isplitl [HV]; · iexact HV
  isplitl [HO]; · iexact HO
  iintro ⟨%g22_23, %ee23, H9, HP, H22⟩
  have e22_p23 := ee23
  iapply (part24 c M0 h0 M2 h2 M3 h3 M4 h4 M5 h5 M6 h6 M7 h7 M8 h8 M9 h9 M11 h11 M12 h12 M13 h13 M14 h14 M15 h15 M16 h16 M17 h17 M18 h18 M19 h19 M20 h20 v763 k1_hw33 p23 fitp23 fp (Pool.landed c (wP p18) fp) g22_23 e22_p23 ev763 _)
  isplitl [H22]; · iexact H22
  isplitl [HP]; · iexact HP
  iintro %v786 ⟨%ev786, H22, HP⟩
  iapply (part25 c M0 h0 M2 h2 M3 h3 M4 h4 M5 h5 M6 h6 M7 h7 M8 h8 M9 h9 M11 h11 M12 h12 M13 h13 M14 h14 M15 h15 M16 h16 M17 h17 M18 h18 M19 h19 M20 h20 v786 p23 fitp23 fp (Pool.landed c (wP p18) fp) g22_23 e22_p23 ev786 _)
  isplitl [H22]; · iexact H22
  isplitl [HP]; · iexact HP
  iintro ⟨H22, HP⟩
  obtain ⟨v840, qv840⟩ : ∃ v : FVec F S8x128 .f32, k1_pay66 v104 v131 v726 v743 v751 (Pool.rows (wP p23) fp) = v := ⟨_, rfl⟩
  iapply (part26 c M0 h0 M2 h2 M3 h3 M4 h4 M5 h5 M6 h6 M7 h7 M8 h8 M9 h9 M11 h11 M12 h12 M13 h13 M14 h14 M15 h15 M16 h16 M17 h17 M18 h18 M19 h19 M20 h20 v104 v131 v726 v743 v751 p23 fitp23 fp (Pool.landed c (wP p18) fp) g19_21 v840 qv840 _ rfl _)
  isplitl [H19]; · iexact H19
  isplitl [HP]; · iexact HP
  iintro ⟨H19, HT10, H21, HV, HO⟩
  iapply (wp_store Variants.none (c : Thread nD τ) none Set.univ (Finset.subset_univ _)) $$ [H19]
  · iexact H19
  iintro H19
  ihave H19' := (putted c M19 _ 3 ![0, 3, 0] (by rfl) _ _) $$ H19
  icases H19' with ⟨%g19, %eg19, H19⟩
  rw [wp_ret]; imodintro
  iapply (wp_load Variants.none (c : Thread nD τ) none Set.univ (Finset.subset_univ _)) $$ [H20]
  · iexact H20
  iintro H20
  rw [wp_ret]; imodintro
  iapply (wp_store Variants.none (c : Thread nD τ) none Set.univ (Finset.subset_univ _)) $$ [H20]
  · iexact H20
  iintro H20
  ihave H20' := (stored c M20 _ _ _) $$ H20
  icases H20' with ⟨%g20, %eg20, H20⟩
  rw [wp_ret]; imodintro
  simp only [wp_pure]
  imodintro
  iapply Hk
  iexists g19, g20, _, _, _
  isplitr
  · ipureintro
    rw [recOut_of ids w1 b1 w2 b2 g1 be1 widx bidx wi1 bi1 wi2 bi2 g2 be2 wh bh fe fp v48 qv48 v69 qv69 v100 qv100 v101 qv101 v102 qv102 v104 qv104 v105 qv105 c64_i32 qc64_i32 v107 qv107 v110 qv110 v113 qv113 v131 qv131 v132 qv132 v133 qv133 v141 qv141 v158 qv158 v159 qv159 p6 qp6 v166 qv166 v176 qv176 v234 qv234 cst_169 qcst_169 v265 qv265 v275 qv275 v311 qv311 v313 qv313 v315 qv315 v322 qv322 v326 qv326 v333 qv333 v341 qv341 v358 qv358 v362 qv362 p12 qp12 v366 qv366 v376 qv376 v434 qv434 v437 qv437 v465 qv465 v477 qv477 v511 qv511 v518 qv518 v526 qv526 v533 qv533 v541 qv541 v558 qv558 v562 qv562 c999936_i32_353 qc999936_i32_353 v563 qv563 p18 qp18 v566 qv566 v576 qv576 v639 qv639 v678 qv678 v720 qv720 p23 qp23 v726 qv726 v743 qv743 v751 qv751 v761 qv761 v840 qv840]
    refine ⟨?_, eg20⟩
    rw [eg19, ee21, ee15, ee9]
    exact puts_eq _ _ _ _ _
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [HT1]; · iexact HT1
  isplitl [HT10]; · iexact HT10
  isplitl [H19]; · iexact H19
  isplitl [H20]; · iexact H20
  isplitl [H21]; · iexact H21
  isplitl [H22]; · iexact H22
  isplitl [H23]; · iexact H23
  isplitl [HV]; · iexact HV
  iexact HO

end Body
end Cert.Proof.Recur
end
-- ==== Proof.RecurRegion.lean ====
module

public import proofs.«01_k».proof.Proof.RecurRun
public import Idealize.ShloMosaic.Lib.Pipeline.RegionArraysD
public import proofs.«01_k».proof.Proof.Gen.KernelIdeal.Points
public import Idealize.ShloMosaic.Lib.Pipeline.RegionArraysS
public import Idealize.ShloMosaic.Lib.Pipeline.FrameBody
public import Idealize.ShloMosaic.Lib.VecWindow

@[expose] public section

set_option maxRecDepth 16384

noncomputable section

namespace Cert.Proof.Recur

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Gather (UU)
open Cert.Proof Cert.Proof.Copies
open Idealize.ShloMosaic.ValueIdx (ix1 ix2 ix3)

variable {F : FTy → Type} [FloatOps F]

local notation "𝕄" => MT nD τ sig (HIx 1) (Elt F) ℕ UU ℕ

/-! ## A whole memref's contents -/

/-- A whole memref owned at what it reads is its buffer held whole at contents that read so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns pt
  rw [h.set_eq_univ]

/-! ## The proof data, at an entry valuation -/

section Data
variable (W : Dev nD → Valuation τ sig (Elt F))

-- Each operand's block, as the fetch stages it: the operand's array at the entry valuation, read through the block.
noncomputable def stg0 (c : Dev nD) (t : Fin cfg1.N) : Vec F S8x512 .i32 := ((cfg1.win 0).blk t).view.read (Elt F) (W c (Proc.devRef .tc (Pipeline.arrRef spec1 0)))
noncomputable def stg1 (c : Dev nD) (t : Fin cfg1.N) : Vec F S128x512 .f32 := ((cfg1.win 1).blk t).view.read (Elt F) (W c (Proc.devRef .tc (Pipeline.arrRef spec1 1)))
noncomputable def stg2 (c : Dev nD) (t : Fin cfg1.N) : Vec F S1x512 .f32 := ((cfg1.win 2).blk t).view.read (Elt F) (W c (Proc.devRef .tc (Pipeline.arrRef spec1 2)))
noncomputable def stg3 (c : Dev nD) (t : Fin cfg1.N) : Vec F S512x128 .f32 := ((cfg1.win 3).blk t).view.read (Elt F) (W c (Proc.devRef .tc (Pipeline.arrRef spec1 3)))
noncomputable def stg4 (c : Dev nD) (t : Fin cfg1.N) : Vec F S1x128 .f32 := ((cfg1.win 4).blk t).view.read (Elt F) (W c (Proc.devRef .tc (Pipeline.arrRef spec1 4)))
noncomputable def stg5 (c : Dev nD) (t : Fin cfg1.N) : Vec F S1x128 .f32 := ((cfg1.win 5).blk t).view.read (Elt F) (W c (Proc.devRef .tc (Pipeline.arrRef spec1 5)))
noncomputable def stg6 (c : Dev nD) (t : Fin cfg1.N) : Vec F S1x128 .f32 := ((cfg1.win 6).blk t).view.read (Elt F) (W c (Proc.devRef .tc (Pipeline.arrRef spec1 6)))
noncomputable def stg7 (c : Dev nD) (t : Fin cfg1.N) : Vec F S128x2 .f32 := ((cfg1.win 7).blk t).view.read (Elt F) (W c (Proc.devRef .tc (Pipeline.arrRef spec1 7)))
noncomputable def stg8 (c : Dev nD) (t : Fin cfg1.N) : Vec F S1x2 .f32 := ((cfg1.win 8).blk t).view.read (Elt F) (W c (Proc.devRef .tc (Pipeline.arrRef spec1 8)))
noncomputable def stg9 (c : Dev nD) (t : Fin cfg1.N) : Vec F S256x128 .f32 := ((cfg1.win 9).blk t).view.read (Elt F) (W c (Proc.devRef .tc (Pipeline.arrRef spec1 9)))
noncomputable def stg10 (c : Dev nD) (t : Fin cfg1.N) : Vec F S1x128 .f32 := ((cfg1.win 10).blk t).view.read (Elt F) (W c (Proc.devRef .tc (Pipeline.arrRef spec1 10)))
noncomputable def stg11 (c : Dev nD) (t : Fin cfg1.N) : Vec F S128x128 .f32 := ((cfg1.win 11).blk t).view.read (Elt F) (W c (Proc.devRef .tc (Pipeline.arrRef spec1 11)))
noncomputable def stg12 (c : Dev nD) (t : Fin cfg1.N) : Vec F S1x128 .f32 := ((cfg1.win 12).blk t).view.read (Elt F) (W c (Proc.devRef .tc (Pipeline.arrRef spec1 12)))
noncomputable def stg13 (c : Dev nD) (t : Fin cfg1.N) : Vec F S1x128 .f32 := ((cfg1.win 13).blk t).view.read (Elt F) (W c (Proc.devRef .tc (Pipeline.arrRef spec1 13)))
noncomputable def stg14 (c : Dev nD) (t : Fin cfg1.N) : Vec F S1x128 .f32 := ((cfg1.win 14).blk t).view.read (Elt F) (W c (Proc.devRef .tc (Pipeline.arrRef spec1 14)))
noncomputable def stg15 (c : Dev nD) (t : Fin cfg1.N) : Vec F S128x1 .f32 := ((cfg1.win 15).blk t).view.read (Elt F) (W c (Proc.devRef .tc (Pipeline.arrRef spec1 15)))
noncomputable def stg16 (c : Dev nD) (t : Fin cfg1.N) : Vec F S1x1 .f32 := ((cfg1.win 16).blk t).view.read (Elt F) (W c (Proc.devRef .tc (Pipeline.arrRef spec1 16)))

abbrev embOf (c : Dev nD) : Buf (Elt F) (Emb.tLoc c) := W c (Proc.devRef .tc main_arg1)
abbrev poolOf (c : Dev nD) : Buf (Elt F) (Pool.tLoc c) := W c (Proc.devRef .tc main_arg12)

/-- The two results the body stores: the retrieved vectors and the windows' starts. -/
noncomputable def outAt (c : Dev nD) (t : Fin cfg1.N) : Vec F S8x4x128 .f32 × Vec F S8x128 .i32 :=
  recOut (stg0 W c t) (stg1 W c t) (stg2 W c t) (stg3 W c t) (stg4 W c t) (stg5 W c t) (stg6 W c t) (stg7 W c t) (stg8 W c t) (stg9 W c t) (stg10 W c t) (stg11 W c t) (stg12 W c t) (stg13 W c t) (stg14 W c t) (stg15 W c t) (stg16 W c t) (embOf W c) (poolOf W c)

abbrev auxLoc (c : Dev nD) : Loc nD τ sig := (Memref.whole cc1_scratch1).view.loc (c : Thread nD τ)

/-- Around the body: the scratch buffers at any contents, the other scoped buffers no window stages, the two tables as
    on entry and the copies' semaphore at zero. -/
noncomputable def Φ (c : Dev nD) : sProp 𝕄 :=
  iprop(((∃ f, Pool.sLoc c ↦{fullShare} f) ∗ (∃ f, auxLoc c ↦{fullShare} f) ∗ (∃ f, Emb.sLoc c ↦{fullShare} f))
    ∗ Pipeline.scopedRestBut (Ix := HIx 1) (Name := ℕ) (U := UU) (Lvl := ℕ) (Val := Elt F) spec1 c [cc1_scratch0, cc1_scratch1, cc1_scratch2]
    ∗ (Emb.tLoc c ↦{fullShare} embOf W c) ∗ (Pool.tLoc c ↦{fullShare} poolOf W c) ∗ semVal ((c : Thread nD τ), sm) 0)

/-- After the body: the operands' buffers as fetched, the results' at what the body stores. -/
noncomputable def after (c : Dev nD) : (w : Fin 19) → Fin cfg1.N → (cfg1.win w).block.Idx → Elt F (cfg1.win w).elt :=
  Function.update (β := fun w : Fin 19 => Fin cfg1.N → (cfg1.win w).block.Idx → Elt F (cfg1.win w).elt)
    (Function.update (β := fun w : Fin 19 => Fin cfg1.N → (cfg1.win w).block.Idx → Elt F (cfg1.win w).elt)
      (fun w t => (cfg1.win w).fill (cfg1.grid.coords t) (fun _ => Classical.arbitrary _)
        (((cfg1.win w).blk t).view.read (Elt F) (W c (Proc.devRef .tc (Pipeline.arrRef spec1 w)))))
      17 (fun t => (outAt W c t).1))
    18 (fun t => (outAt W c t).2)

theorem after_starts (c : Dev nD) (t : Fin cfg1.N) : after W c 18 t = (outAt W c t).2 := by
  unfold after; rw [Function.update_self]

theorem after_retr (c : Dev nD) (t : Fin cfg1.N) : after W c 17 t = (outAt W c t).1 := by
  unfold after; rw [Function.update_of_ne (by decide), Function.update_self]

/-- The proof data of the region: the arrays at the entry valuation; afterwards the operands' buffers as fetched and the
    results' at what the body stores; nothing owed. -/
noncomputable def dat (c : Dev nD) : Dat τ (Elt F) (HIx 1) ℕ UU ℕ cfg1 c where
  A w := W c (Proc.devRef .tc (Pipeline.arrRef spec1 w))
  after := after W c
  Φ _ := Φ W c
  q _ := fullShare
  owed _ := 0

-- An operand's buffer holds its block when the body runs.
theorem before_in0 (c : Dev nD) (t : Fin cfg1.N) (d : (cfg1.win 0).block.Idx → Elt F (cfg1.win 0).elt) : (dat W c).before 0 t d = stg0 W c t :=
  (dat W c).before_in_eq_fetched 0 rfl (fun _ => rfl) (fun _ _ _ => rfl) (fun _ => rfl) t d
theorem before_in1 (c : Dev nD) (t : Fin cfg1.N) (d : (cfg1.win 1).block.Idx → Elt F (cfg1.win 1).elt) : (dat W c).before 1 t d = stg1 W c t :=
  (dat W c).before_in_eq_fetched 1 rfl (fun _ => rfl) (fun _ _ _ => rfl) (fun _ => rfl) t d
theorem before_in2 (c : Dev nD) (t : Fin cfg1.N) (d : (cfg1.win 2).block.Idx → Elt F (cfg1.win 2).elt) : (dat W c).before 2 t d = stg2 W c t :=
  (dat W c).before_in_eq_fetched 2 rfl (fun _ => rfl) (fun _ _ _ => rfl) (fun _ => rfl) t d
theorem before_in3 (c : Dev nD) (t : Fin cfg1.N) (d : (cfg1.win 3).block.Idx → Elt F (cfg1.win 3).elt) : (dat W c).before 3 t d = stg3 W c t :=
  (dat W c).before_in_eq_fetched 3 rfl (fun _ => rfl) (fun _ _ _ => rfl) (fun _ => rfl) t d
theorem before_in4 (c : Dev nD) (t : Fin cfg1.N) (d : (cfg1.win 4).block.Idx → Elt F (cfg1.win 4).elt) : (dat W c).before 4 t d = stg4 W c t :=
  (dat W c).before_in_eq_fetched 4 rfl (fun _ => rfl) (fun _ _ _ => rfl) (fun _ => rfl) t d
theorem before_in5 (c : Dev nD) (t : Fin cfg1.N) (d : (cfg1.win 5).block.Idx → Elt F (cfg1.win 5).elt) : (dat W c).before 5 t d = stg5 W c t :=
  (dat W c).before_in_eq_fetched 5 rfl (fun _ => rfl) (fun _ _ _ => rfl) (fun _ => rfl) t d
theorem before_in6 (c : Dev nD) (t : Fin cfg1.N) (d : (cfg1.win 6).block.Idx → Elt F (cfg1.win 6).elt) : (dat W c).before 6 t d = stg6 W c t :=
  (dat W c).before_in_eq_fetched 6 rfl (fun _ => rfl) (fun _ _ _ => rfl) (fun _ => rfl) t d
theorem before_in7 (c : Dev nD) (t : Fin cfg1.N) (d : (cfg1.win 7).block.Idx → Elt F (cfg1.win 7).elt) : (dat W c).before 7 t d = stg7 W c t :=
  (dat W c).before_in_eq_fetched 7 rfl (fun _ => rfl) (fun _ _ _ => rfl) (fun _ => rfl) t d
theorem before_in8 (c : Dev nD) (t : Fin cfg1.N) (d : (cfg1.win 8).block.Idx → Elt F (cfg1.win 8).elt) : (dat W c).before 8 t d = stg8 W c t :=
  (dat W c).before_in_eq_fetched 8 rfl (fun _ => rfl) (fun _ _ _ => rfl) (fun _ => rfl) t d
theorem before_in9 (c : Dev nD) (t : Fin cfg1.N) (d : (cfg1.win 9).block.Idx → Elt F (cfg1.win 9).elt) : (dat W c).before 9 t d = stg9 W c t :=
  (dat W c).before_in_eq_fetched 9 rfl (fun _ => rfl) (fun _ _ _ => rfl) (fun _ => rfl) t d
theorem before_in10 (c : Dev nD) (t : Fin cfg1.N) (d : (cfg1.win 10).block.Idx → Elt F (cfg1.win 10).elt) : (dat W c).before 10 t d = stg10 W c t :=
  (dat W c).before_in_eq_fetched 10 rfl (fun _ => rfl) (fun _ _ _ => rfl) (fun _ => rfl) t d
theorem before_in11 (c : Dev nD) (t : Fin cfg1.N) (d : (cfg1.win 11).block.Idx → Elt F (cfg1.win 11).elt) : (dat W c).before 11 t d = stg11 W c t :=
  (dat W c).before_in_eq_fetched 11 rfl (fun _ => rfl) (fun _ _ _ => rfl) (fun _ => rfl) t d
theorem before_in12 (c : Dev nD) (t : Fin cfg1.N) (d : (cfg1.win 12).block.Idx → Elt F (cfg1.win 12).elt) : (dat W c).before 12 t d = stg12 W c t :=
  (dat W c).before_in_eq_fetched 12 rfl (fun _ => rfl) (fun _ _ _ => rfl) (fun _ => rfl) t d
theorem before_in13 (c : Dev nD) (t : Fin cfg1.N) (d : (cfg1.win 13).block.Idx → Elt F (cfg1.win 13).elt) : (dat W c).before 13 t d = stg13 W c t :=
  (dat W c).before_in_eq_fetched 13 rfl (fun _ => rfl) (fun _ _ _ => rfl) (fun _ => rfl) t d
theorem before_in14 (c : Dev nD) (t : Fin cfg1.N) (d : (cfg1.win 14).block.Idx → Elt F (cfg1.win 14).elt) : (dat W c).before 14 t d = stg14 W c t :=
  (dat W c).before_in_eq_fetched 14 rfl (fun _ => rfl) (fun _ _ _ => rfl) (fun _ => rfl) t d
theorem before_in15 (c : Dev nD) (t : Fin cfg1.N) (d : (cfg1.win 15).block.Idx → Elt F (cfg1.win 15).elt) : (dat W c).before 15 t d = stg15 W c t :=
  (dat W c).before_in_eq_fetched 15 rfl (fun _ => rfl) (fun _ _ _ => rfl) (fun _ => rfl) t d
theorem before_in16 (c : Dev nD) (t : Fin cfg1.N) (d : (cfg1.win 16).block.Idx → Elt F (cfg1.win 16).elt) : (dat W c).before 16 t d = stg16 W c t :=
  (dat W c).before_in_eq_fetched 16 rfl (fun _ => rfl) (fun _ _ _ => rfl) (fun _ => rfl) t d

set_option maxHeartbeats 1000000 in
theorem body_obligation (fit : ∀ c t b, (wE (stg0 W c t) b).toNat + 1 ≤ 8192) (c : Dev nD) : BodyObligation (dat W c) (defs₀ (F := F)) Variants.none (none : HIx 1) Set.univ := fun t => by
  rw [bigSep_W1, bigSep_W1]
  rw [show (dat W c).Φ t.castSucc = Φ W c from rfl, show (dat W c).Φ t.succ = Φ W c from rfl,
    show (dat W c).owesAt none t.succ = (dat W c).owesAt none t.castSucc from rfl]
  show iprop(_ ∗ _ ∗ (∃ d, owns (c : Thread nD τ) (st1_0 t) fullShare ((dat W c).before 0 t d)) ∗ (∃ d, owns (c : Thread nD τ) (st1_1 t) fullShare ((dat W c).before 1 t d)) ∗ (∃ d, owns (c : Thread nD τ) (st1_2 t) fullShare ((dat W c).before 2 t d)) ∗ (∃ d, owns (c : Thread nD τ) (st1_3 t) fullShare ((dat W c).before 3 t d)) ∗ (∃ d, owns (c : Thread nD τ) (st1_4 t) fullShare ((dat W c).before 4 t d)) ∗ (∃ d, owns (c : Thread nD τ) (st1_5 t) fullShare ((dat W c).before 5 t d)) ∗ (∃ d, owns (c : Thread nD τ) (st1_6 t) fullShare ((dat W c).before 6 t d)) ∗ (∃ d, owns (c : Thread nD τ) (st1_7 t) fullShare ((dat W c).before 7 t d)) ∗ (∃ d, owns (c : Thread nD τ) (st1_8 t) fullShare ((dat W c).before 8 t d)) ∗ (∃ d, owns (c : Thread nD τ) (st1_9 t) fullShare ((dat W c).before 9 t d)) ∗ (∃ d, owns (c : Thread nD τ) (st1_10 t) fullShare ((dat W c).before 10 t d)) ∗ (∃ d, owns (c : Thread nD τ) (st1_11 t) fullShare ((dat W c).before 11 t d)) ∗ (∃ d, owns (c : Thread nD τ) (st1_12 t) fullShare ((dat W c).before 12 t d)) ∗ (∃ d, owns (c : Thread nD τ) (st1_13 t) fullShare ((dat W c).before 13 t d)) ∗ (∃ d, owns (c : Thread nD τ) (st1_14 t) fullShare ((dat W c).before 14 t d)) ∗ (∃ d, owns (c : Thread nD τ) (st1_15 t) fullShare ((dat W c).before 15 t d)) ∗ (∃ d, owns (c : Thread nD τ) (st1_16 t) fullShare ((dat W c).before 16 t d)) ∗ (∃ d, owns (c : Thread nD τ) (st1_17 t) fullShare ((dat W c).before 17 t d)) ∗ (∃ d, owns (c : Thread nD τ) (st1_18 t) fullShare ((dat W c).before 18 t d))) ⊢ wp frame (wpE (defs₀ (F := F)) Variants.none c none) Set.univ (bodyAt1 t) fun _ => iprop(_ ∗ _ ∗ owns (c : Thread nD τ) (st1_0 t) fullShare (stg0 W c t) ∗ owns (c : Thread nD τ) (st1_1 t) fullShare (stg1 W c t) ∗ owns (c : Thread nD τ) (st1_2 t) fullShare (stg2 W c t) ∗ owns (c : Thread nD τ) (st1_3 t) fullShare (stg3 W c t) ∗ owns (c : Thread nD τ) (st1_4 t) fullShare (stg4 W c t) ∗ owns (c : Thread nD τ) (st1_5 t) fullShare (stg5 W c t) ∗ owns (c : Thread nD τ) (st1_6 t) fullShare (stg6 W c t) ∗ owns (c : Thread nD τ) (st1_7 t) fullShare (stg7 W c t) ∗ owns (c : Thread nD τ) (st1_8 t) fullShare (stg8 W c t) ∗ owns (c : Thread nD τ) (st1_9 t) fullShare (stg9 W c t) ∗ owns (c : Thread nD τ) (st1_10 t) fullShare (stg10 W c t) ∗ owns (c : Thread nD τ) (st1_11 t) fullShare (stg11 W c t) ∗ owns (c : Thread nD τ) (st1_12 t) fullShare (stg12 W c t) ∗ owns (c : Thread nD τ) (st1_13 t) fullShare (stg13 W c t) ∗ owns (c : Thread nD τ) (st1_14 t) fullShare (stg14 W c t) ∗ owns (c : Thread nD τ) (st1_15 t) fullShare (stg15 W c t) ∗ owns (c : Thread nD τ) (st1_16 t) fullShare (stg16 W c t) ∗ owns (c : Thread nD τ) (st1_17 t) fullShare ((outAt W c t).1) ∗ owns (c : Thread nD τ) (st1_18 t) fullShare ((outAt W c t).2))
  simp only [owns_pt c (st1_0 t) (hstage1_0 0), before_in0 W c]
  simp only [owns_pt c (st1_1 t) (hstage1_1 0), before_in1 W c]
  simp only [owns_pt c (st1_2 t) (hstage1_2 0), before_in2 W c]
  simp only [owns_pt c (st1_3 t) (hstage1_3 0), before_in3 W c]
  simp only [owns_pt c (st1_4 t) (hstage1_4 0), before_in4 W c]
  simp only [owns_pt c (st1_5 t) (hstage1_5 0), before_in5 W c]
  simp only [owns_pt c (st1_6 t) (hstage1_6 0), before_in6 W c]
  simp only [owns_pt c (st1_7 t) (hstage1_7 0), before_in7 W c]
  simp only [owns_pt c (st1_8 t) (hstage1_8 0), before_in8 W c]
  simp only [owns_pt c (st1_9 t) (hstage1_9 0), before_in9 W c]
  simp only [owns_pt c (st1_10 t) (hstage1_10 0), before_in10 W c]
  simp only [owns_pt c (st1_11 t) (hstage1_11 0), before_in11 W c]
  simp only [owns_pt c (st1_12 t) (hstage1_12 0), before_in12 W c]
  simp only [owns_pt c (st1_13 t) (hstage1_13 0), before_in13 W c]
  simp only [owns_pt c (st1_14 t) (hstage1_14 0), before_in14 W c]
  simp only [owns_pt c (st1_15 t) (hstage1_15 0), before_in15 W c]
  simp only [owns_pt c (st1_16 t) (hstage1_16 0), before_in16 W c]
  simp only [owns_pt c (st1_17 t) (hstage1_17 0)]
  simp only [owns_pt c (st1_18 t) (hstage1_18 0)]
  unfold Φ
  iintro ⟨⟨⟨⟨%f21, H21⟩, ⟨%f22, H22⟩, ⟨%f23, H23⟩⟩, Hrest, HE, HP, HV⟩, Howes, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩⟩
  ihave HO := (show (dat W c).owesAt none t.castSucc ⊢ iprop(∃ Wd, owes (c : Thread nD τ) (0 : CellTallies nD τ sig (HIx 1)) Wd) from by
    unfold Dat.owesAt Pipeline.owesWithin
    iintro ⟨%Wd, -, H⟩
    iexists Wd; iexact H) $$ Howes
  iapply (run c (st1_0 t) (hstage1_0 0) (st1_1 t) (hstage1_1 0) (st1_2 t) (hstage1_2 0) (st1_3 t) (hstage1_3 0) (st1_4 t) (hstage1_4 0) (st1_5 t) (hstage1_5 0) (st1_6 t) (hstage1_6 0) (st1_7 t) (hstage1_7 0) (st1_8 t) (hstage1_8 0) (st1_9 t) (hstage1_9 0) (st1_10 t) (hstage1_10 0) (st1_11 t) (hstage1_11 0) (st1_12 t) (hstage1_12 0) (st1_13 t) (hstage1_13 0) (st1_14 t) (hstage1_14 0) (st1_15 t) (hstage1_15 0) (st1_16 t) (hstage1_16 0) (st1_17 t) (hstage1_17 0) (st1_18 t) (hstage1_18 0) (stg0 W c t) (stg1 W c t) (stg2 W c t) (stg3 W c t) (stg4 W c t) (stg5 W c t) (stg6 W c t) (stg7 W c t) (stg8 W c t) (stg9 W c t) (stg10 W c t) (stg11 W c t) (stg12 W c t) (stg13 W c t) (stg14 W c t) (stg15 W c t) (stg16 W c t) f0 f1 f2 f3 f4 f5 f6 f7 f8 f9 f10 f11 f12 f13 f14 f15 f16 e0 e1 e2 e3 e4 e5 e6 e7 e8 e9 e10 e11 e12 e13 e14 e15 e16 (fit c t) (embOf W c) (poolOf W c) f17 f18 f21 f22 f23 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HE]; · iexact HE
  isplitl [HP]; · iexact HP
  isplitl [H17]; · iexact H17
  isplitl [H18]; · iexact H18
  isplitl [H21]; · iexact H21
  isplitl [H22]; · iexact H22
  isplitl [H23]; · iexact H23
  isplitl [HV]; · iexact HV
  isplitl [HO]; · iexact HO
  iintro ⟨%g17, %g18, %g21, %g22, %g23, %hg, H0, H1, H2, H3, H4, H5, H6, H7, H8, H9, H10, H11, H12, H13, H14, H15, H16, HE, HP, H17, H18, H21, H22, H23, HV, HO⟩
  isplitl [H21 H22 H23 Hrest HE HP HV]
  · isplitl [H21 H22 H23]
    · isplitl [H21]; · iexists g21; iexact H21
      isplitl [H22]; · iexists g22; iexact H22
      iexists g23; iexact H23
    isplitl [Hrest]; · iexact Hrest
    isplitl [HE]; · iexact HE
    isplitl [HP]; · iexact HP
    iexact HV
  isplitl [HO]
  · unfold Dat.owesAt Pipeline.owesWithin
    icases HO with ⟨%Wd, HO⟩
    iexists Wd; isplitr; · ipureintro; exact fun _ _ => Or.inl trivial
    iexact HO
  isplitl [H0]; · iexists f0; isplitr; swap; (· iexact H0); ipureintro; exact e0
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists f5; isplitr; swap; (· iexact H5); ipureintro; exact e5
  isplitl [H6]; · iexists f6; isplitr; swap; (· iexact H6); ipureintro; exact e6
  isplitl [H7]; · iexists f7; isplitr; swap; (· iexact H7); ipureintro; exact e7
  isplitl [H8]; · iexists f8; isplitr; swap; (· iexact H8); ipureintro; exact e8
  isplitl [H9]; · iexists f9; isplitr; swap; (· iexact H9); ipureintro; exact e9
  isplitl [H10]; · iexists f10; isplitr; swap; (· iexact H10); ipureintro; exact e10
  isplitl [H11]; · iexists f11; isplitr; swap; (· iexact H11); ipureintro; exact e11
  isplitl [H12]; · iexists f12; isplitr; swap; (· iexact H12); ipureintro; exact e12
  isplitl [H13]; · iexists f13; isplitr; swap; (· iexact H13); ipureintro; exact e13
  isplitl [H14]; · iexists f14; isplitr; swap; (· iexact H14); ipureintro; exact e14
  isplitl [H15]; · iexists f15; isplitr; swap; (· iexact H15); ipureintro; exact e15
  isplitl [H16]; · iexists f16; isplitr; swap; (· iexact H16); ipureintro; exact e16
  isplitl [H17]; · iexists g17; isplitr; swap; (· iexact H17); ipureintro; exact hg.1
  iexists g18; isplitr; swap; (· iexact H18); ipureintro; exact hg.2

end Data

open Cert.Proof.Gather (K adm)

/-! ## The region -/

variable (W : Dev nD → Valuation τ sig (Elt F))

/-- Proof data for the pipeline this region does not run: anything. -/
noncomputable def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

noncomputable def pdats : (p : Fin 2) → (c : Dev nD) → Dat τ (Elt F) (HIx 1) ℕ UU ℕ (Pipeline.pin (pcfgs (F := F)) adm p) c
  | ⟨0, _⟩ => fun c => dat W c
  | ⟨1, _⟩ => fun c => junkDat c

/-- The copies' semaphore, the region's own. -/
abbrev osem : Fin 1 → SemLoc sig := ![SemLoc.dma cc1_scratch3.sem]
theorem osem_facts : Pipeline.OwnSemFacts spec1 osem := by decide
theorem osem_zero (c : Dev nD) :
    (Pipeline.ownSems0 (Ix := HIx 1) (Name := ℕ) (U := UU) (Lvl := ℕ) (Val := Elt F) (τ := τ) osem c : sProp 𝕄) = semVal ((c : Thread nD τ), sm) 0 := by
  rw [Pipeline.ownSems0_eq_of_list c osem [0] (by decide) (by decide)]; rfl

theorem levelCut : Pipeline.LevelCut (pcfgs (F := F)) adm (none : HIx 1) (K (F := F)).L (K (F := F)).lev 0 (fun _ : Dev nD => (0 : CellTallies nD τ sig (HIx 1))) (fun _ => 0) where
  hι _ _ _ := Finset.mem_univ _
  hιb _ _ _ := le_rfl
  hD _ _ _ h := absurd h (lt_irrefl _)

/-- The two tables the body's own copies read. -/
noncomputable def tables (c : Dev nD) : sProp 𝕄 := iprop((Emb.tLoc c ↦{fullShare} embOf W c) ∗ Pool.tLoc c ↦{fullShare} poolOf W c)

theorem enter (c : Dev nD) : iprop(Pipeline.scopedRest (Ix := HIx 1) (Name := ℕ) (U := UU) (Lvl := ℕ) (Val := Elt F) spec1 c ∗ tables W c ∗ Pipeline.ownSems0 (τ := τ) osem c ∗ Transfers.MayWaits (c : Thread nD τ) (none : HIx 1) (0 : CellTallies nD τ sig (HIx 1))) ⊢ Φ W c := by
  rw [scopedRest1_split, osem_zero]
  unfold Φ tables
  iintro ⟨⟨⟨H1, H2, H3⟩, Hr⟩, ⟨HE, HP⟩, HV, -⟩
  isplitl [H1 H2 H3]
  · isplitl [H1]; · iexact H1
    isplitl [H2]; · iexact H2
    iexact H3
  isplitl [Hr]; · iexact Hr
  isplitl [HE]; · iexact HE
  isplitl [HP]; · iexact HP
  iexact HV

theorem leave (c : Dev nD) : Φ W c ⊢ iprop(Pipeline.scopedRest (Ix := HIx 1) (Name := ℕ) (U := UU) (Lvl := ℕ) (Val := Elt F) spec1 c ∗ tables W c ∗ Pipeline.ownSems0 (τ := τ) osem c) := by
  rw [scopedRest1_split, osem_zero]
  unfold Φ tables
  iintro ⟨⟨H1, H2, H3⟩, Hr, HE, HP, HV⟩
  isplitl [H1 H2 H3 Hr]
  · isplitl [H1 H2 H3]
    · isplitl [H1]; · iexact H1
      isplitl [H2]; · iexact H2
      iexact H3
    iexact Hr
  isplitl [HE HP]
  · isplitl [HE]; · iexact HE
    iexact HP
  iexact HV

noncomputable def reg (fit : ∀ c t b, (wE (stg0 W c t) b).toNat + 1 ≤ 8192) (R : Dev nD → sProp 𝕄) :
    Pipeline.RegionSeg (pcfgs (F := F)) adm (pdats W) (none : HIx 1) defs₀ Variants.none (K (F := F)).L (K (F := F)).lev 0 :=
  Pipeline.RegionSeg.ofHeldD (pcfgs (F := F)) adm (pdats W) (none : HIx 1) defs₀ Variants.none (K (F := F)).L (K (F := F)).lev 0 (fun _ => 0)
    (none : HIx 1) osem osem_facts (tables W) (tables W) launch1.toP rfl (fun c => (body_obligation W fit c).loose) (fun _ _ => rfl) (fun _ => rfl)
    (fun c w => ((dat W c).share_full (fun _ => rfl)) w)
    (fun _ => (K (F := F)).mayWaits_none fun _ => rfl)
    (enter W) (leave W) (fun _ => 0) levelCut R W (fun c => Pipeline.afterRegion (dat W c) (W c)) (fun c w => rfl)
    (fun c w => (Pipeline.afterRegion_arr (dat W c) (W c) winFacts1.arr_inj w).symm)

end Cert.Proof.Recur

end
-- ==== Proof.Run.lean ====
/-
  @main's run: the flattening of the ids, the SparseCore call (Gather.lean), the two TensorCore calls (RecurRegion.lean, DecodeRegion.lean), the reshapes
  between them — at any float interpretation.
-/
module

public import proofs.«01_k».proof.Proof.DecodeRegion
public import proofs.«01_k».proof.Proof.RecurRegion
public import Idealize.ShloMosaic.Lib.Pipeline.Frame
public import proofs.«01_k».proof.Proof.Gen.Pre_ids_in_vocab

@[expose] public section

noncomputable section

namespace Cert.Proof.Run

open Cert.KernelIdeal Cert.KernelIdeal.Gen Cert.Proof.Gather

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (ucRefs unscopedBufs_held)

variable {F : FTy → Type} [FloatOps F]

local notation "𝕄" => MT nD τ sig (HIx 1) (Elt F) ℕ UU ℕ

variable (m : (ℓ : Loc nD τ sig) → Buf (Elt F) ℓ) (ρ : Dev nD → PrngReg)

/-- The flattened ids. -/
def ids (d : Dev nD) : S4096.Idx → BitVec 32 := shapeCast S4096 (show S8x512.Idx → BitVec 32 from m ((SparseCore.T d).loc main_arg0)) shapeCasts_S8x512_S4096

abbrev fi (d : Dev nD) : Buf (Elt F) (iLoc d) := ids m d
abbrev fx (d : Dev nD) : Buf (Elt F) (xLoc d) := m (xLoc d)
abbrev fo (d : Dev nD) : Buf (Elt F) (oLoc d) := m (oLoc d)

/-- The arrays when the flattening has run, and when the call has. -/
abbrev V₀ (d : Dev nD) : Valuation τ sig (Elt F) := fun b => m (d, b)
abbrev flat : HloOp τ sig (Elt F) := StableHlo.reshape (τ := τ) (Val := Elt F) main_arg0 main_v0 (rfl : (.i32 : EltTy) = .i32) shapeCasts_S8x512_S4096
def V₁ (d : Dev nD) : Valuation τ sig (Elt F) := (flat (F := F)).result (V₀ m d)
def V₂ (d : Dev nD) : Valuation τ sig (Elt F) := Function.update (V₁ m d) (Proc.devRef .tc main_v1) (G (fi m) (fx m) d)

theorem flat_bufs : (flat (F := F)).bufs ⊆ ucRefs τ sig := by
  rw [StableHlo.reshape_bufs]; decide

theorem V₁_ids (d : Dev nD) : V₁ m d (Proc.devRef .tc main_v0) = fi m d :=
  StableHlo.reshape_result' _ _ _ _ (V₀ m d)
theorem V₁_ne (d : Dev nD) {r : Ref sig .tc} (h : r ≠ main_v0) : V₁ m d (Proc.devRef .tc r) = m ((SparseCore.T d).loc r) :=
  StableHlo.reshape_result_ne main_arg0 main_v0 _ _ _ _ (V₀ m d) h

abbrev callRefs : Finset (DevRef τ sig) := {Proc.devRef .tc main_v0, Proc.devRef .tc main_arg1, Proc.devRef .tc main_v1}

theorem callRefs_sub : callRefs ⊆ ucRefs τ sig := by decide

theorem held_call (d : Dev nD) (W : Valuation τ sig (Elt F)) :
    (StableHlo.held (d.tc : Thread nD τ) callRefs W : sProp 𝕄)
      = iprop((iLoc d ↦{fullShare} W (Proc.devRef .tc main_v0)) ∗ (xLoc d ↦{fullShare} W (Proc.devRef .tc main_arg1)) ∗ oLoc d ↦{fullShare} W (Proc.devRef .tc main_v1)) := by
  unfold StableHlo.held callRefs
  rw [SparseCore.bigSep_insert' (by decide), SparseCore.bigSep_insert' (by decide), bigSep_singleton]

theorem held_V₁ (d : Dev nD) :
    (StableHlo.held (d.tc : Thread nD τ) (ucRefs τ sig) (V₁ m d) : sProp 𝕄)
      = iprop(((iLoc d ↦{fullShare} fi m d) ∗ (xLoc d ↦{fullShare} fx m d) ∗ oLoc d ↦{fullShare} fo m d)
          ∗ StableHlo.held (d.tc : Thread nD τ) (ucRefs τ sig \ callRefs) (V₁ m d)) := by
  rw [StableHlo.held_sub_split _ callRefs_sub, held_call, V₁_ids, V₁_ne m d (by decide : main_arg1 ≠ main_v0), V₁_ne m d (by decide : main_v1 ≠ main_v0)]

theorem held_V₂ (d : Dev nD) :
    (StableHlo.held (d.tc : Thread nD τ) (ucRefs τ sig) (V₂ m d) : sProp 𝕄)
      = iprop(((iLoc d ↦{fullShare} fi m d) ∗ (xLoc d ↦{fullShare} fx m d) ∗ oLoc d ↦{fullShare} G (fi m) (fx m) d)
          ∗ StableHlo.held (d.tc : Thread nD τ) (ucRefs τ sig \ callRefs) (V₁ m d)) := by
  have e0 : V₂ m d (Proc.devRef .tc main_v0) = fi m d := (Function.update_of_ne (by decide) _ _).trans (V₁_ids m d)
  have e1 : V₂ m d (Proc.devRef .tc main_arg1) = fx m d := (Function.update_of_ne (by decide) _ _).trans (V₁_ne m d (by decide))
  have e2 : V₂ m d (Proc.devRef .tc main_v1) = G (fi m) (fx m) d := Function.update_self _ _ _
  rw [StableHlo.held_sub_split _ callRefs_sub, held_call, e0, e1, e2]
  have hne : ∀ b ∈ ucRefs τ sig \ callRefs, V₂ m d b = V₁ m d b := fun b hb =>
    Function.update_of_ne (fun e => (Finset.mem_sdiff.mp hb).2 (by rw [e]; simp [callRefs])) _ _
  rw [StableHlo.held_congr _ hne]

/-! ## The host's reshapes, and the arrays after each part -/

def host1 : List (HloOp τ sig (Elt F)) :=
  [StableHlo.reshape (τ := τ) (Val := Elt F) main_arg3 main_v2 (rfl : (.f32 : EltTy) = .f32) shapeCasts_S512_S1x512,
   StableHlo.reshape (τ := τ) (Val := Elt F) main_arg5 main_v3 (rfl : (.f32 : EltTy) = .f32) shapeCasts_S128_S1x128,
   StableHlo.reshape (τ := τ) (Val := Elt F) main_arg6 main_v4 (rfl : (.f32 : EltTy) = .f32) shapeCasts_S128_S1x128,
   StableHlo.reshape (τ := τ) (Val := Elt F) main_arg7 main_v5 (rfl : (.f32 : EltTy) = .f32) shapeCasts_S128_S1x128,
   StableHlo.reshape (τ := τ) (Val := Elt F) main_arg11 main_v6 (rfl : (.f32 : EltTy) = .f32) shapeCasts_S2_S1x2,
   StableHlo.reshape (τ := τ) (Val := Elt F) main_arg14 main_v7 (rfl : (.f32 : EltTy) = .f32) shapeCasts_S128_S1x128,
   StableHlo.reshape (τ := τ) (Val := Elt F) main_arg16 main_v8 (rfl : (.f32 : EltTy) = .f32) shapeCasts_S128_S1x128,
   StableHlo.reshape (τ := τ) (Val := Elt F) main_arg17 main_v9 (rfl : (.f32 : EltTy) = .f32) shapeCasts_S128_S1x128,
   StableHlo.reshape (τ := τ) (Val := Elt F) main_arg18 main_v10 (rfl : (.f32 : EltTy) = .f32) shapeCasts_S128_S1x128,
   StableHlo.reshape (τ := τ) (Val := Elt F) main_arg20 main_v11 (rfl : (.f32 : EltTy) = .f32) shapeCasts_S1_S1x1]
def host2 : List (HloOp τ sig (Elt F)) :=
  [StableHlo.reshape (τ := τ) (Val := Elt F) main_v1 main_v13 (rfl : (.f32 : EltTy) = .f32) shapeCasts_S4096x128_S8x512x128,
   StableHlo.reshape (τ := τ) (Val := Elt F) main_arg3 main_v14 (rfl : (.f32 : EltTy) = .f32) shapeCasts_S512_S1x512,
   StableHlo.reshape (τ := τ) (Val := Elt F) main_arg5 main_v15 (rfl : (.f32 : EltTy) = .f32) shapeCasts_S128_S1x128,
   StableHlo.reshape (τ := τ) (Val := Elt F) main_arg6 main_v16 (rfl : (.f32 : EltTy) = .f32) shapeCasts_S128_S1x128,
   StableHlo.reshape (τ := τ) (Val := Elt F) main_arg7 main_v17 (rfl : (.f32 : EltTy) = .f32) shapeCasts_S128_S1x128,
   StableHlo.reshape (τ := τ) (Val := Elt F) main_arg14 main_v18 (rfl : (.f32 : EltTy) = .f32) shapeCasts_S128_S1x128,
   StableHlo.reshape (τ := τ) (Val := Elt F) main_arg16 main_v19 (rfl : (.f32 : EltTy) = .f32) shapeCasts_S128_S1x128,
   StableHlo.reshape (τ := τ) (Val := Elt F) main_arg17 main_v20 (rfl : (.f32 : EltTy) = .f32) shapeCasts_S128_S1x128,
   StableHlo.reshape (τ := τ) (Val := Elt F) main_arg18 main_v21 (rfl : (.f32 : EltTy) = .f32) shapeCasts_S128_S1x128,
   StableHlo.reshape (τ := τ) (Val := Elt F) main_arg20 main_v22 (rfl : (.f32 : EltTy) = .f32) shapeCasts_S1_S1x1,
   StableHlo.reshape (τ := τ) (Val := Elt F) main_arg9 main_v23 (rfl : (.f32 : EltTy) = .f32) shapeCasts_S8192_S1x8192]
def cut : HloOp τ sig (Elt F) := StableHlo.unary (τ := τ) main_v12_1 main_v25 ((extractStridedSlice S8x4 ![0, 0] · slices_S8x128_S8x4_0_0) : (⟨S8x128, .i32⟩ : BufTy).Contents (Elt F) → (⟨S8x4, .i32⟩ : BufTy).Contents (Elt F))

/-- The arrays before the recurrence's call, after it, before the decoder's call, after it, and at the end. -/
def V₃ (d : Dev nD) : Valuation τ sig (Elt F) := StableHlo.after host1 (V₂ m d)
def V₄ (d : Dev nD) : Valuation τ sig (Elt F) := Pipeline.afterRegion (Recur.dat (V₃ m) d) (V₃ m d)
def V₅ (d : Dev nD) : Valuation τ sig (Elt F) := StableHlo.after host2 (V₄ m d)
def V₆ (d : Dev nD) : Valuation τ sig (Elt F) := Pipeline.afterRegion (Decode.dat (V₅ m) d) (V₅ m d)
def V₇ (d : Dev nD) : Valuation τ sig (Elt F) := cut.result (V₆ m d)

theorem host1_bufs : ∀ op ∈ host1 (F := F), op.bufs ⊆ ucRefs τ sig := by
  intro op h
  fin_cases h <;> (first | (rw [StableHlo.reshape_bufs]; decide))
theorem host2_bufs : ∀ op ∈ host2 (F := F), op.bufs ⊆ ucRefs τ sig := by
  intro op h
  fin_cases h <;> (first | (rw [StableHlo.reshape_bufs]; decide))
theorem cut_bufs : (cut (F := F)).bufs ⊆ ucRefs τ sig := by
  unfold cut; rw [StableHlo.unary_bufs]; decide

/-- One host operation, every array held. -/
theorem wp_op (d : Dev nD) (op : HloOp τ sig (Elt F)) (hb : op.bufs ⊆ ucRefs τ sig) (hf : op.fresh = ∅) (V : Valuation τ sig (Elt F)) (Φ : PUnit → sProp 𝕄) :
    iprop(boundary (d.tc : Thread nD τ) ∗ StableHlo.held (d.tc : Thread nD τ) (ucRefs τ sig) V
        ∗ ((boundary (d.tc : Thread nD τ) ∗ StableHlo.held (d.tc : Thread nD τ) (ucRefs τ sig) (op.result V)) -∗ Φ ⟨⟩))
      ⊢ wp frame (wpE ((K (F := F)).defs (D (F := F))) 𝒱 (SparseCore.T d) none) Set.univ (hlo rfl op (fun _ => .ret ⟨⟩)) Φ := by
  iintro ⟨Hb, Hu, Hk⟩
  iapply (StableHlo.wp_hlo_within (c := (d.tc : Thread nD τ)) 𝒱 none Set.univ (S := ucRefs τ sig) (V := V) hb hf) $$ [Hb Hu]
  · isplitl [Hb]; · iexact Hb
    iexact Hu
  iintro ⟨Hb, Hu⟩
  rw [wp_ret]; imodintro
  iapply Hk
  isplitl [Hb] <;> iassumption

/-! ## The two TensorCore calls -/

abbrev tabRefs : Finset (DevRef τ sig) := {Proc.devRef .tc main_arg1, Proc.devRef .tc main_arg12}
abbrev recRefs : Finset (DevRef τ sig) := Pipeline.arrRefs spec1
abbrev decRefs : Finset (DevRef τ sig) := Pipeline.arrRefs spec2

theorem recRefs_sub : recRefs ⊆ ucRefs τ sig := Pipeline.arrRefs_sub_ucRefs spec1 winFacts1.arr_unscoped
theorem decRefs_sub : decRefs ⊆ ucRefs τ sig := Pipeline.arrRefs_sub_ucRefs spec2 winFacts2.arr_unscoped
theorem tabRefs_sub : tabRefs ⊆ ucRefs τ sig \ recRefs := by
  intro b hb
  refine Finset.mem_sdiff.mpr ⟨(by decide : tabRefs ⊆ ucRefs τ sig) hb, fun h => ?_⟩
  obtain ⟨r, hr, e⟩ := Finset.mem_map.mp h
  obtain ⟨w, -, rfl⟩ := Finset.mem_image.mp hr
  have h1 : ∀ w, Pipeline.arrRef spec1 w ≠ main_arg1 ∧ Pipeline.arrRef spec1 w ≠ main_arg12 := by decide
  rcases Finset.mem_insert.mp hb with rfl | hb
  · exact (h1 w).1 (Proc.devRef_injective _ e)
  · rw [Finset.mem_singleton] at hb; subst hb
    exact (h1 w).2 (Proc.devRef_injective _ e)

theorem held_tabs (W : Dev nD → Valuation τ sig (Elt F)) (d : Dev nD) :
    (StableHlo.held (d.tc : Thread nD τ) tabRefs (W d) : sProp 𝕄) = Recur.tables W d := by
  unfold StableHlo.held tabRefs Recur.tables
  rw [SparseCore.bigSep_insert' (by decide), bigSep_singleton]

variable [∀ e, Nonempty (Elt F e)]

/-- The recurrence's call: every array held at `W`, to every array held at what the region leaves. -/
theorem wp_recur (W : Dev nD → Valuation τ sig (Elt F)) (fit : ∀ c t b, (Recur.wE (Recur.stg0 W c t) b).toNat + 1 ≤ 8192) (d : Dev nD) (Φ : PUnit → sProp 𝕄) :
    iprop(boundary (d.tc : Thread nD τ) ∗ StableHlo.held (d.tc : Thread nD τ) (ucRefs τ sig) (W d)
        ∗ (∃ Wd, owes (d.tc : Thread nD τ) (0 : CellTallies nD τ sig (HIx 1)) Wd) ∗ levAts (K (F := F)).L (K (F := F)).lev
        ∗ Pipeline.cellsGhost cfgs (EP (F := F)) 0 d ∗ Pipeline.toksInit cfgs (EP (F := F)) 0 d
        ∗ ((boundary (d.tc : Thread nD τ) ∗ StableHlo.held (d.tc : Thread nD τ) (ucRefs τ sig) (Pipeline.afterRegion (Recur.dat W d) (W d))
            ∗ ∃ Wd, owes (d.tc : Thread nD τ) (0 : CellTallies nD τ sig (HIx 1)) Wd) -∗ Φ ⟨⟩))
      ⊢ wp frame (wpE ((K (F := F)).defs (D (F := F))) 𝒱 (SparseCore.T d) none) Set.univ
          (Prog.lift (.customCall (SparseCore.inner (Pipeline.entry 0)) ())) Φ := by
  iintro ⟨Hb, Hu, HO, HL, HG, HT, Hk⟩
  iapply (show wp frame (wpE (D (F := F)) 𝒱 (SparseCore.T d) none) Set.univ (.op (.customCall (Pipeline.entry 0) ()) .ret) Φ ⊢ _ from
    (K (F := F)).wp_liftProg (D (F := F)) 𝒱 (SparseCore.T d) Set.univ none (.op (.customCall (Pipeline.entry 0) ()) .ret) Φ)
  iapply (Pipeline.RegionSeg.wp (pcfgs (F := F)) adm (Recur.pdats W) (none : HIx 1) cellOf_inj (EP (F := F)) defs₀ Variants.none (K (F := F)).L (K (F := F)).lev
    (Recur.reg W fit fun c => StableHlo.held (c.tc : Thread nD τ) ((ucRefs τ sig \ recRefs) \ tabRefs) (W c)) d none (fun _ h => nomatch h) .ret Φ)
  isplitl [Hk]
  · iintro ⟨Hb, Hp⟩
    rw [wp_ret]; imodintro
    iapply Hk
    isplitl [Hb]; · iexact Hb
    ihave Hp := (show (Recur.reg W fit fun c => StableHlo.held (c.tc : Thread nD τ) ((ucRefs τ sig \ recRefs) \ tabRefs) (W c)).post d
      ⊢ iprop(StableHlo.held (d.tc : Thread nD τ) recRefs (Pipeline.afterRegion (Recur.dat W d) (W d)) ∗ Recur.tables W d
          ∗ StableHlo.held (d.tc : Thread nD τ) ((ucRefs τ sig \ recRefs) \ tabRefs) (W d) ∗ ∃ Wd, owes (d.tc : Thread nD τ) (0 : CellTallies nD τ sig (HIx 1)) Wd) from .rfl) $$ Hp
    icases Hp with ⟨Ha, Ht, Hr, HO⟩
    isplitr [HO]; swap; · iexact HO
    rw [StableHlo.held_sub_split (d.tc : Thread nD τ) recRefs_sub (Pipeline.afterRegion (Recur.dat W d) (W d)),
      StableHlo.held_congr (d.tc : Thread nD τ) (S := ucRefs τ sig \ recRefs) (V := Pipeline.afterRegion (Recur.dat W d) (W d)) (V' := W d)
        (Pipeline.afterRegion_off (Recur.dat W d) (W d) (ucRefs τ sig)),
      StableHlo.held_sub_split (d.tc : Thread nD τ) tabRefs_sub (W d), held_tabs W d]
    isplitl [Ha]; · iexact Ha
    isplitl [Ht] <;> iassumption
  isplitl [Hb]; · iexact Hb
  isplitl [Hu HO]
  · iapply (show iprop(StableHlo.held (d.tc : Thread nD τ) recRefs (W d) ∗ Recur.tables W d
          ∗ StableHlo.held (d.tc : Thread nD τ) ((ucRefs τ sig \ recRefs) \ tabRefs) (W d) ∗ ∃ Wd, owes (d.tc : Thread nD τ) (0 : CellTallies nD τ sig (HIx 1)) Wd)
      ⊢ (Recur.reg W fit fun c => StableHlo.held (c.tc : Thread nD τ) ((ucRefs τ sig \ recRefs) \ tabRefs) (W c)).pre d from .rfl)
    ihave Hu := (show StableHlo.held (d.tc : Thread nD τ) (ucRefs τ sig) (W d)
        ⊢ iprop(StableHlo.held (d.tc : Thread nD τ) recRefs (W d) ∗ Recur.tables W d ∗ StableHlo.held (d.tc : Thread nD τ) ((ucRefs τ sig \ recRefs) \ tabRefs) (W d)) from by
      rw [StableHlo.held_sub_split (d.tc : Thread nD τ) recRefs_sub (W d), StableHlo.held_sub_split (d.tc : Thread nD τ) tabRefs_sub (W d), held_tabs W d]) $$ Hu
    icases Hu with ⟨Ha, Ht, Hr⟩
    isplitl [Ha]; · iexact Ha
    isplitl [Ht]; · iexact Ht
    isplitl [Hr]; · iexact Hr
    iexact HO
  isplitl [HL]; · iexact HL
  isplitl [HG]; · iexact HG
  iexact HT

/-- The decoder's call, likewise. -/
theorem wp_decode (W : Dev nD → Valuation τ sig (Elt F)) (d : Dev nD) (Φ : PUnit → sProp 𝕄) :
    iprop(boundary (d.tc : Thread nD τ) ∗ StableHlo.held (d.tc : Thread nD τ) (ucRefs τ sig) (W d)
        ∗ (∃ Wd, owes (d.tc : Thread nD τ) (0 : CellTallies nD τ sig (HIx 1)) Wd) ∗ levAts (K (F := F)).L (K (F := F)).lev
        ∗ Pipeline.cellsGhost cfgs (EP (F := F)) 1 d ∗ Pipeline.toksInit cfgs (EP (F := F)) 1 d
        ∗ ((boundary (d.tc : Thread nD τ) ∗ StableHlo.held (d.tc : Thread nD τ) (ucRefs τ sig) (Pipeline.afterRegion (Decode.dat W d) (W d))
            ∗ ∃ Wd, owes (d.tc : Thread nD τ) (0 : CellTallies nD τ sig (HIx 1)) Wd) -∗ Φ ⟨⟩))
      ⊢ wp frame (wpE ((K (F := F)).defs (D (F := F))) 𝒱 (SparseCore.T d) none) Set.univ
          (Prog.lift (.customCall (SparseCore.inner (Pipeline.entry 1)) ())) Φ := by
  iintro ⟨Hb, Hu, HO, HL, HG, HT, Hk⟩
  iapply (show wp frame (wpE (D (F := F)) 𝒱 (SparseCore.T d) none) Set.univ (.op (.customCall (Pipeline.entry 1) ()) .ret) Φ ⊢ _ from
    (K (F := F)).wp_liftProg (D (F := F)) 𝒱 (SparseCore.T d) Set.univ none (.op (.customCall (Pipeline.entry 1) ()) .ret) Φ)
  iapply (Pipeline.RegionSeg.wp (pcfgs (F := F)) adm (Decode.pdats W) (none : HIx 1) cellOf_inj (EP (F := F)) defs₀ Variants.none (K (F := F)).L (K (F := F)).lev
    (Decode.reg W (ucRefs τ sig) fun _ => iprop(emp)) d none (fun _ h => nomatch h) .ret Φ)
  isplitl [Hk]
  · iintro ⟨Hb, Hp⟩
    rw [wp_ret]; imodintro
    iapply Hk
    isplitl [Hb]; · iexact Hb
    ihave Hp := (show (Decode.reg W (ucRefs τ sig) fun _ => iprop(emp)).post d
      ⊢ iprop(StableHlo.held (d.tc : Thread nD τ) decRefs (Pipeline.afterRegion (Decode.dat W d) (W d)) ∗ emp
          ∗ (StableHlo.held (d.tc : Thread nD τ) (ucRefs τ sig \ decRefs) (W d) ∗ emp) ∗ ∃ Wd, owes (d.tc : Thread nD τ) (0 : CellTallies nD τ sig (HIx 1)) Wd) from .rfl) $$ Hp
    icases Hp with ⟨Ha, -, ⟨Hr, -⟩, HO⟩
    isplitr [HO]; swap; · iexact HO
    rw [StableHlo.held_sub_split (d.tc : Thread nD τ) decRefs_sub (Pipeline.afterRegion (Decode.dat W d) (W d)),
      StableHlo.held_congr (d.tc : Thread nD τ) (S := ucRefs τ sig \ decRefs) (V := Pipeline.afterRegion (Decode.dat W d) (W d)) (V' := W d)
        (Pipeline.afterRegion_off (Decode.dat W d) (W d) (ucRefs τ sig))]
    isplitl [Ha] <;> iassumption
  isplitl [Hb]; · iexact Hb
  isplitl [Hu HO]
  · iapply (show iprop(StableHlo.held (d.tc : Thread nD τ) decRefs (W d) ∗ emp
          ∗ (StableHlo.held (d.tc : Thread nD τ) (ucRefs τ sig \ decRefs) (W d) ∗ emp) ∗ ∃ Wd, owes (d.tc : Thread nD τ) (0 : CellTallies nD τ sig (HIx 1)) Wd)
      ⊢ (Decode.reg W (ucRefs τ sig) fun _ => iprop(emp)).pre d from .rfl)
    ihave Hu := (show StableHlo.held (d.tc : Thread nD τ) (ucRefs τ sig) (W d)
        ⊢ iprop(StableHlo.held (d.tc : Thread nD τ) decRefs (W d) ∗ StableHlo.held (d.tc : Thread nD τ) (ucRefs τ sig \ decRefs) (W d)) from by
      rw [StableHlo.held_sub_split (d.tc : Thread nD τ) decRefs_sub (W d)]) $$ Hu
    icases Hu with ⟨Ha, Hr⟩
    isplitl [Ha]; · iexact Ha
    isplitr; · iempintro
    isplitl [Hr]
    · isplitl [Hr]; · iexact Hr
      iempintro
    iexact HO
  isplitl [HL]; · iexact HL
  isplitl [HG]; · iexact HG
  iexact HT

/-- The ghost state of the two pipelines, one by one. -/
theorem ghost_split (d : Dev nD) : (pipeGhost (F := F) d : sProp 𝕄)
    ⊢ iprop((Pipeline.cellsGhost cfgs (EP (F := F)) 0 d ∗ Pipeline.cellsGhost cfgs (EP (F := F)) 1 d) ∗ Pipeline.toksInit cfgs (EP (F := F)) 0 d ∗ Pipeline.toksInit cfgs (EP (F := F)) 1 d) := by
  unfold pipeGhost
  rw [bigSep_univ_eq_bigSepL [(0 : Fin 2), 1] (by decide) (by decide), bigSep_univ_eq_bigSepL [(0 : Fin 2), 1] (by decide) (by decide)]
  exact .rfl

/-- What @main ends holding: every array, at the last valuation. -/
abbrev FIN (d : Dev nD) : sProp 𝕄 := StableHlo.held (d.tc : Thread nD τ) (ucRefs τ sig) (V₇ m d)

theorem owes_out (d : Dev nD) : ((K (F := F)).tcSt EH d 1 : sProp 𝕄)
    ⊢ iprop((∃ Wd, owes (d.tc : Thread nD τ) (0 : CellTallies nD τ sig (HIx 1)) Wd)
        ∗ ((∃ Wd, owes (d.tc : Thread nD τ) (0 : CellTallies nD τ sig (HIx 1)) Wd) -∗ (K (F := F)).tcSt EH d 1)) := by
  unfold SparseCore.Cfg.tcSt
  rw [(K (F := F)).Otc_end d (le_refl 1)]
  iintro ⟨⟨%Wd, -, HO⟩, Hr⟩
  isplitl [HO]; · iexists Wd; iexact HO
  iintro ⟨%Wd', HO⟩
  isplitl [HO]
  · iexists Wd'; isplitr; swap; · iexact HO
    ipureintro; exact fun p _ => by
      rcases p with ⟨s, _ | q⟩
      · exact Nat.zero_le _
      · refine le_trans ((K (F := F)).lev_some_le _ q) ?_
        have := q.isLt
        show 8 * q.val + 7 ≤ 8 * 1
        omega
  iexact Hr

theorem hmain (fit : ∀ c t b, (Recur.wE (Recur.stg0 (V₃ m) c t) b).toNat + 1 ≤ 8192) (κ : GSem nD τ sig → ℕ) (d : Dev nD) :
    iprop((K (F := F)).ctx EH (P (fi m) (fx m) (fo m)) κ ∗ (K (F := F)).tcSt EH d 0 ∗ (K (F := F)).tcRes m ρ d ∗ pipeGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hu, Hts, -⟩, HG⟩
  ihave HG := (ghost_split d) $$ HG
  icases HG with ⟨⟨HG0, HG1⟩, HT0, HT1⟩
  ihave Hu := (Entails.of_eq (unscopedBufs_held (Ix := HIx 1) (Name := ℕ) (U := UU) (Lvl := ℕ) d (V₀ m d))) $$ Hu
  iapply (wp_op d (flat (F := F)) flat_bufs rfl (V₀ m d))
  isplitl [Hb]; · iexact Hb
  isplitl [Hu]; · iexact Hu
  iintro ⟨Hb, Hu⟩
  ihave Hu := (show (StableHlo.held (d.tc : Thread nD τ) (ucRefs τ sig) ((flat (F := F)).result (V₀ m d)) : sProp 𝕄) ⊢ _ from Entails.of_eq (held_V₁ m d)) $$ Hu
  icases Hu with ⟨Hc, Hr⟩
  iapply (wp_call (F := F) (fi m) (fx m) (fo m) κ d)
  isplitr; · iexact Hctx
  isplitl [Hst]; · iexact Hst
  isplitl [Hc]; · iexact Hc
  iintro ⟨Hst, Hc⟩
  ihave Hu := (Entails.of_eq (held_V₂ m d).symm) $$ [Hc Hr]
  · isplitl [Hc]; · iexact Hc
    iexact Hr
  ihave Ho := (owes_out d) $$ Hst
  icases Ho with ⟨HO, Hst⟩
  iapply (wp_op d _ (host1_bufs _ (by unfold host1; exact List.mem_iff_getElem.mpr ⟨0, (by show (0 : ℕ) < 10; decide), rfl⟩)) rfl _)
  isplitl [Hb]; · iexact Hb
  isplitl [Hu]; · iexact Hu
  iintro ⟨Hb, Hu⟩
  iapply (wp_op d _ (host1_bufs _ (by unfold host1; exact List.mem_iff_getElem.mpr ⟨1, (by show (1 : ℕ) < 10; decide), rfl⟩)) rfl _)
  isplitl [Hb]; · iexact Hb
  isplitl [Hu]; · iexact Hu
  iintro ⟨Hb, Hu⟩
  iapply (wp_op d _ (host1_bufs _ (by unfold host1; exact List.mem_iff_getElem.mpr ⟨2, (by show (2 : ℕ) < 10; decide), rfl⟩)) rfl _)
  isplitl [Hb]; · iexact Hb
  isplitl [Hu]; · iexact Hu
  iintro ⟨Hb, Hu⟩
  iapply (wp_op d _ (host1_bufs _ (by unfold host1; exact List.mem_iff_getElem.mpr ⟨3, (by show (3 : ℕ) < 10; decide), rfl⟩)) rfl _)
  isplitl [Hb]; · iexact Hb
  isplitl [Hu]; · iexact Hu
  iintro ⟨Hb, Hu⟩
  iapply (wp_op d _ (host1_bufs _ (by unfold host1; exact List.mem_iff_getElem.mpr ⟨4, (by show (4 : ℕ) < 10; decide), rfl⟩)) rfl _)
  isplitl [Hb]; · iexact Hb
  isplitl [Hu]; · iexact Hu
  iintro ⟨Hb, Hu⟩
  iapply (wp_op d _ (host1_bufs _ (by unfold host1; exact List.mem_iff_getElem.mpr ⟨5, (by show (5 : ℕ) < 10; decide), rfl⟩)) rfl _)
  isplitl [Hb]; · iexact Hb
  isplitl [Hu]; · iexact Hu
  iintro ⟨Hb, Hu⟩
  iapply (wp_op d _ (host1_bufs _ (by unfold host1; exact List.mem_iff_getElem.mpr ⟨6, (by show (6 : ℕ) < 10; decide), rfl⟩)) rfl _)
  isplitl [Hb]; · iexact Hb
  isplitl [Hu]; · iexact Hu
  iintro ⟨Hb, Hu⟩
  iapply (wp_op d _ (host1_bufs _ (by unfold host1; exact List.mem_iff_getElem.mpr ⟨7, (by show (7 : ℕ) < 10; decide), rfl⟩)) rfl _)
  isplitl [Hb]; · iexact Hb
  isplitl [Hu]; · iexact Hu
  iintro ⟨Hb, Hu⟩
  iapply (wp_op d _ (host1_bufs _ (by unfold host1; exact List.mem_iff_getElem.mpr ⟨8, (by show (8 : ℕ) < 10; decide), rfl⟩)) rfl _)
  isplitl [Hb]; · iexact Hb
  isplitl [Hu]; · iexact Hu
  iintro ⟨Hb, Hu⟩
  iapply (wp_op d _ (host1_bufs _ (by unfold host1; exact List.mem_iff_getElem.mpr ⟨9, (by show (9 : ℕ) < 10; decide), rfl⟩)) rfl _)
  isplitl [Hb]; · iexact Hb
  isplitl [Hu]; · iexact Hu
  iintro ⟨Hb, Hu⟩
  ihave #HL := (SparseCore.Cfg.ctx_levAts (K := K (F := F)) κ) $$ Hctx
  iapply (wp_recur (V₃ m) fit d)
  isplitl [Hb]; · iexact Hb
  isplitl [Hu]; · iexact Hu
  isplitl [HO]; · iexact HO
  isplitr; · iexact HL
  isplitl [HG0]; · iexact HG0
  isplitl [HT0]; · iexact HT0
  iintro ⟨Hb, Hu, HO⟩
  iapply (wp_op d _ (host2_bufs _ (by unfold host2; exact List.mem_iff_getElem.mpr ⟨0, (by show (0 : ℕ) < 11; decide), rfl⟩)) rfl _)
  isplitl [Hb]; · iexact Hb
  isplitl [Hu]; · iexact Hu
  iintro ⟨Hb, Hu⟩
  iapply (wp_op d _ (host2_bufs _ (by unfold host2; exact List.mem_iff_getElem.mpr ⟨1, (by show (1 : ℕ) < 11; decide), rfl⟩)) rfl _)
  isplitl [Hb]; · iexact Hb
  isplitl [Hu]; · iexact Hu
  iintro ⟨Hb, Hu⟩
  iapply (wp_op d _ (host2_bufs _ (by unfold host2; exact List.mem_iff_getElem.mpr ⟨2, (by show (2 : ℕ) < 11; decide), rfl⟩)) rfl _)
  isplitl [Hb]; · iexact Hb
  isplitl [Hu]; · iexact Hu
  iintro ⟨Hb, Hu⟩
  iapply (wp_op d _ (host2_bufs _ (by unfold host2; exact List.mem_iff_getElem.mpr ⟨3, (by show (3 : ℕ) < 11; decide), rfl⟩)) rfl _)
  isplitl [Hb]; · iexact Hb
  isplitl [Hu]; · iexact Hu
  iintro ⟨Hb, Hu⟩
  iapply (wp_op d _ (host2_bufs _ (by unfold host2; exact List.mem_iff_getElem.mpr ⟨4, (by show (4 : ℕ) < 11; decide), rfl⟩)) rfl _)
  isplitl [Hb]; · iexact Hb
  isplitl [Hu]; · iexact Hu
  iintro ⟨Hb, Hu⟩
  iapply (wp_op d _ (host2_bufs _ (by unfold host2; exact List.mem_iff_getElem.mpr ⟨5, (by show (5 : ℕ) < 11; decide), rfl⟩)) rfl _)
  isplitl [Hb]; · iexact Hb
  isplitl [Hu]; · iexact Hu
  iintro ⟨Hb, Hu⟩
  iapply (wp_op d _ (host2_bufs _ (by unfold host2; exact List.mem_iff_getElem.mpr ⟨6, (by show (6 : ℕ) < 11; decide), rfl⟩)) rfl _)
  isplitl [Hb]; · iexact Hb
  isplitl [Hu]; · iexact Hu
  iintro ⟨Hb, Hu⟩
  iapply (wp_op d _ (host2_bufs _ (by unfold host2; exact List.mem_iff_getElem.mpr ⟨7, (by show (7 : ℕ) < 11; decide), rfl⟩)) rfl _)
  isplitl [Hb]; · iexact Hb
  isplitl [Hu]; · iexact Hu
  iintro ⟨Hb, Hu⟩
  iapply (wp_op d _ (host2_bufs _ (by unfold host2; exact List.mem_iff_getElem.mpr ⟨8, (by show (8 : ℕ) < 11; decide), rfl⟩)) rfl _)
  isplitl [Hb]; · iexact Hb
  isplitl [Hu]; · iexact Hu
  iintro ⟨Hb, Hu⟩
  iapply (wp_op d _ (host2_bufs _ (by unfold host2; exact List.mem_iff_getElem.mpr ⟨9, (by show (9 : ℕ) < 11; decide), rfl⟩)) rfl _)
  isplitl [Hb]; · iexact Hb
  isplitl [Hu]; · iexact Hu
  iintro ⟨Hb, Hu⟩
  iapply (wp_op d _ (host2_bufs _ (by unfold host2; exact List.mem_iff_getElem.mpr ⟨10, (by show (10 : ℕ) < 11; decide), rfl⟩)) rfl _)
  isplitl [Hb]; · iexact Hb
  isplitl [Hu]; · iexact Hu
  iintro ⟨Hb, Hu⟩
  iapply (wp_decode (V₅ m) d)
  isplitl [Hb]; · iexact Hb
  isplitl [Hu]; · iexact Hu
  isplitl [HO]; · iexact HO
  isplitr; · iexact HL
  isplitl [HG1]; · iexact HG1
  isplitl [HT1]; · iexact HT1
  iintro ⟨Hb, Hu, HO⟩
  iapply (wp_op d _ cut_bufs rfl _)
  isplitl [Hb]; · iexact Hb
  isplitl [Hu]; · iexact Hu
  iintro ⟨Hb, Hu⟩
  imodintro
  isplitl [Hst HO]; · iapply Hst; iexact HO
  isplitl [Hu]; · iexact Hu
  isplitl [Hb] <;> iassumption

/-- What the run's end says: every array of @main's. -/
def fq (d : Dev nD) (s' : Phys nD τ sig (Elt F)) : Prop := ∀ b ∈ ucRefs τ sig, s'.mem.mem (d, b) = V₇ m d b

theorem hfin (d : Dev nD) (s' : Phys nD τ sig (Elt F)) : iprop(FIN m d ∗ SI s') ⊢ (⌜fq m d s'⌝ : sProp 𝕄) := by
  unfold FIN StableHlo.held
  iintro ⟨H, HSI⟩
  iapply (SI_pointsTo_bufs_agree (c := d) (qs := fun _ => fullShare) (ucRefs τ sig))
  isplitl [HSI]; · iexact HSI
  iexact H

def QC : PUnit × MemSt nD τ sig (Elt F) → Prop := fun r => (∀ d : Dev nD, ∀ b ∈ ucRefs τ sig, r.2.mem (d, b) = V₇ m d b) ∧ r.2.sem = fun _ => 0

theorem run_main (fit : ∀ c t b, (Recur.wE (Recur.stg0 (V₃ m) c t) b).toNat + 1 ≤ 8192) (hb : ∀ d, Below (ids m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (fi m) (fx m) (fo m)) (A := ∅) facts v₀
    (fun q hq => match q with | 0 => nomatch hq)
    (fun q _ => match q with | 0 => tileObl (fi m) (fx m) (fo m) facts hb)
    (fun q _ => match q with | 0 => SparseCore.Cfg.VecSplit.of_plain (vecSplit (fi m) (fx m) (fo m)))
    m ρ main pipeGhost (FIN m) (u₀ (F := F)) (sep_elim_left.trans (hu₀ (fi m) (fx m) (fo m))) (hmain m ρ fit) (fq m) (hfin m) (QC m) (fun _ h hz => ⟨h, hz⟩)

end Cert.Proof.Run

end
-- ==== Proof.Blocks.lean ====
module

public import proofs.«01_k».proof.Proof.Run
public import Idealize.ShloMosaic.Lib.Pipeline.Value

/-!
The blocks the two TensorCore calls read and write, in the arrays' own coordinates.
-/

@[expose] public section

set_option maxRecDepth 16384

noncomputable section

namespace Cert.Proof.Blocks

open Cert.KernelIdeal Cert.KernelIdeal.Gen
open Idealize.ShloMosaic Idealize.ShloMosaic.ValueIdx

variable {F : FTy → Type} [FloatOps F]
variable (W : Dev nD → Valuation τ sig (Elt F)) (c : Dev nD)

theorem rec_0 (t : Fin cfg1.N) : Recur.stg0 W c t = W c (Proc.devRef .tc main_arg0) := by
  funext y
  exact congrArg (W c (Proc.devRef .tc main_arg0)) (funext fun a => Fin.ext ((cfg1.win 0).rect_emb_val_of_index_zero t a (by fin_cases a <;> rfl) y))

theorem rec_1 (t : Fin cfg1.N) : Recur.stg1 W c t = W c (Proc.devRef .tc main_arg2) := by
  funext y
  exact congrArg (W c (Proc.devRef .tc main_arg2)) (funext fun a => Fin.ext ((cfg1.win 1).rect_emb_val_of_index_zero t a (by fin_cases a <;> rfl) y))

theorem rec_2 (t : Fin cfg1.N) : Recur.stg2 W c t = W c (Proc.devRef .tc main_v2) := by
  funext y
  exact congrArg (W c (Proc.devRef .tc main_v2)) (funext fun a => Fin.ext ((cfg1.win 2).rect_emb_val_of_index_zero t a (by fin_cases a <;> rfl) y))

theorem rec_3 (t : Fin cfg1.N) : Recur.stg3 W c t = W c (Proc.devRef .tc main_arg4) := by
  funext y
  exact congrArg (W c (Proc.devRef .tc main_arg4)) (funext fun a => Fin.ext ((cfg1.win 3).rect_emb_val_of_index_zero t a (by fin_cases a <;> rfl) y))

theorem rec_4 (t : Fin cfg1.N) : Recur.stg4 W c t = W c (Proc.devRef .tc main_v3) := by
  funext y
  exact congrArg (W c (Proc.devRef .tc main_v3)) (funext fun a => Fin.ext ((cfg1.win 4).rect_emb_val_of_index_zero t a (by fin_cases a <;> rfl) y))

theorem rec_5 (t : Fin cfg1.N) : Recur.stg5 W c t = W c (Proc.devRef .tc main_v4) := by
  funext y
  exact congrArg (W c (Proc.devRef .tc main_v4)) (funext fun a => Fin.ext ((cfg1.win 5).rect_emb_val_of_index_zero t a (by fin_cases a <;> rfl) y))

theorem rec_6 (t : Fin cfg1.N) : Recur.stg6 W c t = W c (Proc.devRef .tc main_v5) := by
  funext y
  exact congrArg (W c (Proc.devRef .tc main_v5)) (funext fun a => Fin.ext ((cfg1.win 6).rect_emb_val_of_index_zero t a (by fin_cases a <;> rfl) y))

theorem rec_7 (t : Fin cfg1.N) : Recur.stg7 W c t = W c (Proc.devRef .tc main_arg10) := by
  funext y
  exact congrArg (W c (Proc.devRef .tc main_arg10)) (funext fun a => Fin.ext ((cfg1.win 7).rect_emb_val_of_index_zero t a (by fin_cases a <;> rfl) y))

theorem rec_8 (t : Fin cfg1.N) : Recur.stg8 W c t = W c (Proc.devRef .tc main_v6) := by
  funext y
  exact congrArg (W c (Proc.devRef .tc main_v6)) (funext fun a => Fin.ext ((cfg1.win 8).rect_emb_val_of_index_zero t a (by fin_cases a <;> rfl) y))

theorem rec_9 (t : Fin cfg1.N) : Recur.stg9 W c t = W c (Proc.devRef .tc main_arg13) := by
  funext y
  exact congrArg (W c (Proc.devRef .tc main_arg13)) (funext fun a => Fin.ext ((cfg1.win 9).rect_emb_val_of_index_zero t a (by fin_cases a <;> rfl) y))

theorem rec_10 (t : Fin cfg1.N) : Recur.stg10 W c t = W c (Proc.devRef .tc main_v7) := by
  funext y
  exact congrArg (W c (Proc.devRef .tc main_v7)) (funext fun a => Fin.ext ((cfg1.win 10).rect_emb_val_of_index_zero t a (by fin_cases a <;> rfl) y))

theorem rec_11 (t : Fin cfg1.N) : Recur.stg11 W c t = W c (Proc.devRef .tc main_arg15) := by
  funext y
  exact congrArg (W c (Proc.devRef .tc main_arg15)) (funext fun a => Fin.ext ((cfg1.win 11).rect_emb_val_of_index_zero t a (by fin_cases a <;> rfl) y))

theorem rec_12 (t : Fin cfg1.N) : Recur.stg12 W c t = W c (Proc.devRef .tc main_v8) := by
  funext y
  exact congrArg (W c (Proc.devRef .tc main_v8)) (funext fun a => Fin.ext ((cfg1.win 12).rect_emb_val_of_index_zero t a (by fin_cases a <;> rfl) y))

theorem rec_13 (t : Fin cfg1.N) : Recur.stg13 W c t = W c (Proc.devRef .tc main_v9) := by
  funext y
  exact congrArg (W c (Proc.devRef .tc main_v9)) (funext fun a => Fin.ext ((cfg1.win 13).rect_emb_val_of_index_zero t a (by fin_cases a <;> rfl) y))

theorem rec_14 (t : Fin cfg1.N) : Recur.stg14 W c t = W c (Proc.devRef .tc main_v10) := by
  funext y
  exact congrArg (W c (Proc.devRef .tc main_v10)) (funext fun a => Fin.ext ((cfg1.win 14).rect_emb_val_of_index_zero t a (by fin_cases a <;> rfl) y))

theorem rec_15 (t : Fin cfg1.N) : Recur.stg15 W c t = W c (Proc.devRef .tc main_arg19) := by
  funext y
  exact congrArg (W c (Proc.devRef .tc main_arg19)) (funext fun a => Fin.ext ((cfg1.win 15).rect_emb_val_of_index_zero t a (by fin_cases a <;> rfl) y))

theorem rec_16 (t : Fin cfg1.N) : Recur.stg16 W c t = W c (Proc.devRef .tc main_v11) := by
  funext y
  exact congrArg (W c (Proc.devRef .tc main_v11)) (funext fun a => Fin.ext ((cfg1.win 16).rect_emb_val_of_index_zero t a (by fin_cases a <;> rfl) y))

theorem dec_1 (t : Fin cfg2.N) : Decode.stg1 W c t = W c (Proc.devRef .tc main_arg2) := by
  funext y
  exact congrArg (W c (Proc.devRef .tc main_arg2)) (funext fun a => Fin.ext ((cfg2.win 1).rect_emb_val_of_index_zero t a (by fin_cases a <;> rfl) y))

theorem dec_2 (t : Fin cfg2.N) : Decode.stg2 W c t = W c (Proc.devRef .tc main_v14) := by
  funext y
  exact congrArg (W c (Proc.devRef .tc main_v14)) (funext fun a => Fin.ext ((cfg2.win 2).rect_emb_val_of_index_zero t a (by fin_cases a <;> rfl) y))

theorem dec_3 (t : Fin cfg2.N) : Decode.stg3 W c t = W c (Proc.devRef .tc main_arg4) := by
  funext y
  exact congrArg (W c (Proc.devRef .tc main_arg4)) (funext fun a => Fin.ext ((cfg2.win 3).rect_emb_val_of_index_zero t a (by fin_cases a <;> rfl) y))

theorem dec_4 (t : Fin cfg2.N) : Decode.stg4 W c t = W c (Proc.devRef .tc main_v15) := by
  funext y
  exact congrArg (W c (Proc.devRef .tc main_v15)) (funext fun a => Fin.ext ((cfg2.win 4).rect_emb_val_of_index_zero t a (by fin_cases a <;> rfl) y))

theorem dec_5 (t : Fin cfg2.N) : Decode.stg5 W c t = W c (Proc.devRef .tc main_v16) := by
  funext y
  exact congrArg (W c (Proc.devRef .tc main_v16)) (funext fun a => Fin.ext ((cfg2.win 5).rect_emb_val_of_index_zero t a (by fin_cases a <;> rfl) y))

theorem dec_6 (t : Fin cfg2.N) : Decode.stg6 W c t = W c (Proc.devRef .tc main_v17) := by
  funext y
  exact congrArg (W c (Proc.devRef .tc main_v17)) (funext fun a => Fin.ext ((cfg2.win 6).rect_emb_val_of_index_zero t a (by fin_cases a <;> rfl) y))

theorem dec_8 (t : Fin cfg2.N) : Decode.stg8 W c t = W c (Proc.devRef .tc main_arg13) := by
  funext y
  exact congrArg (W c (Proc.devRef .tc main_arg13)) (funext fun a => Fin.ext ((cfg2.win 8).rect_emb_val_of_index_zero t a (by fin_cases a <;> rfl) y))

theorem dec_9 (t : Fin cfg2.N) : Decode.stg9 W c t = W c (Proc.devRef .tc main_v18) := by
  funext y
  exact congrArg (W c (Proc.devRef .tc main_v18)) (funext fun a => Fin.ext ((cfg2.win 9).rect_emb_val_of_index_zero t a (by fin_cases a <;> rfl) y))

theorem dec_10 (t : Fin cfg2.N) : Decode.stg10 W c t = W c (Proc.devRef .tc main_arg15) := by
  funext y
  exact congrArg (W c (Proc.devRef .tc main_arg15)) (funext fun a => Fin.ext ((cfg2.win 10).rect_emb_val_of_index_zero t a (by fin_cases a <;> rfl) y))

theorem dec_11 (t : Fin cfg2.N) : Decode.stg11 W c t = W c (Proc.devRef .tc main_v19) := by
  funext y
  exact congrArg (W c (Proc.devRef .tc main_v19)) (funext fun a => Fin.ext ((cfg2.win 11).rect_emb_val_of_index_zero t a (by fin_cases a <;> rfl) y))

theorem dec_12 (t : Fin cfg2.N) : Decode.stg12 W c t = W c (Proc.devRef .tc main_v20) := by
  funext y
  exact congrArg (W c (Proc.devRef .tc main_v20)) (funext fun a => Fin.ext ((cfg2.win 12).rect_emb_val_of_index_zero t a (by fin_cases a <;> rfl) y))

theorem dec_13 (t : Fin cfg2.N) : Decode.stg13 W c t = W c (Proc.devRef .tc main_v21) := by
  funext y
  exact congrArg (W c (Proc.devRef .tc main_v21)) (funext fun a => Fin.ext ((cfg2.win 13).rect_emb_val_of_index_zero t a (by fin_cases a <;> rfl) y))

theorem dec_14 (t : Fin cfg2.N) : Decode.stg14 W c t = W c (Proc.devRef .tc main_arg19) := by
  funext y
  exact congrArg (W c (Proc.devRef .tc main_arg19)) (funext fun a => Fin.ext ((cfg2.win 14).rect_emb_val_of_index_zero t a (by fin_cases a <;> rfl) y))

theorem dec_15 (t : Fin cfg2.N) : Decode.stg15 W c t = W c (Proc.devRef .tc main_v22) := by
  funext y
  exact congrArg (W c (Proc.devRef .tc main_v22)) (funext fun a => Fin.ext ((cfg2.win 15).rect_emb_val_of_index_zero t a (by fin_cases a <;> rfl) y))

theorem dec_16 (t : Fin cfg2.N) : Decode.stg16 W c t = W c (Proc.devRef .tc main_arg8) := by
  funext y
  exact congrArg (W c (Proc.devRef .tc main_arg8)) (funext fun a => Fin.ext ((cfg2.win 16).rect_emb_val_of_index_zero t a (by fin_cases a <;> rfl) y))

theorem dec_17 (t : Fin cfg2.N) : Decode.stg17 W c t = W c (Proc.devRef .tc main_v23) := by
  funext y
  exact congrArg (W c (Proc.devRef .tc main_v23)) (funext fun a => Fin.ext ((cfg2.win 17).rect_emb_val_of_index_zero t a (by fin_cases a <;> rfl) y))

theorem ix_0 : ∀ t : Fin cfg2.N, (cfg2.win 0).index t (0 : Fin 3) = t.val := by decide

theorem dec_0 (t : Fin cfg2.N) (r : Fin 512) (k : Fin 128) :
    Decode.stg0 W c t (ix3 (0 : Fin 1) r k) = (show FVec F ⟨3, ![8, 512, 128]⟩ .f32 from W c (Proc.devRef .tc main_v13)) (ix3 (⟨t.val, t.isLt⟩ : Fin 8) r k) := by
  refine congrArg (W c (Proc.devRef .tc main_v13)) (funext fun a => Fin.ext ?_)
  match a with
  | ⟨0, _⟩ =>
    refine ((cfg2.win 0).rect_emb_val t _ _).trans ?_
    exact (congrArg (fun v => v * 1 + 0) (ix_0 t)).trans (show t.val * 1 + 0 = t.val by omega)
  | ⟨1, _⟩ => exact (cfg2.win 0).rect_emb_val_of_index_zero t _ rfl _
  | ⟨2, _⟩ => exact (cfg2.win 0).rect_emb_val_of_index_zero t _ rfl _

theorem ix_7 : ∀ t : Fin cfg2.N, (cfg2.win 7).index t (0 : Fin 3) = t.val := by decide

theorem dec_7 (t : Fin cfg2.N) (r : Fin 4) (k : Fin 128) :
    Decode.stg7 W c t (ix3 (0 : Fin 1) r k) = (show FVec F ⟨3, ![8, 4, 128]⟩ .f32 from W c (Proc.devRef .tc main_v12_0)) (ix3 (⟨t.val, t.isLt⟩ : Fin 8) r k) := by
  refine congrArg (W c (Proc.devRef .tc main_v12_0)) (funext fun a => Fin.ext ?_)
  match a with
  | ⟨0, _⟩ =>
    refine ((cfg2.win 7).rect_emb_val t _ _).trans ?_
    exact (congrArg (fun v => v * 1 + 0) (ix_7 t)).trans (show t.val * 1 + 0 = t.val by omega)
  | ⟨1, _⟩ => exact (cfg2.win 7).rect_emb_val_of_index_zero t _ rfl _
  | ⟨2, _⟩ => exact (cfg2.win 7).rect_emb_val_of_index_zero t _ rfl _

theorem ix_18 : ∀ t : Fin cfg2.N, (cfg2.win 18).index t (0 : Fin 3) = t.val := by decide

/-- The logits, point by point. -/
def logits : S8x512x8192.Idx → Elt F .f32 := fun i =>
  Decode.logitsAt W c (⟨(i 0).val, (i 0).isLt⟩ : Fin cfg2.N) (ix3 (0 : Fin 1) (⟨(i 1).val, (i 1).isLt⟩ : Fin 512) (⟨(i 2).val, (i 2).isLt⟩ : Fin 8192))

theorem emb_18 (t : Fin cfg2.N) (y : S1x512x8192.Idx) :
    ((cfg2.win 18).rect t).emb y = (ix3 (⟨t.val, t.isLt⟩ : Fin 8) (⟨(y 1).val, (y 1).isLt⟩ : Fin 512) (⟨(y 2).val, (y 2).isLt⟩ : Fin 8192) : S8x512x8192.Idx) := by
  funext a
  refine Fin.ext ?_
  match a with
  | ⟨0, _⟩ =>
    refine ((cfg2.win 18).rect_emb_val t _ _).trans ?_
    have h : (y 0).val < 1 := (y 0).isLt
    exact (congrArg (fun v => v * 1 + (y 0).val) (ix_18 t)).trans (show t.val * 1 + (y 0).val = t.val by omega)
  | ⟨1, _⟩ => exact (cfg2.win 18).rect_emb_val_of_index_zero t _ rfl _
  | ⟨2, _⟩ => exact (cfg2.win 18).rect_emb_val_of_index_zero t _ rfl _

theorem mem_of_emb {κ : Kind} {sp : Space} {s : Shape} {e : EltTy} (v : View sig κ sp s e) (y : s.Idx) (i : v.ty.shape.Idx) (h : v.emb y = i) : i ∈ v.set :=
  h ▸ v.emb_mem_set y

theorem cover_18 (i : S8x512x8192.Idx) : ∃ t : Fin cfg2.N, (cfg2.win 18).flush t = true ∧ i ∈ ((cfg2.win 18).blk t).view.set := by
  refine ⟨(⟨(i 0).val, (i 0).isLt⟩ : Fin cfg2.N), flush2_18 _, ?_⟩
  have e : ((cfg2.win 18).rect (⟨(i 0).val, (i 0).isLt⟩ : Fin cfg2.N)).emb
      (ix3 (0 : Fin 1) (⟨(i 1).val, (i 1).isLt⟩ : Fin 512) (⟨(i 2).val, (i 2).isLt⟩ : Fin 8192) : S1x512x8192.Idx) = i :=
    (emb_18 _ _).trans (funext fun a => by match a with | ⟨0, _⟩ => rfl | ⟨1, _⟩ => rfl | ⟨2, _⟩ => rfl)
  exact mem_of_emb ((cfg2.win 18).blk (⟨(i 0).val, (i 0).isLt⟩ : Fin cfg2.N)).view _ i e

theorem dec_18 : (Decode.dat W c).arrAt 18 cfg2.N = logits W c := by
  refine (Decode.dat W c).arrAt_eq_of_cover 18 (logits W c) (fun t _ => ?_) (fun i => ?_)
  · show (cfg2.win 18).cut (cfg2.grid.coords t) (Decode.after W c 18 t) = _
    rw [Decode.after_out]
    funext y
    refine Eq.trans ?_ (congrArg (logits W c) (emb_18 t y)).symm
    refine congrArg (Decode.logitsAt W c t) (funext fun a => Fin.ext ?_)
    match a with
    | ⟨0, _⟩ =>
      have h : (y 0).val < 1 := (y 0).isLt
      show (y 0).val = 0
      omega
    | ⟨1, _⟩ => rfl
    | ⟨2, _⟩ => rfl
  · exact cover_18 i

/-- The one point of the recurrence's call. -/
abbrev pt : Fin cfg1.N := ⟨0, by decide⟩

theorem rec_17 : (Recur.dat W c).arrAt 17 cfg1.N = (Recur.outAt W c pt).1 := by
  refine (Recur.dat W c).arrAt_eq_of_cover 17 (Recur.outAt W c pt).1 (fun t _ => ?_) (fun i => ?_)
  · have ht : t = pt := Fin.ext (by have h : t.val < 1 := lt_of_lt_of_eq t.isLt N_1; show t.val = 0; omega)
    subst ht
    show (cfg1.win 17).cut (cfg1.grid.coords pt) (Recur.after W c 17 pt) = _
    rw [Recur.after_retr]
    funext y
    exact congrArg (Recur.outAt W c pt).1 (funext fun a => Fin.ext ((cfg1.win 17).rect_emb_val_of_index_zero pt a (by fin_cases a <;> rfl) y).symm)
  · refine ⟨pt, flush1_17 _, ?_⟩
    have h := (((cfg1.win 17).blk pt).view).emb_mem_set (show S8x4x128.Idx from i)
    exact (show _ = i from funext fun a => Fin.ext ((cfg1.win 17).rect_emb_val_of_index_zero pt a (by fin_cases a <;> rfl) _)) ▸ h

theorem rec_18 : (Recur.dat W c).arrAt 18 cfg1.N = (Recur.outAt W c pt).2 := by
  refine (Recur.dat W c).arrAt_eq_of_cover 18 (Recur.outAt W c pt).2 (fun t _ => ?_) (fun i => ?_)
  · have ht : t = pt := Fin.ext (by have h : t.val < 1 := lt_of_lt_of_eq t.isLt N_1; show t.val = 0; omega)
    subst ht
    show (cfg1.win 18).cut (cfg1.grid.coords pt) (Recur.after W c 18 pt) = _
    rw [Recur.after_starts]
    funext y
    exact congrArg (Recur.outAt W c pt).2 (funext fun a => Fin.ext ((cfg1.win 18).rect_emb_val_of_index_zero pt a (by fin_cases a <;> rfl) y).symm)
  · refine ⟨pt, flush1_18 _, ?_⟩
    have h := (((cfg1.win 18).blk pt).view).emb_mem_set (show S8x128.Idx from i)
    exact (show _ = i from funext fun a => Fin.ext ((cfg1.win 18).rect_emb_val_of_index_zero pt a (by fin_cases a <;> rfl) _)) ▸ h

end Cert.Proof.Blocks
-- ==== Proof.Arrays.lean ====
module

public import proofs.«01_k».proof.Proof.Blocks
public import Idealize.ShloMosaic.Lib.StableHlo.RunRead

/-!
What each array holds before, between and after the kernel's calls, in terms of the arguments.
-/

@[expose] public section

set_option maxRecDepth 16384

noncomputable section

namespace Cert.Proof.Arrays

open Cert.KernelIdeal Cert.KernelIdeal.Gen
open Idealize.ShloMosaic Idealize.ShloMosaic.ValueIdx
open Cert.Proof.Run

variable {F : FTy → Type} [FloatOps F]
variable (m : (ℓ : Loc nD τ sig) → Buf (Elt F) ℓ) (d : Dev nD)

theorem keep2 (r : Ref sig .tc) (h : r ∉ [main_v0, main_v1]) : V₂ m d (Proc.devRef .tc r) = m (d, Proc.devRef .tc r) := by
  have h0 : r ≠ main_v0 := fun e => h (by simp [e])
  have h1 : r ≠ main_v1 := fun e => h (by simp [e])
  exact (Function.update_of_ne (fun e => h1 (Proc.devRef_injective _ e)) _ _).trans (V₁_ne m d h0)

theorem keep3 (r : Ref sig .tc) (h : r ∉ [main_v2, main_v3, main_v4, main_v5, main_v6, main_v7, main_v8, main_v9, main_v10, main_v11]) :
    V₃ m d (Proc.devRef .tc r) = V₂ m d (Proc.devRef .tc r) := by
  unfold V₃ host1
  simp only [List.mem_cons, List.not_mem_nil, or_false, not_or] at h
  obtain ⟨h1, h2, h3, h4, h5, h6, h7, h8, h9, h10⟩ := h
  simp only [StableHlo.after_cons, StableHlo.after_nil]
  repeat rw [StableHlo.reshape_result_ne _ _ _ _ _ _ _ (by assumption)]

theorem keep4 (r : Ref sig .tc) (h : r ∉ [main_v12_0, main_v12_1]) : V₄ m d (Proc.devRef .tc r) = V₃ m d (Proc.devRef .tc r) := by
  have ho : ∀ w : Fin 19, (cfg1.win w).isOut = true → Pipeline.arrRef spec1 w ∈ [main_v12_0, main_v12_1] := by decide
  refine Pipeline.afterRegion_keeps (Recur.dat (V₃ m) d) (V₃ m d) winFacts1.arr_inj (fun _ => rfl) r fun w e => ?_
  rw [Bool.eq_false_iff]
  exact fun hw => h (e ▸ ho w hw)

theorem keep5 (r : Ref sig .tc) (h : r ∉ [main_v13, main_v14, main_v15, main_v16, main_v17, main_v18, main_v19, main_v20, main_v21, main_v22, main_v23]) :
    V₅ m d (Proc.devRef .tc r) = V₄ m d (Proc.devRef .tc r) := by
  unfold V₅ host2
  simp only [List.mem_cons, List.not_mem_nil, or_false, not_or] at h
  obtain ⟨h1, h2, h3, h4, h5, h6, h7, h8, h9, h10, h11⟩ := h
  simp only [StableHlo.after_cons, StableHlo.after_nil]
  repeat rw [StableHlo.reshape_result_ne _ _ _ _ _ _ _ (by assumption)]

theorem keep6 (r : Ref sig .tc) (h : r ≠ main_v24) : V₆ m d (Proc.devRef .tc r) = V₅ m d (Proc.devRef .tc r) := by
  have ho : ∀ w : Fin 19, (cfg2.win w).isOut = true → Pipeline.arrRef spec2 w = main_v24 := by decide
  refine Pipeline.afterRegion_keeps (Decode.dat (V₅ m) d) (V₅ m d) winFacts2.arr_inj (fun _ => rfl) r fun w e => ?_
  rw [Bool.eq_false_iff]
  exact fun hw => h (e ▸ ho w hw)

theorem keep7 (r : Ref sig .tc) (h : r ≠ main_v25) : V₇ m d (Proc.devRef .tc r) = V₆ m d (Proc.devRef .tc r) := by
  unfold V₇ cut
  exact StableHlo.unary_result_ne _ _ _ _ _ _ h

/-- The references the program writes. -/
abbrev written : List (Ref sig .tc) := [main_v0, main_v1, main_v2, main_v3, main_v4, main_v5, main_v6, main_v7, main_v8, main_v9, main_v10, main_v11,
  main_v12_0, main_v12_1, main_v13, main_v14, main_v15, main_v16, main_v17, main_v18, main_v19, main_v20, main_v21, main_v22, main_v23, main_v24, main_v25]

theorem arg3 (r : Ref sig .tc) (h : r ∉ written) : V₃ m d (Proc.devRef .tc r) = m (d, Proc.devRef .tc r) :=
  (keep3 m d r fun e => h (by revert e; simp only [written, List.mem_cons, List.not_mem_nil, or_false]; tauto)).trans
    (keep2 m d r fun e => h (by revert e; simp only [written, List.mem_cons, List.not_mem_nil, or_false]; tauto))

theorem arg4 (r : Ref sig .tc) (h : r ∉ written) : V₄ m d (Proc.devRef .tc r) = m (d, Proc.devRef .tc r) :=
  (keep4 m d r fun e => h (by revert e; simp only [written, List.mem_cons, List.not_mem_nil, or_false]; tauto)).trans (arg3 m d r h)

theorem arg5 (r : Ref sig .tc) (h : r ∉ written) : V₅ m d (Proc.devRef .tc r) = m (d, Proc.devRef .tc r) :=
  (keep5 m d r fun e => h (by revert e; simp only [written, List.mem_cons, List.not_mem_nil, or_false]; tauto)).trans (arg4 m d r h)

theorem arg7 (r : Ref sig .tc) (h : r ∉ written) : V₇ m d (Proc.devRef .tc r) = m (d, Proc.devRef .tc r) :=
  (keep7 m d r fun e => h (by simp [e])).trans ((keep6 m d r fun e => h (by simp [e])).trans (arg5 m d r h))

/-! ## The reshapes -/

theorem v2 : V₃ m d (Proc.devRef .tc main_v2) = shapeCast S1x512 (show S512.Idx → Elt F .f32 from m (d, Proc.devRef .tc main_arg3)) shapeCasts_S512_S1x512 := by
  have e : V₃ m d (Proc.devRef .tc main_v2) = shapeCast S1x512 (show S512.Idx → Elt F .f32 from V₂ m d (Proc.devRef .tc main_arg3)) shapeCasts_S512_S1x512 := by
    unfold V₃ host1
    after_reads_simp
    rfl
  rw [e, keep2 m d main_arg3 (by decide)]

theorem v3 : V₃ m d (Proc.devRef .tc main_v3) = shapeCast S1x128 (show S128.Idx → Elt F .f32 from m (d, Proc.devRef .tc main_arg5)) shapeCasts_S128_S1x128 := by
  have e : V₃ m d (Proc.devRef .tc main_v3) = shapeCast S1x128 (show S128.Idx → Elt F .f32 from V₂ m d (Proc.devRef .tc main_arg5)) shapeCasts_S128_S1x128 := by
    unfold V₃ host1
    after_reads_simp
    rfl
  rw [e, keep2 m d main_arg5 (by decide)]

theorem v4 : V₃ m d (Proc.devRef .tc main_v4) = shapeCast S1x128 (show S128.Idx → Elt F .f32 from m (d, Proc.devRef .tc main_arg6)) shapeCasts_S128_S1x128 := by
  have e : V₃ m d (Proc.devRef .tc main_v4) = shapeCast S1x128 (show S128.Idx → Elt F .f32 from V₂ m d (Proc.devRef .tc main_arg6)) shapeCasts_S128_S1x128 := by
    unfold V₃ host1
    after_reads_simp
    rfl
  rw [e, keep2 m d main_arg6 (by decide)]

theorem v5 : V₃ m d (Proc.devRef .tc main_v5) = shapeCast S1x128 (show S128.Idx → Elt F .f32 from m (d, Proc.devRef .tc main_arg7)) shapeCasts_S128_S1x128 := by
  have e : V₃ m d (Proc.devRef .tc main_v5) = shapeCast S1x128 (show S128.Idx → Elt F .f32 from V₂ m d (Proc.devRef .tc main_arg7)) shapeCasts_S128_S1x128 := by
    unfold V₃ host1
    after_reads_simp
    rfl
  rw [e, keep2 m d main_arg7 (by decide)]

theorem v6 : V₃ m d (Proc.devRef .tc main_v6) = shapeCast S1x2 (show S2.Idx → Elt F .f32 from m (d, Proc.devRef .tc main_arg11)) shapeCasts_S2_S1x2 := by
  have e : V₃ m d (Proc.devRef .tc main_v6) = shapeCast S1x2 (show S2.Idx → Elt F .f32 from V₂ m d (Proc.devRef .tc main_arg11)) shapeCasts_S2_S1x2 := by
    unfold V₃ host1
    after_reads_simp
    rfl
  rw [e, keep2 m d main_arg11 (by decide)]

theorem v7 : V₃ m d (Proc.devRef .tc main_v7) = shapeCast S1x128 (show S128.Idx → Elt F .f32 from m (d, Proc.devRef .tc main_arg14)) shapeCasts_S128_S1x128 := by
  have e : V₃ m d (Proc.devRef .tc main_v7) = shapeCast S1x128 (show S128.Idx → Elt F .f32 from V₂ m d (Proc.devRef .tc main_arg14)) shapeCasts_S128_S1x128 := by
    unfold V₃ host1
    after_reads_simp
    rfl
  rw [e, keep2 m d main_arg14 (by decide)]

theorem v8 : V₃ m d (Proc.devRef .tc main_v8) = shapeCast S1x128 (show S128.Idx → Elt F .f32 from m (d, Proc.devRef .tc main_arg16)) shapeCasts_S128_S1x128 := by
  have e : V₃ m d (Proc.devRef .tc main_v8) = shapeCast S1x128 (show S128.Idx → Elt F .f32 from V₂ m d (Proc.devRef .tc main_arg16)) shapeCasts_S128_S1x128 := by
    unfold V₃ host1
    after_reads_simp
    rfl
  rw [e, keep2 m d main_arg16 (by decide)]

theorem v9 : V₃ m d (Proc.devRef .tc main_v9) = shapeCast S1x128 (show S128.Idx → Elt F .f32 from m (d, Proc.devRef .tc main_arg17)) shapeCasts_S128_S1x128 := by
  have e : V₃ m d (Proc.devRef .tc main_v9) = shapeCast S1x128 (show S128.Idx → Elt F .f32 from V₂ m d (Proc.devRef .tc main_arg17)) shapeCasts_S128_S1x128 := by
    unfold V₃ host1
    after_reads_simp
    rfl
  rw [e, keep2 m d main_arg17 (by decide)]

theorem v10 : V₃ m d (Proc.devRef .tc main_v10) = shapeCast S1x128 (show S128.Idx → Elt F .f32 from m (d, Proc.devRef .tc main_arg18)) shapeCasts_S128_S1x128 := by
  have e : V₃ m d (Proc.devRef .tc main_v10) = shapeCast S1x128 (show S128.Idx → Elt F .f32 from V₂ m d (Proc.devRef .tc main_arg18)) shapeCasts_S128_S1x128 := by
    unfold V₃ host1
    after_reads_simp
    rfl
  rw [e, keep2 m d main_arg18 (by decide)]

theorem v11 : V₃ m d (Proc.devRef .tc main_v11) = shapeCast S1x1 (show S1.Idx → Elt F .f32 from m (d, Proc.devRef .tc main_arg20)) shapeCasts_S1_S1x1 := by
  have e : V₃ m d (Proc.devRef .tc main_v11) = shapeCast S1x1 (show S1.Idx → Elt F .f32 from V₂ m d (Proc.devRef .tc main_arg20)) shapeCasts_S1_S1x1 := by
    unfold V₃ host1
    after_reads_simp
    rfl
  rw [e, keep2 m d main_arg20 (by decide)]

theorem v14 : V₅ m d (Proc.devRef .tc main_v14) = shapeCast S1x512 (show S512.Idx → Elt F .f32 from m (d, Proc.devRef .tc main_arg3)) shapeCasts_S512_S1x512 := by
  have e : V₅ m d (Proc.devRef .tc main_v14) = shapeCast S1x512 (show S512.Idx → Elt F .f32 from V₄ m d (Proc.devRef .tc main_arg3)) shapeCasts_S512_S1x512 := by
    unfold V₅ host2
    after_reads_simp
    rfl
  rw [e, arg4 m d main_arg3 (by decide)]

theorem v15 : V₅ m d (Proc.devRef .tc main_v15) = shapeCast S1x128 (show S128.Idx → Elt F .f32 from m (d, Proc.devRef .tc main_arg5)) shapeCasts_S128_S1x128 := by
  have e : V₅ m d (Proc.devRef .tc main_v15) = shapeCast S1x128 (show S128.Idx → Elt F .f32 from V₄ m d (Proc.devRef .tc main_arg5)) shapeCasts_S128_S1x128 := by
    unfold V₅ host2
    after_reads_simp
    rfl
  rw [e, arg4 m d main_arg5 (by decide)]

theorem v16 : V₅ m d (Proc.devRef .tc main_v16) = shapeCast S1x128 (show S128.Idx → Elt F .f32 from m (d, Proc.devRef .tc main_arg6)) shapeCasts_S128_S1x128 := by
  have e : V₅ m d (Proc.devRef .tc main_v16) = shapeCast S1x128 (show S128.Idx → Elt F .f32 from V₄ m d (Proc.devRef .tc main_arg6)) shapeCasts_S128_S1x128 := by
    unfold V₅ host2
    after_reads_simp
    rfl
  rw [e, arg4 m d main_arg6 (by decide)]

theorem v17 : V₅ m d (Proc.devRef .tc main_v17) = shapeCast S1x128 (show S128.Idx → Elt F .f32 from m (d, Proc.devRef .tc main_arg7)) shapeCasts_S128_S1x128 := by
  have e : V₅ m d (Proc.devRef .tc main_v17) = shapeCast S1x128 (show S128.Idx → Elt F .f32 from V₄ m d (Proc.devRef .tc main_arg7)) shapeCasts_S128_S1x128 := by
    unfold V₅ host2
    after_reads_simp
    rfl
  rw [e, arg4 m d main_arg7 (by decide)]

theorem v18 : V₅ m d (Proc.devRef .tc main_v18) = shapeCast S1x128 (show S128.Idx → Elt F .f32 from m (d, Proc.devRef .tc main_arg14)) shapeCasts_S128_S1x128 := by
  have e : V₅ m d (Proc.devRef .tc main_v18) = shapeCast S1x128 (show S128.Idx → Elt F .f32 from V₄ m d (Proc.devRef .tc main_arg14)) shapeCasts_S128_S1x128 := by
    unfold V₅ host2
    after_reads_simp
    rfl
  rw [e, arg4 m d main_arg14 (by decide)]

theorem v19 : V₅ m d (Proc.devRef .tc main_v19) = shapeCast S1x128 (show S128.Idx → Elt F .f32 from m (d, Proc.devRef .tc main_arg16)) shapeCasts_S128_S1x128 := by
  have e : V₅ m d (Proc.devRef .tc main_v19) = shapeCast S1x128 (show S128.Idx → Elt F .f32 from V₄ m d (Proc.devRef .tc main_arg16)) shapeCasts_S128_S1x128 := by
    unfold V₅ host2
    after_reads_simp
    rfl
  rw [e, arg4 m d main_arg16 (by decide)]

theorem v20 : V₅ m d (Proc.devRef .tc main_v20) = shapeCast S1x128 (show S128.Idx → Elt F .f32 from m (d, Proc.devRef .tc main_arg17)) shapeCasts_S128_S1x128 := by
  have e : V₅ m d (Proc.devRef .tc main_v20) = shapeCast S1x128 (show S128.Idx → Elt F .f32 from V₄ m d (Proc.devRef .tc main_arg17)) shapeCasts_S128_S1x128 := by
    unfold V₅ host2
    after_reads_simp
    rfl
  rw [e, arg4 m d main_arg17 (by decide)]

theorem v21 : V₅ m d (Proc.devRef .tc main_v21) = shapeCast S1x128 (show S128.Idx → Elt F .f32 from m (d, Proc.devRef .tc main_arg18)) shapeCasts_S128_S1x128 := by
  have e : V₅ m d (Proc.devRef .tc main_v21) = shapeCast S1x128 (show S128.Idx → Elt F .f32 from V₄ m d (Proc.devRef .tc main_arg18)) shapeCasts_S128_S1x128 := by
    unfold V₅ host2
    after_reads_simp
    rfl
  rw [e, arg4 m d main_arg18 (by decide)]

theorem v22 : V₅ m d (Proc.devRef .tc main_v22) = shapeCast S1x1 (show S1.Idx → Elt F .f32 from m (d, Proc.devRef .tc main_arg20)) shapeCasts_S1_S1x1 := by
  have e : V₅ m d (Proc.devRef .tc main_v22) = shapeCast S1x1 (show S1.Idx → Elt F .f32 from V₄ m d (Proc.devRef .tc main_arg20)) shapeCasts_S1_S1x1 := by
    unfold V₅ host2
    after_reads_simp
    rfl
  rw [e, arg4 m d main_arg20 (by decide)]

theorem v23 : V₅ m d (Proc.devRef .tc main_v23) = shapeCast S1x8192 (show S8192.Idx → Elt F .f32 from m (d, Proc.devRef .tc main_arg9)) shapeCasts_S8192_S1x8192 := by
  have e : V₅ m d (Proc.devRef .tc main_v23) = shapeCast S1x8192 (show S8192.Idx → Elt F .f32 from V₄ m d (Proc.devRef .tc main_arg9)) shapeCasts_S8192_S1x8192 := by
    unfold V₅ host2
    after_reads_simp
    rfl
  rw [e, arg4 m d main_arg9 (by decide)]

theorem v13 : V₅ m d (Proc.devRef .tc main_v13) = shapeCast S8x512x128 (Gather.G (fi m) (fx m) d) shapeCasts_S4096x128_S8x512x128 := by
  have e : V₅ m d (Proc.devRef .tc main_v13) = shapeCast S8x512x128 (show S4096x128.Idx → Elt F .f32 from V₄ m d (Proc.devRef .tc main_v1)) shapeCasts_S4096x128_S8x512x128 := by
    unfold V₅ host2
    after_reads_simp
    rfl
  have e1 : V₄ m d (Proc.devRef .tc main_v1) = Gather.G (fi m) (fx m) d :=
    (keep4 m d main_v1 (by decide)).trans ((keep3 m d main_v1 (by decide)).trans (Function.update_self _ _ _))
  rw [e, e1]

theorem v12_0 : V₅ m d (Proc.devRef .tc main_v12_0) = (Recur.outAt (V₃ m) d Blocks.pt).1 :=
  (keep5 m d main_v12_0 (by decide)).trans
    ((Pipeline.afterRegion_arr (Recur.dat (V₃ m) d) (V₃ m d) winFacts1.arr_inj 17).trans (Blocks.rec_17 (V₃ m) d))

theorem v12_1 : V₆ m d (Proc.devRef .tc main_v12_1) = (Recur.outAt (V₃ m) d Blocks.pt).2 :=
  (keep6 m d main_v12_1 (by decide)).trans ((keep5 m d main_v12_1 (by decide)).trans
    ((Pipeline.afterRegion_arr (Recur.dat (V₃ m) d) (V₃ m d) winFacts1.arr_inj 18).trans (Blocks.rec_18 (V₃ m) d)))

theorem v24 : V₇ m d (Proc.devRef .tc main_v24) = Blocks.logits (V₅ m) d :=
  (keep7 m d main_v24 (by decide)).trans
    ((Pipeline.afterRegion_arr (Decode.dat (V₅ m) d) (V₅ m d) winFacts2.arr_inj 18).trans (Blocks.dec_18 (V₅ m) d))

theorem v25 : V₇ m d (Proc.devRef .tc main_v25) = extractStridedSlice S8x4 ![0, 0] (Recur.outAt (V₃ m) d Blocks.pt).2 slices_S8x128_S8x4_0_0 := by
  unfold V₇ cut
  rw [StableHlo.unary_result', v12_1]

end Cert.Proof.Arrays
-- ==== Proof.Spec.lean ====
module

public import Idealize.ShloMosaic.Lib.Pointwise

/-!
What the model computes, one row at a time over the extended reals: the feed-forward block with its layer norm, the
retrieval of a window of the pool by a state row, and the halting step. Every program's tensors are read against these.
-/

@[expose] public section

noncomputable section

namespace Cert.Proof.Spec

open Idealize.ShloMosaic

abbrev E := EReal
abbrev Row (n : ℕ) := Fin n → E

/-- A constant of the programs, by its bit pattern. -/
noncomputable abbrev lit (b : BitVec 32) : E := Ideal.ofBits .f32 b

/-- The weights, each as a function of its plain coordinates. -/
structure Wts where
  w1 : Fin 128 → Fin 512 → E
  b1 : Row 512
  w2 : Fin 512 → Fin 128 → E
  b2 : Row 128
  g1 : Row 128
  be1 : Row 128
  widx : Fin 128 → Fin 2 → E
  bidx : Row 2
  wi1 : Fin 256 → Fin 128 → E
  bi1 : Row 128
  wi2 : Fin 128 → Fin 128 → E
  bi2 : Row 128
  g2 : Row 128
  be2 : Row 128
  wh : Row 128
  bh : E

/-- The tanh form of the Gaussian error linear unit. -/
noncomputable def gelu (v : E) : E :=
  v * (lit 0x3F000000#32 * (1 + Ideal.tanh (lit 0x3F4C422A#32 * (v + lit 0x3D372713#32 * (v * (v * v))))))

noncomputable def mean (x : Row 128) : E := Ideal.div (∑ i, x i) (lit 0x43000000#32)

noncomputable def var (x : Row 128) : E := Ideal.div (∑ i, (x i - mean x) * (x i - mean x)) (lit 0x43000000#32)

/-- The layer norm of a row. -/
noncomputable def ln (x g b : Row 128) : Row 128 := fun k =>
  Ideal.div (x k - mean x) (Ideal.sqrt (var x + lit 0x358637BD#32)) * g k + b k

/-- A linear layer's row. -/
noncomputable def lin {n m : ℕ} (x : Row n) (w : Fin n → Fin m → E) (b : Row m) : Row m := fun k =>
  (∑ i, x i * w i k) + b k

/-- A linear layer over two rows laid side by side. -/
noncomputable def lin2 (x y : Row 128) (w : Fin 256 → Fin 128 → E) (b : Row 128) : Row 128 := fun k =>
  ((∑ i : Fin 128, x i * w ⟨i.val, by omega⟩ k) + ∑ i : Fin 128, y i * w ⟨128 + i.val, by omega⟩ k) + b k

/-- The block's first half: the feed-forward layers, the residual and the norm. -/
noncomputable def ff (W : Wts) (x : Row 128) : Row 128 := fun k =>
  x k + lin (fun i => gelu (lin x W.w1 W.b1 i)) W.w2 W.b2 k

noncomputable def hid (W : Wts) (x : Row 128) : Row 128 := ln (ff W x) W.g1 W.be1

/-- A candidate state, from a state row and the retrieved row. -/
noncomputable def cand (W : Wts) (s r : Row 128) : Row 128 := fun k =>
  s k + ln (lin (fun i => gelu (lin2 s r W.wi1 W.bi1 i)) W.wi2 W.bi2) W.g2 W.be2 k

/-- The halting probability of a candidate. -/
noncomputable def prob (W : Wts) (c : Row 128) : E := Ideal.logistic ((∑ k, c k * W.wh k) + W.bh)

/-- The accumulated probability, the mask and the state after a step. -/
noncomputable def pNext (W : Wts) (p m : E) (c : Row 128) : E := p + prob W c * (1 - m)

noncomputable def mNext (W : Wts) (p m : E) (c : Row 128) : E :=
  Scalar.select (FloatOps.cmpf (F := Ideal) (φ := .f32) .oge (pNext W p m c) (lit 0x3F7D70A4#32)) 1 m

noncomputable def sNext (m : E) (c s : Row 128) : Row 128 := fun k => (1 - m) * c k + m * s k

/-- State, accumulated probability and mask. -/
structure St where
  s : Row 128
  p : E
  m : E

noncomputable def step (W : Wts) (r : Row 128) (q : St) : St :=
  ⟨sNext q.m (cand W q.s r) q.s, pNext W q.p q.m (cand W q.s r), mNext W q.p q.m (cand W q.s r)⟩

noncomputable def start₀ (W : Wts) (x : Row 128) : St := ⟨hid W x, 0, 0⟩

/-! ## The retrieval -/

noncomputable def raw (W : Wts) (s : Row 128) (a : Fin 2) : E := lin s W.widx W.bidx a

noncomputable def mu (W : Wts) (s : Row 128) : E := Ideal.logistic (raw W s 0)

noncomputable def softplus (x : E) : E := max x 0 + Ideal.log1p (Ideal.exp (-(max x (-x))))

noncomputable def sg (W : Wts) (s : Row 128) : E := softplus (raw W s 1) + lit 0x3A83126F#32

/-- The first row of the window. -/
noncomputable def start (W : Wts) (s : Row 128) : BitVec 32 :=
  IntOp.minsi 999936#32 (IntOp.maxsi 0#32 (Ideal.fptosi 32 (Ideal.liftRound Int.floor (mu W s * lit 0x49742000#32))))

/-- The exponent of the window's row `j`. -/
noncomputable def wlog (W : Wts) (s : Row 128) (j : Fin 64) : E :=
  let d := Ideal.div ((((start W s + BitVec.ofNat 32 j.val).toInt : ℝ)) : EReal) (lit 0x49742400#32) - mu W s
  Ideal.div (-(d * d)) (lit 0x40000000#32 * (sg W s * sg W s))

noncomputable def wexp (W : Wts) (s : Row 128) (j : Fin 64) : E :=
  Ideal.exp (wlog W s j - max (lit 0xFF800000#32) (Finset.univ.fold max (lit 0xFF800000#32) fun i => wlog W s i))

noncomputable def wgt (W : Wts) (s : Row 128) (j : Fin 64) : E := Ideal.div (wexp W s j) (∑ i, wexp W s i)

/-- The retrieved row: the window's rows, weighted. -/
noncomputable def retr (W : Wts) (pool : Fin 1000000 → Row 128) (s : Row 128) : Row 128 := fun k =>
  ∑ j : Fin 64, wgt W s j * pool ⟨((start W s).toNat + j.val) % 1000000, Nat.mod_lt _ (by norm_num)⟩ k

/-- The states of the recurrence on the sequence's last row. -/
noncomputable def lastSt (W : Wts) (pool : Fin 1000000 → Row 128) (x : Row 128) : ℕ → St
  | 0 => start₀ W x
  | l + 1 => step W (retr W pool (lastSt W pool x l).s) (lastSt W pool x l)

/-- The row retrieved in loop `l`. -/
noncomputable def retrAt (W : Wts) (pool : Fin 1000000 → Row 128) (x : Row 128) (l : ℕ) : Row 128 :=
  retr W pool (lastSt W pool x l).s

/-- A row's state after four steps with the rows `r` retrieved. -/
noncomputable def finalSt (W : Wts) (r : Fin 4 → Row 128) (x : Row 128) : St :=
  step W (r 3) (step W (r 2) (step W (r 1) (step W (r 0) (start₀ W x))))

end Cert.Proof.Spec
-- ==== Proof.RecurOps.lean ====
module

public import proofs.«01_k».proof.Proof.RecurRun
public import proofs.«01_k».proof.Proof.Spec

/-!
The recurrence kernel's own spelling of the retrieval: eight windows laid one above the other, weighted by a row of 512 that
is zero outside the row's own window; the window's rows' positions; and the guarded softplus.
-/

@[expose] public section

set_option maxRecDepth 16384

noncomputable section

namespace Cert.Proof.RecurOps

open Cert.KernelIdeal Cert.KernelIdeal.Gen
open Idealize.ShloMosaic
open Cert.Proof.Spec

/-- The normalised exponentials of a row of exponents. -/
noncomputable def smx (x : Row 64) : Row 64 := fun j =>
  Ideal.div (Ideal.exp (x j - max (lit 0xFF800000#32) (Finset.univ.fold max (lit 0xFF800000#32) fun i => x i)))
    (∑ i, Ideal.exp (x i - max (lit 0xFF800000#32) (Finset.univ.fold max (lit 0xFF800000#32) fun i => x i)))

theorem smx_wlog (W : Wts) (s : Row 128) : smx (wlog W s) = wgt W s := rfl

/-- A place's column within its window. -/
def inWin (q : Fin 512) : Fin 64 := ⟨q.val % 64, Nat.mod_lt _ (by norm_num)⟩

/-- Row `j` of window `b`. -/
def ofWin (b : Fin 8) (j : Fin 64) : Fin 512 := ⟨64 * b.val + j.val, by omega⟩

/-- A sum over all places, of a factor that is zero outside window `b`, is the window's. -/
theorem sum_window (m : Fin 512 → BitVec 1) (w : Row 64) (f : Fin 512 → E) (b : Fin 8)
    (hm : ∀ q : Fin 512, m q = BitVec.ofBool (decide (q.val / 64 = b.val))) :
    ∑ q : Fin 512, Scalar.select (m q) (w (inWin q)) 0 * f q = ∑ j : Fin 64, w j * f (ofWin b j) := by
  have h1 : ∀ q : Fin 512, Scalar.select (m q) (w (inWin q)) 0 * f q = if q.val / 64 = b.val then w (inWin q) * f q else 0 := by
    intro q
    rw [hm q]
    by_cases h : q.val / 64 = b.val
    · rw [if_pos h]; simp [h, Scalar.select]
    · rw [if_neg h]; simp [h, Scalar.select]
  rw [Finset.sum_congr rfl fun q _ => h1 q, ← Finset.sum_filter]
  refine Finset.sum_bij' (fun q _ => inWin q) (fun j _ => ofWin b j) ?_ ?_ ?_ ?_ ?_
  · intro q _; exact Finset.mem_univ _
  · intro j _
    refine Finset.mem_filter.2 ⟨Finset.mem_univ _, ?_⟩
    show (64 * b.val + j.val) / 64 = b.val
    have := j.isLt; omega
  · intro q hq
    have := (Finset.mem_filter.1 hq).2
    apply Fin.ext
    show 64 * b.val + q.val % 64 = q.val
    omega
  · intro j _
    apply Fin.ext
    show (64 * b.val + j.val) % 64 = j.val
    have := j.isLt; omega
  · intro q hq
    have := (Finset.mem_filter.1 hq).2
    have e : ofWin b (inWin q) = q := by apply Fin.ext; show 64 * b.val + q.val % 64 = q.val; omega
    rw [e]

theorem dot_apply (S : FVec Ideal S8x512 .f32) (r : FVec Ideal S512x128 .f32) (b : Fin 8) (k : Fin 128) :
    matmul dot_S8x512_S512x128_S8x128_1_0_0_1_n_n none S r (constant S8x128 .f32 0x00000000#32) (ix2 b k) = ∑ q : Fin 512, S (ix2 b q) * r (ix2 q k) := by
  pointwise

theorem sel_apply (m : IVec S8x512 1) (v : FVec Ideal S8x64 .f32) (b : Fin 8) (q : Fin 512) :
    select m (concatenate S8x512 1 [⟨S8x64, v⟩, ⟨S8x64, v⟩, ⟨S8x64, v⟩, ⟨S8x64, v⟩, ⟨S8x64, v⟩, ⟨S8x64, v⟩, ⟨S8x64, v⟩, ⟨S8x64, v⟩] concatenates_S8x64_S8x64_S8x64_S8x64_S8x64_S8x64_S8x64_S8x64_S8x512_d1)
      (broadcast S8x512 (Scalar.ofBits .f32 0x00000000#32)) (ix2 b q) = Scalar.select (m (ix2 b q)) (v (ix2 b (inWin q))) 0 := by
  have hq := q.isLt
  pointwise [inWin]
  split_ifs <;> (congr 3; try (apply Fin.ext; simp only []; omega))

theorem pay56_apply (m : IVec S8x512 1) (w : FVec Ideal S8x64 .f32) (r : Vec Ideal S512x128 .f32) (b : Fin 8)
    (hm : ∀ q : Fin 512, m (ix2 b q) = BitVec.ofBool (decide (q.val / 64 = b.val))) (k : Fin 128) :
    k1_pay56 m w r (ix2 b k) = ∑ j : Fin 64, smx (fun j => w (ix2 b j)) j * r (ix2 (ofWin b j) k) := by
  rw [← sum_window (fun q => m (ix2 b q)) (smx fun j => w (ix2 b j)) (fun q => r (ix2 q k)) b hm]
  unfold k1_pay56
  refine (dot_apply _ r b k).trans (Finset.sum_congr rfl fun q _ => ?_)
  congr 1
  refine (sel_apply m _ b q).trans ?_
  congr 1
  simp only [smx]
  pointwise

theorem pay39_eq (m : IVec S8x512 1) (n : FVec Ideal S8x64 .f32) (c : FVec Ideal S8x1 .f32) (r : Vec Ideal S512x128 .f32) :
    k1_pay39 m n c r = k1_pay56 m (divf n (broadcastTo S8x64 c broadcasts_S8x1_S8x64)) r := rfl

theorem pay20_eq (m : IVec S8x512 1) (c : FVec Ideal S8x1 .f32) (n : FVec Ideal S8x64 .f32) (t : Ideal .f32) (r : Vec Ideal S512x128 .f32) :
    k1_pay20 m c n t r = k1_pay39 m n (mulf (mulf (broadcast S8x1 t) c) c) r := rfl

/-- The places of window `b` are those marked `b`. -/
theorem mark_apply (b : Fin 8) (q : Fin 512) :
    k1_pay10 (iota .tc S8x512 32 [1] iota_S8x512_d1_w32) 64#32 k1_pay7 k1_pay8 k1_pay9 (ix2 b q) = BitVec.ofBool (decide (q.val / 64 = b.val)) := by
  pointwise [k1_pay10, k1_pay7, k1_pay8, k1_pay9]
  revert b q
  decide +kernel

theorem start_range (W : Wts) (s : Row 128) : 0 ≤ (start W s).toInt ∧ (start W s).toInt ≤ 999936 := by
  unfold start IntOp.minsi IntOp.maxsi
  generalize Ideal.fptosi 32 _ = z
  simp only [BitVec.slt]
  have h1 : (999936#32).toInt = 999936 := by decide
  have h2 : (0#32).toInt = 0 := by decide
  split_ifs with h3 h4 <;> simp only [h1, h2, decide_eq_true_eq] at * <;> omega

theorem pos_eq (W : Wts) (s : Row 128) (j : Fin 64) :
    (((start W s).toInt : ℝ) : EReal) + (((BitVec.ofNat 32 j.val).toInt : ℝ) : EReal) = (((start W s + BitVec.ofNat 32 j.val).toInt : ℝ) : EReal) := by
  obtain ⟨h0, h1⟩ := start_range W s
  rw [← EReal.coe_add, ← Int.cast_add]
  have hj : (BitVec.ofNat 32 j.val).toInt = j.val := by
    have := j.isLt
    rw [BitVec.toInt_eq_toNat_cond, BitVec.toNat_ofNat, Nat.mod_eq_of_lt (by omega)]
    rw [if_pos (by omega)]
  have hs : (start W s + BitVec.ofNat 32 j.val).toInt = (start W s).toInt + j.val := by
    have := j.isLt
    rw [BitVec.toInt_add, hj, Int.bmod_eq_of_le] <;> omega
  rw [hs, hj]

theorem guard_eq (x y z : E) : Scalar.select (FloatOps.cmpf (F := Ideal) (φ := .f32) .one x x) y z = z := by
  show Scalar.select (BitVec.ofBool (decide (x ≠ x))) y z = z
  simp [Scalar.select]

theorem guard_eq' (x y z : E) : Scalar.select (FloatOps.cmpf (F := Ideal) (φ := .f32) .une x x) y z = z := guard_eq x y z

end Cert.Proof.RecurOps
-- ==== Proof.RecurRows.lean ====
module

public import proofs.«01_k».proof.Proof.RecurOps

/-!
The recurrence kernel's blocks of eight rows, read a row at a time: each of the body's values at a row, and the body's two
results as the vectors retrieved in the four loops and the windows' first rows.
-/

@[expose] public section

set_option maxRecDepth 16384

noncomputable section

namespace Cert.Proof.RecurRows

open Cert.KernelIdeal Cert.KernelIdeal.Gen
open Idealize.ShloMosaic
open Cert.Proof Cert.Proof.Spec Cert.Proof.RecurOps Cert.Proof.Recur Cert.Proof.Copies

/-- Row `b` of a block of eight rows. -/
noncomputable def rowAt (x : FVec Ideal S8x128 .f32) (b : Fin 8) : Row 128 := fun k => x (ix2 b k)

/-- Row 0 of a bias kept as a single row. -/
noncomputable def flat {n : ℕ} (x : FVec Ideal ⟨2, ![1, n]⟩ .f32) : Row n := fun k => x (ix2 0 k)

noncomputable def mat {n m : ℕ} (x : FVec Ideal ⟨2, ![n, m]⟩ .f32) : Fin n → Fin m → E := fun i k => x (ix2 i k)

noncomputable def colAt (x : FVec Ideal S8x1 .f32) (b : Fin 8) : E := x (ix2 b 0)

noncomputable def wordAt (x : IVec S8x1 32) (b : Fin 8) : BitVec 32 := x (ix2 b 0)

noncomputable def expAt (x : FVec Ideal S8x64 .f32) (b : Fin 8) : Row 64 := fun j => x (ix2 b j)

/-- The unit's second factor, from the argument of the hyperbolic tangent. -/
noncomputable def half1 (t : E) : E := lit 0x3F000000#32 * (1 + Ideal.tanh t)

noncomputable def arg (v : E) : E := lit 0x3F4C422A#32 * (v + lit 0x3D372713#32 * (v * (v * v)))

theorem gelu_eq (v : E) : v * half1 (arg v) = gelu v := rfl

theorem gelu_eq' (v : E) : v * (lit 0x3F000000#32 * (1 + Ideal.tanh (arg v))) = gelu v := rfl

/-- A word brought into the range of the windows' first rows. -/
noncomputable def clip (z : BitVec 32) : BitVec 32 := IntOp.minsi 999936#32 (IntOp.maxsi 0#32 z)

/-- The word of a place in the pool. -/
noncomputable def place (m t : E) : BitVec 32 := Ideal.fptosi 32 (Ideal.liftRound Int.floor (m * t))

theorem clip_place (W : Wts) (s : Row 128) : clip (place (mu W s) (lit 0x49742000#32)) = start W s := rfl

/-- A squared distance's negative, the distance from a window's row at `p + j` to the place `m`. -/
noncomputable def dist2 (p : BitVec 32) (m : E) : Row 64 := fun j =>
  -((Ideal.div (((p.toInt : ℝ) : E) + (((BitVec.ofNat 32 j.val).toInt : ℝ) : E)) (lit 0x49742400#32) - m)
    * (Ideal.div (((p.toInt : ℝ) : E) + (((BitVec.ofNat 32 j.val).toInt : ℝ) : E)) (lit 0x49742400#32) - m))

theorem wlog_of (W : Wts) (s : Row 128) :
    (fun j => Ideal.div (dist2 (start W s) (mu W s) j) (lit 0x40000000#32 * sg W s * sg W s)) = wlog W s := by
  funext j
  simp only [dist2, wlog]
  rw [pos_eq, mul_assoc]

theorem sg_of (W : Wts) (s : Row 128) : softplus (raw W s 1) + lit 0x3A83126F#32 = sg W s := rfl

theorem mu_of (W : Wts) (s : Row 128) : Ideal.logistic (raw W s 0) = mu W s := rfl

/-- The pool's rows brought in for window `b`, one at a time. -/
theorem rows_apply (p : IVec S8x128 32) (fp : Vec Ideal S1000000x128 .f32) (b : Fin 8) (j : Fin 64) (k : Fin 128) :
    Pool.rows (wP p) fp (ix2 (ofWin b j) k) = fp (ix2 ⟨((p (ix2 b 0)).toNat + j.val) % 1000000, Nat.mod_lt _ (by norm_num)⟩ k) := by
  have hj := j.isLt
  have h1 : (64 * b.val + j.val) / 64 = b.val := by omega
  have h2 : (64 * b.val + j.val) % 64 = j.val := by omega
  unfold Pool.rows wP
  have e : ∀ (a b' : ℕ) (ha hb), a = b' → fp (ValueIdx.ix2 (⟨a, ha⟩ : Fin 1000000) k) = fp (ix2 ⟨b', hb⟩ k) := by
    intro a b' ha hb h; subst h; rw [ix2_eq_valueIdx]
  have e2 : ∀ (a : ℕ) (ha), a = b.val → p (ValueIdx.ix2 (⟨a, ha⟩ : Fin 8) 0) = p (ix2 b 0) := by
    intro a ha h
    have : (⟨a, ha⟩ : Fin 8) = b := Fin.ext h
    rw [this, ix2_eq_valueIdx]
  refine e _ _ _ _ ?_
  exact congrArg (· % 1000000) (congrArg₂ (· + ·) (congrArg BitVec.toNat (e2 _ _ h1)) h2)

/-- The weighted sum of window `b`'s rows, with the exponents and the first row of a state, is the vector that state retrieves. -/
theorem retr_of (W : Wts) (s : Row 128) (m : IVec S8x512 1) (w : FVec Ideal S8x64 .f32) (p : IVec S8x128 32) (fp : Vec Ideal S1000000x128 .f32) (b : Fin 8)
    (hm : ∀ q : Fin 512, m (ix2 b q) = BitVec.ofBool (decide (q.val / 64 = b.val))) (hw : expAt w b = wlog W s) (hp : p (ix2 b 0) = start W s) :
    rowAt (k1_pay56 m w (Pool.rows (wP p) fp)) b = retr W (fun a k => fp (ix2 a k)) s := by
  funext k
  unfold rowAt
  rw [pay56_apply m w _ b hm k]
  unfold retr
  have hw' : (fun j => w (ix2 b j)) = wlog W s := hw
  rw [hw', smx_wlog]
  refine Finset.sum_congr rfl fun j _ => ?_
  rw [rows_apply, hp]

theorem puts_0 (x y z w : Vec Ideal S8x1x128 .f32) (b : Fin 8) (k : Fin 128) : puts x y z w (ix3 b 0 k) = x (ix3 b 0 k) := by
  rw [ix3_eq_valueIdx, ix3_eq_valueIdx]; rfl

theorem puts_1 (x y z w : Vec Ideal S8x1x128 .f32) (b : Fin 8) (k : Fin 128) : puts x y z w (ix3 b 1 k) = y (ix3 b 0 k) := by
  rw [ix3_eq_valueIdx, ix3_eq_valueIdx]; rfl

theorem puts_2 (x y z w : Vec Ideal S8x1x128 .f32) (b : Fin 8) (k : Fin 128) : puts x y z w (ix3 b 2 k) = z (ix3 b 0 k) := by
  rw [ix3_eq_valueIdx, ix3_eq_valueIdx]; rfl

theorem puts_3 (x y z w : Vec Ideal S8x1x128 .f32) (b : Fin 8) (k : Fin 128) : puts x y z w (ix3 b 3 k) = w (ix3 b 0 k) := by
  rw [ix3_eq_valueIdx, ix3_eq_valueIdx]; rfl

theorem pay2_row (v48 : FVec Ideal S8x128 .f32) (w1 : Vec Ideal S128x512 .f32) (b1 : Vec Ideal S1x512 .f32) (w2 : Vec Ideal S512x128 .f32) (b : Fin 8) :
    rowAt (k1_pay2 v48 w1 b1 w2) b = fun k => ∑ i, gelu (lin (rowAt v48 b) (mat w1) (flat b1) i) * mat w2 i k := by
  funext k
  try simp only [rowAt, colAt, wordAt, expAt, flat, mat, lin, lin2, ln, mean, var, gelu, half1, arg, sNext, clip, place, dist2, softplus]
  pointwise [k1_pay2]
  all_goals rfl

theorem pay3_row (v48 : FVec Ideal S8x128 .f32) (v69 : FVec Ideal S8x128 .f32) (b2 : Vec Ideal S1x128 .f32) (g1 : Vec Ideal S1x128 .f32) (be1 : Vec Ideal S1x128 .f32) (b : Fin 8) :
    rowAt (k1_pay3 v48 v69 b2 g1 be1) b = ln (fun k => rowAt v48 b k + (rowAt v69 b k + flat b2 k)) (flat g1) (flat be1) := by
  funext k
  try simp only [rowAt, colAt, wordAt, expAt, flat, mat, lin, lin2, ln, mean, var, gelu, half1, arg, sNext, clip, place, dist2, softplus]
  pointwise [k1_pay3]
  all_goals rfl

theorem pay4_row  (b : Fin 8) :
    colAt (k1_pay4 (F := Ideal)) b = 0 := by
  try simp only [rowAt, colAt, wordAt, expAt, flat, mat, lin, lin2, ln, mean, var, gelu, half1, arg, sNext, clip, place, dist2, softplus]
  pointwise [k1_pay4]
  all_goals rfl

theorem pay5_row  (b : Fin 8) :
    colAt (k1_pay5 (F := Ideal)) b = 0 := by
  try simp only [rowAt, colAt, wordAt, expAt, flat, mat, lin, lin2, ln, mean, var, gelu, half1, arg, sNext, clip, place, dist2, softplus]
  pointwise [k1_pay5]
  all_goals rfl

theorem pay6_row  (b : Fin 8) :
    expAt (k1_pay6 (F := Ideal)) b = fun j => (((BitVec.ofNat 32 j.val).toInt : ℝ) : E) := by
  funext k
  try simp only [rowAt, colAt, wordAt, expAt, flat, mat, lin, lin2, ln, mean, var, gelu, half1, arg, sNext, clip, place, dist2, softplus]
  pointwise [k1_pay6]
  all_goals rfl

theorem pay12_row (v100 : FVec Ideal S8x128 .f32) (widx : Vec Ideal S128x2 .f32) (bidx : Vec Ideal S1x2 .f32) (b : Fin 8) (a : Fin 2) :
    (k1_pay12 v100 widx bidx) (ix2 b a) = lin (rowAt v100 b) (mat widx) (flat bidx) a := by
  try simp only [rowAt, colAt, wordAt, expAt, flat, mat, lin, lin2, ln, mean, var, gelu, half1, arg, sNext, clip, place, dist2, softplus]
  pointwise [k1_pay12]
  all_goals rfl

theorem pay13_row (v100 : FVec Ideal S8x128 .f32) (widx : Vec Ideal S128x2 .f32) (bidx : Vec Ideal S1x2 .f32) (b : Fin 8) :
    colAt (k1_pay13 v100 widx bidx) b = Ideal.logistic (k1_pay12 v100 widx bidx (ix2 b 0)) := by
  simp only [colAt]
  pointwise [k1_pay13]

theorem pay14_row (v100 : FVec Ideal S8x128 .f32) (widx : Vec Ideal S128x2 .f32) (bidx : Vec Ideal S1x2 .f32) (b : Fin 8) :
    colAt (k1_pay14 v100 widx bidx) b = softplus (k1_pay12 v100 widx bidx (ix2 b 1)) + lit 0x3A83126F#32 := by
  simp only [colAt, softplus]
  pointwise [k1_pay14]
  all_goals simp only [guard_eq, ne_eq, not_true_eq_false, if_false, sub_zero, zero_sub]
  all_goals rfl

theorem pay15_row  (b : Fin 8) :
    colAt (k1_pay15 (F := Ideal)) b = lit 0x49742000#32 := by
  try simp only [rowAt, colAt, wordAt, expAt, flat, mat, lin, lin2, ln, mean, var, gelu, half1, arg, sNext, clip, place, dist2, softplus]
  pointwise [k1_pay15]
  all_goals rfl

theorem pay16_row (v141 : FVec Ideal S8x1 .f32) (v159 : FVec Ideal S8x1 .f32) (b : Fin 8) :
    wordAt (k1_pay16 v141 v159) b = clip (place (colAt v141 b) (colAt v159 b)) := by
  try simp only [rowAt, colAt, wordAt, expAt, flat, mat, lin, lin2, ln, mean, var, gelu, half1, arg, sNext, clip, place, dist2, softplus]
  pointwise [k1_pay16]
  all_goals rfl

theorem pay17_row (v141 : FVec Ideal S8x1 .f32) (v159 : FVec Ideal S8x1 .f32) (b : Fin 8) :
    (k1_pay17 v141 v159) (ix2 b 0) = wordAt (k1_pay16 v141 v159) b := by
  try simp only [rowAt, colAt, wordAt, expAt, flat, mat, lin, lin2, ln, mean, var, gelu, half1, arg, sNext, clip, place, dist2, softplus]
  pointwise [k1_pay17]
  all_goals rfl

theorem pay18_row (v132 : IVec S8x128 32) (v133 : IVec S8x128 32) (v141 : FVec Ideal S8x1 .f32) (v159 : FVec Ideal S8x1 .f32) (b : Fin 8) (k : Fin 128) :
    (k1_pay18 v132 v133 v141 v159) (ix2 b k) = Scalar.select (IntOp.cmpi .eq (v133 (ix2 b k)) 0#32) (wordAt (k1_pay16 v141 v159) b) (v132 (ix2 b k)) := by
  try simp only [rowAt, colAt, wordAt, expAt, flat, mat, lin, lin2, ln, mean, var, gelu, half1, arg, sNext, clip, place, dist2, softplus]
  pointwise [k1_pay18]
  all_goals rfl

theorem pay19_row (v104 : FVec Ideal S8x64 .f32) (v141 : FVec Ideal S8x1 .f32) (v166 : IVec S8x1 32) (b : Fin 8) (h104 : expAt v104 b = fun j => (((BitVec.ofNat 32 j.val).toInt : ℝ) : E)) :
    expAt (k1_pay19 v104 v141 v166) b = dist2 (wordAt v166 b) (colAt v141 b) := by
  funext k
  have h (j : Fin 64) : v104 (ix2 b j) = (((BitVec.ofNat 32 j.val).toInt : ℝ) : E) := congrFun h104 j
  try simp only [rowAt, colAt, wordAt, expAt, flat, mat, lin, lin2, ln, mean, var, gelu, half1, arg, sNext, clip, place, dist2, softplus]
  pointwise [k1_pay19]
  all_goals simp only [h, zero_sub]
  all_goals rfl

theorem pay22_row (v100 : FVec Ideal S8x128 .f32) (v131 : IVec S8x512 1) (v158 : FVec Ideal S8x1 .f32) (v234 : FVec Ideal S8x64 .f32) (t : Ideal .f32) (R : FVec Ideal S512x128 .f32) (wi1 : Vec Ideal S256x128 .f32) (bi1 : Vec Ideal S1x128 .f32) (b : Fin 8) :
    rowAt (k1_pay22 v100 v131 v158 v234 t R wi1 bi1) b = lin2 (rowAt v100 b) (rowAt (k1_pay20 v131 v158 v234 t R) b) (mat wi1) (flat bi1) := by
  funext k
  try simp only [rowAt, colAt, wordAt, expAt, flat, mat, lin, lin2, ln, mean, var, gelu, half1, arg, sNext, clip, place, dist2, softplus]
  pointwise [k1_pay22]
  all_goals rfl

theorem pay23_row (v100 : FVec Ideal S8x128 .f32) (v131 : IVec S8x512 1) (v158 : FVec Ideal S8x1 .f32) (v234 : FVec Ideal S8x64 .f32) (t : Ideal .f32) (R : FVec Ideal S512x128 .f32) (wi1 : Vec Ideal S256x128 .f32) (bi1 : Vec Ideal S1x128 .f32) (b : Fin 8) :
    rowAt (k1_pay23 v100 v131 v158 v234 t R wi1 bi1) b = fun k => 1 + Ideal.tanh (arg (rowAt (k1_pay22 v100 v131 v158 v234 t R wi1 bi1) b k)) := by
  funext k
  try simp only [rowAt, colAt, wordAt, expAt, flat, mat, lin, lin2, ln, mean, var, gelu, half1, arg, sNext, clip, place, dist2, softplus]
  pointwise [k1_pay23]
  all_goals rfl

theorem pay24_row (v100 : FVec Ideal S8x128 .f32) (v265 : FVec Ideal S8x128 .f32) (v275 : FVec Ideal S8x128 .f32) (wi2 : Vec Ideal S128x128 .f32) (bi2 : Vec Ideal S1x128 .f32) (g2 : Vec Ideal S1x128 .f32) (be2 : Vec Ideal S1x128 .f32) (b : Fin 8) :
    rowAt (k1_pay24 v100 v265 v275 wi2 bi2 g2 be2) b = fun k => rowAt v100 b k + ln (lin (fun i => rowAt v265 b i * (lit 0x3F000000#32 * rowAt v275 b i)) (mat wi2) (flat bi2)) (flat g2) (flat be2) k := by
  funext k
  try simp only [rowAt, colAt, wordAt, expAt, flat, mat, lin, lin2, ln, mean, var, gelu, half1, arg, sNext, clip, place, dist2, softplus]
  pointwise [k1_pay24]
  all_goals rfl

theorem pay25_row (v100 : FVec Ideal S8x128 .f32) (v265 : FVec Ideal S8x128 .f32) (v275 : FVec Ideal S8x128 .f32) (wi2 : Vec Ideal S128x128 .f32) (bi2 : Vec Ideal S1x128 .f32) (g2 : Vec Ideal S1x128 .f32) (be2 : Vec Ideal S1x128 .f32) (wh : Vec Ideal S128x1 .f32) (b : Fin 8) :
    colAt (k1_pay25 v100 v265 v275 wi2 bi2 g2 be2 wh) b = ∑ k, rowAt (k1_pay24 v100 v265 v275 wi2 bi2 g2 be2) b k * mat wh k 0 := by
  try simp only [rowAt, colAt, wordAt, expAt, flat, mat, lin, lin2, ln, mean, var, gelu, half1, arg, sNext, clip, place, dist2, softplus]
  pointwise [k1_pay25]
  all_goals rfl

theorem pay26_row (bh : Vec Ideal S1x1 .f32) (b : Fin 8) :
    (k1_pay26 bh) (ix2 0 0) = bh (ix2 0 0) := by
  try simp only [rowAt, colAt, wordAt, expAt, flat, mat, lin, lin2, ln, mean, var, gelu, half1, arg, sNext, clip, place, dist2, softplus]
  pointwise [k1_pay26]
  all_goals rfl

theorem pay27_row (v101 : FVec Ideal S8x1 .f32) (v102 : FVec Ideal S8x1 .f32) (v313 : FVec Ideal S8x1 .f32) (v315 : FVec Ideal S1x1 .f32) (b : Fin 8) :
    colAt (k1_pay27 v101 v102 v313 v315) b = colAt v101 b + Ideal.logistic (colAt v313 b + v315 (ix2 0 0)) * (1 - colAt v102 b) := by
  try simp only [rowAt, colAt, wordAt, expAt, flat, mat, lin, lin2, ln, mean, var, gelu, half1, arg, sNext, clip, place, dist2, softplus]
  pointwise [k1_pay27]
  all_goals rfl

theorem pay28_row (v101 : FVec Ideal S8x1 .f32) (v102 : FVec Ideal S8x1 .f32) (v313 : FVec Ideal S8x1 .f32) (v315 : FVec Ideal S1x1 .f32) (b : Fin 8) :
    colAt (k1_pay28 v101 v102 v313 v315) b = Scalar.select (FloatOps.cmpf (F := Ideal) (φ := .f32) .oge (colAt (k1_pay27 v101 v102 v313 v315) b) (lit 0x3F7D70A4#32)) 1 (colAt v102 b) := by
  try simp only [rowAt, colAt, wordAt, expAt, flat, mat, lin, lin2, ln, mean, var, gelu, half1, arg, sNext, clip, place, dist2, softplus]
  pointwise [k1_pay28]
  all_goals rfl

theorem pay29_row (v100 : FVec Ideal S8x128 .f32) (v102 : FVec Ideal S8x1 .f32) (v311 : FVec Ideal S8x128 .f32) (b : Fin 8) :
    rowAt (k1_pay29 v100 v102 v311) b = sNext (colAt v102 b) (rowAt v311 b) (rowAt v100 b) := by
  funext k
  try simp only [rowAt, colAt, wordAt, expAt, flat, mat, lin, lin2, ln, mean, var, gelu, half1, arg, sNext, clip, place, dist2, softplus]
  pointwise [k1_pay29]
  all_goals rfl

theorem pay30_row (v100 : FVec Ideal S8x128 .f32) (v102 : FVec Ideal S8x1 .f32) (v311 : FVec Ideal S8x128 .f32) (widx : Vec Ideal S128x2 .f32) (bidx : Vec Ideal S1x2 .f32) (b : Fin 8) (a : Fin 2) :
    (k1_pay30 v100 v102 v311 widx bidx) (ix2 b a) = lin (rowAt (k1_pay29 v100 v102 v311) b) (mat widx) (flat bidx) a := by
  try simp only [rowAt, colAt, wordAt, expAt, flat, mat, lin, lin2, ln, mean, var, gelu, half1, arg, sNext, clip, place, dist2, softplus]
  pointwise [k1_pay30]
  all_goals rfl

theorem pay31_row (v100 : FVec Ideal S8x128 .f32) (v102 : FVec Ideal S8x1 .f32) (v311 : FVec Ideal S8x128 .f32) (widx : Vec Ideal S128x2 .f32) (bidx : Vec Ideal S1x2 .f32) (b : Fin 8) :
    colAt (k1_pay31 v100 v102 v311 widx bidx) b = Ideal.logistic (k1_pay30 v100 v102 v311 widx bidx (ix2 b 0)) := by
  simp only [colAt]
  pointwise [k1_pay31]

theorem pay32_row (v100 : FVec Ideal S8x128 .f32) (v102 : FVec Ideal S8x1 .f32) (v311 : FVec Ideal S8x128 .f32) (widx : Vec Ideal S128x2 .f32) (bidx : Vec Ideal S1x2 .f32) (b : Fin 8) :
    colAt (k1_pay32 v100 v102 v311 widx bidx) b = softplus (k1_pay30 v100 v102 v311 widx bidx (ix2 b 1)) + lit 0x3A83126F#32 := by
  simp only [colAt, softplus]
  pointwise [k1_pay32]
  all_goals simp only [guard_eq, ne_eq, not_true_eq_false, if_false, sub_zero, zero_sub]
  all_goals rfl

theorem pay33_row (v100 : FVec Ideal S8x128 .f32) (v102 : FVec Ideal S8x1 .f32) (v311 : FVec Ideal S8x128 .f32) (widx : Vec Ideal S128x2 .f32) (bidx : Vec Ideal S1x2 .f32) (b : Fin 8) :
    wordAt (k1_pay33 v100 v102 v311 widx bidx) b = place (colAt (k1_pay31 v100 v102 v311 widx bidx) b) (lit 0x49742000#32) := by
  try simp only [rowAt, colAt, wordAt, expAt, flat, mat, lin, lin2, ln, mean, var, gelu, half1, arg, sNext, clip, place, dist2, softplus]
  pointwise [k1_pay33]
  all_goals rfl

theorem pay34_row (v362 : IVec S8x1 32) (b : Fin 8) :
    wordAt (k1_pay34 v362) b = clip (wordAt v362 b) := by
  try simp only [rowAt, colAt, wordAt, expAt, flat, mat, lin, lin2, ln, mean, var, gelu, half1, arg, sNext, clip, place, dist2, softplus]
  pointwise [k1_pay34]
  all_goals rfl

theorem pay35_row (v362 : IVec S8x1 32) (b : Fin 8) :
    (k1_pay35 v362) (ix2 b 0) = wordAt (k1_pay34 v362) b := by
  try simp only [rowAt, colAt, wordAt, expAt, flat, mat, lin, lin2, ln, mean, var, gelu, half1, arg, sNext, clip, place, dist2, softplus]
  pointwise [k1_pay35]
  all_goals rfl

theorem pay36_row (v133 : IVec S8x128 32) (v176 : IVec S8x128 32) (v362 : IVec S8x1 32) (b : Fin 8) (k : Fin 128) :
    (k1_pay36 v133 v176 v362) (ix2 b k) = Scalar.select (IntOp.cmpi .eq (v133 (ix2 b k)) 1#32) (wordAt (k1_pay34 v362) b) (v176 (ix2 b k)) := by
  try simp only [rowAt, colAt, wordAt, expAt, flat, mat, lin, lin2, ln, mean, var, gelu, half1, arg, sNext, clip, place, dist2, softplus]
  pointwise [k1_pay36]
  all_goals rfl

theorem pay37_row (v104 : FVec Ideal S8x64 .f32) (v341 : FVec Ideal S8x1 .f32) (v366 : IVec S8x1 32) (b : Fin 8) (h104 : expAt v104 b = fun j => (((BitVec.ofNat 32 j.val).toInt : ℝ) : E)) :
    expAt (k1_pay37 v104 v341 v366) b = dist2 (wordAt v366 b) (colAt v341 b) := by
  funext k
  have h (j : Fin 64) : v104 (ix2 b j) = (((BitVec.ofNat 32 j.val).toInt : ℝ) : E) := congrFun h104 j
  try simp only [rowAt, colAt, wordAt, expAt, flat, mat, lin, lin2, ln, mean, var, gelu, half1, arg, sNext, clip, place, dist2, softplus]
  pointwise [k1_pay37]
  all_goals simp only [h, zero_sub]
  all_goals rfl

theorem pay38_row (v358 : FVec Ideal S8x1 .f32) (b : Fin 8) :
    colAt (k1_pay38 v358) b = lit 0x40000000#32 * colAt v358 b * colAt v358 b := by
  try simp only [rowAt, colAt, wordAt, expAt, flat, mat, lin, lin2, ln, mean, var, gelu, half1, arg, sNext, clip, place, dist2, softplus]
  pointwise [k1_pay38]
  all_goals rfl

theorem pay41_row (v131 : IVec S8x512 1) (v333 : FVec Ideal S8x128 .f32) (v434 : FVec Ideal S8x64 .f32) (v437 : FVec Ideal S8x1 .f32) (R : FVec Ideal S512x128 .f32) (wi1 : Vec Ideal S256x128 .f32) (bi1 : Vec Ideal S1x128 .f32) (b : Fin 8) :
    rowAt (k1_pay41 v131 v333 v434 v437 R wi1 bi1) b = lin2 (rowAt v333 b) (rowAt (k1_pay39 v131 v434 v437 R) b) (mat wi1) (flat bi1) := by
  funext k
  try simp only [rowAt, colAt, wordAt, expAt, flat, mat, lin, lin2, ln, mean, var, gelu, half1, arg, sNext, clip, place, dist2, softplus]
  pointwise [k1_pay41]
  all_goals rfl

theorem pay42_row (v131 : IVec S8x512 1) (v333 : FVec Ideal S8x128 .f32) (v434 : FVec Ideal S8x64 .f32) (v437 : FVec Ideal S8x1 .f32) (R : FVec Ideal S512x128 .f32) (wi1 : Vec Ideal S256x128 .f32) (bi1 : Vec Ideal S1x128 .f32) (b : Fin 8) :
    rowAt (k1_pay42 v131 v333 v434 v437 R wi1 bi1) b = fun k => half1 (arg (rowAt (k1_pay41 v131 v333 v434 v437 R wi1 bi1) b k)) := by
  funext k
  try simp only [rowAt, colAt, wordAt, expAt, flat, mat, lin, lin2, ln, mean, var, gelu, half1, arg, sNext, clip, place, dist2, softplus]
  pointwise [k1_pay42]
  all_goals rfl

theorem pay43_row (v333 : FVec Ideal S8x128 .f32) (v465 : FVec Ideal S8x128 .f32) (v477 : FVec Ideal S8x128 .f32) (wi2 : Vec Ideal S128x128 .f32) (bi2 : Vec Ideal S1x128 .f32) (g2 : Vec Ideal S1x128 .f32) (be2 : Vec Ideal S1x128 .f32) (b : Fin 8) :
    rowAt (k1_pay43 v333 v465 v477 wi2 bi2 g2 be2) b = fun k => rowAt v333 b k + ln (lin (fun i => rowAt v465 b i * rowAt v477 b i) (mat wi2) (flat bi2)) (flat g2) (flat be2) k := by
  funext k
  try simp only [rowAt, colAt, wordAt, expAt, flat, mat, lin, lin2, ln, mean, var, gelu, half1, arg, sNext, clip, place, dist2, softplus]
  pointwise [k1_pay43]
  all_goals rfl

theorem pay44_row (v333 : FVec Ideal S8x128 .f32) (v465 : FVec Ideal S8x128 .f32) (v477 : FVec Ideal S8x128 .f32) (wi2 : Vec Ideal S128x128 .f32) (bi2 : Vec Ideal S1x128 .f32) (g2 : Vec Ideal S1x128 .f32) (be2 : Vec Ideal S1x128 .f32) (wh : Vec Ideal S128x1 .f32) (bh : Vec Ideal S1x1 .f32) (b : Fin 8) :
    colAt (k1_pay44 v333 v465 v477 wi2 bi2 g2 be2 wh bh) b = Ideal.logistic ((∑ k, rowAt (k1_pay43 v333 v465 v477 wi2 bi2 g2 be2) b k * mat wh k 0) + bh (ix2 0 0)) := by
  try simp only [rowAt, colAt, wordAt, expAt, flat, mat, lin, lin2, ln, mean, var, gelu, half1, arg, sNext, clip, place, dist2, softplus]
  pointwise [k1_pay44]
  all_goals rfl

theorem pay45_row (v322 : FVec Ideal S8x1 .f32) (v326 : FVec Ideal S8x1 .f32) (v518 : FVec Ideal S8x1 .f32) (b : Fin 8) :
    colAt (k1_pay45 v322 v326 v518) b = Scalar.select (FloatOps.cmpf (F := Ideal) (φ := .f32) .oge (colAt v322 b + colAt v518 b * (1 - colAt v326 b)) (lit 0x3F7D70A4#32)) 1 (colAt v326 b) := by
  try simp only [rowAt, colAt, wordAt, expAt, flat, mat, lin, lin2, ln, mean, var, gelu, half1, arg, sNext, clip, place, dist2, softplus]
  pointwise [k1_pay45]
  all_goals rfl

theorem pay46_row (v326 : FVec Ideal S8x1 .f32) (v333 : FVec Ideal S8x128 .f32) (v511 : FVec Ideal S8x128 .f32) (b : Fin 8) :
    rowAt (k1_pay46 v326 v333 v511) b = sNext (colAt v326 b) (rowAt v511 b) (rowAt v333 b) := by
  funext k
  try simp only [rowAt, colAt, wordAt, expAt, flat, mat, lin, lin2, ln, mean, var, gelu, half1, arg, sNext, clip, place, dist2, softplus]
  pointwise [k1_pay46]
  all_goals rfl

theorem pay47_row (v326 : FVec Ideal S8x1 .f32) (v333 : FVec Ideal S8x128 .f32) (v511 : FVec Ideal S8x128 .f32) (widx : Vec Ideal S128x2 .f32) (bidx : Vec Ideal S1x2 .f32) (b : Fin 8) (a : Fin 2) :
    (k1_pay47 v326 v333 v511 widx bidx) (ix2 b a) = lin (rowAt (k1_pay46 v326 v333 v511) b) (mat widx) (flat bidx) a := by
  try simp only [rowAt, colAt, wordAt, expAt, flat, mat, lin, lin2, ln, mean, var, gelu, half1, arg, sNext, clip, place, dist2, softplus]
  pointwise [k1_pay47]
  all_goals rfl

theorem pay48_row (v326 : FVec Ideal S8x1 .f32) (v333 : FVec Ideal S8x128 .f32) (v511 : FVec Ideal S8x128 .f32) (widx : Vec Ideal S128x2 .f32) (bidx : Vec Ideal S1x2 .f32) (b : Fin 8) :
    colAt (k1_pay48 v326 v333 v511 widx bidx) b = Ideal.logistic (k1_pay47 v326 v333 v511 widx bidx (ix2 b 0)) := by
  simp only [colAt]
  pointwise [k1_pay48]

theorem pay49_row (v326 : FVec Ideal S8x1 .f32) (v333 : FVec Ideal S8x128 .f32) (v511 : FVec Ideal S8x128 .f32) (widx : Vec Ideal S128x2 .f32) (bidx : Vec Ideal S1x2 .f32) (b : Fin 8) :
    colAt (k1_pay49 v326 v333 v511 widx bidx) b = softplus (k1_pay47 v326 v333 v511 widx bidx (ix2 b 1)) + lit 0x3A83126F#32 := by
  simp only [colAt, softplus]
  pointwise [k1_pay49]
  all_goals simp only [guard_eq, ne_eq, not_true_eq_false, if_false, sub_zero, zero_sub]
  all_goals rfl

theorem pay50_row (v326 : FVec Ideal S8x1 .f32) (v333 : FVec Ideal S8x128 .f32) (v511 : FVec Ideal S8x128 .f32) (widx : Vec Ideal S128x2 .f32) (bidx : Vec Ideal S1x2 .f32) (b : Fin 8) :
    wordAt (k1_pay50 v326 v333 v511 widx bidx) b = place (colAt (k1_pay48 v326 v333 v511 widx bidx) b) (lit 0x49742000#32) := by
  try simp only [rowAt, colAt, wordAt, expAt, flat, mat, lin, lin2, ln, mean, var, gelu, half1, arg, sNext, clip, place, dist2, softplus]
  pointwise [k1_pay50]
  all_goals rfl

theorem pay51_row  (b : Fin 8) :
    wordAt (k1_pay51) b = 0#32 := by
  try simp only [rowAt, colAt, wordAt, expAt, flat, mat, lin, lin2, ln, mean, var, gelu, half1, arg, sNext, clip, place, dist2, softplus]
  pointwise [k1_pay51]
  all_goals rfl

theorem pay52_row (v562 : IVec S8x1 32) (c : BitVec 32) (v563 : IVec S8x1 32) (b : Fin 8) :
    wordAt (k1_pay52 v562 c v563) b = IntOp.minsi c (IntOp.maxsi (wordAt v563 b) (wordAt v562 b)) := by
  try simp only [rowAt, colAt, wordAt, expAt, flat, mat, lin, lin2, ln, mean, var, gelu, half1, arg, sNext, clip, place, dist2, softplus]
  pointwise [k1_pay52]
  all_goals rfl

theorem pay53_row (v562 : IVec S8x1 32) (c : BitVec 32) (v563 : IVec S8x1 32) (b : Fin 8) :
    (k1_pay53 v562 c v563) (ix2 b 0) = wordAt (k1_pay52 v562 c v563) b := by
  try simp only [rowAt, colAt, wordAt, expAt, flat, mat, lin, lin2, ln, mean, var, gelu, half1, arg, sNext, clip, place, dist2, softplus]
  pointwise [k1_pay53]
  all_goals rfl

theorem pay54_row (v133 : IVec S8x128 32) (v376 : IVec S8x128 32) (v562 : IVec S8x1 32) (c : BitVec 32) (v563 : IVec S8x1 32) (b : Fin 8) (k : Fin 128) :
    (k1_pay54 v133 v376 v562 c v563) (ix2 b k) = Scalar.select (IntOp.cmpi .eq (v133 (ix2 b k)) 2#32) (wordAt (k1_pay52 v562 c v563) b) (v376 (ix2 b k)) := by
  try simp only [rowAt, colAt, wordAt, expAt, flat, mat, lin, lin2, ln, mean, var, gelu, half1, arg, sNext, clip, place, dist2, softplus]
  pointwise [k1_pay54]
  all_goals rfl

theorem pay55_row (v104 : FVec Ideal S8x64 .f32) (v541 : FVec Ideal S8x1 .f32) (v558 : FVec Ideal S8x1 .f32) (v566 : IVec S8x1 32) (b : Fin 8) (h104 : expAt v104 b = fun j => (((BitVec.ofNat 32 j.val).toInt : ℝ) : E)) :
    expAt (k1_pay55 v104 v541 v558 v566) b = fun j => Ideal.div (dist2 (wordAt v566 b) (colAt v541 b) j) (lit 0x40000000#32 * colAt v558 b * colAt v558 b) := by
  funext k
  have h (j : Fin 64) : v104 (ix2 b j) = (((BitVec.ofNat 32 j.val).toInt : ℝ) : E) := congrFun h104 j
  try simp only [rowAt, colAt, wordAt, expAt, flat, mat, lin, lin2, ln, mean, var, gelu, half1, arg, sNext, clip, place, dist2, softplus]
  pointwise [k1_pay55]
  all_goals simp only [h, zero_sub]
  all_goals rfl

theorem pay58_row (v131 : IVec S8x512 1) (v533 : FVec Ideal S8x128 .f32) (v639 : FVec Ideal S8x64 .f32) (R : FVec Ideal S512x128 .f32) (wi1 : Vec Ideal S256x128 .f32) (bi1 : Vec Ideal S1x128 .f32) (b : Fin 8) :
    rowAt (k1_pay58 v131 v533 v639 R wi1 bi1) b = fun i => gelu (lin2 (rowAt v533 b) (rowAt (k1_pay56 v131 v639 R) b) (mat wi1) (flat bi1) i) := by
  funext k
  try simp only [rowAt, colAt, wordAt, expAt, flat, mat, lin, lin2, ln, mean, var, gelu, half1, arg, sNext, clip, place, dist2, softplus]
  pointwise [k1_pay58]
  all_goals rfl

theorem pay59_row (v526 : FVec Ideal S8x1 .f32) (v533 : FVec Ideal S8x128 .f32) (v678 : FVec Ideal S8x128 .f32) (wi2 : Vec Ideal S128x128 .f32) (bi2 : Vec Ideal S1x128 .f32) (g2 : Vec Ideal S1x128 .f32) (be2 : Vec Ideal S1x128 .f32) (widx : Vec Ideal S128x2 .f32) (b : Fin 8) (a : Fin 2) :
    (k1_pay59 v526 v533 v678 wi2 bi2 g2 be2 widx) (ix2 b a) = ∑ k, sNext (colAt v526 b) (fun k => rowAt v533 b k + ln (lin (rowAt v678 b) (mat wi2) (flat bi2)) (flat g2) (flat be2) k) (rowAt v533 b) k * mat widx k a := by
  try simp only [rowAt, colAt, wordAt, expAt, flat, mat, lin, lin2, ln, mean, var, gelu, half1, arg, sNext, clip, place, dist2, softplus]
  pointwise [k1_pay59]
  all_goals rfl

theorem pay60_row (v720 : FVec Ideal S8x2 .f32) (bidx : Vec Ideal S1x2 .f32) (b : Fin 8) (a : Fin 2) :
    (k1_pay60 v720 bidx) (ix2 b a) = v720 (ix2 b a) + flat bidx a := by
  try simp only [rowAt, colAt, wordAt, expAt, flat, mat, lin, lin2, ln, mean, var, gelu, half1, arg, sNext, clip, place, dist2, softplus]
  pointwise [k1_pay60]
  all_goals rfl

theorem pay61_row (v720 : FVec Ideal S8x2 .f32) (bidx : Vec Ideal S1x2 .f32) (b : Fin 8) :
    colAt (k1_pay61 v720 bidx) b = Ideal.logistic (k1_pay60 v720 bidx (ix2 b 0)) := by
  simp only [colAt]
  pointwise [k1_pay61]

theorem pay62_row (v720 : FVec Ideal S8x2 .f32) (bidx : Vec Ideal S1x2 .f32) (b : Fin 8) :
    colAt (k1_pay62 v720 bidx) b = softplus (k1_pay60 v720 bidx (ix2 b 1)) + lit 0x3A83126F#32 := by
  simp only [colAt, softplus]
  pointwise [k1_pay62]
  all_goals simp only [guard_eq, ne_eq, not_true_eq_false, if_false, sub_zero, zero_sub]
  all_goals rfl

theorem pay63_row (v720 : FVec Ideal S8x2 .f32) (bidx : Vec Ideal S1x2 .f32) (b : Fin 8) :
    wordAt (k1_pay63 v720 bidx) b = clip (place (colAt (k1_pay61 v720 bidx) b) (lit 0x49742000#32)) := by
  try simp only [rowAt, colAt, wordAt, expAt, flat, mat, lin, lin2, ln, mean, var, gelu, half1, arg, sNext, clip, place, dist2, softplus]
  pointwise [k1_pay63]
  all_goals rfl

theorem pay64_row (v720 : FVec Ideal S8x2 .f32) (bidx : Vec Ideal S1x2 .f32) (b : Fin 8) :
    (k1_pay64 v720 bidx) (ix2 b 0) = wordAt (k1_pay63 v720 bidx) b := by
  try simp only [rowAt, colAt, wordAt, expAt, flat, mat, lin, lin2, ln, mean, var, gelu, half1, arg, sNext, clip, place, dist2, softplus]
  pointwise [k1_pay64]
  all_goals rfl

theorem pay65_row (v133 : IVec S8x128 32) (v576 : IVec S8x128 32) (v720 : FVec Ideal S8x2 .f32) (bidx : Vec Ideal S1x2 .f32) (b : Fin 8) (k : Fin 128) :
    (k1_pay65 v133 v576 v720 bidx) (ix2 b k) = Scalar.select (IntOp.cmpi .eq (v133 (ix2 b k)) 3#32) (wordAt (k1_pay63 v720 bidx) b) (v576 (ix2 b k)) := by
  try simp only [rowAt, colAt, wordAt, expAt, flat, mat, lin, lin2, ln, mean, var, gelu, half1, arg, sNext, clip, place, dist2, softplus]
  pointwise [k1_pay65]
  all_goals rfl

theorem pay21_row (v131 : IVec S8x512 1) (v158 : FVec Ideal S8x1 .f32) (v234 : FVec Ideal S8x64 .f32) (t : Ideal .f32) (R : FVec Ideal S512x128 .f32) (b : Fin 8) (k : Fin 128) :
    (k1_pay21 v131 v158 v234 t R) (ix3 b 0 k) = rowAt (k1_pay20 v131 v158 v234 t R) b k := by
  try simp only [rowAt, colAt, wordAt, expAt, flat, mat, lin, lin2, ln, mean, var, gelu, half1, arg, sNext, clip, place, dist2, softplus]
  pointwise [k1_pay21]
  all_goals rfl

theorem pay40_row (v131 : IVec S8x512 1) (v434 : FVec Ideal S8x64 .f32) (v437 : FVec Ideal S8x1 .f32) (R : FVec Ideal S512x128 .f32) (b : Fin 8) (k : Fin 128) :
    (k1_pay40 v131 v434 v437 R) (ix3 b 0 k) = rowAt (k1_pay39 v131 v434 v437 R) b k := by
  try simp only [rowAt, colAt, wordAt, expAt, flat, mat, lin, lin2, ln, mean, var, gelu, half1, arg, sNext, clip, place, dist2, softplus]
  pointwise [k1_pay40]
  all_goals rfl

theorem pay57_row (v131 : IVec S8x512 1) (v639 : FVec Ideal S8x64 .f32) (R : FVec Ideal S512x128 .f32) (b : Fin 8) (k : Fin 128) :
    (k1_pay57 v131 v639 R) (ix3 b 0 k) = rowAt (k1_pay56 v131 v639 R) b k := by
  try simp only [rowAt, colAt, wordAt, expAt, flat, mat, lin, lin2, ln, mean, var, gelu, half1, arg, sNext, clip, place, dist2, softplus]
  pointwise [k1_pay57]
  all_goals rfl

theorem pay1_row (v840 : FVec Ideal S8x128 .f32) (b : Fin 8) (k : Fin 128) :
    (k1_pay1 v840) (ix3 b 0 k) = rowAt v840 b k := by
  try simp only [rowAt, colAt, wordAt, expAt, flat, mat, lin, lin2, ln, mean, var, gelu, half1, arg, sNext, clip, place, dist2, softplus]
  pointwise [k1_pay1]
  all_goals rfl

theorem pay66_eq (v104 : FVec Ideal S8x64 .f32) (m : IVec S8x512 1) (v726 v743 : FVec Ideal S8x1 .f32) (v751 : IVec S8x1 32) (R : FVec Ideal S512x128 .f32) :
    k1_pay66 v104 m v726 v743 v751 R = k1_pay56 m (k1_pay55 v104 v726 v743 v751) R := rfl

theorem quot_row (n : FVec Ideal S8x64 .f32) (c : FVec Ideal S8x1 .f32) (b : Fin 8) :
    expAt (divf n (broadcastTo S8x64 c broadcasts_S8x1_S8x64)) b = fun j => Ideal.div (expAt n b j) (colAt c b) := by
  funext k
  simp only [expAt, colAt]
  pointwise

theorem twice_row (c : FVec Ideal S8x1 .f32) (t : Ideal .f32) (b : Fin 8) : colAt (mulf (mulf (broadcast S8x1 t) c) c) b = t * colAt c b * colAt c b := by
  simp only [colAt]
  pointwise

theorem fst_row (ids : Vec Ideal S8x512 .i32) (fe : Vec Ideal S8192x128 .f32) (b : Fin 8) :
    rowAt (Emb.rows (wE ids) fe) b = fun k => fe (ix2 ⟨(ids (ix2 b 511)).toNat % 8192, Nat.mod_lt _ (by norm_num)⟩ k) := by
  funext k
  unfold rowAt Emb.rows wE
  have e : ∀ (a b' : ℕ) (ha hb), a = b' → fe (ValueIdx.ix2 (⟨a, ha⟩ : Fin 8192) k) = fe (ix2 ⟨b', hb⟩ k) := by
    intro a b' ha hb h; subst h; rw [ix2_eq_valueIdx]
  have e2 : ∀ (a : ℕ) (ha), a = b.val → ids (ValueIdx.ix2 (⟨a, ha⟩ : Fin 8) 511) = ids (ix2 b 511) := by
    intro a ha h
    have : (⟨a, ha⟩ : Fin 8) = b := Fin.ext h
    rw [this, ix2_eq_valueIdx]
  refine e _ _ _ _ ?_
  exact congrArg (· % 8192) (congrArg₂ (· + ·) (congrArg BitVec.toNat (e2 _ _ (Nat.div_one b.val))) (Nat.mod_one b.val))

/-- The weights, from the kernel's operands. -/
noncomputable def wts (w1 : Vec Ideal S128x512 .f32) (b1 : Vec Ideal S1x512 .f32) (w2 : Vec Ideal S512x128 .f32) (b2 g1 be1 : Vec Ideal S1x128 .f32)
    (widx : Vec Ideal S128x2 .f32) (bidx : Vec Ideal S1x2 .f32) (wi1 : Vec Ideal S256x128 .f32) (bi1 : Vec Ideal S1x128 .f32) (wi2 : Vec Ideal S128x128 .f32) (bi2 g2 be2 : Vec Ideal S1x128 .f32)
    (wh : Vec Ideal S128x1 .f32) (bh : Vec Ideal S1x1 .f32) : Wts :=
  ⟨mat w1, flat b1, mat w2, flat b2, flat g1, flat be1, mat widx, flat bidx, mat wi1, flat bi1, mat wi2, flat bi2, flat g2, flat be2, fun k => wh (ix2 k 0), bh (ix2 0 0)⟩

set_option maxHeartbeats 1000000 in
/-- The body's results at row `b`: the vectors retrieved in the four loops, and the windows' first rows. -/
theorem recOut_row (ids : Vec Ideal S8x512 .i32) (w1 : Vec Ideal S128x512 .f32) (b1 : Vec Ideal S1x512 .f32) (w2 : Vec Ideal S512x128 .f32) (b2 : Vec Ideal S1x128 .f32) (g1 : Vec Ideal S1x128 .f32) (be1 : Vec Ideal S1x128 .f32) (widx : Vec Ideal S128x2 .f32) (bidx : Vec Ideal S1x2 .f32) (wi1 : Vec Ideal S256x128 .f32) (bi1 : Vec Ideal S1x128 .f32) (wi2 : Vec Ideal S128x128 .f32) (bi2 : Vec Ideal S1x128 .f32) (g2 : Vec Ideal S1x128 .f32) (be2 : Vec Ideal S1x128 .f32) (wh : Vec Ideal S128x1 .f32) (bh : Vec Ideal S1x1 .f32) (fe : Vec Ideal S8192x128 .f32) (fp : Vec Ideal S1000000x128 .f32) (b : Fin 8) :
    let W := wts w1 b1 w2 b2 g1 be1 widx bidx wi1 bi1 wi2 bi2 g2 be2 wh bh
    let Q : Fin 1000000 → Row 128 := fun a k => fp (ix2 a k)
    let X : Row 128 := fun k => fe (ix2 ⟨(ids (ix2 b 511)).toNat % 8192, Nat.mod_lt _ (by norm_num)⟩ k)
    let O := recOut ids w1 b1 w2 b2 g1 be1 widx bidx wi1 bi1 wi2 bi2 g2 be2 wh bh fe fp
    (∀ k : Fin 128, O.1 (ix3 b 0 k) = retrAt W Q X 0 k ∧ O.1 (ix3 b 1 k) = retrAt W Q X 1 k ∧ O.1 (ix3 b 2 k) = retrAt W Q X 2 k ∧ O.1 (ix3 b 3 k) = retrAt W Q X 3 k)
      ∧ O.2 (ix2 b 0) = start W (lastSt W Q X 0).s ∧ O.2 (ix2 b 1) = start W (lastSt W Q X 1).s ∧ O.2 (ix2 b 2) = start W (lastSt W Q X 2).s ∧ O.2 (ix2 b 3) = start W (lastSt W Q X 3).s := by
  intro W' Q' X' O
  show (∀ k : Fin 128, (recOut ids w1 b1 w2 b2 g1 be1 widx bidx wi1 bi1 wi2 bi2 g2 be2 wh bh fe fp).1 (ix3 b 0 k) = retrAt (wts w1 b1 w2 b2 g1 be1 widx bidx wi1 bi1 wi2 bi2 g2 be2 wh bh) (fun a k => fp (ix2 a k)) (fun k => fe (ix2 ⟨(ids (ix2 b 511)).toNat % 8192, Nat.mod_lt _ (by norm_num)⟩ k)) 0 k ∧ _) ∧ _
  subst W' Q' X' O
  obtain ⟨X, eX⟩ : ∃ X : Row 128, (fun k => fe (ix2 ⟨(ids (ix2 b 511)).toNat % 8192, Nat.mod_lt _ (by norm_num)⟩ k)) = X := ⟨_, rfl⟩
  obtain ⟨Q, eQ⟩ : ∃ Q : Fin 1000000 → Row 128, (fun a k => fp (ix2 a k)) = Q := ⟨_, rfl⟩
  obtain ⟨W, eW⟩ : ∃ W, wts w1 b1 w2 b2 g1 be1 widx bidx wi1 bi1 wi2 bi2 g2 be2 wh bh = W := ⟨_, rfl⟩
  rw [eX, eW, eQ]
  have m1 : mat w1 = W.w1 := by rw [← eW]; rfl
  have m2 : flat b1 = W.b1 := by rw [← eW]; rfl
  have m3 : mat w2 = W.w2 := by rw [← eW]; rfl
  have m4 : flat b2 = W.b2 := by rw [← eW]; rfl
  have m5 : flat g1 = W.g1 := by rw [← eW]; rfl
  have m6 : flat be1 = W.be1 := by rw [← eW]; rfl
  have m7 : mat widx = W.widx := by rw [← eW]; rfl
  have m8 : flat bidx = W.bidx := by rw [← eW]; rfl
  have m9 : mat wi1 = W.wi1 := by rw [← eW]; rfl
  have m10 : flat bi1 = W.bi1 := by rw [← eW]; rfl
  have m11 : mat wi2 = W.wi2 := by rw [← eW]; rfl
  have m12 : flat bi2 = W.bi2 := by rw [← eW]; rfl
  have m13 : flat g2 = W.g2 := by rw [← eW]; rfl
  have m14 : flat be2 = W.be2 := by rw [← eW]; rfl
  have m15 (k : Fin 128) : mat wh k 0 = W.wh k := by rw [← eW]; rfl
  have m16 : bh (ix2 0 0) = W.bh := by rw [← eW]; rfl
  obtain ⟨q0, e0⟩ : ∃ q, start₀ W X = q := ⟨_, rfl⟩
  obtain ⟨ρ0, eρ0⟩ : ∃ ρ, retr W Q q0.s = ρ := ⟨_, rfl⟩
  obtain ⟨q1, e1⟩ : ∃ q, step W ρ0 q0 = q := ⟨_, rfl⟩
  obtain ⟨ρ1, eρ1⟩ : ∃ ρ, retr W Q q1.s = ρ := ⟨_, rfl⟩
  obtain ⟨q2, e2⟩ : ∃ q, step W ρ1 q1 = q := ⟨_, rfl⟩
  obtain ⟨ρ2, eρ2⟩ : ∃ ρ, retr W Q q2.s = ρ := ⟨_, rfl⟩
  obtain ⟨q3, e3⟩ : ∃ q, step W ρ2 q2 = q := ⟨_, rfl⟩
  obtain ⟨ρ3, eρ3⟩ : ∃ ρ, retr W Q q3.s = ρ := ⟨_, rfl⟩
  obtain ⟨v48, ev48⟩ : ∃ v : FVec Ideal S8x128 .f32, (Emb.rows (wE ids) fe) = v := ⟨_, rfl⟩
  have rv48 : rowAt v48 b = X := by rw [← ev48, ← eX]; exact fst_row ids fe b
  obtain ⟨v69, ev69⟩ : ∃ v : FVec Ideal S8x128 .f32, k1_pay2 (Emb.rows (wE ids) fe) w1 b1 w2 = v := ⟨_, rfl⟩
  have rv69 : rowAt v69 b = fun k => ∑ i, gelu (lin X W.w1 W.b1 i) * W.w2 i k := by
    rw [← ev69, pay2_row]
    try simp only [m1, m2, m3, m4, m5, m6, m7, m8, m9, m10, m11, m12, m13, m14, m15, m16, ev48, rv48]
    try simp only [gelu_eq, gelu_eq', clip_place]
    try rfl
  obtain ⟨v100, ev100⟩ : ∃ v : FVec Ideal S8x128 .f32, k1_pay3 v48 v69 b2 g1 be1 = v := ⟨_, rfl⟩
  have rv100 : rowAt v100 b = q0.s := by
    rw [← ev100, pay3_row]
    try simp only [m1, m2, m3, m4, m5, m6, m7, m8, m9, m10, m11, m12, m13, m14, m15, m16, ev48, ev69, rv48, rv69]
    try simp only [gelu_eq, gelu_eq', clip_place]
    rw [← e0]; rfl
  obtain ⟨v101, ev101⟩ : ∃ v : FVec Ideal S8x1 .f32, k1_pay4 (F := Ideal) = v := ⟨_, rfl⟩
  have rv101 : colAt v101 b = q0.p := by
    rw [← ev101, pay4_row]
    try simp only [m1, m2, m3, m4, m5, m6, m7, m8, m9, m10, m11, m12, m13, m14, m15, m16, ev48, ev69, ev100, rv48, rv69, rv100]
    try simp only [gelu_eq, gelu_eq', clip_place]
    rw [← e0]; rfl
  obtain ⟨v102, ev102⟩ : ∃ v : FVec Ideal S8x1 .f32, k1_pay5 (F := Ideal) = v := ⟨_, rfl⟩
  have rv102 : colAt v102 b = q0.m := by
    rw [← ev102, pay5_row]
    try simp only [m1, m2, m3, m4, m5, m6, m7, m8, m9, m10, m11, m12, m13, m14, m15, m16, ev48, ev69, ev100, ev101, rv48, rv69, rv100, rv101]
    try simp only [gelu_eq, gelu_eq', clip_place]
    rw [← e0]; rfl
  obtain ⟨v104, ev104⟩ : ∃ v : FVec Ideal S8x64 .f32, k1_pay6 (F := Ideal) = v := ⟨_, rfl⟩
  have rv104 : expAt v104 b = fun j => (((BitVec.ofNat 32 j.val).toInt : ℝ) : E) := by
    rw [← ev104, pay6_row]
    try simp only [m1, m2, m3, m4, m5, m6, m7, m8, m9, m10, m11, m12, m13, m14, m15, m16, ev48, ev69, ev100, ev101, ev102, rv48, rv69, rv100, rv101, rv102]
    try simp only [gelu_eq, gelu_eq', clip_place]
    try rfl
  obtain ⟨v105, ev105⟩ : ∃ v : IVec S8x512 32, (iota .tc S8x512 32 [1] iota_S8x512_d1_w32) = v := ⟨_, rfl⟩
  obtain ⟨c64_i32, ec64_i32⟩ : ∃ v : BitVec 32, 64#32 = v := ⟨_, rfl⟩
  obtain ⟨v107, ev107⟩ : ∃ v : IVec S8x512 32, k1_pay7 = v := ⟨_, rfl⟩
  obtain ⟨v110, ev110⟩ : ∃ v : IVec S8x512 32, k1_pay8 = v := ⟨_, rfl⟩
  obtain ⟨v113, ev113⟩ : ∃ v : IVec S8x512 32, k1_pay9 = v := ⟨_, rfl⟩
  obtain ⟨v131, ev131⟩ : ∃ v : IVec S8x512 1, k1_pay10 v105 c64_i32 v107 v110 v113 = v := ⟨_, rfl⟩
  have hm (q : Fin 512) : v131 (ix2 b q) = BitVec.ofBool (decide (q.val / 64 = b.val)) := by
    rw [← ev131, ← ev105, ← ec64_i32, ← ev107, ← ev110, ← ev113]; exact mark_apply b q
  obtain ⟨v132, ev132⟩ : ∃ v : IVec S8x128 32, k1_pay11 = v := ⟨_, rfl⟩
  obtain ⟨v133, ev133⟩ : ∃ v : IVec S8x128 32, (iota .tc S8x128 32 [1] iota_S8x128_d1_w32) = v := ⟨_, rfl⟩
  obtain ⟨v141, ev141⟩ : ∃ v : FVec Ideal S8x1 .f32, k1_pay13 v100 widx bidx = v := ⟨_, rfl⟩
  have rv141 : colAt v141 b = mu W q0.s := by
    rw [← ev141, pay13_row]
    try simp only [m1, m2, m3, m4, m5, m6, m7, m8, m9, m10, m11, m12, m13, m14, m15, m16, ev48, ev69, ev100, ev101, ev102, ev104, ec64_i32, ev131, ev132, ev133, rv48, rv69, rv100, rv101, rv102, rv104, pay12_row]
    try simp only [gelu_eq, gelu_eq', clip_place]
    try rfl
  obtain ⟨v158, ev158⟩ : ∃ v : FVec Ideal S8x1 .f32, k1_pay14 v100 widx bidx = v := ⟨_, rfl⟩
  have rv158 : colAt v158 b = sg W q0.s := by
    rw [← ev158, pay14_row]
    try simp only [m1, m2, m3, m4, m5, m6, m7, m8, m9, m10, m11, m12, m13, m14, m15, m16, ev48, ev69, ev100, ev101, ev102, ev104, ec64_i32, ev131, ev132, ev133, ev141, rv48, rv69, rv100, rv101, rv102, rv104, rv141, pay12_row]
    try simp only [gelu_eq, gelu_eq', clip_place]
    try rfl
  obtain ⟨v159, ev159⟩ : ∃ v : FVec Ideal S8x1 .f32, k1_pay15 (F := Ideal) = v := ⟨_, rfl⟩
  have rv159 : colAt v159 b = lit 0x49742000#32 := by
    rw [← ev159, pay15_row]
    try simp only [m1, m2, m3, m4, m5, m6, m7, m8, m9, m10, m11, m12, m13, m14, m15, m16, ev48, ev69, ev100, ev101, ev102, ev104, ec64_i32, ev131, ev132, ev133, ev141, ev158, rv48, rv69, rv100, rv101, rv102, rv104, rv141, rv158]
    try simp only [gelu_eq, gelu_eq', clip_place]
    try rfl
  obtain ⟨p6, ep6⟩ : ∃ v : IVec S8x128 32, (k1_pay17 v141 v159) = v := ⟨_, rfl⟩
  have rp6 : p6 (ix2 b 0) = start W q0.s := by
    rw [← ep6, pay17_row]
    try simp only [m1, m2, m3, m4, m5, m6, m7, m8, m9, m10, m11, m12, m13, m14, m15, m16, ev48, ev69, ev100, ev101, ev102, ev104, ec64_i32, ev131, ev132, ev133, ev141, ev158, ev159, rv48, rv69, rv100, rv101, rv102, rv104, rv141, rv158, rv159]
    try simp only [gelu_eq, gelu_eq', clip_place]
    simp only [pay16_row, rv141, rv159, clip_place]
  obtain ⟨v166, ev166⟩ : ∃ v : IVec S8x1 32, k1_pay16 v141 v159 = v := ⟨_, rfl⟩
  have rv166 : wordAt v166 b = start W q0.s := by
    rw [← ev166, pay16_row]
    try simp only [m1, m2, m3, m4, m5, m6, m7, m8, m9, m10, m11, m12, m13, m14, m15, m16, ev48, ev69, ev100, ev101, ev102, ev104, ec64_i32, ev131, ev132, ev133, ev141, ev158, ev159, ep6, rv48, rv69, rv100, rv101, rv102, rv104, rv141, rv158, rv159, rp6]
    try simp only [gelu_eq, gelu_eq', clip_place]
    try rfl
  obtain ⟨v176, ev176⟩ : ∃ v : IVec S8x128 32, k1_pay18 v132 v133 v141 v159 = v := ⟨_, rfl⟩
  have rv176 (k : Fin 128) : v176 (ix2 b k) = Scalar.select (IntOp.cmpi .eq (v133 (ix2 b k)) 0#32) (start W q0.s) (v132 (ix2 b k)) := by
    rw [← ev176, pay18_row]
    simp only [m1, m2, m3, m4, m5, m6, m7, m8, m9, m10, m11, m12, m13, m14, m15, m16, ev48, ev69, ev100, ev101, ev102, ev104, ec64_i32, ev131, ev132, ev133, ev141, ev158, ev159, ep6, ev166, rv48, rv69, rv100, rv101, rv102, rv104, rv141, rv158, rv159, rp6, rv166]
    try rfl
  obtain ⟨v234, ev234⟩ : ∃ v : FVec Ideal S8x64 .f32, k1_pay19 v104 v141 v166 = v := ⟨_, rfl⟩
  have rv234 : expAt v234 b = dist2 (start W q0.s) (mu W q0.s) := by
    rw [← ev234, pay19_row _ _ _ b rv104]
    try simp only [m1, m2, m3, m4, m5, m6, m7, m8, m9, m10, m11, m12, m13, m14, m15, m16, ev48, ev69, ev100, ev101, ev102, ev104, ec64_i32, ev131, ev132, ev133, ev141, ev158, ev159, ep6, ev166, ev176, rv48, rv69, rv100, rv101, rv102, rv104, rv141, rv158, rv159, rp6, rv166]
    try simp only [gelu_eq, gelu_eq', clip_place]
    try rfl
  obtain ⟨cst_169, ecst_169⟩ : ∃ v : Ideal .f32, (Scalar.ofBits .f32 0x40000000#32 : Ideal .f32) = v := ⟨_, rfl⟩
  obtain ⟨v265, ev265⟩ : ∃ v : FVec Ideal S8x128 .f32, k1_pay22 v100 v131 v158 v234 cst_169 (Pool.rows (wP p6) fp) wi1 bi1 = v := ⟨_, rfl⟩
  have Rq0 : rowAt (k1_pay20 v131 v158 v234 cst_169 (Pool.rows (wP p6) fp)) b = ρ0 := by
    rw [← eρ0, ← eQ, pay20_eq, pay39_eq]
    refine retr_of W q0.s v131 _ p6 fp b hm ?_ rp6
    rw [quot_row, twice_row, rv234, rv158, ← ecst_169]
    exact wlog_of W q0.s
  have rv265 : rowAt v265 b = lin2 q0.s (ρ0) W.wi1 W.bi1 := by
    rw [← ev265, pay22_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, rv48, rv69, rv100, rv101, rv102, rv104, rv141, rv158, rv159, rp6, rv166, rv234, Rq0]
    try simp only [gelu_eq, gelu_eq', clip_place]
    try rfl
  obtain ⟨v275, ev275⟩ : ∃ v : FVec Ideal S8x128 .f32, k1_pay23 v100 v131 v158 v234 cst_169 (Pool.rows (wP p6) fp) wi1 bi1 = v := ⟨_, rfl⟩
  have rv275 : rowAt v275 b = fun k => 1 + Ideal.tanh (arg (lin2 q0.s (ρ0) W.wi1 W.bi1 k)) := by
    rw [← ev275, pay23_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, rv48, rv69, rv100, rv101, rv102, rv104, rv141, rv158, rv159, rp6, rv166, rv234, Rq0, rv265]
    try simp only [gelu_eq, gelu_eq', clip_place]
    try rfl
  obtain ⟨v311, ev311⟩ : ∃ v : FVec Ideal S8x128 .f32, k1_pay24 v100 v265 v275 wi2 bi2 g2 be2 = v := ⟨_, rfl⟩
  have rv311 : rowAt v311 b = cand W q0.s ρ0 := by
    rw [← ev311, pay24_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, rv48, rv69, rv100, rv101, rv102, rv104, rv141, rv158, rv159, rp6, rv166, rv234, Rq0, rv265, rv275]
    try simp only [gelu_eq, gelu_eq', clip_place]
    try rfl
  obtain ⟨v313, ev313⟩ : ∃ v : FVec Ideal S8x1 .f32, k1_pay25 v100 v265 v275 wi2 bi2 g2 be2 wh = v := ⟨_, rfl⟩
  have rv313 : colAt v313 b = ∑ k, cand W q0.s ρ0 k * W.wh k := by
    rw [← ev313, pay25_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, rv48, rv69, rv100, rv101, rv102, rv104, rv141, rv158, rv159, rp6, rv166, rv234, Rq0, rv265, rv275, rv311]
    try simp only [gelu_eq, gelu_eq', clip_place]
    try rfl
  obtain ⟨v315, ev315⟩ : ∃ v : FVec Ideal S1x1 .f32, k1_pay26 bh = v := ⟨_, rfl⟩
  have rv315 : v315 (ix2 0 0) = W.bh := by
    rw [← ev315, pay26_row bh b]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, rv48, rv69, rv100, rv101, rv102, rv104, rv141, rv158, rv159, rp6, rv166, rv234, Rq0, rv265, rv275, rv311, rv313]
    try simp only [gelu_eq, gelu_eq', clip_place]
    try rfl
  obtain ⟨v322, ev322⟩ : ∃ v : FVec Ideal S8x1 .f32, k1_pay27 v101 v102 v313 v315 = v := ⟨_, rfl⟩
  have rv322 : colAt v322 b = q1.p := by
    rw [← ev322, pay27_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, rv48, rv69, rv100, rv101, rv102, rv104, rv141, rv158, rv159, rp6, rv166, rv234, Rq0, rv265, rv275, rv311, rv313, rv315]
    try simp only [gelu_eq, gelu_eq', clip_place]
    rw [← e1]; rfl
  obtain ⟨v326, ev326⟩ : ∃ v : FVec Ideal S8x1 .f32, k1_pay28 v101 v102 v313 v315 = v := ⟨_, rfl⟩
  have rv326 : colAt v326 b = q1.m := by
    rw [← ev326, pay28_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, rv48, rv69, rv100, rv101, rv102, rv104, rv141, rv158, rv159, rp6, rv166, rv234, Rq0, rv265, rv275, rv311, rv313, rv315, rv322]
    try simp only [gelu_eq, gelu_eq', clip_place]
    rw [← e1]; rfl
  obtain ⟨v333, ev333⟩ : ∃ v : FVec Ideal S8x128 .f32, k1_pay29 v100 v102 v311 = v := ⟨_, rfl⟩
  have rv333 : rowAt v333 b = q1.s := by
    rw [← ev333, pay29_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, rv48, rv69, rv100, rv101, rv102, rv104, rv141, rv158, rv159, rp6, rv166, rv234, Rq0, rv265, rv275, rv311, rv313, rv315, rv322, rv326]
    try simp only [gelu_eq, gelu_eq', clip_place]
    rw [← e1]; rfl
  obtain ⟨v341, ev341⟩ : ∃ v : FVec Ideal S8x1 .f32, k1_pay31 v100 v102 v311 widx bidx = v := ⟨_, rfl⟩
  have rpre : rowAt (k1_pay29 v100 v102 v311) b = q1.s := by rw [ev333, rv333]
  have rv341 : colAt v341 b = mu W q1.s := by
    rw [← ev341, pay31_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, rv48, rv69, rv100, rv101, rv102, rv104, rv141, rv158, rv159, rp6, rv166, rv234, Rq0, rv265, rv275, rv311, rv313, rv315, rv322, rv326, rv333, pay30_row, rpre]
    try simp only [gelu_eq, gelu_eq', clip_place]
    try rfl
  obtain ⟨v358, ev358⟩ : ∃ v : FVec Ideal S8x1 .f32, k1_pay32 v100 v102 v311 widx bidx = v := ⟨_, rfl⟩
  have rv358 : colAt v358 b = sg W q1.s := by
    rw [← ev358, pay32_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, rv48, rv69, rv100, rv101, rv102, rv104, rv141, rv158, rv159, rp6, rv166, rv234, Rq0, rv265, rv275, rv311, rv313, rv315, rv322, rv326, rv333, rv341, pay30_row, rpre]
    try simp only [gelu_eq, gelu_eq', clip_place]
    try rfl
  obtain ⟨v362, ev362⟩ : ∃ v : IVec S8x1 32, k1_pay33 v100 v102 v311 widx bidx = v := ⟨_, rfl⟩
  have rv362 : wordAt v362 b = place (mu W q1.s) (lit 0x49742000#32) := by
    rw [← ev362, pay33_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, rv48, rv69, rv100, rv101, rv102, rv104, rv141, rv158, rv159, rp6, rv166, rv234, Rq0, rv265, rv275, rv311, rv313, rv315, rv322, rv326, rv333, rv341, rv358]
    try simp only [gelu_eq, gelu_eq', clip_place]
    try rfl
  obtain ⟨p12, ep12⟩ : ∃ v : IVec S8x128 32, (k1_pay35 v362) = v := ⟨_, rfl⟩
  have rp12 : p12 (ix2 b 0) = start W q1.s := by
    rw [← ep12, pay35_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, rv48, rv69, rv100, rv101, rv102, rv104, rv141, rv158, rv159, rp6, rv166, rv234, Rq0, rv265, rv275, rv311, rv313, rv315, rv322, rv326, rv333, rv341, rv358, rv362]
    try simp only [gelu_eq, gelu_eq', clip_place]
    simp only [pay34_row, rv362, clip_place]
  obtain ⟨v366, ev366⟩ : ∃ v : IVec S8x1 32, k1_pay34 v362 = v := ⟨_, rfl⟩
  have rv366 : wordAt v366 b = start W q1.s := by
    rw [← ev366, pay34_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, rv48, rv69, rv100, rv101, rv102, rv104, rv141, rv158, rv159, rp6, rv166, rv234, Rq0, rv265, rv275, rv311, rv313, rv315, rv322, rv326, rv333, rv341, rv358, rv362, rp12]
    try simp only [gelu_eq, gelu_eq', clip_place]
    try rfl
  obtain ⟨v376, ev376⟩ : ∃ v : IVec S8x128 32, k1_pay36 v133 v176 v362 = v := ⟨_, rfl⟩
  have rv376 (k : Fin 128) : v376 (ix2 b k) = Scalar.select (IntOp.cmpi .eq (v133 (ix2 b k)) 1#32) (start W q1.s) (v176 (ix2 b k)) := by
    rw [← ev376, pay36_row]
    simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, rv48, rv69, rv100, rv101, rv102, rv104, rv141, rv158, rv159, rp6, rv166, rv234, Rq0, rv265, rv275, rv311, rv313, rv315, rv322, rv326, rv333, rv341, rv358, rv362, rp12, rv366]
    try rfl
  obtain ⟨v434, ev434⟩ : ∃ v : FVec Ideal S8x64 .f32, k1_pay37 v104 v341 v366 = v := ⟨_, rfl⟩
  have rv434 : expAt v434 b = dist2 (start W q1.s) (mu W q1.s) := by
    rw [← ev434, pay37_row _ _ _ b rv104]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, rv48, rv69, rv100, rv101, rv102, rv104, rv141, rv158, rv159, rp6, rv166, rv234, Rq0, rv265, rv275, rv311, rv313, rv315, rv322, rv326, rv333, rv341, rv358, rv362, rp12, rv366]
    try simp only [gelu_eq, gelu_eq', clip_place]
    try rfl
  obtain ⟨v437, ev437⟩ : ∃ v : FVec Ideal S8x1 .f32, k1_pay38 v358 = v := ⟨_, rfl⟩
  have rv437 : colAt v437 b = lit 0x40000000#32 * sg W q1.s * sg W q1.s := by
    rw [← ev437, pay38_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, rv48, rv69, rv100, rv101, rv102, rv104, rv141, rv158, rv159, rp6, rv166, rv234, Rq0, rv265, rv275, rv311, rv313, rv315, rv322, rv326, rv333, rv341, rv358, rv362, rp12, rv366, rv434]
    try simp only [gelu_eq, gelu_eq', clip_place]
    try rfl
  obtain ⟨v465, ev465⟩ : ∃ v : FVec Ideal S8x128 .f32, k1_pay41 v131 v333 v434 v437 (Pool.rows (wP p12) fp) wi1 bi1 = v := ⟨_, rfl⟩
  have Rq1 : rowAt (k1_pay39 v131 v434 v437 (Pool.rows (wP p12) fp)) b = ρ1 := by
    rw [← eρ1, ← eQ, pay39_eq]
    refine retr_of W q1.s v131 _ p12 fp b hm ?_ rp12
    rw [quot_row, rv434, rv437]
    exact wlog_of W q1.s
  have rv465 : rowAt v465 b = lin2 q1.s ρ1 W.wi1 W.bi1 := by
    rw [← ev465, pay41_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, rv48, rv69, rv100, rv101, rv102, rv104, rv141, rv158, rv159, rp6, rv166, rv234, Rq0, rv265, rv275, rv311, rv313, rv315, rv322, rv326, rv333, rv341, rv358, rv362, rp12, rv366, rv434, rv437, Rq1]
    try simp only [gelu_eq, gelu_eq', clip_place]
    try rfl
  obtain ⟨v477, ev477⟩ : ∃ v : FVec Ideal S8x128 .f32, k1_pay42 v131 v333 v434 v437 (Pool.rows (wP p12) fp) wi1 bi1 = v := ⟨_, rfl⟩
  have rv477 : rowAt v477 b = fun k => half1 (arg (lin2 q1.s ρ1 W.wi1 W.bi1 k)) := by
    rw [← ev477, pay42_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, ev465, rv48, rv69, rv100, rv101, rv102, rv104, rv141, rv158, rv159, rp6, rv166, rv234, Rq0, rv265, rv275, rv311, rv313, rv315, rv322, rv326, rv333, rv341, rv358, rv362, rp12, rv366, rv434, rv437, Rq1, rv465]
    try simp only [gelu_eq, gelu_eq', clip_place]
    try rfl
  obtain ⟨v511, ev511⟩ : ∃ v : FVec Ideal S8x128 .f32, k1_pay43 v333 v465 v477 wi2 bi2 g2 be2 = v := ⟨_, rfl⟩
  have rv511 : rowAt v511 b = cand W q1.s ρ1 := by
    rw [← ev511, pay43_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, ev465, ev477, rv48, rv69, rv100, rv101, rv102, rv104, rv141, rv158, rv159, rp6, rv166, rv234, Rq0, rv265, rv275, rv311, rv313, rv315, rv322, rv326, rv333, rv341, rv358, rv362, rp12, rv366, rv434, rv437, Rq1, rv465, rv477]
    try simp only [gelu_eq, gelu_eq', clip_place]
    try rfl
  obtain ⟨v518, ev518⟩ : ∃ v : FVec Ideal S8x1 .f32, k1_pay44 v333 v465 v477 wi2 bi2 g2 be2 wh bh = v := ⟨_, rfl⟩
  have rv518 : colAt v518 b = prob W (cand W q1.s ρ1) := by
    rw [← ev518, pay44_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, ev465, ev477, ev511, rv48, rv69, rv100, rv101, rv102, rv104, rv141, rv158, rv159, rp6, rv166, rv234, Rq0, rv265, rv275, rv311, rv313, rv315, rv322, rv326, rv333, rv341, rv358, rv362, rp12, rv366, rv434, rv437, Rq1, rv465, rv477, rv511]
    try simp only [gelu_eq, gelu_eq', clip_place]
    try rfl
  obtain ⟨v526, ev526⟩ : ∃ v : FVec Ideal S8x1 .f32, k1_pay45 v322 v326 v518 = v := ⟨_, rfl⟩
  have rv526 : colAt v526 b = q2.m := by
    rw [← ev526, pay45_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, ev465, ev477, ev511, ev518, rv48, rv69, rv100, rv101, rv102, rv104, rv141, rv158, rv159, rp6, rv166, rv234, Rq0, rv265, rv275, rv311, rv313, rv315, rv322, rv326, rv333, rv341, rv358, rv362, rp12, rv366, rv434, rv437, Rq1, rv465, rv477, rv511, rv518]
    try simp only [gelu_eq, gelu_eq', clip_place]
    rw [← e2]; rfl
  obtain ⟨v533, ev533⟩ : ∃ v : FVec Ideal S8x128 .f32, k1_pay46 v326 v333 v511 = v := ⟨_, rfl⟩
  have rv533 : rowAt v533 b = q2.s := by
    rw [← ev533, pay46_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, ev465, ev477, ev511, ev518, ev526, rv48, rv69, rv100, rv101, rv102, rv104, rv141, rv158, rv159, rp6, rv166, rv234, Rq0, rv265, rv275, rv311, rv313, rv315, rv322, rv326, rv333, rv341, rv358, rv362, rp12, rv366, rv434, rv437, Rq1, rv465, rv477, rv511, rv518, rv526]
    try simp only [gelu_eq, gelu_eq', clip_place]
    rw [← e2]; rfl
  obtain ⟨v541, ev541⟩ : ∃ v : FVec Ideal S8x1 .f32, k1_pay48 v326 v333 v511 widx bidx = v := ⟨_, rfl⟩
  have rpre : rowAt (k1_pay46 v326 v333 v511) b = q2.s := by rw [ev533, rv533]
  have rv541 : colAt v541 b = mu W q2.s := by
    rw [← ev541, pay48_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, ev465, ev477, ev511, ev518, ev526, ev533, rv48, rv69, rv100, rv101, rv102, rv104, rv141, rv158, rv159, rp6, rv166, rv234, Rq0, rv265, rv275, rv311, rv313, rv315, rv322, rv326, rv333, rv341, rv358, rv362, rp12, rv366, rv434, rv437, Rq1, rv465, rv477, rv511, rv518, rv526, rv533, pay47_row, rpre]
    try simp only [gelu_eq, gelu_eq', clip_place]
    try rfl
  obtain ⟨v558, ev558⟩ : ∃ v : FVec Ideal S8x1 .f32, k1_pay49 v326 v333 v511 widx bidx = v := ⟨_, rfl⟩
  have rv558 : colAt v558 b = sg W q2.s := by
    rw [← ev558, pay49_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, ev465, ev477, ev511, ev518, ev526, ev533, ev541, rv48, rv69, rv100, rv101, rv102, rv104, rv141, rv158, rv159, rp6, rv166, rv234, Rq0, rv265, rv275, rv311, rv313, rv315, rv322, rv326, rv333, rv341, rv358, rv362, rp12, rv366, rv434, rv437, Rq1, rv465, rv477, rv511, rv518, rv526, rv533, rv541, pay47_row, rpre]
    try simp only [gelu_eq, gelu_eq', clip_place]
    try rfl
  obtain ⟨v562, ev562⟩ : ∃ v : IVec S8x1 32, k1_pay50 v326 v333 v511 widx bidx = v := ⟨_, rfl⟩
  have rv562 : wordAt v562 b = place (mu W q2.s) (lit 0x49742000#32) := by
    rw [← ev562, pay50_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, ev465, ev477, ev511, ev518, ev526, ev533, ev541, ev558, rv48, rv69, rv100, rv101, rv102, rv104, rv141, rv158, rv159, rp6, rv166, rv234, Rq0, rv265, rv275, rv311, rv313, rv315, rv322, rv326, rv333, rv341, rv358, rv362, rp12, rv366, rv434, rv437, Rq1, rv465, rv477, rv511, rv518, rv526, rv533, rv541, rv558]
    try simp only [gelu_eq, gelu_eq', clip_place]
    try rfl
  obtain ⟨c999936_i32_353, ec999936_i32_353⟩ : ∃ v : BitVec 32, 999936#32 = v := ⟨_, rfl⟩
  obtain ⟨v563, ev563⟩ : ∃ v : IVec S8x1 32, k1_pay51 = v := ⟨_, rfl⟩
  have rv563 : wordAt v563 b = 0#32 := by
    rw [← ev563, pay51_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, ev465, ev477, ev511, ev518, ev526, ev533, ev541, ev558, ev562, ec999936_i32_353, rv48, rv69, rv100, rv101, rv102, rv104, rv141, rv158, rv159, rp6, rv166, rv234, Rq0, rv265, rv275, rv311, rv313, rv315, rv322, rv326, rv333, rv341, rv358, rv362, rp12, rv366, rv434, rv437, Rq1, rv465, rv477, rv511, rv518, rv526, rv533, rv541, rv558, rv562]
    try simp only [gelu_eq, gelu_eq', clip_place]
    try rfl
  obtain ⟨p18, ep18⟩ : ∃ v : IVec S8x128 32, (k1_pay53 v562 c999936_i32_353 v563) = v := ⟨_, rfl⟩
  have rp18 : p18 (ix2 b 0) = start W q2.s := by
    rw [← ep18, pay53_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, ev465, ev477, ev511, ev518, ev526, ev533, ev541, ev558, ev562, ec999936_i32_353, ev563, rv48, rv69, rv100, rv101, rv102, rv104, rv141, rv158, rv159, rp6, rv166, rv234, Rq0, rv265, rv275, rv311, rv313, rv315, rv322, rv326, rv333, rv341, rv358, rv362, rp12, rv366, rv434, rv437, Rq1, rv465, rv477, rv511, rv518, rv526, rv533, rv541, rv558, rv562, rv563]
    try simp only [gelu_eq, gelu_eq', clip_place]
    try simp only [pay52_row, rv563, rv562]
    rw [← ec999936_i32_353]; rfl
  obtain ⟨v566, ev566⟩ : ∃ v : IVec S8x1 32, k1_pay52 v562 c999936_i32_353 v563 = v := ⟨_, rfl⟩
  have rv566 : wordAt v566 b = start W q2.s := by
    rw [← ev566, pay52_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, ev465, ev477, ev511, ev518, ev526, ev533, ev541, ev558, ev562, ec999936_i32_353, ev563, ep18, rv48, rv69, rv100, rv101, rv102, rv104, rv141, rv158, rv159, rp6, rv166, rv234, Rq0, rv265, rv275, rv311, rv313, rv315, rv322, rv326, rv333, rv341, rv358, rv362, rp12, rv366, rv434, rv437, Rq1, rv465, rv477, rv511, rv518, rv526, rv533, rv541, rv558, rv562, rv563, rp18]
    try simp only [gelu_eq, gelu_eq', clip_place]
    rw [← ec999936_i32_353]; rfl
  obtain ⟨v576, ev576⟩ : ∃ v : IVec S8x128 32, k1_pay54 v133 v376 v562 c999936_i32_353 v563 = v := ⟨_, rfl⟩
  have rv576 (k : Fin 128) : v576 (ix2 b k) = Scalar.select (IntOp.cmpi .eq (v133 (ix2 b k)) 2#32) (start W q2.s) (v376 (ix2 b k)) := by
    rw [← ev576, pay54_row]
    simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, ev465, ev477, ev511, ev518, ev526, ev533, ev541, ev558, ev562, ec999936_i32_353, ev563, ep18, ev566, rv48, rv69, rv100, rv101, rv102, rv104, rv141, rv158, rv159, rp6, rv166, rv234, Rq0, rv265, rv275, rv311, rv313, rv315, rv322, rv326, rv333, rv341, rv358, rv362, rp12, rv366, rv434, rv437, Rq1, rv465, rv477, rv511, rv518, rv526, rv533, rv541, rv558, rv562, rv563, rp18, rv566]
    try rfl
  obtain ⟨v639, ev639⟩ : ∃ v : FVec Ideal S8x64 .f32, k1_pay55 v104 v541 v558 v566 = v := ⟨_, rfl⟩
  have rv639 : expAt v639 b = wlog W q2.s := by
    rw [← ev639, pay55_row _ _ _ _ b rv104]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, ev465, ev477, ev511, ev518, ev526, ev533, ev541, ev558, ev562, ec999936_i32_353, ev563, ep18, ev566, ev576, rv48, rv69, rv100, rv101, rv102, rv104, rv141, rv158, rv159, rp6, rv166, rv234, Rq0, rv265, rv275, rv311, rv313, rv315, rv322, rv326, rv333, rv341, rv358, rv362, rp12, rv366, rv434, rv437, Rq1, rv465, rv477, rv511, rv518, rv526, rv533, rv541, rv558, rv562, rv563, rp18, rv566]
    try simp only [gelu_eq, gelu_eq', clip_place]
    exact wlog_of W q2.s
  obtain ⟨v678, ev678⟩ : ∃ v : FVec Ideal S8x128 .f32, k1_pay58 v131 v533 v639 (Pool.rows (wP p18) fp) wi1 bi1 = v := ⟨_, rfl⟩
  have Rq2 : rowAt (k1_pay56 v131 v639 (Pool.rows (wP p18) fp)) b = ρ2 := by
    rw [← eρ2, ← eQ]
    exact retr_of W q2.s v131 _ p18 fp b hm rv639 rp18
  have rv678 : rowAt v678 b = fun i => gelu (lin2 q2.s ρ2 W.wi1 W.bi1 i) := by
    rw [← ev678, pay58_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, ev465, ev477, ev511, ev518, ev526, ev533, ev541, ev558, ev562, ec999936_i32_353, ev563, ep18, ev566, ev576, ev639, rv48, rv69, rv100, rv101, rv102, rv104, rv141, rv158, rv159, rp6, rv166, rv234, Rq0, rv265, rv275, rv311, rv313, rv315, rv322, rv326, rv333, rv341, rv358, rv362, rp12, rv366, rv434, rv437, Rq1, rv465, rv477, rv511, rv518, rv526, rv533, rv541, rv558, rv562, rv563, rp18, rv566, rv639, Rq2]
    try simp only [gelu_eq, gelu_eq', clip_place]
    try rfl
  obtain ⟨v720, ev720⟩ : ∃ v : FVec Ideal S8x2 .f32, k1_pay59 v526 v533 v678 wi2 bi2 g2 be2 widx = v := ⟨_, rfl⟩
  have rv720 (a : Fin 2) : v720 (ix2 b a) = ∑ k, q3.s k * W.widx k a := by
    rw [← ev720, pay59_row]
    simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, ev465, ev477, ev511, ev518, ev526, ev533, ev541, ev558, ev562, ec999936_i32_353, ev563, ep18, ev566, ev576, ev639, ev678, rv48, rv69, rv100, rv101, rv102, rv104, rv141, rv158, rv159, rp6, rv166, rv234, Rq0, rv265, rv275, rv311, rv313, rv315, rv322, rv326, rv333, rv341, rv358, rv362, rp12, rv366, rv434, rv437, Rq1, rv465, rv477, rv511, rv518, rv526, rv533, rv541, rv558, rv562, rv563, rp18, rv566, rv639, Rq2, rv678]
    rw [← e3]; rfl
  have r60 (a : Fin 2) : k1_pay60 v720 bidx (ix2 b a) = raw W q3.s a := by
    rw [pay60_row, rv720, m8]; rfl
  obtain ⟨p23, ep23⟩ : ∃ v : IVec S8x128 32, (k1_pay64 v720 bidx) = v := ⟨_, rfl⟩
  have rp23 : p23 (ix2 b 0) = start W q3.s := by
    rw [← ep23, pay64_row, pay63_row, pay61_row, r60]; rfl
  obtain ⟨v726, ev726⟩ : ∃ v : FVec Ideal S8x1 .f32, k1_pay61 v720 bidx = v := ⟨_, rfl⟩
  have rv726 : colAt v726 b = mu W q3.s := by
    rw [← ev726, pay61_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, ev465, ev477, ev511, ev518, ev526, ev533, ev541, ev558, ev562, ec999936_i32_353, ev563, ep18, ev566, ev576, ev639, ev678, ev720, ep23, rv48, rv69, rv100, rv101, rv102, rv104, rv141, rv158, rv159, rp6, rv166, rv234, Rq0, rv265, rv275, rv311, rv313, rv315, rv322, rv326, rv333, rv341, rv358, rv362, rp12, rv366, rv434, rv437, Rq1, rv465, rv477, rv511, rv518, rv526, rv533, rv541, rv558, rv562, rv563, rp18, rv566, rv639, Rq2, rv678, r60, rp23]
    try simp only [gelu_eq, gelu_eq', clip_place]
    try rfl
  obtain ⟨v743, ev743⟩ : ∃ v : FVec Ideal S8x1 .f32, k1_pay62 v720 bidx = v := ⟨_, rfl⟩
  have rv743 : colAt v743 b = sg W q3.s := by
    rw [← ev743, pay62_row]
    try simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, ev465, ev477, ev511, ev518, ev526, ev533, ev541, ev558, ev562, ec999936_i32_353, ev563, ep18, ev566, ev576, ev639, ev678, ev720, ep23, ev726, rv48, rv69, rv100, rv101, rv102, rv104, rv141, rv158, rv159, rp6, rv166, rv234, Rq0, rv265, rv275, rv311, rv313, rv315, rv322, rv326, rv333, rv341, rv358, rv362, rp12, rv366, rv434, rv437, Rq1, rv465, rv477, rv511, rv518, rv526, rv533, rv541, rv558, rv562, rv563, rp18, rv566, rv639, Rq2, rv678, r60, rp23, rv726]
    try simp only [gelu_eq, gelu_eq', clip_place]
    try rfl
  obtain ⟨v751, ev751⟩ : ∃ v : IVec S8x1 32, k1_pay63 v720 bidx = v := ⟨_, rfl⟩
  have rv751 : wordAt v751 b = start W q3.s := by
    rw [← ev751, pay63_row, pay61_row, r60]; rfl
  have r63 : wordAt (k1_pay63 v720 bidx) b = start W q3.s := by rw [ev751, rv751]
  obtain ⟨v761, ev761⟩ : ∃ v : IVec S8x128 32, k1_pay65 v133 v576 v720 bidx = v := ⟨_, rfl⟩
  have rv761 (k : Fin 128) : v761 (ix2 b k) = Scalar.select (IntOp.cmpi .eq (v133 (ix2 b k)) 3#32) (start W q3.s) (v576 (ix2 b k)) := by
    rw [← ev761, pay65_row]
    simp only [m1, m2, m3, m4, m5, m6, m7, m8, m9, m10, m11, m12, m13, m14, m15, m16, ev48, ev69, ev100, ev101, ev102, ev104, ec64_i32, ev131, ev132, ev133, ev141, ev158, ev159, ep6, ev166, ev176, ev234, ecst_169, ev265, ev275, ev311, ev313, ev315, ev322, ev326, ev333, ev341, ev358, ev362, ep12, ev366, ev376, ev434, ev437, ev465, ev477, ev511, ev518, ev526, ev533, ev541, ev558, ev562, ec999936_i32_353, ev563, ep18, ev566, ev576, ev639, ev678, ev720, ep23, ev726, ev743, ev751, rv48, rv69, rv100, rv101, rv102, rv104, rv141, rv158, rv159, rp6, rv166, rv234, Rq0, rv265, rv275, rv311, rv313, rv315, rv322, rv326, rv333, rv341, rv358, rv362, rp12, rv366, rv434, rv437, Rq1, rv465, rv477, rv511, rv518, rv526, rv533, rv541, rv558, rv562, rv563, rp18, rv566, rv639, Rq2, rv678, r60, rp23, rv726, rv743, rv751, r63]
    try rfl
  obtain ⟨v840, ev840⟩ : ∃ v : FVec Ideal S8x128 .f32, k1_pay66 v104 v131 v726 v743 v751 (Pool.rows (wP p23) fp) = v := ⟨_, rfl⟩
  have rv840 : rowAt v840 b = ρ3 := by
    rw [← ev840, pay66_eq, ← eρ3, ← eQ]
    refine retr_of W q3.s v131 _ p23 fp b hm ?_ rp23
    rw [pay55_row _ _ _ _ b rv104, rv751, rv726, rv743]
    exact wlog_of W q3.s
  rw [recOut_of ids w1 b1 w2 b2 g1 be1 widx bidx wi1 bi1 wi2 bi2 g2 be2 wh bh fe fp v48 ev48 v69 ev69 v100 ev100 v101 ev101 v102 ev102 v104 ev104 v105 ev105 c64_i32 ec64_i32 v107 ev107 v110 ev110 v113 ev113 v131 ev131 v132 ev132 v133 ev133 v141 ev141 v158 ev158 v159 ev159 p6 ep6 v166 ev166 v176 ev176 v234 ev234 cst_169 ecst_169 v265 ev265 v275 ev275 v311 ev311 v313 ev313 v315 ev315 v322 ev322 v326 ev326 v333 ev333 v341 ev341 v358 ev358 v362 ev362 p12 ep12 v366 ev366 v376 ev376 v434 ev434 v437 ev437 v465 ev465 v477 ev477 v511 ev511 v518 ev518 v526 ev526 v533 ev533 v541 ev541 v558 ev558 v562 ev562 c999936_i32_353 ec999936_i32_353 v563 ev563 p18 ep18 v566 ev566 v576 ev576 v639 ev639 v678 ev678 v720 ev720 p23 ep23 v726 ev726 v743 ev743 v751 ev751 v761 ev761 v840 ev840]
  have hv133 (k : Fin 128) : v133 (ix2 b k) = BitVec.ofNat 32 k.val := by
    rw [← ev133]; pointwise
  have h0 : lastSt W Q X 0 = q0 := e0
  have h1 : lastSt W Q X 1 = q1 := by
    show step W (retr W Q (lastSt W Q X 0).s) (lastSt W Q X 0) = q1
    rw [h0, eρ0, e1]
  have h2 : lastSt W Q X 2 = q2 := by
    show step W (retr W Q (lastSt W Q X 1).s) (lastSt W Q X 1) = q2
    rw [h1, eρ1, e2]
  have h3 : lastSt W Q X 3 = q3 := by
    show step W (retr W Q (lastSt W Q X 2).s) (lastSt W Q X 2) = q3
    rw [h2, eρ2, e3]
  have c0 : (0 : Fin 128).val = 0 := rfl
  have c1 : (1 : Fin 128).val = 1 := rfl
  have c2 : (2 : Fin 128).val = 2 := rfl
  have c3 : (3 : Fin 128).val = 3 := rfl
  unfold retrAt
  rw [h0, h1, h2, h3, eρ0, eρ1, eρ2, eρ3]
  refine ⟨fun k => ?_, ?_, ?_, ?_, ?_⟩
  · refine ⟨?_, ?_, ?_, ?_⟩
    · have P := puts_0 (k1_pay21 v131 v158 v234 cst_169 (Pool.rows (wP p6) fp)) (k1_pay40 v131 v434 v437 (Pool.rows (wP p12) fp)) (k1_pay57 v131 v639 (Pool.rows (wP p18) fp)) (k1_pay1 v840) b k
      rw [pay21_row, Rq0] at P; exact P
    · have P := puts_1 (k1_pay21 v131 v158 v234 cst_169 (Pool.rows (wP p6) fp)) (k1_pay40 v131 v434 v437 (Pool.rows (wP p12) fp)) (k1_pay57 v131 v639 (Pool.rows (wP p18) fp)) (k1_pay1 v840) b k
      rw [pay40_row, Rq1] at P; exact P
    · have P := puts_2 (k1_pay21 v131 v158 v234 cst_169 (Pool.rows (wP p6) fp)) (k1_pay40 v131 v434 v437 (Pool.rows (wP p12) fp)) (k1_pay57 v131 v639 (Pool.rows (wP p18) fp)) (k1_pay1 v840) b k
      rw [pay57_row, Rq2] at P; exact P
    · have P := puts_3 (k1_pay21 v131 v158 v234 cst_169 (Pool.rows (wP p6) fp)) (k1_pay40 v131 v434 v437 (Pool.rows (wP p12) fp)) (k1_pay57 v131 v639 (Pool.rows (wP p18) fp)) (k1_pay1 v840) b k
      rw [pay1_row, rv840] at P; exact P
  · show v761 (ix2 b 0) = _
    rw [rv761, rv576, rv376, rv176, hv133, c0]; rfl
  · show v761 (ix2 b 1) = _
    rw [rv761, rv576, rv376, hv133, c1]; rfl
  · show v761 (ix2 b 2) = _
    rw [rv761, rv576, hv133, c2]; rfl
  · show v761 (ix2 b 3) = _
    rw [rv761, hv133, c3]; rfl

end Cert.Proof.RecurRows
-- ==== Proof.DecodeRows.lean ====
module

public import proofs.«01_k».proof.Proof.Decode
public import proofs.«01_k».proof.Proof.Spec

/-!
The decoding kernel's block of rows, read a row at a time: each of the body's values at a row, and the block of logits as
the decoder's product with the row's state after four steps.
-/

@[expose] public section

set_option maxRecDepth 16384

noncomputable section

namespace Cert.Proof.DecodeRows

open Cert.KernelIdeal Cert.KernelIdeal.Gen
open Idealize.ShloMosaic
open Cert.Proof.Spec

/-- Row `r` of a block of 512 rows. -/
noncomputable def rowAt (x : FVec Ideal S512x128 .f32) (r : Fin 512) : Row 128 := fun k => x (ix2 r k)

/-- Row 0 of a bias kept as a single row. -/
noncomputable def flat {n : ℕ} (x : FVec Ideal ⟨2, ![1, n]⟩ .f32) : Row n := fun k => x (ix2 0 k)

noncomputable def mat {n m : ℕ} (x : FVec Ideal ⟨2, ![n, m]⟩ .f32) : Fin n → Fin m → E := fun i k => x (ix2 i k)

noncomputable def colAt (x : FVec Ideal S512x1 .f32) (r : Fin 512) : E := x (ix2 r 0)

/-- A layer norm whose row's sum is given. -/
noncomputable def lnS (x : Row 128) (t : E) (g b : Row 128) : Row 128 := fun k =>
  Ideal.div (x k - Ideal.div t (lit 0x43000000#32))
    (Ideal.sqrt (Ideal.div (∑ i, (x i - Ideal.div t (lit 0x43000000#32)) * (x i - Ideal.div t (lit 0x43000000#32))) (lit 0x43000000#32) + lit 0x358637BD#32)) * g k + b k

theorem lnS_eq (x g b : Row 128) : lnS x (∑ i, x i) g b = ln x g b := rfl

/-- The unit's second factor, from the argument of the hyperbolic tangent. -/
noncomputable def half1 (t : E) : E := lit 0x3F000000#32 * (1 + Ideal.tanh t)

noncomputable def arg (v : E) : E := lit 0x3F4C422A#32 * (v + lit 0x3D372713#32 * (v * (v * v)))

theorem gelu_eq (v : E) : v * half1 (arg v) = gelu v := rfl

theorem pay2_row (x : Vec Ideal S1x512x128 .f32) (w1 : Vec Ideal S128x512 .f32) (b1 : Vec Ideal S1x512 .f32) (w2 : Vec Ideal S512x128 .f32) (b2 : FVec Ideal S1x128 .f32) (r : Fin 512) :
    rowAt (k2_pay2 x w1 b1 w2 b2) r = fun k => x (ix3 0 r k) + lin (fun i => gelu (lin (fun k => x (ix3 0 r k)) (mat w1) (flat b1) i)) (mat w2) (flat b2) k := by
  funext k
  simp only [rowAt, colAt, flat, mat, lin, lin2, ln, lnS, mean, var, gelu, half1, arg, sNext]
  pointwise [k2_pay2]

theorem pay5_row (v30 : FVec Ideal S512x128 .f32) (v32 : FVec Ideal S1x128 .f32) (v34 : FVec Ideal S1x128 .f32) (r : Fin 512) :
    rowAt (k2_pay5 v30 v32 v34) r = ln (rowAt v30 r) (flat v32) (flat v34) := by
  funext k
  simp only [rowAt, colAt, flat, mat, lin, lin2, ln, lnS, mean, var, gelu, half1, arg, sNext]
  pointwise [k2_pay5]

theorem pay7_row  (r : Fin 512) :
    colAt (k2_pay7 (F := Ideal)) r = 0 := by
  simp only [rowAt, colAt, flat, mat, lin, lin2, ln, lnS, mean, var, gelu, half1, arg, sNext]
  pointwise [k2_pay7]

theorem pay8_row  (r : Fin 512) :
    colAt (k2_pay8 (F := Ideal)) r = 0 := by
  simp only [rowAt, colAt, flat, mat, lin, lin2, ln, lnS, mean, var, gelu, half1, arg, sNext]
  pointwise [k2_pay8]

theorem pay9_row (v30 : FVec Ideal S512x128 .f32) (v32 : FVec Ideal S1x128 .f32) (v34 : FVec Ideal S1x128 .f32) (re : Vec Ideal S1x4x128 .f32) (wi1 : Vec Ideal S256x128 .f32) (bi1 : FVec Ideal S1x128 .f32) (r : Fin 512) :
    rowAt (k2_pay9 v30 v32 v34 re wi1 bi1) r = lin2 (rowAt (k2_pay5 v30 v32 v34) r) (fun k => re (ix3 0 0 k)) (mat wi1) (flat bi1) := by
  funext k
  simp only [rowAt, colAt, flat, mat, lin, lin2, ln, lnS, mean, var, gelu, half1, arg, sNext]
  pointwise [k2_pay9, k2_pay6]

theorem pay10_row (v30 : FVec Ideal S512x128 .f32) (v32 : FVec Ideal S1x128 .f32) (v34 : FVec Ideal S1x128 .f32) (re : Vec Ideal S1x4x128 .f32) (wi1 : Vec Ideal S256x128 .f32) (bi1 : FVec Ideal S1x128 .f32) (r : Fin 512) :
    rowAt (k2_pay10 v30 v32 v34 re wi1 bi1) r = fun k => arg (rowAt (k2_pay9 v30 v32 v34 re wi1 bi1) r k) := by
  funext k
  simp only [rowAt, colAt, flat, mat, lin, lin2, ln, lnS, mean, var, gelu, half1, arg, sNext]
  pointwise [k2_pay10]

theorem pay11_row (v56 : FVec Ideal S512x128 .f32) (v70 : FVec Ideal S512x128 .f32) (v77 : FVec Ideal S512x128 .f32) (wi2 : Vec Ideal S128x128 .f32) (bi2 : FVec Ideal S1x128 .f32) (g2 : FVec Ideal S1x128 .f32) (be2 : FVec Ideal S1x128 .f32) (r : Fin 512) :
    rowAt (k2_pay11 v56 v70 v77 wi2 bi2 g2 be2) r = fun k => rowAt v56 r k + ln (lin (fun i => rowAt v70 r i * half1 (rowAt v77 r i)) (mat wi2) (flat bi2)) (flat g2) (flat be2) k := by
  funext k
  simp only [rowAt, colAt, flat, mat, lin, lin2, ln, lnS, mean, var, gelu, half1, arg, sNext]
  pointwise [k2_pay11]

theorem pay12_row (v56 : FVec Ideal S512x128 .f32) (v70 : FVec Ideal S512x128 .f32) (v77 : FVec Ideal S512x128 .f32) (wi2 : Vec Ideal S128x128 .f32) (bi2 : FVec Ideal S1x128 .f32) (g2 : FVec Ideal S1x128 .f32) (be2 : FVec Ideal S1x128 .f32) (wh : Vec Ideal S128x1 .f32) (r : Fin 512) :
    colAt (k2_pay12 v56 v70 v77 wi2 bi2 g2 be2 wh) r = ∑ k, rowAt (k2_pay11 v56 v70 v77 wi2 bi2 g2 be2) r k * mat wh k 0 := by
  simp only [rowAt, colAt, flat, mat, lin, lin2, ln, lnS, mean, var, gelu, half1, arg, sNext]
  pointwise [k2_pay12]

theorem pay13_row (v59 : FVec Ideal S512x1 .f32) (v60 : FVec Ideal S512x1 .f32) (v118 : FVec Ideal S512x1 .f32) (bh : Vec Ideal S1x1 .f32) (r : Fin 512) :
    colAt (k2_pay13 v59 v60 v118 bh) r = colAt v59 r + Ideal.logistic (colAt v118 r + bh (ix2 0 0)) * (1 - colAt v60 r) := by
  simp only [rowAt, colAt, flat, mat, lin, lin2, ln, lnS, mean, var, gelu, half1, arg, sNext]
  pointwise [k2_pay13]

theorem pay14_row (v59 : FVec Ideal S512x1 .f32) (v60 : FVec Ideal S512x1 .f32) (v118 : FVec Ideal S512x1 .f32) (bh : Vec Ideal S1x1 .f32) (r : Fin 512) :
    colAt (k2_pay14 v59 v60 v118 bh) r = Scalar.select (FloatOps.cmpf (F := Ideal) (φ := .f32) .oge (colAt (k2_pay13 v59 v60 v118 bh) r) (lit 0x3F7D70A4#32)) 1 (colAt v60 r) := by
  simp only [rowAt, colAt, flat, mat, lin, lin2, ln, lnS, mean, var, gelu, half1, arg, sNext]
  pointwise [k2_pay14]

theorem pay15_row (v56 : FVec Ideal S512x128 .f32) (v60 : FVec Ideal S512x1 .f32) (v116 : FVec Ideal S512x128 .f32) (r : Fin 512) :
    rowAt (k2_pay15 v56 v60 v116) r = sNext (colAt v60 r) (rowAt v116 r) (rowAt v56 r) := by
  funext k
  simp only [rowAt, colAt, flat, mat, lin, lin2, ln, lnS, mean, var, gelu, half1, arg, sNext]
  pointwise [k2_pay15]

theorem pay16_row (v56 : FVec Ideal S512x128 .f32) (v58 : FVec Ideal S4x128 .f32) (v60 : FVec Ideal S512x1 .f32) (v116 : FVec Ideal S512x128 .f32) (wi1 : Vec Ideal S256x128 .f32) (bi1 : FVec Ideal S1x128 .f32) (r : Fin 512) :
    rowAt (k2_pay16 v56 v58 v60 v116 wi1 bi1) r = fun i => gelu (lin2 (rowAt (k2_pay15 v56 v60 v116) r) (fun k => v58 (ix2 1 k)) (mat wi1) (flat bi1) i) := by
  funext k
  simp only [rowAt, colAt, flat, mat, lin, lin2, ln, lnS, mean, var, gelu, half1, arg, sNext]
  pointwise [k2_pay16]

theorem pay17_row (v138 : FVec Ideal S512x128 .f32) (v161 : FVec Ideal S512x128 .f32) (wi2 : Vec Ideal S128x128 .f32) (bi2 : FVec Ideal S1x128 .f32) (g2 : FVec Ideal S1x128 .f32) (be2 : FVec Ideal S1x128 .f32) (r : Fin 512) :
    rowAt (k2_pay17 v138 v161 wi2 bi2 g2 be2) r = fun k => rowAt v138 r k + ln (lin (rowAt v161 r) (mat wi2) (flat bi2)) (flat g2) (flat be2) k := by
  funext k
  simp only [rowAt, colAt, flat, mat, lin, lin2, ln, lnS, mean, var, gelu, half1, arg, sNext]
  pointwise [k2_pay17]

theorem pay18_row (v138 : FVec Ideal S512x128 .f32) (v161 : FVec Ideal S512x128 .f32) (wi2 : Vec Ideal S128x128 .f32) (bi2 : FVec Ideal S1x128 .f32) (g2 : FVec Ideal S1x128 .f32) (be2 : FVec Ideal S1x128 .f32) (wh : Vec Ideal S128x1 .f32) (bh : Vec Ideal S1x1 .f32) (r : Fin 512) :
    colAt (k2_pay18 v138 v161 wi2 bi2 g2 be2 wh bh) r = Ideal.logistic ((∑ k, rowAt (k2_pay17 v138 v161 wi2 bi2 g2 be2) r k * mat wh k 0) + bh (ix2 0 0)) := by
  simp only [rowAt, colAt, flat, mat, lin, lin2, ln, lnS, mean, var, gelu, half1, arg, sNext]
  pointwise [k2_pay18]

theorem pay19_row (v131 : FVec Ideal S512x1 .f32) (r : Fin 512) :
    colAt (k2_pay19 v131) r = 1 - colAt v131 r := by
  simp only [rowAt, colAt, flat, mat, lin, lin2, ln, lnS, mean, var, gelu, half1, arg, sNext]
  pointwise [k2_pay19]

theorem pay20_row (v127 : FVec Ideal S512x1 .f32) (v201 : FVec Ideal S512x1 .f32) (v203 : FVec Ideal S512x1 .f32) (r : Fin 512) :
    colAt (k2_pay20 v127 v201 v203) r = colAt v127 r + colAt v201 r * colAt v203 r := by
  simp only [rowAt, colAt, flat, mat, lin, lin2, ln, lnS, mean, var, gelu, half1, arg, sNext]
  pointwise [k2_pay20]

theorem pay21_row (v127 : FVec Ideal S512x1 .f32) (v131 : FVec Ideal S512x1 .f32) (v201 : FVec Ideal S512x1 .f32) (v203 : FVec Ideal S512x1 .f32) (r : Fin 512) :
    colAt (k2_pay21 v127 v131 v201 v203) r = Scalar.select (FloatOps.cmpf (F := Ideal) (φ := .f32) .oge (colAt (k2_pay20 v127 v201 v203) r) (lit 0x3F7D70A4#32)) 1 (colAt v131 r) := by
  simp only [rowAt, colAt, flat, mat, lin, lin2, ln, lnS, mean, var, gelu, half1, arg, sNext]
  pointwise [k2_pay21]

theorem pay22_row (v131 : FVec Ideal S512x1 .f32) (v138 : FVec Ideal S512x128 .f32) (v194 : FVec Ideal S512x128 .f32) (r : Fin 512) :
    rowAt (k2_pay22 v131 v138 v194) r = sNext (colAt v131 r) (rowAt v194 r) (rowAt v138 r) := by
  funext k
  simp only [rowAt, colAt, flat, mat, lin, lin2, ln, lnS, mean, var, gelu, half1, arg, sNext]
  pointwise [k2_pay22]

theorem pay23_row (v58 : FVec Ideal S4x128 .f32) (v131 : FVec Ideal S512x1 .f32) (v138 : FVec Ideal S512x128 .f32) (v194 : FVec Ideal S512x128 .f32) (wi1 : Vec Ideal S256x128 .f32) (bi1 : FVec Ideal S1x128 .f32) (wi2 : Vec Ideal S128x128 .f32) (bi2 : FVec Ideal S1x128 .f32) (r : Fin 512) :
    rowAt (k2_pay23 v58 v131 v138 v194 wi1 bi1 wi2 bi2) r = lin (fun i => gelu (lin2 (rowAt (k2_pay22 v131 v138 v194) r) (fun k => v58 (ix2 2 k)) (mat wi1) (flat bi1) i)) (mat wi2) (flat bi2) := by
  funext k
  simp only [rowAt, colAt, flat, mat, lin, lin2, ln, lnS, mean, var, gelu, half1, arg, sNext]
  pointwise [k2_pay23]

theorem pay24_row (v216 : FVec Ideal S512x128 .f32) (v245 : FVec Ideal S512x128 .f32) (g2 : FVec Ideal S1x128 .f32) (be2 : FVec Ideal S1x128 .f32) (r : Fin 512) :
    rowAt (k2_pay24 v216 v245 g2 be2) r = fun k => rowAt v216 r k + ln (rowAt v245 r) (flat g2) (flat be2) k := by
  funext k
  simp only [rowAt, colAt, flat, mat, lin, lin2, ln, lnS, mean, var, gelu, half1, arg, sNext]
  pointwise [k2_pay24]

theorem pay25_row (v205 : FVec Ideal S512x1 .f32) (v209 : FVec Ideal S512x1 .f32) (v216 : FVec Ideal S512x128 .f32) (v245 : FVec Ideal S512x128 .f32) (g2 : FVec Ideal S1x128 .f32) (be2 : FVec Ideal S1x128 .f32) (wh : Vec Ideal S128x1 .f32) (bh : Vec Ideal S1x1 .f32) (r : Fin 512) :
    colAt (k2_pay25 v205 v209 v216 v245 g2 be2 wh bh) r = Scalar.select (FloatOps.cmpf (F := Ideal) (φ := .f32) .oge (colAt v205 r + Ideal.logistic ((∑ k, rowAt (k2_pay24 v216 v245 g2 be2) r k * mat wh k 0) + bh (ix2 0 0)) * (1 - colAt v209 r)) (lit 0x3F7D70A4#32)) 1 (colAt v209 r) := by
  simp only [rowAt, colAt, flat, mat, lin, lin2, ln, lnS, mean, var, gelu, half1, arg, sNext]
  pointwise [k2_pay25]

theorem pay26_row  (r : Fin 512) :
    colAt (k2_pay26 (F := Ideal)) r = 1 := by
  simp only [rowAt, colAt, flat, mat, lin, lin2, ln, lnS, mean, var, gelu, half1, arg, sNext]
  pointwise [k2_pay26]

theorem pay27_row (v209 : FVec Ideal S512x1 .f32) (v216 : FVec Ideal S512x128 .f32) (v272 : FVec Ideal S512x128 .f32) (v288 : FVec Ideal S512x1 .f32) (r : Fin 512) :
    rowAt (k2_pay27 v209 v216 v272 v288) r = fun k => (colAt v288 r - colAt v209 r) * rowAt v272 r k + colAt v209 r * rowAt v216 r k := by
  funext k
  simp only [rowAt, colAt, flat, mat, lin, lin2, ln, lnS, mean, var, gelu, half1, arg, sNext]
  pointwise [k2_pay27]

theorem pay28_row (v58 : FVec Ideal S4x128 .f32) (v209 : FVec Ideal S512x1 .f32) (v216 : FVec Ideal S512x128 .f32) (v272 : FVec Ideal S512x128 .f32) (v288 : FVec Ideal S512x1 .f32) (wi1 : Vec Ideal S256x128 .f32) (bi1 : FVec Ideal S1x128 .f32) (wi2 : Vec Ideal S128x128 .f32) (bi2 : FVec Ideal S1x128 .f32) (r : Fin 512) :
    rowAt (k2_pay28 v58 v209 v216 v272 v288 wi1 bi1 wi2 bi2) r = lin (fun i => gelu (lin2 (rowAt (k2_pay27 v209 v216 v272 v288) r) (fun k => v58 (ix2 3 k)) (mat wi1) (flat bi1) i)) (mat wi2) (flat bi2) := by
  funext k
  simp only [rowAt, colAt, flat, mat, lin, lin2, ln, lnS, mean, var, gelu, half1, arg, sNext]
  pointwise [k2_pay28]

theorem pay31_row (v58 : FVec Ideal S4x128 .f32) (v209 : FVec Ideal S512x1 .f32) (v216 : FVec Ideal S512x128 .f32) (v272 : FVec Ideal S512x128 .f32) (v288 : FVec Ideal S512x1 .f32) (wi1 : Vec Ideal S256x128 .f32) (bi1 : FVec Ideal S1x128 .f32) (wi2 : Vec Ideal S128x128 .f32) (bi2 : FVec Ideal S1x128 .f32) (r : Fin 512) :
    colAt (k2_pay31 v58 v209 v216 v272 v288 wi1 bi1 wi2 bi2) r = ∑ i, rowAt (k2_pay28 v58 v209 v216 v272 v288 wi1 bi1 wi2 bi2) r i := by
  simp only [rowAt, colAt, flat, mat, lin, lin2, ln, lnS, mean, var, gelu, half1, arg, sNext]
  pointwise [k2_pay31]

theorem pay3_eq (g : FVec Ideal S1x128 .f32) : flat (k2_pay3 g) = flat g := by
  funext k; simp only [flat]; pointwise [k2_pay3]

theorem pay4_eq (g : FVec Ideal S1x128 .f32) : flat (k2_pay4 g) = flat g := by
  funext k; simp only [flat]; pointwise [k2_pay4]

theorem pay29_eq (g : FVec Ideal S1x128 .f32) : flat (k2_pay29 g) = flat g := by
  funext k; simp only [flat]; pointwise [k2_pay29]

theorem pay30_eq (g : FVec Ideal S1x128 .f32) : flat (k2_pay30 g) = flat g := by
  funext k; simp only [flat]; pointwise [k2_pay30]

theorem pay6_row (re : Vec Ideal S1x4x128 .f32) (l : Fin 4) : (fun k => k2_pay6 re (ix2 l k)) = fun k => re (ix3 0 l k) := by
  funext k; pointwise [k2_pay6]

theorem pay32_row (v287 : FVec Ideal S512x1 .f32) (v294 : FVec Ideal S512x128 .f32) (v323 : FVec Ideal S512x128 .f32) (v325 : FVec Ideal S1x128 .f32) (v327 : FVec Ideal S1x128 .f32) (v329 : FVec Ideal S512x1 .f32) (scr : Vec Ideal S128x8192 .bf16) (bd : Vec Ideal S1x8192 .f32) (r : Fin 512) (n : Fin 8192) :
    k2_pay32 v287 v294 v323 v325 v327 v329 scr bd (ix3 0 r n) = lin (sNext (colAt v287 r) (fun k => rowAt v294 r k + lnS (rowAt v323 r) (colAt v329 r) (flat v325) (flat v327) k) (rowAt v294 r))
      (fun i k => scr (ix2 i k)) (fun k => bd (ix2 0 k)) n := by
  simp only [rowAt, colAt, flat, lin, lnS, sNext]
  pointwise [k2_pay32]

/-- The weights, from the kernel's operands. -/
noncomputable def wts (w1 : Vec Ideal S128x512 .f32) (b1 : Vec Ideal S1x512 .f32) (w2 : Vec Ideal S512x128 .f32) (b2 g1 be1 : Vec Ideal S1x128 .f32)
    (wi1 : Vec Ideal S256x128 .f32) (bi1 : Vec Ideal S1x128 .f32) (wi2 : Vec Ideal S128x128 .f32) (bi2 g2 be2 : Vec Ideal S1x128 .f32)
    (wh : Vec Ideal S128x1 .f32) (bh : Vec Ideal S1x1 .f32) (widx : Fin 128 → Fin 2 → E) (bidx : Row 2) : Wts :=
  ⟨mat w1, flat b1, mat w2, flat b2, flat g1, flat be1, widx, bidx, mat wi1, flat bi1, mat wi2, flat bi2, flat g2, flat be2, fun k => wh (ix2 k 0), bh (ix2 0 0)⟩

/-- A logit is the decoder's product with its row's state after four steps. -/
theorem decOut_row (x : Vec Ideal S1x512x128 .f32) (w1 : Vec Ideal S128x512 .f32) (b1 : Vec Ideal S1x512 .f32) (w2 : Vec Ideal S512x128 .f32) (b2 : FVec Ideal S1x128 .f32) (g1 : FVec Ideal S1x128 .f32) (be1 : FVec Ideal S1x128 .f32) (re : Vec Ideal S1x4x128 .f32) (wi1 : Vec Ideal S256x128 .f32) (bi1 : FVec Ideal S1x128 .f32) (wi2 : Vec Ideal S128x128 .f32) (bi2 : FVec Ideal S1x128 .f32) (g2 : FVec Ideal S1x128 .f32) (be2 : FVec Ideal S1x128 .f32) (wh : Vec Ideal S128x1 .f32) (bh : Vec Ideal S1x1 .f32) (scr : Vec Ideal S128x8192 .bf16) (bd : Vec Ideal S1x8192 .f32) (widx : Fin 128 → Fin 2 → E) (bidx : Row 2) (r : Fin 512) (n : Fin 8192) :
    Decode.decOut x w1 b1 w2 b2 g1 be1 re wi1 bi1 wi2 bi2 g2 be2 wh bh scr bd (ix3 0 r n)
      = lin (finalSt (wts w1 b1 w2 b2 g1 be1 wi1 bi1 wi2 bi2 g2 be2 wh bh widx bidx) (fun l k => re (ix3 0 l k)) (fun k => x (ix3 0 r k))).s
        (fun i k => scr (ix2 i k)) (fun k => bd (ix2 0 k)) n := by
  obtain ⟨ρ, eρ⟩ : ∃ ρ : Fin 4 → Row 128, (fun l k => re (ix3 0 l k)) = ρ := ⟨_, rfl⟩
  obtain ⟨X, eX⟩ : ∃ X : Row 128, (fun k => x (ix3 0 r k)) = X := ⟨_, rfl⟩
  have hρ (l : Fin 4) : (fun k => re (ix3 0 l k)) = ρ l := by rw [← eρ]
  rw [eρ, eX]
  unfold Decode.decOut
  obtain ⟨W, eW⟩ : ∃ W, wts w1 b1 w2 b2 g1 be1 wi1 bi1 wi2 bi2 g2 be2 wh bh widx bidx = W := ⟨_, rfl⟩
  rw [eW]
  have m1 : mat w1 = W.w1 := by rw [← eW]; rfl
  have m2 : flat b1 = W.b1 := by rw [← eW]; rfl
  have m3 : mat w2 = W.w2 := by rw [← eW]; rfl
  have m4 : flat b2 = W.b2 := by rw [← eW]; rfl
  have m5 : flat g1 = W.g1 := by rw [← eW]; rfl
  have m6 : flat be1 = W.be1 := by rw [← eW]; rfl
  have m7 : mat wi1 = W.wi1 := by rw [← eW]; rfl
  have m8 : flat bi1 = W.bi1 := by rw [← eW]; rfl
  have m9 : mat wi2 = W.wi2 := by rw [← eW]; rfl
  have m10 : flat bi2 = W.bi2 := by rw [← eW]; rfl
  have m11 : flat g2 = W.g2 := by rw [← eW]; rfl
  have m12 : flat be2 = W.be2 := by rw [← eW]; rfl
  have m13 (k : Fin 128) : mat wh k 0 = W.wh k := by rw [← eW]; rfl
  have m14 : bh (ix2 0 0) = W.bh := by rw [← eW]; rfl
  obtain ⟨v30, e30⟩ : ∃ v : FVec Ideal S512x128 .f32, k2_pay2 x w1 b1 w2 b2 = v := ⟨_, rfl⟩
  have r30 : rowAt v30 r = ff W X := by
    rw [← e30, pay2_row]
    simp only [m1, m2, m3, m4, eX, hρ]
    try rw [← eX]
    try simp only [gelu_eq]
    try rfl
  obtain ⟨v32, e32⟩ : ∃ v : FVec Ideal S1x128 .f32, k2_pay3 g1 = v := ⟨_, rfl⟩
  have r32 : flat v32 = W.g1 := by
    rw [← e32, pay3_eq]
    try simp only [m1, m2, m3, m4, m5, m6, m7, m8, m9, m10, m11, m12, m13, m14, eX, hρ, e30, r30]
    try simp only [gelu_eq]
    try rfl
  obtain ⟨v34, e34⟩ : ∃ v : FVec Ideal S1x128 .f32, k2_pay4 be1 = v := ⟨_, rfl⟩
  have r34 : flat v34 = W.be1 := by
    rw [← e34, pay4_eq]
    try simp only [m1, m2, m3, m4, m5, m6, m7, m8, m9, m10, m11, m12, m13, m14, eX, hρ, e30, e32, r30, r32]
    try simp only [gelu_eq]
    try rfl
  obtain ⟨v56, e56⟩ : ∃ v : FVec Ideal S512x128 .f32, k2_pay5 v30 v32 v34 = v := ⟨_, rfl⟩
  have r56 : rowAt v56 r = hid W X := by
    rw [← e56, pay5_row]
    try simp only [m1, m2, m3, m4, m5, m6, m7, m8, m9, m10, m11, m12, m13, m14, eX, hρ, e30, e32, e34, r30, r32, r34]
    try simp only [gelu_eq]
    try rfl
  obtain ⟨v58, e58⟩ : ∃ v : FVec Ideal S4x128 .f32, k2_pay6 re = v := ⟨_, rfl⟩
  have r58 (l : Fin 4) : (fun k => v58 (ix2 l k)) = ρ l := by rw [← e58, pay6_row, hρ]
  obtain ⟨v59, e59⟩ : ∃ v : FVec Ideal S512x1 .f32, k2_pay7 (F := Ideal) = v := ⟨_, rfl⟩
  have r59 : colAt v59 r = 0 := by
    rw [← e59, pay7_row]
    try simp only [m1, m2, m3, m4, m5, m6, m7, m8, m9, m10, m11, m12, m13, m14, eX, hρ, e30, e32, e34, e56, r30, r32, r34, r56, r58]
    try simp only [gelu_eq]
    try rfl
  obtain ⟨v60, e60⟩ : ∃ v : FVec Ideal S512x1 .f32, k2_pay8 (F := Ideal) = v := ⟨_, rfl⟩
  have r60 : colAt v60 r = 0 := by
    rw [← e60, pay8_row]
    try simp only [m1, m2, m3, m4, m5, m6, m7, m8, m9, m10, m11, m12, m13, m14, eX, hρ, e30, e32, e34, e56, e59, r30, r32, r34, r56, r58, r59]
    try simp only [gelu_eq]
    try rfl
  obtain ⟨v70, e70⟩ : ∃ v : FVec Ideal S512x128 .f32, k2_pay9 v30 v32 v34 re wi1 bi1 = v := ⟨_, rfl⟩
  have r70 : rowAt v70 r = lin2 (hid W X) (ρ 0) W.wi1 W.bi1 := by
    rw [← e70, pay9_row]
    try simp only [m1, m2, m3, m4, m5, m6, m7, m8, m9, m10, m11, m12, m13, m14, eX, hρ, e30, e32, e34, e56, e59, e60, r30, r32, r34, r56, r58, r59, r60]
    try simp only [gelu_eq]
    try rfl
  obtain ⟨v77, e77⟩ : ∃ v : FVec Ideal S512x128 .f32, k2_pay10 v30 v32 v34 re wi1 bi1 = v := ⟨_, rfl⟩
  have r77 : rowAt v77 r = fun k => arg (lin2 (hid W X) (ρ 0) W.wi1 W.bi1 k) := by
    rw [← e77, pay10_row]
    try simp only [m1, m2, m3, m4, m5, m6, m7, m8, m9, m10, m11, m12, m13, m14, eX, hρ, e30, e32, e34, e56, e59, e60, e70, r30, r32, r34, r56, r58, r59, r60, r70]
    try simp only [gelu_eq]
    try rfl
  obtain ⟨v116, e116⟩ : ∃ v : FVec Ideal S512x128 .f32, k2_pay11 v56 v70 v77 wi2 bi2 g2 be2 = v := ⟨_, rfl⟩
  have r116 : rowAt v116 r = cand W (start₀ W X).s (ρ 0) := by
    rw [← e116, pay11_row]
    try simp only [m1, m2, m3, m4, m5, m6, m7, m8, m9, m10, m11, m12, m13, m14, eX, hρ, e30, e32, e34, e56, e59, e60, e70, e77, r30, r32, r34, r56, r58, r59, r60, r70, r77]
    try simp only [gelu_eq]
    try rfl
  obtain ⟨v118, e118⟩ : ∃ v : FVec Ideal S512x1 .f32, k2_pay12 v56 v70 v77 wi2 bi2 g2 be2 wh = v := ⟨_, rfl⟩
  have r118 : colAt v118 r = ∑ k, cand W (start₀ W X).s (ρ 0) k * W.wh k := by
    rw [← e118, pay12_row]
    try simp only [m1, m2, m3, m4, m5, m6, m7, m8, m9, m10, m11, m12, m13, m14, eX, hρ, e30, e32, e34, e56, e59, e60, e70, e77, e116, r30, r32, r34, r56, r58, r59, r60, r70, r77, r116]
    try simp only [gelu_eq]
    try rfl
  obtain ⟨v127, e127⟩ : ∃ v : FVec Ideal S512x1 .f32, k2_pay13 v59 v60 v118 bh = v := ⟨_, rfl⟩
  have r127 : colAt v127 r = (step W (ρ 0) (start₀ W X)).p := by
    rw [← e127, pay13_row]
    try simp only [m1, m2, m3, m4, m5, m6, m7, m8, m9, m10, m11, m12, m13, m14, eX, hρ, e30, e32, e34, e56, e59, e60, e70, e77, e116, e118, r30, r32, r34, r56, r58, r59, r60, r70, r77, r116, r118]
    try simp only [gelu_eq]
    try rfl
  obtain ⟨v131, e131⟩ : ∃ v : FVec Ideal S512x1 .f32, k2_pay14 v59 v60 v118 bh = v := ⟨_, rfl⟩
  have r131 : colAt v131 r = (step W (ρ 0) (start₀ W X)).m := by
    rw [← e131, pay14_row]
    try simp only [m1, m2, m3, m4, m5, m6, m7, m8, m9, m10, m11, m12, m13, m14, eX, hρ, e30, e32, e34, e56, e59, e60, e70, e77, e116, e118, e127, r30, r32, r34, r56, r58, r59, r60, r70, r77, r116, r118, r127]
    try simp only [gelu_eq]
    try rfl
  obtain ⟨v138, e138⟩ : ∃ v : FVec Ideal S512x128 .f32, k2_pay15 v56 v60 v116 = v := ⟨_, rfl⟩
  have r138 : rowAt v138 r = (step W (ρ 0) (start₀ W X)).s := by
    rw [← e138, pay15_row]
    try simp only [m1, m2, m3, m4, m5, m6, m7, m8, m9, m10, m11, m12, m13, m14, eX, hρ, e30, e32, e34, e56, e59, e60, e70, e77, e116, e118, e127, e131, r30, r32, r34, r56, r58, r59, r60, r70, r77, r116, r118, r127, r131]
    try simp only [gelu_eq]
    try rfl
  obtain ⟨q1, eq1⟩ : ∃ q, step W (ρ 0) (start₀ W X) = q := ⟨_, rfl⟩
  rw [eq1] at r127 r131 r138
  obtain ⟨v161, e161⟩ : ∃ v : FVec Ideal S512x128 .f32, k2_pay16 v56 v58 v60 v116 wi1 bi1 = v := ⟨_, rfl⟩
  have r161 : rowAt v161 r = fun i => gelu (lin2 q1.s (ρ 1) W.wi1 W.bi1 i) := by
    rw [← e161, pay16_row]
    try simp only [m1, m2, m3, m4, m5, m6, m7, m8, m9, m10, m11, m12, m13, m14, eX, hρ, e30, e32, e34, e56, e59, e60, e70, e77, e116, e118, e127, e131, e138, r30, r32, r34, r56, r58, r59, r60, r70, r77, r116, r118, r127, r131, r138]
    try simp only [gelu_eq]
    try rfl
  obtain ⟨v194, e194⟩ : ∃ v : FVec Ideal S512x128 .f32, k2_pay17 v138 v161 wi2 bi2 g2 be2 = v := ⟨_, rfl⟩
  have r194 : rowAt v194 r = cand W q1.s (ρ 1) := by
    rw [← e194, pay17_row]
    try simp only [m1, m2, m3, m4, m5, m6, m7, m8, m9, m10, m11, m12, m13, m14, eX, hρ, e30, e32, e34, e56, e59, e60, e70, e77, e116, e118, e127, e131, e138, e161, r30, r32, r34, r56, r58, r59, r60, r70, r77, r116, r118, r127, r131, r138, r161]
    try simp only [gelu_eq]
    try rfl
  obtain ⟨v201, e201⟩ : ∃ v : FVec Ideal S512x1 .f32, k2_pay18 v138 v161 wi2 bi2 g2 be2 wh bh = v := ⟨_, rfl⟩
  have r201 : colAt v201 r = prob W (cand W q1.s (ρ 1)) := by
    rw [← e201, pay18_row]
    try simp only [m1, m2, m3, m4, m5, m6, m7, m8, m9, m10, m11, m12, m13, m14, eX, hρ, e30, e32, e34, e56, e59, e60, e70, e77, e116, e118, e127, e131, e138, e161, e194, r30, r32, r34, r56, r58, r59, r60, r70, r77, r116, r118, r127, r131, r138, r161, r194]
    try simp only [gelu_eq]
    try rfl
  obtain ⟨v203, e203⟩ : ∃ v : FVec Ideal S512x1 .f32, k2_pay19 v131 = v := ⟨_, rfl⟩
  have r203 : colAt v203 r = 1 - q1.m := by
    rw [← e203, pay19_row]
    try simp only [m1, m2, m3, m4, m5, m6, m7, m8, m9, m10, m11, m12, m13, m14, eX, hρ, e30, e32, e34, e56, e59, e60, e70, e77, e116, e118, e127, e131, e138, e161, e194, e201, r30, r32, r34, r56, r58, r59, r60, r70, r77, r116, r118, r127, r131, r138, r161, r194, r201]
    try simp only [gelu_eq]
    try rfl
  obtain ⟨v205, e205⟩ : ∃ v : FVec Ideal S512x1 .f32, k2_pay20 v127 v201 v203 = v := ⟨_, rfl⟩
  have r205 : colAt v205 r = (step W (ρ 1) q1).p := by
    rw [← e205, pay20_row]
    try simp only [m1, m2, m3, m4, m5, m6, m7, m8, m9, m10, m11, m12, m13, m14, eX, hρ, e30, e32, e34, e56, e59, e60, e70, e77, e116, e118, e127, e131, e138, e161, e194, e201, e203, r30, r32, r34, r56, r58, r59, r60, r70, r77, r116, r118, r127, r131, r138, r161, r194, r201, r203]
    try simp only [gelu_eq]
    try rfl
  obtain ⟨v209, e209⟩ : ∃ v : FVec Ideal S512x1 .f32, k2_pay21 v127 v131 v201 v203 = v := ⟨_, rfl⟩
  have r209 : colAt v209 r = (step W (ρ 1) q1).m := by
    rw [← e209, pay21_row]
    try simp only [m1, m2, m3, m4, m5, m6, m7, m8, m9, m10, m11, m12, m13, m14, eX, hρ, e30, e32, e34, e56, e59, e60, e70, e77, e116, e118, e127, e131, e138, e161, e194, e201, e203, e205, r30, r32, r34, r56, r58, r59, r60, r70, r77, r116, r118, r127, r131, r138, r161, r194, r201, r203, r205]
    try simp only [gelu_eq]
    try rfl
  obtain ⟨v216, e216⟩ : ∃ v : FVec Ideal S512x128 .f32, k2_pay22 v131 v138 v194 = v := ⟨_, rfl⟩
  have r216 : rowAt v216 r = (step W (ρ 1) q1).s := by
    rw [← e216, pay22_row]
    try simp only [m1, m2, m3, m4, m5, m6, m7, m8, m9, m10, m11, m12, m13, m14, eX, hρ, e30, e32, e34, e56, e59, e60, e70, e77, e116, e118, e127, e131, e138, e161, e194, e201, e203, e205, e209, r30, r32, r34, r56, r58, r59, r60, r70, r77, r116, r118, r127, r131, r138, r161, r194, r201, r203, r205, r209]
    try simp only [gelu_eq]
    try rfl
  obtain ⟨q2, eq2⟩ : ∃ q, step W (ρ 1) q1 = q := ⟨_, rfl⟩
  rw [eq2] at r205 r209 r216
  obtain ⟨v245, e245⟩ : ∃ v : FVec Ideal S512x128 .f32, k2_pay23 v58 v131 v138 v194 wi1 bi1 wi2 bi2 = v := ⟨_, rfl⟩
  have r245 : rowAt v245 r = lin (fun i => gelu (lin2 q2.s (ρ 2) W.wi1 W.bi1 i)) W.wi2 W.bi2 := by
    rw [← e245, pay23_row]
    try simp only [m1, m2, m3, m4, m5, m6, m7, m8, m9, m10, m11, m12, m13, m14, eX, hρ, e30, e32, e34, e56, e59, e60, e70, e77, e116, e118, e127, e131, e138, e161, e194, e201, e203, e205, e209, e216, r30, r32, r34, r56, r58, r59, r60, r70, r77, r116, r118, r127, r131, r138, r161, r194, r201, r203, r205, r209, r216]
    try simp only [gelu_eq]
    try rfl
  obtain ⟨v272, e272⟩ : ∃ v : FVec Ideal S512x128 .f32, k2_pay24 v216 v245 g2 be2 = v := ⟨_, rfl⟩
  have r272 : rowAt v272 r = cand W q2.s (ρ 2) := by
    rw [← e272, pay24_row]
    try simp only [m1, m2, m3, m4, m5, m6, m7, m8, m9, m10, m11, m12, m13, m14, eX, hρ, e30, e32, e34, e56, e59, e60, e70, e77, e116, e118, e127, e131, e138, e161, e194, e201, e203, e205, e209, e216, e245, r30, r32, r34, r56, r58, r59, r60, r70, r77, r116, r118, r127, r131, r138, r161, r194, r201, r203, r205, r209, r216, r245]
    try simp only [gelu_eq]
    try rfl
  obtain ⟨v287, e287⟩ : ∃ v : FVec Ideal S512x1 .f32, k2_pay25 v205 v209 v216 v245 g2 be2 wh bh = v := ⟨_, rfl⟩
  have r287 : colAt v287 r = (step W (ρ 2) q2).m := by
    rw [← e287, pay25_row]
    try simp only [m1, m2, m3, m4, m5, m6, m7, m8, m9, m10, m11, m12, m13, m14, eX, hρ, e30, e32, e34, e56, e59, e60, e70, e77, e116, e118, e127, e131, e138, e161, e194, e201, e203, e205, e209, e216, e245, e272, r30, r32, r34, r56, r58, r59, r60, r70, r77, r116, r118, r127, r131, r138, r161, r194, r201, r203, r205, r209, r216, r245, r272]
    try simp only [gelu_eq]
    try rfl
  obtain ⟨v288, e288⟩ : ∃ v : FVec Ideal S512x1 .f32, k2_pay26 (F := Ideal) = v := ⟨_, rfl⟩
  have r288 : colAt v288 r = 1 := by
    rw [← e288, pay26_row]
    try simp only [m1, m2, m3, m4, m5, m6, m7, m8, m9, m10, m11, m12, m13, m14, eX, hρ, e30, e32, e34, e56, e59, e60, e70, e77, e116, e118, e127, e131, e138, e161, e194, e201, e203, e205, e209, e216, e245, e272, e287, r30, r32, r34, r56, r58, r59, r60, r70, r77, r116, r118, r127, r131, r138, r161, r194, r201, r203, r205, r209, r216, r245, r272, r287]
    try simp only [gelu_eq]
    try rfl
  obtain ⟨v294, e294⟩ : ∃ v : FVec Ideal S512x128 .f32, k2_pay27 v209 v216 v272 v288 = v := ⟨_, rfl⟩
  have r294 : rowAt v294 r = (step W (ρ 2) q2).s := by
    rw [← e294, pay27_row]
    try simp only [m1, m2, m3, m4, m5, m6, m7, m8, m9, m10, m11, m12, m13, m14, eX, hρ, e30, e32, e34, e56, e59, e60, e70, e77, e116, e118, e127, e131, e138, e161, e194, e201, e203, e205, e209, e216, e245, e272, e287, e288, r30, r32, r34, r56, r58, r59, r60, r70, r77, r116, r118, r127, r131, r138, r161, r194, r201, r203, r205, r209, r216, r245, r272, r287, r288]
    try simp only [gelu_eq]
    try rfl
  obtain ⟨q3, eq3⟩ : ∃ q, step W (ρ 2) q2 = q := ⟨_, rfl⟩
  rw [eq3] at r287 r294
  obtain ⟨v323, e323⟩ : ∃ v : FVec Ideal S512x128 .f32, k2_pay28 v58 v209 v216 v272 v288 wi1 bi1 wi2 bi2 = v := ⟨_, rfl⟩
  have r323 : rowAt v323 r = lin (fun i => gelu (lin2 q3.s (ρ 3) W.wi1 W.bi1 i)) W.wi2 W.bi2 := by
    rw [← e323, pay28_row]
    try simp only [m1, m2, m3, m4, m5, m6, m7, m8, m9, m10, m11, m12, m13, m14, eX, hρ, e30, e32, e34, e56, e59, e60, e70, e77, e116, e118, e127, e131, e138, e161, e194, e201, e203, e205, e209, e216, e245, e272, e287, e288, e294, r30, r32, r34, r56, r58, r59, r60, r70, r77, r116, r118, r127, r131, r138, r161, r194, r201, r203, r205, r209, r216, r245, r272, r287, r288, r294]
    try simp only [gelu_eq]
    try rfl
  obtain ⟨v325, e325⟩ : ∃ v : FVec Ideal S1x128 .f32, k2_pay29 g2 = v := ⟨_, rfl⟩
  have r325 : flat v325 = W.g2 := by
    rw [← e325, pay29_eq]
    try simp only [m1, m2, m3, m4, m5, m6, m7, m8, m9, m10, m11, m12, m13, m14, eX, hρ, e30, e32, e34, e56, e59, e60, e70, e77, e116, e118, e127, e131, e138, e161, e194, e201, e203, e205, e209, e216, e245, e272, e287, e288, e294, e323, r30, r32, r34, r56, r58, r59, r60, r70, r77, r116, r118, r127, r131, r138, r161, r194, r201, r203, r205, r209, r216, r245, r272, r287, r288, r294, r323]
    try simp only [gelu_eq]
    try rfl
  obtain ⟨v327, e327⟩ : ∃ v : FVec Ideal S1x128 .f32, k2_pay30 be2 = v := ⟨_, rfl⟩
  have r327 : flat v327 = W.be2 := by
    rw [← e327, pay30_eq]
    try simp only [m1, m2, m3, m4, m5, m6, m7, m8, m9, m10, m11, m12, m13, m14, eX, hρ, e30, e32, e34, e56, e59, e60, e70, e77, e116, e118, e127, e131, e138, e161, e194, e201, e203, e205, e209, e216, e245, e272, e287, e288, e294, e323, e325, r30, r32, r34, r56, r58, r59, r60, r70, r77, r116, r118, r127, r131, r138, r161, r194, r201, r203, r205, r209, r216, r245, r272, r287, r288, r294, r323, r325]
    try simp only [gelu_eq]
    try rfl
  obtain ⟨v329, e329⟩ : ∃ v : FVec Ideal S512x1 .f32, k2_pay31 v58 v209 v216 v272 v288 wi1 bi1 wi2 bi2 = v := ⟨_, rfl⟩
  have r329 : colAt v329 r = ∑ i, lin (fun i => gelu (lin2 q3.s (ρ 3) W.wi1 W.bi1 i)) W.wi2 W.bi2 i := by
    rw [← e329, pay31_row]
    try simp only [m1, m2, m3, m4, m5, m6, m7, m8, m9, m10, m11, m12, m13, m14, eX, hρ, e30, e32, e34, e56, e59, e60, e70, e77, e116, e118, e127, e131, e138, e161, e194, e201, e203, e205, e209, e216, e245, e272, e287, e288, e294, e323, e325, e327, r30, r32, r34, r56, r58, r59, r60, r70, r77, r116, r118, r127, r131, r138, r161, r194, r201, r203, r205, r209, r216, r245, r272, r287, r288, r294, r323, r325, r327]
    try simp only [gelu_eq]
    try rfl
  simp only [e30, e32, e34, e56, e59, e60, e70, e77, e116, e118, e127, e131, e138, e161, e194, e201, e203, e205, e209, e216, e245, e272, e287, e288, e294, e323, e325, e327, e329, e58]
  rw [pay32_row]
  simp only [r30, r32, r34, r56, r58, r59, r60, r70, r77, r116, r118, r127, r131, r138, r161, r194, r201, r203, r205, r209, r216, r245, r272, r287, r288, r294, r323, r325, r327, r329, lnS_eq]
  have eq4 : finalSt W ρ X = step W (ρ 3) q3 := by rw [← eq3, ← eq2, ← eq1]; rfl
  rw [eq4]
  rfl

end Cert.Proof.DecodeRows
-- ==== Proof.Rows.lean ====
/-
  A gather of whole rows, read at an index: `x[idx]` of an [N, C] table at a [B, T] array of row numbers, which is printed with the
  start indices in a trailing axis of size one. Entry (b, t, c) of the result is entry c of the row that start index (b, t) names, read
  signed and clamped into the table.
-/
module

public import Idealize.ShloMosaic.Lib.ValueIdxCore
public import Mathlib.Tactic.NormNum

@[expose] public section

noncomputable section

namespace Cert.Proof.Rows

open Idealize.ShloMosaic Idealize.ShloMosaic.ValueIdx

variable {α : Type}

/-- The dimension numbers of a gather of rows. -/
abbrev rowDims (N C B T : Nat) (wf : GatherDims.WF ⟨2, ![N, C]⟩ ⟨3, ![B, T, 1]⟩ ⟨3, ![B, T, C]⟩ [2] [0] [] [0] [] 2 ![1, C]) :
    GatherDims ⟨2, ![N, C]⟩ ⟨3, ![B, T, 1]⟩ ⟨3, ![B, T, C]⟩ where
  offsetDims := [2]
  collapsedSliceDims := [0]
  operandBatchingDims := []
  startIndicesBatchingDims := []
  startIndexMap := [0]
  indexVectorDim := 2
  sliceSizes := ![1, C]
  wf := wf

/-- The row a start index names: read signed, clamped into `[0, N - 1]`. -/
def rowOf {N w : Nat} (hN : 0 < N) (v : BitVec w) : Fin N := ⟨min v.toInt.toNat (N - 1), by omega⟩

theorem gather_rows {N C B T w : Nat} (hN : 0 < N)
    (wf : GatherDims.WF ⟨2, ![N, C]⟩ ⟨3, ![B, T, 1]⟩ ⟨3, ![B, T, C]⟩ [2] [0] [] [0] [] 2 ![1, C])
    (x : (⟨2, ![N, C]⟩ : Shape).Idx → α) (idx : IVec ⟨3, ![B, T, 1]⟩ w) (b : Fin B) (t : Fin T) (c : Fin C) :
    Host.gather (rowDims N C B T wf) x idx (ix3 b t c) = x (ix2 (rowOf hN (idx (ix3 b t (0 : Fin 1)))) c) := by
  unfold Host.gather
  refine congrArg x (funext fun a => Fin.ext ?_)
  show (rowDims N C B T wf).start (ix3 b t c) idx a + (rowDims N C B T wf).batchCoord (ix3 b t c) a
      + (rowDims N C B T wf).offCoord (ix3 b t c) a = _
  have h01 : a = 0 ∨ a = 1 := by
    match a with
    | ⟨0, _⟩ => exact Or.inl rfl
    | ⟨1, _⟩ => exact Or.inr rfl
  rw [GatherDims.batchCoord_eq_zero _ _ _ (by simp), Nat.add_zero]
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N C B T wf).startIndexMap from List.mem_singleton.mpr rfl)]
    have hsi : (rowDims N C B T wf).siIdx (ix3 b t c) ⟨List.idxOf (0 : Fin 2) (rowDims N C B T wf).startIndexMap,
        List.idxOf_lt_length_iff.2 (List.mem_singleton.mpr rfl)⟩ = ix3 b t (0 : Fin 1) := by
      funext e; refine Fin.ext ?_
      match e with
      | ⟨0, _⟩ => rfl
      | ⟨1, _⟩ => rfl
      | ⟨2, _⟩ => rfl
    rw [hsi]
    rfl
  · unfold GatherDims.start
    rw [dif_neg (show (1 : Fin 2) ∉ (rowDims N C B T wf).startIndexMap from (by decide : (1 : Fin 2) ∉ [0])), Nat.zero_add]
    rfl

/-- An index below the number of rows names its own row. -/
theorem rowOf_eq {N : Nat} (hN : 0 < N) (hM : N ≤ 2147483648) (v : BitVec 32) (h : v.toNat < N) : rowOf hN v = ⟨v.toNat % N, Nat.mod_lt _ hN⟩ := by
  refine Fin.ext ?_
  show min v.toInt.toNat (N - 1) = v.toNat % N
  rw [Nat.mod_eq_of_lt h, BitVec.toInt_eq_toNat_cond, if_pos (by omega), Int.toNat_natCast]
  omega

/-- An index that is not negative keeps its value under the wrap of negative indices. -/
theorem wrap_eq (v k : BitVec 32) (h : v.toNat < 2147483648) :
    (Scalar.select (IntOp.cmpi .slt v 0#32) (IntOp.addi v k) v : BitVec 32) = v := by
  have e : IntOp.cmpi .slt v 0#32 = 0#1 := by
    have : ¬ BitVec.slt v 0#32 := by
      rw [BitVec.slt_eq_decide, decide_eq_true_eq, BitVec.toInt_eq_toNat_cond, if_pos (by omega)]
      simp
    simp [IntOp.cmpi, this]
  rw [e]; rfl

end Cert.Proof.Rows

end
-- ==== Proof.RefOps.lean ====
module

public import proofs.«01_k».proof.Proof.Gen.ReferenceIdeal.Run
public import proofs.«01_k».proof.Proof.Spec
public import proofs.«01_k».proof.Proof.Rows
public import Idealize.ShloMosaic.Lib.ReduceAll

/-!
The reference's steps as functions of plain tensors, and each of them read at one row.
-/

@[expose] public section

set_option maxRecDepth 16384

noncomputable section

namespace Cert.Proof.RefOps

open Cert.ReferenceIdeal Cert.ReferenceIdeal.Gen
open Idealize.ShloMosaic
open Cert.Proof Cert.Proof.Spec

/-- The embedded tokens. -/
noncomputable def embV (ids : IVec S8x512 32) (tab : FVec Ideal S8192x128 .f32) : FVec Ideal S8x512x128 .f32 :=
  Host.gather gather_S8192x128_S8x512x1_S8x512x128_2_0_n_n_0_2_1128 tab (broadcastInDim S8x512x1 ![0, 1] bcast_S8x512_S8x512x1_0_1 (select (cmpi .slt ids (broadcastInDim S8x512 ![] bcast_S_S8x512 (constantI S_ 32 0#32))) (addi ids (broadcastInDim S8x512 ![] bcast_S_S8x512 (constantI S_ 32 8192#32))) ids))

/-- The first layer. -/
noncomputable def upV (x : FVec Ideal S8x512x128 .f32) (w1 : FVec Ideal S128x512 .f32) (b1 : FVec Ideal S512 .f32) : FVec Ideal S8x512x512 .f32 :=
  addf (Host.dotGeneral dot_S8x512x128_S128x512_S8x512x512_2_0_01_1_n_n none x w1) (broadcastInDim S8x512x512 ![0, 1, 2] bcast_S1x1x512_S8x512x512_0_1_2 (broadcastInDim S1x1x512 ![2] bcast_S512_S1x1x512_2 b1))

/-- The second layer, with the residual. -/
noncomputable def ffV (x : FVec Ideal S8x512x128 .f32) (u : FVec Ideal S8x512x512 .f32) (w2 : FVec Ideal S512x128 .f32) (b2 : FVec Ideal S128 .f32) : FVec Ideal S8x512x128 .f32 :=
  addf x (addf (Host.dotGeneral dot_S8x512x512_S512x128_S8x512x128_2_0_01_1_n_n none (mulf u (mulf (broadcastInDim S8x512x512 ![] bcast_S_S8x512x512 (constant S_ .f32 0x3F000000#32)) (addf (broadcastInDim S8x512x512 ![] bcast_S_S8x512x512 (constant S_ .f32 0x3F800000#32)) (Host.tanh (mulf (broadcastInDim S8x512x512 ![] bcast_S_S8x512x512 (constant S_ .f32 0x3F4C422A#32)) (addf u (mulf (broadcastInDim S8x512x512 ![] bcast_S_S8x512x512 (constant S_ .f32 0x3D372713#32)) (mulf (mulf u u) u)))))))) w2) (broadcastInDim S8x512x128 ![0, 1, 2] bcast_S1x1x128_S8x512x128_0_1_2 (broadcastInDim S1x1x128 ![2] bcast_S128_S1x1x128_2 b2)))

/-- Rows less their means. -/
noncomputable def cenV (h : FVec Ideal S8x512x128 .f32) : FVec Ideal S8x512x128 .f32 :=
  subf h (broadcastInDim S8x512x128 ![0, 1, 2] bcast_S8x512x1_S8x512x128_0_1_2 (Host.divf (broadcastInDim S8x512x1 ![0, 1] bcast_S8x512_S8x512x1_0_1 (Host.reduceAdd h (constant S_ .f32 0x00000000#32) reducesTo_S8x512x128_S8x512_d2 h_S_)) (broadcastInDim S8x512x1 ![] bcast_S_S8x512x1 (constant S_ .f32 0x43000000#32))))

/-- The divisor of the variance. -/
noncomputable def c8V  : FVec Ideal S_ .f32 :=
  subf (constant S_ .f32 0x43000000#32) (sitofp .f32 (constantI S_ 32 0#32))

/-- The layer norm. -/
noncomputable def lnV (h : FVec Ideal S8x512x128 .f32) (cen : FVec Ideal S8x512x128 .f32) (c8 : FVec Ideal S_ .f32) (g : FVec Ideal S128 .f32) (be : FVec Ideal S128 .f32) : FVec Ideal S8x512x128 .f32 :=
  addf (mulf (Host.divf (subf h (broadcastInDim S8x512x128 ![0, 1, 2] bcast_S8x512x1_S8x512x128_0_1_2 (Host.divf (broadcastInDim S8x512x1 ![0, 1] bcast_S8x512_S8x512x1_0_1 (Host.reduceAdd h (constant S_ .f32 0x00000000#32) reducesTo_S8x512x128_S8x512_d2 h_S_)) (broadcastInDim S8x512x1 ![] bcast_S_S8x512x1 (constant S_ .f32 0x43000000#32))))) (broadcastInDim S8x512x128 ![0, 1, 2] bcast_S8x512x1_S8x512x128_0_1_2 (Host.sqrt (addf (select (broadcastInDim S8x512x1 ![] bcast_S_S8x512x1 (cmpf .ogt c8 (constant S_ .f32 0x00000000#32))) (Host.divf (broadcastInDim S8x512x1 ![0, 1] bcast_S8x512_S8x512x1_0_1 (Host.reduceAdd (mulf cen cen) (constant S_ .f32 0x00000000#32) reducesTo_S8x512x128_S8x512_d2 h_S_)) (broadcastInDim S8x512x1 ![] bcast_S_S8x512x1 c8)) (broadcastInDim S8x512x1 ![] bcast_S_S8x512x1 (id (constant S_ .f32 0x7FC00000#32)))) (broadcastInDim S8x512x1 ![] bcast_S_S8x512x1 (constant S_ .f32 0x358637BD#32)))))) (broadcastInDim S8x512x128 ![0, 1, 2] bcast_S1x1x128_S8x512x128_0_1_2 (broadcastInDim S1x1x128 ![2] bcast_S128_S1x1x128_2 g))) (broadcastInDim S8x512x128 ![0, 1, 2] bcast_S1x1x128_S8x512x128_0_1_2 (broadcastInDim S1x1x128 ![2] bcast_S128_S1x1x128_2 be))

/-- The halting mask and the accumulated probability before the first loop. -/
noncomputable def zeroV  : FVec Ideal S8x512x1 .f32 :=
  broadcastInDim S8x512x1 ![] bcast_S_S8x512x1 (constant S_ .f32 0x00000000#32)

/-- The places in a window. -/
noncomputable def iotaV  : IVec S64 32 :=
  iotaInDim S64 32 0

/-- The two raw parameters of each sequence's window. -/
noncomputable def rawV (s : FVec Ideal S8x512x128 .f32) (widx : FVec Ideal S128x2 .f32) (bidx : FVec Ideal S2 .f32) : FVec Ideal S8x2 .f32 :=
  addf (Host.dotGeneral dot_S8x128_S128x2_S8x2_1_0_0_1_n_n none (shapeCast _ (extractStridedSlice S8x1x128 ![0, 511, 0] s slices_S8x512x128_S8x1x128_0_511_0) shapeCasts_S8x1x128_S8x128) widx) (broadcastInDim S8x2 ![0, 1] bcast_S1x2_S8x2_0_1 (broadcastInDim S1x2 ![1] bcast_S2_S1x2_1 bidx))

/-- The windows' centres. -/
noncomputable def muV (raw : FVec Ideal S8x2 .f32) : FVec Ideal S8 .f32 :=
  Host.divf (broadcastInDim S8 ![] bcast_S_S8 (constant S_ .f32 0x3F800000#32)) (addf (broadcastInDim S8 ![] bcast_S_S8 (constant S_ .f32 0x3F800000#32)) (Host.exp (Host.negf (shapeCast _ (extractStridedSlice S8x1 ![0, 0] raw slices_S8x2_S8x1_0_0) shapeCasts_S8x1_S8))))

/-- The widths before the softplus. -/
noncomputable def preV (raw : FVec Ideal S8x2 .f32) : FVec Ideal S8 .f32 :=
  shapeCast _ (extractStridedSlice S8x1 ![0, 1] raw slices_S8x2_S8x1_0_1) shapeCasts_S8x1_S8

/-- Zero. -/
noncomputable def nilV  : FVec Ideal S_ .f32 :=
  constant S_ .f32 0x00000000#32

/-- The softplus' argument less zero. -/
noncomputable def shV (pre : FVec Ideal S8 .f32) (z : FVec Ideal S_ .f32) : FVec Ideal S8 .f32 :=
  subf pre (broadcastInDim S8 ![] bcast_S_S8 z)

/-- The windows' first rows. -/
noncomputable def startV (mu : FVec Ideal S8 .f32) : IVec S8 32 :=
  minsi (broadcastInDim S8 ![] bcast_S_S8 (id (constantI S_ 32 999936#32))) (maxsi (broadcastInDim S8 ![] bcast_S_S8 (id (constantI S_ 32 0#32))) (fptosi 32 (Host.floor (mulf mu (broadcastInDim S8 ![] bcast_S_S8 (constant S_ .f32 0x49742000#32))))))

/-- The windows' rows. -/
noncomputable def posV (st : IVec S8 32) (io : IVec S64 32) : IVec S8x64 32 :=
  addi (broadcastInDim S8x64 ![0, 1] bcast_S8x1_S8x64_0_1 (broadcastInDim S8x1 ![0] bcast_S8_S8x1_0 st)) (broadcastInDim S8x64 ![0, 1] bcast_S1x64_S8x64_0_1 (broadcastInDim S1x64 ![1] bcast_S64_S1x64_1 io))

/-- The rows to take. -/
noncomputable def ixV (pos : IVec S8x64 32) : IVec S8x64x1 32 :=
  broadcastInDim S8x64x1 ![0, 1] bcast_S8x64_S8x64x1_0_1 (select (cmpi .slt pos (broadcastInDim S8x64 ![] bcast_S_S8x64 (constantI S_ 32 0#32))) (addi pos (broadcastInDim S8x64 ![] bcast_S_S8x64 (constantI S_ 32 1000000#32))) pos)

/-- The rows' signed distances from the centre. -/
noncomputable def distV (pos : IVec S8x64 32) (mu : FVec Ideal S8 .f32) : FVec Ideal S8x64 .f32 :=
  subf (Host.divf (sitofp .f32 pos) (broadcastInDim S8x64 ![] bcast_S_S8x64 (constant S_ .f32 0x49742400#32))) (broadcastInDim S8x64 ![0, 1] bcast_S8x1_S8x64_0_1 (broadcastInDim S8x1 ![0] bcast_S8_S8x1_0 mu))

/-- The windows' widths. -/
noncomputable def sigV (sh : FVec Ideal S8 .f32) (pre : FVec Ideal S8 .f32) (z : FVec Ideal S_ .f32) : FVec Ideal S8x1 .f32 :=
  broadcastInDim S8x1 ![0] bcast_S8_S8x1_0 (addf (select (cmpf .une sh sh) (addf pre (broadcastInDim S8 ![] bcast_S_S8 z)) (addf (maximumf pre (broadcastInDim S8 ![] bcast_S_S8 z)) (Host.log1p (Host.exp (Host.negf (Host.absf sh)))))) (broadcastInDim S8 ![] bcast_S_S8 (constant S_ .f32 0x3A83126F#32)))

/-- The exponents. -/
noncomputable def wlV (dist : FVec Ideal S8x64 .f32) (sig : FVec Ideal S8x1 .f32) : FVec Ideal S8x64 .f32 :=
  Host.divf (Host.negf (mulf dist dist)) (broadcastInDim S8x64 ![0, 1] bcast_S8x1_S8x64_0_1 (mulf (broadcastInDim S8x1 ![] bcast_S_S8x1 (constant S_ .f32 0x40000000#32)) (mulf sig sig)))

/-- The exponentials. -/
noncomputable def weV (wl : FVec Ideal S8x64 .f32) : FVec Ideal S8x64 .f32 :=
  Host.exp (subf wl (broadcastInDim S8x64 ![0, 1] bcast_S8x1_S8x64_0_1 (broadcastInDim S8x1 ![0] bcast_S8_S8x1_0 (maximumf (broadcastInDim S8 ![] bcast_S_S8 (constant S_ .f32 0xFF800000#32)) (Host.reduce FloatOps.maximumf wl (constant S_ .f32 0xFF800000#32) reducesTo_S8x64_S8_d1 h_S_)))))

/-- Whether a row to take is one of the table's. -/
noncomputable def okV (ix : IVec S8x64x1 32) : IVec S8x64 1 :=
  Host.reduce IntOp.andi (andi (cmpi .sge ix (broadcastInDim S8x64x1 ![] bcast_S_S8x64x1 (constantI S_ 32 0#32))) (cmpi .sle ix (broadcastInDim S8x64x1 ![0, 1, 2] bcast_S1x1x1_S8x64x1_0_1_2 (broadcastInDim S1x1x1 ![2] bcast_S1_S1x1x1_2 (constantI S1 32 999999#32))))) (constantI S_ 1 1#1) reducesTo_S8x64x1_S8x64_d2 h_S_

/-- The rows taken. -/
noncomputable def takeV (ok : IVec S8x64 1) (ix : IVec S8x64x1 32) (pool : FVec Ideal S1000000x128 .f32) : FVec Ideal S8x64x128 .f32 :=
  select (broadcastInDim S8x64x128 ![0, 1] bcast_S8x64_S8x64x128_0_1 ok) (Host.gather gather_S1000000x128_S8x64x1_S8x64x128_2_0_n_n_0_2_1128 pool ix) (broadcastInDim S8x64x128 ![] bcast_S_S8x64x128 (constant S_ .f32 0x7FC00000#32))

/-- The weights. -/
noncomputable def wV (we : FVec Ideal S8x64 .f32) : FVec Ideal S8x64 .f32 :=
  Host.divf we (broadcastInDim S8x64 ![0, 1] bcast_S8x1_S8x64_0_1 (broadcastInDim S8x1 ![0] bcast_S8_S8x1_0 (Host.reduceAdd we (constant S_ .f32 0x00000000#32) reducesTo_S8x64_S8_d1 h_S_)))

/-- The retrieved rows. -/
noncomputable def gotV (w : FVec Ideal S8x64 .f32) (took : FVec Ideal S8x64x128 .f32) : FVec Ideal S8x128 .f32 :=
  Host.dotGeneral dot_S8x64_S8x64x128_S8x128_1_1_n_2_0_0 none w took

/-- The first layer of a loop, over a state row and the retrieved row. -/
noncomputable def combV (s : FVec Ideal S8x512x128 .f32) (got : FVec Ideal S8x128 .f32) (wi1 : FVec Ideal S256x128 .f32) (bi1 : FVec Ideal S128 .f32) : FVec Ideal S8x512x128 .f32 :=
  addf (Host.dotGeneral dot_S8x512x256_S256x128_S8x512x128_2_0_01_1_n_n none (concatenate S8x512x256 2 [⟨S8x512x128, s⟩, ⟨S8x512x128, (shapeCast _ (broadcastInDim S8x1x512x128 ![0, 1, 3] bcast_S8x1x128_S8x1x512x128_0_1_3 (broadcastInDim S8x1x128 ![0, 2] bcast_S8x128_S8x1x128_0_2 got)) shapeCasts_S8x1x512x128_S8x512x128)⟩] concatenates_S8x512x128_S8x512x128_S8x512x256_d2) wi1) (broadcastInDim S8x512x128 ![0, 1, 2] bcast_S1x1x128_S8x512x128_0_1_2 (broadcastInDim S1x1x128 ![2] bcast_S128_S1x1x128_2 bi1))

/-- The second layer of a loop. -/
noncomputable def hV (comb : FVec Ideal S8x512x128 .f32) (wi2 : FVec Ideal S128x128 .f32) (bi2 : FVec Ideal S128 .f32) : FVec Ideal S8x512x128 .f32 :=
  addf (Host.dotGeneral dot_S8x512x128_S128x128_S8x512x128_2_0_01_1_n_n none (mulf comb (mulf (broadcastInDim S8x512x128 ![] bcast_S_S8x512x128 (constant S_ .f32 0x3F000000#32)) (addf (broadcastInDim S8x512x128 ![] bcast_S_S8x512x128 (constant S_ .f32 0x3F800000#32)) (Host.tanh (mulf (broadcastInDim S8x512x128 ![] bcast_S_S8x512x128 (constant S_ .f32 0x3F4C422A#32)) (addf comb (mulf (broadcastInDim S8x512x128 ![] bcast_S_S8x512x128 (constant S_ .f32 0x3D372713#32)) (mulf (mulf comb comb) comb)))))))) wi2) (broadcastInDim S8x512x128 ![0, 1, 2] bcast_S1x1x128_S8x512x128_0_1_2 (broadcastInDim S1x1x128 ![2] bcast_S128_S1x1x128_2 bi2))

/-- The candidate states. -/
noncomputable def candV (s : FVec Ideal S8x512x128 .f32) (h : FVec Ideal S8x512x128 .f32) (cen : FVec Ideal S8x512x128 .f32) (c8 : FVec Ideal S_ .f32) (g : FVec Ideal S128 .f32) (be : FVec Ideal S128 .f32) : FVec Ideal S8x512x128 .f32 :=
  addf s (addf (mulf (Host.divf (subf h (broadcastInDim S8x512x128 ![0, 1, 2] bcast_S8x512x1_S8x512x128_0_1_2 (Host.divf (broadcastInDim S8x512x1 ![0, 1] bcast_S8x512_S8x512x1_0_1 (Host.reduceAdd h (constant S_ .f32 0x00000000#32) reducesTo_S8x512x128_S8x512_d2 h_S_)) (broadcastInDim S8x512x1 ![] bcast_S_S8x512x1 (constant S_ .f32 0x43000000#32))))) (broadcastInDim S8x512x128 ![0, 1, 2] bcast_S8x512x1_S8x512x128_0_1_2 (Host.sqrt (addf (select (broadcastInDim S8x512x1 ![] bcast_S_S8x512x1 (cmpf .ogt c8 (constant S_ .f32 0x00000000#32))) (Host.divf (broadcastInDim S8x512x1 ![0, 1] bcast_S8x512_S8x512x1_0_1 (Host.reduceAdd (mulf cen cen) (constant S_ .f32 0x00000000#32) reducesTo_S8x512x128_S8x512_d2 h_S_)) (broadcastInDim S8x512x1 ![] bcast_S_S8x512x1 c8)) (broadcastInDim S8x512x1 ![] bcast_S_S8x512x1 (id (constant S_ .f32 0x7FC00000#32)))) (broadcastInDim S8x512x1 ![] bcast_S_S8x512x1 (constant S_ .f32 0x358637BD#32)))))) (broadcastInDim S8x512x128 ![0, 1, 2] bcast_S1x1x128_S8x512x128_0_1_2 (broadcastInDim S1x1x128 ![2] bcast_S128_S1x1x128_2 g))) (broadcastInDim S8x512x128 ![0, 1, 2] bcast_S1x1x128_S8x512x128_0_1_2 (broadcastInDim S1x1x128 ![2] bcast_S128_S1x1x128_2 be)))

/-- The accumulated halting probability. -/
noncomputable def pV (p : FVec Ideal S8x512x1 .f32) (cand : FVec Ideal S8x512x128 .f32) (wh : FVec Ideal S128x1 .f32) (bh : FVec Ideal S1 .f32) (m : FVec Ideal S8x512x1 .f32) : FVec Ideal S8x512x1 .f32 :=
  addf p (mulf (Host.divf (broadcastInDim S8x512x1 ![] bcast_S_S8x512x1 (constant S_ .f32 0x3F800000#32)) (addf (broadcastInDim S8x512x1 ![] bcast_S_S8x512x1 (constant S_ .f32 0x3F800000#32)) (Host.exp (Host.negf (addf (Host.dotGeneral dot_S8x512x128_S128x1_S8x512x1_2_0_01_1_n_n none cand wh) (broadcastInDim S8x512x1 ![0, 1, 2] bcast_S1x1x1_S8x512x1_0_1_2 (broadcastInDim S1x1x1 ![2] bcast_S1_S1x1x1_2 bh))))))) (subf (broadcastInDim S8x512x1 ![] bcast_S_S8x512x1 (constant S_ .f32 0x3F800000#32)) m))

/-- The halting mask. -/
noncomputable def mV (p : FVec Ideal S8x512x1 .f32) (m : FVec Ideal S8x512x1 .f32) : FVec Ideal S8x512x1 .f32 :=
  select (cmpf .oge p (broadcastInDim S8x512x1 ![] bcast_S_S8x512x1 (constant S_ .f32 0x3F7D70A4#32))) (broadcastInDim S8x512x1 ![] bcast_S_S8x512x1 (id (constant S_ .f32 0x3F800000#32))) m

/-- The states. -/
noncomputable def sV (m : FVec Ideal S8x512x1 .f32) (cand : FVec Ideal S8x512x128 .f32) (s : FVec Ideal S8x512x128 .f32) : FVec Ideal S8x512x128 .f32 :=
  addf (mulf (broadcastInDim S8x512x128 ![0, 1, 2] bcast_S8x512x1_S8x512x128_0_1_2 (subf (broadcastInDim S8x512x1 ![] bcast_S_S8x512x1 (constant S_ .f32 0x3F800000#32)) m)) cand) (mulf (broadcastInDim S8x512x128 ![0, 1, 2] bcast_S8x512x1_S8x512x128_0_1_2 m) s)

/-- The logits. -/
noncomputable def logitsV (s : FVec Ideal S8x512x128 .f32) (wdec : FVec Ideal S128x8192 .f32) (bdec : FVec Ideal S8192 .f32) : FVec Ideal S8x512x8192 .f32 :=
  addf (Host.dotGeneral dot_S8x512x128_S128x8192_S8x512x8192_2_0_01_1_n_n none s wdec) (broadcastInDim S8x512x8192 ![0, 1, 2] bcast_S1x1x8192_S8x512x8192_0_1_2 (broadcastInDim S1x1x8192 ![2] bcast_S8192_S1x1x8192_2 bdec))

/-- The windows' first rows, loop by loop. -/
noncomputable def stackV (s0 : IVec S8 32) (s1 : IVec S8 32) (s2 : IVec S8 32) (s3 : IVec S8 32) : IVec S8x4 32 :=
  (concatenate S8x4 1 [⟨S8x1, ((broadcastInDim S8x1 ![0] bcast_S8_S8x1_0 s0) : (⟨S8x1, .i32⟩ : BufTy).Contents (Elt Ideal))⟩, ⟨S8x1, ((broadcastInDim S8x1 ![0] bcast_S8_S8x1_0 s1) : (⟨S8x1, .i32⟩ : BufTy).Contents (Elt Ideal))⟩, ⟨S8x1, ((broadcastInDim S8x1 ![0] bcast_S8_S8x1_0 s2) : (⟨S8x1, .i32⟩ : BufTy).Contents (Elt Ideal))⟩, ⟨S8x1, ((broadcastInDim S8x1 ![0] bcast_S8_S8x1_0 s3) : (⟨S8x1, .i32⟩ : BufTy).Contents (Elt Ideal))⟩] concatenates_S8x1_S8x1_S8x1_S8x1_S8x4_d1 : (⟨S8x4, .i32⟩ : BufTy).Contents (Elt Ideal))

/-! ## The steps at a row -/

noncomputable def row (x : FVec Ideal S8x512x128 .f32) (b : Fin 8) (t : Fin 512) : Row 128 := fun k => x (ix3 b t k)

noncomputable def at1 (x : FVec Ideal S8x512x1 .f32) (b : Fin 8) (t : Fin 512) : E := x (ix3 b t 0)

noncomputable def vec {n : ℕ} (x : FVec Ideal ⟨1, ![n]⟩ .f32) : Row n := fun k => x (ix1 k)

noncomputable def mat {n m : ℕ} (x : FVec Ideal ⟨2, ![n, m]⟩ .f32) : Fin n → Fin m → E := fun i k => x (ix2 i k)

theorem cube (v : E) : v * v * v = v * (v * v) := mul_assoc v v v

theorem guard_eq (x y z : E) : Scalar.select (FloatOps.cmpf (F := Ideal) (φ := .f32) .une x x) y z = z := by
  show Scalar.select (BitVec.ofBool (decide (x ≠ x))) y z = z
  simp [Scalar.select]

theorem sub_sitofp (x : E) : x - FloatOps.sitofp (F := Ideal) .f32 0#32 = x := by
  show x - (((0#32).toInt : ℝ) : EReal) = x
  simp

theorem pos_128 : (0 : E) < Ideal.ofBits .f32 1124073472#32 := by
  have e : Ideal.ofBits .f32 1124073472#32 = ((128 : ℝ) : EReal) := by
    simp [Ideal.ofBits, Ideal.ieee, -EReal.coe_mul]; norm_num
  rw [e]
  exact_mod_cast (by norm_num : (0 : ℝ) < 128)

theorem upV_row (x : FVec Ideal S8x512x128 .f32) (w1 : FVec Ideal S128x512 .f32) (b1 : FVec Ideal S512 .f32) (b : Fin 8) (t : Fin 512) (i : Fin 512) :
    upV x w1 b1 (ix3 b t i) = lin (row x b t) (mat w1) (vec b1) i := by
  simp only [row, mat, vec, lin]
  pointwise [upV]

theorem ffV_row (x : FVec Ideal S8x512x128 .f32) (u : FVec Ideal S8x512x512 .f32) (w2 : FVec Ideal S512x128 .f32) (b2 : FVec Ideal S128 .f32) (b : Fin 8) (t : Fin 512) :
    row (ffV x u w2 b2) b t = fun k => row x b t k + lin (fun i => gelu (u (ix3 b t i))) (mat w2) (vec b2) k := by
  funext k
  simp only [row, mat, vec, lin, gelu, ← cube]
  pointwise [ffV]

theorem cenV_row (h : FVec Ideal S8x512x128 .f32) (b : Fin 8) (t : Fin 512) :
    row (cenV h) b t = fun k => row h b t k - mean (row h b t) := by
  funext k
  simp only [row, mean]
  pointwise [cenV]

theorem lnV_row (h : FVec Ideal S8x512x128 .f32) (g be : FVec Ideal S128 .f32) (b : Fin 8) (t : Fin 512) :
    row (lnV h (cenV h) c8V g be) b t = ln (row h b t) (vec g) (vec be) := by
  funext k
  simp only [row, vec, ln, mean, var]
  pointwise [lnV, cenV, c8V]
  simp only [sub_sitofp, if_pos pos_128]

theorem rawV_row (s : FVec Ideal S8x512x128 .f32) (widx : FVec Ideal S128x2 .f32) (bidx : FVec Ideal S2 .f32) (b : Fin 8) (a : Fin 2) :
    rawV s widx bidx (ix2 b a) = lin (row s b 511) (mat widx) (vec bidx) a := by
  simp only [row, mat, vec, lin]
  pointwise [rawV]

theorem muV_row (raw : FVec Ideal S8x2 .f32) (b : Fin 8) : muV raw (ix1 b) = Ideal.logistic (raw (ix2 b 0)) := by
  simp only [Ideal.logistic]
  pointwise [muV]

theorem sigV_row (raw : FVec Ideal S8x2 .f32) (b : Fin 8) :
    sigV (shV (preV raw) nilV) (preV raw) nilV (ix2 b 0) = softplus (raw (ix2 b 1)) + lit 0x3A83126F#32 := by
  simp only [softplus]
  pointwise [sigV, shV, preV, nilV]
  all_goals simp only [guard_eq, ne_eq, not_true_eq_false, if_false, sub_zero, zero_sub]
  all_goals rfl

theorem startV_row (mu : FVec Ideal S8 .f32) (b : Fin 8) :
    startV mu (ix1 b) = IntOp.minsi 999936#32 (IntOp.maxsi 0#32 (Ideal.fptosi 32 (Ideal.liftRound Int.floor (mu (ix1 b) * lit 0x49742000#32)))) := by
  pointwise [startV]
  all_goals rfl

theorem posV_row (st : IVec S8 32) (b : Fin 8) (j : Fin 64) : posV st iotaV (ix2 b j) = st (ix1 b) + BitVec.ofNat 32 j.val := by
  pointwise [posV, iotaV]
  all_goals rfl

theorem distV_row (pos : IVec S8x64 32) (mu : FVec Ideal S8 .f32) (b : Fin 8) (j : Fin 64) :
    distV pos mu (ix2 b j) = Ideal.div ((((pos (ix2 b j)).toInt : ℝ)) : EReal) (lit 0x49742400#32) - mu (ix1 b) := by
  pointwise [distV]
  all_goals rfl

theorem wlV_row (dist : FVec Ideal S8x64 .f32) (sig : FVec Ideal S8x1 .f32) (b : Fin 8) (j : Fin 64) :
    wlV dist sig (ix2 b j) = Ideal.div (-(dist (ix2 b j) * dist (ix2 b j))) (lit 0x40000000#32 * (sig (ix2 b 0) * sig (ix2 b 0))) := by
  pointwise [wlV]

theorem wV_row (wl : FVec Ideal S8x64 .f32) (b : Fin 8) (j : Fin 64) :
    wV (weV wl) (ix2 b j) = Ideal.div (Ideal.exp (wl (ix2 b j) - max (lit 0xFF800000#32) (Finset.univ.fold max (lit 0xFF800000#32) fun i => wl (ix2 b i))))
      (∑ i, Ideal.exp (wl (ix2 b i) - max (lit 0xFF800000#32) (Finset.univ.fold max (lit 0xFF800000#32) fun i => wl (ix2 b i)))) := by
  pointwise [wV, weV]

theorem gotV_row (w : FVec Ideal S8x64 .f32) (took : FVec Ideal S8x64x128 .f32) (b : Fin 8) (k : Fin 128) :
    gotV w took (ix2 b k) = ∑ j : Fin 64, w (ix2 b j) * took (ix3 b j k) := by
  pointwise [gotV]

theorem combV_row (s : FVec Ideal S8x512x128 .f32) (got : FVec Ideal S8x128 .f32) (wi1 : FVec Ideal S256x128 .f32) (bi1 : FVec Ideal S128 .f32) (b : Fin 8) (t : Fin 512) :
    row (combV s got wi1 bi1) b t = lin2 (row s b t) (fun k => got (ix2 b k)) (mat wi1) (vec bi1) := by
  funext k
  simp only [row, mat, vec, lin2]
  pointwise [combV]

theorem hV_row (comb : FVec Ideal S8x512x128 .f32) (wi2 : FVec Ideal S128x128 .f32) (bi2 : FVec Ideal S128 .f32) (b : Fin 8) (t : Fin 512) :
    row (hV comb wi2 bi2) b t = lin (fun i => gelu (row comb b t i)) (mat wi2) (vec bi2) := by
  funext k
  simp only [row, mat, vec, lin, gelu, ← cube]
  pointwise [hV]

theorem candV_row (s h : FVec Ideal S8x512x128 .f32) (g be : FVec Ideal S128 .f32) (b : Fin 8) (t : Fin 512) :
    row (candV s h (cenV h) c8V g be) b t = fun k => row s b t k + ln (row h b t) (vec g) (vec be) k := by
  funext k
  have e : row (candV s h (cenV h) c8V g be) b t k = row s b t k + row (lnV h (cenV h) c8V g be) b t k := rfl
  rw [e, lnV_row]

theorem pV_row (p : FVec Ideal S8x512x1 .f32) (cand : FVec Ideal S8x512x128 .f32) (wh : FVec Ideal S128x1 .f32) (bh : FVec Ideal S1 .f32) (m : FVec Ideal S8x512x1 .f32) (b : Fin 8) (t : Fin 512) :
    at1 (pV p cand wh bh m) b t = at1 p b t + Ideal.logistic ((∑ k, row cand b t k * mat wh k 0) + bh (ix1 0)) * (1 - at1 m b t) := by
  simp only [row, mat, at1, Ideal.logistic]
  pointwise [pV]

theorem mV_row (p m : FVec Ideal S8x512x1 .f32) (b : Fin 8) (t : Fin 512) :
    at1 (mV p m) b t = Scalar.select (FloatOps.cmpf (F := Ideal) (φ := .f32) .oge (at1 p b t) (lit 0x3F7D70A4#32)) 1 (at1 m b t) := by
  simp only [at1]
  pointwise [mV]
  have e : (id (constant (F := Ideal) S_ .f32 1065353216#32) ix0 : E) = 1 := Ideal.ofBits_one_f32
  rw [e]

theorem sV_row (m : FVec Ideal S8x512x1 .f32) (cand s : FVec Ideal S8x512x128 .f32) (b : Fin 8) (t : Fin 512) :
    row (sV m cand s) b t = sNext (at1 m b t) (row cand b t) (row s b t) := by
  funext k
  simp only [row, at1, sNext]
  pointwise [sV]

theorem zeroV_row (b : Fin 8) (t : Fin 512) : at1 zeroV b t = 0 := by
  simp only [at1]
  pointwise [zeroV]

theorem logitsV_row (s : FVec Ideal S8x512x128 .f32) (wdec : FVec Ideal S128x8192 .f32) (bdec : FVec Ideal S8192 .f32) (b : Fin 8) (t : Fin 512) (n : Fin 8192) :
    logitsV s wdec bdec (ix3 b t n) = lin (row s b t) (mat wdec) (vec bdec) n := by
  simp only [row, mat, vec, lin]
  pointwise [logitsV]

theorem stackV_row (s0 s1 s2 s3 : IVec S8 32) (b : Fin 8) :
    stackV s0 s1 s2 s3 (ix2 b 0) = s0 (ix1 b) ∧ stackV s0 s1 s2 s3 (ix2 b 1) = s1 (ix1 b) ∧ stackV s0 s1 s2 s3 (ix2 b 2) = s2 (ix1 b) ∧ stackV s0 s1 s2 s3 (ix2 b 3) = s3 (ix1 b) := by
  refine ⟨?_, ?_, ?_, ?_⟩ <;> pointwise [stackV]

theorem embV_row (ids : IVec S8x512 32) (tab : FVec Ideal S8192x128 .f32) (b : Fin 8) (t : Fin 512) (hb : (ids (ix2 b t)).toNat < 8192) :
    row (embV ids tab) b t = fun k => tab (ix2 ⟨(ids (ix2 b t)).toNat % 8192, Nat.mod_lt _ (by norm_num)⟩ k) := by
  funext k
  unfold row embV
  obtain ⟨I, eI⟩ : ∃ I : IVec S8x512x1 32, (broadcastInDim S8x512x1 ![0, 1] bcast_S8x512_S8x512x1_0_1 (select (cmpi .slt ids (broadcastInDim S8x512 ![] bcast_S_S8x512 (constantI S_ 32 0#32))) (addi ids (broadcastInDim S8x512 ![] bcast_S_S8x512 (constantI S_ 32 8192#32))) ids)) = I := ⟨_, rfl⟩
  have hI : I (ix3 b t 0) = ids (ix2 b t) := by
    rw [← eI]
    refine Eq.trans ?_ (Rows.wrap_eq _ 8192#32 (lt_trans hb (by norm_num)))
    pointwise
  rw [eI]
  have G := Rows.gather_rows (by norm_num) gather_S8192x128_S8x512x1_S8x512x128_2_0_n_n_0_2_1128.wf tab I b t k
  rw [← ix3_eq_valueIdx, ← ix3_eq_valueIdx, ← ix2_eq_valueIdx, hI, Rows.rowOf_eq (by norm_num) (by norm_num) _ hb] at G
  exact G

theorem takeV_row (pos : IVec S8x64 32) (pool : FVec Ideal S1000000x128 .f32) (b : Fin 8) (j : Fin 64) (k : Fin 128) (hb : (pos (ix2 b j)).toNat < 1000000) :
    takeV (okV (ixV pos)) (ixV pos) pool (ix3 b j k) = pool (ix2 ⟨(pos (ix2 b j)).toNat % 1000000, Nat.mod_lt _ (by norm_num)⟩ k) := by
  have hI : ixV pos (ix3 b j 0) = pos (ix2 b j) := by
    refine Eq.trans ?_ (Rows.wrap_eq _ 1000000#32 (lt_trans hb (by norm_num)))
    pointwise [ixV]
  have G := Rows.gather_rows (by norm_num) gather_S1000000x128_S8x64x1_S8x64x128_2_0_n_n_0_2_1128.wf pool (ixV pos) b j k
  rw [← ix3_eq_valueIdx, ← ix3_eq_valueIdx, ← ix2_eq_valueIdx, hI, Rows.rowOf_eq (by norm_num) (by norm_num) _ hb] at G
  have hok : okV (ixV pos) (ix2 b j) = 1#1 := by
    unfold okV
    pointwise
    rw [Finset.univ_unique, Finset.fold_singleton]
    show IntOp.andi (IntOp.andi (IntOp.cmpi .sge (ixV pos (ix3 b j 0)) 0#32) (IntOp.cmpi .sle (ixV pos (ix3 b j 0)) 999999#32)) 1#1 = 1#1
    rw [hI]
    have h1 : (999999#32).toInt = 999999 := by decide
    have h2 : (0#32).toInt = 0 := by decide
    have h3 : (pos (ix2 b j)).toInt = (pos (ix2 b j)).toNat := by
      rw [BitVec.toInt_eq_toNat_cond, if_pos (by omega)]
    have h4 : IntOp.cmpi .sge (pos (ix2 b j)) 0#32 = 1#1 := by
      simp only [IntOp.cmpi, BitVec.sle, h2, h3]
      rw [decide_eq_true (by omega)]; rfl
    have h5 : IntOp.cmpi .sle (pos (ix2 b j)) 999999#32 = 1#1 := by
      simp only [IntOp.cmpi, BitVec.sle, h1, h3]
      rw [decide_eq_true (by omega)]; rfl
    rw [h4, h5]; rfl
  unfold takeV
  have e : ∀ (c : IVec S8x64 1) (x y : FVec Ideal S8x64x128 .f32), c (ix2 b j) = 1#1 → select (broadcastInDim S8x64x128 ![0, 1] bcast_S8x64_S8x64x128_0_1 c) x y (ix3 b j k) = x (ix3 b j k) := by
    intro c x y h
    pointwise
    rw [h]; rfl
  exact (e _ _ _ hok).trans G

end Cert.Proof.RefOps
-- ==== Proof.RefRows.lean ====
module

public import proofs.«01_k».proof.Proof.RefOps
public import proofs.«01_k».proof.Proof.RecurOps

/-!
The reference's two results, read at one row: the recurrence of `Spec`.
-/

@[expose] public section

set_option maxRecDepth 16384

noncomputable section

namespace Cert.Proof.RefRows

open Cert.ReferenceIdeal Cert.ReferenceIdeal.Gen Cert.ReferenceIdeal.Value
open Idealize.ShloMosaic
open Cert.Proof Cert.Proof.Spec Cert.Proof.RefOps

/-- The weights, from the arguments. -/
noncomputable def wts (w1 : FVec Ideal S128x512 .f32) (b1 : FVec Ideal S512 .f32) (w2 : FVec Ideal S512x128 .f32) (b2 g1 be1 : FVec Ideal S128 .f32)
    (widx : FVec Ideal S128x2 .f32) (bidx : FVec Ideal S2 .f32) (wi1 : FVec Ideal S256x128 .f32) (bi1 : FVec Ideal S128 .f32)
    (wi2 : FVec Ideal S128x128 .f32) (bi2 g2 be2 : FVec Ideal S128 .f32) (wh : FVec Ideal S128x1 .f32) (bh : FVec Ideal S1 .f32) : Wts :=
  ⟨mat w1, vec b1, mat w2, vec b2, vec g1, vec be1, mat widx, vec bidx, mat wi1, vec bi1, mat wi2, vec bi2, vec g2, vec be2,
    fun k => mat wh k 0, bh (ix1 0)⟩

theorem hid_row (W : Wts) (x : FVec Ideal S8x512x128 .f32) (w1 : FVec Ideal S128x512 .f32) (b1 : FVec Ideal S512 .f32) (w2 : FVec Ideal S512x128 .f32)
    (b2 g1 be1 : FVec Ideal S128 .f32) (e1 : W.w1 = mat w1) (e2 : W.b1 = vec b1) (e3 : W.w2 = mat w2) (e4 : W.b2 = vec b2) (e5 : W.g1 = vec g1)
    (e6 : W.be1 = vec be1) (u : FVec Ideal S8x512x512 .f32) (h cen : FVec Ideal S8x512x128 .f32) (c8 : FVec Ideal S_ .f32) (s : FVec Ideal S8x512x128 .f32)
    (eu : u = upV x w1 b1) (eh : h = ffV x u w2 b2) (ec : cen = cenV h) (e8 : c8 = c8V) (es : s = lnV h cen c8 g1 be1) (b : Fin 8) (t : Fin 512) :
    row s b t = hid W (row x b t) := by
  subst eu eh ec e8 es
  rw [lnV_row, ffV_row]
  simp only [upV_row]
  unfold hid ff
  rw [e1, e2, e3, e4, e5, e6]

/-- One loop: the windows' first rows, and the next states. -/
theorem loop_row (W : Wts) (pool : FVec Ideal S1000000x128 .f32)
    (widx : FVec Ideal S128x2 .f32) (bidx : FVec Ideal S2 .f32) (wi1 : FVec Ideal S256x128 .f32) (bi1 : FVec Ideal S128 .f32)
    (wi2 : FVec Ideal S128x128 .f32) (bi2 g2 be2 : FVec Ideal S128 .f32) (wh : FVec Ideal S128x1 .f32) (bh : FVec Ideal S1 .f32)
    (w7 : W.widx = mat widx) (w8 : W.bidx = vec bidx) (w9 : W.wi1 = mat wi1) (w10 : W.bi1 = vec bi1) (w11 : W.wi2 = mat wi2)
    (w12 : W.bi2 = vec bi2) (w13 : W.g2 = vec g2) (w14 : W.be2 = vec be2) (w15 : W.wh = fun k => mat wh k 0) (w16 : W.bh = bh (ix1 0))
    (s : FVec Ideal S8x512x128 .f32) (p m : FVec Ideal S8x512x1 .f32) (q : Fin 8 → Fin 512 → St)
    (hs : ∀ b t, row s b t = (q b t).s) (hp : ∀ b t, at1 p b t = (q b t).p) (hm : ∀ b t, at1 m b t = (q b t).m)
    (raw : FVec Ideal S8x2 .f32) (mu pre sh : FVec Ideal S8 .f32) (z : FVec Ideal S_ .f32) (st : IVec S8 32) (io : IVec S64 32) (pos : IVec S8x64 32)
    (ix : IVec S8x64x1 32) (dist : FVec Ideal S8x64 .f32) (sig : FVec Ideal S8x1 .f32) (wl we : FVec Ideal S8x64 .f32)
    (comb h cen cand : FVec Ideal S8x512x128 .f32) (c8 : FVec Ideal S_ .f32) (p' m' : FVec Ideal S8x512x1 .f32) (s' : FVec Ideal S8x512x128 .f32)
    (e1 : raw = rawV s widx bidx) (e2 : mu = muV raw) (e3 : pre = preV raw) (e4 : z = nilV) (e5 : sh = shV pre z) (e6 : st = startV mu)
    (e7 : io = iotaV) (e8 : pos = posV st io) (e9 : ix = ixV pos) (e10 : dist = distV pos mu) (e11 : sig = sigV sh pre z) (e12 : wl = wlV dist sig)
    (e13 : we = weV wl) (e14 : comb = combV s (gotV (wV we) (takeV (okV ix) ix pool)) wi1 bi1) (e15 : h = hV comb wi2 bi2) (e16 : cen = cenV h)
    (e17 : c8 = c8V) (e18 : cand = candV s h cen c8 g2 be2) (e19 : p' = pV p cand wh bh m) (e20 : m' = mV p' m) (e21 : s' = sV m cand s) :
    (∀ b, st (ix1 b) = start W (q b 511).s) ∧
    (∀ b t, row s' b t = (step W (retr W (mat pool) (q b 511).s) (q b t)).s) ∧
    (∀ b t, at1 p' b t = (step W (retr W (mat pool) (q b 511).s) (q b t)).p) ∧
    (∀ b t, at1 m' b t = (step W (retr W (mat pool) (q b 511).s) (q b t)).m) := by
  have hraw : ∀ b a, raw (ix2 b a) = Spec.raw W (q b 511).s a := fun b a => by
    rw [e1, rawV_row, hs, ← w7, ← w8]; rfl
  have hmu : ∀ b, mu (ix1 b) = Spec.mu W (q b 511).s := fun b => by
    rw [e2, muV_row, hraw]; rfl
  have hsig : ∀ b, sig (ix2 b 0) = sg W (q b 511).s := fun b => by
    rw [e11, e5, e4, e3, sigV_row, hraw]; rfl
  have hst : ∀ b, st (ix1 b) = start W (q b 511).s := fun b => by
    rw [e6, startV_row, hmu]; rfl
  have hpos : ∀ b j, pos (ix2 b j) = start W (q b 511).s + BitVec.ofNat 32 j.val := fun b j => by
    rw [e8, e7, posV_row, hst]
  have hnat : ∀ b (j : Fin 64), (pos (ix2 b j)).toNat = (start W (q b 511).s).toNat + j.val := fun b j => by
    rw [hpos]
    obtain ⟨h0, h1⟩ := RecurOps.start_range W (q b 511).s
    have hj := j.isLt
    have hn : ((start W (q b 511).s).toNat : ℤ) = (start W (q b 511).s).toInt := by
      have := BitVec.toInt_eq_toNat_cond (start W (q b 511).s)
      have hl := (start W (q b 511).s).isLt
      split_ifs at this <;> omega
    rw [BitVec.toNat_add, BitVec.toNat_ofNat]
    omega
  have hlt : ∀ b (j : Fin 64), (pos (ix2 b j)).toNat < 1000000 := fun b j => by
    rw [hnat]
    obtain ⟨h0, h1⟩ := RecurOps.start_range W (q b 511).s
    have hj := j.isLt
    have hn : ((start W (q b 511).s).toNat : ℤ) = (start W (q b 511).s).toInt := by
      have := BitVec.toInt_eq_toNat_cond (start W (q b 511).s)
      have hl := (start W (q b 511).s).isLt
      split_ifs at this <;> omega
    omega
  have hwl : ∀ b j, wl (ix2 b j) = wlog W (q b 511).s j := fun b j => by
    rw [e12, wlV_row, hsig, e10, distV_row, hpos, hmu]; rfl
  have hw : ∀ b j, wV we (ix2 b j) = wgt W (q b 511).s j := fun b j => by
    rw [e13, wV_row]; simp only [hwl]; rfl
  have hgot : ∀ b, (fun k => gotV (wV we) (takeV (okV ix) ix pool) (ix2 b k)) = retr W (mat pool) (q b 511).s := fun b => by
    funext k
    rw [gotV_row]
    unfold retr
    refine Finset.sum_congr rfl fun j _ => ?_
    rw [hw, e9, takeV_row pos pool b j k (hlt b j)]
    refine congrArg (fun v => wgt W (q b 511).s j * v) ?_
    show pool (ix2 _ k) = pool (ix2 _ k)
    exact congrArg (fun i => pool (ix2 i k)) (Fin.ext (congrArg (· % 1000000) (hnat b j)))
  have hcand : ∀ b t, row cand b t = Spec.cand W (q b t).s (retr W (mat pool) (q b 511).s) := fun b t => by
    rw [e18, e16, e17, candV_row, e15, hV_row, e14, combV_row, hs, hgot, ← w9, ← w10, ← w11, ← w12, ← w13, ← w14]; rfl
  have hp' : ∀ b t, at1 p' b t = (step W (retr W (mat pool) (q b 511).s) (q b t)).p := fun b t => by
    rw [e19, pV_row, hp, hm, hcand]
    show _ = pNext W _ _ _
    unfold pNext prob
    rw [w15, w16]
  refine ⟨hst, fun b t => ?_, hp', fun b t => ?_⟩
  · rw [e21, sV_row, hm, hcand, hs]; rfl
  · rw [e20, mV_row, hp', hm]; rfl

/-! ## The reference's named values -/

/-- The weights, from a reference's launch. -/
noncomputable def wtsOf (V0 : Valuation τ sig (Elt Ideal)) : Wts :=
  wts (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg10)) (V0 (Proc.devRef .tc main_arg11)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20))

/-- A token's row of the embedding table. -/
noncomputable def tok (V0 : Valuation τ sig (Elt Ideal)) (b : Fin 8) (t : Fin 512) : Row 128 := row (res_main_v6 V0) b t

noncomputable def pl (V0 : Valuation τ sig (Elt Ideal)) : Fin 1000000 → Row 128 := mat (n := 1000000) (m := 128) (V0 (Proc.devRef .tc main_arg12))

/-- The states of row `t` of sequence `b`, loop by loop. -/
noncomputable def q (V0 : Valuation τ sig (Elt Ideal)) : ℕ → Fin 8 → Fin 512 → St
  | 0 => fun b t => start₀ (wtsOf V0) (tok V0 b t)
  | l + 1 => fun b t => step (wtsOf V0) (retr (wtsOf V0) (pl V0) (q V0 l b 511).s) (q V0 l b t)

theorem q_last (V0 : Valuation τ sig (Elt Ideal)) (b : Fin 8) (l : ℕ) : q V0 l b 511 = lastSt (wtsOf V0) (pl V0) (tok V0 b 511) l := by
  induction l with
  | zero => rfl
  | succ l ih =>
    show step _ (retr _ _ (q V0 l b 511).s) (q V0 l b 511) = step _ _ _
    rw [ih]

theorem state0 (V0 : Valuation τ sig (Elt Ideal)) (b : Fin 8) (t : Fin 512) : row (res_main_v46 V0) b t = (q V0 0 b t).s :=
  hid_row (wtsOf V0) (res_main_v6 V0) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) rfl rfl rfl rfl rfl rfl (res_main_v10 V0) (res_main_v28 V0) (res_main_call0_v5 V0) (res_main_call0_v8 V0) (res_main_v46 V0)
    rfl rfl rfl rfl rfl b t

theorem loop1 (V0 : Valuation τ sig (Elt Ideal)) :
    (∀ b, (res_main_v73 V0) (ix1 b) = start (wtsOf V0) (q V0 0 b 511).s) ∧ (∀ b t, row (res_main_v173 V0) b t = (q V0 1 b t).s) ∧
    (∀ b t, at1 (res_main_v163 V0) b t = (q V0 1 b t).p) ∧ (∀ b t, at1 (res_main_v166 V0) b t = (q V0 1 b t).m) :=
  loop_row (wtsOf V0) (V0 (Proc.devRef .tc main_arg12)) (V0 (Proc.devRef .tc main_arg10)) (V0 (Proc.devRef .tc main_arg11)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20))
    rfl rfl rfl rfl rfl rfl rfl rfl rfl rfl (res_main_v46 V0) zeroV zeroV (q V0 0) (state0 V0) (fun b t => zeroV_row b t) (fun b t => zeroV_row b t)
    (res_main_v55 V0) (res_main_v63 V0) (res_main_v65 V0) (res_main_call1_v3 V0) (res_main_call1_cst V0) (res_main_v73 V0) (res_main_v49 V0) (res_main_v78 V0) (res_main_call3_v5 V0) (res_main_v85 V0) (res_main_v88 V0) (res_main_v93 V0) (res_main_v100 V0) (res_main_v113 V0) (res_main_v130 V0) (res_main_call4_v5 V0) (res_main_v149 V0) (res_main_call4_v8 V0) (res_main_v163 V0) (res_main_v166 V0) (res_main_v173 V0)
    rfl rfl rfl rfl rfl rfl rfl rfl rfl rfl rfl rfl rfl rfl rfl rfl rfl rfl rfl rfl rfl

theorem loop2 (V0 : Valuation τ sig (Elt Ideal)) :
    (∀ b, (res_main_v197 V0) (ix1 b) = start (wtsOf V0) (q V0 1 b 511).s) ∧ (∀ b t, row (res_main_v297 V0) b t = (q V0 2 b t).s) ∧
    (∀ b t, at1 (res_main_v287 V0) b t = (q V0 2 b t).p) ∧ (∀ b t, at1 (res_main_v290 V0) b t = (q V0 2 b t).m) :=
  loop_row (wtsOf V0) (V0 (Proc.devRef .tc main_arg12)) (V0 (Proc.devRef .tc main_arg10)) (V0 (Proc.devRef .tc main_arg11)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20))
    rfl rfl rfl rfl rfl rfl rfl rfl rfl rfl (res_main_v173 V0) (res_main_v163 V0) (res_main_v166 V0) (q V0 1) (fun b t => (loop1 V0).2.1 b t) (fun b t => (loop1 V0).2.2.1 b t) (fun b t => (loop1 V0).2.2.2 b t)
    (res_main_v179 V0) (res_main_v187 V0) (res_main_v189 V0) (res_main_call6_v3 V0) (res_main_call6_cst V0) (res_main_v197 V0) (res_main_v49 V0) (res_main_v202 V0) (res_main_call8_v5 V0) (res_main_v209 V0) (res_main_v212 V0) (res_main_v217 V0) (res_main_v224 V0) (res_main_v237 V0) (res_main_v254 V0) (res_main_call9_v5 V0) (res_main_v273 V0) (res_main_call9_v8 V0) (res_main_v287 V0) (res_main_v290 V0) (res_main_v297 V0)
    rfl rfl rfl rfl rfl rfl rfl rfl rfl rfl rfl rfl rfl rfl rfl rfl rfl rfl rfl rfl rfl

theorem loop3 (V0 : Valuation τ sig (Elt Ideal)) :
    (∀ b, (res_main_v321 V0) (ix1 b) = start (wtsOf V0) (q V0 2 b 511).s) ∧ (∀ b t, row (res_main_v421 V0) b t = (q V0 3 b t).s) ∧
    (∀ b t, at1 (res_main_v411 V0) b t = (q V0 3 b t).p) ∧ (∀ b t, at1 (res_main_v414 V0) b t = (q V0 3 b t).m) :=
  loop_row (wtsOf V0) (V0 (Proc.devRef .tc main_arg12)) (V0 (Proc.devRef .tc main_arg10)) (V0 (Proc.devRef .tc main_arg11)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20))
    rfl rfl rfl rfl rfl rfl rfl rfl rfl rfl (res_main_v297 V0) (res_main_v287 V0) (res_main_v290 V0) (q V0 2) (fun b t => (loop2 V0).2.1 b t) (fun b t => (loop2 V0).2.2.1 b t) (fun b t => (loop2 V0).2.2.2 b t)
    (res_main_v303 V0) (res_main_v311 V0) (res_main_v313 V0) (res_main_call11_v3 V0) (res_main_call11_cst V0) (res_main_v321 V0) (res_main_v49 V0) (res_main_v326 V0) (res_main_call13_v5 V0) (res_main_v333 V0) (res_main_v336 V0) (res_main_v341 V0) (res_main_v348 V0) (res_main_v361 V0) (res_main_v378 V0) (res_main_call14_v5 V0) (res_main_v397 V0) (res_main_call14_v8 V0) (res_main_v411 V0) (res_main_v414 V0) (res_main_v421 V0)
    rfl rfl rfl rfl rfl rfl rfl rfl rfl rfl rfl rfl rfl rfl rfl rfl rfl rfl rfl rfl rfl

theorem loop4 (V0 : Valuation τ sig (Elt Ideal)) :
    (∀ b, (res_main_v445 V0) (ix1 b) = start (wtsOf V0) (q V0 3 b 511).s) ∧ (∀ b t, row (sV (res_main_v414 V0) (res_main_v521 V0) (res_main_v421 V0)) b t = (q V0 4 b t).s) ∧
    (∀ b t, at1 (pV (res_main_v411 V0) (res_main_v521 V0) (V0 (Proc.devRef .tc main_arg19)) (V0 (Proc.devRef .tc main_arg20)) (res_main_v414 V0)) b t = (q V0 4 b t).p) ∧ (∀ b t, at1 (mV (pV (res_main_v411 V0) (res_main_v521 V0) (V0 (Proc.devRef .tc main_arg19)) (V0 (Proc.devRef .tc main_arg20)) (res_main_v414 V0)) (res_main_v414 V0)) b t = (q V0 4 b t).m) :=
  loop_row (wtsOf V0) (V0 (Proc.devRef .tc main_arg12)) (V0 (Proc.devRef .tc main_arg10)) (V0 (Proc.devRef .tc main_arg11)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20))
    rfl rfl rfl rfl rfl rfl rfl rfl rfl rfl (res_main_v421 V0) (res_main_v411 V0) (res_main_v414 V0) (q V0 3) (fun b t => (loop3 V0).2.1 b t) (fun b t => (loop3 V0).2.2.1 b t) (fun b t => (loop3 V0).2.2.2 b t)
    (res_main_v427 V0) (res_main_v435 V0) (res_main_v437 V0) (res_main_call16_v3 V0) (res_main_call16_cst V0) (res_main_v445 V0) (res_main_v49 V0) (res_main_v450 V0) (res_main_call18_v5 V0) (res_main_v457 V0) (res_main_v460 V0) (res_main_v465 V0) (res_main_v472 V0) (res_main_v485 V0) (res_main_v502 V0) (res_main_call19_v5 V0) (res_main_v521 V0) (res_main_call19_v8 V0) (pV (res_main_v411 V0) (res_main_v521 V0) (V0 (Proc.devRef .tc main_arg19)) (V0 (Proc.devRef .tc main_arg20)) (res_main_v414 V0)) (mV (pV (res_main_v411 V0) (res_main_v521 V0) (V0 (Proc.devRef .tc main_arg19)) (V0 (Proc.devRef .tc main_arg20)) (res_main_v414 V0)) (res_main_v414 V0)) (sV (res_main_v414 V0) (res_main_v521 V0) (res_main_v421 V0))
    rfl rfl rfl rfl rfl rfl rfl rfl rfl rfl rfl rfl rfl rfl rfl rfl rfl rfl rfl rfl rfl

/-- The logits at a token. -/
theorem logits_at (V0 : Valuation τ sig (Elt Ideal)) (b : Fin 8) (t : Fin 512) (n : Fin 8192) :
    logitsV (sV (res_main_v414 V0) (res_main_v521 V0) (res_main_v421 V0)) (V0 (Proc.devRef .tc main_arg8)) (V0 (Proc.devRef .tc main_arg9)) (ix3 b t n) =
      lin (finalSt (wtsOf V0) (fun l => retrAt (wtsOf V0) (pl V0) (tok V0 b 511) l.val) (tok V0 b t)).s (mat (V0 (Proc.devRef .tc main_arg8))) (vec (V0 (Proc.devRef .tc main_arg9))) n := by
  rw [logitsV_row, (loop4 V0).2.1 b t]
  refine congrArg (fun s => lin s (mat (V0 (Proc.devRef .tc main_arg8))) (vec (V0 (Proc.devRef .tc main_arg9))) n) ?_
  have e : q V0 4 b t = finalSt (wtsOf V0) (fun l => retr (wtsOf V0) (pl V0) (q V0 l.val b 511).s) (tok V0 b t) := rfl
  rw [e]
  simp only [q_last]
  rfl

/-- The windows' first rows. -/
theorem starts_at (V0 : Valuation τ sig (Elt Ideal)) (b : Fin 8) :
    let o := stackV (res_main_v73 V0) (res_main_v197 V0) (res_main_v321 V0) (res_main_v445 V0)
    let S := fun l => start (wtsOf V0) (lastSt (wtsOf V0) (pl V0) (tok V0 b 511) l).s
    o (ix2 b 0) = S 0 ∧ o (ix2 b 1) = S 1 ∧ o (ix2 b 2) = S 2 ∧ o (ix2 b 3) = S 3 := by
  obtain ⟨h0, h1, h2, h3⟩ := stackV_row (res_main_v73 V0) (res_main_v197 V0) (res_main_v321 V0) (res_main_v445 V0) b
  refine ⟨h0.trans (((loop1 V0).1 b).trans ?_), h1.trans (((loop2 V0).1 b).trans ?_), h2.trans (((loop3 V0).1 b).trans ?_), h3.trans (((loop4 V0).1 b).trans ?_)⟩ <;>
    rw [q_last]

theorem tok_eq (V0 : Valuation τ sig (Elt Ideal)) (b : Fin 8) (t : Fin 512) (ids : IVec S8x512 32) (hi : ids = (V0 (Proc.devRef .tc main_arg0))) (hb : (ids (ix2 b t)).toNat < 8192) :
    tok V0 b t = fun k => (mat (V0 (Proc.devRef .tc main_arg1))) ⟨(ids (ix2 b t)).toNat % 8192, Nat.mod_lt _ (by norm_num)⟩ k := by
  subst hi
  exact embV_row (V0 (Proc.devRef .tc main_arg0)) (V0 (Proc.devRef .tc main_arg1)) b t hb

end Cert.Proof.RefRows
-- ==== Proof.KValue.lean ====
module

public import proofs.«01_k».proof.Proof.Arrays
public import proofs.«01_k».proof.Proof.RecurRows
public import proofs.«01_k».proof.Proof.DecodeRows
public import proofs.«01_k».proof.Proof.RefRows
public import Idealize.ShloMosaic.Lib.Pointwise.IndexBridge

/-!
The kernel's two results, at the extended reals, in terms of the arguments: the recurrence of `Spec`.
-/

@[expose] public section

set_option maxRecDepth 16384

noncomputable section

namespace Cert.Proof.KValue

open Cert.KernelIdeal Cert.KernelIdeal.Gen
open Idealize.ShloMosaic
open Cert.Proof Cert.Proof.Spec
open Cert.Proof.RefOps (mat vec)

variable (m : (ℓ : Loc nD τ sig) → Buf (Elt Ideal) ℓ) (d : Dev nD)

/-- The kernel's arguments, and the weights from them. -/
abbrev tab : FVec Ideal S8192x128 .f32 := m (d, Proc.devRef .tc main_arg1)
abbrev pool : FVec Ideal S1000000x128 .f32 := m (d, Proc.devRef .tc main_arg12)
abbrev idx : IVec S8x512 32 := m (d, Proc.devRef .tc main_arg0)
abbrev wdec : FVec Ideal S128x8192 .f32 := m (d, Proc.devRef .tc main_arg8)
abbrev bdec : FVec Ideal S8192 .f32 := m (d, Proc.devRef .tc main_arg9)

def KW : Wts :=
  RefRows.wts (m (d, Proc.devRef .tc main_arg2)) (m (d, Proc.devRef .tc main_arg3)) (m (d, Proc.devRef .tc main_arg4)) (m (d, Proc.devRef .tc main_arg5)) (m (d, Proc.devRef .tc main_arg6)) (m (d, Proc.devRef .tc main_arg7)) (m (d, Proc.devRef .tc main_arg10)) (m (d, Proc.devRef .tc main_arg11)) (m (d, Proc.devRef .tc main_arg13)) (m (d, Proc.devRef .tc main_arg14)) (m (d, Proc.devRef .tc main_arg15)) (m (d, Proc.devRef .tc main_arg16)) (m (d, Proc.devRef .tc main_arg17)) (m (d, Proc.devRef .tc main_arg18)) (m (d, Proc.devRef .tc main_arg19)) (m (d, Proc.devRef .tc main_arg20))

def Q : Fin 1000000 → Row 128 := mat (n := 1000000) (m := 128) (pool m d)

/-- The row of the table a token's id names. -/
def X (b : Fin 8) (t : Fin 512) : Row 128 := fun k =>
  mat (n := 8192) (m := 128) (tab m d) ⟨(idx m d (ix2 b t)).toNat % 8192, Nat.mod_lt _ (by norm_num)⟩ k

theorem cast_row {n : ℕ} (a : FVec Ideal ⟨1, ![n]⟩ .f32) (h : (⟨1, ![n]⟩ : Shape).ShapeCasts ⟨2, ![1, n]⟩) (k : Fin n) :
    shapeCast ⟨2, ![1, n]⟩ a h (ix2 (0 : Fin 1) k) = a (ix1 k) :=
  shapeCast_apply a h _ _ (by
    rw [Shape.rowMajor_val_two, Shape.rowMajor_val_one]
    show k.val = 0 * n + k.val
    omega)

theorem mk_congr {w1 w1' : Fin 128 → Fin 512 → E} {b1 b1' : Row 512} {w2 w2' : Fin 512 → Fin 128 → E} {b2 b2' : Row 128} {g1 g1' : Row 128} {be1 be1' : Row 128} {widx widx' : Fin 128 → Fin 2 → E} {bidx bidx' : Row 2} {wi1 wi1' : Fin 256 → Fin 128 → E} {bi1 bi1' : Row 128} {wi2 wi2' : Fin 128 → Fin 128 → E} {bi2 bi2' : Row 128} {g2 g2' : Row 128} {be2 be2' : Row 128} {wh wh' : Row 128} {bh bh' : E}
    (hw1 : w1 = w1') (hb1 : b1 = b1') (hw2 : w2 = w2') (hb2 : b2 = b2') (hg1 : g1 = g1') (hbe1 : be1 = be1') (hwidx : widx = widx') (hbidx : bidx = bidx') (hwi1 : wi1 = wi1') (hbi1 : bi1 = bi1') (hwi2 : wi2 = wi2') (hbi2 : bi2 = bi2') (hg2 : g2 = g2') (hbe2 : be2 = be2') (hwh : wh = wh') (hbh : bh = bh') :
    (⟨w1, b1, w2, b2, g1, be1, widx, bidx, wi1, bi1, wi2, bi2, g2, be2, wh, bh⟩ : Wts) = ⟨w1', b1', w2', b2', g1', be1', widx', bidx', wi1', bi1', wi2', bi2', g2', be2', wh', bh'⟩ := by
  subst hw1 hb1 hw2 hb2 hg1 hbe1 hwidx hbidx hwi1 hbi1 hwi2 hbi2 hg2 hbe2 hwh hbh
  rfl

theorem wts_rec (t : Fin cfg1.N) : RecurRows.wts (Recur.stg1 (Run.V₃ m) d t) (Recur.stg2 (Run.V₃ m) d t) (Recur.stg3 (Run.V₃ m) d t) (Recur.stg4 (Run.V₃ m) d t) (Recur.stg5 (Run.V₃ m) d t) (Recur.stg6 (Run.V₃ m) d t) (Recur.stg7 (Run.V₃ m) d t) (Recur.stg8 (Run.V₃ m) d t) (Recur.stg9 (Run.V₃ m) d t) (Recur.stg10 (Run.V₃ m) d t) (Recur.stg11 (Run.V₃ m) d t) (Recur.stg12 (Run.V₃ m) d t) (Recur.stg13 (Run.V₃ m) d t) (Recur.stg14 (Run.V₃ m) d t) (Recur.stg15 (Run.V₃ m) d t) (Recur.stg16 (Run.V₃ m) d t) = KW m d :=
  mk_congr
    (by rw [Blocks.rec_1, Arrays.arg3 m d main_arg2 (by decide)]; rfl)
    (by rw [Blocks.rec_2, Arrays.v2]; exact funext fun k => cast_row _ _ k)
    (by rw [Blocks.rec_3, Arrays.arg3 m d main_arg4 (by decide)]; rfl)
    (by rw [Blocks.rec_4, Arrays.v3]; exact funext fun k => cast_row _ _ k)
    (by rw [Blocks.rec_5, Arrays.v4]; exact funext fun k => cast_row _ _ k)
    (by rw [Blocks.rec_6, Arrays.v5]; exact funext fun k => cast_row _ _ k)
    (by rw [Blocks.rec_7, Arrays.arg3 m d main_arg10 (by decide)]; rfl)
    (by rw [Blocks.rec_8, Arrays.v6]; exact funext fun k => cast_row _ _ k)
    (by rw [Blocks.rec_9, Arrays.arg3 m d main_arg13 (by decide)]; rfl)
    (by rw [Blocks.rec_10, Arrays.v7]; exact funext fun k => cast_row _ _ k)
    (by rw [Blocks.rec_11, Arrays.arg3 m d main_arg15 (by decide)]; rfl)
    (by rw [Blocks.rec_12, Arrays.v8]; exact funext fun k => cast_row _ _ k)
    (by rw [Blocks.rec_13, Arrays.v9]; exact funext fun k => cast_row _ _ k)
    (by rw [Blocks.rec_14, Arrays.v10]; exact funext fun k => cast_row _ _ k)
    (by rw [Blocks.rec_15, Arrays.arg3 m d main_arg19 (by decide)]; rfl)
    (by rw [Blocks.rec_16, Arrays.v11]; exact cast_row (n := 1) _ _ 0)

theorem wts_dec (t : Fin cfg2.N) : DecodeRows.wts (Decode.stg1 (Run.V₅ m) d t) (Decode.stg2 (Run.V₅ m) d t) (Decode.stg3 (Run.V₅ m) d t) (Decode.stg4 (Run.V₅ m) d t) (Decode.stg5 (Run.V₅ m) d t) (Decode.stg6 (Run.V₅ m) d t) (Decode.stg8 (Run.V₅ m) d t) (Decode.stg9 (Run.V₅ m) d t) (Decode.stg10 (Run.V₅ m) d t) (Decode.stg11 (Run.V₅ m) d t) (Decode.stg12 (Run.V₅ m) d t) (Decode.stg13 (Run.V₅ m) d t) (Decode.stg14 (Run.V₅ m) d t) (Decode.stg15 (Run.V₅ m) d t)
    (mat (n := 128) (m := 2) (m (d, Proc.devRef .tc main_arg10))) (vec (n := 2) (m (d, Proc.devRef .tc main_arg11))) = KW m d :=
  mk_congr
    (by rw [Blocks.dec_1, Arrays.arg5 m d main_arg2 (by decide)]; rfl)
    (by rw [Blocks.dec_2, Arrays.v14]; exact funext fun k => cast_row _ _ k)
    (by rw [Blocks.dec_3, Arrays.arg5 m d main_arg4 (by decide)]; rfl)
    (by rw [Blocks.dec_4, Arrays.v15]; exact funext fun k => cast_row _ _ k)
    (by rw [Blocks.dec_5, Arrays.v16]; exact funext fun k => cast_row _ _ k)
    (by rw [Blocks.dec_6, Arrays.v17]; exact funext fun k => cast_row _ _ k)
    rfl
    rfl
    (by rw [Blocks.dec_8, Arrays.arg5 m d main_arg13 (by decide)]; rfl)
    (by rw [Blocks.dec_9, Arrays.v18]; exact funext fun k => cast_row _ _ k)
    (by rw [Blocks.dec_10, Arrays.arg5 m d main_arg15 (by decide)]; rfl)
    (by rw [Blocks.dec_11, Arrays.v19]; exact funext fun k => cast_row _ _ k)
    (by rw [Blocks.dec_12, Arrays.v20]; exact funext fun k => cast_row _ _ k)
    (by rw [Blocks.dec_13, Arrays.v21]; exact funext fun k => cast_row _ _ k)
    (by rw [Blocks.dec_14, Arrays.arg5 m d main_arg19 (by decide)]; rfl)
    (by rw [Blocks.dec_15, Arrays.v22]; exact cast_row (n := 1) _ _ 0)

/-- The recurrence's call at sequence `b`: the rows it retrieves and the windows' first rows. -/
theorem rec_row (b : Fin 8) :
    let O := Recur.outAt (Run.V₃ m) d Blocks.pt
    (∀ (l : Fin 4) (k : Fin 128), O.1 (ix3 b l k) = retrAt (KW m d) (Q m d) (X m d b 511) l.val k)
      ∧ O.2 (ix2 b 0) = start (KW m d) (lastSt (KW m d) (Q m d) (X m d b 511) 0).s
      ∧ O.2 (ix2 b 1) = start (KW m d) (lastSt (KW m d) (Q m d) (X m d b 511) 1).s
      ∧ O.2 (ix2 b 2) = start (KW m d) (lastSt (KW m d) (Q m d) (X m d b 511) 2).s
      ∧ O.2 (ix2 b 3) = start (KW m d) (lastSt (KW m d) (Q m d) (X m d b 511) 3).s := by
  have P := RecurRows.recOut_row (Recur.stg0 (Run.V₃ m) d Blocks.pt) (Recur.stg1 (Run.V₃ m) d Blocks.pt) (Recur.stg2 (Run.V₃ m) d Blocks.pt) (Recur.stg3 (Run.V₃ m) d Blocks.pt) (Recur.stg4 (Run.V₃ m) d Blocks.pt) (Recur.stg5 (Run.V₃ m) d Blocks.pt) (Recur.stg6 (Run.V₃ m) d Blocks.pt) (Recur.stg7 (Run.V₃ m) d Blocks.pt) (Recur.stg8 (Run.V₃ m) d Blocks.pt) (Recur.stg9 (Run.V₃ m) d Blocks.pt) (Recur.stg10 (Run.V₃ m) d Blocks.pt) (Recur.stg11 (Run.V₃ m) d Blocks.pt) (Recur.stg12 (Run.V₃ m) d Blocks.pt) (Recur.stg13 (Run.V₃ m) d Blocks.pt) (Recur.stg14 (Run.V₃ m) d Blocks.pt) (Recur.stg15 (Run.V₃ m) d Blocks.pt) (Recur.stg16 (Run.V₃ m) d Blocks.pt) (Recur.embOf (Run.V₃ m) d) (Recur.poolOf (Run.V₃ m) d) b
  simp only [wts_rec] at P
  have e0 : Recur.embOf (Run.V₃ m) d = m (d, Proc.devRef .tc main_arg1) := Arrays.arg3 m d main_arg1 (by decide)
  have e1 : Recur.poolOf (Run.V₃ m) d = m (d, Proc.devRef .tc main_arg12) := Arrays.arg3 m d main_arg12 (by decide)
  have e2 : Recur.stg0 (Run.V₃ m) d Blocks.pt = m (d, Proc.devRef .tc main_arg0) := (Blocks.rec_0 (Run.V₃ m) d Blocks.pt).trans (Arrays.arg3 m d main_arg0 (by decide))
  have eQ : (fun a k => (show FVec Ideal S1000000x128 .f32 from Recur.poolOf (Run.V₃ m) d) (ix2 a k)) = Q m d := by
    rw [e1]; rfl
  have eX : (fun k => (show FVec Ideal S8192x128 .f32 from Recur.embOf (Run.V₃ m) d) (ix2 ⟨((show IVec S8x512 32 from Recur.stg0 (Run.V₃ m) d Blocks.pt) (ix2 b 511)).toNat % 8192, Nat.mod_lt _ (by norm_num)⟩ k)) = X m d b 511 := by
    rw [e0, e2]; rfl
  obtain ⟨P1, P2⟩ := P
  refine ⟨fun l k => ?_, ?_⟩
  · rw [← eQ, ← eX]
    match l with
    | ⟨0, _⟩ => exact (P1 k).1
    | ⟨1, _⟩ => exact (P1 k).2.1
    | ⟨2, _⟩ => exact (P1 k).2.2.1
    | ⟨3, _⟩ => exact (P1 k).2.2.2
  · rw [← eQ, ← eX]
    exact P2

theorem row_lt (b : Fin 8) (t : Fin 512) : b.val * 512 + t.val < 4096 := by omega

/-- The SparseCore's row for token (b, t) is the row its id names. -/
theorem gathered_row (b : Fin 8) (t : Fin 512) (k : Fin 128) :
    shapeCast S8x512x128 (Gather.G (Run.fi m) (Run.fx m) d) shapeCasts_S4096x128_S8x512x128 (ix3 b t k) = X m d b t k := by
  rw [shapeCast_apply (Gather.G (Run.fi m) (Run.fx m) d) shapeCasts_S4096x128_S8x512x128 (ix3 b t k) (ix2 (⟨b.val * 512 + t.val, row_lt b t⟩ : Fin 4096) k) (by
    change (S4096x128.rowMajor _).val = _
    rw [Shape.rowMajor_val_two, Shape.rowMajor_val_three]; rfl)]
  have e : (Run.ids m d (ValueIdx.ix1 (⟨b.val * 512 + t.val, row_lt b t⟩ : Fin 4096))) = idx m d (ix2 b t) :=
    shapeCast_apply (idx m d) shapeCasts_S8x512_S4096 _ (ix2 b t) (by
      rw [Shape.rowMajor_val_two, Shape.rowMajor_val_one]; rfl)
  show tab m d (ValueIdx.ix2 _ _) = tab m d (ix2 _ k)
  rw [ix2_eq_valueIdx]
  exact congrArg (fun i => tab m d (ValueIdx.ix2 i k)) (Fin.ext (congrArg (fun v : BitVec 32 => v.toNat % 8192) e))

theorem pay1_row (w : FVec Ideal S128x8192 .f32) (i : Fin 128) (k : Fin 8192) :
    (show E from k2_pay1 (F := Ideal) w (ix2 i k)) = w (ix2 i k) := by
  pointwise [k2_pay1]

/-- The logits at a token. -/
theorem logits_at (b : Fin 8) (t : Fin 512) (n : Fin 8192) :
    (show FVec Ideal S8x512x8192 .f32 from Run.V₇ m d (Proc.devRef .tc main_v24)) (ix3 b t n) =
      lin (finalSt (KW m d) (fun l => retrAt (KW m d) (Q m d) (X m d b 511) l.val) (X m d b t)).s (mat (n := 128) (m := 8192) (wdec m d)) (vec (n := 8192) (bdec m d)) n := by
  rw [Arrays.v24]
  have hb : b.val < cfg2.N := b.isLt
  have e : Blocks.logits (Run.V₅ m) d (ix3 b t n) = Decode.logitsAt (Run.V₅ m) d (⟨b.val, hb⟩ : Fin cfg2.N) (ix3 (0 : Fin 1) t n) := by
    rw [ix3_eq_valueIdx (0 : Fin 1)]; rfl
  refine e.trans ?_
  refine (DecodeRows.decOut_row (Decode.stg0 (Run.V₅ m) d _) (Decode.stg1 (Run.V₅ m) d _) (Decode.stg2 (Run.V₅ m) d _) (Decode.stg3 (Run.V₅ m) d _) (Decode.stg4 (Run.V₅ m) d _) (Decode.stg5 (Run.V₅ m) d _) (Decode.stg6 (Run.V₅ m) d _) (Decode.stg7 (Run.V₅ m) d _) (Decode.stg8 (Run.V₅ m) d _) (Decode.stg9 (Run.V₅ m) d _) (Decode.stg10 (Run.V₅ m) d _) (Decode.stg11 (Run.V₅ m) d _) (Decode.stg12 (Run.V₅ m) d _) (Decode.stg13 (Run.V₅ m) d _) (Decode.stg14 (Run.V₅ m) d _) (Decode.stg15 (Run.V₅ m) d _) (Decode.wdec (Run.V₅ m) d) (Decode.stg17 (Run.V₅ m) d _)
    (mat (n := 128) (m := 2) (m (d, Proc.devRef .tc main_arg10))) (vec (n := 2) (m (d, Proc.devRef .tc main_arg11))) t n).trans ?_
  rw [wts_dec]
  have e0 : (fun k => Decode.stg0 (Run.V₅ m) d (⟨b.val, hb⟩ : Fin cfg2.N) (ix3 (0 : Fin 1) t k)) = X m d b t := by
    funext k
    rw [ix3_eq_valueIdx]
    refine (Blocks.dec_0 (Run.V₅ m) d ⟨b.val, hb⟩ t k).trans ?_
    rw [Arrays.v13, ← ix3_eq_valueIdx]
    exact gathered_row m d b t k
  have e7 : (fun (l : Fin 4) (k : Fin 128) => Decode.stg7 (Run.V₅ m) d (⟨b.val, hb⟩ : Fin cfg2.N) (ix3 (0 : Fin 1) l k)) = fun l => retrAt (KW m d) (Q m d) (X m d b 511) l.val := by
    funext l k
    rw [ix3_eq_valueIdx]
    refine (Blocks.dec_7 (Run.V₅ m) d ⟨b.val, hb⟩ l k).trans ?_
    rw [Arrays.v12_0, ← ix3_eq_valueIdx]
    exact (rec_row m d b).1 l k
  have e16 : (fun (i : Fin 128) (k : Fin 8192) => Decode.wdec (Run.V₅ m) d (ix2 i k)) = mat (n := 128) (m := 8192) (wdec m d) := by
    have e1 : Decode.stg16 (Run.V₅ m) d t2_0 = m (d, Proc.devRef .tc main_arg8) := (Blocks.dec_16 (Run.V₅ m) d t2_0).trans (Arrays.arg5 m d main_arg8 (by decide))
    funext i k
    show (show E from k2_pay1 (F := Ideal) (Decode.stg16 (Run.V₅ m) d t2_0) (ix2 i k)) = _
    rw [e1]
    exact pay1_row (wdec m d) i k
  have e17 : (fun k => Decode.stg17 (Run.V₅ m) d (⟨b.val, hb⟩ : Fin cfg2.N) (ix2 (0 : Fin 1) k)) = vec (n := 8192) (bdec m d) := by
    rw [Blocks.dec_17, Arrays.v23]
    exact funext fun k => cast_row _ _ k
  rw [e0, e7, e16, e17]

/-- The windows' first rows. -/
theorem starts_at (b : Fin 8) (l : Fin 4) :
    (show IVec S8x4 32 from Run.V₇ m d (Proc.devRef .tc main_v25)) (ix2 b l) = start (KW m d) (lastSt (KW m d) (Q m d) (X m d b 511) l.val).s := by
  rw [Arrays.v25]
  have e : ∀ o : IVec S8x128 32, extractStridedSlice S8x4 ![0, 0] o slices_S8x128_S8x4_0_0 (ix2 b l) = o (ix2 b ⟨l.val, by omega⟩) := by
    intro o
    pointwise
  refine (e _).trans ?_
  obtain ⟨-, h0, h1, h2, h3⟩ := rec_row m d b
  match l with
  | ⟨0, _⟩ => exact h0
  | ⟨1, _⟩ => exact h1
  | ⟨2, _⟩ => exact h2
  | ⟨3, _⟩ => exact h3

end Cert.Proof.KValue
-- ==== Proof.Value.lean ====
/-
  The two programs' results are the same: the kernel's, read off its arrays, and the reference's are the recurrence of
  `Spec` at the same weights, tables and tokens.
-/
module

public import proofs.«01_k».proof.Proof.KValue
public import proofs.«01_k».proof.Proof.Gen.ReferenceIdeal
public import proofs.«01_k».proof.Proof.Gen.Pre_ids_in_vocab
public import Idealize.ShloMosaic.Lib.ReduceAll

@[expose] public section

set_option maxRecDepth 16384

noncomputable section

namespace Cert.Proof.Value

open Cert.KernelIdeal Cert.KernelIdeal.Gen
open Idealize.ShloMosaic
open Cert.Proof Cert.Proof.Spec
open Idealize.ShloMosaic.StableHlo
open Cert.Proof.Gather (Below)
open Cert.Proof.RefOps (mat vec)

section
variable {F : FTy → Type} [FloatOps F]

/-- An id inside [0, 8192), as the precondition tests it. -/
theorem below_of_test (v : BitVec 32) (e : IntOp.andi (IntOp.cmpi .sge v 0#32) (IntOp.cmpi .slt v 8192#32) = 1#1) : v.toNat < 8192 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition, read at one id. -/
theorem below_of_pre (a0 : IVec Cert.Pre_ids_in_vocab.S8x512 32) (a1 : FVec F Cert.Pre_ids_in_vocab.S8192x128 .f32) (a2 : FVec F Cert.Pre_ids_in_vocab.S128x512 .f32) (a3 : FVec F Cert.Pre_ids_in_vocab.S512 .f32) (a4 : FVec F Cert.Pre_ids_in_vocab.S512x128 .f32) (a5 : FVec F Cert.Pre_ids_in_vocab.S128 .f32) (a6 : FVec F Cert.Pre_ids_in_vocab.S128 .f32) (a7 : FVec F Cert.Pre_ids_in_vocab.S128 .f32) (a8 : FVec F Cert.Pre_ids_in_vocab.S128x8192 .f32) (a9 : FVec F Cert.Pre_ids_in_vocab.S8192 .f32) (a10 : FVec F Cert.Pre_ids_in_vocab.S128x2 .f32) (a11 : FVec F Cert.Pre_ids_in_vocab.S2 .f32) (a12 : FVec F Cert.Pre_ids_in_vocab.S1000000x128 .f32) (a13 : FVec F Cert.Pre_ids_in_vocab.S256x128 .f32) (a14 : FVec F Cert.Pre_ids_in_vocab.S128 .f32) (a15 : FVec F Cert.Pre_ids_in_vocab.S128x128 .f32) (a16 : FVec F Cert.Pre_ids_in_vocab.S128 .f32) (a17 : FVec F Cert.Pre_ids_in_vocab.S128 .f32) (a18 : FVec F Cert.Pre_ids_in_vocab.S128 .f32) (a19 : FVec F Cert.Pre_ids_in_vocab.S128x1 .f32) (a20 : FVec F Cert.Pre_ids_in_vocab.S1 .f32)
    (h : Cert.Pre_ids_in_vocab.fn (F := F) a0 a1 a2 a3 a4 a5 a6 a7 a8 a9 a10 a11 a12 a13 a14 a15 a16 a17 a18 a19 a20 = fun _ => 1#1) (j : Cert.Pre_ids_in_vocab.S8x512.Idx) : (a0 j).toNat < 8192 :=
  haveI : Subsingleton Cert.Pre_ids_in_vocab.S_.Idx := ⟨fun a b => funext fun k => k.elim0⟩
  below_of_test _ (Host.reduce_andi_all _ _ _ _ (ValueIdx.ix0) (congrFun h ValueIdx.ix0) j)

/-- The flattened ids are below 8192 when the ids are. -/
theorem below_flat (a0 : IVec S8x512 32) (h : ∀ j, (a0 j).toNat < 8192) (hs : S8x512.ShapeCasts S4096) :
    Below (shapeCast S4096 a0 hs) := fun _ => h _

variable (m : (ℓ : Loc nD τ sig) → Buf (Elt F) ℓ)

/-- The recurrence's copies of a sequence's last row stay inside the table. -/
theorem fit (hb : ∀ (d : Dev nD) (j : S8x512.Idx), ((show IVec S8x512 32 from m (d, Proc.devRef .tc main_arg0)) j).toNat < 8192)
    (c : Dev nD) (t : Fin cfg1.N) (b : Fin 8) : (Recur.wE (Recur.stg0 (Run.V₃ m) c t) b).toNat + 1 ≤ 8192 := by
  have e : Recur.stg0 (Run.V₃ m) c t = m (c, Proc.devRef .tc main_arg0) :=
    (Blocks.rec_0 (Run.V₃ m) c t).trans (Arrays.arg3 m c main_arg0 (by decide))
  rw [e]
  exact hb c _

/-- What the run leaves in the results and in the arguments. -/
theorem at_end {r : PUnit × MemSt nD τ sig (Elt F)} (h : Run.QC m r) (c : Dev nD) :
    r.2.mem ((c.tc : Thread nD τ).loc main_v24) = Run.V₇ m c (Proc.devRef .tc main_v24)
      ∧ r.2.mem ((c.tc : Thread nD τ).loc main_v25) = Run.V₇ m c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  ⟨h.1 c (Proc.devRef .tc main_v24) (by decide),
    h.1 c (Proc.devRef .tc main_v25) (by decide),
    (h.1 c (Proc.devRef .tc main_arg0) (by decide)).trans (Arrays.arg7 m c main_arg0 (by decide)),
    (h.1 c (Proc.devRef .tc main_arg1) (by decide)).trans (Arrays.arg7 m c main_arg1 (by decide)),
    (h.1 c (Proc.devRef .tc main_arg2) (by decide)).trans (Arrays.arg7 m c main_arg2 (by decide)),
    (h.1 c (Proc.devRef .tc main_arg3) (by decide)).trans (Arrays.arg7 m c main_arg3 (by decide)),
    (h.1 c (Proc.devRef .tc main_arg4) (by decide)).trans (Arrays.arg7 m c main_arg4 (by decide)),
    (h.1 c (Proc.devRef .tc main_arg5) (by decide)).trans (Arrays.arg7 m c main_arg5 (by decide)),
    (h.1 c (Proc.devRef .tc main_arg6) (by decide)).trans (Arrays.arg7 m c main_arg6 (by decide)),
    (h.1 c (Proc.devRef .tc main_arg7) (by decide)).trans (Arrays.arg7 m c main_arg7 (by decide)),
    (h.1 c (Proc.devRef .tc main_arg8) (by decide)).trans (Arrays.arg7 m c main_arg8 (by decide)),
    (h.1 c (Proc.devRef .tc main_arg9) (by decide)).trans (Arrays.arg7 m c main_arg9 (by decide)),
    (h.1 c (Proc.devRef .tc main_arg10) (by decide)).trans (Arrays.arg7 m c main_arg10 (by decide)),
    (h.1 c (Proc.devRef .tc main_arg11) (by decide)).trans (Arrays.arg7 m c main_arg11 (by decide)),
    (h.1 c (Proc.devRef .tc main_arg12) (by decide)).trans (Arrays.arg7 m c main_arg12 (by decide)),
    (h.1 c (Proc.devRef .tc main_arg13) (by decide)).trans (Arrays.arg7 m c main_arg13 (by decide)),
    (h.1 c (Proc.devRef .tc main_arg14) (by decide)).trans (Arrays.arg7 m c main_arg14 (by decide)),
    (h.1 c (Proc.devRef .tc main_arg15) (by decide)).trans (Arrays.arg7 m c main_arg15 (by decide)),
    (h.1 c (Proc.devRef .tc main_arg16) (by decide)).trans (Arrays.arg7 m c main_arg16 (by decide)),
    (h.1 c (Proc.devRef .tc main_arg17) (by decide)).trans (Arrays.arg7 m c main_arg17 (by decide)),
    (h.1 c (Proc.devRef .tc main_arg18) (by decide)).trans (Arrays.arg7 m c main_arg18 (by decide)),
    (h.1 c (Proc.devRef .tc main_arg19) (by decide)).trans (Arrays.arg7 m c main_arg19 (by decide)),
    (h.1 c (Proc.devRef .tc main_arg20) (by decide)).trans (Arrays.arg7 m c main_arg20 (by decide))⟩

end

theorem wts_congr {w1 w1' : FVec Ideal Cert.ReferenceIdeal.S128x512 .f32} {b1 b1' : FVec Ideal Cert.ReferenceIdeal.S512 .f32} {w2 w2' : FVec Ideal Cert.ReferenceIdeal.S512x128 .f32} {b2 b2' g1 g1' be1 be1' : FVec Ideal Cert.ReferenceIdeal.S128 .f32} {widx widx' : FVec Ideal Cert.ReferenceIdeal.S128x2 .f32} {bidx bidx' : FVec Ideal Cert.ReferenceIdeal.S2 .f32} {wi1 wi1' : FVec Ideal Cert.ReferenceIdeal.S256x128 .f32} {bi1 bi1' : FVec Ideal Cert.ReferenceIdeal.S128 .f32} {wi2 wi2' : FVec Ideal Cert.ReferenceIdeal.S128x128 .f32} {bi2 bi2' g2 g2' be2 be2' : FVec Ideal Cert.ReferenceIdeal.S128 .f32} {wh wh' : FVec Ideal Cert.ReferenceIdeal.S128x1 .f32} {bh bh' : FVec Ideal Cert.ReferenceIdeal.S1 .f32}
    (hw1 : w1 = w1') (hb1 : b1 = b1') (hw2 : w2 = w2') (hb2 : b2 = b2') (hg1 : g1 = g1') (hbe1 : be1 = be1') (hwidx : widx = widx') (hbidx : bidx = bidx') (hwi1 : wi1 = wi1') (hbi1 : bi1 = bi1') (hwi2 : wi2 = wi2') (hbi2 : bi2 = bi2') (hg2 : g2 = g2') (hbe2 : be2 = be2') (hwh : wh = wh') (hbh : bh = bh') :
    RefRows.wts w1 b1 w2 b2 g1 be1 widx bidx wi1 bi1 wi2 bi2 g2 be2 wh bh = RefRows.wts w1' b1' w2' b2' g1' be1' widx' bidx' wi1' bi1' wi2' bi2' g2' be2' wh' bh' := by
  subst hw1 hb1 hw2 hb2 hg1 hbe1 hwidx hbidx hwi1 hbi1 hwi2 hbi2 hg2 hbe2 hwh hbh
  rfl

variable (m : (ℓ : Loc nD τ sig) → Buf (Elt Ideal) ℓ) (d : Dev nD)
variable (m' : (ℓ : Loc Cert.ReferenceIdeal.nD Cert.ReferenceIdeal.τ Cert.ReferenceIdeal.sig) → Buf (Elt Ideal) ℓ)

/-- Both programs start from the same arguments on device `d`. -/
def Agree : Prop :=
  m' ((d.tc : Thread Cert.ReferenceIdeal.nD Cert.ReferenceIdeal.τ).loc Cert.ReferenceIdeal.main_arg0) = m ((d.tc : Thread nD τ).loc main_arg0)
      ∧ m' ((d.tc : Thread Cert.ReferenceIdeal.nD Cert.ReferenceIdeal.τ).loc Cert.ReferenceIdeal.main_arg1) = m ((d.tc : Thread nD τ).loc main_arg1)
      ∧ m' ((d.tc : Thread Cert.ReferenceIdeal.nD Cert.ReferenceIdeal.τ).loc Cert.ReferenceIdeal.main_arg2) = m ((d.tc : Thread nD τ).loc main_arg2)
      ∧ m' ((d.tc : Thread Cert.ReferenceIdeal.nD Cert.ReferenceIdeal.τ).loc Cert.ReferenceIdeal.main_arg3) = m ((d.tc : Thread nD τ).loc main_arg3)
      ∧ m' ((d.tc : Thread Cert.ReferenceIdeal.nD Cert.ReferenceIdeal.τ).loc Cert.ReferenceIdeal.main_arg4) = m ((d.tc : Thread nD τ).loc main_arg4)
      ∧ m' ((d.tc : Thread Cert.ReferenceIdeal.nD Cert.ReferenceIdeal.τ).loc Cert.ReferenceIdeal.main_arg5) = m ((d.tc : Thread nD τ).loc main_arg5)
      ∧ m' ((d.tc : Thread Cert.ReferenceIdeal.nD Cert.ReferenceIdeal.τ).loc Cert.ReferenceIdeal.main_arg6) = m ((d.tc : Thread nD τ).loc main_arg6)
      ∧ m' ((d.tc : Thread Cert.ReferenceIdeal.nD Cert.ReferenceIdeal.τ).loc Cert.ReferenceIdeal.main_arg7) = m ((d.tc : Thread nD τ).loc main_arg7)
      ∧ m' ((d.tc : Thread Cert.ReferenceIdeal.nD Cert.ReferenceIdeal.τ).loc Cert.ReferenceIdeal.main_arg8) = m ((d.tc : Thread nD τ).loc main_arg8)
      ∧ m' ((d.tc : Thread Cert.ReferenceIdeal.nD Cert.ReferenceIdeal.τ).loc Cert.ReferenceIdeal.main_arg9) = m ((d.tc : Thread nD τ).loc main_arg9)
      ∧ m' ((d.tc : Thread Cert.ReferenceIdeal.nD Cert.ReferenceIdeal.τ).loc Cert.ReferenceIdeal.main_arg10) = m ((d.tc : Thread nD τ).loc main_arg10)
      ∧ m' ((d.tc : Thread Cert.ReferenceIdeal.nD Cert.ReferenceIdeal.τ).loc Cert.ReferenceIdeal.main_arg11) = m ((d.tc : Thread nD τ).loc main_arg11)
      ∧ m' ((d.tc : Thread Cert.ReferenceIdeal.nD Cert.ReferenceIdeal.τ).loc Cert.ReferenceIdeal.main_arg12) = m ((d.tc : Thread nD τ).loc main_arg12)
      ∧ m' ((d.tc : Thread Cert.ReferenceIdeal.nD Cert.ReferenceIdeal.τ).loc Cert.ReferenceIdeal.main_arg13) = m ((d.tc : Thread nD τ).loc main_arg13)
      ∧ m' ((d.tc : Thread Cert.ReferenceIdeal.nD Cert.ReferenceIdeal.τ).loc Cert.ReferenceIdeal.main_arg14) = m ((d.tc : Thread nD τ).loc main_arg14)
      ∧ m' ((d.tc : Thread Cert.ReferenceIdeal.nD Cert.ReferenceIdeal.τ).loc Cert.ReferenceIdeal.main_arg15) = m ((d.tc : Thread nD τ).loc main_arg15)
      ∧ m' ((d.tc : Thread Cert.ReferenceIdeal.nD Cert.ReferenceIdeal.τ).loc Cert.ReferenceIdeal.main_arg16) = m ((d.tc : Thread nD τ).loc main_arg16)
      ∧ m' ((d.tc : Thread Cert.ReferenceIdeal.nD Cert.ReferenceIdeal.τ).loc Cert.ReferenceIdeal.main_arg17) = m ((d.tc : Thread nD τ).loc main_arg17)
      ∧ m' ((d.tc : Thread Cert.ReferenceIdeal.nD Cert.ReferenceIdeal.τ).loc Cert.ReferenceIdeal.main_arg18) = m ((d.tc : Thread nD τ).loc main_arg18)
      ∧ m' ((d.tc : Thread Cert.ReferenceIdeal.nD Cert.ReferenceIdeal.τ).loc Cert.ReferenceIdeal.main_arg19) = m ((d.tc : Thread nD τ).loc main_arg19)
      ∧ m' ((d.tc : Thread Cert.ReferenceIdeal.nD Cert.ReferenceIdeal.τ).loc Cert.ReferenceIdeal.main_arg20) = m ((d.tc : Thread nD τ).loc main_arg20)

variable {m d m'}

theorem wts_eq (h : Agree m d m') : RefRows.wtsOf (launchContents m' d) = KValue.KW m d :=
  wts_congr (h.2.2.1) (h.2.2.2.1) (h.2.2.2.2.1) (h.2.2.2.2.2.1) (h.2.2.2.2.2.2.1) (h.2.2.2.2.2.2.2.1) (h.2.2.2.2.2.2.2.2.2.2.1) (h.2.2.2.2.2.2.2.2.2.2.2.1) (h.2.2.2.2.2.2.2.2.2.2.2.2.2.1) (h.2.2.2.2.2.2.2.2.2.2.2.2.2.2.1) (h.2.2.2.2.2.2.2.2.2.2.2.2.2.2.2.1) (h.2.2.2.2.2.2.2.2.2.2.2.2.2.2.2.2.1) (h.2.2.2.2.2.2.2.2.2.2.2.2.2.2.2.2.2.1) (h.2.2.2.2.2.2.2.2.2.2.2.2.2.2.2.2.2.2.1) (h.2.2.2.2.2.2.2.2.2.2.2.2.2.2.2.2.2.2.2.1) (h.2.2.2.2.2.2.2.2.2.2.2.2.2.2.2.2.2.2.2.2)

theorem pool_congr (p p' : FVec Ideal Cert.ReferenceIdeal.S1000000x128 .f32) (h : p = p') :
    mat (n := 1000000) (m := 128) p = mat (n := 1000000) (m := 128) p' := by rw [h]

theorem pool_eq (h : Agree m d m') : RefRows.pl (launchContents m' d) = KValue.Q m d := pool_congr _ _ (h.2.2.2.2.2.2.2.2.2.2.2.2.1)

theorem tab_congr (p p' : FVec Ideal Cert.ReferenceIdeal.S8192x128 .f32) (h : p = p') (i : Fin 8192) (k : Fin 128) :
    mat (n := 8192) (m := 128) p i k = mat (n := 8192) (m := 128) p' i k := by rw [h]

theorem tok_eq (h : Agree m d m') (hb : ∀ j : S8x512.Idx, ((show IVec S8x512 32 from m (d, Proc.devRef .tc main_arg0)) j).toNat < 8192)
    (b : Fin 8) (t : Fin 512) : RefRows.tok (launchContents m' d) b t = KValue.X m d b t :=
  (RefRows.tok_eq (launchContents m' d) b t (KValue.idx m d) (Eq.symm (h.1)) (hb _)).trans
    (funext fun k => tab_congr _ _ (h.2.1) _ k)

theorem dec_congr (p p' : FVec Ideal Cert.ReferenceIdeal.S128x8192 .f32) (q q' : FVec Ideal Cert.ReferenceIdeal.S8192 .f32) (h : p = p') (h' : q = q') (s : Row 128) (n : Fin 8192) :
    lin s (mat (n := 128) (m := 8192) p) (vec (n := 8192) q) n = lin s (mat (n := 128) (m := 8192) p') (vec (n := 8192) q') n := by rw [h, h']

/-- The logits of both programs. -/
theorem logits_eq (h : Agree m d m') (hb : ∀ j : S8x512.Idx, ((show IVec S8x512 32 from m (d, Proc.devRef .tc main_arg0)) j).toNat < 8192) :
    RefOps.logitsV (RefOps.sV (Cert.ReferenceIdeal.Value.res_main_v414 (launchContents m' d)) (Cert.ReferenceIdeal.Value.res_main_v521 (launchContents m' d)) (Cert.ReferenceIdeal.Value.res_main_v421 (launchContents m' d)))
      (launchContents m' d (Proc.devRef .tc Cert.ReferenceIdeal.main_arg8)) (launchContents m' d (Proc.devRef .tc Cert.ReferenceIdeal.main_arg9)) = Run.V₇ m d (Proc.devRef .tc main_v24) := by
  refine funext fun (i : Cert.ReferenceIdeal.S8x512x8192.Idx) => ?_
  obtain ⟨b, t, n, rfl⟩ : ∃ (b : Fin 8) (t : Fin 512) (n : Fin 8192), i = ix3 b t n := ⟨i 0, i 1, i 2, eq_ix3 i⟩
  refine (RefRows.logits_at (launchContents m' d) b t n).trans ?_
  rw [wts_eq h, pool_eq h, tok_eq h hb, tok_eq h hb]
  exact (dec_congr _ _ _ _ (h.2.2.2.2.2.2.2.2.1) (h.2.2.2.2.2.2.2.2.2.1) _ n).trans (KValue.logits_at m d b t n).symm

/-- The windows' first rows of both programs. -/
theorem starts_eq (h : Agree m d m') (hb : ∀ j : S8x512.Idx, ((show IVec S8x512 32 from m (d, Proc.devRef .tc main_arg0)) j).toNat < 8192) :
    RefOps.stackV (Cert.ReferenceIdeal.Value.res_main_v73 (launchContents m' d)) (Cert.ReferenceIdeal.Value.res_main_v197 (launchContents m' d))
      (Cert.ReferenceIdeal.Value.res_main_v321 (launchContents m' d)) (Cert.ReferenceIdeal.Value.res_main_v445 (launchContents m' d)) = Run.V₇ m d (Proc.devRef .tc main_v25) := by
  refine funext fun (i : Cert.ReferenceIdeal.S8x4.Idx) => ?_
  obtain ⟨b, l, rfl⟩ : ∃ (b : Fin 8) (l : Fin 4), i = ix2 b l := ⟨i 0, i 1, eq_ix2 i⟩
  have P := RefRows.starts_at (launchContents m' d) b
  rw [wts_eq h, pool_eq h, tok_eq h hb] at P
  obtain ⟨h0, h1, h2, h3⟩ := P
  refine Eq.trans ?_ (KValue.starts_at m d b l).symm
  match l with
  | ⟨0, _⟩ => exact h0
  | ⟨1, _⟩ => exact h1
  | ⟨2, _⟩ => exact h2
  | ⟨3, _⟩ => exact h3

end Cert.Proof.Value

end
-- ==== Proof.Same.lean ====
/-
  The kernel as printed for the bit-exact reading and as printed for the ideal one are one program: with no rule applied, the
  two texts differ in their names alone. So what is proved of the second at any reading of the floats holds of the first.
-/
module

public import proofs.«01_k».proof.Proof.Run
public import proofs.«01_k».proof.Proof.Gen.Kernel

@[expose] public section

set_option maxHeartbeats 4000000
set_option maxRecDepth 100000

noncomputable section

namespace Cert.Proof.Same

open Idealize.ShloMosaic Idealize.SL.Sem

/-- The kernels' body tables, label by label. -/
theorem bodies : @Cert.Kernel.defs₀ Bits _ Cert.Kernel.Gen.facts = @Cert.KernelIdeal.defs₀ Bits _ Cert.KernelIdeal.Gen.facts := by
  funext p l a
  match p, l, a with
  | .tc, ⟨0, _⟩, a => rfl
  | .tc, ⟨1, _⟩, (t, s) => rfl
  | .tc, ⟨2, _⟩, (t, s) => rfl
  | .scScalar c, ⟨0, _⟩, a => rfl
  | .scScalar c, ⟨1, _⟩, a => rfl
  | .scScalar c, ⟨2, _⟩, a => rfl
  | .scVector c s, ⟨0, _⟩, a => rfl
  | .scVector c s, ⟨1, _⟩, a => rfl
  | .scVector c s, ⟨2, _⟩, a => rfl

theorem table (d : Defs Cert.Kernel.nD Cert.Kernel.τ Cert.Kernel.sig (Elt Bits) Cert.Kernel.Λ₀) :
    (Cert.Kernel.sc (F := Bits)).defs (Pipeline.defs (Cert.Kernel.pcfgs (F := Bits)) d)
      = (Cert.KernelIdeal.sc (F := Bits)).defs (Pipeline.defs (Cert.KernelIdeal.pcfgs (F := Bits)) d) := rfl

theorem table_congr {d d' : Defs Cert.KernelIdeal.nD Cert.KernelIdeal.τ Cert.KernelIdeal.sig (Elt Bits) Cert.KernelIdeal.Λ₀} (h : d = d') :
    (Cert.KernelIdeal.sc (F := Bits)).defs (Pipeline.defs (Cert.KernelIdeal.pcfgs (F := Bits)) d)
      = (Cert.KernelIdeal.sc (F := Bits)).defs (Pipeline.defs (Cert.KernelIdeal.pcfgs (F := Bits)) d') := by rw [h]

theorem defs_eq : @Cert.Kernel.defs Bits _ Cert.Kernel.Gen.facts = @Cert.KernelIdeal.defs Bits _ Cert.KernelIdeal.Gen.facts :=
  (table (@Cert.Kernel.defs₀ Bits _ Cert.Kernel.Gen.facts)).trans (table_congr bodies)

theorem threads_eq : @Cert.Kernel.threads Bits _ = @Cert.KernelIdeal.threads Bits _ := rfl

end Cert.Proof.Same

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.KernelIdeal.Launch
public import proofs.«01_k».proof.Proof.Gen.KernelIdeal.Points
public import proofs.«01_k».proof.Proof.Run
public import proofs.«01_k».proof.Proof.Value
public import proofs.«01_k».proof.Proof.Same
public import proofs.«01_k».proof.Proof.Gen.Pre_ids_in_vocab
public import Idealize.ShloMosaic.Adequacy
public import Idealize.ShloMosaic.Init

@[expose] public section

noncomputable section

namespace Cert.Proof

open Idealize.ShloMosaic Idealize.SL.Sem

theorem run_congr {nD : ℕ} {τ : Topo} {sig : RefSig} {Val : EltTy → Type} {Λ : Labels} {D D' : Defs nD τ sig Val Λ}
    {p p' : (c : Thread nD τ) → Prog (TpuEff nD τ sig Val Λ c.2) PUnit} {s : MemSt nD τ sig Val} {Q : PUnit × MemSt nD τ sig Val → Prop}
    (hd : D = D') (hp : p = p') (h : θ_run D' p' s Q) : θ_run D p s Q := by
  subst hd hp
  exact h

/-- The run at the bit-exact reading, on the program as printed for it. -/
theorem run_kernel (m : (ℓ : Loc Cert.KernelIdeal.nD Cert.KernelIdeal.τ Cert.KernelIdeal.sig) → Buf (Elt Bits) ℓ) (ρ : Dev Cert.KernelIdeal.nD → PrngReg)
    (Q : PUnit × MemSt Cert.KernelIdeal.nD Cert.KernelIdeal.τ Cert.KernelIdeal.sig (Elt Bits) → Prop)
    (h : θ_run (Cert.KernelIdeal.defs (F := Bits)) (Cert.KernelIdeal.threads (F := Bits)) ⟨m, fun _ => 0, ρ⟩ Q) :
    θ_run (@Cert.Kernel.defs Bits _ Cert.Kernel.Gen.facts) (@Cert.Kernel.threads Bits _) ⟨m, fun _ => 0, ρ⟩ Q :=
  run_congr Same.defs_eq Same.threads_eq h

theorem frame_kernel : Cert.quiescent_Kernel (hKernel := Cert.Kernel.Gen.facts) (hPre_ids_in_vocab := Cert.Pre_ids_in_vocab.Gen.facts) := by
  intro m ρ hp
  have hb := fun d => Value.below_of_pre (F := Bits) _ _ _ _ _ _ _ _ _ _ _ _ _ _ _ _ _ _ _ _ _ (hp d)
  exact run_kernel m ρ _ ((θ_run Cert.KernelIdeal.defs _ _).mono (fun _ h => ⟨fun c => (Value.at_end m h c).2.2, h.2⟩)
    (Run.run_main (F := Bits) m ρ (Value.fit m hb) fun d => Value.below_flat _ (hb d) _))

theorem frame_kernelIdeal : Cert.quiescent_KernelIdeal (hKernelIdeal := Cert.KernelIdeal.Gen.facts) (hPre_ids_in_vocab := Cert.Pre_ids_in_vocab.Gen.facts) := by
  intro m ρ hp
  have hb := fun d => Value.below_of_pre (F := Ideal) _ _ _ _ _ _ _ _ _ _ _ _ _ _ _ _ _ _ _ _ _ (hp d)
  exact (θ_run Cert.KernelIdeal.defs _ _).mono (fun _ h => ⟨fun c => (Value.at_end m h c).2.2, h.2⟩)
    (Run.run_main (F := Ideal) m ρ (Value.fit m hb) fun d => Value.below_flat _ (hb d) _)

theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal (hKernelIdeal := Cert.KernelIdeal.Gen.facts) (hReferenceIdeal := Cert.ReferenceIdeal.Gen.facts)
    (hPre_ids_in_vocab := Cert.Pre_ids_in_vocab.Gen.facts) := by
  intro m ρ m' ρ' hp hagree
  have hb := fun d => Value.below_of_pre (F := Ideal) _ _ _ _ _ _ _ _ _ _ _ _ _ _ _ _ _ _ _ _ _ (hp d)
  refine ⟨fun d => Run.V₇ m d (Proc.devRef .tc Cert.KernelIdeal.main_v24), fun d => Run.V₇ m d (Proc.devRef .tc Cert.KernelIdeal.main_v25),
    (θ_run Cert.KernelIdeal.defs _ _).mono (fun _ h c => Value.at_end m h c)
      (Run.run_main (F := Ideal) m ρ (Value.fit m hb) fun d => Value.below_flat _ (hb d) _), ?_⟩
  exact (θ_run Cert.ReferenceIdeal.defs _ _).mono
    (fun r h c => ⟨(h c).1.trans (Value.logits_eq (hagree c) (hb c)), (h c).2.1.trans (Value.starts_eq (hagree c) (hb c)), (h c).2.2⟩)
    (Cert.ReferenceIdeal.Value.run (F := Ideal) m' ρ')

theorem claim : Cert.Claim := ⟨Cert.Kernel.Gen.facts, Cert.KernelIdeal.Gen.facts, Cert.ReferenceIdeal.Gen.facts, Cert.Pre_ids_in_vocab.Gen.facts,
  frame_kernel, frame_kernelIdeal, frame_reference, fun m ρ _ => frame_reference m ρ trivial, trivial, algebraic⟩

end Cert.Proof

end
